-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7)
      ∧ r.2.mem ((c.tc : Thread Cert.Kernel30.nD Cert.Kernel30.τ).loc Cert.Kernel30.main_arg8) = m ((c.tc : Thread Cert.Kernel30.nD Cert.Kernel30.τ).loc Cert.Kernel30.main_arg8))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
      ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7)
      ∧ r.2.mem ((c.tc : Thread Cert.Reference30Ideal.nD Cert.Reference30Ideal.τ).loc Cert.Reference30Ideal.main_arg8) = m ((c.tc : Thread Cert.Reference30Ideal.nD Cert.Reference30Ideal.τ).loc Cert.Reference30Ideal.main_arg8))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6)
      ∧ r.2.mem ((c.tc : Thread Cert.Kernel31.nD Cert.Kernel31.τ).loc Cert.Kernel31.main_arg7) = m ((c.tc : Thread Cert.Kernel31.nD Cert.Kernel31.τ).loc Cert.Kernel31.main_arg7)
      ∧ r.2.mem ((c.tc : Thread Cert.Kernel31.nD Cert.Kernel31.τ).loc Cert.Kernel31.main_arg8) = m ((c.tc : Thread Cert.Kernel31.nD Cert.Kernel31.τ).loc Cert.Kernel31.main_arg8))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
      ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
      ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7)
      ∧ r.2.mem ((c.tc : Thread Cert.Reference31Ideal.nD Cert.Reference31Ideal.τ).loc Cert.Reference31Ideal.main_arg8) = m ((c.tc : Thread Cert.Reference31Ideal.nD Cert.Reference31Ideal.τ).loc Cert.Reference31Ideal.main_arg8))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6)
      ∧ r.2.mem ((c.tc : Thread Cert.Kernel32.nD Cert.Kernel32.τ).loc Cert.Kernel32.main_arg7) = m ((c.tc : Thread Cert.Kernel32.nD Cert.Kernel32.τ).loc Cert.Kernel32.main_arg7)
      ∧ r.2.mem ((c.tc : Thread Cert.Kernel32.nD Cert.Kernel32.τ).loc Cert.Kernel32.main_arg8) = m ((c.tc : Thread Cert.Kernel32.nD Cert.Kernel32.τ).loc Cert.Kernel32.main_arg8))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
      ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
      ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6)
      ∧ r.2.mem ((c.tc : Thread Cert.Reference32Ideal.nD Cert.Reference32Ideal.τ).loc Cert.Reference32Ideal.main_arg7) = m ((c.tc : Thread Cert.Reference32Ideal.nD Cert.Reference32Ideal.τ).loc Cert.Reference32Ideal.main_arg7)
      ∧ r.2.mem ((c.tc : Thread Cert.Reference32Ideal.nD Cert.Reference32Ideal.τ).loc Cert.Reference32Ideal.main_arg8) = m ((c.tc : Thread Cert.Reference32Ideal.nD Cert.Reference32Ideal.τ).loc Cert.Reference32Ideal.main_arg8))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v57) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_v58) = v2 c
          ∧ r.2.mem ((c.tc : Thread Cert.Reference14Ideal.nD Cert.Reference14Ideal.τ).loc Cert.Reference14Ideal.main_v60) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v42) = v0 c
          ∧ r.2.mem ((c.tc : Thread Cert.Reference15Ideal.nD Cert.Reference15Ideal.τ).loc Cert.Reference15Ideal.main_v43) = v1 c
          ∧ r.2.mem ((c.tc : Thread Cert.Reference15Ideal.nD Cert.Reference15Ideal.τ).loc Cert.Reference15Ideal.main_v45) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v42) = v0 c
          ∧ r.2.mem ((c.tc : Thread Cert.Reference16Ideal.nD Cert.Reference16Ideal.τ).loc Cert.Reference16Ideal.main_v43) = v1 c
          ∧ r.2.mem ((c.tc : Thread Cert.Reference16Ideal.nD Cert.Reference16Ideal.τ).loc Cert.Reference16Ideal.main_v45) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v6) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v60) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)) (v3 : (c : Dev Cert.Kernel29Ideal.nD) → Buf (Elt Ideal) ((c.tc : Thread Cert.Kernel29Ideal.nD Cert.Kernel29Ideal.τ).loc Cert.Kernel29Ideal.main_v1_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_v1_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v38) = v0 c
          ∧ r.2.mem ((c.tc : Thread Cert.Reference29Ideal.nD Cert.Reference29Ideal.τ).loc Cert.Reference29Ideal.main_v41) = v1 c
          ∧ r.2.mem ((c.tc : Thread Cert.Reference29Ideal.nD Cert.Reference29Ideal.τ).loc Cert.Reference29Ideal.main_v44) = v2 c
          ∧ r.2.mem ((c.tc : Thread Cert.Reference29Ideal.nD Cert.Reference29Ideal.τ).loc Cert.Reference29Ideal.main_v47) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)
      ∧ m' ((c.tc : Thread Cert.Reference30Ideal.nD Cert.Reference30Ideal.τ).loc Cert.Reference30Ideal.main_arg8) = m ((c.tc : Thread Cert.Kernel30Ideal.nD Cert.Kernel30Ideal.τ).loc Cert.Kernel30Ideal.main_arg8)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
          ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v38) = v0 c
          ∧ r.2.mem ((c.tc : Thread Cert.Reference30Ideal.nD Cert.Reference30Ideal.τ).loc Cert.Reference30Ideal.main_v41) = v1 c
          ∧ r.2.mem ((c.tc : Thread Cert.Reference30Ideal.nD Cert.Reference30Ideal.τ).loc Cert.Reference30Ideal.main_v44) = v2 c
          ∧ r.2.mem ((c.tc : Thread Cert.Reference30Ideal.nD Cert.Reference30Ideal.τ).loc Cert.Reference30Ideal.main_v47) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7)
          ∧ r.2.mem ((c.tc : Thread Cert.Reference30Ideal.nD Cert.Reference30Ideal.τ).loc Cert.Reference30Ideal.main_arg8) = m' ((c.tc : Thread Cert.Reference30Ideal.nD Cert.Reference30Ideal.τ).loc Cert.Reference30Ideal.main_arg8))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)
      ∧ m' ((c.tc : Thread Cert.Reference31Ideal.nD Cert.Reference31Ideal.τ).loc Cert.Reference31Ideal.main_arg7) = m ((c.tc : Thread Cert.Kernel31Ideal.nD Cert.Kernel31Ideal.τ).loc Cert.Kernel31Ideal.main_arg7)
      ∧ m' ((c.tc : Thread Cert.Reference31Ideal.nD Cert.Reference31Ideal.τ).loc Cert.Reference31Ideal.main_arg8) = m ((c.tc : Thread Cert.Kernel31Ideal.nD Cert.Kernel31Ideal.τ).loc Cert.Kernel31Ideal.main_arg8)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
          ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
          ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v38) = v0 c
          ∧ r.2.mem ((c.tc : Thread Cert.Reference31Ideal.nD Cert.Reference31Ideal.τ).loc Cert.Reference31Ideal.main_v41) = v1 c
          ∧ r.2.mem ((c.tc : Thread Cert.Reference31Ideal.nD Cert.Reference31Ideal.τ).loc Cert.Reference31Ideal.main_v44) = v2 c
          ∧ r.2.mem ((c.tc : Thread Cert.Reference31Ideal.nD Cert.Reference31Ideal.τ).loc Cert.Reference31Ideal.main_v47) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6)
          ∧ r.2.mem ((c.tc : Thread Cert.Reference31Ideal.nD Cert.Reference31Ideal.τ).loc Cert.Reference31Ideal.main_arg7) = m' ((c.tc : Thread Cert.Reference31Ideal.nD Cert.Reference31Ideal.τ).loc Cert.Reference31Ideal.main_arg7)
          ∧ r.2.mem ((c.tc : Thread Cert.Reference31Ideal.nD Cert.Reference31Ideal.τ).loc Cert.Reference31Ideal.main_arg8) = m' ((c.tc : Thread Cert.Reference31Ideal.nD Cert.Reference31Ideal.τ).loc Cert.Reference31Ideal.main_arg8))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)
      ∧ m' ((c.tc : Thread Cert.Reference32Ideal.nD Cert.Reference32Ideal.τ).loc Cert.Reference32Ideal.main_arg7) = m ((c.tc : Thread Cert.Kernel32Ideal.nD Cert.Kernel32Ideal.τ).loc Cert.Kernel32Ideal.main_arg7)
      ∧ m' ((c.tc : Thread Cert.Reference32Ideal.nD Cert.Reference32Ideal.τ).loc Cert.Reference32Ideal.main_arg8) = m ((c.tc : Thread Cert.Kernel32Ideal.nD Cert.Kernel32Ideal.τ).loc Cert.Kernel32Ideal.main_arg8)) →
    ∃ (v0 : (c : Dev Cert.Kernel32Ideal.nD) → Buf (Elt Ideal) ((c.tc : Thread Cert.Kernel32Ideal.nD Cert.Kernel32Ideal.τ).loc Cert.Kernel32Ideal.main_v1_0)) (v1 : (c : Dev Cert.Kernel32Ideal.nD) → Buf (Elt Ideal) ((c.tc : Thread Cert.Kernel32Ideal.nD Cert.Kernel32Ideal.τ).loc Cert.Kernel32Ideal.main_v1_1)) (v2 : (c : Dev Cert.Kernel32Ideal.nD) → Buf (Elt Ideal) ((c.tc : Thread Cert.Kernel32Ideal.nD Cert.Kernel32Ideal.τ).loc Cert.Kernel32Ideal.main_v1_2)) (v3 : (c : Dev Cert.Kernel32Ideal.nD) → Buf (Elt Ideal) ((c.tc : Thread Cert.Kernel32Ideal.nD Cert.Kernel32Ideal.τ).loc Cert.Kernel32Ideal.main_v1_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_v1_2) = v2 c
          ∧ r.2.mem ((c.tc : Thread Cert.Kernel32Ideal.nD Cert.Kernel32Ideal.τ).loc Cert.Kernel32Ideal.main_v1_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
          ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
          ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v38) = v0 c
          ∧ r.2.mem ((c.tc : Thread Cert.Reference32Ideal.nD Cert.Reference32Ideal.τ).loc Cert.Reference32Ideal.main_v41) = v1 c
          ∧ r.2.mem ((c.tc : Thread Cert.Reference32Ideal.nD Cert.Reference32Ideal.τ).loc Cert.Reference32Ideal.main_v44) = v2 c
          ∧ r.2.mem ((c.tc : Thread Cert.Reference32Ideal.nD Cert.Reference32Ideal.τ).loc Cert.Reference32Ideal.main_v47) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6)
          ∧ r.2.mem ((c.tc : Thread Cert.Reference32Ideal.nD Cert.Reference32Ideal.τ).loc Cert.Reference32Ideal.main_arg7) = m' ((c.tc : Thread Cert.Reference32Ideal.nD Cert.Reference32Ideal.τ).loc Cert.Reference32Ideal.main_arg7)
          ∧ r.2.mem ((c.tc : Thread Cert.Reference32Ideal.nD Cert.Reference32Ideal.τ).loc Cert.Reference32Ideal.main_arg8) = m' ((c.tc : Thread Cert.Reference32Ideal.nD Cert.Reference32Ideal.τ).loc Cert.Reference32Ideal.main_arg8))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)) (v2 : (c : Dev Cert.Kernel33Ideal.nD) → Buf (Elt Ideal) ((c.tc : Thread Cert.Kernel33Ideal.nD Cert.Kernel33Ideal.τ).loc Cert.Kernel33Ideal.main_v1_2)) (v3 : (c : Dev Cert.Kernel33Ideal.nD) → Buf (Elt Ideal) ((c.tc : Thread Cert.Kernel33Ideal.nD Cert.Kernel33Ideal.τ).loc Cert.Kernel33Ideal.main_v1_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_v1_2) = v2 c
          ∧ r.2.mem ((c.tc : Thread Cert.Kernel33Ideal.nD Cert.Kernel33Ideal.τ).loc Cert.Kernel33Ideal.main_v1_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v38) = v0 c
          ∧ r.2.mem ((c.tc : Thread Cert.Reference33Ideal.nD Cert.Reference33Ideal.τ).loc Cert.Reference33Ideal.main_v41) = v1 c
          ∧ r.2.mem ((c.tc : Thread Cert.Reference33Ideal.nD Cert.Reference33Ideal.τ).loc Cert.Reference33Ideal.main_v44) = v2 c
          ∧ r.2.mem ((c.tc : Thread Cert.Reference33Ideal.nD Cert.Reference33Ideal.τ).loc Cert.Reference33Ideal.main_v47) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Kernel.lean ====
abbrev S8448x6144 : Shape := ⟨2, ![8448, 6144]⟩
abbrev S8448x2048 : Shape := ⟨2, ![8448, 2048]⟩
abbrev S2x3x2048 : Shape := ⟨3, ![2, 3, 2048]⟩
abbrev S8x2048 : Shape := ⟨2, ![8, 2048]⟩
abbrev S16x2048 : Shape := ⟨2, ![16, 2048]⟩
abbrev S128x2048 : Shape := ⟨2, ![128, 2048]⟩
abbrev S1x3x2048 : Shape := ⟨3, ![1, 3, 2048]⟩
abbrev S128x6144 : Shape := ⟨2, ![128, 6144]⟩
abbrev S160x1 : Shape := ⟨2, ![160, 1]⟩
abbrev S160x2048 : Shape := ⟨2, ![160, 2048]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 5
  | .vmem => 28
  | .smem => 0
  | _ => 0

abbrev bufTy : (tb : Table) → Fin (tcTables nBuf tb) → BufTy
  | .hbm, ⟨0, _⟩ => ⟨S8448x6144, .bf16⟩
  | .hbm, ⟨1, _⟩ => ⟨S8448x2048, .bf16⟩
  | .hbm, ⟨2, _⟩ => ⟨S2x3x2048, .f32⟩
  | .hbm, ⟨3, _⟩ => ⟨S8448x6144, .bf16⟩
  | .hbm, ⟨4, _⟩ => ⟨S8x2048, .f32⟩
  | .local _ .vmem, ⟨0, _⟩ => ⟨S16x2048, .bf16⟩
  | .local _ .vmem, ⟨1, _⟩ => ⟨S16x2048, .bf16⟩
  | .local _ .vmem, ⟨2, _⟩ => ⟨S128x2048, .bf16⟩
  | .local _ .vmem, ⟨3, _⟩ => ⟨S128x2048, .bf16⟩
  | .local _ .vmem, ⟨4, _⟩ => ⟨S16x2048, .bf16⟩
  | .local _ .vmem, ⟨5, _⟩ => ⟨S16x2048, .bf16⟩
  | .local _ .vmem, ⟨6, _⟩ => ⟨S16x2048, .bf16⟩
  | .local _ .vmem, ⟨7, _⟩ => ⟨S16x2048, .bf16⟩
  | .local _ .vmem, ⟨8, _⟩ => ⟨S128x2048, .bf16⟩
  | .local _ .vmem, ⟨9, _⟩ => ⟨S128x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S128x2048, .bf16⟩
  | .local _ .vmem, ⟨15, _⟩ => ⟨S128x2048, .bf16⟩
  | .local _ .vmem, ⟨16, _⟩ => ⟨S16x2048, .bf16⟩
  | .local _ .vmem, ⟨17, _⟩ => ⟨S16x2048, .bf16⟩
  | .local _ .vmem, ⟨18, _⟩ => ⟨S16x2048, .bf16⟩
  | .local _ .vmem, ⟨19, _⟩ => ⟨S16x2048, .bf16⟩
  | .local _ .vmem, ⟨20, _⟩ => ⟨S128x2048, .bf16⟩
  | .local _ .vmem, ⟨21, _⟩ => ⟨S128x2048, .bf16⟩
  | .local _ .vmem, ⟨22, _⟩ => ⟨S16x2048, .bf16⟩
  | .local _ .vmem, ⟨23, _⟩ => ⟨S16x2048, .bf16⟩
  | .local _ .vmem, ⟨24, _⟩ => ⟨S1x3x2048, .f32⟩
  | .local _ .vmem, ⟨25, _⟩ => ⟨S128x6144, .bf16⟩
  | .local _ .vmem, ⟨26, _⟩ => ⟨S128x6144, .bf16⟩
  | .local _ .vmem, ⟨27, _⟩ => ⟨S8x2048, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![1, 66], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let c1_i32 : BitVec 32 := 1#32
  let v4 : BitVec 1 := Scalar.cmpi .eq arg1 c1_i32
  let v5 : BitVec 1 := Scalar.ori v3 v4
  let c2_i32 : BitVec 32 := 2#32
  let v6 : BitVec 1 := Scalar.cmpi .eq arg1 c2_i32
  let v7 : BitVec 1 := Scalar.ori v5 v6
  let c65_i32 : BitVec 32 := 65#32
  let v8 : BitVec 1 := Scalar.cmpi .eq arg1 c65_i32
  let v9 : BitVec 1 := Scalar.ori v7 v8
  let v10 : BitVec 32 := Scalar.extui v9
  let c0_i32_2 : BitVec 32 := 0#32
  let v11 : BitVec 1 := Scalar.cmpi .ne v10 c0_i32_2
  v11

def k0_cond3 (i : grid0.Coords) : BitVec 1 :=
  let arg1 : BitVec 32 := BitVec.ofNat 32 (i 1).val
  let c0_i32_1 : BitVec 32 := 0#32
  let v3 : BitVec 1 := Scalar.cmpi .eq arg1 c0_i32_1
  let c1_i32 : BitVec 32 := 1#32
  let v4 : BitVec 1 := Scalar.cmpi .eq arg1 c1_i32
  let v5 : BitVec 1 := Scalar.ori v3 v4
  let c2_i32 : BitVec 32 := 2#32
  let v6 : BitVec 1 := Scalar.cmpi .eq arg1 c2_i32
  let v7 : BitVec 1 := Scalar.ori v5 v6
  let c65_i32 : BitVec 32 := 65#32
  let v8 : BitVec 1 := Scalar.cmpi .eq arg1 c65_i32
  let v9 : BitVec 1 := Scalar.ori v7 v8
  let v_true : BitVec 1 := 1#1
  let v12 : BitVec 1 := Scalar.xori v9 v_true
  let v13 : BitVec 32 := Scalar.extui v12
  let c0_i32_3 : BitVec 32 := 0#32
  let v14 : BitVec 1 := Scalar.cmpi .ne v13 c0_i32_3
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c527_i32 : BitVec 32 := 527#32
  let v2 : BitVec 32 := Scalar.minsi v1 c527_i32
  let c0_i32 : BitVec 32 := 0#32
  let v3 : BitVec 32 := Scalar.addi arg0 c0_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi arg0 c1_i32_0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c527_i32 : BitVec 32 := 527#32
  let v2 : BitVec 32 := Scalar.minsi v1 c527_i32
  let c1_i32_0 : BitVec 32 := 1#32
  let v3 : BitVec 32 := Scalar.addi arg0 c1_i32_0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c527_i32 : BitVec 32 := 527#32
  let v2 : BitVec 32 := Scalar.minsi v1 c527_i32
  let c2_i32 : BitVec 32 := 2#32
  let v3 : BitVec 32 := Scalar.addi arg0 c2_i32
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c527_i32 : BitVec 32 := 527#32
  let v2 : BitVec 32 := Scalar.minsi v1 c527_i32
  let c0_i32 : BitVec 32 := 0#32
  let v3 : BitVec 32 := Scalar.addi arg0 c0_i32
  let c0_i32_0 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x3x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 2 → Memref sig .tc .vmem S128x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== ReferenceIdeal.lean ====
abbrev S8448x6144 : Shape := ⟨2, ![8448, 6144]⟩
abbrev S8448x2048 : Shape := ⟨2, ![8448, 2048]⟩
abbrev S2x3x2048 : Shape := ⟨3, ![2, 3, 2048]⟩
abbrev S1x3x2048 : Shape := ⟨3, ![1, 3, 2048]⟩
abbrev S3x2048 : Shape := ⟨2, ![3, 2048]⟩
abbrev S256x6144 : Shape := ⟨2, ![256, 6144]⟩
abbrev S256x2048 : Shape := ⟨2, ![256, 2048]⟩
abbrev S_ : Shape := ⟨0, ![]⟩
abbrev S1x2048 : Shape := ⟨2, ![1, 2048]⟩
abbrev S258x2048 : Shape := ⟨2, ![258, 2048]⟩
abbrev S2048 : Shape := ⟨1, ![2048]⟩
abbrev S8192x6144 : Shape := ⟨2, ![8192, 6144]⟩
abbrev S8192x2048 : Shape := ⟨2, ![8192, 2048]⟩
abbrev S8194x2048 : Shape := ⟨2, ![8194, 2048]⟩
abbrev S5x2048 : Shape := ⟨2, ![5, 2048]⟩
abbrev S8x2048 : Shape := ⟨2, ![8, 2048]⟩

abbrev nBuf : Space → Nat
  | .hbm => 188
  | .vmem => 0
  | .smem => 0
  | _ => 0

abbrev hbmTy0_0 (i : Nat) : BufTy := match i % 128 with
  | 0 => ⟨S8448x6144, .bf16⟩
  | 1 => ⟨S8448x2048, .bf16⟩
  | 2 => ⟨S2x3x2048, .f32⟩
  | 3 => ⟨S8448x6144, .f32⟩
  | 4 => ⟨S1x3x2048, .f32⟩
  | 5 => ⟨S3x2048, .f32⟩
  | 6 => ⟨S256x6144, .f32⟩
  | 7 => ⟨S256x2048, .f32⟩
  | 8 => ⟨S256x2048, .f32⟩
  | 9 => ⟨S256x2048, .f32⟩
  | 10 => ⟨S256x2048, .f32⟩
  | 11 => ⟨S_, .f32⟩
  | 12 => ⟨S1x2048, .f32⟩
  | 13 => ⟨S258x2048, .f32⟩
  | 14 => ⟨S_, .f32⟩
  | 15 => ⟨S1x2048, .f32⟩
  | 16 => ⟨S_, .f32⟩
  | 17 => ⟨S1x2048, .f32⟩
  | 18 => ⟨S256x2048, .f32⟩
  | 19 => ⟨S1x2048, .f32⟩
  | 20 => ⟨S2048, .f32⟩
  | 21 => ⟨S1x2048, .f32⟩
  | 22 => ⟨S256x2048, .f32⟩
  | 23 => ⟨S256x2048, .f32⟩
  | 24 => ⟨S256x2048, .f32⟩
  | 25 => ⟨S1x2048, .f32⟩
  | 26 => ⟨S2048, .f32⟩
  | 27 => ⟨S1x2048, .f32⟩
  | 28 => ⟨S256x2048, .f32⟩
  | 29 => ⟨S256x2048, .f32⟩
  | 30 => ⟨S256x2048, .f32⟩
  | 31 => ⟨S256x2048, .f32⟩
  | 32 => ⟨S1x2048, .f32⟩
  | 33 => ⟨S2048, .f32⟩
  | 34 => ⟨S1x2048, .f32⟩
  | 35 => ⟨S256x2048, .f32⟩
  | 36 => ⟨S256x2048, .f32⟩
  | 37 => ⟨S256x2048, .f32⟩
  | 38 => ⟨S256x2048, .f32⟩
  | 39 => ⟨S8192x6144, .f32⟩
  | 40 => ⟨S8192x2048, .f32⟩
  | 41 => ⟨S8192x2048, .f32⟩
  | 42 => ⟨S8192x2048, .f32⟩
  | 43 => ⟨S8192x2048, .f32⟩
  | 44 => ⟨S_, .f32⟩
  | 45 => ⟨S1x2048, .f32⟩
  | 46 => ⟨S8194x2048, .f32⟩
  | 47 => ⟨S_, .f32⟩
  | 48 => ⟨S1x2048, .f32⟩
  | 49 => ⟨S_, .f32⟩
  | 50 => ⟨S1x2048, .f32⟩
  | 51 => ⟨S8192x2048, .f32⟩
  | 52 => ⟨S1x2048, .f32⟩
  | 53 => ⟨S2048, .f32⟩
  | 54 => ⟨S1x2048, .f32⟩
  | 55 => ⟨S8192x2048, .f32⟩
  | 56 => ⟨S8192x2048, .f32⟩
  | 57 => ⟨S8192x2048, .f32⟩
  | 58 => ⟨S1x2048, .f32⟩
  | 59 => ⟨S2048, .f32⟩
  | 60 => ⟨S1x2048, .f32⟩
  | 61 => ⟨S8192x2048, .f32⟩
  | 62 => ⟨S8192x2048, .f32⟩
  | 63 => ⟨S8192x2048, .f32⟩
  | 64 => ⟨S8192x2048, .f32⟩
  | 65 => ⟨S1x2048, .f32⟩
  | 66 => ⟨S2048, .f32⟩
  | 67 => ⟨S1x2048, .f32⟩
  | 68 => ⟨S8192x2048, .f32⟩
  | 69 => ⟨S8192x2048, .f32⟩
  | 70 => ⟨S8192x2048, .f32⟩
  | 71 => ⟨S8192x2048, .f32⟩
  | 72 => ⟨S8448x2048, .f32⟩
  | 73 => ⟨S8448x2048, .f32⟩
  | 74 => ⟨S256x2048, .f32⟩
  | 75 => ⟨S8192x2048, .f32⟩
  | 76 => ⟨S8192x2048, .f32⟩
  | 77 => ⟨S8192x2048, .f32⟩
  | 78 => ⟨S8192x2048, .f32⟩
  | 79 => ⟨S_, .f32⟩
  | 80 => ⟨S2048, .f32⟩
  | 81 => ⟨S1x2048, .f32⟩
  | 82 => ⟨S8192x2048, .f32⟩
  | 83 => ⟨S8192x2048, .f32⟩
  | 84 => ⟨S_, .f32⟩
  | 85 => ⟨S2048, .f32⟩
  | 86 => ⟨S1x2048, .f32⟩
  | 87 => ⟨S_, .f32⟩
  | 88 => ⟨S3x2048, .f32⟩
  | 89 => ⟨S_, .f32⟩
  | 90 => ⟨S8194x2048, .f32⟩
  | 91 => ⟨S8192x2048, .f32⟩
  | 92 => ⟨S_, .f32⟩
  | 93 => ⟨S2048, .f32⟩
  | 94 => ⟨S1x2048, .f32⟩
  | 95 => ⟨S8192x2048, .f32⟩
  | 96 => ⟨S8192x2048, .f32⟩
  | 97 => ⟨S_, .f32⟩
  | 98 => ⟨S2048, .f32⟩
  | 99 => ⟨S1x2048, .f32⟩
  | 100 => ⟨S_, .f32⟩
  | 101 => ⟨S3x2048, .f32⟩
  | 102 => ⟨S3x2048, .f32⟩
  | 103 => ⟨S_, .f32⟩
  | 104 => ⟨S8194x2048, .f32⟩
  | 105 => ⟨S8194x2048, .f32⟩
  | 106 => ⟨S8192x2048, .f32⟩
  | 107 => ⟨S_, .f32⟩
  | 108 => ⟨S2048, .f32⟩
  | 109 => ⟨S1x2048, .f32⟩
  | 110 => ⟨S8192x2048, .f32⟩
  | 111 => ⟨S8192x2048, .f32⟩
  | 112 => ⟨S_, .f32⟩
  | 113 => ⟨S2048, .f32⟩
  | 114 => ⟨S1x2048, .f32⟩
  | 115 => ⟨S_, .f32⟩
  | 116 => ⟨S3x2048, .f32⟩
  | 117 => ⟨S3x2048, .f32⟩
  | 118 => ⟨S_, .f32⟩
  | 119 => ⟨S8194x2048, .f32⟩
  | 120 => ⟨S8194x2048, .f32⟩
  | 121 => ⟨S1x2048, .f32⟩
  | 122 => ⟨S8192x2048, .f32⟩
  | 123 => ⟨S1x2048, .f32⟩
  | 124 => ⟨S8192x2048, .f32⟩
  | 125 => ⟨S8192x2048, .f32⟩
  | 126 => ⟨S8192x6144, .f32⟩
  | 127 => ⟨S_, .f32⟩
  | _ => ⟨S8448x6144, .bf16⟩

abbrev hbmTy0_1 (i : Nat) : BufTy := match i % 128 with
  | 0 => ⟨S8448x6144, .f32⟩
  | 1 => ⟨S256x2048, .f32⟩
  | 2 => ⟨S256x2048, .f32⟩
  | 3 => ⟨S256x2048, .f32⟩
  | 4 => ⟨S_, .f32⟩
  | 5 => ⟨S2048, .f32⟩
  | 6 => ⟨S1x2048, .f32⟩
  | 7 => ⟨S256x2048, .f32⟩
  | 8 => ⟨S256x2048, .f32⟩
  | 9 => ⟨S_, .f32⟩
  | 10 => ⟨S2048, .f32⟩
  | 11 => ⟨S1x2048, .f32⟩
  | 12 => ⟨S_, .f32⟩
  | 13 => ⟨S3x2048, .f32⟩
  | 14 => ⟨S3x2048, .f32⟩
  | 15 => ⟨S_, .f32⟩
  | 16 => ⟨S258x2048, .f32⟩
  | 17 => ⟨S256x2048, .f32⟩
  | 18 => ⟨S_, .f32⟩
  | 19 => ⟨S2048, .f32⟩
  | 20 => ⟨S1x2048, .f32⟩
  | 21 => ⟨S256x2048, .f32⟩
  | 22 => ⟨S256x2048, .f32⟩
  | 23 => ⟨S_, .f32⟩
  | 24 => ⟨S2048, .f32⟩
  | 25 => ⟨S1x2048, .f32⟩
  | 26 => ⟨S_, .f32⟩
  | 27 => ⟨S3x2048, .f32⟩
  | 28 => ⟨S3x2048, .f32⟩
  | 29 => ⟨S_, .f32⟩
  | 30 => ⟨S258x2048, .f32⟩
  | 31 => ⟨S258x2048, .f32⟩
  | 32 => ⟨S256x2048, .f32⟩
  | 33 => ⟨S_, .f32⟩
  | 34 => ⟨S2048, .f32⟩
  | 35 => ⟨S1x2048, .f32⟩
  | 36 => ⟨S256x2048, .f32⟩
  | 37 => ⟨S256x2048, .f32⟩
  | 38 => ⟨S_, .f32⟩
  | 39 => ⟨S2048, .f32⟩
  | 40 => ⟨S1x2048, .f32⟩
  | 41 => ⟨S_, .f32⟩
  | 42 => ⟨S3x2048, .f32⟩
  | 43 => ⟨S3x2048, .f32⟩
  | 44 => ⟨S_, .f32⟩
  | 45 => ⟨S258x2048, .f32⟩
  | 46 => ⟨S258x2048, .f32⟩
  | 47 => ⟨S1x2048, .f32⟩
  | 48 => ⟨S256x2048, .f32⟩
  | 49 => ⟨S1x2048, .f32⟩
  | 50 => ⟨S256x2048, .f32⟩
  | 51 => ⟨S256x2048, .f32⟩
  | 52 => ⟨S256x6144, .f32⟩
  | 53 => ⟨S_, .f32⟩
  | 54 => ⟨S8448x6144, .f32⟩
  | 55 => ⟨S8448x6144, .f32⟩
  | 56 => ⟨S8448x6144, .bf16⟩
  | 57 => ⟨S_, .f32⟩
  | 58 => ⟨S5x2048, .f32⟩
  | 59 => ⟨S8x2048, .f32⟩
  | _ => ⟨S8448x6144, .bf16⟩

abbrev hbmTy (i : Nat) : BufTy := match i / 128 with
  | 0 => hbmTy0_0 i
  | 1 => hbmTy0_1 i
  | _ => ⟨S8448x6144, .bf16⟩

abbrev bufTy : (tb : Table) → Fin (tcTables nBuf tb) → BufTy
  | .hbm, ⟨i, _⟩ => hbmTy i
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_cst_7 : Ref sig .tc := ⟨.hbm, 87, rfl⟩
abbrev main_v76 : Ref sig .tc := ⟨.hbm, 88, rfl⟩
abbrev main_cst_8 : Ref sig .tc := ⟨.hbm, 89, rfl⟩
abbrev main_v77 : Ref sig .tc := ⟨.hbm, 90, rfl⟩
abbrev main_v78 : Ref sig .tc := ⟨.hbm, 91, rfl⟩
abbrev main_cst_9 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_10 : Ref sig .tc := ⟨.hbm, 97, rfl⟩
abbrev main_v83 : Ref sig .tc := ⟨.hbm, 98, rfl⟩
abbrev main_v84 : Ref sig .tc := ⟨.hbm, 99, rfl⟩
abbrev main_cst_11 : Ref sig .tc := ⟨.hbm, 100, rfl⟩
abbrev main_v85 : Ref sig .tc := ⟨.hbm, 101, rfl⟩
abbrev main_v86 : Ref sig .tc := ⟨.hbm, 102, rfl⟩
abbrev main_cst_12 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_13 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_14 : Ref sig .tc := ⟨.hbm, 112, rfl⟩
abbrev main_v94 : Ref sig .tc := ⟨.hbm, 113, rfl⟩
abbrev main_v95 : Ref sig .tc := ⟨.hbm, 114, rfl⟩
abbrev main_cst_15 : Ref sig .tc := ⟨.hbm, 115, rfl⟩
abbrev main_v96 : Ref sig .tc := ⟨.hbm, 116, rfl⟩
abbrev main_v97 : Ref sig .tc := ⟨.hbm, 117, rfl⟩
abbrev main_cst_16 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_17 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_18 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_19 : Ref sig .tc := ⟨.hbm, 137, rfl⟩
abbrev main_v114 : Ref sig .tc := ⟨.hbm, 138, rfl⟩
abbrev main_v115 : Ref sig .tc := ⟨.hbm, 139, rfl⟩
abbrev main_cst_20 : Ref sig .tc := ⟨.hbm, 140, rfl⟩
abbrev main_v116 : Ref sig .tc := ⟨.hbm, 141, rfl⟩
abbrev main_v117 : Ref sig .tc := ⟨.hbm, 142, rfl⟩
abbrev main_cst_21 : Ref sig .tc := ⟨.hbm, 143, rfl⟩
abbrev main_v118 : Ref sig .tc := ⟨.hbm, 144, rfl⟩
abbrev main_v119 : Ref sig .tc := ⟨.hbm, 145, rfl⟩
abbrev main_cst_22 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_23 : Ref sig .tc := ⟨.hbm, 151, rfl⟩
abbrev main_v124 : Ref sig .tc := ⟨.hbm, 152, rfl⟩
abbrev main_v125 : Ref sig .tc := ⟨.hbm, 153, rfl⟩
abbrev main_cst_24 : Ref sig .tc := ⟨.hbm, 154, rfl⟩
abbrev main_v126 : Ref sig .tc := ⟨.hbm, 155, rfl⟩
abbrev main_v127 : Ref sig .tc := ⟨.hbm, 156, rfl⟩
abbrev main_cst_25 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_26 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_27 : Ref sig .tc := ⟨.hbm, 166, rfl⟩
abbrev main_v135 : Ref sig .tc := ⟨.hbm, 167, rfl⟩
abbrev main_v136 : Ref sig .tc := ⟨.hbm, 168, rfl⟩
abbrev main_cst_28 : Ref sig .tc := ⟨.hbm, 169, rfl⟩
abbrev main_v137 : Ref sig .tc := ⟨.hbm, 170, rfl⟩
abbrev main_v138 : Ref sig .tc := ⟨.hbm, 171, rfl⟩
abbrev main_cst_29 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_30 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_31 : Ref sig .tc := ⟨.hbm, 185, rfl⟩
abbrev main_v150 : Ref sig .tc := ⟨.hbm, 186, rfl⟩
abbrev main_v151 : Ref sig .tc := ⟨.hbm, 187, rfl⟩

abbrev nD : Nat := 1
abbrev τ : Topo := Topo.v7x

variable {F : FTy → Type} [FloatOps F]
-- ==== Kernel2.lean ====
abbrev S8448x5632 : Shape := ⟨2, ![8448, 5632]⟩
abbrev S8x2048x1408 : Shape := ⟨3, ![8, 2048, 1408]⟩
abbrev S8448x2048 : Shape := ⟨2, ![8448, 2048]⟩
abbrev S768x2816 : Shape := ⟨2, ![768, 2816]⟩
abbrev S2x2048x1408 : Shape := ⟨3, ![2, 2048, 1408]⟩
abbrev S768x2048 : Shape := ⟨2, ![768, 2048]⟩
abbrev S1x2048x128 : Shape := ⟨3, ![1, 2048, 128]⟩
abbrev S2048x128 : Shape := ⟨2, ![2048, 128]⟩
abbrev S2048x256 : Shape := ⟨2, ![2048, 256]⟩
abbrev S768x1280 : Shape := ⟨2, ![768, 1280]⟩
abbrev S1x2048x1280 : Shape := ⟨3, ![1, 2048, 1280]⟩
abbrev S2048x1280 : Shape := ⟨2, ![2048, 1280]⟩
abbrev S768x256 : Shape := ⟨2, ![768, 256]⟩

abbrev nBuf : Space → Nat
  | .hbm => 4
  | .vmem => 9
  | .smem => 0
  | _ => 0

abbrev bufTy : (tb : Table) → Fin (tcTables nBuf tb) → BufTy
  | .hbm, ⟨0, _⟩ => ⟨S8448x5632, .bf16⟩
  | .hbm, ⟨1, _⟩ => ⟨S8448x5632, .bf16⟩
  | .hbm, ⟨2, _⟩ => ⟨S8x2048x1408, .bf16⟩
  | .hbm, ⟨3, _⟩ => ⟨S8448x2048, .bf16⟩
  | .local _ .vmem, ⟨0, _⟩ => ⟨S768x2816, .bf16⟩
  | .local _ .vmem, ⟨1, _⟩ => ⟨S768x2816, .bf16⟩
  | .local _ .vmem, ⟨2, _⟩ => ⟨S768x2816, .bf16⟩
  | .local _ .vmem, ⟨3, _⟩ => ⟨S768x2816, .bf16⟩
  | .local _ .vmem, ⟨4, _⟩ => ⟨S2x2048x1408, .bf16⟩
  | .local _ .vmem, ⟨5, _⟩ => ⟨S2x2048x1408, .bf16⟩
  | .local _ .vmem, ⟨6, _⟩ => ⟨S768x2048, .bf16⟩
  | .local _ .vmem, ⟨7, _⟩ => ⟨S768x2048, .bf16⟩
  | .local _ .vmem, ⟨8, _⟩ => ⟨S768x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def k0_cond4 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8448x5632 : Shape := ⟨2, ![8448, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S8448x2048 : Shape := ⟨2, ![8448, 2048]⟩
abbrev S8448x11264 : Shape := ⟨2, ![8448, 11264]⟩

abbrev nBuf : Space → Nat
  | .hbm => 16
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x5632, .bf16⟩
  | .hbm, ⟨2, _⟩ => ⟨S8x2048x1408, .bf16⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S_, .f32⟩
  | .hbm, ⟨7, _⟩ => ⟨S8448x2048, .f32⟩
  | .hbm, ⟨8, _⟩ => ⟨S8448x11264, .f32⟩
  | .hbm, ⟨9, _⟩ => ⟨S8448x5632, .f32⟩
  | .hbm, ⟨10, _⟩ => ⟨S8448x5632, .f32⟩
  | .hbm, ⟨11, _⟩ => ⟨S8448x5632, .f32⟩
  | .hbm, ⟨12, _⟩ => ⟨S8448x5632, .f32⟩
  | .hbm, ⟨13, _⟩ => ⟨S8448x11264, .f32⟩
  | .hbm, ⟨14, _⟩ => ⟨S8448x2048, .f32⟩
  | .hbm, ⟨15, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel3.lean ====
abbrev S2048x8448 : Shape := ⟨2, ![2048, 8448]⟩
abbrev S8448x5632 : Shape := ⟨2, ![8448, 5632]⟩
abbrev S8x2048x1408 : Shape := ⟨3, ![8, 2048, 1408]⟩
abbrev S512x2816 : Shape := ⟨2, ![512, 2816]⟩
abbrev S2816x1408 : Shape := ⟨2, ![2816, 1408]⟩
abbrev S1x512x1408 : Shape := ⟨3, ![1, 512, 1408]⟩
abbrev S512x1408 : Shape := ⟨2, ![512, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2048x8448, .bf16⟩
  | .hbm, ⟨1, _⟩ => ⟨S8448x5632, .bf16⟩
  | .hbm, ⟨2, _⟩ => ⟨S8448x5632, .bf16⟩
  | .hbm, ⟨3, _⟩ => ⟨S8x2048x1408, .bf16⟩
  | .local _ .vmem, ⟨0, _⟩ => ⟨S512x2816, .bf16⟩
  | .local _ .vmem, ⟨1, _⟩ => ⟨S512x2816, .bf16⟩
  | .local _ .vmem, ⟨2, _⟩ => ⟨S2816x1408, .bf16⟩
  | .local _ .vmem, ⟨3, _⟩ => ⟨S2816x1408, .bf16⟩
  | .local _ .vmem, ⟨4, _⟩ => ⟨S2816x1408, .bf16⟩
  | .local _ .vmem, ⟨5, _⟩ => ⟨S2816x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S512x1408, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 3], ![false, false, false]⟩

def k0_cond4 (i : grid0.Coords) : BitVec 1 :=
  let arg2 : BitVec 32 := BitVec.ofNat 32 (i 2).val
  let c2_i32 : BitVec 32 := 2#32
  let v43 : BitVec 1 := Scalar.cmpi .eq arg2 c2_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c0_i32_6 : BitVec 32 := 0#32
  let v19 : BitVec 32 := Scalar.subi arg0 c0_i32_6
  let c0_i32_7 : BitVec 32 := 0#32
  let c3_i32 : BitVec 32 := 3#32
  let v20 : BitVec 32 := Scalar.maxsi c0_i32_7 v19
  let v21 : BitVec 32 := Scalar.minsi c3_i32 v20
  let c0_i32_8 : BitVec 32 := 0#32
  ![v18.toNat, v21.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c4_i32_6 : BitVec 32 := 4#32
  let v19 : BitVec 32 := Scalar.subi arg0 c4_i32_6
  let c0_i32_7 : BitVec 32 := 0#32
  let c3_i32 : BitVec 32 := 3#32
  let v20 : BitVec 32 := Scalar.maxsi c0_i32_7 v19
  let v21 : BitVec 32 := Scalar.minsi c3_i32 v20
  let c0_i32_8 : BitVec 32 := 0#32
  ![v18.toNat, v21.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x8448 : Shape := ⟨2, ![2048, 8448]⟩
abbrev S8448x5632 : Shape := ⟨2, ![8448, 5632]⟩
abbrev S8448x2048 : Shape := ⟨2, ![8448, 2048]⟩
abbrev S_ : Shape := ⟨0, ![]⟩
abbrev S2048x11264 : Shape := ⟨2, ![2048, 11264]⟩
abbrev S8448x11264 : Shape := ⟨2, ![8448, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x5632, .bf16⟩
  | .hbm, ⟨2, _⟩ => ⟨S8448x5632, .bf16⟩
  | .hbm, ⟨3, _⟩ => ⟨S8448x2048, .bf16⟩
  | .hbm, ⟨4, _⟩ => ⟨S8448x2048, .f32⟩
  | .hbm, ⟨5, _⟩ => ⟨S_, .f32⟩
  | .hbm, ⟨6, _⟩ => ⟨S2048x11264, .f32⟩
  | .hbm, ⟨7, _⟩ => ⟨S8448x11264, .f32⟩
  | .hbm, ⟨8, _⟩ => ⟨S8448x5632, .f32⟩
  | .hbm, ⟨9, _⟩ => ⟨S8448x5632, .f32⟩
  | .hbm, ⟨10, _⟩ => ⟨S8448x5632, .f32⟩
  | .hbm, ⟨11, _⟩ => ⟨S8448x5632, .f32⟩
  | .hbm, ⟨12, _⟩ => ⟨S8448x11264, .f32⟩
  | .hbm, ⟨13, _⟩ => ⟨S11264x2048, .f32⟩
  | .hbm, ⟨14, _⟩ => ⟨S2048x11264, .f32⟩
  | .hbm, ⟨15, _⟩ => ⟨S2048x11264, .bf16⟩
  | .hbm, ⟨16, _⟩ => ⟨S2048x8x1408, .bf16⟩
  | .hbm, ⟨17, _⟩ => ⟨S8x2048x1408, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel4.lean ====
abbrev S8448x5632 : Shape := ⟨2, ![8448, 5632]⟩
abbrev S8448x2048 : Shape := ⟨2, ![8448, 2048]⟩
abbrev S1x5632x2048 : Shape := ⟨3, ![1, 5632, 2048]⟩
abbrev S2112x1408 : Shape := ⟨2, ![2112, 1408]⟩
abbrev S2112x1024 : Shape := ⟨2, ![2112, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S1x5632x2048, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c0_i32_6 : BitVec 32 := 0#32
  let v19 : BitVec 32 := Scalar.subi arg0 c0_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  ![v18.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S_, .f32⟩
  | .hbm, ⟨3, _⟩ => ⟨S5632x2048, .f32⟩
  | .hbm, ⟨4, _⟩ => ⟨S8448x5632, .f32⟩
  | .hbm, ⟨5, _⟩ => ⟨S8448x2048, .f32⟩
  | .hbm, ⟨6, _⟩ => ⟨S8448x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S1x5632x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8448x6144 : Shape := ⟨2, ![8448, 6144]⟩
abbrev S8x2048x768 : Shape := ⟨3, ![8, 2048, 768]⟩
abbrev S8448x2048 : Shape := ⟨2, ![8448, 2048]⟩
abbrev S768x768 : Shape := ⟨2, ![768, 768]⟩
abbrev S1x2048x768 : Shape := ⟨3, ![1, 2048, 768]⟩
abbrev S768x2048 : Shape := ⟨2, ![768, 2048]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8448x6144, .bf16⟩
  | .hbm, ⟨1, _⟩ => ⟨S8x2048x768, .bf16⟩
  | .hbm, ⟨2, _⟩ => ⟨S8448x2048, .bf16⟩
  | .local _ .vmem, ⟨0, _⟩ => ⟨S768x768, .bf16⟩
  | .local _ .vmem, ⟨1, _⟩ => ⟨S768x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def k0_cond3 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8448x6144 : Shape := ⟨2, ![8448, 6144]⟩
abbrev S8x2048x768 : Shape := ⟨3, ![8, 2048, 768]⟩
abbrev S_ : Shape := ⟨0, ![]⟩
abbrev S8448x2048 : Shape := ⟨2, ![8448, 2048]⟩
abbrev S2048x8x768 : Shape := ⟨3, ![2048, 8, 768]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S8x2048x768, .bf16⟩
  | .hbm, ⟨2, _⟩ => ⟨S_, .f32⟩
  | .hbm, ⟨3, _⟩ => ⟨S8448x2048, .f32⟩
  | .hbm, ⟨4, _⟩ => ⟨S2048x8x768, .bf16⟩
  | .hbm, ⟨5, _⟩ => ⟨S2048x6144, .bf16⟩
  | .hbm, ⟨6, _⟩ => ⟨S2048x6144, .f32⟩
  | .hbm, ⟨7, _⟩ => ⟨S8448x6144, .f32⟩
  | .hbm, ⟨8, _⟩ => ⟨S8448x6144, .f32⟩
  | .hbm, ⟨9, _⟩ => ⟨S8448x2048, .f32⟩
  | .hbm, ⟨10, _⟩ => ⟨S8448x2048, .bf16⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x8448 : Shape := ⟨2, ![2048, 8448]⟩
abbrev S8448x6144 : Shape := ⟨2, ![8448, 6144]⟩
abbrev S8x2048x768 : Shape := ⟨3, ![8, 2048, 768]⟩
abbrev S1024x2816 : Shape := ⟨2, ![1024, 2816]⟩
abbrev S2816x768 : Shape := ⟨2, ![2816, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x6144, .bf16⟩
  | .hbm, ⟨2, _⟩ => ⟨S8x2048x768, .bf16⟩
  | .local _ .vmem, ⟨0, _⟩ => ⟨S1024x2816, .bf16⟩
  | .local _ .vmem, ⟨1, _⟩ => ⟨S1024x2816, .bf16⟩
  | .local _ .vmem, ⟨2, _⟩ => ⟨S2816x768, .bf16⟩
  | .local _ .vmem, ⟨3, _⟩ => ⟨S2816x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v23 : BitVec 1 := Scalar.cmpi .eq arg2 c2_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c0_i32_6 : BitVec 32 := 0#32
  let v19 : BitVec 32 := Scalar.subi arg0 c0_i32_6
  let c0_i32_7 : BitVec 32 := 0#32
  let c7_i32 : BitVec 32 := 7#32
  let v20 : BitVec 32 := Scalar.maxsi c0_i32_7 v19
  let v21 : BitVec 32 := Scalar.minsi c7_i32 v20
  let c0_i32_8 : BitVec 32 := 0#32
  ![v18.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x8448 : Shape := ⟨2, ![2048, 8448]⟩
abbrev S8448x6144 : Shape := ⟨2, ![8448, 6144]⟩
abbrev S8448x2048 : Shape := ⟨2, ![8448, 2048]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 13
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x6144, .bf16⟩
  | .hbm, ⟨2, _⟩ => ⟨S8448x2048, .bf16⟩
  | .hbm, ⟨3, _⟩ => ⟨S8448x2048, .f32⟩
  | .hbm, ⟨4, _⟩ => ⟨S_, .f32⟩
  | .hbm, ⟨5, _⟩ => ⟨S2048x6144, .f32⟩
  | .hbm, ⟨6, _⟩ => ⟨S8448x6144, .f32⟩
  | .hbm, ⟨7, _⟩ => ⟨S8448x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | .hbm, ⟨11, _⟩ => ⟨S2048x8x768, .bf16⟩
  | .hbm, ⟨12, _⟩ => ⟨S8x2048x768, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8448x3072 : Shape := ⟨2, ![8448, 3072]⟩
abbrev S8x2048x384 : Shape := ⟨3, ![8, 2048, 384]⟩
abbrev S8448x2048 : Shape := ⟨2, ![8448, 2048]⟩
abbrev S768x768 : Shape := ⟨2, ![768, 768]⟩
abbrev S2x2048x384 : Shape := ⟨3, ![2, 2048, 384]⟩
abbrev S768x2048 : Shape := ⟨2, ![768, 2048]⟩
abbrev S1x2048x128 : Shape := ⟨3, ![1, 2048, 128]⟩
abbrev S2048x128 : Shape := ⟨2, ![2048, 128]⟩
abbrev S2048x256 : Shape := ⟨2, ![2048, 256]⟩
abbrev S768x256 : Shape := ⟨2, ![768, 256]⟩
abbrev S1x2048x256 : Shape := ⟨3, ![1, 2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S8448x3072, .bf16⟩
  | .hbm, ⟨1, _⟩ => ⟨S8x2048x384, .bf16⟩
  | .hbm, ⟨2, _⟩ => ⟨S8448x2048, .bf16⟩
  | .local _ .vmem, ⟨0, _⟩ => ⟨S768x768, .bf16⟩
  | .local _ .vmem, ⟨1, _⟩ => ⟨S768x768, .bf16⟩
  | .local _ .vmem, ⟨2, _⟩ => ⟨S2x2048x384, .bf16⟩
  | .local _ .vmem, ⟨3, _⟩ => ⟨S2x2048x384, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def k0_cond3 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8448x3072 : Shape := ⟨2, ![8448, 3072]⟩
abbrev S8x2048x384 : Shape := ⟨3, ![8, 2048, 384]⟩
abbrev S_ : Shape := ⟨0, ![]⟩
abbrev S8448x2048 : Shape := ⟨2, ![8448, 2048]⟩
abbrev S2048x8x384 : Shape := ⟨3, ![2048, 8, 384]⟩
abbrev S2048x3072 : Shape := ⟨2, ![2048, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S8x2048x384, .bf16⟩
  | .hbm, ⟨2, _⟩ => ⟨S_, .f32⟩
  | .hbm, ⟨3, _⟩ => ⟨S8448x2048, .f32⟩
  | .hbm, ⟨4, _⟩ => ⟨S2048x8x384, .bf16⟩
  | .hbm, ⟨5, _⟩ => ⟨S2048x3072, .bf16⟩
  | .hbm, ⟨6, _⟩ => ⟨S2048x3072, .f32⟩
  | .hbm, ⟨7, _⟩ => ⟨S8448x3072, .f32⟩
  | .hbm, ⟨8, _⟩ => ⟨S8448x3072, .f32⟩
  | .hbm, ⟨9, _⟩ => ⟨S8448x2048, .f32⟩
  | .hbm, ⟨10, _⟩ => ⟨S8448x2048, .bf16⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x8448 : Shape := ⟨2, ![2048, 8448]⟩
abbrev S8448x3072 : Shape := ⟨2, ![8448, 3072]⟩
abbrev S8x2048x384 : Shape := ⟨3, ![8, 2048, 384]⟩
abbrev S1024x2816 : Shape := ⟨2, ![1024, 2816]⟩
abbrev S2816x768 : Shape := ⟨2, ![2816, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x3072, .bf16⟩
  | .hbm, ⟨2, _⟩ => ⟨S8x2048x384, .bf16⟩
  | .local _ .vmem, ⟨0, _⟩ => ⟨S1024x2816, .bf16⟩
  | .local _ .vmem, ⟨1, _⟩ => ⟨S1024x2816, .bf16⟩
  | .local _ .vmem, ⟨2, _⟩ => ⟨S2816x768, .bf16⟩
  | .local _ .vmem, ⟨3, _⟩ => ⟨S2816x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v23 : BitVec 1 := Scalar.cmpi .eq arg2 c2_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c0_i32_6 : BitVec 32 := 0#32
  let v19 : BitVec 32 := Scalar.subi arg0 c0_i32_6
  let c0_i32_7 : BitVec 32 := 0#32
  let c3_i32 : BitVec 32 := 3#32
  let v20 : BitVec 32 := Scalar.maxsi c0_i32_7 v19
  let v21 : BitVec 32 := Scalar.minsi c3_i32 v20
  let c0_i32_8 : BitVec 32 := 0#32
  ![v18.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x8448 : Shape := ⟨2, ![2048, 8448]⟩
abbrev S8448x3072 : Shape := ⟨2, ![8448, 3072]⟩
abbrev S8448x2048 : Shape := ⟨2, ![8448, 2048]⟩
abbrev S_ : Shape := ⟨0, ![]⟩
abbrev S2048x3072 : Shape := ⟨2, ![2048, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 13
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x3072, .bf16⟩
  | .hbm, ⟨2, _⟩ => ⟨S8448x2048, .bf16⟩
  | .hbm, ⟨3, _⟩ => ⟨S8448x2048, .f32⟩
  | .hbm, ⟨4, _⟩ => ⟨S_, .f32⟩
  | .hbm, ⟨5, _⟩ => ⟨S2048x3072, .f32⟩
  | .hbm, ⟨6, _⟩ => ⟨S8448x3072, .f32⟩
  | .hbm, ⟨7, _⟩ => ⟨S8448x3072, .f32⟩
  | .hbm, ⟨8, _⟩ => ⟨S3072x2048, .f32⟩
  | .hbm, ⟨9, _⟩ => ⟨S2048x3072, .f32⟩
  | .hbm, ⟨10, _⟩ => ⟨S2048x3072, .bf16⟩
  | .hbm, ⟨11, _⟩ => ⟨S2048x8x384, .bf16⟩
  | .hbm, ⟨12, _⟩ => ⟨S8x2048x384, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S8448x2048 : Shape := ⟨2, ![8448, 2048]⟩
abbrev S1x2048x2048 : Shape := ⟨3, ![1, 2048, 2048]⟩
abbrev S2112x1024 : Shape := ⟨2, ![2112, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S1x2048x2048, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c0_i32_6 : BitVec 32 := 0#32
  let v19 : BitVec 32 := Scalar.subi arg0 c0_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  ![v18.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x2048 : Shape := ⟨2, ![8448, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S_, .f32⟩
  | .hbm, ⟨3, _⟩ => ⟨S2048x2048, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8448x2048 : Shape := ⟨2, ![8448, 2048]⟩
abbrev S8x2048x1408 : Shape := ⟨3, ![8, 2048, 1408]⟩
abbrev S8448x11264 : Shape := ⟨2, ![8448, 11264]⟩
abbrev S768x2048 : Shape := ⟨2, ![768, 2048]⟩
abbrev S2x2048x1408 : Shape := ⟨3, ![2, 2048, 1408]⟩
abbrev S768x2816 : Shape := ⟨2, ![768, 2816]⟩
abbrev S1x2048x128 : Shape := ⟨3, ![1, 2048, 128]⟩
abbrev S2048x128 : Shape := ⟨2, ![2048, 128]⟩
abbrev S2048x256 : Shape := ⟨2, ![2048, 256]⟩
abbrev S1x2048x1280 : Shape := ⟨3, ![1, 2048, 1280]⟩
abbrev S2048x1280 : Shape := ⟨2, ![2048, 1280]⟩
abbrev S768x1280 : Shape := ⟨2, ![768, 1280]⟩
abbrev S768x256 : Shape := ⟨2, ![768, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x11264, .bf16⟩
  | .local _ .vmem, ⟨0, _⟩ => ⟨S768x2048, .bf16⟩
  | .local _ .vmem, ⟨1, _⟩ => ⟨S768x2048, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S768x2816, .bf16⟩
  | .local _ .vmem, ⟨5, _⟩ => ⟨S768x2816, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8448x2048 : Shape := ⟨2, ![8448, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8448x11264 : Shape := ⟨2, ![8448, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x2048, .f32⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S8448x11264, .f32⟩
  | .hbm, ⟨7, _⟩ => ⟨S8448x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S8448x2048 : Shape := ⟨2, ![8448, 2048]⟩
abbrev S8x2048x768 : Shape := ⟨3, ![8, 2048, 768]⟩
abbrev S8448x6144 : Shape := ⟨2, ![8448, 6144]⟩
abbrev S768x2048 : Shape := ⟨2, ![768, 2048]⟩
abbrev S1x2048x768 : Shape := ⟨3, ![1, 2048, 768]⟩
abbrev S768x768 : Shape := ⟨2, ![768, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x768, .bf16⟩
  | .hbm, ⟨2, _⟩ => ⟨S8448x6144, .bf16⟩
  | .local _ .vmem, ⟨0, _⟩ => ⟨S768x2048, .bf16⟩
  | .local _ .vmem, ⟨1, _⟩ => ⟨S768x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S768x768, .bf16⟩
  | .local _ .vmem, ⟨5, _⟩ => ⟨S768x768, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8448x2048 : Shape := ⟨2, ![8448, 2048]⟩
abbrev S8x2048x768 : Shape := ⟨3, ![8, 2048, 768]⟩
abbrev S2048x8x768 : Shape := ⟨3, ![2048, 8, 768]⟩
abbrev S2048x6144 : Shape := ⟨2, ![2048, 6144]⟩
abbrev S8448x6144 : Shape := ⟨2, ![8448, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x768, .bf16⟩
  | .hbm, ⟨2, _⟩ => ⟨S8448x2048, .f32⟩
  | .hbm, ⟨3, _⟩ => ⟨S2048x8x768, .bf16⟩
  | .hbm, ⟨4, _⟩ => ⟨S2048x6144, .bf16⟩
  | .hbm, ⟨5, _⟩ => ⟨S2048x6144, .f32⟩
  | .hbm, ⟨6, _⟩ => ⟨S8448x6144, .f32⟩
  | .hbm, ⟨7, _⟩ => ⟨S8448x6144, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S8448x2048 : Shape := ⟨2, ![8448, 2048]⟩
abbrev S8x2048x384 : Shape := ⟨3, ![8, 2048, 384]⟩
abbrev S8448x3072 : Shape := ⟨2, ![8448, 3072]⟩
abbrev S768x2048 : Shape := ⟨2, ![768, 2048]⟩
abbrev S2x2048x384 : Shape := ⟨3, ![2, 2048, 384]⟩
abbrev S768x768 : Shape := ⟨2, ![768, 768]⟩
abbrev S1x2048x128 : Shape := ⟨3, ![1, 2048, 128]⟩
abbrev S2048x128 : Shape := ⟨2, ![2048, 128]⟩
abbrev S2048x256 : Shape := ⟨2, ![2048, 256]⟩
abbrev S1x2048x256 : Shape := ⟨3, ![1, 2048, 256]⟩
abbrev S768x256 : Shape := ⟨2, ![768, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x384, .bf16⟩
  | .hbm, ⟨2, _⟩ => ⟨S8448x3072, .bf16⟩
  | .local _ .vmem, ⟨0, _⟩ => ⟨S768x2048, .bf16⟩
  | .local _ .vmem, ⟨1, _⟩ => ⟨S768x2048, .bf16⟩
  | .local _ .vmem, ⟨2, _⟩ => ⟨S2x2048x384, .bf16⟩
  | .local _ .vmem, ⟨3, _⟩ => ⟨S2x2048x384, .bf16⟩
  | .local _ .vmem, ⟨4, _⟩ => ⟨S768x768, .bf16⟩
  | .local _ .vmem, ⟨5, _⟩ => ⟨S768x768, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8448x2048 : Shape := ⟨2, ![8448, 2048]⟩
abbrev S8x2048x384 : Shape := ⟨3, ![8, 2048, 384]⟩
abbrev S2048x8x384 : Shape := ⟨3, ![2048, 8, 384]⟩
abbrev S2048x3072 : Shape := ⟨2, ![2048, 3072]⟩
abbrev S8448x3072 : Shape := ⟨2, ![8448, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x384, .bf16⟩
  | .hbm, ⟨2, _⟩ => ⟨S8448x2048, .f32⟩
  | .hbm, ⟨3, _⟩ => ⟨S2048x8x384, .bf16⟩
  | .hbm, ⟨4, _⟩ => ⟨S2048x3072, .bf16⟩
  | .hbm, ⟨5, _⟩ => ⟨S2048x3072, .f32⟩
  | .hbm, ⟨6, _⟩ => ⟨S8448x3072, .f32⟩
  | .hbm, ⟨7, _⟩ => ⟨S8448x3072, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S8448x5632 : Shape := ⟨2, ![8448, 5632]⟩
abbrev S5632x2048 : Shape := ⟨2, ![5632, 2048]⟩
abbrev S8448x2048 : Shape := ⟨2, ![8448, 2048]⟩
abbrev S2x6x2048 : Shape := ⟨3, ![2, 6, 2048]⟩
abbrev S768x5632 : Shape := ⟨2, ![768, 5632]⟩
abbrev S5632x512 : Shape := ⟨2, ![5632, 512]⟩
abbrev S768x512 : Shape := ⟨2, ![768, 512]⟩
abbrev S2x6x512 : Shape := ⟨3, ![2, 6, 512]⟩
abbrev S768x1 : Shape := ⟨2, ![768, 1]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x6x2048, .f32⟩
  | .hbm, ⟨4, _⟩ => ⟨S8448x2048, .bf16⟩
  | .hbm, ⟨5, _⟩ => ⟨S8448x2048, .f32⟩
  | .local _ .vmem, ⟨0, _⟩ => ⟨S768x5632, .bf16⟩
  | .local _ .vmem, ⟨1, _⟩ => ⟨S768x5632, .bf16⟩
  | .local _ .vmem, ⟨2, _⟩ => ⟨S5632x512, .bf16⟩
  | .local _ .vmem, ⟨3, _⟩ => ⟨S5632x512, .bf16⟩
  | .local _ .vmem, ⟨4, _⟩ => ⟨S768x512, .f32⟩
  | .local _ .vmem, ⟨5, _⟩ => ⟨S768x512, .f32⟩
  | .local _ .vmem, ⟨6, _⟩ => ⟨S2x6x512, .f32⟩
  | .local _ .vmem, ⟨7, _⟩ => ⟨S2x6x512, .f32⟩
  | .local _ .vmem, ⟨8, _⟩ => ⟨S768x512, .bf16⟩
  | .local _ .vmem, ⟨9, _⟩ => ⟨S768x512, .bf16⟩
  | .local _ .vmem, ⟨10, _⟩ => ⟨S768x512, .f32⟩
  | .local _ .vmem, ⟨11, _⟩ => ⟨S768x512, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8448x5632 : Shape := ⟨2, ![8448, 5632]⟩
abbrev S5632x2048 : Shape := ⟨2, ![5632, 2048]⟩
abbrev S8448x2048 : Shape := ⟨2, ![8448, 2048]⟩
abbrev S2x6x2048 : Shape := ⟨3, ![2, 6, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x6x2048, .f32⟩
  | .hbm, ⟨4, _⟩ => ⟨S8448x5632, .f32⟩
  | .hbm, ⟨5, _⟩ => ⟨S5632x2048, .f32⟩
  | .hbm, ⟨6, _⟩ => ⟨S8448x2048, .f32⟩
  | .hbm, ⟨7, _⟩ => ⟨S8448x2048, .bf16⟩
  | .hbm, ⟨8, _⟩ => ⟨S256x2048, .f32⟩
  | .hbm, ⟨9, _⟩ => ⟨S1x1x2048, .f32⟩
  | .hbm, ⟨10, _⟩ => ⟨S2048, .f32⟩
  | .hbm, ⟨11, _⟩ => ⟨S256x2048, .f32⟩
  | .hbm, ⟨12, _⟩ => ⟨S1x2048, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S8192x2048, .f32⟩
  | .hbm, ⟨17, _⟩ => ⟨S1x1x2048, .f32⟩
  | .hbm, ⟨18, _⟩ => ⟨S2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel14.lean ====
abbrev S8448x2048 : Shape := ⟨2, ![8448, 2048]⟩
abbrev S2048x2048 : Shape := ⟨2, ![2048, 2048]⟩
abbrev S2x6x2048 : Shape := ⟨3, ![2, 6, 2048]⟩
abbrev S2048x8448 : Shape := ⟨2, ![2048, 8448]⟩
abbrev S384x2048 : Shape := ⟨2, ![384, 2048]⟩
abbrev S2048x384 : Shape := ⟨2, ![2048, 384]⟩
abbrev S384x1 : Shape := ⟨2, ![384, 1]⟩
abbrev S1x1x2048 : Shape := ⟨3, ![1, 1, 2048]⟩
abbrev S1x2048 : Shape := ⟨2, ![1, 2048]⟩
abbrev S384 : Shape := ⟨1, ![384]⟩

abbrev nBuf : Space → Nat
  | .hbm => 8
  | .vmem => 14
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x6x2048, .f32⟩
  | .hbm, ⟨4, _⟩ => ⟨S8448x2048, .bf16⟩
  | .hbm, ⟨5, _⟩ => ⟨S8448x2048, .f32⟩
  | .hbm, ⟨6, _⟩ => ⟨S8448x2048, .bf16⟩
  | .hbm, ⟨7, _⟩ => ⟨S2048x8448, .bf16⟩
  | .local _ .vmem, ⟨0, _⟩ => ⟨S384x2048, .bf16⟩
  | .local _ .vmem, ⟨1, _⟩ => ⟨S384x2048, .bf16⟩
  | .local _ .vmem, ⟨2, _⟩ => ⟨S2048x2048, .bf16⟩
  | .local _ .vmem, ⟨3, _⟩ => ⟨S384x2048, .f32⟩
  | .local _ .vmem, ⟨4, _⟩ => ⟨S384x2048, .f32⟩
  | .local _ .vmem, ⟨5, _⟩ => ⟨S2x6x2048, .f32⟩
  | .local _ .vmem, ⟨6, _⟩ => ⟨S384x2048, .bf16⟩
  | .local _ .vmem, ⟨7, _⟩ => ⟨S384x2048, .bf16⟩
  | .local _ .vmem, ⟨8, _⟩ => ⟨S384x2048, .f32⟩
  | .local _ .vmem, ⟨9, _⟩ => ⟨S384x2048, .f32⟩
  | .local _ .vmem, ⟨10, _⟩ => ⟨S384x2048, .bf16⟩
  | .local _ .vmem, ⟨11, _⟩ => ⟨S384x2048, .bf16⟩
  | .local _ .vmem, ⟨12, _⟩ => ⟨S2048x384, .bf16⟩
  | .local _ .vmem, ⟨13, _⟩ => ⟨S2048x384, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8448x2048 : Shape := ⟨2, ![8448, 2048]⟩
abbrev S2048x2048 : Shape := ⟨2, ![2048, 2048]⟩
abbrev S2x6x2048 : Shape := ⟨3, ![2, 6, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩
abbrev S_ : Shape := ⟨0, ![]⟩
abbrev S8448 : Shape := ⟨1, ![8448]⟩
abbrev S8448x1 : Shape := ⟨2, ![8448, 1]⟩
abbrev S2048x8448 : Shape := ⟨2, ![2048, 8448]⟩

abbrev nBuf : Space → Nat
  | .hbm => 70
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x6x2048, .f32⟩
  | .hbm, ⟨4, _⟩ => ⟨S8448x2048, .f32⟩
  | .hbm, ⟨5, _⟩ => ⟨S2048x2048, .f32⟩
  | .hbm, ⟨6, _⟩ => ⟨S8448x2048, .f32⟩
  | .hbm, ⟨7, _⟩ => ⟨S256x2048, .f32⟩
  | .hbm, ⟨8, _⟩ => ⟨S1x1x2048, .f32⟩
  | .hbm, ⟨9, _⟩ => ⟨S2048, .f32⟩
  | .hbm, ⟨10, _⟩ => ⟨S256x2048, .f32⟩
  | .hbm, ⟨11, _⟩ => ⟨S1x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x2048, .f32⟩
  | .hbm, ⟨36, _⟩ => ⟨S8448x2048, .f32⟩
  | .hbm, ⟨37, _⟩ => ⟨S256x2048, .f32⟩
  | .hbm, ⟨38, _⟩ => ⟨S1x1x2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S1x2048, .f32⟩
  | .hbm, ⟨44, _⟩ => ⟨S256x2048, .f32⟩
  | .hbm, ⟨45, _⟩ => ⟨S256x2048, .f32⟩
  | .hbm, ⟨46, _⟩ => ⟨S1x1x2048, .f32⟩
  | .hbm, ⟨47, _⟩ => ⟨S2048, .f32⟩
  | .hbm, ⟨48, _⟩ => ⟨S1x2048, .f32⟩
  | .hbm, ⟨49, _⟩ => ⟨S256x2048, .f32⟩
  | .hbm, ⟨50, _⟩ => ⟨S256x2048, .f32⟩
  | .hbm, ⟨51, _⟩ => ⟨S8192x2048, .f32⟩
  | .hbm, ⟨52, _⟩ => ⟨S1x1x2048, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S1x1x2048, .f32⟩
  | .hbm, ⟨61, _⟩ => ⟨S2048, .f32⟩
  | .hbm, ⟨62, _⟩ => ⟨S1x2048, .f32⟩
  | .hbm, ⟨63, _⟩ => ⟨S8192x2048, .f32⟩
  | .hbm, ⟨64, _⟩ => ⟨S8192x2048, .f32⟩
  | .hbm, ⟨65, _⟩ => ⟨S8448x2048, .f32⟩
  | .hbm, ⟨66, _⟩ => ⟨S8448x2048, .bf16⟩
  | .hbm, ⟨67, _⟩ => ⟨S8448x2048, .bf16⟩
  | .hbm, ⟨68, _⟩ => ⟨S2048x8448, .f32⟩
  | .hbm, ⟨69, _⟩ => ⟨S2048x8448, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]
-- ==== Kernel15.lean ====
abbrev S8448x2048 : Shape := ⟨2, ![8448, 2048]⟩
abbrev S2x6x2048 : Shape := ⟨3, ![2, 6, 2048]⟩
abbrev S5632x2048 : Shape := ⟨2, ![5632, 2048]⟩
abbrev S8448x5632 : Shape := ⟨2, ![8448, 5632]⟩
abbrev S8x2048 : Shape := ⟨2, ![8, 2048]⟩
abbrev S768x2048 : Shape := ⟨2, ![768, 2048]⟩
abbrev S1408x2048 : Shape := ⟨2, ![1408, 2048]⟩
abbrev S768x1408 : Shape := ⟨2, ![768, 1408]⟩
abbrev S768x1 : Shape := ⟨2, ![768, 1]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x6x2048, .f32⟩
  | .hbm, ⟨3, _⟩ => ⟨S5632x2048, .bf16⟩
  | .hbm, ⟨4, _⟩ => ⟨S8448x5632, .bf16⟩
  | .hbm, ⟨5, _⟩ => ⟨S8448x2048, .bf16⟩
  | .hbm, ⟨6, _⟩ => ⟨S8x2048, .f32⟩
  | .local _ .vmem, ⟨0, _⟩ => ⟨S768x2048, .f32⟩
  | .local _ .vmem, ⟨1, _⟩ => ⟨S768x2048, .f32⟩
  | .local _ .vmem, ⟨2, _⟩ => ⟨S768x2048, .bf16⟩
  | .local _ .vmem, ⟨3, _⟩ => ⟨S768x2048, .bf16⟩
  | .local _ .vmem, ⟨4, _⟩ => ⟨S2x6x2048, .f32⟩
  | .local _ .vmem, ⟨5, _⟩ => ⟨S1408x2048, .bf16⟩
  | .local _ .vmem, ⟨6, _⟩ => ⟨S1408x2048, .bf16⟩
  | .local _ .vmem, ⟨7, _⟩ => ⟨S768x1408, .bf16⟩
  | .local _ .vmem, ⟨8, _⟩ => ⟨S768x1408, .bf16⟩
  | .local _ .vmem, ⟨9, _⟩ => ⟨S768x2048, .bf16⟩
  | .local _ .vmem, ⟨10, _⟩ => ⟨S768x2048, .bf16⟩
  | .local _ .vmem, ⟨11, _⟩ => ⟨S8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S8448x2048 : Shape := ⟨2, ![8448, 2048]⟩
abbrev S2x6x2048 : Shape := ⟨3, ![2, 6, 2048]⟩
abbrev S5632x2048 : Shape := ⟨2, ![5632, 2048]⟩
abbrev S2x1x2048 : Shape := ⟨3, ![2, 1, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S8192x2048 : Shape := ⟨2, ![8192, 2048]⟩
abbrev S_ : Shape := ⟨0, ![]⟩
abbrev S8448x5632 : Shape := ⟨2, ![8448, 5632]⟩
abbrev S6x2048 : Shape := ⟨2, ![6, 2048]⟩
abbrev S8x2048 : Shape := ⟨2, ![8, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x6x2048, .f32⟩
  | .hbm, ⟨3, _⟩ => ⟨S5632x2048, .bf16⟩
  | .hbm, ⟨4, _⟩ => ⟨S2x1x2048, .f32⟩
  | .hbm, ⟨5, _⟩ => ⟨S2x2048, .f32⟩
  | .hbm, ⟨6, _⟩ => ⟨S8448x2048, .f32⟩
  | .hbm, ⟨7, _⟩ => ⟨S1x2048, .f32⟩
  | .hbm, ⟨8, _⟩ => ⟨S2048, .f32⟩
  | .hbm, ⟨9, _⟩ => ⟨S256x2048, .f32⟩
  | .hbm, ⟨10, _⟩ => ⟨S1x2048, .f32⟩
  | .hbm, ⟨11, _⟩ => ⟨S256x2048, .f32⟩
  | .hbm, ⟨12, _⟩ => ⟨S256x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8448x2048, .f32⟩
  | .hbm, ⟨20, _⟩ => ⟨S256x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S8448x2048, .f32⟩
  | .hbm, ⟨32, _⟩ => ⟨S1x2048, .f32⟩
  | .hbm, ⟨33, _⟩ => ⟨S_, .f32⟩
  | .hbm, ⟨34, _⟩ => ⟨S2x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S8448x2048, .f32⟩
  | .hbm, ⟨45, _⟩ => ⟨S8448x2048, .f32⟩
  | .hbm, ⟨46, _⟩ => ⟨S1x2048, .f32⟩
  | .hbm, ⟨47, _⟩ => ⟨S_, .f32⟩
  | .hbm, ⟨48, _⟩ => ⟨S2x2048, .f32⟩
  | .hbm, ⟨49, _⟩ => ⟨S2x2048, .f32⟩
  | .hbm, ⟨50, _⟩ => ⟨S5632x2048, .f32⟩
  | .hbm, ⟨51, _⟩ => ⟨S_, .f32⟩
  | .hbm, ⟨52, _⟩ => ⟨S8448x5632, .f32⟩
  | .hbm, ⟨53, _⟩ => ⟨S8448x2048, .f32⟩
  | .hbm, ⟨54, _⟩ => ⟨S8448x5632, .f32⟩
  | .hbm, ⟨55, _⟩ => ⟨S8448x5632, .bf16⟩
  | .hbm, ⟨56, _⟩ => ⟨S8448x2048, .bf16⟩
  | .hbm, ⟨57, _⟩ => ⟨S_, .f32⟩
  | .hbm, ⟨58, _⟩ => ⟨S6x2048, .f32⟩
  | .hbm, ⟨59, _⟩ => ⟨S8x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel16.lean ====
abbrev S8448x2048 : Shape := ⟨2, ![8448, 2048]⟩
abbrev S2x6x2048 : Shape := ⟨3, ![2, 6, 2048]⟩
abbrev S2048x2048 : Shape := ⟨2, ![2048, 2048]⟩
abbrev S8x2048 : Shape := ⟨2, ![8, 2048]⟩
abbrev S768x2048 : Shape := ⟨2, ![768, 2048]⟩
abbrev S1024x2048 : Shape := ⟨2, ![1024, 2048]⟩
abbrev S768x1024 : Shape := ⟨2, ![768, 1024]⟩
abbrev S768x1 : Shape := ⟨2, ![768, 1]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x6x2048, .f32⟩
  | .hbm, ⟨3, _⟩ => ⟨S2048x2048, .bf16⟩
  | .hbm, ⟨4, _⟩ => ⟨S8448x2048, .bf16⟩
  | .hbm, ⟨5, _⟩ => ⟨S8448x2048, .bf16⟩
  | .hbm, ⟨6, _⟩ => ⟨S8x2048, .f32⟩
  | .local _ .vmem, ⟨0, _⟩ => ⟨S768x2048, .f32⟩
  | .local _ .vmem, ⟨1, _⟩ => ⟨S768x2048, .f32⟩
  | .local _ .vmem, ⟨2, _⟩ => ⟨S768x2048, .bf16⟩
  | .local _ .vmem, ⟨3, _⟩ => ⟨S768x2048, .bf16⟩
  | .local _ .vmem, ⟨4, _⟩ => ⟨S2x6x2048, .f32⟩
  | .local _ .vmem, ⟨5, _⟩ => ⟨S1024x2048, .bf16⟩
  | .local _ .vmem, ⟨6, _⟩ => ⟨S1024x2048, .bf16⟩
  | .local _ .vmem, ⟨7, _⟩ => ⟨S768x1024, .bf16⟩
  | .local _ .vmem, ⟨8, _⟩ => ⟨S768x1024, .bf16⟩
  | .local _ .vmem, ⟨9, _⟩ => ⟨S768x2048, .bf16⟩
  | .local _ .vmem, ⟨10, _⟩ => ⟨S768x2048, .bf16⟩
  | .local _ .vmem, ⟨11, _⟩ => ⟨S8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![11, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference16Ideal.lean ====
abbrev S8448x2048 : Shape := ⟨2, ![8448, 2048]⟩
abbrev S2x6x2048 : Shape := ⟨3, ![2, 6, 2048]⟩
abbrev S2048x2048 : Shape := ⟨2, ![2048, 2048]⟩
abbrev S2x1x2048 : Shape := ⟨3, ![2, 1, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S8192x2048 : Shape := ⟨2, ![8192, 2048]⟩
abbrev S_ : Shape := ⟨0, ![]⟩
abbrev S6x2048 : Shape := ⟨2, ![6, 2048]⟩
abbrev S8x2048 : Shape := ⟨2, ![8, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x6x2048, .f32⟩
  | .hbm, ⟨3, _⟩ => ⟨S2048x2048, .bf16⟩
  | .hbm, ⟨4, _⟩ => ⟨S2x1x2048, .f32⟩
  | .hbm, ⟨5, _⟩ => ⟨S2x2048, .f32⟩
  | .hbm, ⟨6, _⟩ => ⟨S8448x2048, .f32⟩
  | .hbm, ⟨7, _⟩ => ⟨S1x2048, .f32⟩
  | .hbm, ⟨8, _⟩ => ⟨S2048, .f32⟩
  | .hbm, ⟨9, _⟩ => ⟨S256x2048, .f32⟩
  | .hbm, ⟨10, _⟩ => ⟨S1x2048, .f32⟩
  | .hbm, ⟨11, _⟩ => ⟨S256x2048, .f32⟩
  | .hbm, ⟨12, _⟩ => ⟨S256x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8448x2048, .f32⟩
  | .hbm, ⟨20, _⟩ => ⟨S256x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S8448x2048, .f32⟩
  | .hbm, ⟨32, _⟩ => ⟨S1x2048, .f32⟩
  | .hbm, ⟨33, _⟩ => ⟨S_, .f32⟩
  | .hbm, ⟨34, _⟩ => ⟨S2x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S8448x2048, .f32⟩
  | .hbm, ⟨45, _⟩ => ⟨S8448x2048, .f32⟩
  | .hbm, ⟨46, _⟩ => ⟨S1x2048, .f32⟩
  | .hbm, ⟨47, _⟩ => ⟨S_, .f32⟩
  | .hbm, ⟨48, _⟩ => ⟨S2x2048, .f32⟩
  | .hbm, ⟨49, _⟩ => ⟨S2x2048, .f32⟩
  | .hbm, ⟨50, _⟩ => ⟨S2048x2048, .f32⟩
  | .hbm, ⟨51, _⟩ => ⟨S_, .f32⟩
  | .hbm, ⟨52, _⟩ => ⟨S8448x2048, .f32⟩
  | .hbm, ⟨53, _⟩ => ⟨S8448x2048, .f32⟩
  | .hbm, ⟨54, _⟩ => ⟨S8448x2048, .f32⟩
  | .hbm, ⟨55, _⟩ => ⟨S8448x2048, .bf16⟩
  | .hbm, ⟨56, _⟩ => ⟨S8448x2048, .bf16⟩
  | .hbm, ⟨57, _⟩ => ⟨S_, .f32⟩
  | .hbm, ⟨58, _⟩ => ⟨S6x2048, .f32⟩
  | .hbm, ⟨59, _⟩ => ⟨S8x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel17.lean ====
abbrev S16x2048 : Shape := ⟨2, ![16, 2048]⟩
abbrev S4x16x1536 : Shape := ⟨3, ![4, 16, 1536]⟩
abbrev S4x2048x1536 : Shape := ⟨3, ![4, 2048, 1536]⟩
abbrev S1x16x512 : Shape := ⟨3, ![1, 16, 512]⟩
abbrev S1x2048x512 : Shape := ⟨3, ![1, 2048, 512]⟩
abbrev S16x512 : Shape := ⟨2, ![16, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S4x16x1536, .f32⟩
  | .hbm, ⟨2, _⟩ => ⟨S4x2048x1536, .f32⟩
  | .hbm, ⟨3, _⟩ => ⟨S4x2048x1536, .f32⟩
  | .hbm, ⟨4, _⟩ => ⟨S16x2048, .f32⟩
  | .local _ .vmem, ⟨0, _⟩ => ⟨S16x2048, .f32⟩
  | .local _ .vmem, ⟨1, _⟩ => ⟨S1x16x512, .f32⟩
  | .local _ .vmem, ⟨2, _⟩ => ⟨S1x16x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference17Ideal.lean ====
abbrev S16x2048 : Shape := ⟨2, ![16, 2048]⟩
abbrev S4x16x1536 : Shape := ⟨3, ![4, 16, 1536]⟩
abbrev S4x2048x1536 : Shape := ⟨3, ![4, 2048, 1536]⟩
abbrev S_ : Shape := ⟨0, ![]⟩
abbrev S4x16x2048 : Shape := ⟨3, ![4, 16, 2048]⟩
abbrev S4x1536x2048 : Shape := ⟨3, ![4, 1536, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x16x1536, .f32⟩
  | .hbm, ⟨2, _⟩ => ⟨S4x2048x1536, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x16x2048, .f32⟩
  | .hbm, ⟨13, _⟩ => ⟨S4x16x1536, .f32⟩
  | .hbm, ⟨14, _⟩ => ⟨S4x1536x2048, .f32⟩
  | .hbm, ⟨15, _⟩ => ⟨S4x2048x1536, .f32⟩
  | .hbm, ⟨16, _⟩ => ⟨S4x16x2048, .f32⟩
  | .hbm, ⟨17, _⟩ => ⟨S_, .f32⟩
  | .hbm, ⟨18, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel18.lean ====
abbrev S4x2048x1536 : Shape := ⟨3, ![4, 2048, 1536]⟩
abbrev S1x256x1536 : Shape := ⟨3, ![1, 256, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x1536, .f32⟩
  | .hbm, ⟨1, _⟩ => ⟨S4x2048x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S4x2048x1536 : Shape := ⟨3, ![4, 2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x1536, .f32⟩
  | .hbm, ⟨2, _⟩ => ⟨S4x2048x1536, .f32⟩
  | .hbm, ⟨3, _⟩ => ⟨S4x2048x1536, .f32⟩
  | .hbm, ⟨4, _⟩ => ⟨S_, .f32⟩
  | .hbm, ⟨5, _⟩ => ⟨S4x2048x1536, .f32⟩
  | .hbm, ⟨6, _⟩ => ⟨S4x2048x1536, .f32⟩
  | .hbm, ⟨7, _⟩ => ⟨S_, .f32⟩
  | .hbm, ⟨8, _⟩ => ⟨S4x2048x1536, .f32⟩
  | .hbm, ⟨9, _⟩ => ⟨S4x2048x1536, .f32⟩
  | .hbm, ⟨10, _⟩ => ⟨S4x2048x1536, .f32⟩
  | .hbm, ⟨11, _⟩ => ⟨S_, .f32⟩
  | .hbm, ⟨12, _⟩ => ⟨S4x2048x1536, .f32⟩
  | .hbm, ⟨13, _⟩ => ⟨S4x2048x1536, .f32⟩
  | .hbm, ⟨14, _⟩ => ⟨S4x2048x1536, .f32⟩
  | .hbm, ⟨15, _⟩ => ⟨S_, .f32⟩
  | .hbm, ⟨16, _⟩ => ⟨S4x2048x1536, .f32⟩
  | .hbm, ⟨17, _⟩ => ⟨S4x2048x1536, .f32⟩
  | .hbm, ⟨18, _⟩ => ⟨S4x2048x1536, .f32⟩
  | .hbm, ⟨19, _⟩ => ⟨S_, .f32⟩
  | .hbm, ⟨20, _⟩ => ⟨S4x2048x1536, .f32⟩
  | .hbm, ⟨21, _⟩ => ⟨S4x2048x1536, .f32⟩
  | .hbm, ⟨22, _⟩ => ⟨S_, .f32⟩
  | .hbm, ⟨23, _⟩ => ⟨S4x2048x1536, .f32⟩
  | .hbm, ⟨24, _⟩ => ⟨S4x2048x1536, .f32⟩
  | .hbm, ⟨25, _⟩ => ⟨S4x2048x1536, .f32⟩
  | .hbm, ⟨26, _⟩ => ⟨S_, .f32⟩
  | .hbm, ⟨27, _⟩ => ⟨S4x2048x1536, .f32⟩
  | .hbm, ⟨28, _⟩ => ⟨S4x2048x1536, .f32⟩
  | .hbm, ⟨29, _⟩ => ⟨S4x2048x1536, .f32⟩
  | .hbm, ⟨30, _⟩ => ⟨S_, .f32⟩
  | .hbm, ⟨31, _⟩ => ⟨S4x2048x1536, .f32⟩
  | .hbm, ⟨32, _⟩ => ⟨S4x2048x1536, .f32⟩
  | .hbm, ⟨33, _⟩ => ⟨S4x2048x1536, .f32⟩
  | .hbm, ⟨34, _⟩ => ⟨S_, .f32⟩
  | .hbm, ⟨35, _⟩ => ⟨S4x2048x1536, .f32⟩
  | .hbm, ⟨36, _⟩ => ⟨S4x2048x1536, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S8448x6144 : Shape := ⟨2, ![8448, 6144]⟩
abbrev S2x3x2048 : Shape := ⟨3, ![2, 3, 2048]⟩
abbrev S8448x2048 : Shape := ⟨2, ![8448, 2048]⟩
abbrev S384x1024 : Shape := ⟨2, ![384, 1024]⟩
abbrev S16x1024 : Shape := ⟨2, ![16, 1024]⟩
abbrev S1x3x1024 : Shape := ⟨3, ![1, 3, 1024]⟩
abbrev S416x1 : Shape := ⟨2, ![416, 1]⟩
abbrev S416x1024 : Shape := ⟨2, ![416, 1024]⟩
abbrev S1x1x1024 : Shape := ⟨3, ![1, 1, 1024]⟩
abbrev S1x1024 : Shape := ⟨2, ![1, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8448x6144, .bf16⟩
  | .hbm, ⟨1, _⟩ => ⟨S2x3x2048, .f32⟩
  | .hbm, ⟨2, _⟩ => ⟨S8448x2048, .bf16⟩
  | .local _ .vmem, ⟨0, _⟩ => ⟨S384x1024, .bf16⟩
  | .local _ .vmem, ⟨1, _⟩ => ⟨S384x1024, .bf16⟩
  | .local _ .vmem, ⟨2, _⟩ => ⟨S16x1024, .bf16⟩
  | .local _ .vmem, ⟨3, _⟩ => ⟨S16x1024, .bf16⟩
  | .local _ .vmem, ⟨4, _⟩ => ⟨S384x1024, .bf16⟩
  | .local _ .vmem, ⟨5, _⟩ => ⟨S384x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S384x1024, .bf16⟩
  | .local _ .vmem, ⟨11, _⟩ => ⟨S384x1024, .bf16⟩
  | .local _ .vmem, ⟨12, _⟩ => ⟨S16x1024, .bf16⟩
  | .local _ .vmem, ⟨13, _⟩ => ⟨S16x1024, .bf16⟩
  | .local _ .vmem, ⟨14, _⟩ => ⟨S1x3x1024, .f32⟩
  | .local _ .vmem, ⟨15, _⟩ => ⟨S1x3x1024, .f32⟩
  | .local _ .vmem, ⟨16, _⟩ => ⟨S384x1024, .bf16⟩
  | .local _ .vmem, ⟨17, _⟩ => ⟨S384x1024, .bf16⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c21_i32 : BitVec 32 := 21#32
  let v1 : BitVec 1 := Scalar.cmpi .eq arg1 c21_i32
  let v2 : BitVec 1 := Scalar.ori v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let c21_i32 : BitVec 32 := 21#32
  let v1 : BitVec 1 := Scalar.cmpi .eq arg1 c21_i32
  let v2 : BitVec 1 := Scalar.ori v0 v1
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c24_i32 : BitVec 32 := 24#32
  let v1 : BitVec 32 := Scalar.muli v0 c24_i32
  let c527_i32 : BitVec 32 := 527#32
  let v2 : BitVec 32 := Scalar.minsi v1 c527_i32
  let c2_i32 : BitVec 32 := 2#32
  let v3 : BitVec 32 := Scalar.addi arg0 c2_i32
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c24_i32 : BitVec 32 := 24#32
  let v1 : BitVec 32 := Scalar.muli v0 c24_i32
  let c527_i32 : BitVec 32 := 527#32
  let v2 : BitVec 32 := Scalar.minsi v1 c527_i32
  let c4_i32 : BitVec 32 := 4#32
  let v3 : BitVec 32 := Scalar.addi arg0 c4_i32
  let c0_i32 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8448x6144 : Shape := ⟨2, ![8448, 6144]⟩
abbrev S2x3x2048 : Shape := ⟨3, ![2, 3, 2048]⟩
abbrev S1x3x2048 : Shape := ⟨3, ![1, 3, 2048]⟩
abbrev S3x2048 : Shape := ⟨2, ![3, 2048]⟩
abbrev S256x6144 : Shape := ⟨2, ![256, 6144]⟩
abbrev S256x2048 : Shape := ⟨2, ![256, 2048]⟩
abbrev S_ : Shape := ⟨0, ![]⟩
abbrev S1x2048 : Shape := ⟨2, ![1, 2048]⟩
abbrev S258x2048 : Shape := ⟨2, ![258, 2048]⟩
abbrev S2048 : Shape := ⟨1, ![2048]⟩
abbrev S8192x6144 : Shape := ⟨2, ![8192, 6144]⟩
abbrev S8192x2048 : Shape := ⟨2, ![8192, 2048]⟩
abbrev S8194x2048 : Shape := ⟨2, ![8194, 2048]⟩
abbrev S8448x2048 : Shape := ⟨2, ![8448, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S2x3x2048, .f32⟩
  | .hbm, ⟨2, _⟩ => ⟨S8448x6144, .f32⟩
  | .hbm, ⟨3, _⟩ => ⟨S1x3x2048, .f32⟩
  | .hbm, ⟨4, _⟩ => ⟨S3x2048, .f32⟩
  | .hbm, ⟨5, _⟩ => ⟨S256x6144, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S1x2048, .f32⟩
  | .hbm, ⟨12, _⟩ => ⟨S258x2048, .f32⟩
  | .hbm, ⟨13, _⟩ => ⟨S256x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S8192x6144, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S1x2048, .f32⟩
  | .hbm, ⟨41, _⟩ => ⟨S8194x2048, .f32⟩
  | .hbm, ⟨42, _⟩ => ⟨S8192x2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8448x2048, .f32⟩
  | .hbm, ⟨64, _⟩ => ⟨S8448x2048, .bf16⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_cst_0 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩

abbrev nD : Nat := 1
abbrev τ : Topo := Topo.v7x

variable {F : FTy → Type} [FloatOps F]
-- ==== Kernel20.lean ====
abbrev S4x16x12288 : Shape := ⟨3, ![4, 16, 12288]⟩
abbrev S4x1x12288 : Shape := ⟨3, ![4, 1, 12288]⟩
abbrev S1x16x12288 : Shape := ⟨3, ![1, 16, 12288]⟩
abbrev S1x1x12288 : Shape := ⟨3, ![1, 1, 12288]⟩
abbrev S16x12288 : Shape := ⟨2, ![16, 12288]⟩
abbrev S12288 : Shape := ⟨1, ![12288]⟩
abbrev S1x12288 : Shape := ⟨2, ![1, 12288]⟩

abbrev nBuf : Space → Nat
  | .hbm => 2
  | .vmem => 4
  | .smem => 0
  | _ => 0

abbrev bufTy : (tb : Table) → Fin (tcTables nBuf tb) → BufTy
  | .hbm, ⟨0, _⟩ => ⟨S4x16x12288, .f32⟩
  | .hbm, ⟨1, _⟩ => ⟨S4x1x12288, .f32⟩
  | .local _ .vmem, ⟨0, _⟩ => ⟨S1x16x12288, .f32⟩
  | .local _ .vmem, ⟨1, _⟩ => ⟨S1x16x12288, .f32⟩
  | .local _ .vmem, ⟨2, _⟩ => ⟨S1x1x12288, .f32⟩
  | .local _ .vmem, ⟨3, _⟩ => ⟨S1x1x12288, .f32⟩
  | _, _ => ⟨S4x16x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S4x16x12288 : Shape := ⟨3, ![4, 16, 12288]⟩
abbrev S_ : Shape := ⟨0, ![]⟩
abbrev S4x1x12288 : Shape := ⟨3, ![4, 1, 12288]⟩
abbrev S4x12288 : Shape := ⟨2, ![4, 12288]⟩

abbrev nBuf : Space → Nat
  | .hbm => 7
  | .vmem => 0
  | .smem => 0
  | _ => 0

abbrev bufTy : (tb : Table) → Fin (tcTables nBuf tb) → BufTy
  | .hbm, ⟨0, _⟩ => ⟨S4x16x12288, .f32⟩
  | .hbm, ⟨1, _⟩ => ⟨S_, .f32⟩
  | .hbm, ⟨2, _⟩ => ⟨S4x1x12288, .f32⟩
  | .hbm, ⟨3, _⟩ => ⟨S4x16x12288, .f32⟩
  | .hbm, ⟨4, _⟩ => ⟨S_, .f32⟩
  | .hbm, ⟨5, _⟩ => ⟨S4x12288, .f32⟩
  | .hbm, ⟨6, _⟩ => ⟨S4x1x12288, .f32⟩
  | _, _ => ⟨S4x16x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel21Ideal.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference21Ideal.lean ====
abbrev S4x12288 : Shape := ⟨2, ![4, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S_, .f32⟩
  | .hbm, ⟨5, _⟩ => ⟨S4x12288, .f32⟩
  | .hbm, ⟨6, _⟩ => ⟨S4x12288, .f32⟩
  | .hbm, ⟨7, _⟩ => ⟨S_, .f32⟩
  | .hbm, ⟨8, _⟩ => ⟨S4x12288, .f32⟩
  | .hbm, ⟨9, _⟩ => ⟨S4x12288, .f32⟩
  | .hbm, ⟨10, _⟩ => ⟨S4x12288, .f32⟩
  | .hbm, ⟨11, _⟩ => ⟨S_, .f32⟩
  | .hbm, ⟨12, _⟩ => ⟨S4x12288, .f32⟩
  | .hbm, ⟨13, _⟩ => ⟨S4x12288, .f32⟩
  | .hbm, ⟨14, _⟩ => ⟨S4x12288, .f32⟩
  | .hbm, ⟨15, _⟩ => ⟨S_, .f32⟩
  | .hbm, ⟨16, _⟩ => ⟨S4x12288, .f32⟩
  | .hbm, ⟨17, _⟩ => ⟨S4x12288, .f32⟩
  | .hbm, ⟨18, _⟩ => ⟨S4x12288, .f32⟩
  | .hbm, ⟨19, _⟩ => ⟨S_, .f32⟩
  | .hbm, ⟨20, _⟩ => ⟨S4x12288, .f32⟩
  | .hbm, ⟨21, _⟩ => ⟨S4x12288, .f32⟩
  | .hbm, ⟨22, _⟩ => ⟨S_, .f32⟩
  | .hbm, ⟨23, _⟩ => ⟨S4x12288, .f32⟩
  | .hbm, ⟨24, _⟩ => ⟨S4x12288, .f32⟩
  | .hbm, ⟨25, _⟩ => ⟨S4x12288, .f32⟩
  | .hbm, ⟨26, _⟩ => ⟨S_, .f32⟩
  | .hbm, ⟨27, _⟩ => ⟨S4x12288, .f32⟩
  | .hbm, ⟨28, _⟩ => ⟨S4x12288, .f32⟩
  | .hbm, ⟨29, _⟩ => ⟨S4x12288, .f32⟩
  | .hbm, ⟨30, _⟩ => ⟨S_, .f32⟩
  | .hbm, ⟨31, _⟩ => ⟨S4x12288, .f32⟩
  | .hbm, ⟨32, _⟩ => ⟨S4x12288, .f32⟩
  | .hbm, ⟨33, _⟩ => ⟨S4x12288, .f32⟩
  | .hbm, ⟨34, _⟩ => ⟨S_, .f32⟩
  | .hbm, ⟨35, _⟩ => ⟨S4x12288, .f32⟩
  | .hbm, ⟨36, _⟩ => ⟨S4x12288, .f32⟩
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel22Ideal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference22Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel23Ideal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference23Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel24Ideal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference24Ideal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel25Ideal.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference25Ideal.lean ====
abbrev S6x256 : Shape := ⟨2, ![6, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S_, .f32⟩
  | .hbm, ⟨5, _⟩ => ⟨S6x256, .f32⟩
  | .hbm, ⟨6, _⟩ => ⟨S6x256, .f32⟩
  | .hbm, ⟨7, _⟩ => ⟨S_, .f32⟩
  | .hbm, ⟨8, _⟩ => ⟨S6x256, .f32⟩
  | .hbm, ⟨9, _⟩ => ⟨S6x256, .f32⟩
  | .hbm, ⟨10, _⟩ => ⟨S6x256, .f32⟩
  | .hbm, ⟨11, _⟩ => ⟨S_, .f32⟩
  | .hbm, ⟨12, _⟩ => ⟨S6x256, .f32⟩
  | .hbm, ⟨13, _⟩ => ⟨S6x256, .f32⟩
  | .hbm, ⟨14, _⟩ => ⟨S6x256, .f32⟩
  | .hbm, ⟨15, _⟩ => ⟨S_, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S_, .f32⟩
  | .hbm, ⟨20, _⟩ => ⟨S6x256, .f32⟩
  | .hbm, ⟨21, _⟩ => ⟨S6x256, .f32⟩
  | .hbm, ⟨22, _⟩ => ⟨S_, .f32⟩
  | .hbm, ⟨23, _⟩ => ⟨S6x256, .f32⟩
  | .hbm, ⟨24, _⟩ => ⟨S6x256, .f32⟩
  | .hbm, ⟨25, _⟩ => ⟨S6x256, .f32⟩
  | .hbm, ⟨26, _⟩ => ⟨S_, .f32⟩
  | .hbm, ⟨27, _⟩ => ⟨S6x256, .f32⟩
  | .hbm, ⟨28, _⟩ => ⟨S6x256, .f32⟩
  | .hbm, ⟨29, _⟩ => ⟨S6x256, .f32⟩
  | .hbm, ⟨30, _⟩ => ⟨S_, .f32⟩
  | .hbm, ⟨31, _⟩ => ⟨S6x256, .f32⟩
  | .hbm, ⟨32, _⟩ => ⟨S6x256, .f32⟩
  | .hbm, ⟨33, _⟩ => ⟨S6x256, .f32⟩
  | .hbm, ⟨34, _⟩ => ⟨S_, .f32⟩
  | .hbm, ⟨35, _⟩ => ⟨S6x256, .f32⟩
  | .hbm, ⟨36, _⟩ => ⟨S6x256, .f32⟩
  | _, _ => ⟨S6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S12x704 : Shape := ⟨2, ![12, 704]⟩

abbrev nBuf : Space → Nat
  | .hbm => 7
  | .vmem => 7
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S12x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel26Ideal.lean ====
abbrev S12x704 : Shape := ⟨2, ![12, 704]⟩

abbrev nBuf : Space → Nat
  | .hbm => 7
  | .vmem => 7
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S12x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference26Ideal.lean ====
abbrev S12x704 : Shape := ⟨2, ![12, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S_, .f32⟩
  | .hbm, ⟨5, _⟩ => ⟨S12x704, .f32⟩
  | .hbm, ⟨6, _⟩ => ⟨S12x704, .f32⟩
  | .hbm, ⟨7, _⟩ => ⟨S_, .f32⟩
  | .hbm, ⟨8, _⟩ => ⟨S12x704, .f32⟩
  | .hbm, ⟨9, _⟩ => ⟨S12x704, .f32⟩
  | .hbm, ⟨10, _⟩ => ⟨S12x704, .f32⟩
  | .hbm, ⟨11, _⟩ => ⟨S_, .f32⟩
  | .hbm, ⟨12, _⟩ => ⟨S12x704, .f32⟩
  | .hbm, ⟨13, _⟩ => ⟨S12x704, .f32⟩
  | .hbm, ⟨14, _⟩ => ⟨S12x704, .f32⟩
  | .hbm, ⟨15, _⟩ => ⟨S_, .f32⟩
  | .hbm, ⟨16, _⟩ => ⟨S12x704, .f32⟩
  | .hbm, ⟨17, _⟩ => ⟨S12x704, .f32⟩
  | .hbm, ⟨18, _⟩ => ⟨S12x704, .f32⟩
  | .hbm, ⟨19, _⟩ => ⟨S_, .f32⟩
  | .hbm, ⟨20, _⟩ => ⟨S12x704, .f32⟩
  | .hbm, ⟨21, _⟩ => ⟨S12x704, .f32⟩
  | .hbm, ⟨22, _⟩ => ⟨S_, .f32⟩
  | .hbm, ⟨23, _⟩ => ⟨S12x704, .f32⟩
  | .hbm, ⟨24, _⟩ => ⟨S12x704, .f32⟩
  | .hbm, ⟨25, _⟩ => ⟨S12x704, .f32⟩
  | .hbm, ⟨26, _⟩ => ⟨S_, .f32⟩
  | .hbm, ⟨27, _⟩ => ⟨S12x704, .f32⟩
  | .hbm, ⟨28, _⟩ => ⟨S12x704, .f32⟩
  | .hbm, ⟨29, _⟩ => ⟨S12x704, .f32⟩
  | .hbm, ⟨30, _⟩ => ⟨S_, .f32⟩
  | .hbm, ⟨31, _⟩ => ⟨S12x704, .f32⟩
  | .hbm, ⟨32, _⟩ => ⟨S12x704, .f32⟩
  | .hbm, ⟨33, _⟩ => ⟨S12x704, .f32⟩
  | .hbm, ⟨34, _⟩ => ⟨S_, .f32⟩
  | .hbm, ⟨35, _⟩ => ⟨S12x704, .f32⟩
  | .hbm, ⟨36, _⟩ => ⟨S12x704, .f32⟩
  | _, _ => ⟨S12x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference27Ideal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S12672x128 : Shape := ⟨2, ![12672, 128]⟩
abbrev S1584x128 : Shape := ⟨2, ![1584, 128]⟩

abbrev nBuf : Space → Nat
  | .hbm => 2
  | .vmem => 2
  | .smem => 0
  | _ => 0

abbrev bufTy : (tb : Table) → Fin (tcTables nBuf tb) → BufTy
  | .hbm, ⟨0, _⟩ => ⟨S12672x128, .f32⟩
  | .hbm, ⟨1, _⟩ => ⟨S1584x128, .f32⟩
  | .local _ .vmem, ⟨0, _⟩ => ⟨S12672x128, .f32⟩
  | .local _ .vmem, ⟨1, _⟩ => ⟨S1584x128, .f32⟩
  | _, _ => ⟨S12672x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12672x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1584x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference28Ideal.lean ====
abbrev S12672x128 : Shape := ⟨2, ![12672, 128]⟩
abbrev S8x1584x128 : Shape := ⟨3, ![8, 1584, 128]⟩
abbrev S_ : Shape := ⟨0, ![]⟩
abbrev S1584x128 : Shape := ⟨2, ![1584, 128]⟩

abbrev nBuf : Space → Nat
  | .hbm => 4
  | .vmem => 0
  | .smem => 0
  | _ => 0

abbrev bufTy : (tb : Table) → Fin (tcTables nBuf tb) → BufTy
  | .hbm, ⟨0, _⟩ => ⟨S12672x128, .f32⟩
  | .hbm, ⟨1, _⟩ => ⟨S8x1584x128, .f32⟩
  | .hbm, ⟨2, _⟩ => ⟨S_, .f32⟩
  | .hbm, ⟨3, _⟩ => ⟨S1584x128, .f32⟩
  | _, _ => ⟨S12672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S8x2048x384 : Shape := ⟨3, ![8, 2048, 384]⟩
abbrev S7x2048x384 : Shape := ⟨3, ![7, 2048, 384]⟩
abbrev S2x2048x384 : Shape := ⟨3, ![2, 2048, 384]⟩
abbrev S_ : Shape := ⟨0, ![]⟩
abbrev S1 : Shape := ⟨1, ![1]⟩
abbrev S1x256x384 : Shape := ⟨3, ![1, 256, 384]⟩
abbrev S7x256x384 : Shape := ⟨3, ![7, 256, 384]⟩
abbrev S256x384 : Shape := ⟨2, ![256, 384]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x384, .bf16⟩
  | .hbm, ⟨1, _⟩ => ⟨S7x2048x384, .bf16⟩
  | .hbm, ⟨2, _⟩ => ⟨S2x2048x384, .f32⟩
  | .hbm, ⟨3, _⟩ => ⟨S2x2048x384, .f32⟩
  | .hbm, ⟨4, _⟩ => ⟨S2x2048x384, .f32⟩
  | .hbm, ⟨5, _⟩ => ⟨S2x2048x384, .f32⟩
  | .hbm, ⟨6, _⟩ => ⟨S2x2048x384, .f32⟩
  | .hbm, ⟨7, _⟩ => ⟨S2x2048x384, .f32⟩
  | .hbm, ⟨8, _⟩ => ⟨S2x2048x384, .f32⟩
  | .hbm, ⟨9, _⟩ => ⟨S_, .i32⟩
  | .hbm, ⟨10, _⟩ => ⟨S2x2048x384, .f32⟩
  | .hbm, ⟨11, _⟩ => ⟨S2x2048x384, .f32⟩
  | .hbm, ⟨12, _⟩ => ⟨S2x2048x384, .f32⟩
  | .hbm, ⟨13, _⟩ => ⟨S2x2048x384, .f32⟩
  | .local _ .vmem, ⟨0, _⟩ => ⟨S1x256x384, .bf16⟩
  | .local _ .vmem, ⟨1, _⟩ => ⟨S1x256x384, .bf16⟩
  | .local _ .vmem, ⟨2, _⟩ => ⟨S7x256x384, .bf16⟩
  | .local _ .vmem, ⟨3, _⟩ => ⟨S7x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel29Ideal.lean ====
abbrev S8x2048x384 : Shape := ⟨3, ![8, 2048, 384]⟩
abbrev S7x2048x384 : Shape := ⟨3, ![7, 2048, 384]⟩
abbrev S2x2048x384 : Shape := ⟨3, ![2, 2048, 384]⟩
abbrev S_ : Shape := ⟨0, ![]⟩
abbrev S1 : Shape := ⟨1, ![1]⟩
abbrev S1x256x384 : Shape := ⟨3, ![1, 256, 384]⟩
abbrev S7x256x384 : Shape := ⟨3, ![7, 256, 384]⟩
abbrev S256x384 : Shape := ⟨2, ![256, 384]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x384, .bf16⟩
  | .hbm, ⟨1, _⟩ => ⟨S7x2048x384, .bf16⟩
  | .hbm, ⟨2, _⟩ => ⟨S2x2048x384, .f32⟩
  | .hbm, ⟨3, _⟩ => ⟨S2x2048x384, .f32⟩
  | .hbm, ⟨4, _⟩ => ⟨S2x2048x384, .f32⟩
  | .hbm, ⟨5, _⟩ => ⟨S2x2048x384, .f32⟩
  | .hbm, ⟨6, _⟩ => ⟨S2x2048x384, .f32⟩
  | .hbm, ⟨7, _⟩ => ⟨S2x2048x384, .f32⟩
  | .hbm, ⟨8, _⟩ => ⟨S2x2048x384, .f32⟩
  | .hbm, ⟨9, _⟩ => ⟨S_, .i32⟩
  | .hbm, ⟨10, _⟩ => ⟨S2x2048x384, .f32⟩
  | .hbm, ⟨11, _⟩ => ⟨S2x2048x384, .f32⟩
  | .hbm, ⟨12, _⟩ => ⟨S2x2048x384, .f32⟩
  | .hbm, ⟨13, _⟩ => ⟨S2x2048x384, .f32⟩
  | .local _ .vmem, ⟨0, _⟩ => ⟨S1x256x384, .bf16⟩
  | .local _ .vmem, ⟨1, _⟩ => ⟨S1x256x384, .bf16⟩
  | .local _ .vmem, ⟨2, _⟩ => ⟨S7x256x384, .bf16⟩
  | .local _ .vmem, ⟨3, _⟩ => ⟨S7x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference29Ideal.lean ====
abbrev S8x2048x384 : Shape := ⟨3, ![8, 2048, 384]⟩
abbrev S7x2048x384 : Shape := ⟨3, ![7, 2048, 384]⟩
abbrev S2x2048x384 : Shape := ⟨3, ![2, 2048, 384]⟩
abbrev S1x2048x384 : Shape := ⟨3, ![1, 2048, 384]⟩
abbrev S2048x384 : Shape := ⟨2, ![2048, 384]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S7x2048x384, .bf16⟩
  | .hbm, ⟨2, _⟩ => ⟨S2x2048x384, .f32⟩
  | .hbm, ⟨3, _⟩ => ⟨S2x2048x384, .f32⟩
  | .hbm, ⟨4, _⟩ => ⟨S2x2048x384, .f32⟩
  | .hbm, ⟨5, _⟩ => ⟨S2x2048x384, .f32⟩
  | .hbm, ⟨6, _⟩ => ⟨S2x2048x384, .f32⟩
  | .hbm, ⟨7, _⟩ => ⟨S2x2048x384, .f32⟩
  | .hbm, ⟨8, _⟩ => ⟨S2x2048x384, .f32⟩
  | .hbm, ⟨9, _⟩ => ⟨S1x2048x384, .bf16⟩
  | .hbm, ⟨10, _⟩ => ⟨S2048x384, .bf16⟩
  | .hbm, ⟨11, _⟩ => ⟨S2048x384, .f32⟩
  | .hbm, ⟨12, _⟩ => ⟨S7x2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S1x2048x384, .f32⟩
  | .hbm, ⟨17, _⟩ => ⟨S2048x384, .f32⟩
  | .hbm, ⟨18, _⟩ => ⟨S1x2048x384, .f32⟩
  | .hbm, ⟨19, _⟩ => ⟨S2048x384, .f32⟩
  | .hbm, ⟨20, _⟩ => ⟨S1x2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S_, .f32⟩
  | .hbm, ⟨38, _⟩ => ⟨S2048x384, .f32⟩
  | .hbm, ⟨39, _⟩ => ⟨S2048x384, .f32⟩
  | .hbm, ⟨40, _⟩ => ⟨S_, .f32⟩
  | .hbm, ⟨41, _⟩ => ⟨S2048x384, .f32⟩
  | .hbm, ⟨42, _⟩ => ⟨S2048x384, .f32⟩
  | .hbm, ⟨43, _⟩ => ⟨S2048x384, .f32⟩
  | .hbm, ⟨44, _⟩ => ⟨S_, .f32⟩
  | .hbm, ⟨45, _⟩ => ⟨S2048x384, .f32⟩
  | .hbm, ⟨46, _⟩ => ⟨S2048x384, .f32⟩
  | .hbm, ⟨47, _⟩ => ⟨S2048x384, .f32⟩
  | .hbm, ⟨48, _⟩ => ⟨S_, .f32⟩
  | .hbm, ⟨49, _⟩ => ⟨S2048x384, .f32⟩
  | .hbm, ⟨50, _⟩ => ⟨S2048x384, .f32⟩
  | .hbm, ⟨51, _⟩ => ⟨S2048x384, .f32⟩
  | .hbm, ⟨52, _⟩ => ⟨S_, .f32⟩
  | .hbm, ⟨53, _⟩ => ⟨S2048x384, .f32⟩
  | .hbm, ⟨54, _⟩ => ⟨S2048x384, .f32⟩
  | .hbm, ⟨55, _⟩ => ⟨S1x2048x384, .f32⟩
  | .hbm, ⟨56, _⟩ => ⟨S1x2048x384, .f32⟩
  | .hbm, ⟨57, _⟩ => ⟨S2x2048x384, .f32⟩
  | .hbm, ⟨58, _⟩ => ⟨S1x2048x384, .f32⟩
  | .hbm, ⟨59, _⟩ => ⟨S1x2048x384, .f32⟩
  | .hbm, ⟨60, _⟩ => ⟨S2x2048x384, .f32⟩
  | .hbm, ⟨61, _⟩ => ⟨S1x2048x384, .f32⟩
  | .hbm, ⟨62, _⟩ => ⟨S1x2048x384, .f32⟩
  | .hbm, ⟨63, _⟩ => ⟨S2x2048x384, .f32⟩
  | .hbm, ⟨64, _⟩ => ⟨S1x2048x384, .f32⟩
  | .hbm, ⟨65, _⟩ => ⟨S1x2048x384, .f32⟩
  | .hbm, ⟨66, _⟩ => ⟨S2x2048x384, .f32⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel30.lean ====
abbrev S8x256x2048 : Shape := ⟨3, ![8, 256, 2048]⟩
abbrev S7x256x2048 : Shape := ⟨3, ![7, 256, 2048]⟩
abbrev S2x256x2048 : Shape := ⟨3, ![2, 256, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 14
  | .vmem => 9
  | .smem => 1
  | _ => 0

abbrev bufTy : (tb : Table) → Fin (tcTables nBuf tb) → BufTy
  | .hbm, ⟨0, _⟩ => ⟨S8x256x2048, .bf16⟩
  | .hbm, ⟨1, _⟩ => ⟨S7x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S_, .i32⟩
  | .hbm, ⟨10, _⟩ => ⟨S2x256x2048, .f32⟩
  | .hbm, ⟨11, _⟩ => ⟨S2x256x2048, .f32⟩
  | .hbm, ⟨12, _⟩ => ⟨S2x256x2048, .f32⟩
  | .hbm, ⟨13, _⟩ => ⟨S2x256x2048, .f32⟩
  | .local _ .vmem, ⟨0, _⟩ => ⟨S1x256x2048, .bf16⟩
  | .local _ .vmem, ⟨1, _⟩ => ⟨S7x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel30Ideal.lean ====
abbrev S8x256x2048 : Shape := ⟨3, ![8, 256, 2048]⟩
abbrev S7x256x2048 : Shape := ⟨3, ![7, 256, 2048]⟩
abbrev S2x256x2048 : Shape := ⟨3, ![2, 256, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 14
  | .vmem => 9
  | .smem => 1
  | _ => 0

abbrev bufTy : (tb : Table) → Fin (tcTables nBuf tb) → BufTy
  | .hbm, ⟨0, _⟩ => ⟨S8x256x2048, .bf16⟩
  | .hbm, ⟨1, _⟩ => ⟨S7x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S_, .i32⟩
  | .hbm, ⟨10, _⟩ => ⟨S2x256x2048, .f32⟩
  | .hbm, ⟨11, _⟩ => ⟨S2x256x2048, .f32⟩
  | .hbm, ⟨12, _⟩ => ⟨S2x256x2048, .f32⟩
  | .hbm, ⟨13, _⟩ => ⟨S2x256x2048, .f32⟩
  | .local _ .vmem, ⟨0, _⟩ => ⟨S1x256x2048, .bf16⟩
  | .local _ .vmem, ⟨1, _⟩ => ⟨S7x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference30Ideal.lean ====
abbrev S8x256x2048 : Shape := ⟨3, ![8, 256, 2048]⟩
abbrev S7x256x2048 : Shape := ⟨3, ![7, 256, 2048]⟩
abbrev S2x256x2048 : Shape := ⟨3, ![2, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S7x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S1x256x2048, .bf16⟩
  | .hbm, ⟨10, _⟩ => ⟨S256x2048, .bf16⟩
  | .hbm, ⟨11, _⟩ => ⟨S256x2048, .f32⟩
  | .hbm, ⟨12, _⟩ => ⟨S7x256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S1x256x2048, .f32⟩
  | .hbm, ⟨17, _⟩ => ⟨S256x2048, .f32⟩
  | .hbm, ⟨18, _⟩ => ⟨S1x256x2048, .f32⟩
  | .hbm, ⟨19, _⟩ => ⟨S256x2048, .f32⟩
  | .hbm, ⟨20, _⟩ => ⟨S1x256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | .hbm, ⟨55, _⟩ => ⟨S1x256x2048, .f32⟩
  | .hbm, ⟨56, _⟩ => ⟨S1x256x2048, .f32⟩
  | .hbm, ⟨57, _⟩ => ⟨S2x256x2048, .f32⟩
  | .hbm, ⟨58, _⟩ => ⟨S1x256x2048, .f32⟩
  | .hbm, ⟨59, _⟩ => ⟨S1x256x2048, .f32⟩
  | .hbm, ⟨60, _⟩ => ⟨S2x256x2048, .f32⟩
  | .hbm, ⟨61, _⟩ => ⟨S1x256x2048, .f32⟩
  | .hbm, ⟨62, _⟩ => ⟨S1x256x2048, .f32⟩
  | .hbm, ⟨63, _⟩ => ⟨S2x256x2048, .f32⟩
  | .hbm, ⟨64, _⟩ => ⟨S1x256x2048, .f32⟩
  | .hbm, ⟨65, _⟩ => ⟨S1x256x2048, .f32⟩
  | .hbm, ⟨66, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel31.lean ====
abbrev S8x2048x768 : Shape := ⟨3, ![8, 2048, 768]⟩
abbrev S7x2048x768 : Shape := ⟨3, ![7, 2048, 768]⟩
abbrev S2x2048x768 : Shape := ⟨3, ![2, 2048, 768]⟩
abbrev S_ : Shape := ⟨0, ![]⟩
abbrev S1 : Shape := ⟨1, ![1]⟩
abbrev S1x256x768 : Shape := ⟨3, ![1, 256, 768]⟩
abbrev S7x256x768 : Shape := ⟨3, ![7, 256, 768]⟩
abbrev S256x768 : Shape := ⟨2, ![256, 768]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x768, .bf16⟩
  | .hbm, ⟨1, _⟩ => ⟨S7x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S_, .i32⟩
  | .hbm, ⟨10, _⟩ => ⟨S2x2048x768, .f32⟩
  | .hbm, ⟨11, _⟩ => ⟨S2x2048x768, .f32⟩
  | .hbm, ⟨12, _⟩ => ⟨S2x2048x768, .f32⟩
  | .hbm, ⟨13, _⟩ => ⟨S2x2048x768, .f32⟩
  | .local _ .vmem, ⟨0, _⟩ => ⟨S1x256x768, .bf16⟩
  | .local _ .vmem, ⟨1, _⟩ => ⟨S1x256x768, .bf16⟩
  | .local _ .vmem, ⟨2, _⟩ => ⟨S7x256x768, .bf16⟩
  | .local _ .vmem, ⟨3, _⟩ => ⟨S7x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel31Ideal.lean ====
abbrev S8x2048x768 : Shape := ⟨3, ![8, 2048, 768]⟩
abbrev S7x2048x768 : Shape := ⟨3, ![7, 2048, 768]⟩
abbrev S2x2048x768 : Shape := ⟨3, ![2, 2048, 768]⟩
abbrev S_ : Shape := ⟨0, ![]⟩
abbrev S1 : Shape := ⟨1, ![1]⟩
abbrev S1x256x768 : Shape := ⟨3, ![1, 256, 768]⟩
abbrev S7x256x768 : Shape := ⟨3, ![7, 256, 768]⟩
abbrev S256x768 : Shape := ⟨2, ![256, 768]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x768, .bf16⟩
  | .hbm, ⟨1, _⟩ => ⟨S7x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S_, .i32⟩
  | .hbm, ⟨10, _⟩ => ⟨S2x2048x768, .f32⟩
  | .hbm, ⟨11, _⟩ => ⟨S2x2048x768, .f32⟩
  | .hbm, ⟨12, _⟩ => ⟨S2x2048x768, .f32⟩
  | .hbm, ⟨13, _⟩ => ⟨S2x2048x768, .f32⟩
  | .local _ .vmem, ⟨0, _⟩ => ⟨S1x256x768, .bf16⟩
  | .local _ .vmem, ⟨1, _⟩ => ⟨S1x256x768, .bf16⟩
  | .local _ .vmem, ⟨2, _⟩ => ⟨S7x256x768, .bf16⟩
  | .local _ .vmem, ⟨3, _⟩ => ⟨S7x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference31Ideal.lean ====
abbrev S8x2048x768 : Shape := ⟨3, ![8, 2048, 768]⟩
abbrev S7x2048x768 : Shape := ⟨3, ![7, 2048, 768]⟩
abbrev S2x2048x768 : Shape := ⟨3, ![2, 2048, 768]⟩
abbrev S1x2048x768 : Shape := ⟨3, ![1, 2048, 768]⟩
abbrev S2048x768 : Shape := ⟨2, ![2048, 768]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S7x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S1x2048x768, .bf16⟩
  | .hbm, ⟨10, _⟩ => ⟨S2048x768, .bf16⟩
  | .hbm, ⟨11, _⟩ => ⟨S2048x768, .f32⟩
  | .hbm, ⟨12, _⟩ => ⟨S7x2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S1x2048x768, .f32⟩
  | .hbm, ⟨17, _⟩ => ⟨S2048x768, .f32⟩
  | .hbm, ⟨18, _⟩ => ⟨S1x2048x768, .f32⟩
  | .hbm, ⟨19, _⟩ => ⟨S2048x768, .f32⟩
  | .hbm, ⟨20, _⟩ => ⟨S1x2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S2048x768, .f32⟩
  | .hbm, ⟨31, _⟩ => ⟨S2048x768, .f32⟩
  | .hbm, ⟨32, _⟩ => ⟨S2048x768, .f32⟩
  | .hbm, ⟨33, _⟩ => ⟨S_, .f32⟩
  | .hbm, ⟨34, _⟩ => ⟨S2048x768, .f32⟩
  | .hbm, ⟨35, _⟩ => ⟨S2048x768, .f32⟩
  | .hbm, ⟨36, _⟩ => ⟨S2048x768, .f32⟩
  | .hbm, ⟨37, _⟩ => ⟨S_, .f32⟩
  | .hbm, ⟨38, _⟩ => ⟨S2048x768, .f32⟩
  | .hbm, ⟨39, _⟩ => ⟨S2048x768, .f32⟩
  | .hbm, ⟨40, _⟩ => ⟨S_, .f32⟩
  | .hbm, ⟨41, _⟩ => ⟨S2048x768, .f32⟩
  | .hbm, ⟨42, _⟩ => ⟨S2048x768, .f32⟩
  | .hbm, ⟨43, _⟩ => ⟨S2048x768, .f32⟩
  | .hbm, ⟨44, _⟩ => ⟨S_, .f32⟩
  | .hbm, ⟨45, _⟩ => ⟨S2048x768, .f32⟩
  | .hbm, ⟨46, _⟩ => ⟨S2048x768, .f32⟩
  | .hbm, ⟨47, _⟩ => ⟨S2048x768, .f32⟩
  | .hbm, ⟨48, _⟩ => ⟨S_, .f32⟩
  | .hbm, ⟨49, _⟩ => ⟨S2048x768, .f32⟩
  | .hbm, ⟨50, _⟩ => ⟨S2048x768, .f32⟩
  | .hbm, ⟨51, _⟩ => ⟨S2048x768, .f32⟩
  | .hbm, ⟨52, _⟩ => ⟨S_, .f32⟩
  | .hbm, ⟨53, _⟩ => ⟨S2048x768, .f32⟩
  | .hbm, ⟨54, _⟩ => ⟨S2048x768, .f32⟩
  | .hbm, ⟨55, _⟩ => ⟨S1x2048x768, .f32⟩
  | .hbm, ⟨56, _⟩ => ⟨S1x2048x768, .f32⟩
  | .hbm, ⟨57, _⟩ => ⟨S2x2048x768, .f32⟩
  | .hbm, ⟨58, _⟩ => ⟨S1x2048x768, .f32⟩
  | .hbm, ⟨59, _⟩ => ⟨S1x2048x768, .f32⟩
  | .hbm, ⟨60, _⟩ => ⟨S2x2048x768, .f32⟩
  | .hbm, ⟨61, _⟩ => ⟨S1x2048x768, .f32⟩
  | .hbm, ⟨62, _⟩ => ⟨S1x2048x768, .f32⟩
  | .hbm, ⟨63, _⟩ => ⟨S2x2048x768, .f32⟩
  | .hbm, ⟨64, _⟩ => ⟨S1x2048x768, .f32⟩
  | .hbm, ⟨65, _⟩ => ⟨S1x2048x768, .f32⟩
  | .hbm, ⟨66, _⟩ => ⟨S2x2048x768, .f32⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel32.lean ====
abbrev S8x2048x1408 : Shape := ⟨3, ![8, 2048, 1408]⟩
abbrev S7x2048x1408 : Shape := ⟨3, ![7, 2048, 1408]⟩
abbrev S4x2048x1408 : Shape := ⟨3, ![4, 2048, 1408]⟩
abbrev S_ : Shape := ⟨0, ![]⟩
abbrev S1 : Shape := ⟨1, ![1]⟩
abbrev S1x256x1408 : Shape := ⟨3, ![1, 256, 1408]⟩
abbrev S7x256x1408 : Shape := ⟨3, ![7, 256, 1408]⟩
abbrev S256x1408 : Shape := ⟨2, ![256, 1408]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x1408, .bf16⟩
  | .hbm, ⟨1, _⟩ => ⟨S7x2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S_, .i32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .hbm, ⟨13, _⟩ => ⟨S4x2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S7x256x1408, .bf16⟩
  | .local _ .vmem, ⟨3, _⟩ => ⟨S7x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel32Ideal.lean ====
abbrev S8x2048x1408 : Shape := ⟨3, ![8, 2048, 1408]⟩
abbrev S7x2048x1408 : Shape := ⟨3, ![7, 2048, 1408]⟩
abbrev S4x2048x1408 : Shape := ⟨3, ![4, 2048, 1408]⟩
abbrev S_ : Shape := ⟨0, ![]⟩
abbrev S1 : Shape := ⟨1, ![1]⟩
abbrev S1x256x1408 : Shape := ⟨3, ![1, 256, 1408]⟩
abbrev S7x256x1408 : Shape := ⟨3, ![7, 256, 1408]⟩
abbrev S256x1408 : Shape := ⟨2, ![256, 1408]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x1408, .bf16⟩
  | .hbm, ⟨1, _⟩ => ⟨S7x2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S_, .i32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .hbm, ⟨13, _⟩ => ⟨S4x2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S7x256x1408, .bf16⟩
  | .local _ .vmem, ⟨3, _⟩ => ⟨S7x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference32Ideal.lean ====
abbrev S8x2048x1408 : Shape := ⟨3, ![8, 2048, 1408]⟩
abbrev S7x2048x1408 : Shape := ⟨3, ![7, 2048, 1408]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S_ : Shape := ⟨0, ![]⟩
abbrev S3x2048x1408 : Shape := ⟨3, ![3, 2048, 1408]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S7x2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S1x2048x1408, .bf16⟩
  | .hbm, ⟨10, _⟩ => ⟨S2048x1408, .bf16⟩
  | .hbm, ⟨11, _⟩ => ⟨S2048x1408, .f32⟩
  | .hbm, ⟨12, _⟩ => ⟨S7x2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S1x2048x1408, .f32⟩
  | .hbm, ⟨17, _⟩ => ⟨S2048x1408, .f32⟩
  | .hbm, ⟨18, _⟩ => ⟨S1x2048x1408, .f32⟩
  | .hbm, ⟨19, _⟩ => ⟨S2048x1408, .f32⟩
  | .hbm, ⟨20, _⟩ => ⟨S1x2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | .hbm, ⟨40, _⟩ => ⟨S_, .f32⟩
  | .hbm, ⟨41, _⟩ => ⟨S2048x1408, .f32⟩
  | .hbm, ⟨42, _⟩ => ⟨S2048x1408, .f32⟩
  | .hbm, ⟨43, _⟩ => ⟨S2048x1408, .f32⟩
  | .hbm, ⟨44, _⟩ => ⟨S_, .f32⟩
  | .hbm, ⟨45, _⟩ => ⟨S2048x1408, .f32⟩
  | .hbm, ⟨46, _⟩ => ⟨S2048x1408, .f32⟩
  | .hbm, ⟨47, _⟩ => ⟨S2048x1408, .f32⟩
  | .hbm, ⟨48, _⟩ => ⟨S_, .f32⟩
  | .hbm, ⟨49, _⟩ => ⟨S2048x1408, .f32⟩
  | .hbm, ⟨50, _⟩ => ⟨S2048x1408, .f32⟩
  | .hbm, ⟨51, _⟩ => ⟨S2048x1408, .f32⟩
  | .hbm, ⟨52, _⟩ => ⟨S_, .f32⟩
  | .hbm, ⟨53, _⟩ => ⟨S2048x1408, .f32⟩
  | .hbm, ⟨54, _⟩ => ⟨S2048x1408, .f32⟩
  | .hbm, ⟨55, _⟩ => ⟨S1x2048x1408, .f32⟩
  | .hbm, ⟨56, _⟩ => ⟨S3x2048x1408, .f32⟩
  | .hbm, ⟨57, _⟩ => ⟨S4x2048x1408, .f32⟩
  | .hbm, ⟨58, _⟩ => ⟨S1x2048x1408, .f32⟩
  | .hbm, ⟨59, _⟩ => ⟨S3x2048x1408, .f32⟩
  | .hbm, ⟨60, _⟩ => ⟨S4x2048x1408, .f32⟩
  | .hbm, ⟨61, _⟩ => ⟨S1x2048x1408, .f32⟩
  | .hbm, ⟨62, _⟩ => ⟨S3x2048x1408, .f32⟩
  | .hbm, ⟨63, _⟩ => ⟨S4x2048x1408, .f32⟩
  | .hbm, ⟨64, _⟩ => ⟨S1x2048x1408, .f32⟩
  | .hbm, ⟨65, _⟩ => ⟨S3x2048x1408, .f32⟩
  | .hbm, ⟨66, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel33.lean ====
abbrev S8x704x2048 : Shape := ⟨3, ![8, 704, 2048]⟩
abbrev S7x704x2048 : Shape := ⟨3, ![7, 704, 2048]⟩
abbrev S4x704x2048 : Shape := ⟨3, ![4, 704, 2048]⟩
abbrev S_ : Shape := ⟨0, ![]⟩
abbrev S1 : Shape := ⟨1, ![1]⟩
abbrev S1x64x2048 : Shape := ⟨3, ![1, 64, 2048]⟩
abbrev S7x64x2048 : Shape := ⟨3, ![7, 64, 2048]⟩
abbrev S64x2048 : Shape := ⟨2, ![64, 2048]⟩

abbrev nBuf : Space → Nat
  | .hbm => 14
  | .vmem => 18
  | .smem => 1
  | _ => 0

abbrev bufTy : (tb : Table) → Fin (tcTables nBuf tb) → BufTy
  | .hbm, ⟨0, _⟩ => ⟨S8x704x2048, .bf16⟩
  | .hbm, ⟨1, _⟩ => ⟨S7x704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S_, .i32⟩
  | .hbm, ⟨10, _⟩ => ⟨S4x704x2048, .f32⟩
  | .hbm, ⟨11, _⟩ => ⟨S4x704x2048, .f32⟩
  | .hbm, ⟨12, _⟩ => ⟨S4x704x2048, .f32⟩
  | .hbm, ⟨13, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S7x64x2048, .bf16⟩
  | .local _ .vmem, ⟨3, _⟩ => ⟨S7x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference33Ideal.lean ====
abbrev S8x704x2048 : Shape := ⟨3, ![8, 704, 2048]⟩
abbrev S7x704x2048 : Shape := ⟨3, ![7, 704, 2048]⟩
abbrev S4x704x2048 : Shape := ⟨3, ![4, 704, 2048]⟩
abbrev S1x704x2048 : Shape := ⟨3, ![1, 704, 2048]⟩
abbrev S704x2048 : Shape := ⟨2, ![704, 2048]⟩
abbrev S_ : Shape := ⟨0, ![]⟩
abbrev S3x704x2048 : Shape := ⟨3, ![3, 704, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S7x704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S1x704x2048, .bf16⟩
  | .hbm, ⟨10, _⟩ => ⟨S704x2048, .bf16⟩
  | .hbm, ⟨11, _⟩ => ⟨S704x2048, .f32⟩
  | .hbm, ⟨12, _⟩ => ⟨S7x704x2048, .f32⟩
  | .hbm, ⟨13, _⟩ => ⟨S_, .f32⟩
  | .hbm, ⟨14, _⟩ => ⟨S704x2048, .f32⟩
  | .hbm, ⟨15, _⟩ => ⟨S704x2048, .f32⟩
  | .hbm, ⟨16, _⟩ => ⟨S1x704x2048, .f32⟩
  | .hbm, ⟨17, _⟩ => ⟨S704x2048, .f32⟩
  | .hbm, ⟨18, _⟩ => ⟨S1x704x2048, .f32⟩
  | .hbm, ⟨19, _⟩ => ⟨S704x2048, .f32⟩
  | .hbm, ⟨20, _⟩ => ⟨S1x704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | .hbm, ⟨40, _⟩ => ⟨S_, .f32⟩
  | .hbm, ⟨41, _⟩ => ⟨S704x2048, .f32⟩
  | .hbm, ⟨42, _⟩ => ⟨S704x2048, .f32⟩
  | .hbm, ⟨43, _⟩ => ⟨S704x2048, .f32⟩
  | .hbm, ⟨44, _⟩ => ⟨S_, .f32⟩
  | .hbm, ⟨45, _⟩ => ⟨S704x2048, .f32⟩
  | .hbm, ⟨46, _⟩ => ⟨S704x2048, .f32⟩
  | .hbm, ⟨47, _⟩ => ⟨S704x2048, .f32⟩
  | .hbm, ⟨48, _⟩ => ⟨S_, .f32⟩
  | .hbm, ⟨49, _⟩ => ⟨S704x2048, .f32⟩
  | .hbm, ⟨50, _⟩ => ⟨S704x2048, .f32⟩
  | .hbm, ⟨51, _⟩ => ⟨S704x2048, .f32⟩
  | .hbm, ⟨52, _⟩ => ⟨S_, .f32⟩
  | .hbm, ⟨53, _⟩ => ⟨S704x2048, .f32⟩
  | .hbm, ⟨54, _⟩ => ⟨S704x2048, .f32⟩
  | .hbm, ⟨55, _⟩ => ⟨S1x704x2048, .f32⟩
  | .hbm, ⟨56, _⟩ => ⟨S3x704x2048, .f32⟩
  | .hbm, ⟨57, _⟩ => ⟨S4x704x2048, .f32⟩
  | .hbm, ⟨58, _⟩ => ⟨S1x704x2048, .f32⟩
  | .hbm, ⟨59, _⟩ => ⟨S3x704x2048, .f32⟩
  | .hbm, ⟨60, _⟩ => ⟨S4x704x2048, .f32⟩
  | .hbm, ⟨61, _⟩ => ⟨S1x704x2048, .f32⟩
  | .hbm, ⟨62, _⟩ => ⟨S3x704x2048, .f32⟩
  | .hbm, ⟨63, _⟩ => ⟨S4x704x2048, .f32⟩
  | .hbm, ⟨64, _⟩ => ⟨S1x704x2048, .f32⟩
  | .hbm, ⟨65, _⟩ => ⟨S3x704x2048, .f32⟩
  | .hbm, ⟨66, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Proof.ShortConv.Spec.lean ====
/- The gradient of the gated short convolution, row by row: what both programs of the first claim are compared with.
   `U` holds the three parts of the mixer's projection side by side (gate b, gate c, value: 2048 columns each), `Z` the
   gradient of the mixer's output, `W` the convolution weights of two layers, of which the first is taken. The rows are
   two sequences: 256 context tokens, then 8192 latent tokens. -/
module

public import Idealize.ShloMosaic.Lib.Pipeline.ValueKit

@[expose] public section

set_option maxRecDepth 16384

noncomputable section

namespace Cert.ShortConv

open Idealize.ShloMosaic

/-- One column over all the rows. -/
abbrev Rows := Fin 8448 → EReal

/-- The row before in the same sequence, zero at a sequence's first row. -/
def prev (X : Rows) : Rows := fun g => if h : g.val = 0 ∨ g.val = 256 then 0 else X ⟨g.val - 1, by omega⟩

/-- The row after in the same sequence, zero at a sequence's last row. -/
def next (X : Rows) : Rows := fun g => if h : g.val = 255 ∨ g.val = 8447 then 0 else X ⟨g.val + 1, by omega⟩

abbrev SU : Shape := ⟨2, ![8448, 6144]⟩
abbrev SZ : Shape := ⟨2, ![8448, 2048]⟩
abbrev SW : Shape := ⟨3, ![2, 3, 2048]⟩
abbrev SA : Shape := ⟨2, ![8, 2048]⟩

variable (U : FVec Ideal SU .bf16) (Z : FVec Ideal SZ .bf16) (W : FVec Ideal SW .f32)

/-- Column `l` of the output gate. -/
def colB (l : Fin 2048) : Rows := fun g => U (ix2 g ⟨l.val, by omega⟩)
/-- Column `l` of the input gate. -/
def colC (l : Fin 2048) : Rows := fun g => U (ix2 g ⟨2048 + l.val, by omega⟩)
/-- Column `l` of the value. -/
def colV (l : Fin 2048) : Rows := fun g => U (ix2 g ⟨4096 + l.val, by omega⟩)
/-- Column `l` of the output's gradient. -/
def colZ (l : Fin 2048) : Rows := fun g => Z (ix2 g l)

/-- What the convolution reads: gated value. -/
def gated (l : Fin 2048) : Rows := fun g => colC U l g * colV U l g
/-- The gradient of what the convolution gives. -/
def dconv (l : Fin 2048) : Rows := fun g => colZ Z l g * colB U l g

/-- The convolution's tap `k` in column `l`. -/
def tapW (k : Fin 3) (l : Fin 2048) : EReal := W (ix3 0 k l)

/-- The output gate's gradient: the output's, times the convolution. -/
def gradB (l : Fin 2048) : Rows := fun g =>
  colZ Z l g * (tapW W 0 l * prev (gated U l) g + tapW W 1 l * gated U l g + tapW W 2 l * next (gated U l) g)

/-- The gradient of what the convolution reads: the transposed convolution. -/
def back (l : Fin 2048) : Rows := fun g =>
  tapW W 0 l * next (dconv U Z l) g + tapW W 1 l * dconv U Z l g + tapW W 2 l * prev (dconv U Z l) g

/-- The gradient of the whole projection. -/
def gradU : FVec Ideal SU .bf16 := fun i =>
  if hb : (i 1).val < 2048 then gradB U Z W ⟨(i 1).val, hb⟩ (i 0)
  else if hc : (i 1).val < 4096 then
    back U Z W ⟨(i 1).val - 2048, by omega⟩ (i 0) * colV U ⟨(i 1).val - 2048, by omega⟩ (i 0)
  else
    back U Z W ⟨(i 1).val - 4096, by have : (i 1).val < 6144 := (i 1).isLt; omega⟩ (i 0)
      * colC U ⟨(i 1).val - 4096, by have : (i 1).val < 6144 := (i 1).isLt; omega⟩ (i 0)

/-- One row's part of the weights' gradient: taps 0, 1 and 2, then rows of zeros. -/
def tapTerm (k : Fin 8) (l : Fin 2048) : Rows := fun g =>
  if k.val = 0 then dconv U Z l g * prev (gated U l) g
  else if k.val = 1 then dconv U Z l g * gated U l g
  else if k.val = 2 then dconv U Z l g * next (gated U l) g
  else 0

/-- The weights' gradient, summed over all the rows of both sequences. -/
def gradW : FVec Ideal SA .f32 := fun i => ∑ g : Fin 8448, tapTerm U Z (i 0) (i 1) g

end Cert.ShortConv

end
-- ==== Proof.ShortConv.Block.lean ====
/- What one grid point of the gradient kernel computes, in the terms of Spec.lean. -/
module

public import proofs.«01_k».proof.Proof.ShortConv.Spec
public import proofs.«01_k».proof.Proof.Gen.KernelIdeal.Frame

@[expose] public section

set_option maxRecDepth 16384

noncomputable section

namespace Cert.ShortConv

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The grid's one moving coordinate is the point's number. -/
theorem coord : ∀ t : Fin cfg0.N, (grid0.coords t 1).val = t.val := (by decide +kernel : ∀ t : Fin grid0.N, _)

/-- The windows' block indices at every point: 16 rows before the tile, the tile, 16 rows after it, held inside the array. -/
theorem idx : ∀ t : Fin cfg0.N,
    win0_0.index t = ![8 * t.val - 1, 0] ∧ win0_1.index t = ![t.val, 0] ∧ win0_2.index t = ![min (8 * t.val + 8) 527, 0]
    ∧ win0_3.index t = ![8 * t.val - 1, 1] ∧ win0_4.index t = ![t.val, 1] ∧ win0_5.index t = ![min (8 * t.val + 8) 527, 1]
    ∧ win0_6.index t = ![8 * t.val - 1, 2] ∧ win0_7.index t = ![t.val, 2] ∧ win0_8.index t = ![min (8 * t.val + 8) 527, 2]
    ∧ win0_9.index t = ![8 * t.val - 1, 0] ∧ win0_10.index t = ![t.val, 0] ∧ win0_11.index t = ![min (8 * t.val + 8) 527, 0]
    ∧ win0_12.index t = ![0, 0, 0] ∧ win0_13.index t = ![t.val, 0] :=
  (by decide +kernel : ∀ t : Fin grid0.N, _)

/-- Row `q` of the tile with its neighbours is array row `g`: the output gate. -/
theorem extB (t : Fin cfg0.N) (q : Fin 160) (l : Fin 2048) (g : Fin 8448) (hg : g.val + 16 = 128 * t.val + q.val) :
    k0_pay6 (F := Ideal) (iblk m c 0 t) (iblk m c 1 t) (iblk m c 2 t) (ix2 q l)
      = colB (m ((c : Thread nD τ).loc main_arg0)) l g := by
  have ht : t.val < 66 := Nat.lt_of_lt_of_eq t.isLt N_0
  unfold colB
  pointwise [k0_pay6]
  split
  · blk_ext [iblk, V, idx t]
  · split
    · blk_ext [iblk, V, idx t]
    · blk_ext [iblk, V, idx t]

theorem extC (t : Fin cfg0.N) (q : Fin 160) (l : Fin 2048) (g : Fin 8448) (hg : g.val + 16 = 128 * t.val + q.val) :
    k0_pay7 (F := Ideal) (iblk m c 3 t) (iblk m c 4 t) (iblk m c 5 t) (ix2 q l)
      = colC (m ((c : Thread nD τ).loc main_arg0)) l g := by
  have ht : t.val < 66 := Nat.lt_of_lt_of_eq t.isLt N_0
  unfold colC
  pointwise [k0_pay7]
  split
  · blk_ext [iblk, V, idx t]
  · split
    · blk_ext [iblk, V, idx t]
    · blk_ext [iblk, V, idx t]

theorem extV (t : Fin cfg0.N) (q : Fin 160) (l : Fin 2048) (g : Fin 8448) (hg : g.val + 16 = 128 * t.val + q.val) :
    k0_pay8 (F := Ideal) (iblk m c 6 t) (iblk m c 7 t) (iblk m c 8 t) (ix2 q l)
      = colV (m ((c : Thread nD τ).loc main_arg0)) l g := by
  have ht : t.val < 66 := Nat.lt_of_lt_of_eq t.isLt N_0
  unfold colV
  pointwise [k0_pay8]
  split
  · blk_ext [iblk, V, idx t]
  · split
    · blk_ext [iblk, V, idx t]
    · blk_ext [iblk, V, idx t]

theorem extZ (t : Fin cfg0.N) (q : Fin 160) (l : Fin 2048) (g : Fin 8448) (hg : g.val + 16 = 128 * t.val + q.val) :
    k0_pay9 (F := Ideal) (iblk m c 9 t) (iblk m c 10 t) (iblk m c 11 t) (ix2 q l)
      = colZ (m ((c : Thread nD τ).loc main_arg1)) l g := by
  have ht : t.val < 66 := Nat.lt_of_lt_of_eq t.isLt N_0
  unfold colZ
  pointwise [k0_pay9]
  split
  · blk_ext [iblk, V, idx t]
  · split
    · blk_ext [iblk, V, idx t]
    · blk_ext [iblk, V, idx t]

/-- The row number the kernel computes for row `q` of tile `t`, compared with a row `n`. -/
theorem row_ne (t : ℕ) (ht : t < 66) (q : Fin 160) (n : ℕ) (hn : n < 10000) :
    IntOp.cmpi .ne (IntOp.addi (Scalar.subi (Scalar.muli (BitVec.ofNat 32 t) 128#32) 16#32) (BitVec.ofNat 32 q.val)) (BitVec.ofNat 32 n)
      = BitVec.ofBool (decide (128 * t + q.val ≠ n + 16)) := by
  have hq := q.isLt
  have hw : (IntOp.addi (Scalar.subi (Scalar.muli (BitVec.ofNat 32 t) 128#32) 16#32) (BitVec.ofNat 32 q.val)).toNat
      = (128 * t + q.val + 4294967280) % 4294967296 := by
    show (BitVec.ofNat 32 t * 128#32 - 16#32 + BitVec.ofNat 32 q.val).toNat = _
    simp only [BitVec.toNat_add, BitVec.toNat_sub, BitVec.toNat_mul, BitVec.toNat_ofNat]
    omega
  generalize IntOp.addi (Scalar.subi (Scalar.muli (BitVec.ofNat 32 t) 128#32) 16#32) (BitVec.ofNat 32 q.val) = w at hw ⊢
  show BitVec.ofBool (w != BitVec.ofNat 32 n) = _
  congr 1
  have : w = BitVec.ofNat 32 n ↔ 128 * t + q.val = n + 16 := by
    rw [← BitVec.toNat_inj, hw, BitVec.toNat_ofNat]; omega
  by_cases h : 128 * t + q.val = n + 16
  · simp [h, this.mpr h]
  · simp [h, mt this.mp h]

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The kernel's mask for the row before: off at the first row of each sequence. -/
theorem mask_prev (t : ℕ) (ht : t < 66) (q : Fin 160) :
    k0_pay4 (BitVec.ofNat 32 t) (ix2 q 0) = BitVec.ofBool (decide (128 * t + q.val ≠ 16 ∧ 128 * t + q.val ≠ 272)) := by
  pointwise [k0_pay4, k0_pay3]
  rw [← and_bits]
  exact congrArg₂ IntOp.andi (row_ne t ht q 0 (by decide)) (row_ne t ht q 256 (by decide))

/-- The kernel's mask for the row after: off at the last row of each sequence. -/
theorem mask_next (t : ℕ) (ht : t < 66) (q : Fin 160) :
    k0_pay5 (BitVec.ofNat 32 t) (ix2 q 0) = BitVec.ofBool (decide (128 * t + q.val ≠ 271 ∧ 128 * t + q.val ≠ 8463)) := by
  pointwise [k0_pay5, k0_pay3]
  rw [← and_bits]
  exact congrArg₂ IntOp.andi (row_ne t ht q 255 (by decide)) (row_ne t ht q 8447 (by decide))

/-- A masked weighted read of the row before, given what the unmasked read finds where the mask is on. -/
theorem sel_prev (t : ℕ) (ht : t < 66) (q : Fin 160) (g : Fin 8448) (hg : g.val + 16 = 128 * t + q.val) (w A : EReal) (X : Rows)
    (hA : ∀ g' : Fin 8448, g'.val + 1 = g.val → A = X g') :
    Scalar.select (k0_pay4 (BitVec.ofNat 32 t) (ix2 q 0)) (w * A) 0 = w * prev X g := by
  rw [mask_prev t ht q, Scalar.select_decide]
  unfold prev
  by_cases h : g.val = 0 ∨ g.val = 256
  · rw [if_neg (by omega), dif_pos h, mul_zero]
  · rw [if_pos (by omega), dif_neg h, hA ⟨g.val - 1, by omega⟩ (by show g.val - 1 + 1 = g.val; omega)]

theorem sel_next (t : ℕ) (ht : t < 66) (q : Fin 160) (g : Fin 8448) (hg : g.val + 16 = 128 * t + q.val) (w A : EReal) (X : Rows)
    (hA : ∀ g' : Fin 8448, g'.val = g.val + 1 → A = X g') :
    Scalar.select (k0_pay5 (BitVec.ofNat 32 t) (ix2 q 0)) (w * A) 0 = w * next X g := by
  have := q.isLt
  rw [mask_next t ht q, Scalar.select_decide]
  unfold next
  by_cases h : g.val = 255 ∨ g.val = 8447
  · rw [if_neg (by omega), dif_pos h, mul_zero]
  · rw [if_pos (by omega), dif_neg h, hA ⟨g.val + 1, by omega⟩ rfl]

/-- Inside a sequence the row before needs no mask. -/
theorem in_prev (g : Fin 8448) (h0 : g.val ≠ 0) (h1 : g.val ≠ 256) (A : EReal) (X : Rows)
    (hA : ∀ g' : Fin 8448, g'.val + 1 = g.val → A = X g') : A = prev X g := by
  unfold prev
  rw [dif_neg (by omega), hA ⟨g.val - 1, by omega⟩ (by show g.val - 1 + 1 = g.val; omega)]

theorem in_next (g : Fin 8448) (h0 : g.val ≠ 255) (h1 : g.val ≠ 8447) (A : EReal) (X : Rows)
    (hA : ∀ g' : Fin 8448, g'.val = g.val + 1 → A = X g') : A = next X g := by
  unfold next
  rw [dif_neg (by omega), hA ⟨g.val + 1, by omega⟩ rfl]

/-- What tile `t` reads at its row `q`, times what it reads there: the gated value's row. -/
theorem extT (t : Fin cfg0.N) (q : Fin 160) (l : Fin 2048) (g : Fin 8448) (hg : g.val + 16 = 128 * t.val + q.val) :
    k0_pay7 (F := Ideal) (iblk m c 3 t) (iblk m c 4 t) (iblk m c 5 t) (ix2 q l)
      * k0_pay8 (F := Ideal) (iblk m c 6 t) (iblk m c 7 t) (iblk m c 8 t) (ix2 q l)
      = gated (m ((c : Thread nD τ).loc main_arg0)) l g :=
  congrArg₂ (· * ·) (extC m c t q l g hg) (extV m c t q l g hg)

theorem extD (t : Fin cfg0.N) (q : Fin 160) (l : Fin 2048) (g : Fin 8448) (hg : g.val + 16 = 128 * t.val + q.val) :
    k0_pay9 (F := Ideal) (iblk m c 9 t) (iblk m c 10 t) (iblk m c 11 t) (ix2 q l)
      * k0_pay6 (F := Ideal) (iblk m c 0 t) (iblk m c 1 t) (iblk m c 2 t) (ix2 q l)
      = dconv (m ((c : Thread nD τ).loc main_arg0)) (m ((c : Thread nD τ).loc main_arg1)) l g :=
  congrArg₂ (· * ·) (extZ m c t q l g hg) (extB m c t q l g hg)

/-- The output gate's gradient in a tile at an edge of a sequence. -/
theorem edge_b (t : Fin cfg0.N) (r : Fin 128) (l : Fin 2048) (g : Fin 8448) (hg : g.val = 128 * t.val + r.val)
    (w0 w1 w2 : Vec Ideal S1x1x2048 .f32) :
    k0_pay11 (F := Ideal) (k0_pay4 (BitVec.ofNat 32 t.val)) (k0_pay5 (BitVec.ofNat 32 t.val))
      (k0_pay7 (iblk m c 3 t) (iblk m c 4 t) (iblk m c 5 t)) (k0_pay8 (iblk m c 6 t) (iblk m c 7 t) (iblk m c 8 t))
      (iblk m c 9 t) (iblk m c 10 t) (iblk m c 11 t) w0 w1 w2 (ix2 r l)
      = colZ (m ((c : Thread nD τ).loc main_arg1)) l g
        * (w0 (ix3 0 0 l) * prev (gated (m ((c : Thread nD τ).loc main_arg0)) l) g
          + w1 (ix3 0 0 l) * gated (m ((c : Thread nD τ).loc main_arg0)) l g
          + w2 (ix3 0 0 l) * next (gated (m ((c : Thread nD τ).loc main_arg0)) l) g) := by
  have ht : t.val < 66 := Nat.lt_of_lt_of_eq t.isLt N_0
  have hr := r.isLt
  pointwise [k0_pay11, k0_pay10]
  refine Ideal.mul_congr (extZ m c t _ l g (by show _ = 128 * t.val + (16 + r.val); omega)) ?_
  refine Ideal.add_congr (Ideal.add_congr ?_ ?_) ?_
  · exact sel_prev t.val ht _ g (by show _ = 128 * t.val + (16 + r.val); omega) _ _ _
      fun g' h => extT m c t _ l g' (by show _ = 128 * t.val + (16 + r.val + 160 - 1) % 160; omega)
  · exact congrArg _ (extT m c t _ l g (by show _ = 128 * t.val + (16 + r.val); omega))
  · exact sel_next t.val ht _ g (by show _ = 128 * t.val + (16 + r.val); omega) _ _ _
      fun g' h => extT m c t _ l g' (by show _ = 128 * t.val + (16 + r.val + 160 - 159) % 160; omega)

/-- The transposed convolution in a tile at an edge of a sequence. -/
theorem edge_back (t : Fin cfg0.N) (q : Fin 160) (l : Fin 2048) (g : Fin 8448) (hg : g.val + 16 = 128 * t.val + q.val)
    (hq : 0 < q.val ∧ q.val < 159) (w0 w1 w2 : Vec Ideal S1x1x2048 .f32) :
    k0_pay16 (F := Ideal) (k0_pay4 (BitVec.ofNat 32 t.val)) (k0_pay12 (k0_pay6 (iblk m c 0 t) (iblk m c 1 t) (iblk m c 2 t)) (iblk m c 9 t) (iblk m c 10 t) (iblk m c 11 t)) (k0_pay13 w0)
      (k0_pay14 (k0_pay6 (iblk m c 0 t) (iblk m c 1 t) (iblk m c 2 t)) (iblk m c 9 t) (iblk m c 10 t) (iblk m c 11 t)) (0 : EReal) (k0_pay15 (k0_pay5 (BitVec.ofNat 32 t.val))) w1 w2 (ix2 q l)
      = w0 (ix3 0 0 l) * next (dconv (m ((c : Thread nD τ).loc main_arg0)) (m ((c : Thread nD τ).loc main_arg1)) l) g + w1 (ix3 0 0 l) * dconv (m ((c : Thread nD τ).loc main_arg0)) (m ((c : Thread nD τ).loc main_arg1)) l g
        + w2 (ix3 0 0 l) * prev (dconv (m ((c : Thread nD τ).loc main_arg0)) (m ((c : Thread nD τ).loc main_arg1)) l) g := by
  have ht : t.val < 66 := Nat.lt_of_lt_of_eq t.isLt N_0
  pointwise [k0_pay12, k0_pay13, k0_pay14, k0_pay15, k0_pay16]
  refine Ideal.add_congr (Ideal.add_congr ?_ ?_) ?_
  · exact sel_next t.val ht _ g hg _ _ _
      fun g' h => extD m c t _ l g' (by show _ = 128 * t.val + (q.val + 160 - 159) % 160; omega)
  · exact congrArg _ (extD m c t _ l g hg)
  · exact sel_prev t.val ht _ g hg _ _ _
      fun g' h => extD m c t _ l g' (by show _ = 128 * t.val + (q.val + 160 - 1) % 160; omega)

/-- The input gate's gradient in a tile at an edge of a sequence. -/
theorem edge_c (t : Fin cfg0.N) (r : Fin 128) (l : Fin 2048) (g : Fin 8448) (hg : g.val = 128 * t.val + r.val)
    (w0 w1 w2 : Vec Ideal S1x1x2048 .f32) :
    k0_pay17 (F := Ideal) (k0_pay4 (BitVec.ofNat 32 t.val)) (k0_pay8 (iblk m c 6 t) (iblk m c 7 t) (iblk m c 8 t)) (k0_pay12 (k0_pay6 (iblk m c 0 t) (iblk m c 1 t) (iblk m c 2 t)) (iblk m c 9 t) (iblk m c 10 t) (iblk m c 11 t)) (k0_pay13 w0)
      (k0_pay14 (k0_pay6 (iblk m c 0 t) (iblk m c 1 t) (iblk m c 2 t)) (iblk m c 9 t) (iblk m c 10 t) (iblk m c 11 t)) (FloatOps.ofBits FTy.f32 0#32) (k0_pay15 (k0_pay5 (BitVec.ofNat 32 t.val))) w1 w2 (ix2 r l)
      = (w0 (ix3 0 0 l) * next (dconv (m ((c : Thread nD τ).loc main_arg0)) (m ((c : Thread nD τ).loc main_arg1)) l) g + w1 (ix3 0 0 l) * dconv (m ((c : Thread nD τ).loc main_arg0)) (m ((c : Thread nD τ).loc main_arg1)) l g
        + w2 (ix3 0 0 l) * prev (dconv (m ((c : Thread nD τ).loc main_arg0)) (m ((c : Thread nD τ).loc main_arg1)) l) g) * colV (m ((c : Thread nD τ).loc main_arg0)) l g := by
  pointwise [k0_pay17]
  exact Ideal.mul_congr
    (edge_back m c t ⟨16 + r.val, by omega⟩ l g (by show _ = 128 * t.val + (16 + r.val); omega) (by show 0 < 16 + r.val ∧ 16 + r.val < 159; omega) w0 w1 w2)
    (extV m c t _ l g (by show _ = 128 * t.val + (16 + r.val); omega))

/-- The value's gradient in a tile at an edge of a sequence. -/
theorem edge_v (t : Fin cfg0.N) (r : Fin 128) (l : Fin 2048) (g : Fin 8448) (hg : g.val = 128 * t.val + r.val)
    (w0 w1 w2 : Vec Ideal S1x1x2048 .f32) :
    k0_pay18 (F := Ideal) (k0_pay4 (BitVec.ofNat 32 t.val)) (k0_pay7 (iblk m c 3 t) (iblk m c 4 t) (iblk m c 5 t)) (k0_pay12 (k0_pay6 (iblk m c 0 t) (iblk m c 1 t) (iblk m c 2 t)) (iblk m c 9 t) (iblk m c 10 t) (iblk m c 11 t)) (k0_pay13 w0)
      (k0_pay14 (k0_pay6 (iblk m c 0 t) (iblk m c 1 t) (iblk m c 2 t)) (iblk m c 9 t) (iblk m c 10 t) (iblk m c 11 t)) (FloatOps.ofBits FTy.f32 0#32) (k0_pay15 (k0_pay5 (BitVec.ofNat 32 t.val))) w1 w2 (ix2 r l)
      = (w0 (ix3 0 0 l) * next (dconv (m ((c : Thread nD τ).loc main_arg0)) (m ((c : Thread nD τ).loc main_arg1)) l) g + w1 (ix3 0 0 l) * dconv (m ((c : Thread nD τ).loc main_arg0)) (m ((c : Thread nD τ).loc main_arg1)) l g
        + w2 (ix3 0 0 l) * prev (dconv (m ((c : Thread nD τ).loc main_arg0)) (m ((c : Thread nD τ).loc main_arg1)) l) g) * colC (m ((c : Thread nD τ).loc main_arg0)) l g := by
  pointwise [k0_pay18]
  exact Ideal.mul_congr
    (edge_back m c t ⟨16 + r.val, by omega⟩ l g (by show _ = 128 * t.val + (16 + r.val); omega) (by show 0 < 16 + r.val ∧ 16 + r.val < 159; omega) w0 w1 w2)
    (extC m c t _ l g (by show _ = 128 * t.val + (16 + r.val); omega))

/-- The output gate's gradient in a tile inside a sequence. -/
theorem inner_b (t : Fin cfg0.N) (hi : 3 ≤ t.val ∧ t.val ≤ 64) (r : Fin 128) (l : Fin 2048) (g : Fin 8448)
    (hg : g.val = 128 * t.val + r.val) (w0 w1 w2 : Vec Ideal S1x1x2048 .f32) :
    k0_pay29 (F := Ideal) (k0_pay25 (iblk m c 9 t) (iblk m c 10 t) (iblk m c 11 t)) (k0_pay26 (iblk m c 3 t) (iblk m c 4 t) (iblk m c 5 t) (iblk m c 6 t) (iblk m c 7 t) (iblk m c 8 t)) (k0_pay27 (iblk m c 3 t) (iblk m c 4 t) (iblk m c 5 t) (iblk m c 6 t) (iblk m c 7 t) (iblk m c 8 t) w0) (k0_pay28 w1) w2 (ix2 r l)
      = colZ (m ((c : Thread nD τ).loc main_arg1)) l g * (w0 (ix3 0 0 l) * prev (gated (m ((c : Thread nD τ).loc main_arg0)) l) g + w1 (ix3 0 0 l) * gated (m ((c : Thread nD τ).loc main_arg0)) l g
          + w2 (ix3 0 0 l) * next (gated (m ((c : Thread nD τ).loc main_arg0)) l) g) := by
  pointwise [k0_pay29, k0_pay28, k0_pay27, k0_pay26]
  refine Ideal.mul_congr (extZ m c t _ l g (by show _ = 128 * t.val + (16 + r.val); omega)) ?_
  refine Ideal.add_congr (Ideal.add_congr (Ideal.mul_congr rfl ?_) (Ideal.mul_congr rfl ?_)) (Ideal.mul_congr rfl ?_)
  · exact in_prev g (by omega) (by omega) _ _
      fun g' h => extT m c t _ l g' (by show _ = 128 * t.val + (16 + r.val + 160 - 1) % 160; omega)
  · exact extT m c t _ l g (by show _ = 128 * t.val + (16 + r.val); omega)
  · exact in_next g (by omega) (by omega) _ _
      fun g' h => extT m c t _ l g' (by show _ = 128 * t.val + (16 + r.val + 160 - 159) % 160; omega)

/-- The transposed convolution in a tile inside a sequence. -/
theorem inner_back (t : Fin cfg0.N) (hi : 3 ≤ t.val ∧ t.val ≤ 64) (q : Fin 160) (l : Fin 2048) (g : Fin 8448)
    (hg : g.val + 16 = 128 * t.val + q.val) (hq : 16 ≤ q.val ∧ q.val < 144) (w0 w1 w2 : Vec Ideal S1x1x2048 .f32) :
    k0_pay31 (F := Ideal) (k0_pay22 (iblk m c 0 t) (iblk m c 1 t) (iblk m c 2 t)) (k0_pay25 (iblk m c 9 t) (iblk m c 10 t) (iblk m c 11 t)) w0 w1 w2 (ix2 q l)
      = w0 (ix3 0 0 l) * next (dconv (m ((c : Thread nD τ).loc main_arg0)) (m ((c : Thread nD τ).loc main_arg1)) l) g + w1 (ix3 0 0 l) * dconv (m ((c : Thread nD τ).loc main_arg0)) (m ((c : Thread nD τ).loc main_arg1)) l g
        + w2 (ix3 0 0 l) * prev (dconv (m ((c : Thread nD τ).loc main_arg0)) (m ((c : Thread nD τ).loc main_arg1)) l) g := by
  pointwise [k0_pay31, k0_pay30]
  refine Ideal.add_congr (Ideal.add_congr (Ideal.mul_congr rfl ?_) (Ideal.mul_congr rfl ?_)) (Ideal.mul_congr rfl ?_)
  · exact in_next g (by omega) (by omega) _ _
      fun g' h => extD m c t _ l g' (by show _ = 128 * t.val + (q.val + 160 - 159) % 160; omega)
  · exact extD m c t _ l g hg
  · exact in_prev g (by omega) (by omega) _ _
      fun g' h => extD m c t _ l g' (by show _ = 128 * t.val + (q.val + 160 - 1) % 160; omega)

/-- The input gate's gradient in a tile inside a sequence. -/
theorem inner_c (t : Fin cfg0.N) (hi : 3 ≤ t.val ∧ t.val ≤ 64) (r : Fin 128) (l : Fin 2048) (g : Fin 8448)
    (hg : g.val = 128 * t.val + r.val) (w0 w1 w2 : Vec Ideal S1x1x2048 .f32) :
    k0_pay32 (F := Ideal) (k0_pay22 (iblk m c 0 t) (iblk m c 1 t) (iblk m c 2 t)) (k0_pay24 (iblk m c 6 t) (iblk m c 7 t) (iblk m c 8 t)) (k0_pay25 (iblk m c 9 t) (iblk m c 10 t) (iblk m c 11 t)) w0 w1 w2 (ix2 r l)
      = (w0 (ix3 0 0 l) * next (dconv (m ((c : Thread nD τ).loc main_arg0)) (m ((c : Thread nD τ).loc main_arg1)) l) g + w1 (ix3 0 0 l) * dconv (m ((c : Thread nD τ).loc main_arg0)) (m ((c : Thread nD τ).loc main_arg1)) l g
        + w2 (ix3 0 0 l) * prev (dconv (m ((c : Thread nD τ).loc main_arg0)) (m ((c : Thread nD τ).loc main_arg1)) l) g) * colV (m ((c : Thread nD τ).loc main_arg0)) l g := by
  pointwise [k0_pay32]
  exact Ideal.mul_congr
    (inner_back m c t hi ⟨16 + r.val, by omega⟩ l g (by show _ = 128 * t.val + (16 + r.val); omega) (by show 16 ≤ 16 + r.val ∧ 16 + r.val < 144; omega) w0 w1 w2)
    (extV m c t _ l g (by show _ = 128 * t.val + (16 + r.val); omega))

/-- The value's gradient in a tile inside a sequence. -/
theorem inner_v (t : Fin cfg0.N) (hi : 3 ≤ t.val ∧ t.val ≤ 64) (r : Fin 128) (l : Fin 2048) (g : Fin 8448)
    (hg : g.val = 128 * t.val + r.val) (w0 w1 w2 : Vec Ideal S1x1x2048 .f32) :
    k0_pay33 (F := Ideal) (k0_pay22 (iblk m c 0 t) (iblk m c 1 t) (iblk m c 2 t)) (k0_pay23 (iblk m c 3 t) (iblk m c 4 t) (iblk m c 5 t)) (k0_pay25 (iblk m c 9 t) (iblk m c 10 t) (iblk m c 11 t)) w0 w1 w2 (ix2 r l)
      = (w0 (ix3 0 0 l) * next (dconv (m ((c : Thread nD τ).loc main_arg0)) (m ((c : Thread nD τ).loc main_arg1)) l) g + w1 (ix3 0 0 l) * dconv (m ((c : Thread nD τ).loc main_arg0)) (m ((c : Thread nD τ).loc main_arg1)) l g
        + w2 (ix3 0 0 l) * prev (dconv (m ((c : Thread nD τ).loc main_arg0)) (m ((c : Thread nD τ).loc main_arg1)) l) g) * colC (m ((c : Thread nD τ).loc main_arg0)) l g := by
  pointwise [k0_pay33]
  exact Ideal.mul_congr
    (inner_back m c t hi ⟨16 + r.val, by omega⟩ l g (by show _ = 128 * t.val + (16 + r.val); omega) (by show 16 ≤ 16 + r.val ∧ 16 + r.val < 144; omega) w0 w1 w2)
    (extC m c t _ l g (by show _ = 128 * t.val + (16 + r.val); omega))

/-- Three sums put into rows 0, 1 and 2 of eight. -/
theorem pick (r : Fin 8) (a b d : EReal) :
    Scalar.select (IntOp.cmpi .eq (BitVec.ofNat 32 r.val) 0#32) a 0 + Scalar.select (IntOp.cmpi .eq (BitVec.ofNat 32 r.val) 1#32) b 0
      + Scalar.select (IntOp.cmpi .eq (BitVec.ofNat 32 r.val) 2#32) d 0
      = if r.val = 0 then a else if r.val = 1 then b else if r.val = 2 then d else 0 := by
  have h : ∀ n : Fin 8, IntOp.cmpi .eq (BitVec.ofNat 32 r.val) (BitVec.ofNat 32 n.val) = BitVec.ofBool (decide (r.val = n.val)) := by
    revert r; decide
  rw [show IntOp.cmpi .eq (BitVec.ofNat 32 r.val) 0#32 = _ from h 0, show IntOp.cmpi .eq (BitVec.ofNat 32 r.val) 1#32 = _ from h 1,
    show IntOp.cmpi .eq (BitVec.ofNat 32 r.val) 2#32 = _ from h 2, Scalar.select_decide, Scalar.select_decide, Scalar.select_decide]
  show (if r.val = 0 then a else 0) + (if r.val = 1 then b else 0) + (if r.val = 2 then d else 0) = _
  by_cases h0 : r.val = 0
  · simp [h0]
  · by_cases h1 : r.val = 1
    · simp [h1]
    · by_cases h2 : r.val = 2
      · simp [h2]
      · simp [h0, h1, h2]

/-- The rows' parts of the weights' gradient, summed over some rows. -/
theorem sum_tapTerm (U : FVec Ideal SU .bf16) (Z : FVec Ideal SZ .bf16) (r : Fin 8) (l : Fin 2048) {n : ℕ} (f : Fin n → Fin 8448) :
    (∑ x, tapTerm U Z r l (f x)) = if r.val = 0 then ∑ x, dconv U Z l (f x) * prev (gated U l) (f x)
      else if r.val = 1 then ∑ x, dconv U Z l (f x) * gated U l (f x)
      else if r.val = 2 then ∑ x, dconv U Z l (f x) * next (gated U l) (f x) else 0 := by
  unfold tapTerm
  by_cases h0 : r.val = 0
  · simp only [if_pos h0]
  · by_cases h1 : r.val = 1
    · simp only [if_neg h0, if_pos h1]
    · by_cases h2 : r.val = 2
      · simp only [if_neg h0, if_neg h1, if_pos h2]
      · simp only [if_neg h0, if_neg h1, if_neg h2, Finset.sum_const_zero]

/-- Array row `x` of tile `t`. -/
def rowOf (t : Fin cfg0.N) (x : Fin 128) : Fin 8448 :=
  ⟨128 * t.val + x.val, by have : t.val < 66 := Nat.lt_of_lt_of_eq t.isLt N_0; omega⟩

/-- The weights' gradient after a tile at an edge of a sequence: what it was and the tile's rows' part. -/
theorem edge_acc (t : Fin cfg0.N) (r : Fin 8) (l : Fin 2048) (A : Vec Ideal S8x2048 .f32) :
    k0_pay2 (F := Ideal) (k0_pay10 (k0_pay7 (iblk m c 3 t) (iblk m c 4 t) (iblk m c 5 t)) (k0_pay8 (iblk m c 6 t) (iblk m c 7 t) (iblk m c 8 t))) (k0_pay12 (k0_pay6 (iblk m c 0 t) (iblk m c 1 t) (iblk m c 2 t)) (iblk m c 9 t) (iblk m c 10 t) (iblk m c 11 t)) (k0_pay19 A)
      (k0_pay20 (k0_pay4 (BitVec.ofNat 32 t.val)) (k0_pay10 (k0_pay7 (iblk m c 3 t) (iblk m c 4 t) (iblk m c 5 t)) (k0_pay8 (iblk m c 6 t) (iblk m c 7 t) (iblk m c 8 t))))
      (k0_pay21 (k0_pay5 (BitVec.ofNat 32 t.val)) (k0_pay10 (k0_pay7 (iblk m c 3 t) (iblk m c 4 t) (iblk m c 5 t)) (k0_pay8 (iblk m c 6 t) (iblk m c 7 t) (iblk m c 8 t)))) (ix2 r l)
      = A (ix2 r l) + ∑ x : Fin 128, tapTerm (m ((c : Thread nD τ).loc main_arg0)) (m ((c : Thread nD τ).loc main_arg1)) r l (rowOf t x) := by
  have ht : t.val < 66 := Nat.lt_of_lt_of_eq t.isLt N_0
  pointwise [k0_pay2, k0_pay10, k0_pay12, k0_pay19, k0_pay20, k0_pay21]
  rw [pick, sum_tapTerm]
  refine Ideal.add_congr rfl ?_
  have e : ∀ x : Fin 128, (rowOf t x).val + 16 = 128 * t.val + (16 + x.val) := fun x => by
    show 128 * t.val + x.val + 16 = _; omega
  congr 1
  · exact Finset.sum_congr rfl fun x _ => by
      rw [extD m c t _ l (rowOf t x) (e x)]
      exact sel_prev t.val ht _ (rowOf t x) (e x) _ _ _
        fun g' h => extT m c t _ l g' (by have := e x; show _ = 128 * t.val + (16 + x.val + 160 - 1) % 160; omega)
  · congr 1
    · exact Finset.sum_congr rfl fun x _ =>
        Ideal.mul_congr (extD m c t _ l (rowOf t x) (e x)) (extT m c t _ l (rowOf t x) (e x))
    · congr 1
      exact Finset.sum_congr rfl fun x _ => by
        rw [extD m c t _ l (rowOf t x) (e x)]
        exact sel_next t.val ht _ (rowOf t x) (e x) _ _ _
          fun g' h => extT m c t _ l g' (by have := e x; show _ = 128 * t.val + (16 + x.val + 160 - 159) % 160; omega)

/-- The weights' gradient after a tile inside a sequence. -/
theorem inner_acc (t : Fin cfg0.N) (hi : 3 ≤ t.val ∧ t.val ≤ 64) (r : Fin 8) (l : Fin 2048) (A : Vec Ideal S8x2048 .f32) :
    k0_pay34 (F := Ideal) (k0_pay26 (iblk m c 3 t) (iblk m c 4 t) (iblk m c 5 t) (iblk m c 6 t) (iblk m c 7 t) (iblk m c 8 t)) (k0_pay30 (k0_pay22 (iblk m c 0 t) (iblk m c 1 t) (iblk m c 2 t)) (k0_pay25 (iblk m c 9 t) (iblk m c 10 t) (iblk m c 11 t))) A (ix2 r l)
      = A (ix2 r l) + ∑ x : Fin 128, tapTerm (m ((c : Thread nD τ).loc main_arg0)) (m ((c : Thread nD τ).loc main_arg1)) r l (rowOf t x) := by
  pointwise [k0_pay34, k0_pay30, k0_pay26]
  rw [pick, sum_tapTerm]
  refine Ideal.add_congr rfl ?_
  have e : ∀ x : Fin 128, (rowOf t x).val + 16 = 128 * t.val + (16 + x.val) := fun x => by
    show 128 * t.val + x.val + 16 = _; omega
  congr 1
  · exact Finset.sum_congr rfl fun x _ =>
      Ideal.mul_congr (extD m c t _ l (rowOf t x) (e x)) (in_prev (rowOf t x) (by have := e x; omega) (by have := e x; omega) _ _
        fun g' h => extT m c t _ l g' (by have := e x; show _ = 128 * t.val + (16 + x.val + 160 - 1) % 160; omega))
  · congr 1
    · exact Finset.sum_congr rfl fun x _ =>
        Ideal.mul_congr (extD m c t _ l (rowOf t x) (e x)) (extT m c t _ l (rowOf t x) (e x))
    · congr 1
      exact Finset.sum_congr rfl fun x _ =>
        Ideal.mul_congr (extD m c t _ l (rowOf t x) (e x)) (in_next (rowOf t x) (by have := e x; omega) (by have := e x; omega) _ _
          fun g' h => extT m c t _ l g' (by have := e x; show _ = 128 * t.val + (16 + x.val + 160 - 159) % 160; omega))

end Cert.ShortConv

end
-- ==== Proof.ShortConv.Kernel.lean ====
/- What the gradient kernel leaves in its two results: the gradients of Spec.lean. -/
module

public import proofs.«01_k».proof.Proof.ShortConv.Block
public import proofs.«01_k».proof.Proof.Gen.KernelIdeal.Value

@[expose] public section

set_option maxRecDepth 16384

noncomputable section

namespace Cert.ShortConv

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Tap `k` as the kernel loads it. -/
theorem tap_ld (t : Fin cfg0.N) (l : Fin 2048) :
    View.ld (iblk m c 12 t) (Rect.unit ![0, 0, 0] ![1, 1, 2048] inb_S1x3x2048_S1x1x2048_0_0_0) (ix3 0 0 l) = tapW (m ((c : Thread nD τ).loc main_arg2)) 0 l
    ∧ View.ld (iblk m c 12 t) (Rect.unit ![0, 1, 0] ![1, 1, 2048] inb_S1x3x2048_S1x1x2048_0_1_0) (ix3 0 0 l) = tapW (m ((c : Thread nD τ).loc main_arg2)) 1 l
    ∧ View.ld (iblk m c 12 t) (Rect.unit ![0, 2, 0] ![1, 1, 2048] inb_S1x3x2048_S1x1x2048_0_2_0) (ix3 0 0 l) = tapW (m ((c : Thread nD τ).loc main_arg2)) 2 l := by
  unfold tapW
  refine ⟨?_, ?_, ?_⟩
  · rw [View.ld_apply]; blk_ext [iblk, V, idx t] <;> simp [Rect.idx_unit_val]
  · rw [View.ld_apply]; blk_ext [iblk, V, idx t] <;> simp [Rect.idx_unit_val]
  · rw [View.ld_apply]; blk_ext [iblk, V, idx t] <;> simp [Rect.idx_unit_val]

/-- A pair of coordinates, split. -/
theorem cases2 {a b : ℕ} (x : Shape.Idx (⟨2, ![a, b]⟩ : Shape)) : ∃ (r : Fin a) (l : Fin b), x = ix2 r l := ⟨x 0, x 1, funext fun d => by match d with | 0 => rfl | 1 => rfl⟩

theorem gradU_b (U : FVec Ideal SU .bf16) (Z : FVec Ideal SZ .bf16) (W : FVec Ideal SW .f32) (g : Fin 8448) (l : Fin 2048) :
    gradU U Z W (ix2 g ⟨l.val, by omega⟩) = gradB U Z W l g := dif_pos l.isLt

theorem gradU_c (U : FVec Ideal SU .bf16) (Z : FVec Ideal SZ .bf16) (W : FVec Ideal SW .f32) (g : Fin 8448) (l : Fin 2048) :
    gradU U Z W (ix2 g ⟨2048 + l.val, by omega⟩) = back U Z W l g * colV U l g := by
  have h : (⟨2048 + l.val - 2048, by omega⟩ : Fin 2048) = l := Fin.ext (by show 2048 + l.val - 2048 = l.val; omega)
  refine (dif_neg (by show ¬ 2048 + l.val < 2048; omega)).trans ((dif_pos (by show 2048 + l.val < 4096; omega)).trans ?_)
  exact congrArg (fun l => back U Z W l g * colV U l g) h

theorem gradU_v (U : FVec Ideal SU .bf16) (Z : FVec Ideal SZ .bf16) (W : FVec Ideal SW .f32) (g : Fin 8448) (l : Fin 2048) :
    gradU U Z W (ix2 g ⟨4096 + l.val, by omega⟩) = back U Z W l g * colC U l g := by
  have h : (⟨4096 + l.val - 4096, by omega⟩ : Fin 2048) = l := Fin.ext (by show 4096 + l.val - 4096 = l.val; omega)
  refine (dif_neg (by show ¬ 4096 + l.val < 2048; omega)).trans ((dif_neg (by show ¬ 4096 + l.val < 4096; omega)).trans ?_)
  exact congrArg (fun l => back U Z W l g * colC U l g) h

/-- Where an element of a tile sits in the first result. -/
theorem place (t : Fin cfg0.N) (y : ((cfg0.win 13).xblock (cfg0.grid.coords t)).Idx) (g : Fin 8448) (k : Fin 6144)
    (hg : g.val = 128 * t.val + (y 0).val) (hk : k.val = (y 1).val) (X : FVec Ideal SU .bf16) :
    X (((View.whole main_v0_0).slice (win0_13.rect t)).emb y) = X (ix2 g k) := by
  blk_ext [idx t]

/-- Where an element of the one block of the second result sits: at its own place. -/
theorem place_acc (t : Fin cfg0.N) (y : ((cfg0.win 14).xblock (cfg0.grid.coords t)).Idx) (X : FVec Ideal SA .f32) :
    X ((win0_14.blk t).view.emb y) = X (ix2 (y 0) (y 1)) := by
  have h : win0_14.index t = ![0, 0] := (by decide +kernel : ∀ t : Fin grid0.N, win0_14.index t = ![0, 0]) t
  blk_ext [h]

/-- The first result is the gradient of the projection. -/
theorem kernel_du : (dats m 0 c).arrAt 13 cfg0.N
    = gradU (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  have ht : t.val < 66 := Nat.lt_of_lt_of_eq t.isLt N_0
  have ec := coord t
  by_cases h1 : 3 ≤ t.val % 66 ∧ t.val % 66 ≤ 64
  · have h0 : ¬ t.val % 66 = 0 := by omega
    have hi : 3 ≤ t.val ∧ t.val ≤ 64 := by omega
    rw [outsAt0_C m c t h0 (not_not.mpr h1) h1]
    frame_out
    canon_tiles x h
    · obtain ⟨r, l, rfl⟩ := cases2 x
      refine Eq.trans ?_ (place t y ⟨128 * t.val + r.val, by omega⟩ ⟨4096 + l.val, by omega⟩ (by rw [h0]; rfl) (by rw [h1]; rfl) _).symm
      rw [gradU_v]
      refine (inner_v m c t hi r l ⟨128 * t.val + r.val, by omega⟩ rfl _ _ _).trans ?_
      rw [(tap_ld m c t l).1, (tap_ld m c t l).2.1, (tap_ld m c t l).2.2]
      rfl
    · obtain ⟨r, l, rfl⟩ := cases2 x
      refine Eq.trans ?_ (place t y ⟨128 * t.val + r.val, by omega⟩ ⟨2048 + l.val, by omega⟩ (by rw [h0]; rfl) (by rw [h1]; rfl) _).symm
      rw [gradU_c]
      refine (inner_c m c t hi r l ⟨128 * t.val + r.val, by omega⟩ rfl _ _ _).trans ?_
      rw [(tap_ld m c t l).1, (tap_ld m c t l).2.1, (tap_ld m c t l).2.2]
      rfl
    · obtain ⟨r, l, rfl⟩ := cases2 x
      refine Eq.trans ?_ (place t y ⟨128 * t.val + r.val, by omega⟩ ⟨l.val, by omega⟩ (by rw [h0]; rfl) (by rw [h1]; first | rfl | exact Nat.zero_add _) _).symm
      rw [gradU_b]
      refine (inner_b m c t hi r l ⟨128 * t.val + r.val, by omega⟩ rfl _ _ _).trans ?_
      rw [(tap_ld m c t l).1, (tap_ld m c t l).2.1, (tap_ld m c t l).2.2]
      rfl
  · by_cases h0 : t.val % 66 = 0
    · rw [outsAt0_A m c t h0 h1 h1]
      frame_out
      rw [ec]
      canon_tiles x h
      · obtain ⟨r, l, rfl⟩ := cases2 x
        refine Eq.trans ?_ (place t y ⟨128 * t.val + r.val, by omega⟩ ⟨4096 + l.val, by omega⟩ (by rw [h0]; rfl) (by rw [h1]; rfl) _).symm
        rw [gradU_v]
        refine (edge_v m c t r l ⟨128 * t.val + r.val, by omega⟩ rfl _ _ _).trans ?_
        rw [(tap_ld m c t l).1, (tap_ld m c t l).2.1, (tap_ld m c t l).2.2]
        rfl
      · obtain ⟨r, l, rfl⟩ := cases2 x
        refine Eq.trans ?_ (place t y ⟨128 * t.val + r.val, by omega⟩ ⟨2048 + l.val, by omega⟩ (by rw [h0]; rfl) (by rw [h1]; rfl) _).symm
        rw [gradU_c]
        refine (edge_c m c t r l ⟨128 * t.val + r.val, by omega⟩ rfl _ _ _).trans ?_
        rw [(tap_ld m c t l).1, (tap_ld m c t l).2.1, (tap_ld m c t l).2.2]
        rfl
      · obtain ⟨r, l, rfl⟩ := cases2 x
        refine Eq.trans ?_ (place t y ⟨128 * t.val + r.val, by omega⟩ ⟨l.val, by omega⟩ (by rw [h0]; rfl) (by rw [h1]; first | rfl | exact Nat.zero_add _) _).symm
        rw [gradU_b]
        refine (edge_b m c t r l ⟨128 * t.val + r.val, by omega⟩ rfl _ _ _).trans ?_
        rw [(tap_ld m c t l).1, (tap_ld m c t l).2.1, (tap_ld m c t l).2.2]
        rfl
    · rw [outsAt0_B m c t h0 h1 h1]
      frame_out
      rw [ec]
      canon_tiles x h
      · obtain ⟨r, l, rfl⟩ := cases2 x
        refine Eq.trans ?_ (place t y ⟨128 * t.val + r.val, by omega⟩ ⟨4096 + l.val, by omega⟩ (by rw [h0]; rfl) (by rw [h1]; rfl) _).symm
        rw [gradU_v]
        refine (edge_v m c t r l ⟨128 * t.val + r.val, by omega⟩ rfl _ _ _).trans ?_
        rw [(tap_ld m c t l).1, (tap_ld m c t l).2.1, (tap_ld m c t l).2.2]
        rfl
      · obtain ⟨r, l, rfl⟩ := cases2 x
        refine Eq.trans ?_ (place t y ⟨128 * t.val + r.val, by omega⟩ ⟨2048 + l.val, by omega⟩ (by rw [h0]; rfl) (by rw [h1]; rfl) _).symm
        rw [gradU_c]
        refine (edge_c m c t r l ⟨128 * t.val + r.val, by omega⟩ rfl _ _ _).trans ?_
        rw [(tap_ld m c t l).1, (tap_ld m c t l).2.1, (tap_ld m c t l).2.2]
        rfl
      · obtain ⟨r, l, rfl⟩ := cases2 x
        refine Eq.trans ?_ (place t y ⟨128 * t.val + r.val, by omega⟩ ⟨l.val, by omega⟩ (by rw [h0]; rfl) (by rw [h1]; first | rfl | exact Nat.zero_add _) _).symm
        rw [gradU_b]
        refine (edge_b m c t r l ⟨128 * t.val + r.val, by omega⟩ rfl _ _ _).trans ?_
        rw [(tap_ld m c t l).1, (tap_ld m c t l).2.1, (tap_ld m c t l).2.2]
        rfl

/-- One row's part of the weights' gradient, summed over the rows of tile `p`. -/
def tileTerm (U : FVec Ideal SU .bf16) (Z : FVec Ideal SZ .bf16) (p : Fin 66) : FVec Ideal SA .f32 := fun j =>
  ∑ x : Fin 128, tapTerm U Z (j 0) (j 1) ⟨128 * p.val + x.val, by omega⟩

/-- The second result is the gradient of the weights. -/
theorem kernel_dw : (dats m 0 c).arrAt 14 cfg0.N = gradW (m ((c : Thread nD τ).loc main_arg0)) (m ((c : Thread nD τ).loc main_arg1)) := by
  refine (dats m 0 c).arrAt_eq_of_covers 14 _ (by decide +kernel) fun t hf y => ?_
  blk_simp
  rw [after0_14, Pipeline.eq_sum_fin_of_reset_step_apply_of_flush (fun n h => (outsAt0 m c n h).2) 66 (fun _ => 0)
    (tileTerm (m ((c : Thread nD τ).loc main_arg0)) (m ((c : Thread nD τ).loc main_arg1)))
    (fun t h j => by
      have ht : t.val < 66 := Nat.lt_of_lt_of_eq t.isLt N_0
      have ec := coord t
      obtain ⟨r, l, rfl⟩ := cases2 j
      rw [outsAt0_A m c t h (by omega) (by omega)]
      frame_out
      rw [ec]
      exact (edge_acc m c t r l _).trans (Ideal.add_congr (by pointwise [k0_pay1]) rfl))
    (fun t h j => by
      have ht : t.val < 66 := Nat.lt_of_lt_of_eq t.isLt N_0
      have ec := coord t
      obtain ⟨r, l, rfl⟩ := cases2 j
      by_cases h1 : 3 ≤ t.val % 66 ∧ t.val % 66 ≤ 64
      · rw [outsAt0_C m c t h (not_not.mpr h1) h1]
        frame_out
        exact inner_acc m c t (by omega) r l _
      · rw [outsAt0_B m c t h h1 h1]
        frame_out
        rw [ec]
        exact edge_acc m c t r l _)
    t ((flush0_14 t).mp hf) _, zero_add]
  have ht : t.val < 66 := Nat.lt_of_lt_of_eq t.isLt N_0
  refine Eq.trans ?_ (place_acc t y _).symm
  unfold gradW
  rw [Fin.sum_univ_tiles 66 128 rfl]
  refine (Finset.sum_congr rfl fun s _ => Finset.sum_congr rfl fun x _ => ?_ :
    (∑ s : Fin 66, ∑ x : Fin 128, tapTerm _ _ (y 0) (y 1) ⟨128 * (66 * (t.val / 66) + s.val) + x.val, _⟩ : EReal) = _)
  exact congrArg (tapTerm _ _ _ _) (Fin.ext (by show 128 * (66 * (t.val / 66) + s.val) + x.val = _; simp; omega))

end Cert.ShortConv

end
-- ==== Proof.ShortConv.Reference.lean ====
/- What the reference computes, stage by stage: the gradients of Spec.lean. -/
module

public import proofs.«01_k».proof.Proof.ShortConv.Spec
public import proofs.«01_k».proof.Proof.Gen.ReferenceIdeal.Read

@[expose] public section

set_option maxRecDepth 16384

noncomputable section

namespace Cert.ShortConv.Ref

open Idealize.ShloMosaic Idealize.ShloMosaic.TcCoe Idealize.SL.Sem
open Cert.ReferenceIdeal Cert.ReferenceIdeal.Gen Cert.ReferenceIdeal.Read

variable (U : FVec Ideal SU .bf16) (Z : FVec Ideal SZ .bf16) (W : FVec Ideal SW .f32)

/-! The context sequence: row `r` is array row `r`. -/

theorem cB (r : Fin 256) (l : Fin 2048) (g : Fin 8448) (hg : g.val = 0 + r.val) : val_main_v4 (F := Ideal) U (ix2 r l) = colB U l g := by
  obtain rfl : g = ⟨0 + r.val, Nat.lt_of_lt_of_le (Nat.add_lt_add_left r.isLt 0) (by decide)⟩ := Fin.ext hg
  unfold colB
  pointwise [val_main_v4, val_main_v3, val_main_v0]
  all_goals first | rfl | (refine congrArg U (congrArg₂ ix2 (Fin.ext ?_) rfl); show r.val = 0 + r.val; omega)

theorem cC (r : Fin 256) (l : Fin 2048) (g : Fin 8448) (hg : g.val = 0 + r.val) : val_main_v5 (F := Ideal) U (ix2 r l) = colC U l g := by
  obtain rfl : g = ⟨0 + r.val, Nat.lt_of_lt_of_le (Nat.add_lt_add_left r.isLt 0) (by decide)⟩ := Fin.ext hg
  unfold colC
  pointwise [val_main_v5, val_main_v3, val_main_v0]
  all_goals first | rfl | (refine congrArg U (congrArg₂ ix2 (Fin.ext ?_) rfl); show r.val = 0 + r.val; omega)

theorem cV (r : Fin 256) (l : Fin 2048) (g : Fin 8448) (hg : g.val = 0 + r.val) : val_main_v6 (F := Ideal) U (ix2 r l) = colV U l g := by
  obtain rfl : g = ⟨0 + r.val, Nat.lt_of_lt_of_le (Nat.add_lt_add_left r.isLt 0) (by decide)⟩ := Fin.ext hg
  unfold colV
  pointwise [val_main_v6, val_main_v3, val_main_v0]
  all_goals first | rfl | (refine congrArg U (congrArg₂ ix2 (Fin.ext ?_) rfl); show r.val = 0 + r.val; omega)

theorem cZ (r : Fin 256) (l : Fin 2048) (g : Fin 8448) (hg : g.val = 0 + r.val) : val_main_v65 (F := Ideal) Z (ix2 r l) = colZ Z l g := by
  obtain rfl : g = ⟨0 + r.val, Nat.lt_of_lt_of_le (Nat.add_lt_add_left r.isLt 0) (by decide)⟩ := Fin.ext hg
  unfold colZ
  pointwise [val_main_v65, val_main_v64]
  all_goals first | rfl | (refine congrArg Z (congrArg₂ ix2 (Fin.ext ?_) rfl); show r.val = 0 + r.val; omega)

/-- The gated value. -/
theorem cT (r : Fin 256) (l : Fin 2048) (g : Fin 8448) (hg : g.val = 0 + r.val) : val_main_v7 (F := Ideal) U (ix2 r l) = gated U l g := by
  pointwise [val_main_v7]
  exact Ideal.mul_congr (cC U r l g hg) (cV U r l g hg)

/-- The gradient of the convolution's result. -/
theorem cD (r : Fin 256) (l : Fin 2048) (g : Fin 8448) (hg : g.val = 0 + r.val) : val_main_v107 (F := Ideal) U Z (ix2 r l) = dconv U Z l g := by
  pointwise [val_main_v107]
  rw [cB U r l g hg, cZ Z r l g hg, mul_comm]
  rfl

/-- The gated value a row earlier, as the padded sequence gives it. -/
theorem cT0 (r : Fin 256) (l : Fin 2048) (g : Fin 8448) (hg : g.val = 0 + r.val) : val_main_v12 (F := Ideal) U (ix2 r l) = prev (gated U l) g := by
  pointwise [val_main_v12, val_main_v9, val_main_v8, val_main_cst]
  unfold prev
  by_cases h : r.val < 1
  · rw [dif_pos h, dif_pos (by omega)]
  · rw [dif_neg h, dif_pos (by omega), dif_neg (by omega)]
    exact cT U _ l _ (by show g.val - 1 = 0 + (r.val - 1); omega)

theorem cT1 (r : Fin 256) (l : Fin 2048) (g : Fin 8448) (hg : g.val = 0 + r.val) : val_main_v18 (F := Ideal) U (ix2 r l) = gated U l g := by
  pointwise [val_main_v18, val_main_v9, val_main_v8, val_main_cst]
  exact cT U _ l _ hg

/-- The gated value a row later. -/
theorem cT2 (r : Fin 256) (l : Fin 2048) (g : Fin 8448) (hg : g.val = 0 + r.val) : val_main_v25 (F := Ideal) U (ix2 r l) = next (gated U l) g := by
  pointwise [val_main_v25, val_main_v9, val_main_v8, val_main_cst]
  unfold next
  rw [dif_neg (by omega)]
  by_cases h : r.val = 255
  · rw [dif_neg (by omega), dif_pos (by omega)]
  · rw [dif_pos (by omega), dif_neg (by omega)]
    exact cT U _ l _ (by show g.val + 1 = 0 + (2 + r.val - 1); omega)

/-- The output gate's gradient. -/
theorem cgradB (r : Fin 256) (l : Fin 2048) (g : Fin 8448) (hg : g.val = 0 + r.val) : val_main_v108 (F := Ideal) U Z W (ix2 r l) = gradB U Z W l g := by
  pointwise [val_main_v108, val_main_v31, val_main_v24, val_main_v17, val_main_v23, val_main_v30, val_main_v16, val_main_v22, val_main_v29, val_main_v15, val_main_v14, val_main_v13, val_main_v21, val_main_v20, val_main_v19, val_main_v28, val_main_v27, val_main_v26, val_main_v2, val_main_v1]
  rw [cZ Z r l g hg, cT0 U r l g hg, cT1 U r l g hg, cT2 U r l g hg]
  unfold gradB tapW
  rw [mul_comm (W (ix3 0 0 l)), mul_comm (W (ix3 0 1 l)), mul_comm (W (ix3 0 2 l))]

/-- The gradient of the gated value. -/
theorem cback (r : Fin 256) (l : Fin 2048) (g : Fin 8448) (hg : g.val = 0 + r.val) : val_main_v142 (F := Ideal) U Z W (ix2 r l) = back U Z W l g := by
  pointwise [val_main_v142, val_main_v140, val_main_v129, val_main_v118, val_main_v128, val_main_v139, val_main_cst_21, val_main_cst_25, val_main_cst_29, val_main_v113, val_main_v123, val_main_v134, val_main_v112, val_main_v122, val_main_v133, val_main_v15, val_main_v14, val_main_v13, val_main_v21, val_main_v20, val_main_v19, val_main_v28, val_main_v27, val_main_v26, val_main_v2, val_main_v1]
  unfold back tapW
  rw [add_assoc, add_comm]
  refine (congrArg (· + _) (add_comm _ _)).trans ?_
  refine Ideal.add_congr (Ideal.add_congr ?_ ?_) ?_
  · unfold next
    by_cases h : r.val = 255
    · rw [dif_neg (by omega), dif_pos (by omega), mul_zero]
    · rw [dif_pos (by omega), dif_neg (by omega), cD U Z _ l ⟨g.val + 1, by omega⟩ (by show g.val + 1 = 0 + (1 + r.val); omega), mul_comm]
  · rw [cD U Z _ l g hg, mul_comm]
  · unfold prev
    by_cases h : r.val = 0
    · rw [dif_neg (by omega), dif_pos (by omega), mul_zero]
    · rw [dif_pos (by omega), dif_neg (by omega), cD U Z _ l ⟨g.val - 1, by omega⟩ (by show g.val - 1 = 0 + (1 + r.val - 2); omega), mul_comm]

/-- The input gate's gradient. -/
theorem cgradC (r : Fin 256) (l : Fin 2048) (g : Fin 8448) (hg : g.val = 0 + r.val) : val_main_v145 (F := Ideal) U Z W (ix2 r l) = back U Z W l g * colV U l g := by
  pointwise [val_main_v145]
  exact Ideal.mul_congr (cback U Z W r l g hg) (cV U r l g hg)

/-- The value's gradient. -/
theorem cgradV (r : Fin 256) (l : Fin 2048) (g : Fin 8448) (hg : g.val = 0 + r.val) : val_main_v144 (F := Ideal) U Z W (ix2 r l) = back U Z W l g * colC U l g := by
  pointwise [val_main_v144]
  rw [mul_comm]
  exact Ideal.mul_congr (cback U Z W r l g hg) (cC U r l g hg)

/-! The latent sequence: row `r` is array row `256 + r`. -/

theorem lB (r : Fin 8192) (l : Fin 2048) (g : Fin 8448) (hg : g.val = 256 + r.val) : val_main_v34 (F := Ideal) U (ix2 r l) = colB U l g := by
  obtain rfl : g = ⟨256 + r.val, Nat.lt_of_lt_of_le (Nat.add_lt_add_left r.isLt 256) (by decide)⟩ := Fin.ext hg
  unfold colB
  pointwise [val_main_v34, val_main_v33, val_main_v0]
  all_goals first | rfl | (refine congrArg U (congrArg₂ ix2 (Fin.ext ?_) rfl); show r.val = 256 + r.val; omega)

theorem lC (r : Fin 8192) (l : Fin 2048) (g : Fin 8448) (hg : g.val = 256 + r.val) : val_main_v35 (F := Ideal) U (ix2 r l) = colC U l g := by
  obtain rfl : g = ⟨256 + r.val, Nat.lt_of_lt_of_le (Nat.add_lt_add_left r.isLt 256) (by decide)⟩ := Fin.ext hg
  unfold colC
  pointwise [val_main_v35, val_main_v33, val_main_v0]
  all_goals first | rfl | (refine congrArg U (congrArg₂ ix2 (Fin.ext ?_) rfl); show r.val = 256 + r.val; omega)

theorem lV (r : Fin 8192) (l : Fin 2048) (g : Fin 8448) (hg : g.val = 256 + r.val) : val_main_v36 (F := Ideal) U (ix2 r l) = colV U l g := by
  obtain rfl : g = ⟨256 + r.val, Nat.lt_of_lt_of_le (Nat.add_lt_add_left r.isLt 256) (by decide)⟩ := Fin.ext hg
  unfold colV
  pointwise [val_main_v36, val_main_v33, val_main_v0]
  all_goals first | rfl | (refine congrArg U (congrArg₂ ix2 (Fin.ext ?_) rfl); show r.val = 256 + r.val; omega)

theorem lZ (r : Fin 8192) (l : Fin 2048) (g : Fin 8448) (hg : g.val = 256 + r.val) : val_main_v66 (F := Ideal) Z (ix2 r l) = colZ Z l g := by
  obtain rfl : g = ⟨256 + r.val, Nat.lt_of_lt_of_le (Nat.add_lt_add_left r.isLt 256) (by decide)⟩ := Fin.ext hg
  unfold colZ
  pointwise [val_main_v66, val_main_v64]
  all_goals first | rfl | (refine congrArg Z (congrArg₂ ix2 (Fin.ext ?_) rfl); show r.val = 256 + r.val; omega)

/-- The gated value. -/
theorem lT (r : Fin 8192) (l : Fin 2048) (g : Fin 8448) (hg : g.val = 256 + r.val) : val_main_v37 (F := Ideal) U (ix2 r l) = gated U l g := by
  pointwise [val_main_v37]
  exact Ideal.mul_congr (lC U r l g hg) (lV U r l g hg)

/-- The gradient of the convolution's result. -/
theorem lD (r : Fin 8192) (l : Fin 2048) (g : Fin 8448) (hg : g.val = 256 + r.val) : val_main_v67 (F := Ideal) U Z (ix2 r l) = dconv U Z l g := by
  pointwise [val_main_v67]
  rw [lB U r l g hg, lZ Z r l g hg, mul_comm]
  rfl

/-- The gated value a row earlier, as the padded sequence gives it. -/
theorem lT0 (r : Fin 8192) (l : Fin 2048) (g : Fin 8448) (hg : g.val = 256 + r.val) : val_main_v42 (F := Ideal) U (ix2 r l) = prev (gated U l) g := by
  pointwise [val_main_v42, val_main_v39, val_main_v38, val_main_cst_2]
  unfold prev
  by_cases h : r.val < 1
  · rw [dif_pos h, dif_pos (by omega)]
  · rw [dif_neg h, dif_pos (by omega), dif_neg (by omega)]
    exact lT U _ l _ (by show g.val - 1 = 256 + (r.val - 1); omega)

theorem lT1 (r : Fin 8192) (l : Fin 2048) (g : Fin 8448) (hg : g.val = 256 + r.val) : val_main_v48 (F := Ideal) U (ix2 r l) = gated U l g := by
  pointwise [val_main_v48, val_main_v39, val_main_v38, val_main_cst_2]
  exact lT U _ l _ hg

/-- The gated value a row later. -/
theorem lT2 (r : Fin 8192) (l : Fin 2048) (g : Fin 8448) (hg : g.val = 256 + r.val) : val_main_v55 (F := Ideal) U (ix2 r l) = next (gated U l) g := by
  pointwise [val_main_v55, val_main_v39, val_main_v38, val_main_cst_2]
  unfold next
  rw [dif_neg (by omega)]
  by_cases h : r.val = 8191
  · rw [dif_neg (by omega), dif_pos (by omega)]
  · rw [dif_pos (by omega), dif_neg (by omega)]
    exact lT U _ l _ (by show g.val + 1 = 256 + (2 + r.val - 1); omega)

/-- The output gate's gradient. -/
theorem lgradB (r : Fin 8192) (l : Fin 2048) (g : Fin 8448) (hg : g.val = 256 + r.val) : val_main_v68 (F := Ideal) U Z W (ix2 r l) = gradB U Z W l g := by
  pointwise [val_main_v68, val_main_v61, val_main_v54, val_main_v47, val_main_v53, val_main_v60, val_main_v46, val_main_v52, val_main_v59, val_main_v45, val_main_v44, val_main_v43, val_main_v51, val_main_v50, val_main_v49, val_main_v58, val_main_v57, val_main_v56, val_main_v2, val_main_v1]
  rw [lZ Z r l g hg, lT0 U r l g hg, lT1 U r l g hg, lT2 U r l g hg]
  unfold gradB tapW
  rw [mul_comm (W (ix3 0 0 l)), mul_comm (W (ix3 0 1 l)), mul_comm (W (ix3 0 2 l))]

/-- The gradient of the gated value. -/
theorem lback (r : Fin 8192) (l : Fin 2048) (g : Fin 8448) (hg : g.val = 256 + r.val) : val_main_v101 (F := Ideal) U Z W (ix2 r l) = back U Z W l g := by
  pointwise [val_main_v101, val_main_v99, val_main_v88, val_main_v77, val_main_v87, val_main_v98, val_main_cst_8, val_main_cst_12, val_main_cst_16, val_main_v73, val_main_v82, val_main_v93, val_main_v72, val_main_v81, val_main_v92, val_main_v45, val_main_v44, val_main_v43, val_main_v51, val_main_v50, val_main_v49, val_main_v58, val_main_v57, val_main_v56, val_main_v2, val_main_v1]
  unfold back tapW
  rw [add_assoc, add_comm]
  refine (congrArg (· + _) (add_comm _ _)).trans ?_
  refine Ideal.add_congr (Ideal.add_congr ?_ ?_) ?_
  · unfold next
    by_cases h : r.val = 8191
    · rw [dif_neg (by omega), dif_pos (by omega), mul_zero]
    · rw [dif_pos (by omega), dif_neg (by omega), lD U Z _ l ⟨g.val + 1, by omega⟩ (by show g.val + 1 = 256 + (1 + r.val); omega), mul_comm]
  · rw [lD U Z _ l g hg, mul_comm]
  · unfold prev
    by_cases h : r.val = 0
    · rw [dif_neg (by omega), dif_pos (by omega), mul_zero]
    · rw [dif_pos (by omega), dif_neg (by omega), lD U Z _ l ⟨g.val - 1, by omega⟩ (by show g.val - 1 = 256 + (1 + r.val - 2); omega), mul_comm]

/-- The input gate's gradient. -/
theorem lgradC (r : Fin 8192) (l : Fin 2048) (g : Fin 8448) (hg : g.val = 256 + r.val) : val_main_v104 (F := Ideal) U Z W (ix2 r l) = back U Z W l g * colV U l g := by
  pointwise [val_main_v104]
  exact Ideal.mul_congr (lback U Z W r l g hg) (lV U r l g hg)

/-- The value's gradient. -/
theorem lgradV (r : Fin 8192) (l : Fin 2048) (g : Fin 8448) (hg : g.val = 256 + r.val) : val_main_v103 (F := Ideal) U Z W (ix2 r l) = back U Z W l g * colC U l g := by
  pointwise [val_main_v103]
  rw [mul_comm]
  exact Ideal.mul_congr (lback U Z W r l g hg) (lC U r l g hg)

/-- The reference's first result. -/
theorem ref_du : val_main_v149 (F := Ideal) U Z W = gradU U Z W := by
  funext i
  obtain ⟨g, k, rfl⟩ : ∃ (g : Fin 8448) (k : Fin 6144), i = ix2 g k := ⟨i 0, i 1, funext fun d => by match d with | 0 => rfl | 1 => rfl⟩
  pointwise [val_main_v149, val_main_v148, val_main_v106, val_main_v105, val_main_v147, val_main_v146, val_main_cst_17, val_main_cst_30]
  show _ = (if hb : k.val < 2048 then gradB U Z W ⟨k.val, hb⟩ g
    else if hc : k.val < 4096 then back U Z W ⟨k.val - 2048, by omega⟩ g * colV U ⟨k.val - 2048, by omega⟩ g
    else back U Z W ⟨k.val - 4096, by omega⟩ g * colC U ⟨k.val - 4096, by omega⟩ g)
  have e : k.val - 2048 - 2048 = k.val - 4096 := by omega
  by_cases hg : g.val < 256
  · rw [dif_neg (show ¬ (256 ≤ g.val ∧ g.val - 256 < 8192) by omega), dif_pos hg, zero_add]
    by_cases hb : k.val < 2048
    · rw [dif_pos hb, dif_pos hb, cgradB U Z W _ _ g (by show g.val = 0 + g.val; omega)]
    · rw [dif_neg hb, dif_neg hb]
      by_cases hc : k.val < 4096
      · rw [dif_pos (by omega), dif_pos hc, cgradC U Z W _ _ g (by show g.val = 0 + g.val; omega)]
      · rw [dif_neg (by omega), dif_neg hc, cgradV U Z W _ _ g (by show g.val = 0 + g.val; omega)]
        simp only [e]
  · rw [dif_pos (show 256 ≤ g.val ∧ g.val - 256 < 8192 by omega), dif_neg hg, add_zero]
    by_cases hb : k.val < 2048
    · rw [dif_pos hb, dif_pos hb, lgradB U Z W _ _ g (by show g.val = 256 + (g.val - 256); omega)]
    · rw [dif_neg hb, dif_neg hb]
      by_cases hc : k.val < 4096
      · rw [dif_pos (by omega), dif_pos hc, lgradC U Z W _ _ g (by show g.val = 256 + (g.val - 256); omega)]
      · rw [dif_neg (by omega), dif_neg hc, lgradV U Z W _ _ g (by show g.val = 256 + (g.val - 256); omega)]
        simp only [e]

/-- The weights' gradient over the latent sequence. -/
theorem lsum (k : Fin 3) (l : Fin 2048) :
    val_main_v97 (F := Ideal) U Z (ix2 k l) = ∑ x : Fin 8192, tapTerm U Z ⟨k.val, by omega⟩ l ⟨256 + x.val, by omega⟩ := by
  pointwise [val_main_v97, val_main_v86, val_main_v76, val_main_v75, val_main_v74, val_main_v71, val_main_v70, val_main_v69,
    val_main_v85, val_main_v84, val_main_v83, val_main_v80, val_main_v79, val_main_v78,
    val_main_v96, val_main_v95, val_main_v94, val_main_v91, val_main_v90, val_main_v89,
    val_main_cst_5, val_main_cst_6, val_main_cst_7, val_main_cst_9, val_main_cst_10, val_main_cst_11, val_main_cst_13, val_main_cst_14, val_main_cst_15]
  have t0 := fun x : Fin 8192 => lT0 U x l ⟨256 + x.val, by omega⟩ rfl
  have t1 := fun x : Fin 8192 => lT1 U x l ⟨256 + x.val, by omega⟩ rfl
  have t2 := fun x : Fin 8192 => lT2 U x l ⟨256 + x.val, by omega⟩ rfl
  have d := fun x : Fin 8192 => lD U Z x l ⟨256 + x.val, by omega⟩ rfl
  match k with
  | 0 => simp [t0, t1, t2, d, tapTerm, mul_comm]
  | 1 => simp [t0, t1, t2, d, tapTerm, mul_comm]
  | 2 => simp [t0, t1, t2, d, tapTerm, mul_comm]

/-- The weights' gradient over both sequences. -/
theorem csum (k : Fin 3) (l : Fin 2048) :
    val_main_v138 (F := Ideal) U Z (ix2 k l) = (∑ x : Fin 8192, tapTerm U Z ⟨k.val, by omega⟩ l ⟨256 + x.val, by omega⟩)
      + ∑ x : Fin 256, tapTerm U Z ⟨k.val, by omega⟩ l ⟨x.val, by omega⟩ := by
  pointwise [val_main_v138, val_main_v127, val_main_v117, val_main_v116, val_main_v115, val_main_v114, val_main_v111, val_main_v110, val_main_v109,
    val_main_v126, val_main_v125, val_main_v124, val_main_v121, val_main_v120, val_main_v119,
    val_main_v137, val_main_v136, val_main_v135, val_main_v132, val_main_v131, val_main_v130,
    val_main_cst_18, val_main_cst_19, val_main_cst_20, val_main_cst_22, val_main_cst_23, val_main_cst_24, val_main_cst_26, val_main_cst_27, val_main_cst_28]
  rw [lsum]
  have e : ∀ x : Fin 256, (⟨x.val, by omega⟩ : Fin 8448).val = 0 + x.val := fun x => (Nat.zero_add _).symm
  have t0 := fun x : Fin 256 => cT0 U x l ⟨x.val, by omega⟩ (e x)
  have t1 := fun x : Fin 256 => cT1 U x l ⟨x.val, by omega⟩ (e x)
  have t2 := fun x : Fin 256 => cT2 U x l ⟨x.val, by omega⟩ (e x)
  have d := fun x : Fin 256 => cD U Z x l ⟨x.val, by omega⟩ (e x)
  rw [add_assoc, add_assoc]
  refine Ideal.add_congr rfl ?_
  match k with
  | 0 => simp [t0, t1, t2, d, tapTerm, mul_comm]
  | 1 => simp [t0, t1, t2, d, tapTerm, mul_comm]
  | 2 => simp [t0, t1, t2, d, tapTerm, mul_comm]

/-- The reference's second result. -/
theorem ref_dw : val_main_v151 (F := Ideal) U Z = gradW U Z := by
  funext i
  obtain ⟨k, l, rfl⟩ : ∃ (k : Fin 8) (l : Fin 2048), i = ix2 k l := ⟨i 0, i 1, funext fun d => by match d with | 0 => rfl | 1 => rfl⟩
  pointwise [val_main_v151, val_main_v150, val_main_cst_31]
  show _ = ∑ g : Fin (256 + 8192), tapTerm U Z k l g
  by_cases h : k.val < 3
  · rw [dif_pos h, csum, Fin.sum_univ_add, add_comm]
    rfl
  · rw [dif_neg h]
    refine (Finset.sum_eq_zero fun g _ => ?_).symm
    unfold tapTerm
    rw [if_neg (by omega), if_neg (by omega), if_neg (by omega)]

end Cert.ShortConv.Ref

end
-- ==== Proof.ShortConv.Claims.lean ====
/- The claims about the gradient of the gated short convolution. -/
module

public import proofs.«01_k».proof.Defs
public import proofs.«01_k».proof.Proof.Gen.Kernel.Frame
public import proofs.«01_k».proof.Proof.ShortConv.Kernel
public import proofs.«01_k».proof.Proof.ShortConv.Reference

@[expose] public section

set_option maxRecDepth 16384

noncomputable section

namespace Cert.ShortConv

open Idealize.ShloMosaic Idealize.SL.Sem

/-- The kernel, rounding as the device does, runs to its end and leaves its arguments as they were. -/
theorem frame_kernel : Cert.quiescent_Kernel (hKernel := Cert.Kernel.Gen.facts) := fun m ρ _ => Cert.Kernel.Gen.frame m ρ

/-- The same of the kernel over exact numbers. -/
theorem frame_ideal : Cert.quiescent_KernelIdeal (hKernelIdeal := Cert.KernelIdeal.Gen.facts) :=
  fun m ρ _ => Cert.KernelIdeal.Gen.frame m ρ

/-- The same of the reference, which is host code and holds no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Over exact numbers the kernel's two results are the reference's: both are `gradU` and `gradW` of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 13 Cert.KernelIdeal.cfg0.N,
    fun c => (Cert.KernelIdeal.Gen.dats m 0 c).arrAt 14 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h0, h1, hk⟩ := h c
  obtain ⟨a0, a1, a2⟩ := hargs c
  refine ⟨?_, ?_, hk⟩
  · refine h0.trans ((Cert.ReferenceIdeal.Read.val_main_v149_eq (StableHlo.launchContents m' c)).trans ?_)
    refine (Ref.ref_du _ _ _).trans (Eq.trans ?_ (kernel_du m c).symm)
    exact congr (congr (congrArg gradU a0) a1) a2
  · refine h1.trans ((Cert.ReferenceIdeal.Read.val_main_v151_eq (StableHlo.launchContents m' c)).trans ?_)
    refine (Ref.ref_dw _ _).trans (Eq.trans ?_ (kernel_dw m c).symm)
    exact congr (congrArg gradW a0) a1

end Cert.ShortConv

end
-- ==== Proof.Sums.lean ====
/- Sums over a run of columns, taken in parts. -/
module

public import Idealize.ShloMosaic.Lib.Pipeline.ValueKit

@[expose] public section

namespace Cert.Sums

/-- A sum in two parts is the sum over the whole. -/
theorem two {M : Type*} [AddCommMonoid M] (p q : ℕ) {n : ℕ} (hn : p + q = n) (f : Fin n → M) (a : Fin p → M) (b : Fin q → M)
    (ha : ∀ k : Fin p, a k = f ⟨k.val, by omega⟩) (hb : ∀ k : Fin q, b k = f ⟨p + k.val, by omega⟩) :
    ∑ k, a k + ∑ k, b k = ∑ k, f k := by
  subst hn
  rw [Fin.sum_univ_add]
  exact congrArg₂ (· + ·) (Finset.sum_congr rfl fun k _ => ha k) (Finset.sum_congr rfl fun k _ => hb k)

/-- A sum in three parts is the sum over the whole. -/
theorem three {M : Type*} [AddCommMonoid M] (p q r : ℕ) {n : ℕ} (hn : p + q + r = n) (f : Fin n → M)
    (a : Fin p → M) (b : Fin q → M) (c : Fin r → M)
    (ha : ∀ k : Fin p, a k = f ⟨k.val, by omega⟩) (hb : ∀ k : Fin q, b k = f ⟨p + k.val, by omega⟩)
    (hc : ∀ k : Fin r, c k = f ⟨p + q + k.val, by omega⟩) :
    ∑ k, a k + ∑ k, b k + ∑ k, c k = ∑ k, f k := by
  rw [two p q rfl (fun k : Fin (p + q) => f ⟨k.val, by omega⟩) a b ha hb]
  exact two (p + q) r hn f _ c (fun _ => rfl) hc

end Cert.Sums

end
-- ==== Proof.UpDgrad.Kernel.lean ====
/- The gradient of the gate's and the value's input: what the kernel leaves in its result. For every tile of 768 tokens the
   grid walks the 11264 columns of the two gradients in four parts of 2816; a scratch buffer sums the four products. -/
module

public import proofs.«01_k».proof.Proof.Gen.Kernel2Ideal.Value
public import proofs.«01_k».proof.Proof.Sums
public import Idealize.ShloMosaic.Lib.Pipeline.ValueKit
public import Idealize.ShloMosaic.Lib.Pipeline.ReadBack

@[expose] public section

set_option maxRecDepth 16384

noncomputable section

namespace Cert.UpDgrad

open Idealize.ShloMosaic Idealize.ShloMosaic.TcCoe Idealize.SL.Sem
open Cert.Kernel2Ideal Cert.Kernel2Ideal.Gen

/-- Column `n` of the two gradients side by side: the gate's first, then the value's. -/
def both (G V : FVec Ideal (⟨2, ![8448, 5632]⟩ : Shape) .bf16) (s : Fin 8448) (n : Fin 11264) : EReal :=
  if h : n.val < 5632 then G (ix2 s ⟨n.val, h⟩) else V (ix2 s ⟨n.val - 5632, by omega⟩)

/-- The gradient of the input: the products of the gradients of a token and the rows of the weight, summed over its 11264
    columns, which come in eight blocks. -/
def grad (G V : FVec Ideal (⟨2, ![8448, 5632]⟩ : Shape) .bf16) (W : FVec Ideal (⟨3, ![8, 2048, 1408]⟩ : Shape) .bf16) :
    FVec Ideal (⟨2, ![8448, 2048]⟩ : Shape) .bf16 :=
  fun x => ∑ n : Fin 11264, both G V (x 0) n * W (ix3 ⟨n.val / 1408, by omega⟩ (x 1) ⟨n.val % 1408, Nat.mod_lt _ (by decide)⟩)

variable (m : (ℓ : Loc nD τ sig) → Buf (Elt Ideal) ℓ) (c : Dev nD)

/-- Which block of each array a grid point works on. -/
theorem idx : ∀ t : Fin cfg0.N, win0_2.index t = ![t.val % 4, 0, 0] ∧ win0_3.index t = ![t.val / 4, 0] :=
  (by decide +kernel : ∀ t : Fin grid0.N, win0_2.index t = ![t.val % 4, 0, 0] ∧ win0_3.index t = ![t.val / 4, 0])
theorem idx0 : ∀ t : Fin cfg0.N, t.val % 4 ≤ 1 → win0_0.index t = ![t.val / 4, t.val % 4] :=
  (by decide +kernel : ∀ t : Fin grid0.N, t.val % 4 ≤ 1 → win0_0.index t = ![t.val / 4, t.val % 4])
theorem idx1 : ∀ t : Fin cfg0.N, 2 ≤ t.val % 4 → win0_1.index t = ![t.val / 4, t.val % 4 - 2] :=
  (by decide +kernel : ∀ t : Fin grid0.N, 2 ≤ t.val % 4 → win0_1.index t = ![t.val / 4, t.val % 4 - 2])

/-- The scratch starts at zero. -/
theorem zero_at (j) : k0_pay3 (F := Ideal) j = 0 := by pointwise [k0_pay3]

/-- One product of a part: column `k` of the gradient times column `k` of the weight, whose columns come in two blocks. -/
def term (d : FVec Ideal S768x2816 .bf16) (w : FVec Ideal S2x2048x1408 .bf16) (i : Fin 768) (n : Fin 2048) (k : Fin 2816) : EReal :=
  d (ix2 i k) * w (ix3 ⟨k.val / 1408, by omega⟩ n ⟨k.val % 1408, Nat.mod_lt _ (by decide)⟩)

theorem term_at (d : FVec Ideal S768x2816 .bf16) (w : FVec Ideal S2x2048x1408 .bf16) (i : Fin 768) (n : Fin 2048) (k a : Fin 2816)
    (q : Fin 2) (r : Fin 1408) (ha : a.val = k.val) (hq : k.val / 1408 = q.val) (hr : k.val % 1408 = r.val) :
    (d (ix2 i a) * w (ix3 q n r) : EReal) = term d w i n k := by
  obtain rfl : a = k := Fin.ext ha
  exact congrArg (fun z => (d (ix2 i a) * w z : EReal)) (congrArg₂ (fun q r => ix3 q n r) (Fin.ext hq.symm) (Fin.ext hr.symm))

/-- One part of the columns adds its products, in three pieces. -/
theorem step_at (acc : FVec Ideal S768x2048 .f32) (d : FVec Ideal S768x2816 .bf16) (w : FVec Ideal S2x2048x1408 .bf16) (j : S768x2048.Idx) :
    k0_pay1 (F := Ideal) acc
      (View.ld (Val := Elt Ideal) (S := S2x2048x1408) (e' := .bf16) w (Rect.unit ![0, 0, 1280] ![1, 2048, 128] inb_S2x2048x1408_S1x2048x128_0_0_1280))
      (View.ld (Val := Elt Ideal) (S := S2x2048x1408) (e' := .bf16) w (Rect.unit ![1, 0, 0] ![1, 2048, 128] inb_S2x2048x1408_S1x2048x128_1_0_0))
      (View.ld (Val := Elt Ideal) (S := S768x2816) (e' := .bf16) d (Rect.unit ![0, 0] ![768, 1280] inb_S768x2816_S768x1280_0_0))
      (View.ld (Val := Elt Ideal) (S := S2x2048x1408) (e' := .bf16) w (Rect.unit ![0, 0, 0] ![1, 2048, 1280] inb_S2x2048x1408_S1x2048x1280_0_0_0))
      (View.ld (Val := Elt Ideal) (S := S768x2816) (e' := .bf16) d (Rect.unit ![0, 1280] ![768, 256] inb_S768x2816_S768x256_0_1280))
      (View.ld (Val := Elt Ideal) (S := S768x2816) (e' := .bf16) d (Rect.unit ![0, 1536] ![768, 1280] inb_S768x2816_S768x1280_0_1536))
      (View.ld (Val := Elt Ideal) (S := S2x2048x1408) (e' := .bf16) w (Rect.unit ![1, 0, 128] ![1, 2048, 1280] inb_S2x2048x1408_S1x2048x1280_1_0_128)) j
    = acc j + ∑ k : Fin 2816, term d w (j 0) (j 1) k := by
  pointwise [k0_pay1]
  refine congrArg (acc j + ·) ?_
  rw [← add_assoc]
  refine (congrArg (· + _) (Sums.three 1280 128 128 rfl (fun k : Fin 1536 => term d w (j 0) (j 1) ⟨k.val, by omega⟩) _ _ _ ?_ ?_ ?_)).trans ?_
  · exact fun k => term_at d w (j 0) (j 1) _ _ _ _ rfl (by show k.val / 1408 = 0; omega) (by show k.val % 1408 = k.val; omega)
  · exact fun k => term_at d w (j 0) (j 1) _ _ _ _ rfl (by show (1280 + k.val) / 1408 = 0; omega) (by show (1280 + k.val) % 1408 = 1280 + k.val; omega)
  · exact fun k => term_at d w (j 0) (j 1) _ _ _ _ (by show 1280 + (128 + k.val) = 1280 + 128 + k.val; omega)
      (by show (1280 + 128 + k.val) / 1408 = 1; omega) (by show (1280 + 128 + k.val) % 1408 = k.val; omega)
  refine Sums.two 1536 1280 rfl (term d w (j 0) (j 1)) _ _ (fun k => rfl) ?_
  exact fun k => term_at d w (j 0) (j 1) _ _ _ _ rfl (by show (1536 + k.val) / 1408 = 1; omega) (by show (1536 + k.val) % 1408 = 128 + k.val; omega)

/-- The same of the second text of the step. -/
theorem step4_at : k0_pay4 (F := Ideal) = k0_pay1 (F := Ideal) := rfl

/-- The part a grid point adds: from the gate's gradient at the first two points of a tile, from the value's at the last two. -/
def part (t : Fin cfg0.N) : FVec Ideal S768x2048 .f32 := fun j =>
  if t.val % 4 ≤ 1 then ∑ k : Fin 2816, term (iblk m c 0 t) (iblk m c 2 t) (j 0) (j 1) k
  else ∑ k : Fin 2816, term (iblk m c 1 t) (iblk m c 2 t) (j 0) (j 1) k

/-- The scratch at the last point of a tile: the four parts summed. -/
theorem scratch (t : Fin cfg0.N) (h : t.val % 4 = 3) (j : S768x2048.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (part m c)
    (fun t h j => by
      rw [outsAt0_A m c t h (by omega) (by omega) (by omega)]; frame_out
      rw [step4_at]; refine (step_at _ _ _ j).trans ?_
      rw [zero_at]; exact congrArg _ (if_pos (by omega)).symm)
    (fun t h j => by
      by_cases h1 : t.val % 4 ≤ 1
      · rw [outsAt0_B m c t h h1 (by omega) (by omega)]; frame_out
        rw [step4_at]; refine (step_at _ _ _ j).trans ?_
        rw [read_unread_whole]; exact congrArg _ (if_pos h1).symm
      · by_cases h2 : t.val % 4 = 3
        · rw [outsAt0_D m c t h h1 (by omega) h2]; frame_out
          refine (step_at _ _ _ j).trans ?_
          rw [read_unread_whole]; exact congrArg _ (if_neg h1).symm
        · rw [outsAt0_C m c t h h1 (by omega) h2]; frame_out
          refine (step_at _ _ _ j).trans ?_
          rw [read_unread_whole]; exact congrArg _ (if_neg h1).symm)
    t h j, zero_add]

/-- The result's tile is the scratch, rounded. -/
theorem out_at (v : FVec Ideal S768x2048 .f32) (y : S768x2048.Idx) : k0_pay2 (F := Ideal) v y = v (ix2 (y 0) (y 1)) := by
  pointwise [k0_pay2]

/-- Where an element of a tile sits in the result. -/
theorem place (t : Fin cfg0.N) (y : ((cfg0.win 3).xblock (cfg0.grid.coords t)).Idx) (i : Fin 8448) (n : Fin 2048)
    (hi : i.val = t.val / 4 * 768 + (y 0).val) (hn : n.val = (y 1).val) (X : FVec Ideal S8448x2048 .bf16) :
    X (((View.whole main_v0).slice (win0_3.rect t)).emb y) = X (ix2 i n) := by
  blk_ext [idx t]

/-- Which element of the weight a grid point's block holds. -/
theorem weight (t : Fin cfg0.N) (q : Fin 2) (n : Fin 2048) (r : Fin 1408) (a : Fin 8) (b : Fin 1408) (ha : a.val = t.val % 4 * 2 + q.val)
    (hb : b.val = r.val) :
    (show FVec Ideal S2x2048x1408 .bf16 from iblk m c 2 t) (ix3 q n r) = (m ((c : Thread nD τ).loc main_arg2)) (ix3 a n b) := by
  obtain rfl : b = r := Fin.ext hb
  have hq : q.val < 2 := q.isLt
  blk_point [iblk, V, idx t]

/-- Which element of the value's gradient a grid point's block holds. -/
theorem value (t : Fin cfg0.N) (h : 2 ≤ t.val % 4) (i : Fin 768) (k : Fin 2816) (a : Fin 8448) (b : Fin 5632) (ha : a.val = t.val / 4 * 768 + i.val)
    (hb : b.val = (t.val % 4 - 2) * 2816 + k.val) :
    (show FVec Ideal S768x2816 .bf16 from iblk m c 1 t) (ix2 i k) = (m ((c : Thread nD τ).loc main_arg1)) (ix2 a b) := by
  blk_point [iblk, V, idx1 t h]

/-- The result is the gradient of the input. -/
theorem kernel_value : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have ht : t.val < 44 := Nat.lt_of_lt_of_eq t.isLt N_0
  blk_simp
  rw [after0_3]
  have hs := scratch m c t h3
  rw [outsAt0_D m c t (by omega) (by omega) (by omega) h3] at hs ⊢
  revert hs
  frame_out
  intro hs
  have h1 : (y 0).val < 768 := (y 0).isLt
  have h2 : (y 1).val < 2048 := (y 1).isLt
  refine Eq.trans ((out_at _ y).trans (hs _)) (Eq.trans ?_ (place t y ⟨t.val / 4 * 768 + (y 0).val, by omega⟩ ⟨(y 1).val, h2⟩ rfl rfl _).symm)
  unfold grad
  have hb : ∀ s : Fin 4, 4 * (t.val / 4) + s.val < cfg0.N := fun s => Pipeline.run_point_lt_of_flush t h3 s
  have e : ∀ s : Fin 4, part m c ⟨4 * (t.val / 4) + s.val, hb s⟩ (ix2 (y 0) (y 1))
      = ∑ k : Fin 2816, (if s.val ≤ 1 then term (iblk m c 0 ⟨4 * (t.val / 4) + s.val, hb s⟩) (iblk m c 2 ⟨4 * (t.val / 4) + s.val, hb s⟩) (y 0) (y 1) k
        else term (iblk m c 1 ⟨4 * (t.val / 4) + s.val, hb s⟩) (iblk m c 2 ⟨4 * (t.val / 4) + s.val, hb s⟩) (y 0) (y 1) k) := fun s => by
    unfold part
    by_cases h : s.val ≤ 1
    · exact (if_pos (show (4 * (t.val / 4) + s.val) % 4 ≤ 1 by omega)).trans (Finset.sum_congr rfl fun k _ => (if_pos h).symm)
    · exact (if_neg (show ¬(4 * (t.val / 4) + s.val) % 4 ≤ 1 by omega)).trans (Finset.sum_congr rfl fun k _ => (if_neg h).symm)
  refine (show (∑ s : Fin 4, part m c ⟨4 * (t.val / 4) + s.val, hb s⟩ (ix2 (y 0) (y 1)) : EReal) = _ from
    Finset.sum_congr rfl fun s _ => e s).trans ?_
  refine Fin.sum_mul_add_congr fun s k hl => ?_
  have hk : k.val < 2816 := k.isLt
  by_cases h : s.val ≤ 1
  · refine (if_pos h).trans (Ideal.mul_congr ?_ ?_)
    · refine Eq.trans ?_ (dif_pos (show s.val * 2816 + k.val < 5632 by omega)).symm
      blk_point [iblk, V, idx0 ⟨4 * (t.val / 4) + s.val, hb s⟩ (by show (4 * (t.val / 4) + s.val) % 4 ≤ 1; omega)]
    · exact weight m c ⟨4 * (t.val / 4) + s.val, hb s⟩ _ _ _ _ _ (by show (s.val * 2816 + k.val) / 1408 = (4 * (t.val / 4) + s.val) % 4 * 2 + k.val / 1408; omega)
        (by show (s.val * 2816 + k.val) % 1408 = k.val % 1408; omega)
  · refine (if_neg h).trans (Ideal.mul_congr ?_ ?_)
    · refine Eq.trans ?_ (dif_neg (show ¬s.val * 2816 + k.val < 5632 by omega)).symm
      exact value m c ⟨4 * (t.val / 4) + s.val, hb s⟩ (by show 2 ≤ (4 * (t.val / 4) + s.val) % 4; omega) _ _ _ _
        (by show t.val / 4 * 768 + (y 0).val = (4 * (t.val / 4) + s.val) / 4 * 768 + (y 0).val; omega)
        (by show s.val * 2816 + k.val - 5632 = ((4 * (t.val / 4) + s.val) % 4 - 2) * 2816 + k.val; omega)
    · exact weight m c ⟨4 * (t.val / 4) + s.val, hb s⟩ _ _ _ _ _ (by show (s.val * 2816 + k.val) / 1408 = (4 * (t.val / 4) + s.val) % 4 * 2 + k.val / 1408; omega)
        (by show (s.val * 2816 + k.val) % 1408 = k.val % 1408; omega)

end Cert.UpDgrad

end
-- ==== Proof.UpDgrad.Reference.lean ====
/- The gradient of the gate's and the value's input: what the reference leaves in its result. -/
module

public import proofs.«01_k».proof.Proof.Gen.Reference2Ideal.Read
public import Idealize.ShloMosaic.Lib.Pipeline.ValueKit

@[expose] public section

set_option maxRecDepth 16384

noncomputable section

namespace Cert.UpDgrad.Ref

open Idealize.ShloMosaic Idealize.ShloMosaic.TcCoe Idealize.SL.Sem
open Cert.Reference2Ideal Cert.Reference2Ideal.Gen Cert.Reference2Ideal.Read

variable (G V : FVec Ideal S8448x5632 .bf16) (W : FVec Ideal S8x2048x1408 .bf16)

/-- The two gradients side by side, at a column of the first. -/
theorem left (s : Fin 8448) (n : Fin 11264) (h : n.val < 5632) : val_main_v9 (F := Ideal) G V (ix2 s n) = G (ix2 s ⟨n.val, h⟩) := by
  obtain ⟨n, hn⟩ := n
  pointwise [val_main_v9, val_main_v7]
  exact dif_pos h

/-- And at a column of the second. -/
theorem right (s : Fin 8448) (n : Fin 11264) (h : ¬n.val < 5632) :
    val_main_v9 (F := Ideal) G V (ix2 s n) = V (ix2 s ⟨n.val - 5632, by omega⟩) := by
  obtain ⟨n, hn⟩ := n
  pointwise [val_main_v9, val_main_v8]
  exact dif_neg h

/-- The weight's eight blocks of columns side by side. -/
theorem weight (i : Fin 2048) (n : Fin 11264) :
    val_main_v2 (F := Ideal) W (ix2 i n) = W (ix3 ⟨n.val / 1408, by omega⟩ i ⟨n.val % 1408, Nat.mod_lt _ (by decide)⟩) := by
  pointwise [val_main_v2, val_main_v1, val_main_v0]

/-- The reference's result at an index: the row of the gradients times the row of the weight. -/
theorem ref_at (x : S8448x2048.Idx) :
    (val_main_v11 (F := Ideal) G V W x : EReal) = ∑ n : Fin 11264, (val_main_v9 (F := Ideal) G V (ix2 (x 0) n) * val_main_v2 (F := Ideal) W (ix2 (x 1) n) : EReal) := by
  refine Eq.trans (b := (val_main_v10 (F := Ideal) G V W x : EReal)) ?_ ((val_main_v10_apply G V W _).trans (Finset.sum_congr rfl fun s _ => Ideal.mul_congr ?_ ?_))
  · pointwise [val_main_v11]
  · exact congrArg (val_main_v9 (F := Ideal) G V) (funext fun a => match a with
      | ⟨0, _⟩ => rfl
      | ⟨1, _⟩ => rfl)
  · exact congrArg (val_main_v2 (F := Ideal) W) (funext fun a => match a with
      | ⟨0, _⟩ => rfl
      | ⟨1, _⟩ => rfl)

end Cert.UpDgrad.Ref

end
-- ==== Proof.UpDgrad.Claims.lean ====
/- The claims about the gradient of the gate's and the value's input. -/
module

public import proofs.«01_k».proof.Defs
public import proofs.«01_k».proof.Proof.Gen.Kernel2.Frame
public import proofs.«01_k».proof.Proof.UpDgrad.Kernel
public import proofs.«01_k».proof.Proof.UpDgrad.Reference

@[expose] public section

set_option maxRecDepth 16384

noncomputable section

namespace Cert.UpDgrad

open Idealize.ShloMosaic Idealize.SL.Sem

/-- The kernel, rounding as the device does, runs to its end and leaves its arguments as they were. -/
theorem frame_kernel : Cert.quiescent_Kernel2 (hKernel2 := Cert.Kernel2.Gen.facts) := fun m ρ _ => Cert.Kernel2.Gen.frame m ρ

/-- The same of the kernel over exact numbers. -/
theorem frame_ideal : Cert.quiescent_Kernel2Ideal (hKernel2Ideal := Cert.Kernel2Ideal.Gen.facts) :=
  fun m ρ _ => Cert.Kernel2Ideal.Gen.frame m ρ

/-- The same of the reference, which is host code and holds no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result is the gradient. -/
theorem ref_value (G V : FVec Ideal Cert.Reference2Ideal.S8448x5632 .bf16) (W : FVec Ideal Cert.Reference2Ideal.S8x2048x1408 .bf16) :
    Cert.Reference2Ideal.Read.val_main_v11 (F := Ideal) G V W = grad G V W := by
  funext x
  refine (Ref.ref_at G V W x).trans (Finset.sum_congr rfl fun n _ => Ideal.mul_congr ?_ (Ref.weight W (x 1) n))
  unfold both
  split
  · exact Ref.left G V (x 0) n ‹_›
  · exact Ref.right G V (x 0) n ‹_›

/-- Over exact numbers the kernel's result is the reference's: both are `grad` of the arguments. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 3 Cert.Kernel2Ideal.cfg0.N, ?_, ?_⟩
  · refine (θ_run Cert.Kernel2Ideal.defs _ _).mono (fun r h c => ?_) (Cert.Kernel2Ideal.Value.run m g)
    exact ⟨(h c).1.trans (Cert.Kernel2Ideal.Value.final3 m c).symm, (h c).2⟩
  refine (θ_run Cert.Reference2Ideal.defs _ _).mono (fun r h c => ?_) (Cert.Reference2Ideal.Value.run (F := Ideal) m' g')
  obtain ⟨h0, hk⟩ := h c
  obtain ⟨a0, a1, a2⟩ := hargs c
  refine ⟨h0.trans ((Cert.Reference2Ideal.Read.val_main_v11_eq _ _ _).trans ?_), hk⟩
  refine (ref_value _ _ _).trans (Eq.trans ?_ (kernel_value m c).symm)
  exact congr (congr (congrArg grad a0) a1) a2

end Cert.UpDgrad

end
-- ==== Proof.UpWgrad.Kernel.lean ====
/- The gradient of the gate's and the value's weight: what the kernel leaves in its result. For every tile of the weight
   the grid walks the 8448 tokens in three tiles of 2816; a scratch buffer sums the three products. The first half of the
   grid works on the gate's gradient, the second on the value's. -/
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.UpWgrad

open Idealize.ShloMosaic Idealize.ShloMosaic.TcCoe Idealize.SL.Sem
open Cert.Kernel3Ideal Cert.Kernel3Ideal.Gen

/-- Column `n` of the two gradients side by side: the gate's first, then the value's. -/
def both (G V : FVec Ideal (⟨2, ![8448, 5632]⟩ : Shape) .bf16) (s : Fin 8448) (n : Fin 11264) : EReal :=
  if h : n.val < 5632 then G (ix2 s ⟨n.val, h⟩) else V (ix2 s ⟨n.val - 5632, by omega⟩)

/-- The gradient of the weight, in eight blocks of columns: the products of input `i` and gradient, summed over the tokens. -/
def grad (H : FVec Ideal (⟨2, ![2048, 8448]⟩ : Shape) .bf16) (G V : FVec Ideal (⟨2, ![8448, 5632]⟩ : Shape) .bf16) :
    FVec Ideal (⟨3, ![8, 2048, 1408]⟩ : Shape) .bf16 :=
  fun x => ∑ s : Fin 8448, H (ix2 (x 1) s) * both G V s
    ⟨(x 0).val * 1408 + (x 2).val, by
      have h0 : (x 0).val < 8 := (x 0).isLt
      have h2 : (x 2).val < 1408 := (x 2).isLt
      omega⟩

variable (m : (ℓ : Loc nD τ sig) → Buf (Elt Ideal) ℓ) (c : Dev nD)

/-- Which block of each array a grid point works on. -/
theorem idx : ∀ t : Fin cfg0.N, win0_0.index t = ![t.val / 3 % 4, t.val % 3] ∧ win0_3.index t = ![t.val / 12, t.val / 3 % 4, 0] :=
  (by decide +kernel : ∀ t : Fin grid0.N, win0_0.index t = ![t.val / 3 % 4, t.val % 3] ∧ win0_3.index t = ![t.val / 12, t.val / 3 % 4, 0])
theorem idx1 : ∀ t : Fin cfg0.N, t.val < 48 → win0_1.index t = ![t.val % 3, t.val / 12] :=
  (by decide +kernel : ∀ t : Fin grid0.N, t.val < 48 → win0_1.index t = ![t.val % 3, t.val / 12])
theorem idx2 : ∀ t : Fin cfg0.N, 48 ≤ t.val → win0_2.index t = ![t.val % 3, t.val / 12 - 4] :=
  (by decide +kernel : ∀ t : Fin grid0.N, 48 ≤ t.val → win0_2.index t = ![t.val % 3, t.val / 12 - 4])

/-- The scratch starts at zero. -/
theorem zero_at (j) : k0_pay3 (F := Ideal) j = 0 := by pointwise [k0_pay3]

/-- One tile of tokens adds its products: of the gate's gradient, and of the value's. -/
theorem step_at (acc : FVec Ideal S512x1408 .f32) (x : FVec Ideal S512x2816 .bf16) (y : FVec Ideal S2816x1408 .bf16) (j : S512x1408.Idx) :
    k0_pay1 acc x y j = acc j + ∑ k : Fin 2816, x (ix2 (j 0) k) * y (ix2 k (j 1)) := by pointwise [k0_pay1]
theorem step4_at (acc : FVec Ideal S512x1408 .f32) (x : FVec Ideal S512x2816 .bf16) (y : FVec Ideal S2816x1408 .bf16) (j : S512x1408.Idx) :
    k0_pay4 acc x y j = acc j + ∑ k : Fin 2816, x (ix2 (j 0) k) * y (ix2 k (j 1)) := by pointwise [k0_pay4]

/-- The part a grid point adds. -/
def part (t : Fin cfg0.N) : FVec Ideal S512x1408 .f32 := fun j =>
  if t.val < 48 then ∑ k : Fin 2816, (show FVec Ideal S512x2816 .bf16 from iblk m c 0 t) (ix2 (j 0) k) * (show FVec Ideal S2816x1408 .bf16 from iblk m c 1 t) (ix2 k (j 1))
  else ∑ k : Fin 2816, (show FVec Ideal S512x2816 .bf16 from iblk m c 0 t) (ix2 (j 0) k) * (show FVec Ideal S2816x1408 .bf16 from iblk m c 2 t) (ix2 k (j 1))

/-- The scratch at the last point of a tile: the three parts summed. -/
theorem scratch (t : Fin cfg0.N) (h : t.val % 3 = 2) (j : S512x1408.Idx) :
    (outsAt0 m c t.val t.isLt).2 j = ∑ s : Fin 3, part m c ⟨3 * (t.val / 3) + s.val, Pipeline.run_point_lt_of_flush t h s⟩ j := by
  rw [Pipeline.eq_sum_fin_of_reset_step_apply_of_flush (fun n h => (outsAt0 m c n h).2) 3 (fun _ => 0) (part m c)
    (fun t h j => by
      by_cases h1 : t.val < 48
      · rw [outsAt0_A m c t h h1 (by omega) (by omega)]; frame_out; rw [step4_at, zero_at]; exact congrArg _ (if_pos h1).symm
      · rw [outsAt0_D m c t h h1 (by omega) (by omega)]; frame_out; rw [step_at, zero_at]; exact congrArg _ (if_neg h1).symm)
    (fun t h j => by
      by_cases h1 : t.val < 48
      · by_cases h2 : t.val % 3 = 2
        · rw [outsAt0_C m c t h h1 (by omega) h2]; frame_out; rw [step4_at, read_unread_whole]; exact congrArg _ (if_pos h1).symm
        · rw [outsAt0_B m c t h h1 (by omega) h2]; frame_out; rw [step4_at, read_unread_whole]; exact congrArg _ (if_pos h1).symm
      · by_cases h2 : t.val % 3 = 2
        · rw [outsAt0_F m c t h h1 (by omega) h2]; frame_out; rw [step_at, read_unread_whole]; exact congrArg _ (if_neg h1).symm
        · rw [outsAt0_E m c t h h1 (by omega) h2]; frame_out; rw [step_at, read_unread_whole]; exact congrArg _ (if_neg h1).symm)
    t h j, zero_add]

/-- The result's tile is the scratch, rounded. -/
theorem out_at (v : FVec Ideal S512x1408 .f32) (y : S1x512x1408.Idx) : k0_pay2 (F := Ideal) v y = v (ix2 (y 1) (y 2)) := by pointwise [k0_pay2]

/-- Where an element of a tile sits in the result. -/
theorem place (t : Fin cfg0.N) (y : ((cfg0.win 3).xblock (cfg0.grid.coords t)).Idx) (a : Fin 8) (i : Fin 2048) (n : Fin 1408)
    (ha : a.val = t.val / 12) (hi : i.val = t.val / 3 % 4 * 512 + (y 1).val) (hn : n.val = (y 2).val) (X : FVec Ideal S8x2048x1408 .bf16) :
    X (((View.whole main_v0).slice (win0_3.rect t)).emb y) = X (ix3 a i n) := by
  have h0 : (y 0).val < 1 := (y 0).isLt
  blk_ext [idx t]

/-- A tile of the result, from the scratch's three parts. -/
theorem tile (t : Fin cfg0.N) (h3 : t.val % 3 = 2) (v : FVec Ideal S512x1408 .f32) (y : ((cfg0.win 3).xblock (cfg0.grid.coords t)).Idx)
    (hs : ∀ j, v j = ∑ s : Fin 3, part m c ⟨3 * (t.val / 3) + s.val, Pipeline.run_point_lt_of_flush t h3 s⟩ j) :
    k0_pay2 (F := Ideal) v y
      = grad (m ((c : Thread nD τ).loc main_arg0)) (m ((c : Thread nD τ).loc main_arg1)) (m ((c : Thread nD τ).loc main_arg2))
        (((View.whole main_v0).slice (win0_3.rect t)).emb y) := by
  have ht : t.val < 96 := Nat.lt_of_lt_of_eq t.isLt N_0
  have h1 : (y 1).val < 512 := (y 1).isLt
  have h2 : (y 2).val < 1408 := (y 2).isLt
  refine Eq.trans ((out_at v y).trans (hs _)) (Eq.trans ?_
    (place t y ⟨t.val / 12, by omega⟩ ⟨t.val / 3 % 4 * 512 + (y 1).val, by omega⟩ ⟨(y 2).val, h2⟩ rfl rfl rfl _).symm)
  unfold grad
  by_cases h : t.val < 48
  · refine (Finset.sum_congr rfl fun s _ => if_pos (show 3 * (t.val / 3) + s.val < 48 by omega)).trans ?_
    refine Fin.sum_mul_add_congr fun s k hl => ?_
    have hp : 3 * (t.val / 3) + s.val < cfg0.N := Pipeline.run_point_lt_of_flush t h3 s
    refine Ideal.mul_congr ?_ ?_
    · blk_point [iblk, V, idx ⟨3 * (t.val / 3) + s.val, hp⟩]
    · refine Eq.trans ?_ (dif_pos (show t.val / 12 * 1408 + (y 2).val < 5632 by omega)).symm
      blk_point [iblk, V, idx1 ⟨3 * (t.val / 3) + s.val, hp⟩ (by show 3 * (t.val / 3) + s.val < 48; omega)]
  · refine (Finset.sum_congr rfl fun s _ => if_neg (show ¬3 * (t.val / 3) + s.val < 48 by omega)).trans ?_
    refine Fin.sum_mul_add_congr fun s k hl => ?_
    have hp : 3 * (t.val / 3) + s.val < cfg0.N := Pipeline.run_point_lt_of_flush t h3 s
    refine Ideal.mul_congr ?_ ?_
    · blk_point [iblk, V, idx ⟨3 * (t.val / 3) + s.val, hp⟩]
    · refine Eq.trans ?_ (dif_neg (show ¬t.val / 12 * 1408 + (y 2).val < 5632 by omega)).symm
      blk_point [iblk, V, idx2 ⟨3 * (t.val / 3) + s.val, hp⟩ (by show 48 ≤ 3 * (t.val / 3) + s.val; omega)]

/-- The result is the gradient of the weight. -/
theorem kernel_value : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 3 = 2 := (flush0_3 t).mp hf
  blk_simp
  rw [after0_3]
  have hs := scratch m c t h3
  by_cases h : t.val < 48
  · rw [outsAt0_C m c t (by omega) h (by omega) h3] at hs ⊢
    revert hs
    frame_out
    exact fun hs => tile m c t h3 _ y hs
  · rw [outsAt0_F m c t (by omega) h (by omega) h3] at hs ⊢
    revert hs
    frame_out
    exact fun hs => tile m c t h3 _ y hs

end Cert.UpWgrad

end
-- ==== Proof.UpWgrad.Reference.lean ====
/- The gradient of the gate's and the value's weight: what the reference leaves in its result. -/
module

public import proofs.«01_k».proof.Proof.Gen.Reference3Ideal.Read
public import Idealize.ShloMosaic.Lib.Pipeline.ValueKit

@[expose] public section

set_option maxRecDepth 16384

noncomputable section

namespace Cert.UpWgrad.Ref

open Idealize.ShloMosaic Idealize.ShloMosaic.TcCoe Idealize.SL.Sem
open Cert.Reference3Ideal Cert.Reference3Ideal.Gen Cert.Reference3Ideal.Read

variable (H : FVec Ideal S2048x8448 .bf16) (G V : FVec Ideal S8448x5632 .bf16)

/-- The two gradients side by side, at a column of the first. -/
theorem left (s : Fin 8448) (n : Fin 11264) (h : n.val < 5632) : val_main_v8 (F := Ideal) G V (ix2 s n) = G (ix2 s ⟨n.val, h⟩) := by
  obtain ⟨n, hn⟩ := n
  pointwise [val_main_v8, val_main_v6]
  exact dif_pos h

/-- And at a column of the second. -/
theorem right (s : Fin 8448) (n : Fin 11264) (h : ¬n.val < 5632) :
    val_main_v8 (F := Ideal) G V (ix2 s n) = V (ix2 s ⟨n.val - 5632, by omega⟩) := by
  obtain ⟨n, hn⟩ := n
  pointwise [val_main_v8, val_main_v7]
  exact dif_neg h

/-- The reference's result at an index: the row of the inputs times the column of the gradients. -/
theorem ref_at (x : S8x2048x1408.Idx) (n : Fin 11264) (hn : n.val = (x 0).val * 1408 + (x 2).val) :
    (val_main_v13 (F := Ideal) H G V x : EReal) = ∑ s : Fin 8448, (H (ix2 (x 1) s) * val_main_v8 (F := Ideal) G V (ix2 s n) : EReal) := by
  have e : (val_main_v13 (F := Ideal) H G V x : EReal) = val_main_v9 (F := Ideal) H G V (ix2 n (x 1)) := by
    have h0 : (x 0).val < 8 := (x 0).isLt
    have h2 : (x 2).val < 1408 := (x 2).isLt
    have hb : (x 0).val * 1408 + (x 2).val < 11264 := by clear hn; omega
    obtain rfl : n = ⟨(x 0).val * 1408 + (x 2).val, hb⟩ := Fin.ext hn
    pointwise [val_main_v13, val_main_v12, val_main_v11, val_main_v10]
  refine e.trans ((val_main_v9_apply H G V _).trans (Finset.sum_congr rfl fun s _ => ?_))
  rw [mul_comm]
  refine Ideal.mul_congr ?_ ?_
  · pointwise [val_main_v1, val_main_v0]
  · exact congrArg (val_main_v8 (F := Ideal) G V) (funext fun a => match a with
      | ⟨0, _⟩ => rfl
      | ⟨1, _⟩ => rfl)

end Cert.UpWgrad.Ref

end
-- ==== Proof.UpWgrad.Claims.lean ====
/- The claims about the gradient of the gate's and the value's weight. -/
module

public import proofs.«01_k».proof.Defs
public import proofs.«01_k».proof.Proof.Gen.Kernel3.Frame
public import proofs.«01_k».proof.Proof.UpWgrad.Kernel
public import proofs.«01_k».proof.Proof.UpWgrad.Reference

@[expose] public section

set_option maxRecDepth 16384

noncomputable section

namespace Cert.UpWgrad

open Idealize.ShloMosaic Idealize.SL.Sem

/-- The kernel, rounding as the device does, runs to its end and leaves its arguments as they were. -/
theorem frame_kernel : Cert.quiescent_Kernel3 (hKernel3 := Cert.Kernel3.Gen.facts) := fun m ρ _ => Cert.Kernel3.Gen.frame m ρ

/-- The same of the kernel over exact numbers. -/
theorem frame_ideal : Cert.quiescent_Kernel3Ideal (hKernel3Ideal := Cert.Kernel3Ideal.Gen.facts) :=
  fun m ρ _ => Cert.Kernel3Ideal.Gen.frame m ρ

/-- The same of the reference, which is host code and holds no semaphore. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's result is the gradient. -/
theorem ref_value (H : FVec Ideal Cert.Reference3Ideal.S2048x8448 .bf16) (G V : FVec Ideal Cert.Reference3Ideal.S8448x5632 .bf16) :
    Cert.Reference3Ideal.Read.val_main_v13 (F := Ideal) H G V = grad H G V := by
  funext x
  refine (Ref.ref_at H G V x ⟨(x 0).val * 1408 + (x 2).val, by
    have h0 : (x 0).val < 8 := (x 0).isLt
    have h2 : (x 2).val < 1408 := (x 2).isLt
    omega⟩ rfl).trans (Finset.sum_congr rfl fun s _ => Ideal.mul_congr rfl ?_)
  unfold both
  split
  · exact Ref.left G V s _ ‹_›
  · exact Ref.right G V s _ ‹_›

/-- Over exact numbers the kernel's result is the reference's: both are `grad` of the arguments. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 3 Cert.Kernel3Ideal.cfg0.N, ?_, ?_⟩
  · refine (θ_run Cert.Kernel3Ideal.defs _ _).mono (fun r h c => ?_) (Cert.Kernel3Ideal.Value.run m g)
    exact ⟨(h c).1.trans (Cert.Kernel3Ideal.Value.final3 m c).symm, (h c).2⟩
  refine (θ_run Cert.Reference3Ideal.defs _ _).mono (fun r h c => ?_) (Cert.Reference3Ideal.Value.run (F := Ideal) m' g')
  obtain ⟨h0, hk⟩ := h c
  obtain ⟨a0, a1, a2⟩ := hargs c
  refine ⟨h0.trans ((Cert.Reference3Ideal.Read.val_main_v13_eq _ _ _).trans ?_), hk⟩
  refine (ref_value _ _ _).trans (Eq.trans ?_ (kernel_value m c).symm)
  exact congr (congr (congrArg grad a0) a1) a2

end Cert.UpWgrad

end
-- ==== Proof.DownWgrad.Kernel.lean ====
/- The gradient of the down projection's weight: what the kernel leaves in its result. The grid walks the 8448 tokens in
   four tiles of 2112 for every tile of the weight; a scratch buffer sums the four products. -/
module

public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.DownWgrad

open Idealize.ShloMosaic Idealize.ShloMosaic.TcCoe Idealize.SL.Sem
open Cert.Kernel4Ideal Cert.Kernel4Ideal.Gen

/-- The gradient of the weight: the products of activation `i` and gradient `j`, summed over the tokens. -/
def grad (A : FVec Ideal (⟨2, ![8448, 5632]⟩ : Shape) .bf16) (Y : FVec Ideal (⟨2, ![8448, 2048]⟩ : Shape) .bf16) :
    FVec Ideal (⟨3, ![1, 5632, 2048]⟩ : Shape) .bf16 :=
  fun x => ∑ s : Fin 8448, A (ix2 s (x 1)) * Y (ix2 s (x 2))

variable (m : (ℓ : Loc nD τ sig) → Buf (Elt Ideal) ℓ) (c : Dev nD)

/-- Which block of each array a grid point works on. -/
theorem idx : ∀ t : Fin cfg0.N, win0_0.index t = ![t.val % 4, t.val / 4 % 4] ∧ win0_1.index t = ![t.val % 4, t.val / 16]
    ∧ win0_2.index t = ![0, t.val / 4 % 4, t.val / 16] :=
  (by decide +kernel : ∀ t : Fin grid0.N, win0_0.index t = ![t.val % 4, t.val / 4 % 4] ∧ win0_1.index t = ![t.val % 4, t.val / 16]
    ∧ win0_2.index t = ![0, t.val / 4 % 4, t.val / 16])

/-- The scratch starts at zero. -/
theorem zero_at (j) : k0_pay1 (F := Ideal) j = 0 := by pointwise [k0_pay1]

/-- One tile of tokens adds its products. -/
theorem step_at (acc : FVec Ideal S1408x1024 .f32) (x : FVec Ideal S2112x1408 .bf16) (y : FVec Ideal S2112x1024 .bf16) (j : S1408x1024.Idx) :
    k0_pay2 acc x y j = acc j + ∑ k : Fin 2112, x (ix2 k (j 0)) * y (ix2 k (j 1)) := by pointwise [k0_pay2]

/-- The part a grid point adds. -/
def part (t : Fin cfg0.N) : FVec Ideal S1408x1024 .f32 := fun j =>
  ∑ k : Fin 2112, (show FVec Ideal S2112x1408 .bf16 from iblk m c 0 t) (ix2 k (j 0)) * (show FVec Ideal S2112x1024 .bf16 from iblk m c 1 t) (ix2 k (j 1))

/-- The scratch at the last point of a tile: the four parts summed. -/
theorem scratch (t : Fin cfg0.N) (h : t.val % 4 = 3) (j : S1408x1024.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (part m c)
    (fun t h j => by
      rw [outsAt0_A m c t h (by omega)]; frame_out; rw [step_at, zero_at]; rfl)
    (fun t h j => by
      by_cases h2 : t.val % 4 = 3
      · rw [outsAt0_C m c t h h2]; frame_out; rw [step_at, read_unread_whole]; rfl
      · rw [outsAt0_B m c t h h2]; frame_out; rw [step_at, read_unread_whole]; rfl)
    t h j, zero_add]

/-- The result's tile is the scratch, rounded. -/
theorem out_at (v : FVec Ideal S1408x1024 .f32) (y : S1x1408x1024.Idx) : k0_pay3 (F := Ideal) v y = v (ix2 (y 1) (y 2)) := by pointwise [k0_pay3]

/-- Where an element of a tile sits in the result. -/
theorem place (t : Fin cfg0.N) (y : ((cfg0.win 2).xblock (cfg0.grid.coords t)).Idx) (i : Fin 5632) (j : Fin 2048)
    (hi : i.val = t.val / 4 % 4 * 1408 + (y 1).val) (hj : j.val = t.val / 16 * 1024 + (y 2).val) (X : FVec Ideal S1x5632x2048 .bf16) :
    X (((View.whole main_v0).slice (win0_2.rect t)).emb y) = X (ix3 0 i j) := by
  blk_ext [idx t]

/-- The result is the gradient of the weight. -/
theorem kernel_value : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have ht : t.val < 32 := Nat.lt_of_lt_of_eq t.isLt N_0
  blk_simp
  rw [after0_2]
  have hs := scratch m c t h3
  rw [outsAt0_C m c t (by omega) h3] at hs ⊢
  revert hs
  frame_out
  intro hs
  have h1 : (y 1).val < 1408 := (y 1).isLt
  have h2 : (y 2).val < 1024 := (y 2).isLt
  refine Eq.trans ((out_at _ y).trans (hs _)) (Eq.trans ?_ (place t y ⟨t.val / 4 % 4 * 1408 + (y 1).val, by omega⟩ ⟨t.val / 16 * 1024 + (y 2).val, by omega⟩ rfl rfl _).symm)
  unfold grad part
  refine Fin.sum_mul_add_congr fun s k hl => ?_
  have hp : 4 * (t.val / 4) + s.val < cfg0.N := Pipeline.run_point_lt_of_flush t h3 s
  blk_point [iblk, V, idx ⟨4 * (t.val / 4) + s.val, hp⟩]

end Cert.DownWgrad

end
-- ==== Proof.DownWgrad.Reference.lean ====
/- The gradient of the down projection's weight: what the reference leaves in its result. -/
module

public import proofs.«01_k».proof.Proof.Gen.Reference4Ideal.Read
public import Idealize.ShloMosaic.Lib.Pipeline.ValueKit

@[expose] public section

set_option maxRecDepth 16384

noncomputable section

namespace Cert.DownWgrad.Ref

open Idealize.ShloMosaic Idealize.ShloMosaic.TcCoe Idealize.SL.Sem
open Cert.Reference4Ideal Cert.Reference4Ideal.Gen Cert.Reference4Ideal.Read

/-- The reference's result at an index: the column of the activations times the column of the gradient. -/
theorem ref_at (A : FVec Ideal S8448x5632 .bf16) (Y : FVec Ideal S8448x2048 .bf16) (x : S1x5632x2048.Idx) :
    (val_main_v7 (F := Ideal) A Y x : EReal) = ∑ s : Fin 8448, (A (ix2 s (x 1)) * Y (ix2 s (x 2)) : EReal) := by
  have e : (val_main_v7 (F := Ideal) A Y x : EReal) = val_main_v4 (F := Ideal) A Y (ix2 (x 2) (x 1)) := by
    pointwise [val_main_v7, val_main_v6, val_main_v5]
  refine e.trans ((val_main_v4_apply A Y _).trans (Finset.sum_congr rfl fun s _ => ?_))
  rw [mul_comm]
  refine Ideal.mul_congr ?_ ?_
  · pointwise [val_main_v1]
    exact congrArg A (funext fun a => match a with
      | ⟨0, _⟩ => rfl
      | ⟨1, _⟩ => rfl)
  · pointwise [val_main_v3]
    exact congrArg Y (funext fun a => match a with
      | ⟨0, _⟩ => rfl
      | ⟨1, _⟩ => rfl)

end Cert.DownWgrad.Ref

end
-- ==== Proof.DownWgrad.Claims.lean ====
/- The claims about the gradient of the down projection's weight. -/
module

public import proofs.«01_k».proof.Defs
public import proofs.«01_k».proof.Proof.Gen.Kernel4.Frame
public import proofs.«01_k».proof.Proof.DownWgrad.Kernel
public import proofs.«01_k».proof.Proof.DownWgrad.Reference

@[expose] public section

set_option maxRecDepth 16384

noncomputable section

namespace Cert.DownWgrad

open Idealize.ShloMosaic Idealize.SL.Sem

/-- The kernel, rounding as the device does, runs to its end and leaves its arguments as they were. -/
theorem frame_kernel : Cert.quiescent_Kernel4 (hKernel4 := Cert.Kernel4.Gen.facts) := fun m ρ _ => Cert.Kernel4.Gen.frame m ρ

/-- The same of the kernel over exact numbers. -/
theorem frame_ideal : Cert.quiescent_Kernel4Ideal (hKernel4Ideal := Cert.Kernel4Ideal.Gen.facts) :=
  fun m ρ _ => Cert.Kernel4Ideal.Gen.frame m ρ

/-- The same of the reference, which is host code and holds no semaphore. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's result is the gradient. -/
theorem ref_value (A : FVec Ideal Cert.Reference4Ideal.S8448x5632 .bf16) (Y : FVec Ideal Cert.Reference4Ideal.S8448x2048 .bf16) :
    Cert.Reference4Ideal.Read.val_main_v7 (F := Ideal) A Y = grad A Y := funext fun x => Ref.ref_at A Y x

/-- Over exact numbers the kernel's result is the reference's: both are `grad` of the arguments. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 2 Cert.Kernel4Ideal.cfg0.N, ?_, ?_⟩
  · refine (θ_run Cert.Kernel4Ideal.defs _ _).mono (fun r h c => ?_) (Cert.Kernel4Ideal.Value.run m g)
    exact ⟨(h c).1.trans (Cert.Kernel4Ideal.Value.final2 m c).symm, (h c).2⟩
  refine (θ_run Cert.Reference4Ideal.defs _ _).mono (fun r h c => ?_) (Cert.Reference4Ideal.Value.run (F := Ideal) m' g')
  obtain ⟨h0, hk⟩ := h c
  obtain ⟨a0, a1⟩ := hargs c
  refine ⟨h0.trans ((Cert.Reference4Ideal.Read.val_main_v7_eq _ _).trans ?_), hk⟩
  refine (ref_value _ _).trans (Eq.trans ?_ (kernel_value m c).symm)
  exact congr (congrArg grad a0) a1

end Cert.DownWgrad

end
-- ==== Proof.ScinDgrad.Kernel.lean ====
/- The gradient of the input of the short convolution's input projection: what the kernel leaves in its result. For every tile of 768
   tokens the grid walks the 6144 columns of the gradient in eight parts of 768; a scratch buffer sums the products. -/
module

public import proofs.«01_k».proof.Proof.Gen.Kernel5Ideal.Value
public import proofs.«01_k».proof.Proof.Sums
public import Idealize.ShloMosaic.Lib.Pipeline.ValueKit
public import Idealize.ShloMosaic.Lib.Pipeline.ReadBack

@[expose] public section

set_option maxRecDepth 16384

noncomputable section

namespace Cert.ScinDgrad

open Idealize.ShloMosaic Idealize.ShloMosaic.TcCoe Idealize.SL.Sem
open Cert.Kernel5Ideal Cert.Kernel5Ideal.Gen

/-- The gradient of the input: the products of the gradient of a token and the rows of the weight, summed over its 6144
    columns, which come in eight blocks. -/
def grad (U : FVec Ideal (⟨2, ![8448, 6144]⟩ : Shape) .bf16) (W : FVec Ideal (⟨3, ![8, 2048, 768]⟩ : Shape) .bf16) :
    FVec Ideal (⟨2, ![8448, 2048]⟩ : Shape) .bf16 :=
  fun x => ∑ n : Fin 6144, U (ix2 (x 0) n) * W (ix3 ⟨n.val / 768, by omega⟩ (x 1) ⟨n.val % 768, Nat.mod_lt _ (by decide)⟩)

variable (m : (ℓ : Loc nD τ sig) → Buf (Elt Ideal) ℓ) (c : Dev nD)

/-- Which block of each array a grid point works on. -/
theorem idx : ∀ t : Fin cfg0.N, win0_0.index t = ![t.val / 8, t.val % 8] ∧ win0_1.index t = ![t.val % 8, 0, 0] ∧ win0_2.index t = ![t.val / 8, 0] :=
  (by decide +kernel : ∀ t : Fin grid0.N, win0_0.index t = ![t.val / 8, t.val % 8] ∧ win0_1.index t = ![t.val % 8, 0, 0] ∧ win0_2.index t = ![t.val / 8, 0])

/-- The scratch starts at zero. -/
theorem zero_at (j) : k0_pay1 (F := Ideal) j = 0 := by pointwise [k0_pay1]

/-- One product of a part: column `k` of the gradient times column `k` of the weight. -/
def term (d : FVec Ideal S768x768 .bf16) (w : FVec Ideal S1x2048x768 .bf16) (i : Fin 768) (n : Fin 2048) (k : Fin 768) : EReal :=
  d (ix2 i k) * w (ix3 0 n k)

/-- One part of the columns adds its products. -/
theorem step_at (acc : FVec Ideal S768x2048 .f32) (d : FVec Ideal S768x768 .bf16) (w : FVec Ideal S1x2048x768 .bf16) (j : S768x2048.Idx) :
    k0_pay2 (F := Ideal) acc d w j = acc j + ∑ k : Fin 768, term d w (j 0) (j 1) k := by
  pointwise [k0_pay2, term]

/-- The part a grid point adds. -/
def part (t : Fin cfg0.N) : FVec Ideal S768x2048 .f32 := fun j => ∑ k : Fin 768, term (iblk m c 0 t) (iblk m c 1 t) (j 0) (j 1) k

/-- The scratch at the last point of a tile: the parts summed. -/
theorem scratch (t : Fin cfg0.N) (h : t.val % 8 = 7) (j : S768x2048.Idx) :
    (outsAt0 m c t.val t.isLt).2 j = ∑ s : Fin 8, part m c ⟨8 * (t.val / 8) + s.val, Pipeline.run_point_lt_of_flush t h s⟩ j := by
  rw [Pipeline.eq_sum_fin_of_reset_step_apply_of_flush (fun n h => (outsAt0 m c n h).2) 8 (fun _ => 0) (part m c)
    (fun t h j => by
      rw [outsAt0_A m c t h (by omega)]; frame_out
      refine (step_at _ _ _ j).trans ?_
      rw [zero_at]; rfl)
    (fun t h j => by
      by_cases h2 : t.val % 8 = 7
      · rw [outsAt0_C m c t h h2]; frame_out
        refine (step_at _ _ _ j).trans ?_
        rw [read_unread_whole]; rfl
      · rw [outsAt0_B m c t h h2]; frame_out
        refine (step_at _ _ _ j).trans ?_
        rw [read_unread_whole]; rfl)
    t h j, zero_add]

/-- The result's tile is the scratch, rounded. -/
theorem out_at (v : FVec Ideal S768x2048 .f32) (y : S768x2048.Idx) : k0_pay3 (F := Ideal) v y = v (ix2 (y 0) (y 1)) := by
  pointwise [k0_pay3]

/-- Where an element of a tile sits in the result. -/
theorem place (t : Fin cfg0.N) (y : ((cfg0.win 2).xblock (cfg0.grid.coords t)).Idx) (i : Fin 8448) (n : Fin 2048)
    (hi : i.val = t.val / 8 * 768 + (y 0).val) (hn : n.val = (y 1).val) (X : FVec Ideal S8448x2048 .bf16) :
    X (((View.whole main_v0).slice (win0_2.rect t)).emb y) = X (ix2 i n) := by
  blk_ext [idx t]

/-- Which element of the weight a grid point's block holds. -/
theorem weight (t : Fin cfg0.N) (q : Fin 1) (n : Fin 2048) (r : Fin 768) (a : Fin 8) (b : Fin 768) (ha : a.val = t.val % 8 * 1 + q.val)
    (hb : b.val = r.val) :
    (show FVec Ideal S1x2048x768 .bf16 from iblk m c 1 t) (ix3 q n r) = (m ((c : Thread nD τ).loc main_arg1)) (ix3 a n b) := by
  obtain rfl : b = r := Fin.ext hb
  have hq : q.val < 1 := q.isLt
  blk_point [iblk, V, idx t]

/-- Which element of the gradient a grid point's block holds. -/
theorem gradient (t : Fin cfg0.N) (i k : Fin 768) (a : Fin 8448) (b : Fin 6144) (ha : a.val = t.val / 8 * 768 + i.val)
    (hb : b.val = t.val % 8 * 768 + k.val) :
    (show FVec Ideal S768x768 .bf16 from iblk m c 0 t) (ix2 i k) = (m ((c : Thread nD τ).loc main_arg0)) (ix2 a b) := by
  blk_point [iblk, V, idx t]

/-- The result is the gradient of the input. -/
theorem kernel_value : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 8 = 7 := (flush0_2 t).mp hf
  have ht : t.val < 88 := Nat.lt_of_lt_of_eq t.isLt N_0
  blk_simp
  rw [after0_2]
  have hs := scratch m c t h3
  rw [outsAt0_C m c t (by omega) h3] at hs ⊢
  revert hs
  frame_out
  intro hs
  have h1 : (y 0).val < 768 := (y 0).isLt
  have h2 : (y 1).val < 2048 := (y 1).isLt
  refine Eq.trans ((out_at _ y).trans (hs _)) (Eq.trans ?_ (place t y ⟨t.val / 8 * 768 + (y 0).val, by omega⟩ ⟨(y 1).val, h2⟩ rfl rfl _).symm)
  unfold grad part
  have hb : ∀ s : Fin 8, 8 * (t.val / 8) + s.val < cfg0.N := fun s => Pipeline.run_point_lt_of_flush t h3 s
  refine Fin.sum_mul_add_congr fun s k hl => ?_
  have hk : k.val < 768 := k.isLt
  have hs8 : s.val < 8 := s.isLt
  refine Ideal.mul_congr ?_ ?_
  · exact gradient m c ⟨8 * (t.val / 8) + s.val, hb s⟩ _ _ _ _ (by show t.val / 8 * 768 + (y 0).val = (8 * (t.val / 8) + s.val) / 8 * 768 + (y 0).val; omega)
      (by show s.val * 768 + k.val = (8 * (t.val / 8) + s.val) % 8 * 768 + k.val; omega)
  · exact weight m c ⟨8 * (t.val / 8) + s.val, hb s⟩ _ _ _ _ _ (by show (s.val * 768 + k.val) / 768 = (8 * (t.val / 8) + s.val) % 8 * 1 + 0; omega)
      (by show (s.val * 768 + k.val) % 768 = k.val; omega)

end Cert.ScinDgrad

end
-- ==== Proof.ScinDgrad.Reference.lean ====
/- The gradient of the input of the short convolution's input projection: what the reference leaves in its result. -/
module

public import proofs.«01_k».proof.Proof.Gen.Reference5Ideal.Read
public import Idealize.ShloMosaic.Lib.Pipeline.ValueKit

@[expose] public section

set_option maxRecDepth 16384

noncomputable section

namespace Cert.ScinDgrad.Ref

open Idealize.ShloMosaic Idealize.ShloMosaic.TcCoe Idealize.SL.Sem
open Cert.Reference5Ideal Cert.Reference5Ideal.Gen Cert.Reference5Ideal.Read

variable (U : FVec Ideal S8448x6144 .bf16) (W : FVec Ideal S8x2048x768 .bf16)

/-- The weight's eight blocks of columns side by side. -/
theorem weight (i : Fin 2048) (n : Fin 6144) :
    val_main_v3 (F := Ideal) W (ix2 i n) = W (ix3 ⟨n.val / 768, by omega⟩ i ⟨n.val % 768, Nat.mod_lt _ (by decide)⟩) := by
  pointwise [val_main_v3, val_main_v2, val_main_v1]

/-- The reference's result at an index: the row of the gradient times the row of the weight. -/
theorem ref_at (x : S8448x2048.Idx) :
    (val_main_v7 (F := Ideal) U W x : EReal) = ∑ n : Fin 6144, (U (ix2 (x 0) n) * val_main_v3 (F := Ideal) W (ix2 (x 1) n) : EReal) := by
  refine Eq.trans (b := (val_main_v6 (F := Ideal) U W x : EReal)) ?_ ((val_main_v6_apply U W _).trans (Finset.sum_congr rfl fun s _ => Ideal.mul_congr ?_ ?_))
  · pointwise [val_main_v7]
  · pointwise [val_main_v5]
    exact congrArg U (funext fun a => match a with
      | ⟨0, _⟩ => rfl
      | ⟨1, _⟩ => rfl)
  · exact congrArg (val_main_v3 (F := Ideal) W) (funext fun a => match a with
      | ⟨0, _⟩ => rfl
      | ⟨1, _⟩ => rfl)

end Cert.ScinDgrad.Ref

end
-- ==== Proof.ScinDgrad.Claims.lean ====
/- The claims about the gradient of the input of the short convolution's input projection. -/
module

public import proofs.«01_k».proof.Defs
public import proofs.«01_k».proof.Proof.Gen.Kernel5.Frame
public import proofs.«01_k».proof.Proof.ScinDgrad.Kernel
public import proofs.«01_k».proof.Proof.ScinDgrad.Reference

@[expose] public section

set_option maxRecDepth 16384

noncomputable section

namespace Cert.ScinDgrad

open Idealize.ShloMosaic Idealize.SL.Sem

/-- The kernel, rounding as the device does, runs to its end and leaves its arguments as they were. -/
theorem frame_kernel : Cert.quiescent_Kernel5 (hKernel5 := Cert.Kernel5.Gen.facts) := fun m ρ _ => Cert.Kernel5.Gen.frame m ρ

/-- The same of the kernel over exact numbers. -/
theorem frame_ideal : Cert.quiescent_Kernel5Ideal (hKernel5Ideal := Cert.Kernel5Ideal.Gen.facts) :=
  fun m ρ _ => Cert.Kernel5Ideal.Gen.frame m ρ

/-- The same of the reference, which is host code and holds no semaphore. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's result is the gradient. -/
theorem ref_value (U : FVec Ideal Cert.Reference5Ideal.S8448x6144 .bf16) (W : FVec Ideal Cert.Reference5Ideal.S8x2048x768 .bf16) :
    Cert.Reference5Ideal.Read.val_main_v7 (F := Ideal) U W = grad U W :=
  funext fun x => (Ref.ref_at U W x).trans (Finset.sum_congr rfl fun n _ => Ideal.mul_congr rfl (Ref.weight W (x 1) n))

/-- Over exact numbers the kernel's result is the reference's: both are `grad` of the arguments. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 2 Cert.Kernel5Ideal.cfg0.N, ?_, ?_⟩
  · refine (θ_run Cert.Kernel5Ideal.defs _ _).mono (fun r h c => ?_) (Cert.Kernel5Ideal.Value.run m g)
    exact ⟨(h c).1.trans (Cert.Kernel5Ideal.Value.final2 m c).symm, (h c).2⟩
  refine (θ_run Cert.Reference5Ideal.defs _ _).mono (fun r h c => ?_) (Cert.Reference5Ideal.Value.run (F := Ideal) m' g')
  obtain ⟨h0, hk⟩ := h c
  obtain ⟨a0, a1⟩ := hargs c
  refine ⟨h0.trans ((Cert.Reference5Ideal.Read.val_main_v7_eq _ _).trans ?_), hk⟩
  refine (ref_value _ _).trans (Eq.trans ?_ (kernel_value m c).symm)
  exact congr (congrArg grad a0) a1

end Cert.ScinDgrad

end
-- ==== Proof.ScinWgrad.Kernel.lean ====
/- The gradient of the weight of the short convolution's input projection: what the kernel leaves in its result. For every tile of the
   weight the grid walks the 8448 tokens in three tiles of 2816; a scratch buffer sums the three products. -/
module

public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.ScinWgrad

open Idealize.ShloMosaic Idealize.ShloMosaic.TcCoe Idealize.SL.Sem
open Cert.Kernel6Ideal Cert.Kernel6Ideal.Gen

/-- The gradient of the weight, in eight blocks of columns: the products of input `i` and gradient, summed over the tokens. -/
def grad (H : FVec Ideal (⟨2, ![2048, 8448]⟩ : Shape) .bf16) (U : FVec Ideal (⟨2, ![8448, 6144]⟩ : Shape) .bf16) :
    FVec Ideal (⟨3, ![8, 2048, 768]⟩ : Shape) .bf16 :=
  fun x => ∑ s : Fin 8448, H (ix2 (x 1) s) * U (ix2 s
    ⟨(x 0).val * 768 + (x 2).val, by
      have h0 : (x 0).val < 8 := (x 0).isLt
      have h2 : (x 2).val < 768 := (x 2).isLt
      omega⟩)

variable (m : (ℓ : Loc nD τ sig) → Buf (Elt Ideal) ℓ) (c : Dev nD)

/-- Which block of each array a grid point works on. -/
theorem idx : ∀ t : Fin cfg0.N, win0_0.index t = ![t.val / 3 % 2, t.val % 3] ∧ win0_1.index t = ![t.val % 3, t.val / 6]
    ∧ win0_2.index t = ![t.val / 6, t.val / 3 % 2, 0] :=
  (by decide +kernel : ∀ t : Fin grid0.N, win0_0.index t = ![t.val / 3 % 2, t.val % 3] ∧ win0_1.index t = ![t.val % 3, t.val / 6]
    ∧ win0_2.index t = ![t.val / 6, t.val / 3 % 2, 0])

/-- The scratch starts at zero. -/
theorem zero_at (j) : k0_pay1 (F := Ideal) j = 0 := by pointwise [k0_pay1]

/-- One tile of tokens adds its products. -/
theorem step_at (acc : FVec Ideal S1024x768 .f32) (x : FVec Ideal S1024x2816 .bf16) (y : FVec Ideal S2816x768 .bf16) (j : S1024x768.Idx) :
    k0_pay2 acc x y j = acc j + ∑ k : Fin 2816, x (ix2 (j 0) k) * y (ix2 k (j 1)) := by pointwise [k0_pay2]

/-- The part a grid point adds. -/
def part (t : Fin cfg0.N) : FVec Ideal S1024x768 .f32 := fun j =>
  ∑ k : Fin 2816, (show FVec Ideal S1024x2816 .bf16 from iblk m c 0 t) (ix2 (j 0) k) * (show FVec Ideal S2816x768 .bf16 from iblk m c 1 t) (ix2 k (j 1))

/-- The scratch at the last point of a tile: the three parts summed. -/
theorem scratch (t : Fin cfg0.N) (h : t.val % 3 = 2) (j : S1024x768.Idx) :
    (outsAt0 m c t.val t.isLt).2 j = ∑ s : Fin 3, part m c ⟨3 * (t.val / 3) + s.val, Pipeline.run_point_lt_of_flush t h s⟩ j := by
  rw [Pipeline.eq_sum_fin_of_reset_step_apply_of_flush (fun n h => (outsAt0 m c n h).2) 3 (fun _ => 0) (part m c)
    (fun t h j => by
      rw [outsAt0_A m c t h (by omega)]; frame_out; rw [step_at, zero_at]; rfl)
    (fun t h j => by
      by_cases h2 : t.val % 3 = 2
      · rw [outsAt0_C m c t h h2]; frame_out; rw [step_at, read_unread_whole]; rfl
      · rw [outsAt0_B m c t h h2]; frame_out; rw [step_at, read_unread_whole]; rfl)
    t h j, zero_add]

/-- The result's tile is the scratch, rounded. -/
theorem out_at (v : FVec Ideal S1024x768 .f32) (y : S1x1024x768.Idx) : k0_pay3 (F := Ideal) v y = v (ix2 (y 1) (y 2)) := by pointwise [k0_pay3]

/-- Where an element of a tile sits in the result. -/
theorem place (t : Fin cfg0.N) (y : ((cfg0.win 2).xblock (cfg0.grid.coords t)).Idx) (a : Fin 8) (i : Fin 2048) (n : Fin 768)
    (ha : a.val = t.val / 6) (hi : i.val = t.val / 3 % 2 * 1024 + (y 1).val) (hn : n.val = (y 2).val) (X : FVec Ideal S8x2048x768 .bf16) :
    X (((View.whole main_v0).slice (win0_2.rect t)).emb y) = X (ix3 a i n) := by
  have h0 : (y 0).val < 1 := (y 0).isLt
  blk_ext [idx t]

/-- The result is the gradient of the weight. -/
theorem kernel_value : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 3 = 2 := (flush0_2 t).mp hf
  have ht : t.val < 48 := Nat.lt_of_lt_of_eq t.isLt N_0
  blk_simp
  rw [after0_2]
  have hs := scratch m c t h3
  rw [outsAt0_C m c t (by omega) h3] at hs ⊢
  revert hs
  frame_out
  intro hs
  have h1 : (y 1).val < 1024 := (y 1).isLt
  have h2 : (y 2).val < 768 := (y 2).isLt
  refine Eq.trans ((out_at _ y).trans (hs _)) (Eq.trans ?_
    (place t y ⟨t.val / 6, by omega⟩ ⟨t.val / 3 % 2 * 1024 + (y 1).val, by omega⟩ ⟨(y 2).val, h2⟩ rfl rfl rfl _).symm)
  unfold grad part
  refine Fin.sum_mul_add_congr fun s k hl => ?_
  have hp : 3 * (t.val / 3) + s.val < cfg0.N := Pipeline.run_point_lt_of_flush t h3 s
  blk_point [iblk, V, idx ⟨3 * (t.val / 3) + s.val, hp⟩]

end Cert.ScinWgrad

end
-- ==== Proof.ScinWgrad.Reference.lean ====
/- The gradient of the weight of the short convolution's input projection: what the reference leaves in its result. -/
module

public import proofs.«01_k».proof.Proof.Gen.Reference6Ideal.Read
public import Idealize.ShloMosaic.Lib.Pipeline.ValueKit

@[expose] public section

set_option maxRecDepth 16384

noncomputable section

namespace Cert.ScinWgrad.Ref

open Idealize.ShloMosaic Idealize.ShloMosaic.TcCoe Idealize.SL.Sem
open Cert.Reference6Ideal Cert.Reference6Ideal.Gen Cert.Reference6Ideal.Read

/-- The reference's result at an index: the row of the inputs times the column of the gradient. -/
theorem ref_at (H : FVec Ideal S2048x8448 .bf16) (U : FVec Ideal S8448x6144 .bf16) (x : S8x2048x768.Idx) (n : Fin 6144) (hn : n.val = (x 0).val * 768 + (x 2).val) :
    (val_main_v9 (F := Ideal) H U x : EReal) = ∑ s : Fin 8448, (H (ix2 (x 1) s) * U (ix2 s n) : EReal) := by
  have e : (val_main_v9 (F := Ideal) H U x : EReal) = val_main_v5 (F := Ideal) H U (ix2 n (x 1)) := by
    have h0 : (x 0).val < 8 := (x 0).isLt
    have h2 : (x 2).val < 768 := (x 2).isLt
    have hb : (x 0).val * 768 + (x 2).val < 6144 := by clear hn; omega
    obtain rfl : n = ⟨(x 0).val * 768 + (x 2).val, hb⟩ := Fin.ext hn
    pointwise [val_main_v9, val_main_v8, val_main_v7, val_main_v6]
  refine e.trans ((val_main_v5_apply H U _).trans (Finset.sum_congr rfl fun s _ => ?_))
  rw [mul_comm]
  refine Ideal.mul_congr ?_ ?_
  · pointwise [val_main_v1, val_main_v0]
  · pointwise [val_main_v4]
    exact congrArg U (funext fun a => match a with
      | ⟨0, _⟩ => rfl
      | ⟨1, _⟩ => rfl)

end Cert.ScinWgrad.Ref

end
-- ==== Proof.ScinWgrad.Claims.lean ====
/- The claims about the gradient of the weight of the short convolution's input projection. -/
module

public import proofs.«01_k».proof.Defs
public import proofs.«01_k».proof.Proof.Gen.Kernel6.Frame
public import proofs.«01_k».proof.Proof.ScinWgrad.Kernel
public import proofs.«01_k».proof.Proof.ScinWgrad.Reference

@[expose] public section

set_option maxRecDepth 16384

noncomputable section

namespace Cert.ScinWgrad

open Idealize.ShloMosaic Idealize.SL.Sem

/-- The kernel, rounding as the device does, runs to its end and leaves its arguments as they were. -/
theorem frame_kernel : Cert.quiescent_Kernel6 (hKernel6 := Cert.Kernel6.Gen.facts) := fun m ρ _ => Cert.Kernel6.Gen.frame m ρ

/-- The same of the kernel over exact numbers. -/
theorem frame_ideal : Cert.quiescent_Kernel6Ideal (hKernel6Ideal := Cert.Kernel6Ideal.Gen.facts) :=
  fun m ρ _ => Cert.Kernel6Ideal.Gen.frame m ρ

/-- The same of the reference, which is host code and holds no semaphore. -/
theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's result is the gradient. -/
theorem ref_value (H : FVec Ideal Cert.Reference6Ideal.S2048x8448 .bf16) (U : FVec Ideal Cert.Reference6Ideal.S8448x6144 .bf16) :
    Cert.Reference6Ideal.Read.val_main_v9 (F := Ideal) H U = grad H U :=
  funext fun x => Ref.ref_at H U x ⟨(x 0).val * 768 + (x 2).val, by
    have h0 : (x 0).val < 8 := (x 0).isLt
    have h2 : (x 2).val < 768 := (x 2).isLt
    omega⟩ rfl

/-- Over exact numbers the kernel's result is the reference's: both are `grad` of the arguments. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 2 Cert.Kernel6Ideal.cfg0.N, ?_, ?_⟩
  · refine (θ_run Cert.Kernel6Ideal.defs _ _).mono (fun r h c => ?_) (Cert.Kernel6Ideal.Value.run m g)
    exact ⟨(h c).1.trans (Cert.Kernel6Ideal.Value.final2 m c).symm, (h c).2⟩
  refine (θ_run Cert.Reference6Ideal.defs _ _).mono (fun r h c => ?_) (Cert.Reference6Ideal.Value.run (F := Ideal) m' g')
  obtain ⟨h0, hk⟩ := h c
  obtain ⟨a0, a1⟩ := hargs c
  refine ⟨h0.trans ((Cert.Reference6Ideal.Read.val_main_v9_eq _ _).trans ?_), hk⟩
  refine (ref_value _ _).trans (Eq.trans ?_ (kernel_value m c).symm)
  exact congr (congrArg grad a0) a1

end Cert.ScinWgrad

end
-- ==== Proof.QkvDgrad.Kernel.lean ====
/- The gradient of the input of the attention's input projection: what the kernel leaves in its result. For every tile of 768
   tokens the grid walks the 3072 columns of the gradient in four parts of 768; a scratch buffer sums the products. -/
module

public import proofs.«01_k».proof.Proof.Gen.Kernel7Ideal.Value
public import proofs.«01_k».proof.Proof.Sums
public import Idealize.ShloMosaic.Lib.Pipeline.ValueKit
public import Idealize.ShloMosaic.Lib.Pipeline.ReadBack

@[expose] public section

set_option maxRecDepth 16384

noncomputable section

namespace Cert.QkvDgrad

open Idealize.ShloMosaic Idealize.ShloMosaic.TcCoe Idealize.SL.Sem
open Cert.Kernel7Ideal Cert.Kernel7Ideal.Gen

/-- The gradient of the input: the products of the gradient of a token and the rows of the weight, summed over its 3072
    columns, which come in eight blocks. -/
def grad (U : FVec Ideal (⟨2, ![8448, 3072]⟩ : Shape) .bf16) (W : FVec Ideal (⟨3, ![8, 2048, 384]⟩ : Shape) .bf16) :
    FVec Ideal (⟨2, ![8448, 2048]⟩ : Shape) .bf16 :=
  fun x => ∑ n : Fin 3072, U (ix2 (x 0) n) * W (ix3 ⟨n.val / 384, by omega⟩ (x 1) ⟨n.val % 384, Nat.mod_lt _ (by decide)⟩)

variable (m : (ℓ : Loc nD τ sig) → Buf (Elt Ideal) ℓ) (c : Dev nD)

/-- Which block of each array a grid point works on. -/
theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, win0_0.index t = ![t.val / 4, t.val % 4] ∧ win0_1.index t = ![t.val % 4, 0, 0] ∧ win0_2.index t = ![t.val / 4, 0])

/-- The scratch starts at zero. -/
theorem zero_at (j) : k0_pay1 (F := Ideal) j = 0 := by pointwise [k0_pay1]

/-- One product of a part: column `k` of the gradient times column `k` of the weight, whose columns come in two blocks. -/
def term (d : FVec Ideal S768x768 .bf16) (w : FVec Ideal S2x2048x384 .bf16) (i : Fin 768) (n : Fin 2048) (k : Fin 768) : EReal :=
  d (ix2 i k) * w (ix3 ⟨k.val / 384, by omega⟩ n ⟨k.val % 384, Nat.mod_lt _ (by decide)⟩)

theorem term_at (d : FVec Ideal S768x768 .bf16) (w : FVec Ideal S2x2048x384 .bf16) (i : Fin 768) (n : Fin 2048) (k a : Fin 768)
    (q : Fin 2) (r : Fin 384) (ha : a.val = k.val) (hq : k.val / 384 = q.val) (hr : k.val % 384 = r.val) :
    (d (ix2 i a) * w (ix3 q n r) : EReal) = term d w i n k := by
  obtain rfl : a = k := Fin.ext ha
  exact congrArg (fun z => (d (ix2 i a) * w z : EReal)) (congrArg₂ (fun q r => ix3 q n r) (Fin.ext hq.symm) (Fin.ext hr.symm))

/-- One part of the columns adds its products, in three pieces. -/
theorem step_at (acc : FVec Ideal S768x2048 .f32) (d : FVec Ideal S768x768 .bf16) (w : FVec Ideal S2x2048x384 .bf16) (j : S768x2048.Idx) :
    k0_pay2 (F := Ideal) acc
      (View.ld (Val := Elt Ideal) (S := S2x2048x384) (e' := .bf16) w (Rect.unit ![0, 0, 256] ![1, 2048, 128] inb_S2x2048x384_S1x2048x128_0_0_256))
      (View.ld (Val := Elt Ideal) (S := S2x2048x384) (e' := .bf16) w (Rect.unit ![1, 0, 0] ![1, 2048, 128] inb_S2x2048x384_S1x2048x128_1_0_0))
      (View.ld (Val := Elt Ideal) (S := S768x768) (e' := .bf16) d (Rect.unit ![0, 0] ![768, 256] inb_S768x768_S768x256_0_0))
      (View.ld (Val := Elt Ideal) (S := S2x2048x384) (e' := .bf16) w (Rect.unit ![0, 0, 0] ![1, 2048, 256] inb_S2x2048x384_S1x2048x256_0_0_0))
      (View.ld (Val := Elt Ideal) (S := S768x768) (e' := .bf16) d (Rect.unit ![0, 256] ![768, 256] inb_S768x768_S768x256_0_256))
      (View.ld (Val := Elt Ideal) (S := S768x768) (e' := .bf16) d (Rect.unit ![0, 512] ![768, 256] inb_S768x768_S768x256_0_512))
      (View.ld (Val := Elt Ideal) (S := S2x2048x384) (e' := .bf16) w (Rect.unit ![1, 0, 128] ![1, 2048, 256] inb_S2x2048x384_S1x2048x256_1_0_128)) j
    = acc j + ∑ k : Fin 768, term d w (j 0) (j 1) k := by
  pointwise [k0_pay2]
  refine congrArg (acc j + ·) ?_
  rw [← add_assoc]
  refine (congrArg (· + _) (Sums.three 256 128 128 rfl (fun k : Fin 512 => term d w (j 0) (j 1) ⟨k.val, by omega⟩) _ _ _ ?_ ?_ ?_)).trans ?_
  · exact fun k => term_at d w (j 0) (j 1) _ _ _ _ rfl (by show k.val / 384 = 0; omega) (by show k.val % 384 = k.val; omega)
  · exact fun k => term_at d w (j 0) (j 1) _ _ _ _ rfl (by show (256 + k.val) / 384 = 0; omega) (by show (256 + k.val) % 384 = 256 + k.val; omega)
  · exact fun k => term_at d w (j 0) (j 1) _ _ _ _ (by show 256 + (128 + k.val) = 256 + 128 + k.val; omega)
      (by show (256 + 128 + k.val) / 384 = 1; omega) (by show (256 + 128 + k.val) % 384 = k.val; omega)
  refine Sums.two 512 256 rfl (term d w (j 0) (j 1)) _ _ (fun k => rfl) ?_
  exact fun k => term_at d w (j 0) (j 1) _ _ _ _ rfl (by show (512 + k.val) / 384 = 1; omega) (by show (512 + k.val) % 384 = 128 + k.val; omega)

/-- The part a grid point adds. -/
def part (t : Fin cfg0.N) : FVec Ideal S768x2048 .f32 := fun j => ∑ k : Fin 768, term (iblk m c 0 t) (iblk m c 1 t) (j 0) (j 1) k

/-- The scratch at the last point of a tile: the parts summed. -/
theorem scratch (t : Fin cfg0.N) (h : t.val % 4 = 3) (j : S768x2048.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (part m c)
    (fun t h j => by
      rw [outsAt0_A m c t h (by omega)]; frame_out
      refine (step_at _ _ _ j).trans ?_
      rw [zero_at]; rfl)
    (fun t h j => by
      by_cases h2 : t.val % 4 = 3
      · rw [outsAt0_C m c t h h2]; frame_out
        refine (step_at _ _ _ j).trans ?_
        rw [read_unread_whole]; rfl
      · rw [outsAt0_B m c t h h2]; frame_out
        refine (step_at _ _ _ j).trans ?_
        rw [read_unread_whole]; rfl)
    t h j, zero_add]

/-- The result's tile is the scratch, rounded. -/
theorem out_at (v : FVec Ideal S768x2048 .f32) (y : S768x2048.Idx) : k0_pay3 (F := Ideal) v y = v (ix2 (y 0) (y 1)) := by
  pointwise [k0_pay3]

/-- Where an element of a tile sits in the result. -/
theorem place (t : Fin cfg0.N) (y : ((cfg0.win 2).xblock (cfg0.grid.coords t)).Idx) (i : Fin 8448) (n : Fin 2048)
    (hi : i.val = t.val / 4 * 768 + (y 0).val) (hn : n.val = (y 1).val) (X : FVec Ideal S8448x2048 .bf16) :
    X (((View.whole main_v0).slice (win0_2.rect t)).emb y) = X (ix2 i n) := by
  blk_ext [idx t]

/-- Which element of the weight a grid point's block holds. -/
theorem weight (t : Fin cfg0.N) (q : Fin 2) (n : Fin 2048) (r : Fin 384) (a : Fin 8) (b : Fin 384) (ha : a.val = t.val % 4 * 2 + q.val)
    (hb : b.val = r.val) :
    (show FVec Ideal S2x2048x384 .bf16 from iblk m c 1 t) (ix3 q n r) = (m ((c : Thread nD τ).loc main_arg1)) (ix3 a n b) := by
  obtain rfl : b = r := Fin.ext hb
  have hq : q.val < 2 := q.isLt
  blk_point [iblk, V, idx t]

/-- Which element of the gradient a grid point's block holds. -/
theorem gradient (t : Fin cfg0.N) (i k : Fin 768) (a : Fin 8448) (b : Fin 3072) (ha : a.val = t.val / 4 * 768 + i.val)
    (hb : b.val = t.val % 4 * 768 + k.val) :
    (show FVec Ideal S768x768 .bf16 from iblk m c 0 t) (ix2 i k) = (m ((c : Thread nD τ).loc main_arg0)) (ix2 a b) := by
  blk_point [iblk, V, idx t]

/-- The result is the gradient of the input. -/
theorem kernel_value : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have ht : t.val < 44 := Nat.lt_of_lt_of_eq t.isLt N_0
  blk_simp
  rw [after0_2]
  have hs := scratch m c t h3
  rw [outsAt0_C m c t (by omega) h3] at hs ⊢
  revert hs
  frame_out
  intro hs
  have h1 : (y 0).val < 768 := (y 0).isLt
  have h2 : (y 1).val < 2048 := (y 1).isLt
  refine Eq.trans ((out_at _ y).trans (hs _)) (Eq.trans ?_ (place t y ⟨t.val / 4 * 768 + (y 0).val, by omega⟩ ⟨(y 1).val, h2⟩ rfl rfl _).symm)
  unfold grad part
  have hb : ∀ s : Fin 4, 4 * (t.val / 4) + s.val < cfg0.N := fun s => Pipeline.run_point_lt_of_flush t h3 s
  refine Fin.sum_mul_add_congr fun s k hl => ?_
  have hk : k.val < 768 := k.isLt
  have hs8 : s.val < 4 := s.isLt
  refine Ideal.mul_congr ?_ ?_
  · exact gradient m c ⟨4 * (t.val / 4) + s.val, hb s⟩ _ _ _ _ (by show t.val / 4 * 768 + (y 0).val = (4 * (t.val / 4) + s.val) / 4 * 768 + (y 0).val; omega)
      (by show s.val * 768 + k.val = (4 * (t.val / 4) + s.val) % 4 * 768 + k.val; omega)
  · exact weight m c ⟨4 * (t.val / 4) + s.val, hb s⟩ _ _ _ _ _ (by show (s.val * 768 + k.val) / 384 = (4 * (t.val / 4) + s.val) % 4 * 2 + k.val / 384; omega)
      (by show (s.val * 768 + k.val) % 384 = k.val % 384; omega)

end Cert.QkvDgrad

end
-- ==== Proof.QkvDgrad.Reference.lean ====
/- The gradient of the input of the attention's input projection: what the reference leaves in its result. -/
module

public import proofs.«01_k».proof.Proof.Gen.Reference7Ideal.Read
public import Idealize.ShloMosaic.Lib.Pipeline.ValueKit

@[expose] public section

set_option maxRecDepth 16384

noncomputable section

namespace Cert.QkvDgrad.Ref

open Idealize.ShloMosaic Idealize.ShloMosaic.TcCoe Idealize.SL.Sem
open Cert.Reference7Ideal Cert.Reference7Ideal.Gen Cert.Reference7Ideal.Read

variable (U : FVec Ideal S8448x3072 .bf16) (W : FVec Ideal S8x2048x384 .bf16)

/-- The weight's eight blocks of columns side by side. -/
theorem weight (i : Fin 2048) (n : Fin 3072) :
    val_main_v3 (F := Ideal) W (ix2 i n) = W (ix3 ⟨n.val / 384, by omega⟩ i ⟨n.val % 384, Nat.mod_lt _ (by decide)⟩) := by
  pointwise [val_main_v3, val_main_v2, val_main_v1]

/-- The reference's result at an index: the row of the gradient times the row of the weight. -/
theorem ref_at (x : S8448x2048.Idx) :
    (val_main_v7 (F := Ideal) U W x : EReal) = ∑ n : Fin 3072, (U (ix2 (x 0) n) * val_main_v3 (F := Ideal) W (ix2 (x 1) n) : EReal) := by
  refine Eq.trans (b := (val_main_v6 (F := Ideal) U W x : EReal)) ?_ ((val_main_v6_apply U W _).trans (Finset.sum_congr rfl fun s _ => Ideal.mul_congr ?_ ?_))
  · pointwise [val_main_v7]
  · pointwise [val_main_v5]
    exact congrArg U (funext fun a => match a with
      | ⟨0, _⟩ => rfl
      | ⟨1, _⟩ => rfl)
  · exact congrArg (val_main_v3 (F := Ideal) W) (funext fun a => match a with
      | ⟨0, _⟩ => rfl
      | ⟨1, _⟩ => rfl)

end Cert.QkvDgrad.Ref

end
-- ==== Proof.QkvDgrad.Claims.lean ====
/- The claims about the gradient of the input of the attention's input projection. -/
module

public import proofs.«01_k».proof.Defs
public import proofs.«01_k».proof.Proof.Gen.Kernel7.Frame
public import proofs.«01_k».proof.Proof.QkvDgrad.Kernel
public import proofs.«01_k».proof.Proof.QkvDgrad.Reference

@[expose] public section

set_option maxRecDepth 16384

noncomputable section

namespace Cert.QkvDgrad

open Idealize.ShloMosaic Idealize.SL.Sem

/-- The kernel, rounding as the device does, runs to its end and leaves its arguments as they were. -/
theorem frame_kernel : Cert.quiescent_Kernel7 (hKernel7 := Cert.Kernel7.Gen.facts) := fun m ρ _ => Cert.Kernel7.Gen.frame m ρ

/-- The same of the kernel over exact numbers. -/
theorem frame_ideal : Cert.quiescent_Kernel7Ideal (hKernel7Ideal := Cert.Kernel7Ideal.Gen.facts) :=
  fun m ρ _ => Cert.Kernel7Ideal.Gen.frame m ρ

/-- The same of the reference, which is host code and holds no semaphore. -/
theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference's result is the gradient. -/
theorem ref_value (U : FVec Ideal Cert.Reference7Ideal.S8448x3072 .bf16) (W : FVec Ideal Cert.Reference7Ideal.S8x2048x384 .bf16) :
    Cert.Reference7Ideal.Read.val_main_v7 (F := Ideal) U W = grad U W :=
  funext fun x => (Ref.ref_at U W x).trans (Finset.sum_congr rfl fun n _ => Ideal.mul_congr rfl (Ref.weight W (x 1) n))

/-- Over exact numbers the kernel's result is the reference's: both are `grad` of the arguments. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 2 Cert.Kernel7Ideal.cfg0.N, ?_, ?_⟩
  · refine (θ_run Cert.Kernel7Ideal.defs _ _).mono (fun r h c => ?_) (Cert.Kernel7Ideal.Value.run m g)
    exact ⟨(h c).1.trans (Cert.Kernel7Ideal.Value.final2 m c).symm, (h c).2⟩
  refine (θ_run Cert.Reference7Ideal.defs _ _).mono (fun r h c => ?_) (Cert.Reference7Ideal.Value.run (F := Ideal) m' g')
  obtain ⟨h0, hk⟩ := h c
  obtain ⟨a0, a1⟩ := hargs c
  refine ⟨h0.trans ((Cert.Reference7Ideal.Read.val_main_v7_eq _ _).trans ?_), hk⟩
  refine (ref_value _ _).trans (Eq.trans ?_ (kernel_value m c).symm)
  exact congr (congrArg grad a0) a1

end Cert.QkvDgrad

end
-- ==== Proof.QkvWgrad.Kernel.lean ====
/- The gradient of the weight of the attention's input projection: what the kernel leaves in its result. For every tile of the
   weight the grid walks the 8448 tokens in three tiles of 2816; a scratch buffer sums the three products. -/
module

public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

namespace Cert.QkvWgrad

open Idealize.ShloMosaic Idealize.ShloMosaic.TcCoe Idealize.SL.Sem
open Cert.Kernel8Ideal Cert.Kernel8Ideal.Gen

/-- The gradient of the weight, in eight blocks of columns: the products of input `i` and gradient, summed over the tokens. -/
def grad (H : FVec Ideal (⟨2, ![2048, 8448]⟩ : Shape) .bf16) (U : FVec Ideal (⟨2, ![8448, 3072]⟩ : Shape) .bf16) :
    FVec Ideal (⟨3, ![8, 2048, 384]⟩ : Shape) .bf16 :=
  fun x => ∑ s : Fin 8448, H (ix2 (x 1) s) * U (ix2 s
    ⟨(x 0).val * 384 + (x 2).val, by
      have h0 : (x 0).val < 8 := (x 0).isLt
      have h2 : (x 2).val < 384 := (x 2).isLt
      omega⟩)

variable (m : (ℓ : Loc nD τ sig) → Buf (Elt Ideal) ℓ) (c : Dev nD)

/-- Which block of each array a grid point works on. -/
theorem idx : ∀ t : Fin cfg0.N, win0_0.index t = ![t.val / 3 % 2, t.val % 3] ∧ win0_1.index t = ![t.val % 3, t.val / 6]
    ∧ win0_2.index t = ![t.val / 6, t.val / 3 % 2, 0] :=
  (by decide +kernel : ∀ t : Fin grid0.N, win0_0.index t = ![t.val / 3 % 2, t.val % 3] ∧ win0_1.index t = ![t.val % 3, t.val / 6]
    ∧ win0_2.index t = ![t.val / 6, t.val / 3 % 2, 0])

/-- The scratch starts at zero. -/
theorem zero_at (j) : k0_pay1 (F := Ideal) j = 0 := by pointwise [k0_pay1]

/-- One tile of tokens adds its products. -/
theorem step_at (acc : FVec Ideal S1024x768 .f32) (x : FVec Ideal S1024x2816 .bf16) (y : FVec Ideal S2816x768 .bf16) (j : S1024x768.Idx) :
    k0_pay2 acc x y j = acc j + ∑ k : Fin 2816, x (ix2 (j 0) k) * y (ix2 k (j 1)) := by pointwise [k0_pay2]

/-- The part a grid point adds. -/
def part (t : Fin cfg0.N) : FVec Ideal S1024x768 .f32 := fun j =>
  ∑ k : Fin 2816, (show FVec Ideal S1024x2816 .bf16 from iblk m c 0 t) (ix2 (j 0) k) * (show FVec Ideal S2816x768 .bf16 from iblk m c 1 t) (ix2 k (j 1))

/-- The scratch at the last point of a tile: the three parts summed. -/
theorem scratch (t : Fin cfg0.N) (h : t.val % 3 = 2) (j : S1024x768.Idx) :
    (outsAt0 m c t.val t.isLt).2 j = ∑ s : Fin 3, part m c ⟨3 * (t.val / 3) + s.val, Pipeline.run_point_lt_of_flush t h s⟩ j := by
  rw [Pipeline.eq_sum_fin_of_reset_step_apply_of_flush (fun n h => (outsAt0 m c n h).2) 3 (fun _ => 0) (part m c)
    (fun t h j => by
      rw [outsAt0_A m c t h (by omega)]; frame_out; rw [step_at, zero_at]; rfl)
    (fun t h j => by
      by_cases h2 : t.val % 3 = 2
      · rw [outsAt0_C m c t h h2]; frame_out; rw [step_at, read_unread_whole]; rfl
      · rw [outsAt0_B m c t h h2]; frame_out; rw [step_at, read_unread_whole]; rfl)
    t h j, zero_add]

/-- The two blocks of columns of the result's tile are the scratch's, rounded. -/
theorem out_lo (v : FVec Ideal S1024x768 .f32) (x : S1x1024x384.Idx) (j : S1024x768.Idx) (h0 : (j 0).val = (x 1).val) (h1 : (j 1).val = (x 2).val) :
    k0_pay3 (F := Ideal) (View.ld (Val := Elt Ideal) (S := S1024x768) (e' := .f32) v (Rect.unit ![0, 0] ![1024, 384] inb_S1024x768_S1024x384_0_0)) x = v j := by
  pointwise [k0_pay3]
  blk_ext
theorem out_hi (v : FVec Ideal S1024x768 .f32) (x : S1x1024x384.Idx) (j : S1024x768.Idx) (h0 : (j 0).val = (x 1).val) (h1 : (j 1).val = 384 + (x 2).val) :
    k0_pay4 (F := Ideal) (View.ld (Val := Elt Ideal) (S := S1024x768) (e' := .f32) v (Rect.unit ![0, 384] ![1024, 384] inb_S1024x768_S1024x384_0_384)) x = v j := by
  pointwise [k0_pay4]
  blk_ext

/-- Where an element of a tile sits in the result. -/
theorem place (t : Fin cfg0.N) (y : ((cfg0.win 2).xblock (cfg0.grid.coords t)).Idx) (a : Fin 8) (i : Fin 2048) (n : Fin 384)
    (ha : a.val = t.val / 6 * 2 + (y 0).val) (hi : i.val = t.val / 3 % 2 * 1024 + (y 1).val) (hn : n.val = (y 2).val) (X : FVec Ideal S8x2048x384 .bf16) :
    X (((View.whole main_v0).slice (win0_2.rect t)).emb y) = X (ix3 a i n) := by
  have h0 : (y 0).val < 2 := (y 0).isLt
  blk_ext [idx t]

/-- A tile of the result, from the scratch's three parts. -/
theorem tile (t : Fin cfg0.N) (h3 : t.val % 3 = 2) (v : FVec Ideal S1024x768 .f32) (y : ((cfg0.win 2).xblock (cfg0.grid.coords t)).Idx)
    (hs : ∀ j, v j = ∑ s : Fin 3, part m c ⟨3 * (t.val / 3) + s.val, Pipeline.run_point_lt_of_flush t h3 s⟩ j)
    (hq : (y 0).val * 384 + (y 2).val < 768) :
    v (ix2 (y 1) ⟨(y 0).val * 384 + (y 2).val, hq⟩)
      = grad (m ((c : Thread nD τ).loc main_arg0)) (m ((c : Thread nD τ).loc main_arg1)) (((View.whole main_v0).slice (win0_2.rect t)).emb y) := by
  have ht : t.val < 24 := Nat.lt_of_lt_of_eq t.isLt N_0
  have h0 : (y 0).val < 2 := (y 0).isLt
  have h1 : (y 1).val < 1024 := (y 1).isLt
  have h2 : (y 2).val < 384 := (y 2).isLt
  refine Eq.trans (hs _) (Eq.trans ?_
    (place t y ⟨t.val / 6 * 2 + (y 0).val, by omega⟩ ⟨t.val / 3 % 2 * 1024 + (y 1).val, by omega⟩ ⟨(y 2).val, h2⟩ rfl rfl rfl _).symm)
  unfold grad part
  refine Fin.sum_mul_add_congr fun s k hl => ?_
  have hp : 3 * (t.val / 3) + s.val < cfg0.N := Pipeline.run_point_lt_of_flush t h3 s
  blk_point [iblk, V, idx ⟨3 * (t.val / 3) + s.val, hp⟩]

/-- The result is the gradient of the weight. -/
theorem kernel_value : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 3 = 2 := (flush0_2 t).mp hf
  blk_simp
  rw [after0_2]
  have hs := scratch m c t h3
  rw [outsAt0_C m c t (by omega) h3] at hs ⊢
  revert hs
  frame_out
  intro hs
  have h0 : (y 0).val < 2 := (y 0).isLt
  have h2 : (y 2).val < 384 := (y 2).isLt
  refine Eq.trans ?_ (tile m c t h3 _ y hs (by omega))
  rw [View.readCov_fill _ _ _ _ _ (by decide), View.readCov_fill _ _ _ _ _ (by decide)]
  canon_tiles x h
  · exact out_hi _ x _ (by show (y 1).val = (x 1).val; omega) (by show (y 0).val * 384 + (y 2).val = 384 + (x 2).val; omega)
  · exact out_lo _ x _ (by show (y 1).val = (x 1).val; omega) (by show (y 0).val * 384 + (y 2).val = (x 2).val; omega)

end Cert.QkvWgrad

end
-- ==== Proof.QkvWgrad.Reference.lean ====
/- The gradient of the weight of the attention's input projection: what the reference leaves in its result. -/
module

public import proofs.«01_k».proof.Proof.Gen.Reference8Ideal.Read
public import Idealize.ShloMosaic.Lib.Pipeline.ValueKit

@[expose] public section

set_option maxRecDepth 16384

noncomputable section

namespace Cert.QkvWgrad.Ref

open Idealize.ShloMosaic Idealize.ShloMosaic.TcCoe Idealize.SL.Sem
open Cert.Reference8Ideal Cert.Reference8Ideal.Gen Cert.Reference8Ideal.Read

/-- The reference's result at an index: the row of the inputs times the column of the gradient. -/
theorem ref_at (H : FVec Ideal S2048x8448 .bf16) (U : FVec Ideal S8448x3072 .bf16) (x : S8x2048x384.Idx) (n : Fin 3072) (hn : n.val = (x 0).val * 384 + (x 2).val) :
    (val_main_v9 (F := Ideal) H U x : EReal) = ∑ s : Fin 8448, (H (ix2 (x 1) s) * U (ix2 s n) : EReal) := by
  have e : (val_main_v9 (F := Ideal) H U x : EReal) = val_main_v5 (F := Ideal) H U (ix2 n (x 1)) := by
    have h0 : (x 0).val < 8 := (x 0).isLt
    have h2 : (x 2).val < 384 := (x 2).isLt
    have hb : (x 0).val * 384 + (x 2).val < 3072 := by clear hn; omega
    obtain rfl : n = ⟨(x 0).val * 384 + (x 2).val, hb⟩ := Fin.ext hn
    pointwise [val_main_v9, val_main_v8, val_main_v7, val_main_v6]
  refine e.trans ((val_main_v5_apply H U _).trans (Finset.sum_congr rfl fun s _ => ?_))
  rw [mul_comm]
  refine Ideal.mul_congr ?_ ?_
  · pointwise [val_main_v1, val_main_v0]
  · pointwise [val_main_v4]
    exact congrArg U (funext fun a => match a with
      | ⟨0, _⟩ => rfl
      | ⟨1, _⟩ => rfl)

end Cert.QkvWgrad.Ref

end
-- ==== Proof.QkvWgrad.Claims.lean ====
/- The claims about the gradient of the weight of the attention's input projection. -/
module

public import proofs.«01_k».proof.Defs
public import proofs.«01_k».proof.Proof.Gen.Kernel8.Frame
public import proofs.«01_k».proof.Proof.QkvWgrad.Kernel
public import proofs.«01_k».proof.Proof.QkvWgrad.Reference

@[expose] public section

set_option maxRecDepth 16384

noncomputable section

namespace Cert.QkvWgrad

open Idealize.ShloMosaic Idealize.SL.Sem

/-- The kernel, rounding as the device does, runs to its end and leaves its arguments as they were. -/
theorem frame_kernel : Cert.quiescent_Kernel8 (hKernel8 := Cert.Kernel8.Gen.facts) := fun m ρ _ => Cert.Kernel8.Gen.frame m ρ

/-- The same of the kernel over exact numbers. -/
theorem frame_ideal : Cert.quiescent_Kernel8Ideal (hKernel8Ideal := Cert.Kernel8Ideal.Gen.facts) :=
  fun m ρ _ => Cert.Kernel8Ideal.Gen.frame m ρ

/-- The same of the reference, which is host code and holds no semaphore. -/
theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference's result is the gradient. -/
theorem ref_value (H : FVec Ideal Cert.Reference8Ideal.S2048x8448 .bf16) (U : FVec Ideal Cert.Reference8Ideal.S8448x3072 .bf16) :
    Cert.Reference8Ideal.Read.val_main_v9 (F := Ideal) H U = grad H U :=
  funext fun x => Ref.ref_at H U x ⟨(x 0).val * 384 + (x 2).val, by
    have h0 : (x 0).val < 8 := (x 0).isLt
    have h2 : (x 2).val < 384 := (x 2).isLt
    omega⟩ rfl

/-- Over exact numbers the kernel's result is the reference's: both are `grad` of the arguments. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N, ?_, ?_⟩
  · refine (θ_run Cert.Kernel8Ideal.defs _ _).mono (fun r h c => ?_) (Cert.Kernel8Ideal.Value.run m g)
    exact ⟨(h c).1.trans (Cert.Kernel8Ideal.Value.final2 m c).symm, (h c).2⟩
  refine (θ_run Cert.Reference8Ideal.defs _ _).mono (fun r h c => ?_) (Cert.Reference8Ideal.Value.run (F := Ideal) m' g')
  obtain ⟨h0, hk⟩ := h c
  obtain ⟨a0, a1⟩ := hargs c
  refine ⟨h0.trans ((Cert.Reference8Ideal.Read.val_main_v9_eq _ _).trans ?_), hk⟩
  refine (ref_value _ _).trans (Eq.trans ?_ (kernel_value m c).symm)
  exact congr (congrArg grad a0) a1

end Cert.QkvWgrad

end
-- ==== Proof.MixoutWgrad.Kernel.lean ====
/- The gradient of the weight of a mixer's output projection: what the kernel leaves in its result. The grid walks the 8448 tokens in
   four tiles of 2112 for every tile of the weight; a scratch buffer sums the four products. -/
module

public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

namespace Cert.MixoutWgrad

open Idealize.ShloMosaic Idealize.ShloMosaic.TcCoe Idealize.SL.Sem
open Cert.Kernel9Ideal Cert.Kernel9Ideal.Gen

/-- The gradient of the weight: the products of mixer output `i` and gradient `j`, summed over the tokens. -/
def grad (A : FVec Ideal (⟨2, ![8448, 2048]⟩ : Shape) .bf16) (Y : FVec Ideal (⟨2, ![8448, 2048]⟩ : Shape) .bf16) :
    FVec Ideal (⟨3, ![1, 2048, 2048]⟩ : Shape) .bf16 :=
  fun x => ∑ s : Fin 8448, A (ix2 s (x 1)) * Y (ix2 s (x 2))

variable (m : (ℓ : Loc nD τ sig) → Buf (Elt Ideal) ℓ) (c : Dev nD)

/-- Which block of each array a grid point works on. -/
theorem idx : ∀ t : Fin cfg0.N, win0_0.index t = ![t.val % 4, t.val / 4 % 2] ∧ win0_1.index t = ![t.val % 4, t.val / 8]
    ∧ win0_2.index t = ![0, t.val / 4 % 2, t.val / 8] :=
  (by decide +kernel : ∀ t : Fin grid0.N, win0_0.index t = ![t.val % 4, t.val / 4 % 2] ∧ win0_1.index t = ![t.val % 4, t.val / 8]
    ∧ win0_2.index t = ![0, t.val / 4 % 2, t.val / 8])

/-- The scratch starts at zero. -/
theorem zero_at (j) : k0_pay1 (F := Ideal) j = 0 := by pointwise [k0_pay1]

/-- One tile of tokens adds its products. -/
theorem step_at (acc : FVec Ideal S1024x1024 .f32) (x : FVec Ideal S2112x1024 .bf16) (y : FVec Ideal S2112x1024 .bf16) (j : S1024x1024.Idx) :
    k0_pay2 acc x y j = acc j + ∑ k : Fin 2112, x (ix2 k (j 0)) * y (ix2 k (j 1)) := by pointwise [k0_pay2]

/-- The part a grid point adds. -/
def part (t : Fin cfg0.N) : FVec Ideal S1024x1024 .f32 := fun j =>
  ∑ k : Fin 2112, (show FVec Ideal S2112x1024 .bf16 from iblk m c 0 t) (ix2 k (j 0)) * (show FVec Ideal S2112x1024 .bf16 from iblk m c 1 t) (ix2 k (j 1))

/-- The scratch at the last point of a tile: the four parts summed. -/
theorem scratch (t : Fin cfg0.N) (h : t.val % 4 = 3) (j : S1024x1024.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (part m c)
    (fun t h j => by
      rw [outsAt0_A m c t h (by omega)]; frame_out; rw [step_at, zero_at]; rfl)
    (fun t h j => by
      by_cases h2 : t.val % 4 = 3
      · rw [outsAt0_C m c t h h2]; frame_out; rw [step_at, read_unread_whole]; rfl
      · rw [outsAt0_B m c t h h2]; frame_out; rw [step_at, read_unread_whole]; rfl)
    t h j, zero_add]

/-- The result's tile is the scratch, rounded. -/
theorem out_at (v : FVec Ideal S1024x1024 .f32) (y : S1x1024x1024.Idx) : k0_pay3 (F := Ideal) v y = v (ix2 (y 1) (y 2)) := by pointwise [k0_pay3]

/-- Where an element of a tile sits in the result. -/
theorem place (t : Fin cfg0.N) (y : ((cfg0.win 2).xblock (cfg0.grid.coords t)).Idx) (i : Fin 2048) (j : Fin 2048)
    (hi : i.val = t.val / 4 % 2 * 1024 + (y 1).val) (hj : j.val = t.val / 8 * 1024 + (y 2).val) (X : FVec Ideal S1x2048x2048 .bf16) :
    X (((View.whole main_v0).slice (win0_2.rect t)).emb y) = X (ix3 0 i j) := by
  blk_ext [idx t]

/-- The result is the gradient of the weight. -/
theorem kernel_value : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have ht : t.val < 16 := Nat.lt_of_lt_of_eq t.isLt N_0
  blk_simp
  rw [after0_2]
  have hs := scratch m c t h3
  rw [outsAt0_C m c t (by omega) h3] at hs ⊢
  revert hs
  frame_out
  intro hs
  have h1 : (y 1).val < 1024 := (y 1).isLt
  have h2 : (y 2).val < 1024 := (y 2).isLt
  refine Eq.trans ((out_at _ y).trans (hs _)) (Eq.trans ?_ (place t y ⟨t.val / 4 % 2 * 1024 + (y 1).val, by omega⟩ ⟨t.val / 8 * 1024 + (y 2).val, by omega⟩ rfl rfl _).symm)
  unfold grad part
  refine Fin.sum_mul_add_congr fun s k hl => ?_
  have hp : 4 * (t.val / 4) + s.val < cfg0.N := Pipeline.run_point_lt_of_flush t h3 s
  blk_point [iblk, V, idx ⟨4 * (t.val / 4) + s.val, hp⟩]

end Cert.MixoutWgrad

end
-- ==== Proof.MixoutWgrad.Reference.lean ====
/- The gradient of the weight of a mixer's output projection: what the reference leaves in its result. -/
module

public import proofs.«01_k».proof.Proof.Gen.Reference9Ideal.Read
public import Idealize.ShloMosaic.Lib.Pipeline.ValueKit

@[expose] public section

set_option maxRecDepth 16384

noncomputable section

namespace Cert.MixoutWgrad.Ref

open Idealize.ShloMosaic Idealize.ShloMosaic.TcCoe Idealize.SL.Sem
open Cert.Reference9Ideal Cert.Reference9Ideal.Gen Cert.Reference9Ideal.Read

/-- The reference's result at an index: the column of the mixer's output times the column of the gradient. -/
theorem ref_at (A : FVec Ideal S8448x2048 .bf16) (Y : FVec Ideal S8448x2048 .bf16) (x : S1x2048x2048.Idx) :
    (val_main_v7 (F := Ideal) A Y x : EReal) = ∑ s : Fin 8448, (A (ix2 s (x 1)) * Y (ix2 s (x 2)) : EReal) := by
  have e : (val_main_v7 (F := Ideal) A Y x : EReal) = val_main_v4 (F := Ideal) A Y (ix2 (x 2) (x 1)) := by
    pointwise [val_main_v7, val_main_v6, val_main_v5]
  refine e.trans ((val_main_v4_apply A Y _).trans (Finset.sum_congr rfl fun s _ => ?_))
  rw [mul_comm]
  refine Ideal.mul_congr ?_ ?_
  · pointwise [val_main_v1]
    exact congrArg A (funext fun a => match a with
      | ⟨0, _⟩ => rfl
      | ⟨1, _⟩ => rfl)
  · pointwise [val_main_v3]
    exact congrArg Y (funext fun a => match a with
      | ⟨0, _⟩ => rfl
      | ⟨1, _⟩ => rfl)

end Cert.MixoutWgrad.Ref

end
-- ==== Proof.MixoutWgrad.Claims.lean ====
/- The claims about the gradient of the weight of a mixer's output projection. -/
module

public import proofs.«01_k».proof.Defs
public import proofs.«01_k».proof.Proof.Gen.Kernel9.Frame
public import proofs.«01_k».proof.Proof.MixoutWgrad.Kernel
public import proofs.«01_k».proof.Proof.MixoutWgrad.Reference

@[expose] public section

set_option maxRecDepth 16384

noncomputable section

namespace Cert.MixoutWgrad

open Idealize.ShloMosaic Idealize.SL.Sem

/-- The kernel, rounding as the device does, runs to its end and leaves its arguments as they were. -/
theorem frame_kernel : Cert.quiescent_Kernel9 (hKernel9 := Cert.Kernel9.Gen.facts) := fun m ρ _ => Cert.Kernel9.Gen.frame m ρ

/-- The same of the kernel over exact numbers. -/
theorem frame_ideal : Cert.quiescent_Kernel9Ideal (hKernel9Ideal := Cert.Kernel9Ideal.Gen.facts) :=
  fun m ρ _ => Cert.Kernel9Ideal.Gen.frame m ρ

/-- The same of the reference, which is host code and holds no semaphore. -/
theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference's result is the gradient. -/
theorem ref_value (A Y : FVec Ideal Cert.Reference9Ideal.S8448x2048 .bf16) :
    Cert.Reference9Ideal.Read.val_main_v7 (F := Ideal) A Y = grad A Y := funext fun x => Ref.ref_at A Y x

/-- Over exact numbers the kernel's result is the reference's: both are `grad` of the arguments. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 2 Cert.Kernel9Ideal.cfg0.N, ?_, ?_⟩
  · refine (θ_run Cert.Kernel9Ideal.defs _ _).mono (fun r h c => ?_) (Cert.Kernel9Ideal.Value.run m g)
    exact ⟨(h c).1.trans (Cert.Kernel9Ideal.Value.final2 m c).symm, (h c).2⟩
  refine (θ_run Cert.Reference9Ideal.defs _ _).mono (fun r h c => ?_) (Cert.Reference9Ideal.Value.run (F := Ideal) m' g')
  obtain ⟨h0, hk⟩ := h c
  obtain ⟨a0, a1⟩ := hargs c
  refine ⟨h0.trans ((Cert.Reference9Ideal.Read.val_main_v7_eq _ _).trans ?_), hk⟩
  refine (ref_value _ _).trans (Eq.trans ?_ (kernel_value m c).symm)
  exact congr (congrArg grad a0) a1

end Cert.MixoutWgrad

end
-- ==== Proof.Up.Kernel.lean ====
/- The projection to the gate and the value: what the kernel leaves in its result. Every grid point computes one tile of 768 tokens
   and 2816 columns. -/
module

public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

namespace Cert.Up

open Idealize.ShloMosaic Idealize.ShloMosaic.TcCoe Idealize.SL.Sem
open Cert.Kernel10Ideal Cert.Kernel10Ideal.Gen

/-- The projection: the products of a token's inputs and a column of the weight, whose 11264 columns come in eight blocks. -/
def project (H : FVec Ideal (⟨2, ![8448, 2048]⟩ : Shape) .bf16) (W : FVec Ideal (⟨3, ![8, 2048, 1408]⟩ : Shape) .bf16) :
    FVec Ideal (⟨2, ![8448, 11264]⟩ : Shape) .bf16 :=
  fun x => ∑ k : Fin 2048, H (ix2 (x 0) k) * W (ix3
    ⟨(x 1).val / 1408, by
      have h1 : (x 1).val < 11264 := (x 1).isLt
      omega⟩ k ⟨(x 1).val % 1408, Nat.mod_lt _ (by decide)⟩)

variable (m : (ℓ : Loc nD τ sig) → Buf (Elt Ideal) ℓ) (c : Dev nD)

/-- Which block of each array a grid point works on. -/
theorem idx : ∀ t : Fin cfg0.N, win0_0.index t = ![t.val % 11, 0] ∧ win0_1.index t = ![t.val / 11, 0, 0] ∧ win0_2.index t = ![t.val % 11, t.val / 11] :=
  (by decide +kernel : ∀ t : Fin grid0.N, win0_0.index t = ![t.val % 11, 0] ∧ win0_1.index t = ![t.val / 11, 0, 0] ∧ win0_2.index t = ![t.val % 11, t.val / 11])

/-- One element of a tile: a row of the input times column `n` of the weight's block, whose columns come in two shards. -/
def cell (d : FVec Ideal S768x2048 .bf16) (w : FVec Ideal S2x2048x1408 .bf16) (i : Fin 768) (n : Fin 2816) : EReal :=
  ∑ k : Fin 2048, d (ix2 i k) * w (ix3 ⟨n.val / 1408, by omega⟩ k ⟨n.val % 1408, Nat.mod_lt _ (by decide)⟩)

theorem cell_at (d : FVec Ideal S768x2048 .bf16) (w : FVec Ideal S2x2048x1408 .bf16) (i : Fin 768) (n : Fin 2816) (q : Fin 2) (r : Fin 1408)
    (hq : q.val = n.val / 1408) (hr : r.val = n.val % 1408) : (∑ k : Fin 2048, d (ix2 i k) * w (ix3 q k r) : EReal) = cell d w i n :=
  Finset.sum_congr rfl fun k _ => congrArg (fun z => (d (ix2 i k) * w z : EReal)) (congrArg₂ (fun q r => ix3 q k r) (Fin.ext hq) (Fin.ext hr))

/-- The three pieces of a tile: the first shard's columns up to its last 128, those with the first 128 of the second shard,
    and the rest of the second shard. -/
theorem first_at (d : FVec Ideal S768x2048 .bf16) (w : FVec Ideal S2x2048x1408 .bf16) (x : S768x1280.Idx) (n : Fin 2816) (hn : n.val = (x 1).val) :
    (k0_pay1 (F := Ideal) d (View.ld (Val := Elt Ideal) (S := S2x2048x1408) (e' := .bf16) w (Rect.unit ![0, 0, 0] ![1, 2048, 1280] inb_S2x2048x1408_S1x2048x1280_0_0_0)) x : EReal) = cell d w (x 0) n := by
  have h1 : (x 1).val < 1280 := (x 1).isLt
  pointwise [k0_pay1]
  exact cell_at d w (x 0) n _ _ (by show 0 = n.val / 1408; omega) (by show (x 1).val = n.val % 1408; omega)
theorem middle_at (d : FVec Ideal S768x2048 .bf16) (w : FVec Ideal S2x2048x1408 .bf16) (x : S768x256.Idx) (n : Fin 2816) (hn : n.val = 1280 + (x 1).val) :
    (k0_pay2 (F := Ideal) d (View.ld (Val := Elt Ideal) (S := S2x2048x1408) (e' := .bf16) w (Rect.unit ![0, 0, 1280] ![1, 2048, 128] inb_S2x2048x1408_S1x2048x128_0_0_1280))
      (View.ld (Val := Elt Ideal) (S := S2x2048x1408) (e' := .bf16) w (Rect.unit ![1, 0, 0] ![1, 2048, 128] inb_S2x2048x1408_S1x2048x128_1_0_0)) x : EReal) = cell d w (x 0) n := by
  have h1 : (x 1).val < 256 := (x 1).isLt
  pointwise [k0_pay2]
  by_cases h : (x 1).val < 128
  · refine Eq.trans (Finset.sum_congr rfl fun k _ => Ideal.mul_congr rfl (dif_pos h)) ?_
    exact cell_at d w (x 0) n _ _ (by show 0 = n.val / 1408; omega) (by show 1280 + (x 1).val = n.val % 1408; omega)
  · refine Eq.trans (Finset.sum_congr rfl fun k _ => Ideal.mul_congr rfl (dif_neg h)) ?_
    exact cell_at d w (x 0) n _ _ (by show 1 = n.val / 1408; omega) (by show (x 1).val - 128 = n.val % 1408; omega)
theorem last_at (d : FVec Ideal S768x2048 .bf16) (w : FVec Ideal S2x2048x1408 .bf16) (x : S768x1280.Idx) (n : Fin 2816) (hn : n.val = 1536 + (x 1).val) :
    (k0_pay3 (F := Ideal) d (View.ld (Val := Elt Ideal) (S := S2x2048x1408) (e' := .bf16) w (Rect.unit ![1, 0, 128] ![1, 2048, 1280] inb_S2x2048x1408_S1x2048x1280_1_0_128)) x : EReal) = cell d w (x 0) n := by
  have h1 : (x 1).val < 1280 := (x 1).isLt
  pointwise [k0_pay3]
  exact cell_at d w (x 0) n _ _ (by show 1 = n.val / 1408; omega) (by show 128 + (x 1).val = n.val % 1408; omega)

/-- Where an element of a tile sits in the result. -/
theorem place (t : Fin cfg0.N) (y : ((cfg0.win 2).xblock (cfg0.grid.coords t)).Idx) (i : Fin 8448) (n : Fin 11264)
    (hi : i.val = t.val % 11 * 768 + (y 0).val) (hn : n.val = t.val / 11 * 2816 + (y 1).val) (X : FVec Ideal S8448x11264 .bf16) :
    X (((View.whole main_v0).slice (win0_2.rect t)).emb y) = X (ix2 i n) := by
  blk_ext [idx t]

/-- Which element of the weight a grid point's block holds. -/
theorem weight (t : Fin cfg0.N) (q : Fin 2) (k : Fin 2048) (r : Fin 1408) (a : Fin 8) (b : Fin 1408) (ha : a.val = t.val / 11 * 2 + q.val)
    (hb : b.val = r.val) :
    (show FVec Ideal S2x2048x1408 .bf16 from iblk m c 1 t) (ix3 q k r) = (m ((c : Thread nD τ).loc main_arg1)) (ix3 a k b) := by
  obtain rfl : b = r := Fin.ext hb
  have hq : q.val < 2 := q.isLt
  blk_point [iblk, V, idx t]

/-- Which element of the input a grid point's block holds. -/
theorem input (t : Fin cfg0.N) (i : Fin 768) (k : Fin 2048) (a : Fin 8448) (ha : a.val = t.val % 11 * 768 + i.val) :
    (show FVec Ideal S768x2048 .bf16 from iblk m c 0 t) (ix2 i k) = (m ((c : Thread nD τ).loc main_arg0)) (ix2 a k) := by
  blk_point [iblk, V, idx t]

/-- A tile of the result is that tile of the projection. -/
theorem tile (t : Fin cfg0.N) (y : ((cfg0.win 2).xblock (cfg0.grid.coords t)).Idx) :
    cell (iblk m c 0 t) (iblk m c 1 t) (y 0) (y 1)
      = project (m ((c : Thread nD τ).loc main_arg0)) (m ((c : Thread nD τ).loc main_arg1)) (((View.whole main_v0).slice (win0_2.rect t)).emb y) := by
  have ht : t.val < 44 := Nat.lt_of_lt_of_eq t.isLt N_0
  have h0 : (y 0).val < 768 := (y 0).isLt
  have h1 : (y 1).val < 2816 := (y 1).isLt
  refine Eq.trans ?_ (place t y ⟨t.val % 11 * 768 + (y 0).val, by omega⟩ ⟨t.val / 11 * 2816 + (y 1).val, by omega⟩ rfl rfl _).symm
  unfold cell project
  refine Finset.sum_congr rfl fun k _ => Ideal.mul_congr (input m c t _ k _ rfl) ?_
  exact weight m c t _ k _ _ _ (by show (t.val / 11 * 2816 + (y 1).val) / 1408 = t.val / 11 * 2 + (y 1).val / 1408; omega)
      (by show (t.val / 11 * 2816 + (y 1).val) % 1408 = (y 1).val % 1408; omega)

/-- The result is the projection. -/
theorem kernel_value : (dats m 0 c).arrAt 2 cfg0.N = project (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have h1 : (y 1).val < 2816 := (y 1).isLt
  refine Eq.trans ?_ (tile m c t y)
  canon_tiles x h using (View.cover_of_tiledBy _ ![768, 256] (by sl_kernel_rfl) y)
  · have e : y 0 = x 0 := Fin.ext (by omega)
    exact (last_at _ _ x (y 1) (by omega)).trans (congrArg (fun i => cell _ _ i (y 1)) e.symm)
  · have e : y 0 = x 0 := Fin.ext (by omega)
    exact (middle_at _ _ x (y 1) (by omega)).trans (congrArg (fun i => cell _ _ i (y 1)) e.symm)
  · have e : y 0 = x 0 := Fin.ext (by omega)
    exact (first_at _ _ x (y 1) (by omega)).trans (congrArg (fun i => cell _ _ i (y 1)) e.symm)

end Cert.Up

end
-- ==== Proof.Up.Reference.lean ====
/- The projection to the gate and the value: what the reference leaves in its result. -/
module

public import proofs.«01_k».proof.Proof.Gen.Reference10Ideal.Read
public import Idealize.ShloMosaic.Lib.Pipeline.ValueKit

@[expose] public section

set_option maxRecDepth 16384

noncomputable section

namespace Cert.Up.Ref

open Idealize.ShloMosaic Idealize.ShloMosaic.TcCoe Idealize.SL.Sem
open Cert.Reference10Ideal Cert.Reference10Ideal.Gen Cert.Reference10Ideal.Read

variable (H : FVec Ideal S8448x2048 .bf16) (W : FVec Ideal S8x2048x1408 .bf16)

/-- The weight's eight blocks of columns side by side. -/
theorem weight (i : Fin 2048) (n : Fin 11264) :
    val_main_v3 (F := Ideal) W (ix2 i n) = W (ix3 ⟨n.val / 1408, by omega⟩ i ⟨n.val % 1408, Nat.mod_lt _ (by decide)⟩) := by
  pointwise [val_main_v3, val_main_v2, val_main_v1]

/-- The reference's result at an index: the row of the inputs times the column of the weight. -/
theorem ref_at (x : S8448x11264.Idx) :
    (val_main_v5 (F := Ideal) H W x : EReal) = ∑ k : Fin 2048, (H (ix2 (x 0) k) * val_main_v3 (F := Ideal) W (ix2 k (x 1)) : EReal) := by
  refine Eq.trans (b := (val_main_v4 (F := Ideal) H W x : EReal)) ?_ ((val_main_v4_apply H W _).trans (Finset.sum_congr rfl fun s _ => Ideal.mul_congr ?_ ?_))
  · pointwise [val_main_v5]
  · pointwise [val_main_v0]
    exact congrArg H (funext fun a => match a with
      | ⟨0, _⟩ => rfl
      | ⟨1, _⟩ => rfl)
  · exact congrArg (val_main_v3 (F := Ideal) W) (funext fun a => match a with
      | ⟨0, _⟩ => rfl
      | ⟨1, _⟩ => rfl)

end Cert.Up.Ref

end
-- ==== Proof.Up.Claims.lean ====
/- The claims about the projection to the gate and the value. -/
module

public import proofs.«01_k».proof.Defs
public import proofs.«01_k».proof.Proof.Gen.Kernel10.Frame
public import proofs.«01_k».proof.Proof.Up.Kernel
public import proofs.«01_k».proof.Proof.Up.Reference

@[expose] public section

set_option maxRecDepth 16384

noncomputable section

namespace Cert.Up

open Idealize.ShloMosaic Idealize.SL.Sem

/-- The kernel, rounding as the device does, runs to its end and leaves its arguments as they were. -/
theorem frame_kernel : Cert.quiescent_Kernel10 (hKernel10 := Cert.Kernel10.Gen.facts) := fun m ρ _ => Cert.Kernel10.Gen.frame m ρ

/-- The same of the kernel over exact numbers. -/
theorem frame_ideal : Cert.quiescent_Kernel10Ideal (hKernel10Ideal := Cert.Kernel10Ideal.Gen.facts) :=
  fun m ρ _ => Cert.Kernel10Ideal.Gen.frame m ρ

/-- The same of the reference, which is host code and holds no semaphore. -/
theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference's result is the projection. -/
theorem ref_value (H : FVec Ideal Cert.Reference10Ideal.S8448x2048 .bf16) (W : FVec Ideal Cert.Reference10Ideal.S8x2048x1408 .bf16) :
    Cert.Reference10Ideal.Read.val_main_v5 (F := Ideal) H W = project H W :=
  funext fun x => (Ref.ref_at H W x).trans (Finset.sum_congr rfl fun k _ => Ideal.mul_congr rfl (Ref.weight W k (x 1)))

/-- Over exact numbers the kernel's result is the reference's: both are `project` of the arguments. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run (F := Ideal) m' g')
  obtain ⟨h0, hk⟩ := h c
  obtain ⟨a0, a1⟩ := hargs c
  refine ⟨h0.trans ((Cert.Reference10Ideal.Read.val_main_v5_eq _ _).trans ?_), hk⟩
  refine (ref_value _ _).trans (Eq.trans ?_ (kernel_value m c).symm)
  exact congr (congrArg project a0) a1

end Cert.Up

end
-- ==== Proof.Scin.Kernel.lean ====
/- The short convolution's input projection: what the kernel leaves in its result. Every grid point computes one tile of 768 tokens
   and 768 columns. -/
module

public import proofs.«01_k».proof.Proof.Gen.Kernel11Ideal.Value
public import Idealize.ShloMosaic.Lib.Pipeline.ValueKit
public import Idealize.ShloMosaic.Lib.Pipeline.ReadBack

@[expose] public section

set_option maxRecDepth 16384

noncomputable section

namespace Cert.Scin

open Idealize.ShloMosaic Idealize.ShloMosaic.TcCoe Idealize.SL.Sem
open Cert.Kernel11Ideal Cert.Kernel11Ideal.Gen

/-- The projection: the products of a token's inputs and a column of the weight, whose 6144 columns come in eight blocks. -/
def project (H : FVec Ideal (⟨2, ![8448, 2048]⟩ : Shape) .bf16) (W : FVec Ideal (⟨3, ![8, 2048, 768]⟩ : Shape) .bf16) :
    FVec Ideal (⟨2, ![8448, 6144]⟩ : Shape) .bf16 :=
  fun x => ∑ k : Fin 2048, H (ix2 (x 0) k) * W (ix3
    ⟨(x 1).val / 768, by
      have h1 : (x 1).val < 6144 := (x 1).isLt
      omega⟩ k ⟨(x 1).val % 768, Nat.mod_lt _ (by decide)⟩)

variable (m : (ℓ : Loc nD τ sig) → Buf (Elt Ideal) ℓ) (c : Dev nD)

/-- Which block of each array a grid point works on. -/
theorem idx : ∀ t : Fin cfg0.N, win0_0.index t = ![t.val % 11, 0] ∧ win0_1.index t = ![t.val / 11, 0, 0] ∧ win0_2.index t = ![t.val % 11, t.val / 11] :=
  (by decide +kernel : ∀ t : Fin grid0.N, win0_0.index t = ![t.val % 11, 0] ∧ win0_1.index t = ![t.val / 11, 0, 0] ∧ win0_2.index t = ![t.val % 11, t.val / 11])

/-- One element of a tile: a row of the input times column `n` of the weight's block. -/
def cell (d : FVec Ideal S768x2048 .bf16) (w : FVec Ideal S1x2048x768 .bf16) (i n : Fin 768) : EReal :=
  ∑ k : Fin 2048, d (ix2 i k) * w (ix3 0 k n)

/-- A tile is the block's product, rounded. -/
theorem tile_at (d : FVec Ideal S768x2048 .bf16) (w : FVec Ideal S1x2048x768 .bf16) (y : S768x768.Idx) :
    (k0_pay1 (F := Ideal) d w y : EReal) = cell d w (y 0) (y 1) := by
  pointwise [k0_pay1, cell]

/-- Where an element of a tile sits in the result. -/
theorem place (t : Fin cfg0.N) (y : ((cfg0.win 2).xblock (cfg0.grid.coords t)).Idx) (i : Fin 8448) (n : Fin 6144)
    (hi : i.val = t.val % 11 * 768 + (y 0).val) (hn : n.val = t.val / 11 * 768 + (y 1).val) (X : FVec Ideal S8448x6144 .bf16) :
    X (((View.whole main_v0).slice (win0_2.rect t)).emb y) = X (ix2 i n) := by
  blk_ext [idx t]

/-- Which element of the weight a grid point's block holds. -/
theorem weight (t : Fin cfg0.N) (q : Fin 1) (k : Fin 2048) (r : Fin 768) (a : Fin 8) (b : Fin 768) (ha : a.val = t.val / 11 * 1 + q.val)
    (hb : b.val = r.val) :
    (show FVec Ideal S1x2048x768 .bf16 from iblk m c 1 t) (ix3 q k r) = (m ((c : Thread nD τ).loc main_arg1)) (ix3 a k b) := by
  obtain rfl : b = r := Fin.ext hb
  have hq : q.val < 1 := q.isLt
  blk_point [iblk, V, idx t]

/-- Which element of the input a grid point's block holds. -/
theorem input (t : Fin cfg0.N) (i : Fin 768) (k : Fin 2048) (a : Fin 8448) (ha : a.val = t.val % 11 * 768 + i.val) :
    (show FVec Ideal S768x2048 .bf16 from iblk m c 0 t) (ix2 i k) = (m ((c : Thread nD τ).loc main_arg0)) (ix2 a k) := by
  blk_point [iblk, V, idx t]

/-- A tile of the result is that tile of the projection. -/
theorem tile (t : Fin cfg0.N) (y : ((cfg0.win 2).xblock (cfg0.grid.coords t)).Idx) :
    cell (iblk m c 0 t) (iblk m c 1 t) (y 0) (y 1)
      = project (m ((c : Thread nD τ).loc main_arg0)) (m ((c : Thread nD τ).loc main_arg1)) (((View.whole main_v0).slice (win0_2.rect t)).emb y) := by
  have ht : t.val < 88 := Nat.lt_of_lt_of_eq t.isLt N_0
  have h0 : (y 0).val < 768 := (y 0).isLt
  have h1 : (y 1).val < 768 := (y 1).isLt
  refine Eq.trans ?_ (place t y ⟨t.val % 11 * 768 + (y 0).val, by omega⟩ ⟨t.val / 11 * 768 + (y 1).val, by omega⟩ rfl rfl _).symm
  unfold cell project
  refine Finset.sum_congr rfl fun k _ => Ideal.mul_congr (input m c t _ k _ rfl) ?_
  exact weight m c t _ k _ _ _ (by show (t.val / 11 * 768 + (y 1).val) / 768 = t.val / 11 * 1 + 0; omega)
      (by show (t.val / 11 * 768 + (y 1).val) % 768 = (y 1).val; omega)

/-- The result is the projection. -/
theorem kernel_value : (dats m 0 c).arrAt 2 cfg0.N = project (m ((c : Thread nD τ).loc main_arg0)) (m ((c : Thread nD τ).loc main_arg1)) := by
  refine (dats m 0 c).arrAt_eq_of_covers 2 _ (by decide +kernel) fun t hf y => ?_
  blk_simp
  rw [after0_2]
  frame_out
  exact (tile_at _ _ y).trans (tile m c t y)

end Cert.Scin

end
-- ==== Proof.Scin.Reference.lean ====
/- The short convolution's input projection: what the reference leaves in its result. -/
module

public import proofs.«01_k».proof.Proof.Gen.Reference11Ideal.Read
public import Idealize.ShloMosaic.Lib.Pipeline.ValueKit

@[expose] public section

set_option maxRecDepth 16384

noncomputable section

namespace Cert.Scin.Ref

open Idealize.ShloMosaic Idealize.ShloMosaic.TcCoe Idealize.SL.Sem
open Cert.Reference11Ideal Cert.Reference11Ideal.Gen Cert.Reference11Ideal.Read

variable (H : FVec Ideal S8448x2048 .bf16) (W : FVec Ideal S8x2048x768 .bf16)

/-- The weight's eight blocks of columns side by side. -/
theorem weight (i : Fin 2048) (n : Fin 6144) :
    val_main_v3 (F := Ideal) W (ix2 i n) = W (ix3 ⟨n.val / 768, by omega⟩ i ⟨n.val % 768, Nat.mod_lt _ (by decide)⟩) := by
  pointwise [val_main_v3, val_main_v2, val_main_v1]

/-- The reference's result at an index: the row of the inputs times the column of the weight. -/
theorem ref_at (x : S8448x6144.Idx) :
    (val_main_v5 (F := Ideal) H W x : EReal) = ∑ k : Fin 2048, (H (ix2 (x 0) k) * val_main_v3 (F := Ideal) W (ix2 k (x 1)) : EReal) := by
  refine Eq.trans (b := (val_main_v4 (F := Ideal) H W x : EReal)) ?_ ((val_main_v4_apply H W _).trans (Finset.sum_congr rfl fun s _ => Ideal.mul_congr ?_ ?_))
  · pointwise [val_main_v5]
  · pointwise [val_main_v0]
    exact congrArg H (funext fun a => match a with
      | ⟨0, _⟩ => rfl
      | ⟨1, _⟩ => rfl)
  · exact congrArg (val_main_v3 (F := Ideal) W) (funext fun a => match a with
      | ⟨0, _⟩ => rfl
      | ⟨1, _⟩ => rfl)

end Cert.Scin.Ref

end
-- ==== Proof.Scin.Claims.lean ====
/- The claims about the short convolution's input projection. -/
module

public import proofs.«01_k».proof.Defs
public import proofs.«01_k».proof.Proof.Gen.Kernel11.Frame
public import proofs.«01_k».proof.Proof.Scin.Kernel
public import proofs.«01_k».proof.Proof.Scin.Reference

@[expose] public section

set_option maxRecDepth 16384

noncomputable section

namespace Cert.Scin

open Idealize.ShloMosaic Idealize.SL.Sem

/-- The kernel, rounding as the device does, runs to its end and leaves its arguments as they were. -/
theorem frame_kernel : Cert.quiescent_Kernel11 (hKernel11 := Cert.Kernel11.Gen.facts) := fun m ρ _ => Cert.Kernel11.Gen.frame m ρ

/-- The same of the kernel over exact numbers. -/
theorem frame_ideal : Cert.quiescent_Kernel11Ideal (hKernel11Ideal := Cert.Kernel11Ideal.Gen.facts) :=
  fun m ρ _ => Cert.Kernel11Ideal.Gen.frame m ρ

/-- The same of the reference, which is host code and holds no semaphore. -/
theorem frame_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference's result is the projection. -/
theorem ref_value (H : FVec Ideal Cert.Reference11Ideal.S8448x2048 .bf16) (W : FVec Ideal Cert.Reference11Ideal.S8x2048x768 .bf16) :
    Cert.Reference11Ideal.Read.val_main_v5 (F := Ideal) H W = project H W :=
  funext fun x => (Ref.ref_at H W x).trans (Finset.sum_congr rfl fun k _ => Ideal.mul_congr rfl (Ref.weight W k (x 1)))

/-- Over exact numbers the kernel's result is the reference's: both are `project` of the arguments. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run (F := Ideal) m' g')
  obtain ⟨h0, hk⟩ := h c
  obtain ⟨a0, a1⟩ := hargs c
  refine ⟨h0.trans ((Cert.Reference11Ideal.Read.val_main_v5_eq _ _).trans ?_), hk⟩
  refine (ref_value _ _).trans (Eq.trans ?_ (kernel_value m c).symm)
  exact congr (congrArg project a0) a1

end Cert.Scin

end
-- ==== Proof.Qkv.Kernel.lean ====
/- The attention's input projection: what the kernel leaves in its result. Every grid point computes one tile of 768 tokens
   and 768 columns. -/
module

public import proofs.«01_k».proof.Proof.Gen.Kernel12Ideal.Value
public import Idealize.ShloMosaic.Lib.Pipeline.ValueKit
public import Idealize.ShloMosaic.Lib.Pipeline.ReadBack

@[expose] public section

set_option maxRecDepth 16384

noncomputable section

namespace Cert.Qkv

open Idealize.ShloMosaic Idealize.ShloMosaic.TcCoe Idealize.SL.Sem
open Cert.Kernel12Ideal Cert.Kernel12Ideal.Gen

/-- The projection: the products of a token's inputs and a column of the weight, whose 3072 columns come in eight blocks. -/
def project (H : FVec Ideal (⟨2, ![8448, 2048]⟩ : Shape) .bf16) (W : FVec Ideal (⟨3, ![8, 2048, 384]⟩ : Shape) .bf16) :
    FVec Ideal (⟨2, ![8448, 3072]⟩ : Shape) .bf16 :=
  fun x => ∑ k : Fin 2048, H (ix2 (x 0) k) * W (ix3
    ⟨(x 1).val / 384, by
      have h1 : (x 1).val < 3072 := (x 1).isLt
      omega⟩ k ⟨(x 1).val % 384, Nat.mod_lt _ (by decide)⟩)

variable (m : (ℓ : Loc nD τ sig) → Buf (Elt Ideal) ℓ) (c : Dev nD)

/-- Which block of each array a grid point works on. -/
theorem idx : ∀ t : Fin cfg0.N, win0_0.index t = ![t.val % 11, 0] ∧ win0_1.index t = ![t.val / 11, 0, 0] ∧ win0_2.index t = ![t.val % 11, t.val / 11] :=
  (by decide +kernel : ∀ t : Fin grid0.N, win0_0.index t = ![t.val % 11, 0] ∧ win0_1.index t = ![t.val / 11, 0, 0] ∧ win0_2.index t = ![t.val % 11, t.val / 11])

/-- One element of a tile: a row of the input times column `n` of the weight's block, whose columns come in two shards. -/
def cell (d : FVec Ideal S768x2048 .bf16) (w : FVec Ideal S2x2048x384 .bf16) (i : Fin 768) (n : Fin 768) : EReal :=
  ∑ k : Fin 2048, d (ix2 i k) * w (ix3 ⟨n.val / 384, by omega⟩ k ⟨n.val % 384, Nat.mod_lt _ (by decide)⟩)

theorem cell_at (d : FVec Ideal S768x2048 .bf16) (w : FVec Ideal S2x2048x384 .bf16) (i : Fin 768) (n : Fin 768) (q : Fin 2) (r : Fin 384)
    (hq : q.val = n.val / 384) (hr : r.val = n.val % 384) : (∑ k : Fin 2048, d (ix2 i k) * w (ix3 q k r) : EReal) = cell d w i n :=
  Finset.sum_congr rfl fun k _ => congrArg (fun z => (d (ix2 i k) * w z : EReal)) (congrArg₂ (fun q r => ix3 q k r) (Fin.ext hq) (Fin.ext hr))

/-- The three pieces of a tile: the first shard's columns up to its last 128, those with the first 128 of the second shard,
    and the rest of the second shard. -/
theorem first_at (d : FVec Ideal S768x2048 .bf16) (w : FVec Ideal S2x2048x384 .bf16) (x : S768x256.Idx) (n : Fin 768) (hn : n.val = (x 1).val) :
    (k0_pay1 (F := Ideal) d (View.ld (Val := Elt Ideal) (S := S2x2048x384) (e' := .bf16) w (Rect.unit ![0, 0, 0] ![1, 2048, 256] inb_S2x2048x384_S1x2048x256_0_0_0)) x : EReal) = cell d w (x 0) n := by
  have h1 : (x 1).val < 256 := (x 1).isLt
  pointwise [k0_pay1]
  exact cell_at d w (x 0) n _ _ (by show 0 = n.val / 384; omega) (by show (x 1).val = n.val % 384; omega)
theorem middle_at (d : FVec Ideal S768x2048 .bf16) (w : FVec Ideal S2x2048x384 .bf16) (x : S768x256.Idx) (n : Fin 768) (hn : n.val = 256 + (x 1).val) :
    (k0_pay2 (F := Ideal) d (View.ld (Val := Elt Ideal) (S := S2x2048x384) (e' := .bf16) w (Rect.unit ![0, 0, 256] ![1, 2048, 128] inb_S2x2048x384_S1x2048x128_0_0_256))
      (View.ld (Val := Elt Ideal) (S := S2x2048x384) (e' := .bf16) w (Rect.unit ![1, 0, 0] ![1, 2048, 128] inb_S2x2048x384_S1x2048x128_1_0_0)) x : EReal) = cell d w (x 0) n := by
  have h1 : (x 1).val < 256 := (x 1).isLt
  pointwise [k0_pay2]
  by_cases h : (x 1).val < 128
  · refine Eq.trans (Finset.sum_congr rfl fun k _ => Ideal.mul_congr rfl (dif_pos h)) ?_
    exact cell_at d w (x 0) n _ _ (by show 0 = n.val / 384; omega) (by show 256 + (x 1).val = n.val % 384; omega)
  · refine Eq.trans (Finset.sum_congr rfl fun k _ => Ideal.mul_congr rfl (dif_neg h)) ?_
    exact cell_at d w (x 0) n _ _ (by show 1 = n.val / 384; omega) (by show (x 1).val - 128 = n.val % 384; omega)
theorem last_at (d : FVec Ideal S768x2048 .bf16) (w : FVec Ideal S2x2048x384 .bf16) (x : S768x256.Idx) (n : Fin 768) (hn : n.val = 512 + (x 1).val) :
    (k0_pay3 (F := Ideal) d (View.ld (Val := Elt Ideal) (S := S2x2048x384) (e' := .bf16) w (Rect.unit ![1, 0, 128] ![1, 2048, 256] inb_S2x2048x384_S1x2048x256_1_0_128)) x : EReal) = cell d w (x 0) n := by
  have h1 : (x 1).val < 256 := (x 1).isLt
  pointwise [k0_pay3]
  exact cell_at d w (x 0) n _ _ (by show 1 = n.val / 384; omega) (by show 128 + (x 1).val = n.val % 384; omega)

/-- Where an element of a tile sits in the result. -/
theorem place (t : Fin cfg0.N) (y : ((cfg0.win 2).xblock (cfg0.grid.coords t)).Idx) (i : Fin 8448) (n : Fin 3072)
    (hi : i.val = t.val % 11 * 768 + (y 0).val) (hn : n.val = t.val / 11 * 768 + (y 1).val) (X : FVec Ideal S8448x3072 .bf16) :
    X (((View.whole main_v0).slice (win0_2.rect t)).emb y) = X (ix2 i n) := by
  blk_ext [idx t]

/-- Which element of the weight a grid point's block holds. -/
theorem weight (t : Fin cfg0.N) (q : Fin 2) (k : Fin 2048) (r : Fin 384) (a : Fin 8) (b : Fin 384) (ha : a.val = t.val / 11 * 2 + q.val)
    (hb : b.val = r.val) :
    (show FVec Ideal S2x2048x384 .bf16 from iblk m c 1 t) (ix3 q k r) = (m ((c : Thread nD τ).loc main_arg1)) (ix3 a k b) := by
  obtain rfl : b = r := Fin.ext hb
  have hq : q.val < 2 := q.isLt
  blk_point [iblk, V, idx t]

/-- Which element of the input a grid point's block holds. -/
theorem input (t : Fin cfg0.N) (i : Fin 768) (k : Fin 2048) (a : Fin 8448) (ha : a.val = t.val % 11 * 768 + i.val) :
    (show FVec Ideal S768x2048 .bf16 from iblk m c 0 t) (ix2 i k) = (m ((c : Thread nD τ).loc main_arg0)) (ix2 a k) := by
  blk_point [iblk, V, idx t]

/-- A tile of the result is that tile of the projection. -/
theorem tile (t : Fin cfg0.N) (y : ((cfg0.win 2).xblock (cfg0.grid.coords t)).Idx) :
    cell (iblk m c 0 t) (iblk m c 1 t) (y 0) (y 1)
      = project (m ((c : Thread nD τ).loc main_arg0)) (m ((c : Thread nD τ).loc main_arg1)) (((View.whole main_v0).slice (win0_2.rect t)).emb y) := by
  have ht : t.val < 44 := Nat.lt_of_lt_of_eq t.isLt N_0
  have h0 : (y 0).val < 768 := (y 0).isLt
  have h1 : (y 1).val < 768 := (y 1).isLt
  refine Eq.trans ?_ (place t y ⟨t.val % 11 * 768 + (y 0).val, by omega⟩ ⟨t.val / 11 * 768 + (y 1).val, by omega⟩ rfl rfl _).symm
  unfold cell project
  refine Finset.sum_congr rfl fun k _ => Ideal.mul_congr (input m c t _ k _ rfl) ?_
  exact weight m c t _ k _ _ _ (by show (t.val / 11 * 768 + (y 1).val) / 384 = t.val / 11 * 2 + (y 1).val / 384; omega)
      (by show (t.val / 11 * 768 + (y 1).val) % 384 = (y 1).val % 384; omega)

/-- The result is the projection. -/
theorem kernel_value : (dats m 0 c).arrAt 2 cfg0.N = project (m ((c : Thread nD τ).loc main_arg0)) (m ((c : Thread nD τ).loc main_arg1)) := by
  refine (dats m 0 c).arrAt_eq_of_covers 2 _ (by decide +kernel) fun t hf y => ?_
  blk_simp
  rw [after0_2]
  frame_out
  have h1 : (y 1).val < 768 := (y 1).isLt
  refine Eq.trans ?_ (tile m c t y)
  canon_tiles x h
  · have e : y 0 = x 0 := Fin.ext (by omega)
    exact (last_at _ _ x (y 1) (by omega)).trans (congrArg (fun i => cell _ _ i (y 1)) e.symm)
  · have e : y 0 = x 0 := Fin.ext (by omega)
    exact (middle_at _ _ x (y 1) (by omega)).trans (congrArg (fun i => cell _ _ i (y 1)) e.symm)
  · have e : y 0 = x 0 := Fin.ext (by omega)
    exact (first_at _ _ x (y 1) (by omega)).trans (congrArg (fun i => cell _ _ i (y 1)) e.symm)

end Cert.Qkv

end
-- ==== Proof.Qkv.Reference.lean ====
/- The attention's input projection: what the reference leaves in its result. -/
module

public import proofs.«01_k».proof.Proof.Gen.Reference12Ideal.Read
public import Idealize.ShloMosaic.Lib.Pipeline.ValueKit

@[expose] public section

set_option maxRecDepth 16384

noncomputable section

namespace Cert.Qkv.Ref

open Idealize.ShloMosaic Idealize.ShloMosaic.TcCoe Idealize.SL.Sem
open Cert.Reference12Ideal Cert.Reference12Ideal.Gen Cert.Reference12Ideal.Read

variable (H : FVec Ideal S8448x2048 .bf16) (W : FVec Ideal S8x2048x384 .bf16)

/-- The weight's eight blocks of columns side by side. -/
theorem weight (i : Fin 2048) (n : Fin 3072) :
    val_main_v3 (F := Ideal) W (ix2 i n) = W (ix3 ⟨n.val / 384, by omega⟩ i ⟨n.val % 384, Nat.mod_lt _ (by decide)⟩) := by
  pointwise [val_main_v3, val_main_v2, val_main_v1]

/-- The reference's result at an index: the row of the inputs times the column of the weight. -/
theorem ref_at (x : S8448x3072.Idx) :
    (val_main_v5 (F := Ideal) H W x : EReal) = ∑ k : Fin 2048, (H (ix2 (x 0) k) * val_main_v3 (F := Ideal) W (ix2 k (x 1)) : EReal) := by
  refine Eq.trans (b := (val_main_v4 (F := Ideal) H W x : EReal)) ?_ ((val_main_v4_apply H W _).trans (Finset.sum_congr rfl fun s _ => Ideal.mul_congr ?_ ?_))
  · pointwise [val_main_v5]
  · pointwise [val_main_v0]
    exact congrArg H (funext fun a => match a with
      | ⟨0, _⟩ => rfl
      | ⟨1, _⟩ => rfl)
  · exact congrArg (val_main_v3 (F := Ideal) W) (funext fun a => match a with
      | ⟨0, _⟩ => rfl
      | ⟨1, _⟩ => rfl)

end Cert.Qkv.Ref

end
-- ==== Proof.Qkv.Claims.lean ====
/- The claims about the attention's input projection. -/
module

public import proofs.«01_k».proof.Defs
public import proofs.«01_k».proof.Proof.Gen.Kernel12.Frame
public import proofs.«01_k».proof.Proof.Qkv.Kernel
public import proofs.«01_k».proof.Proof.Qkv.Reference

@[expose] public section

set_option maxRecDepth 16384

noncomputable section

namespace Cert.Qkv

open Idealize.ShloMosaic Idealize.SL.Sem

/-- The kernel, rounding as the device does, runs to its end and leaves its arguments as they were. -/
theorem frame_kernel : Cert.quiescent_Kernel12 (hKernel12 := Cert.Kernel12.Gen.facts) := fun m ρ _ => Cert.Kernel12.Gen.frame m ρ

/-- The same of the kernel over exact numbers. -/
theorem frame_ideal : Cert.quiescent_Kernel12Ideal (hKernel12Ideal := Cert.Kernel12Ideal.Gen.facts) :=
  fun m ρ _ => Cert.Kernel12Ideal.Gen.frame m ρ

/-- The same of the reference, which is host code and holds no semaphore. -/
theorem frame_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference's result is the projection. -/
theorem ref_value (H : FVec Ideal Cert.Reference12Ideal.S8448x2048 .bf16) (W : FVec Ideal Cert.Reference12Ideal.S8x2048x384 .bf16) :
    Cert.Reference12Ideal.Read.val_main_v5 (F := Ideal) H W = project H W :=
  funext fun x => (Ref.ref_at H W x).trans (Finset.sum_congr rfl fun k _ => Ideal.mul_congr rfl (Ref.weight W k (x 1)))

/-- Over exact numbers the kernel's result is the reference's: both are `project` of the arguments. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run (F := Ideal) m' g')
  obtain ⟨h0, hk⟩ := h c
  obtain ⟨a0, a1⟩ := hargs c
  refine ⟨h0.trans ((Cert.Reference12Ideal.Read.val_main_v5_eq _ _).trans ?_), hk⟩
  refine (ref_value _ _).trans (Eq.trans ?_ (kernel_value m c).symm)
  exact congr (congrArg project a0) a1

end Cert.Qkv

end
-- ==== Proof.Rows.lean ====
/- The rows of a tile of tokens: the first 256 tokens are the context's, the others the latents'. -/
module

public import Idealize.ShloMosaic.Lib.Pipeline.ValueKit
public import Idealize.ShloMosaic.Lib.WordCmp

@[expose] public section

noncomputable section

namespace Cert.Rows

open Idealize.ShloMosaic

/-- The kernel's test of a token, tile by tile, is the comparison of the token with 256. -/
theorem mask {α : Type} (T i j : ℕ) (h : i * T + j < 2147483648) (a b : α) :
    Scalar.select (IntOp.cmpi .slt (IntOp.addi (Scalar.addi (Scalar.muli (BitVec.ofNat 32 i) (BitVec.ofNat 32 T)) 0#32) (BitVec.ofNat 32 j)) 256#32) a b
      = if i * T + j < 256 then a else b := by
  have e : IntOp.addi (Scalar.addi (Scalar.muli (BitVec.ofNat 32 i) (BitVec.ofNat 32 T)) 0#32) (BitVec.ofNat 32 j) = BitVec.ofNat 32 (i * T + j) := by
    show BitVec.ofNat 32 i * BitVec.ofNat 32 T + 0#32 + BitVec.ofNat 32 j = _
    rw [BitVec.add_zero, BitVec.ofNat_add, BitVec.ofNat_mul]
  rw [e, WordCmp.cmpi_slt_ofNat h (by decide)]
  by_cases g : i * T + j < 256
  · rw [if_pos g, decide_eq_true g]; rfl
  · rw [if_neg g, decide_eq_false g]; rfl

/-- The entry of row `r` of a block's modulation that belongs to a token: the context's and the latents' stand apart. -/
def pick (M : FVec Ideal (⟨3, ![2, 6, 2048]⟩ : Shape) .f32) (r : Fin 6) (i : Fin 8448) (n : Fin 2048) : EReal :=
  if i.val < 256 then M (ix3 0 r n) else M (ix3 1 r n)

end Cert.Rows

end
-- ==== Proof.Down.Kernel.lean ====
/- The output product of the feed-forward part and its gated residual: what the kernel leaves in its two results. Every grid point
   computes one tile of 768 tokens and 512 columns. -/
module

public import proofs.«01_k».proof.Proof.Gen.Kernel13Ideal.Value
public import proofs.«01_k».proof.Proof.Rows
public import Idealize.ShloMosaic.Lib.Pipeline.ReadBack

@[expose] public section

set_option maxRecDepth 16384

noncomputable section

namespace Cert.Down

open Idealize.ShloMosaic Idealize.ShloMosaic.TcCoe Idealize.SL.Sem
open Cert.Kernel13Ideal Cert.Kernel13Ideal.Gen

/-- The product: a token's activations times a column of the weight. -/
def product (A : FVec Ideal (⟨2, ![8448, 5632]⟩ : Shape) .bf16) (W : FVec Ideal (⟨2, ![5632, 2048]⟩ : Shape) .bf16) (i : Fin 8448) (n : Fin 2048) :
    EReal := ∑ k : Fin 5632, A (ix2 i k) * W (ix2 k n)

/-- The first result: the product, rounded. -/
def down (A : FVec Ideal (⟨2, ![8448, 5632]⟩ : Shape) .bf16) (W : FVec Ideal (⟨2, ![5632, 2048]⟩ : Shape) .bf16) :
    FVec Ideal (⟨2, ![8448, 2048]⟩ : Shape) .bf16 := fun x => product A W (x 0) (x 1)

/-- The second result: the stream, to which the product is added through row 5 of the modulation, the part's gate. -/
def stream (A : FVec Ideal (⟨2, ![8448, 5632]⟩ : Shape) .bf16) (W : FVec Ideal (⟨2, ![5632, 2048]⟩ : Shape) .bf16)
    (X : FVec Ideal (⟨2, ![8448, 2048]⟩ : Shape) .f32) (M : FVec Ideal (⟨3, ![2, 6, 2048]⟩ : Shape) .f32) :
    FVec Ideal (⟨2, ![8448, 2048]⟩ : Shape) .f32 :=
  fun x => X (ix2 (x 0) (x 1)) + Rows.pick M 5 (x 0) (x 1) * product A W (x 0) (x 1)

variable (m : (ℓ : Loc nD τ sig) → Buf (Elt Ideal) ℓ) (c : Dev nD)

/-- Which block of each array a grid point works on. -/
theorem idx : ∀ t : Fin cfg0.N, win0_0.index t = ![t.val % 11, 0] ∧ win0_1.index t = ![0, t.val / 11] ∧ win0_2.index t = ![t.val % 11, t.val / 11]
    ∧ win0_3.index t = ![0, 0, t.val / 11] ∧ win0_4.index t = ![t.val % 11, t.val / 11] ∧ win0_5.index t = ![t.val % 11, t.val / 11] :=
  (by decide +kernel : ∀ t : Fin grid0.N, win0_0.index t = ![t.val % 11, 0] ∧ win0_1.index t = ![0, t.val / 11] ∧ win0_2.index t = ![t.val % 11, t.val / 11]
    ∧ win0_3.index t = ![0, 0, t.val / 11] ∧ win0_4.index t = ![t.val % 11, t.val / 11] ∧ win0_5.index t = ![t.val % 11, t.val / 11])

/-- The grid's second coordinate is the tile of tokens. -/
theorem row : ∀ t : Fin cfg0.N, (grid0.coords t 1).val = t.val % 11 := (by decide +kernel : ∀ t : Fin grid0.N, (grid0.coords t 1).val = t.val % 11)

/-- One element of a tile's product. -/
def cell (d : FVec Ideal S768x5632 .bf16) (w : FVec Ideal S5632x512 .bf16) (i : Fin 768) (n : Fin 512) : EReal :=
  ∑ k : Fin 5632, d (ix2 i k) * w (ix2 k n)

/-- The first tile is the block's product, rounded. -/
theorem tile_at (d : FVec Ideal S768x5632 .bf16) (w : FVec Ideal S5632x512 .bf16) (y : S768x512.Idx) :
    (k0_pay2 (F := Ideal) d w y : EReal) = cell d w (y 0) (y 1) := by
  pointwise [k0_pay2, k0_pay1, cell]

/-- The second tile adds it to the stream's tile through the gate, of which the kernel takes the row by the token's number. -/
theorem gated_at (i : grid0.Coords) (d : FVec Ideal S768x5632 .bf16) (w : FVec Ideal S5632x512 .bf16) (M : FVec Ideal S2x6x512 .f32) (x : FVec Ideal S768x512 .f32)
    (y : S768x512.Idx) :
    (k0_pay3 (F := Ideal) i d w (View.ld (Val := Elt Ideal) (S := S2x6x512) (e' := .f32) M r0_2) (View.ld (Val := Elt Ideal) (S := S2x6x512) (e' := .f32) M r0_3) x y : EReal)
      = x (ix2 (y 0) (y 1)) + (if (i 1).val * 768 + (y 0).val < 256 then M (ix3 0 5 (y 1)) else M (ix3 1 5 (y 1))) * cell d w (y 0) (y 1) := by
  have hi : (i 1).val < 11 := (i 1).isLt
  have hy : (y 0).val < 768 := (y 0).isLt
  pointwise [k0_pay3, k0_pay1, cell]
  rw [Rows.mask 768 (i 1).val (y 0).val (by omega)]

/-- Where an element of a tile sits in the first result. -/
theorem place (t : Fin cfg0.N) (y : ((cfg0.win 4).xblock (cfg0.grid.coords t)).Idx) (i : Fin 8448) (n : Fin 2048)
    (hi : i.val = t.val % 11 * 768 + (y 0).val) (hn : n.val = t.val / 11 * 512 + (y 1).val) (X : FVec Ideal S8448x2048 .bf16) :
    X (((View.whole main_v0_0).slice (win0_4.rect t)).emb y) = X (ix2 i n) := by
  blk_ext [idx t]

/-- Where an element of a tile sits in the second result. -/
theorem place' (t : Fin cfg0.N) (y : ((cfg0.win 5).xblock (cfg0.grid.coords t)).Idx) (i : Fin 8448) (n : Fin 2048)
    (hi : i.val = t.val % 11 * 768 + (y 0).val) (hn : n.val = t.val / 11 * 512 + (y 1).val) (X : FVec Ideal S8448x2048 .f32) :
    X (((View.whole main_v0_1).slice (win0_5.rect t)).emb y) = X (ix2 i n) := by
  blk_ext [idx t]

/-- Which element of the activations a grid point's block holds. -/
theorem input (t : Fin cfg0.N) (i : Fin 768) (k : Fin 5632) (a : Fin 8448) (ha : a.val = t.val % 11 * 768 + i.val) :
    (show FVec Ideal S768x5632 .bf16 from iblk m c 0 t) (ix2 i k) = (m ((c : Thread nD τ).loc main_arg0)) (ix2 a k) := by
  blk_point [iblk, V, idx t]

/-- Which element of the weight a grid point's block holds. -/
theorem weight (t : Fin cfg0.N) (k : Fin 5632) (n : Fin 512) (b : Fin 2048) (hb : b.val = t.val / 11 * 512 + n.val) :
    (show FVec Ideal S5632x512 .bf16 from iblk m c 1 t) (ix2 k n) = (m ((c : Thread nD τ).loc main_arg1)) (ix2 k b) := by
  blk_point [iblk, V, idx t]

/-- Which element of the stream a grid point's block holds. -/
theorem residual (t : Fin cfg0.N) (i : Fin 768) (n : Fin 512) (a : Fin 8448) (b : Fin 2048) (ha : a.val = t.val % 11 * 768 + i.val)
    (hb : b.val = t.val / 11 * 512 + n.val) :
    (show FVec Ideal S768x512 .f32 from iblk m c 2 t) (ix2 i n) = (m ((c : Thread nD τ).loc main_arg2)) (ix2 a b) := by
  blk_point [iblk, V, idx t]

/-- Which element of the modulation a grid point's block holds. -/
theorem gate (t : Fin cfg0.N) (s : Fin 2) (r : Fin 6) (n : Fin 512) (b : Fin 2048) (hb : b.val = t.val / 11 * 512 + n.val) :
    (show FVec Ideal S2x6x512 .f32 from iblk m c 3 t) (ix3 s r n) = (m ((c : Thread nD τ).loc main_arg3)) (ix3 s r b) := by
  blk_point [iblk, V, idx t]

/-- The gate's entry a token of a tile takes is the one its number picks. -/
theorem pick_at (t : Fin cfg0.N) (i : Fin 768) (n : Fin 512) (a : Fin 8448) (b : Fin 2048) (ha : a.val = t.val % 11 * 768 + i.val)
    (hb : b.val = t.val / 11 * 512 + n.val) :
    (if t.val % 11 * 768 + i.val < 256 then (show FVec Ideal S2x6x512 .f32 from iblk m c 3 t) (ix3 0 5 n)
      else (show FVec Ideal S2x6x512 .f32 from iblk m c 3 t) (ix3 1 5 n))
      = Rows.pick (m ((c : Thread nD τ).loc main_arg3)) 5 a b := by
  unfold Rows.pick
  rw [ha, gate m c t 0 5 n b hb, gate m c t 1 5 n b hb]

/-- An element of a tile's product is the product's. -/
theorem product_at (t : Fin cfg0.N) (i : Fin 768) (n : Fin 512) (a : Fin 8448) (b : Fin 2048) (ha : a.val = t.val % 11 * 768 + i.val)
    (hb : b.val = t.val / 11 * 512 + n.val) :
    cell (iblk m c 0 t) (iblk m c 1 t) i n = product (m ((c : Thread nD τ).loc main_arg0)) (m ((c : Thread nD τ).loc main_arg1)) a b :=
  Finset.sum_congr rfl fun k _ => Ideal.mul_congr (input m c t i k a ha) (weight m c t k n b hb)

/-- The first result is the product. -/
theorem kernel_down : (dats m 0 c).arrAt 4 cfg0.N = down (m ((c : Thread nD τ).loc main_arg0)) (m ((c : Thread nD τ).loc main_arg1)) := by
  refine (dats m 0 c).arrAt_eq_of_covers 4 _ (by decide +kernel) fun t hf y => ?_
  blk_simp
  rw [after0_4]
  frame_out
  have ht : t.val < 44 := Nat.lt_of_lt_of_eq t.isLt N_0
  have h0 : (y 0).val < 768 := (y 0).isLt
  have h1 : (y 1).val < 512 := (y 1).isLt
  refine (tile_at _ _ y).trans (Eq.trans ?_ (place t y ⟨t.val % 11 * 768 + (y 0).val, by omega⟩ ⟨t.val / 11 * 512 + (y 1).val, by omega⟩ rfl rfl _).symm)
  exact product_at m c t _ _ _ _ rfl rfl

/-- The second result is the stream with the gated product added. -/
theorem kernel_stream : (dats m 0 c).arrAt 5 cfg0.N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  have ht : t.val < 44 := Nat.lt_of_lt_of_eq t.isLt N_0
  have h0 : (y 0).val < 768 := (y 0).isLt
  have h1 : (y 1).val < 512 := (y 1).isLt
  refine (gated_at _ _ _ _ _ y).trans (Eq.trans ?_ (place' t y ⟨t.val % 11 * 768 + (y 0).val, by omega⟩ ⟨t.val / 11 * 512 + (y 1).val, by omega⟩ rfl rfl _).symm)
  rw [row t]
  exact Ideal.add_congr (residual m c t _ _ _ _ rfl rfl) (Ideal.mul_congr (pick_at m c t _ _ _ _ rfl rfl) (product_at m c t _ _ _ _ rfl rfl))

end Cert.Down

end
-- ==== Proof.Down.Reference.lean ====
/- The output product of the feed-forward part and its gated residual: what the reference leaves in its two results. -/
module

public import proofs.«01_k».proof.Proof.Gen.Reference13Ideal.Read
public import proofs.«01_k».proof.Proof.Rows

@[expose] public section

set_option maxRecDepth 16384

noncomputable section

namespace Cert.Down.Ref

open Idealize.ShloMosaic Idealize.ShloMosaic.TcCoe Idealize.SL.Sem
open Cert.Reference13Ideal Cert.Reference13Ideal.Gen Cert.Reference13Ideal.Read

variable (A : FVec Ideal S8448x5632 .bf16) (W : FVec Ideal S5632x2048 .bf16) (X : FVec Ideal S8448x2048 .f32) (M : FVec Ideal S2x6x2048 .f32)

/-- The reference's product at an index. -/
theorem dot_at (i : Fin 8448) (n : Fin 2048) :
    (val_main_v2 (F := Ideal) A W (ix2 i n) : EReal) = ∑ k : Fin 5632, (A (ix2 i k) * W (ix2 k n) : EReal) := by
  refine (val_main_v2_apply A W _).trans (Finset.sum_congr rfl fun s _ => Ideal.mul_congr ?_ ?_)
  · pointwise [val_main_v0]
    exact congrArg A (funext fun a => match a with
      | ⟨0, _⟩ => rfl
      | ⟨1, _⟩ => rfl)
  · pointwise [val_main_v1]
    exact congrArg W (funext fun a => match a with
      | ⟨0, _⟩ => rfl
      | ⟨1, _⟩ => rfl)

/-- The first result is that product, rounded. -/
theorem down_at (x : S8448x2048.Idx) : (val_main_v3 (F := Ideal) A W x : EReal) = val_main_v2 (F := Ideal) A W (ix2 (x 0) (x 1)) := by
  pointwise [val_main_v3]

/-- The second result adds the product to the stream through the gate, the context's tokens and the latents' apart. -/
theorem stream_at (i : Fin 8448) (n : Fin 2048) :
    (val_main_v20 (F := Ideal) A W X M (ix2 i n) : EReal) = X (ix2 i n) + Rows.pick M 5 i n * val_main_v2 (F := Ideal) A W (ix2 i n) := by
  obtain ⟨i, hi⟩ := i
  unfold Rows.pick
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4]
  by_cases h : i < 256
  · rw [dif_pos h, if_pos h]
  · have e : 256 + (i - 256) = i := by omega
    rw [dif_neg h, if_neg h]
    simp only [e]

end Cert.Down.Ref

end
-- ==== Proof.Down.Claims.lean ====
/- The claims about the output product of the feed-forward part and its gated residual. -/
module

public import proofs.«01_k».proof.Defs
public import proofs.«01_k».proof.Proof.Gen.Kernel13.Frame
public import proofs.«01_k».proof.Proof.Down.Kernel
public import proofs.«01_k».proof.Proof.Down.Reference

@[expose] public section

set_option maxRecDepth 16384

noncomputable section

namespace Cert.Down

open Idealize.ShloMosaic Idealize.SL.Sem

/-- The kernel, rounding as the device does, runs to its end and leaves its arguments as they were. -/
theorem frame_kernel : Cert.quiescent_Kernel13 (hKernel13 := Cert.Kernel13.Gen.facts) := fun m ρ _ => Cert.Kernel13.Gen.frame m ρ

/-- The same of the kernel over exact numbers. -/
theorem frame_ideal : Cert.quiescent_Kernel13Ideal (hKernel13Ideal := Cert.Kernel13Ideal.Gen.facts) :=
  fun m ρ _ => Cert.Kernel13Ideal.Gen.frame m ρ

/-- The same of the reference, which is host code and holds no semaphore. -/
theorem frame_reference : Cert.quiescent_Reference13Ideal (hReference13Ideal := Cert.Reference13Ideal.Gen.facts) := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- The reference's first result is the product. -/
theorem ref_down (A : FVec Ideal Cert.Reference13Ideal.S8448x5632 .bf16) (W : FVec Ideal Cert.Reference13Ideal.S5632x2048 .bf16) :
    Cert.Reference13Ideal.Read.val_main_v3 (F := Ideal) A W = down A W :=
  funext fun x => (Ref.down_at A W x).trans (Ref.dot_at A W _ _)

/-- The reference's second result is the stream with the gated product added. -/
theorem ref_stream (A : FVec Ideal Cert.Reference13Ideal.S8448x5632 .bf16) (W : FVec Ideal Cert.Reference13Ideal.S5632x2048 .bf16)
    (X : FVec Ideal Cert.Reference13Ideal.S8448x2048 .f32) (M : FVec Ideal Cert.Reference13Ideal.S2x6x2048 .f32) :
    Cert.Reference13Ideal.Read.val_main_v20 (F := Ideal) A W X M = stream A W X M :=
  funext fun x => Eq.trans
    (congrArg (Cert.Reference13Ideal.Read.val_main_v20 (F := Ideal) A W X M) (funext fun a => match a with
      | ⟨0, _⟩ => rfl
      | ⟨1, _⟩ => rfl : x = ix2 (x 0) (x 1)))
    ((Ref.stream_at A W X M (x 0) (x 1)).trans (Ideal.add_congr rfl (Ideal.mul_congr rfl (Ref.dot_at A W _ _))))

/-- Over exact numbers the kernel's two results are the reference's: both are `down` and `stream` of the arguments. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N, Cert.Kernel13Ideal.Value.run_blocks m g, ?_⟩
  refine (θ_run Cert.Reference13Ideal.defs _ _).mono (fun r h c => ?_) (Cert.Reference13Ideal.Value.run (F := Ideal) m' g')
  obtain ⟨h0, h1, hk⟩ := h c
  obtain ⟨a0, a1, a2, a3⟩ := hargs c
  refine ⟨?_, ?_, hk⟩
  · refine h0.trans ((Cert.Reference13Ideal.Read.val_main_v3_eq _ _).trans ?_)
    refine (ref_down _ _).trans (Eq.trans ?_ (kernel_down m c).symm)
    exact congr (congrArg down a0) a1
  · refine h1.trans ((Cert.Reference13Ideal.Read.val_main_v20_eq _ _ _ _).trans ?_)
    refine (ref_stream _ _ _ _).trans (Eq.trans ?_ (kernel_stream m c).symm)
    exact congr (congr (congr (congrArg stream a0) a1) a2) a3

end Cert.Down

end
-- ==== Proof.Mixout.Kernel.lean ====
/- The mixing part's output product, its gated residual and the norm of what follows: what the kernel leaves in its four results. Every
   grid point computes 384 tokens. -/
module

public import proofs.«01_k».proof.Proof.Gen.Kernel14Ideal.Value
public import proofs.«01_k».proof.Proof.Rows
public import Idealize.ShloMosaic.Lib.Pipeline.ReadBack

@[expose] public section

set_option maxRecDepth 16384

noncomputable section

namespace Cert.Mixout

open Idealize.ShloMosaic Idealize.ShloMosaic.TcCoe Idealize.SL.Sem
open Cert.Kernel14Ideal Cert.Kernel14Ideal.Gen

/-- The product: what a token mixed times a column of the weight. -/
def product (A : FVec Ideal (⟨2, ![8448, 2048]⟩ : Shape) .bf16) (W : FVec Ideal (⟨2, ![2048, 2048]⟩ : Shape) .bf16) (i : Fin 8448) (n : Fin 2048) :
    EReal := ∑ k : Fin 2048, A (ix2 i k) * W (ix2 k n)

/-- The stream, to which the product is added through row 2 of the modulation, the part's gate. -/
def row (A : FVec Ideal (⟨2, ![8448, 2048]⟩ : Shape) .bf16) (W : FVec Ideal (⟨2, ![2048, 2048]⟩ : Shape) .bf16)
    (X : FVec Ideal (⟨2, ![8448, 2048]⟩ : Shape) .f32) (M : FVec Ideal (⟨3, ![2, 6, 2048]⟩ : Shape) .f32) (i : Fin 8448) (n : Fin 2048) : EReal :=
  X (ix2 i n) + Rows.pick M 2 i n * product A W i n

/-- A row's mean square, kept away from zero by the norm's small constant. -/
def level (r : Fin 2048 → EReal) : EReal :=
  Ideal.div (∑ k : Fin 2048, r k * r k) (Ideal.ofBits FTy.f32 0x45000000#32) + Ideal.ofBits FTy.f32 0x358637BD#32

/-- A row's element, normed, scaled by one more than `a` and shifted by `b`. -/
def norm (r : Fin 2048 → EReal) (a b : EReal) (n : Fin 2048) : EReal := r n * Ideal.rsqrt (level r) * (1 + a) + b

/-- The first result: the product, rounded. -/
def mixout (A : FVec Ideal (⟨2, ![8448, 2048]⟩ : Shape) .bf16) (W : FVec Ideal (⟨2, ![2048, 2048]⟩ : Shape) .bf16) :
    FVec Ideal (⟨2, ![8448, 2048]⟩ : Shape) .bf16 := fun x => product A W (x 0) (x 1)

/-- The second result: the stream. -/
def stream (A : FVec Ideal (⟨2, ![8448, 2048]⟩ : Shape) .bf16) (W : FVec Ideal (⟨2, ![2048, 2048]⟩ : Shape) .bf16)
    (X : FVec Ideal (⟨2, ![8448, 2048]⟩ : Shape) .f32) (M : FVec Ideal (⟨3, ![2, 6, 2048]⟩ : Shape) .f32) :
    FVec Ideal (⟨2, ![8448, 2048]⟩ : Shape) .f32 := fun x => row A W X M (x 0) (x 1)

/-- The third result: the stream's norm, scaled by row 4 of the modulation and shifted by row 3. -/
def normed (A : FVec Ideal (⟨2, ![8448, 2048]⟩ : Shape) .bf16) (W : FVec Ideal (⟨2, ![2048, 2048]⟩ : Shape) .bf16)
    (X : FVec Ideal (⟨2, ![8448, 2048]⟩ : Shape) .f32) (M : FVec Ideal (⟨3, ![2, 6, 2048]⟩ : Shape) .f32) :
    FVec Ideal (⟨2, ![8448, 2048]⟩ : Shape) .bf16 :=
  fun x => norm (row A W X M (x 0)) (Rows.pick M 4 (x 0) (x 1)) (Rows.pick M 3 (x 0) (x 1)) (x 1)

/-- The fourth result: the third one, transposed. -/
def turned (A : FVec Ideal (⟨2, ![8448, 2048]⟩ : Shape) .bf16) (W : FVec Ideal (⟨2, ![2048, 2048]⟩ : Shape) .bf16)
    (X : FVec Ideal (⟨2, ![8448, 2048]⟩ : Shape) .f32) (M : FVec Ideal (⟨3, ![2, 6, 2048]⟩ : Shape) .f32) :
    FVec Ideal (⟨2, ![2048, 8448]⟩ : Shape) .bf16 :=
  fun x => norm (row A W X M (x 1)) (Rows.pick M 4 (x 1) (x 0)) (Rows.pick M 3 (x 1) (x 0)) (x 0)

variable (m : (ℓ : Loc nD τ sig) → Buf (Elt Ideal) ℓ) (c : Dev nD)

/-- Which block of each array a grid point works on. -/
theorem idx : ∀ t : Fin cfg0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] ∧ win0_6.index t = ![t.val, 0] ∧ win0_7.index t = ![0, t.val] :=
  (by decide +kernel : ∀ t : Fin grid0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] ∧ win0_6.index t = ![t.val, 0] ∧ win0_7.index t = ![0, t.val])

/-- The grid's coordinate is the tile of tokens. -/
theorem coord : ∀ t : Fin cfg0.N, (grid0.coords t 0).val = t.val := (by decide +kernel : ∀ t : Fin grid0.N, (grid0.coords t 0).val = t.val)

/-- One element of a tile's product. -/
def cell (d : FVec Ideal S384x2048 .bf16) (w : FVec Ideal S2048x2048 .bf16) (i : Fin 384) (n : Fin 2048) : EReal :=
  ∑ k : Fin 2048, d (ix2 i k) * w (ix2 k n)

/-- The entry of a row of the modulation a token of tile `q` takes. -/
def pick (M : FVec Ideal S2x6x2048 .f32) (r : Fin 6) (q : ℕ) (i : Fin 384) (n : Fin 2048) : EReal :=
  if q * 384 + i.val < 256 then M (ix3 0 r n) else M (ix3 1 r n)

/-- A token's row of a tile of the stream. -/
def line (q : ℕ) (d : FVec Ideal S384x2048 .bf16) (w : FVec Ideal S2048x2048 .bf16) (x : FVec Ideal S384x2048 .f32) (M : FVec Ideal S2x6x2048 .f32)
    (i : Fin 384) (n : Fin 2048) : EReal := x (ix2 i n) + pick M 2 q i n * cell d w i n

/-- The first tile is the block's product, rounded. -/
theorem tile_at (d : FVec Ideal S384x2048 .bf16) (w : FVec Ideal S2048x2048 .bf16) (y : S384x2048.Idx) :
    (k0_pay6 (F := Ideal) d w y : EReal) = cell d w (y 0) (y 1) := by
  pointwise [k0_pay6, k0_pay4, cell]

/-- A mask's choice between two entries of the modulation, by the token's number. -/
theorem mask_at (i : grid0.Coords) (s : Fin 384) (a b : EReal) :
    Scalar.select (k0_pay5 i (ix2 s 0)) a b = if (i 0).val * 384 + s.val < 256 then a else b := by
  have hi : (i 0).val < 22 := (i 0).isLt
  have hs : s.val < 384 := s.isLt
  pointwise [k0_pay5]
  exact Rows.mask 384 (i 0).val s.val (by omega) a b

/-- The second tile adds it to the stream's tile through the gate. -/
theorem line_at (i : grid0.Coords) (d : FVec Ideal S384x2048 .bf16) (w : FVec Ideal S2048x2048 .bf16) (x : FVec Ideal S384x2048 .f32)
    (M : FVec Ideal S2x6x2048 .f32) (y : S384x2048.Idx) :
    (k0_pay7 (F := Ideal) i d w x (View.ld (Val := Elt Ideal) (S := S2x6x2048) (e' := .f32) M r0_2)
        (View.ld (Val := Elt Ideal) (S := S2x6x2048) (e' := .f32) M r0_3) y : EReal) = line (i 0).val d w x M (y 0) (y 1) := by
  have hi : (i 0).val < 22 := (i 0).isLt
  have hy : (y 0).val < 384 := (y 0).isLt
  pointwise [k0_pay7, k0_pay5, k0_pay4, cell, line, pick]
  rw [Rows.mask 384 (i 0).val (y 0).val (by omega)]

/-- The norm's divisor and its small constant, row by row. -/
theorem level_at (i : grid0.Coords) (d : FVec Ideal S384x2048 .bf16) (w : FVec Ideal S2048x2048 .bf16) (x : FVec Ideal S384x2048 .f32)
    (M : FVec Ideal S2x6x2048 .f32) (s : Fin 384) :
    (k0_pay8 (F := Ideal) i d w x (View.ld (Val := Elt Ideal) (S := S2x6x2048) (e' := .f32) M r0_2)
        (View.ld (Val := Elt Ideal) (S := S2x6x2048) (e' := .f32) M r0_3) (ix2 s 0) : EReal) = level (line (i 0).val d w x M s) := by
  pointwise [k0_pay8, level]
  refine Ideal.add_congr (congrArg (fun z => Ideal.div z _) (Finset.sum_congr rfl fun k _ => ?_)) rfl
  exact Ideal.mul_congr (line_at i d w x M (ix2 s k)) (line_at i d w x M (ix2 s k))

/-- The values the kernel keeps for its last two tiles, read whole. -/
theorem kept (i : grid0.Coords) (d : FVec Ideal S384x2048 .bf16) (w : FVec Ideal S2048x2048 .bf16) (x : FVec Ideal S384x2048 .f32)
    (M : FVec Ideal S2x6x2048 .f32) :
    k0_pay10 (F := Ideal) i d w x M = k0_pay7 (F := Ideal) i d w x (View.ld (Val := Elt Ideal) (S := S2x6x2048) (e' := .f32) M r0_2)
        (View.ld (Val := Elt Ideal) (S := S2x6x2048) (e' := .f32) M r0_3)
      ∧ k0_pay11 (F := Ideal) i d w x M = k0_pay8 (F := Ideal) i d w x (View.ld (Val := Elt Ideal) (S := S2x6x2048) (e' := .f32) M r0_2)
        (View.ld (Val := Elt Ideal) (S := S2x6x2048) (e' := .f32) M r0_3) := by
  have e0 : View.ld (Val := Elt Ideal) (S := S384x2048) (e' := .bf16) d r0_0 = d :=
    View.ld_unit_lit (Val := Elt Ideal) (S := S384x2048) (e := .bf16) _ d (by decide)
  have e1 : View.ld (Val := Elt Ideal) (S := S2048x2048) (e' := .bf16) w r0_1 = w :=
    View.ld_unit_lit (Val := Elt Ideal) (S := S2048x2048) (e := .bf16) _ w (by decide)
  have e2 : View.ld (Val := Elt Ideal) (S := S384x2048) (e' := .f32) x r0_0 = x :=
    View.ld_unit_lit (Val := Elt Ideal) (S := S384x2048) (e := .f32) _ x (by decide)
  constructor
  · unfold k0_pay10
    erw [e0, e1, e2]
  · unfold k0_pay11
    erw [e0, e1, e2]

/-- What the last two tiles are made of. -/
theorem core_at (i : grid0.Coords) (d : FVec Ideal S384x2048 .bf16) (w : FVec Ideal S2048x2048 .bf16) (x : FVec Ideal S384x2048 .f32)
    (M : FVec Ideal S2x6x2048 .f32) (y : S384x2048.Idx) :
    (k0_pay1 (F := Ideal) (k0_pay9 (F := Ideal) i d w x M) (k0_pay10 (F := Ideal) i d w x M) (k0_pay11 (F := Ideal) i d w x M)
        (View.ld (Val := Elt Ideal) (S := S2x6x2048) (e' := .f32) M r0_4) (View.ld (Val := Elt Ideal) (S := S2x6x2048) (e' := .f32) M r0_5)
        (View.ld (Val := Elt Ideal) (S := S2x6x2048) (e' := .f32) M r0_6) (View.ld (Val := Elt Ideal) (S := S2x6x2048) (e' := .f32) M r0_7) y : EReal)
      = norm (line (i 0).val d w x M (y 0)) (pick M 4 (i 0).val (y 0) (y 1)) (pick M 3 (i 0).val (y 0) (y 1)) (y 1) := by
  rw [(kept i d w x M).1, (kept i d w x M).2]
  unfold k0_pay9
  pointwise [k0_pay1, norm, pick]
  refine Ideal.add_congr (Ideal.mul_congr (Ideal.mul_congr ?_ ?_) (Ideal.add_congr rfl (mask_at i _ _ _))) (mask_at i _ _ _)
  · exact line_at i d w x M y
  · exact congrArg Ideal.rsqrt (level_at i d w x M (y 0))

/-- The third tile is that, rounded. -/
theorem normed_at (i : grid0.Coords) (d : FVec Ideal S384x2048 .bf16) (w : FVec Ideal S2048x2048 .bf16) (x : FVec Ideal S384x2048 .f32)
    (M : FVec Ideal S2x6x2048 .f32) (y : S384x2048.Idx) :
    (k0_pay2 (F := Ideal) (k0_pay9 (F := Ideal) i d w x M) (k0_pay10 (F := Ideal) i d w x M) (k0_pay11 (F := Ideal) i d w x M)
        (View.ld (Val := Elt Ideal) (S := S2x6x2048) (e' := .f32) M r0_4) (View.ld (Val := Elt Ideal) (S := S2x6x2048) (e' := .f32) M r0_5)
        (View.ld (Val := Elt Ideal) (S := S2x6x2048) (e' := .f32) M r0_6) (View.ld (Val := Elt Ideal) (S := S2x6x2048) (e' := .f32) M r0_7) y : EReal)
      = norm (line (i 0).val d w x M (y 0)) (pick M 4 (i 0).val (y 0) (y 1)) (pick M 3 (i 0).val (y 0) (y 1)) (y 1) := by
  refine Eq.trans ?_ (core_at i d w x M y)
  unfold k0_pay2
  rfl

/-- The fourth tile is the third, transposed. -/
theorem turned_at (i : grid0.Coords) (d : FVec Ideal S384x2048 .bf16) (w : FVec Ideal S2048x2048 .bf16) (x : FVec Ideal S384x2048 .f32)
    (M : FVec Ideal S2x6x2048 .f32) (y : S2048x384.Idx) :
    (k0_pay3 (F := Ideal) (k0_pay9 (F := Ideal) i d w x M) (k0_pay10 (F := Ideal) i d w x M) (k0_pay11 (F := Ideal) i d w x M)
        (View.ld (Val := Elt Ideal) (S := S2x6x2048) (e' := .f32) M r0_4) (View.ld (Val := Elt Ideal) (S := S2x6x2048) (e' := .f32) M r0_5)
        (View.ld (Val := Elt Ideal) (S := S2x6x2048) (e' := .f32) M r0_6) (View.ld (Val := Elt Ideal) (S := S2x6x2048) (e' := .f32) M r0_7) y : EReal)
      = norm (line (i 0).val d w x M (y 1)) (pick M 4 (i 0).val (y 1) (y 0)) (pick M 3 (i 0).val (y 1) (y 0)) (y 0) := by
  refine Eq.trans ?_ (core_at i d w x M (ix2 (y 1) (y 0)))
  pointwise [k0_pay3]

/-- Where an element of a tile sits in result 1. -/
theorem place (t : Fin cfg0.N) (y : ((cfg0.win 4).xblock (cfg0.grid.coords t)).Idx) (i : Fin 8448) (n : Fin 2048)
    (hi : i.val = t.val * 384 + (y 0).val) (hn : n.val = (y 1).val) (X : FVec Ideal S8448x2048 .bf16) :
    X (((View.whole main_v0_0).slice (win0_4.rect t)).emb y) = X (ix2 i n) := by
  obtain rfl : n = y 1 := Fin.ext hn
  blk_ext [idx t]

/-- Where an element of a tile sits in result 2. -/
theorem place' (t : Fin cfg0.N) (y : ((cfg0.win 5).xblock (cfg0.grid.coords t)).Idx) (i : Fin 8448) (n : Fin 2048)
    (hi : i.val = t.val * 384 + (y 0).val) (hn : n.val = (y 1).val) (X : FVec Ideal S8448x2048 .f32) :
    X (((View.whole main_v0_1).slice (win0_5.rect t)).emb y) = X (ix2 i n) := by
  obtain rfl : n = y 1 := Fin.ext hn
  blk_ext [idx t]

/-- Where an element of a tile sits in result 3. -/
theorem place'' (t : Fin cfg0.N) (y : ((cfg0.win 6).xblock (cfg0.grid.coords t)).Idx) (i : Fin 8448) (n : Fin 2048)
    (hi : i.val = t.val * 384 + (y 0).val) (hn : n.val = (y 1).val) (X : FVec Ideal S8448x2048 .bf16) :
    X (((View.whole main_v0_2).slice (win0_6.rect t)).emb y) = X (ix2 i n) := by
  obtain rfl : n = y 1 := Fin.ext hn
  blk_ext [idx t]

/-- Where an element of a tile sits in result 4. -/
theorem place_turned (t : Fin cfg0.N) (y : ((cfg0.win 7).xblock (cfg0.grid.coords t)).Idx) (i : Fin 8448) (n : Fin 2048)
    (hi : i.val = t.val * 384 + (y 1).val) (hn : n.val = (y 0).val) (X : FVec Ideal S2048x8448 .bf16) :
    X (((View.whole main_v0_3).slice (win0_7.rect t)).emb y) = X (ix2 n i) := by
  obtain rfl : n = y 0 := Fin.ext hn
  blk_ext [idx t]

/-- Which element of the mixed tokens a grid point's block holds. -/
theorem input (t : Fin cfg0.N) (i : Fin 384) (k : Fin 2048) (a : Fin 8448) (ha : a.val = t.val * 384 + i.val) :
    (show FVec Ideal S384x2048 .bf16 from iblk m c 0 t) (ix2 i k) = (m ((c : Thread nD τ).loc main_arg0)) (ix2 a k) := by
  blk_point [iblk, V, idx t]

/-- A grid point's block of the weight is the weight. -/
theorem weight (t : Fin cfg0.N) (k n : Fin 2048) :
    (show FVec Ideal S2048x2048 .bf16 from iblk m c 1 t) (ix2 k n) = (m ((c : Thread nD τ).loc main_arg1)) (ix2 k n) := by
  blk_point [iblk, V, idx t]

/-- Which element of the stream a grid point's block holds. -/
theorem residual (t : Fin cfg0.N) (i : Fin 384) (n : Fin 2048) (a : Fin 8448) (ha : a.val = t.val * 384 + i.val) :
    (show FVec Ideal S384x2048 .f32 from iblk m c 2 t) (ix2 i n) = (m ((c : Thread nD τ).loc main_arg2)) (ix2 a n) := by
  blk_point [iblk, V, idx t]

/-- A grid point's block of the modulation is the modulation. -/
theorem gate (t : Fin cfg0.N) (s : Fin 2) (r : Fin 6) (n : Fin 2048) :
    (show FVec Ideal S2x6x2048 .f32 from iblk m c 3 t) (ix3 s r n) = (m ((c : Thread nD τ).loc main_arg3)) (ix3 s r n) := by
  blk_point [iblk, V, idx t]

/-- The modulation's entry a token of a tile takes is the one its number picks. -/
theorem pick_at (t : Fin cfg0.N) (r : Fin 6) (i : Fin 384) (n : Fin 2048) (a : Fin 8448) (ha : a.val = t.val * 384 + i.val) :
    pick (iblk m c 3 t) r t.val i n = Rows.pick (m ((c : Thread nD τ).loc main_arg3)) r a n := by
  unfold Rows.pick pick
  rw [ha]
  exact if_congr Iff.rfl (gate m c t 0 r n) (gate m c t 1 r n)

/-- An element of a tile's product is the product's. -/
theorem product_at (t : Fin cfg0.N) (i : Fin 384) (n : Fin 2048) (a : Fin 8448) (ha : a.val = t.val * 384 + i.val) :
    cell (iblk m c 0 t) (iblk m c 1 t) i n = product (m ((c : Thread nD τ).loc main_arg0)) (m ((c : Thread nD τ).loc main_arg1)) a n :=
  Finset.sum_congr rfl fun k _ => Ideal.mul_congr (input m c t i k a ha) (weight m c t k n)

/-- A row of a tile of the stream is the stream's. -/
theorem row_at (t : Fin cfg0.N) (i : Fin 384) (a : Fin 8448) (ha : a.val = t.val * 384 + i.val) :
    line t.val (iblk m c 0 t) (iblk m c 1 t) (iblk m c 2 t) (iblk m c 3 t) i
      = row (m ((c : Thread nD τ).loc main_arg0)) (m ((c : Thread nD τ).loc main_arg1)) (m ((c : Thread nD τ).loc main_arg2))
        (m ((c : Thread nD τ).loc main_arg3)) a :=
  funext fun n => Ideal.add_congr (residual m c t i n a ha) (Ideal.mul_congr (pick_at m c t 2 i n a ha) (product_at m c t i n a ha))

/-- The norm of a row of a tile is the stream's. -/
theorem norm_at (t : Fin cfg0.N) (i : Fin 384) (n : Fin 2048) (a : Fin 8448) (ha : a.val = t.val * 384 + i.val) :
    norm (line t.val (iblk m c 0 t) (iblk m c 1 t) (iblk m c 2 t) (iblk m c 3 t) i) (pick (iblk m c 3 t) 4 t.val i n) (pick (iblk m c 3 t) 3 t.val i n) n
      = norm (row (m ((c : Thread nD τ).loc main_arg0)) (m ((c : Thread nD τ).loc main_arg1)) (m ((c : Thread nD τ).loc main_arg2))
          (m ((c : Thread nD τ).loc main_arg3)) a)
        (Rows.pick (m ((c : Thread nD τ).loc main_arg3)) 4 a n) (Rows.pick (m ((c : Thread nD τ).loc main_arg3)) 3 a n) n := by
  rw [row_at m c t i a ha, pick_at m c t 4 i n a ha, pick_at m c t 3 i n a ha]

/-- The first result is the product. -/
theorem kernel_mixout : (dats m 0 c).arrAt 4 cfg0.N
    = mixout (m ((c : Thread nD τ).loc main_arg0)) (m ((c : Thread nD τ).loc main_arg1)) := by
  refine (dats m 0 c).arrAt_eq_of_covers 4 _ (by decide +kernel) fun t hf y => ?_
  blk_simp
  rw [after0_4]
  frame_out
  have ht : t.val < 22 := Nat.lt_of_lt_of_eq t.isLt N_0
  have h0 : (y 0).val < 384 := (y 0).isLt
  have h1 : (y 1).val < 2048 := (y 1).isLt
  refine (tile_at _ _ y).trans (Eq.trans ?_ (place t y ⟨t.val * 384 + (y 0).val, by omega⟩ ⟨(y 1).val, h1⟩ rfl rfl _).symm)
  exact product_at m c t _ _ _ rfl

/-- The second result is the stream. -/
theorem kernel_stream : (dats m 0 c).arrAt 5 cfg0.N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  have ht : t.val < 22 := Nat.lt_of_lt_of_eq t.isLt N_0
  have h0 : (y 0).val < 384 := (y 0).isLt
  have h1 : (y 1).val < 2048 := (y 1).isLt
  refine (line_at _ _ _ _ _ y).trans (Eq.trans ?_ (place' t y ⟨t.val * 384 + (y 0).val, by omega⟩ ⟨(y 1).val, h1⟩ rfl rfl _).symm)
  rw [coord t]
  exact congrFun (row_at m c t _ _ rfl) _

/-- The third result is the stream's norm. -/
theorem kernel_normed : (dats m 0 c).arrAt 6 cfg0.N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  have ht : t.val < 22 := Nat.lt_of_lt_of_eq t.isLt N_0
  have h0 : (y 0).val < 384 := (y 0).isLt
  have h1 : (y 1).val < 2048 := (y 1).isLt
  refine (normed_at _ _ _ _ _ y).trans (Eq.trans ?_ (place'' t y ⟨t.val * 384 + (y 0).val, by omega⟩ ⟨(y 1).val, h1⟩ rfl rfl _).symm)
  rw [coord t]
  exact norm_at m c t _ _ _ rfl

/-- The fourth result is the stream's norm, transposed. -/
theorem kernel_turned : (dats m 0 c).arrAt 7 cfg0.N
    = turned (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  have ht : t.val < 22 := Nat.lt_of_lt_of_eq t.isLt N_0
  have h0 : (y 1).val < 384 := (y 1).isLt
  have h1 : (y 0).val < 2048 := (y 0).isLt
  refine (turned_at _ _ _ _ _ y).trans (Eq.trans ?_ (place_turned t y ⟨t.val * 384 + (y 1).val, by omega⟩ ⟨(y 0).val, h1⟩ rfl rfl _).symm)
  rw [coord t]
  exact norm_at m c t _ _ _ rfl

end Cert.Mixout

end
-- ==== Proof.Mixout.Reference.lean ====
/- The mixing part's output product, its gated residual and the norm of what follows: what the reference leaves in its four results. -/
module

public import proofs.«01_k».proof.Proof.Gen.Reference14Ideal.Read
public import proofs.«01_k».proof.Proof.Mixout.Kernel

@[expose] public section

set_option maxRecDepth 16384

noncomputable section

namespace Cert.Mixout.Ref

open Idealize.ShloMosaic Idealize.ShloMosaic.TcCoe Idealize.SL.Sem
open Cert.Reference14Ideal Cert.Reference14Ideal.Gen Cert.Reference14Ideal.Read

variable (A : FVec Ideal S8448x2048 .bf16) (W : FVec Ideal S2048x2048 .bf16) (X : FVec Ideal S8448x2048 .f32) (M : FVec Ideal S2x6x2048 .f32)

/-- The reference's product at an index. -/
theorem dot_at (i : Fin 8448) (n : Fin 2048) : (val_main_v2 (F := Ideal) A W (ix2 i n) : EReal) = product A W i n := by
  refine (val_main_v2_apply A W _).trans (Finset.sum_congr rfl fun s _ => Ideal.mul_congr ?_ ?_)
  · pointwise [val_main_v0]
    exact congrArg A (funext fun a => match a with
      | ⟨0, _⟩ => rfl
      | ⟨1, _⟩ => rfl)
  · pointwise [val_main_v1]
    exact congrArg W (funext fun a => match a with
      | ⟨0, _⟩ => rfl
      | ⟨1, _⟩ => rfl)

/-- The stream at an index: the context's tokens and the latents' take their own gates. -/
theorem row_at (i : Fin 8448) (n : Fin 2048) : (val_main_v19 (F := Ideal) A W X M (ix2 i n) : EReal) = row A W X M i n := by
  unfold row
  rw [← dot_at A W i n]
  obtain ⟨i, hi⟩ := i
  unfold Rows.pick
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3]
  by_cases h : i < 256
  · rw [dif_pos h, if_pos h]
  · have e : 256 + (i - 256) = i := by omega
    rw [dif_neg h, if_neg h]
    simp only [e]

/-- The stream's norm before its scale and shift. -/
theorem scaled_at (i : Fin 8448) (n : Fin 2048) :
    (val_main_v29 (F := Ideal) A W X M (ix2 i n) : EReal) = row A W X M i n * Ideal.rsqrt (level (row A W X M i)) := by
  pointwise [val_main_v29, val_main_v28, val_main_v27, val_main_v26, val_main_v25, val_main_v24, val_main_v23, val_main_v22, val_main_v21, val_main_v20]
  refine Ideal.mul_congr (row_at A W X M i n) (congrArg Ideal.rsqrt ?_)
  refine Ideal.add_congr (congr (congrArg Ideal.div ?_) ?_) ?_
  · refine Eq.trans ?_ (zero_add _)
    refine Ideal.add_congr ?_ (Finset.sum_congr rfl fun k _ => Ideal.mul_congr (row_at A W X M i k) (row_at A W X M i k))
    pointwise [val_main_cst]
  · unfold val_main_cst_0
    rfl
  · unfold val_main_cst_1
    rfl

/-- The norm at an index, scaled and shifted. -/
theorem norm_at (i : Fin 8448) (n : Fin 2048) :
    (val_main_v56 (F := Ideal) A W X M (ix2 i n) : EReal) = norm (row A W X M i) (Rows.pick M 4 i n) (Rows.pick M 3 i n) n := by
  unfold norm
  rw [← scaled_at A W X M i n]
  obtain ⟨i, hi⟩ := i
  unfold Rows.pick
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_2, val_main_cst_3]
  by_cases h : i < 256
  · simp only [dif_pos h, if_pos h]
  · have e : 256 + (i - 256) = i := by omega
    simp only [dif_neg h, if_neg h, e]

/-- The first result is the product, rounded. -/
theorem ref_mixout : val_main_v57 (F := Ideal) A W = mixout A W := by
  funext x
  refine Eq.trans ?_ (dot_at A W (x 0) (x 1))
  pointwise [val_main_v57]

/-- The second result is the stream. -/
theorem ref_stream : val_main_v19 (F := Ideal) A W X M = stream A W X M := by
  funext x
  refine Eq.trans (congrArg (val_main_v19 (F := Ideal) A W X M) ?_) (row_at A W X M (x 0) (x 1))
  exact funext fun a => match a with
    | ⟨0, _⟩ => rfl
    | ⟨1, _⟩ => rfl

/-- The third result is the stream's norm. -/
theorem ref_normed : val_main_v58 (F := Ideal) A W X M = normed A W X M := by
  funext x
  refine Eq.trans ?_ (norm_at A W X M (x 0) (x 1))
  pointwise [val_main_v58]

/-- The fourth result is the third, transposed. -/
theorem ref_turned : val_main_v60 (F := Ideal) A W X M = turned A W X M := by
  funext x
  refine Eq.trans ?_ (norm_at A W X M (x 1) (x 0))
  pointwise [val_main_v60, val_main_v59]

end Cert.Mixout.Ref

end
-- ==== Proof.Mixout.Claims.lean ====
/- The claims about the mixing part's output product, its gated residual and the norm that follows. -/
module

public import proofs.«01_k».proof.Defs
public import proofs.«01_k».proof.Proof.Gen.Kernel14.Frame
public import proofs.«01_k».proof.Proof.Mixout.Kernel
public import proofs.«01_k».proof.Proof.Mixout.Reference

@[expose] public section

set_option maxRecDepth 16384

noncomputable section

namespace Cert.Mixout

open Idealize.ShloMosaic Idealize.SL.Sem

/-- The kernel, rounding as the device does, runs to its end and leaves its arguments as they were. -/
theorem frame_kernel : Cert.quiescent_Kernel14 (hKernel14 := Cert.Kernel14.Gen.facts) := fun m ρ _ => Cert.Kernel14.Gen.frame m ρ

/-- The same of the kernel over exact numbers. -/
theorem frame_ideal : Cert.quiescent_Kernel14Ideal (hKernel14Ideal := Cert.Kernel14Ideal.Gen.facts) :=
  fun m ρ _ => Cert.Kernel14Ideal.Gen.frame m ρ

/-- The same of the reference, which is host code and holds no semaphore. -/
theorem frame_reference : Cert.quiescent_Reference14Ideal (hReference14Ideal := Cert.Reference14Ideal.Gen.facts) := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- Over exact numbers the kernel's four results are the reference's: all are `mixout`, `stream`, `normed` and `turned` of the arguments. -/
theorem algebraic : Cert.algebraic_Kernel14Ideal_Reference14Ideal (hKernel14Ideal := Cert.Kernel14Ideal.Gen.facts)
    (hReference14Ideal := Cert.Reference14Ideal.Gen.facts) := by
  intro m g m' g' _ hargs
  refine ⟨fun c => (Cert.Kernel14Ideal.Gen.dats m 0 c).arrAt 4 Cert.Kernel14Ideal.cfg0.N,
    fun c => (Cert.Kernel14Ideal.Gen.dats m 0 c).arrAt 5 Cert.Kernel14Ideal.cfg0.N,
    fun c => (Cert.Kernel14Ideal.Gen.dats m 0 c).arrAt 6 Cert.Kernel14Ideal.cfg0.N,
    fun c => (Cert.Kernel14Ideal.Gen.dats m 0 c).arrAt 7 Cert.Kernel14Ideal.cfg0.N, Cert.Kernel14Ideal.Value.run_blocks m g, ?_⟩
  refine (θ_run Cert.Reference14Ideal.defs _ _).mono (fun r h c => ?_) (Cert.Reference14Ideal.Value.run (F := Ideal) m' g')
  obtain ⟨h0, h1, h2, h3, hk⟩ := h c
  obtain ⟨a0, a1, a2, a3⟩ := hargs c
  refine ⟨?_, ?_, ?_, ?_, hk⟩
  · refine h0.trans ((Cert.Reference14Ideal.Read.val_main_v57_eq _ _).trans ?_)
    refine (Ref.ref_mixout _ _).trans (Eq.trans ?_ (kernel_mixout m c).symm)
    exact congr (congrArg mixout a0) a1
  · refine h1.trans ((Cert.Reference14Ideal.Read.val_main_v19_eq _ _ _ _).trans ?_)
    refine (Ref.ref_stream _ _ _ _).trans (Eq.trans ?_ (kernel_stream m c).symm)
    exact congr (congr (congr (congrArg stream a0) a1) a2) a3
  · refine h2.trans ((Cert.Reference14Ideal.Read.val_main_v58_eq _ _).trans ?_)
    refine (Ref.ref_normed _ _ _ _).trans (Eq.trans ?_ (kernel_normed m c).symm)
    exact congr (congr (congr (congrArg normed a0) a1) a2) a3
  · refine h3.trans ((Cert.Reference14Ideal.Read.val_main_v60_eq _ _).trans ?_)
    refine (Ref.ref_turned _ _ _ _).trans (Eq.trans ?_ (kernel_turned m c).symm)
    exact congr (congr (congr (congrArg turned a0) a1) a2) a3

end Cert.Mixout

end
-- ==== Proof.DownDgrad.Run.lean ====
/- The gradient of the input of the feed-forward part's output product: how the kernel's body runs at a grid point. The grid walks the 8448 tokens in
   eleven tiles of 768, and for every tile the 5632 rows of the weight in 4 parts of 1408. The first part of a tile makes the
   gradient of the product and adds the tile's share of the gates' gradients; the later parts read the gradient of the product back. -/
module

public import proofs.«01_k».proof.Proof.Gen.Kernel15Ideal.Frame
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.DownDgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel15Ideal Cert.Kernel15Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's very first point. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The points that begin a tile of tokens. -/
theorem begin_iff : ∀ t : Fin cfg0.N, k0_cond2 (grid0.coords t) = 1#1 ↔ t.val % 4 = 0 :=
  (by decide +kernel : ∀ t : Fin grid0.N, k0_cond2 (grid0.coords t) = 1#1 ↔ t.val % 4 = 0)

/-- The gradient of the product is stored at the points that begin a tile only. -/
theorem idle5 : ∀ t : Fin cfg0.N, cfg0.idle 5 (grid0.coords t) = decide (t.val % 4 ≠ 0) :=
  (by decide +kernel : ∀ t : Fin grid0.N, idle0 5 (grid0.coords t) = decide (t.val % 4 ≠ 0))

/-- So are the gates' gradients. -/
theorem idle6 : ∀ t : Fin cfg0.N, cfg0.idle 6 (grid0.coords t) = decide (t.val % 4 ≠ 0) :=
  (by decide +kernel : ∀ t : Fin grid0.N, idle0 6 (grid0.coords t) = decide (t.val % 4 ≠ 0))

/-- The buffer of the gradient of the product holds nothing at the beginning of a tile. -/
theorem fresh5 : ∀ t : Fin cfg0.N, cfg0.fresh 5 t.val = decide (t.val % 4 = 0) :=
  (by decide +kernel : ∀ t : Fin grid0.N, cfg0.fresh 5 t.val = decide (t.val % 4 = 0))

/-- The buffer of the gates' gradients holds nothing at the first point only. -/
theorem fresh6 : ∀ t : Fin cfg0.N, cfg0.fresh 6 t.val = decide (t.val = 0) :=
  (by decide +kernel : ∀ t : Fin grid0.N, cfg0.fresh 6 t.val = decide (t.val = 0))

/-- One buffer of each result, through which its contents are stated. -/
abbrev V4 : View sig .tc .vmem S768x1408 .bf16 := (Memref.whole cc0_stg4_0 : Memref sig .tc .vmem S768x1408 .bf16).view
abbrev V5 : View sig .tc .vmem S768x2048 .bf16 := (Memref.whole cc0_stg5_0 : Memref sig .tc .vmem S768x2048 .bf16).view
abbrev V6 : View sig .tc .vmem S8x2048 .f32 := (Memref.whole cc0_stg6_0 : Memref sig .tc .vmem S8x2048 .f32).view

/-- The buffer of each array at a point. -/
abbrev s0 (t : Fin cfg0.N) : Memref sig .tc .vmem S768x2048 .f32 := win0_0.stage (cfg0.slots t 0)
abbrev s1 (t : Fin cfg0.N) : Memref sig .tc .vmem S768x2048 .bf16 := win0_1.stage (cfg0.slots t 1)
abbrev s2 (t : Fin cfg0.N) : Memref sig .tc .vmem S2x6x2048 .f32 := win0_2.stage (cfg0.slots t 2)
abbrev s3 (t : Fin cfg0.N) : Memref sig .tc .vmem S1408x2048 .bf16 := win0_3.stage (cfg0.slots t 3)
abbrev s4 (t : Fin cfg0.N) : Memref sig .tc .vmem S768x1408 .bf16 := win0_4.stage (cfg0.slots t 4)
abbrev s5 (t : Fin cfg0.N) : Memref sig .tc .vmem S768x2048 .bf16 := win0_5.stage (cfg0.slots t 5)
abbrev s6 (t : Fin cfg0.N) : Memref sig .tc .vmem S8x2048 .f32 := win0_6.stage (cfg0.slots t 6)

/-- Each is a whole buffer. -/
abbrev w0 (t : Fin cfg0.N) : (s0 t).IsWhole := hstage0_0 ((cfg0.slots t 0).cast nbuf0_0)
abbrev w1 (t : Fin cfg0.N) : (s1 t).IsWhole := hstage0_1 ((cfg0.slots t 1).cast nbuf0_1)
abbrev w2 (t : Fin cfg0.N) : (s2 t).IsWhole := hstage0_2 ((cfg0.slots t 2).cast nbuf0_2)
abbrev w3 (t : Fin cfg0.N) : (s3 t).IsWhole := hstage0_3 ((cfg0.slots t 3).cast nbuf0_3)
abbrev w4 (t : Fin cfg0.N) : (s4 t).IsWhole := hstage0_4 ((cfg0.slots t 4).cast nbuf0_4)
abbrev w5 (t : Fin cfg0.N) : (s5 t).IsWhole := hstage0_5 ((cfg0.slots t 5).cast nbuf0_5)
abbrev w6 (t : Fin cfg0.N) : (s6 t).IsWhole := hstage0_6 ((cfg0.slots t 6).cast nbuf0_6)

/-- The kernel's body at a point. -/
abbrev bodyAt (t : Fin cfg0.N) : Prog (TpuEff nD τ sig (Elt F) Λ₀ .tc) PUnit :=
  cc0_down_dgrad1 (grid0.coords t) (s0 t) (w0 t) (s1 t) (w1 t) (s2 t) (w2 t) (s3 t) (w3 t) (s4 t) (w4 t) (s5 t) (w5 t) (s6 t) (w6 t)

section
variable (c : Dev nD) (i : grid0.Coords)
  (a0 : Memref sig .tc .vmem S768x2048 .f32) (h0 : a0.IsWhole) (a1 : Memref sig .tc .vmem S768x2048 .bf16) (h1 : a1.IsWhole)
  (a2 : Memref sig .tc .vmem S2x6x2048 .f32) (h2 : a2.IsWhole) (a3 : Memref sig .tc .vmem S1408x2048 .bf16) (h3 : a3.IsWhole)
  (a4 : Memref sig .tc .vmem S768x1408 .bf16) (h4 : a4.IsWhole) (a5 : Memref sig .tc .vmem S768x2048 .bf16) (h5 : a5.IsWhole)
  (a6 : Memref sig .tc .vmem S8x2048 .f32) (h6 : a6.IsWhole)
  (x0 : Vec F S768x2048 .f32) (x1 : Vec F S768x2048 .bf16) (x2 : Vec F S2x6x2048 .f32) (x3 : Vec F S1408x2048 .bf16)

set_option maxHeartbeats 1000000 in
/-- The first point: whatever the results' buffers hold, the body runs, keeps its arguments and stores into all three results. The
    pieces it stores are found by running it. -/
def runA (hc0 : k0_cond1 i = 1#1) (hc1 : k0_cond2 i = 1#1) :
    Σ' (L4 : List (View.Piece (Elt F) S768x1408 .bf16)) (L5 : List (View.Piece (Elt F) S768x2048 .bf16)), { L6 : List (View.Piece (Elt F) S8x2048 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ (∃ d, owns (c : Thread nD τ) a4 fullShare d) ∗ (∃ d, owns (c : Thread nD τ) a5 fullShare d)
            ∗ (∃ d, owns (c : Thread nD τ) a6 fullShare d)
            ∗ (iprop(owns (c : Thread nD τ) a0 fullShare x0 ∗ owns (c : Thread nD τ) a1 fullShare x1 ∗ owns (c : Thread nD τ) a2 fullShare x2
              ∗ owns (c : Thread nD τ) a3 fullShare x3
              ∗ (∃ f, a4.view.loc (c : Thread nD τ) ↦[a4.view.set]{fullShare} a4.view.writes (Elt F) f L4)
              ∗ (∃ f, a5.view.loc (c : Thread nD τ) ↦[a5.view.set]{fullShare} a5.view.writes (Elt F) f L5)
              ∗ (∃ f, a6.view.loc (c : Thread nD τ) ↦[a6.view.set]{fullShare} a6.view.writes (Elt F) f L6)) -∗ K ⟨⟩))
          ⊢ wp frame (wpE (defs₀ (F := F)) Variants.none c none) E (cc0_down_dgrad1 i a0 h0 a1 h1 a2 h2 a3 h3 a4 h4 a5 h5 a6 h6) K } := by
  refine ⟨?_, ?_, ?_, fun E K => ?run⟩
  case run =>
    unfold cc0_down_dgrad1
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := h0.eq_unread hf0; obtain rfl := h1.eq_unread hf1; obtain rfl := h2.eq_unread hf2; obtain rfl := h3.eq_unread hf3
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexact H6

set_option maxHeartbeats 1000000 in
/-- The first part of a later tile: the same, over what the gates' gradients were. -/
def runB (hc0 : ¬k0_cond1 i = 1#1) (hc1 : k0_cond2 i = 1#1) (x6 : Vec F S8x2048 .f32) :
    Σ' (L4 : List (View.Piece (Elt F) S768x1408 .bf16)) (L5 : List (View.Piece (Elt F) S768x2048 .bf16)), { L6 : List (View.Piece (Elt F) S8x2048 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ (∃ d, owns (c : Thread nD τ) a4 fullShare d) ∗ (∃ d, owns (c : Thread nD τ) a5 fullShare d)
            ∗ owns (c : Thread nD τ) a6 fullShare x6
            ∗ (iprop(owns (c : Thread nD τ) a0 fullShare x0 ∗ owns (c : Thread nD τ) a1 fullShare x1 ∗ owns (c : Thread nD τ) a2 fullShare x2
              ∗ owns (c : Thread nD τ) a3 fullShare x3
              ∗ (∃ f, a4.view.loc (c : Thread nD τ) ↦[a4.view.set]{fullShare} a4.view.writes (Elt F) f L4)
              ∗ (∃ f, a5.view.loc (c : Thread nD τ) ↦[a5.view.set]{fullShare} a5.view.writes (Elt F) f L5)
              ∗ (∃ f, a6.view.loc (c : Thread nD τ) ↦[a6.view.set]{fullShare} a6.view.writes (Elt F) f L6)) -∗ K ⟨⟩))
          ⊢ wp frame (wpE (defs₀ (F := F)) Variants.none c none) E (cc0_down_dgrad1 i a0 h0 a1 h1 a2 h2 a3 h3 a4 h4 a5 h5 a6 h6) K } := by
  refine ⟨?_, ?_, ?_, fun E K => ?run⟩
  case run =>
    unfold cc0_down_dgrad1
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := h0.eq_unread hf0; obtain rfl := h1.eq_unread hf1; obtain rfl := h2.eq_unread hf2; obtain rfl := h3.eq_unread hf3
    obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexact H6

set_option maxHeartbeats 1000000 in
/-- A later part of a tile: the body reads the gradient of the product, stores into the first result and leaves the others. -/
def runC (hc0 : ¬k0_cond1 i = 1#1) (hc1 : ¬k0_cond2 i = 1#1) (x5 : Vec F S768x2048 .bf16) :
    { L4 : List (View.Piece (Elt F) S768x1408 .bf16) //
      ∀ (x6 : Vec F S8x2048 .f32) (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ (∃ d, owns (c : Thread nD τ) a4 fullShare d) ∗ owns (c : Thread nD τ) a5 fullShare x5
            ∗ owns (c : Thread nD τ) a6 fullShare x6
            ∗ (iprop(owns (c : Thread nD τ) a0 fullShare x0 ∗ owns (c : Thread nD τ) a1 fullShare x1 ∗ owns (c : Thread nD τ) a2 fullShare x2
              ∗ owns (c : Thread nD τ) a3 fullShare x3
              ∗ (∃ f, a4.view.loc (c : Thread nD τ) ↦[a4.view.set]{fullShare} a4.view.writes (Elt F) f L4)
              ∗ owns (c : Thread nD τ) a5 fullShare x5 ∗ owns (c : Thread nD τ) a6 fullShare x6) -∗ K ⟨⟩))
          ⊢ wp frame (wpE (defs₀ (F := F)) Variants.none c none) E (cc0_down_dgrad1 i a0 h0 a1 h1 a2 h2 a3 h3 a4 h4 a5 h5 a6 h6) K } := by
  refine ⟨?_, fun x6 E K => ?run⟩
  case run =>
    unfold cc0_down_dgrad1
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := h0.eq_unread hf0; obtain rfl := h1.eq_unread hf1; obtain rfl := h2.eq_unread hf2; obtain rfl := h3.eq_unread hf3
    obtain rfl := h5.eq_unread hf5; obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]
    · iexists _; isplitr; · ipureintro; exact h5.read_unread _
      iexact H5
    iexists _; isplitr; · ipureintro; exact h6.read_unread _
    iexact H6

/-! What each case leaves in the results' buffers: the pieces cover the buffer, so they are its contents. -/

theorem coverA4 (hc0 : k0_cond1 i = 1#1) (hc1 : k0_cond2 i = 1#1) (y : S768x1408.Idx) : ∃ pc ∈ (runA c i a0 h0 a1 h1 a2 h2 a3 h3 a4 h4 a5 h5 a6 h6 x0 x1 x2 x3 hc0 hc1).1, y ∈ pc.1.set :=
  View.cover_of_tiledL (runA c i a0 h0 a1 h1 a2 h2 a3 h3 a4 h4 a5 h5 a6 h6 x0 x1 x2 x3 hc0 hc1).1 S768x1408.size (by sl_kernel_rfl) y

/-- What the first point leaves in the first result's buffer. -/
def outA4 (hc0 : k0_cond1 i = 1#1) (hc1 : k0_cond2 i = 1#1) : Vec F S768x1408 .bf16 :=
  V4.read (Elt F) (V4.writes (Elt F) V4.junk (runA c i a0 h0 a1 h1 a2 h2 a3 h3 a4 h4 a5 h5 a6 h6 x0 x1 x2 x3 hc0 hc1).1)

theorem coverA5 (hc0 : k0_cond1 i = 1#1) (hc1 : k0_cond2 i = 1#1) (y : S768x2048.Idx) : ∃ pc ∈ (runA c i a0 h0 a1 h1 a2 h2 a3 h3 a4 h4 a5 h5 a6 h6 x0 x1 x2 x3 hc0 hc1).2.1, y ∈ pc.1.set :=
  View.cover_of_tiledL (runA c i a0 h0 a1 h1 a2 h2 a3 h3 a4 h4 a5 h5 a6 h6 x0 x1 x2 x3 hc0 hc1).2.1 S768x2048.size (by sl_kernel_rfl) y

/-- What the first point leaves in the gradient of the product's buffer. -/
def outA5 (hc0 : k0_cond1 i = 1#1) (hc1 : k0_cond2 i = 1#1) : Vec F S768x2048 .bf16 :=
  V5.read (Elt F) (V5.writes (Elt F) V5.junk (runA c i a0 h0 a1 h1 a2 h2 a3 h3 a4 h4 a5 h5 a6 h6 x0 x1 x2 x3 hc0 hc1).2.1)

theorem coverA6 (hc0 : k0_cond1 i = 1#1) (hc1 : k0_cond2 i = 1#1) (y : S8x2048.Idx) : ∃ pc ∈ (runA c i a0 h0 a1 h1 a2 h2 a3 h3 a4 h4 a5 h5 a6 h6 x0 x1 x2 x3 hc0 hc1).2.2.1, y ∈ pc.1.set :=
  View.cover_of_tiledL (runA c i a0 h0 a1 h1 a2 h2 a3 h3 a4 h4 a5 h5 a6 h6 x0 x1 x2 x3 hc0 hc1).2.2.1 S8x2048.size (by sl_kernel_rfl) y

/-- What the first point leaves in the gates' gradients's buffer. -/
def outA6 (hc0 : k0_cond1 i = 1#1) (hc1 : k0_cond2 i = 1#1) : Vec F S8x2048 .f32 :=
  V6.read (Elt F) (V6.writes (Elt F) V6.junk (runA c i a0 h0 a1 h1 a2 h2 a3 h3 a4 h4 a5 h5 a6 h6 x0 x1 x2 x3 hc0 hc1).2.2.1)

theorem coverB4 (hc0 : ¬k0_cond1 i = 1#1) (hc1 : k0_cond2 i = 1#1) (x6 : Vec F S8x2048 .f32) (y : S768x1408.Idx) : ∃ pc ∈ (runB c i a0 h0 a1 h1 a2 h2 a3 h3 a4 h4 a5 h5 a6 h6 x0 x1 x2 x3 hc0 hc1 x6).1, y ∈ pc.1.set :=
  View.cover_of_tiledL (runB c i a0 h0 a1 h1 a2 h2 a3 h3 a4 h4 a5 h5 a6 h6 x0 x1 x2 x3 hc0 hc1 x6).1 S768x1408.size (by sl_kernel_rfl) y

/-- What the first part of a later tile leaves in the first result's buffer. -/
def outB4 (hc0 : ¬k0_cond1 i = 1#1) (hc1 : k0_cond2 i = 1#1) (x6 : Vec F S8x2048 .f32) : Vec F S768x1408 .bf16 :=
  V4.read (Elt F) (V4.writes (Elt F) V4.junk (runB c i a0 h0 a1 h1 a2 h2 a3 h3 a4 h4 a5 h5 a6 h6 x0 x1 x2 x3 hc0 hc1 x6).1)

theorem coverB5 (hc0 : ¬k0_cond1 i = 1#1) (hc1 : k0_cond2 i = 1#1) (x6 : Vec F S8x2048 .f32) (y : S768x2048.Idx) : ∃ pc ∈ (runB c i a0 h0 a1 h1 a2 h2 a3 h3 a4 h4 a5 h5 a6 h6 x0 x1 x2 x3 hc0 hc1 x6).2.1, y ∈ pc.1.set :=
  View.cover_of_tiledL (runB c i a0 h0 a1 h1 a2 h2 a3 h3 a4 h4 a5 h5 a6 h6 x0 x1 x2 x3 hc0 hc1 x6).2.1 S768x2048.size (by sl_kernel_rfl) y

/-- What the first part of a later tile leaves in the gradient of the product's buffer. -/
def outB5 (hc0 : ¬k0_cond1 i = 1#1) (hc1 : k0_cond2 i = 1#1) (x6 : Vec F S8x2048 .f32) : Vec F S768x2048 .bf16 :=
  V5.read (Elt F) (V5.writes (Elt F) V5.junk (runB c i a0 h0 a1 h1 a2 h2 a3 h3 a4 h4 a5 h5 a6 h6 x0 x1 x2 x3 hc0 hc1 x6).2.1)

theorem coverB6 (hc0 : ¬k0_cond1 i = 1#1) (hc1 : k0_cond2 i = 1#1) (x6 : Vec F S8x2048 .f32) (y : S8x2048.Idx) : ∃ pc ∈ (runB c i a0 h0 a1 h1 a2 h2 a3 h3 a4 h4 a5 h5 a6 h6 x0 x1 x2 x3 hc0 hc1 x6).2.2.1, y ∈ pc.1.set :=
  View.cover_of_tiledL (runB c i a0 h0 a1 h1 a2 h2 a3 h3 a4 h4 a5 h5 a6 h6 x0 x1 x2 x3 hc0 hc1 x6).2.2.1 S8x2048.size (by sl_kernel_rfl) y

/-- What the first part of a later tile leaves in the gates' gradients's buffer. -/
def outB6 (hc0 : ¬k0_cond1 i = 1#1) (hc1 : k0_cond2 i = 1#1) (x6 : Vec F S8x2048 .f32) : Vec F S8x2048 .f32 :=
  V6.read (Elt F) (V6.writes (Elt F) V6.junk (runB c i a0 h0 a1 h1 a2 h2 a3 h3 a4 h4 a5 h5 a6 h6 x0 x1 x2 x3 hc0 hc1 x6).2.2.1)

theorem coverC4 (hc0 : ¬k0_cond1 i = 1#1) (hc1 : ¬k0_cond2 i = 1#1) (x5 : Vec F S768x2048 .bf16) (y : S768x1408.Idx) : ∃ pc ∈ (runC c i a0 h0 a1 h1 a2 h2 a3 h3 a4 h4 a5 h5 a6 h6 x0 x1 x2 x3 hc0 hc1 x5).1, y ∈ pc.1.set :=
  View.cover_of_tiledL (runC c i a0 h0 a1 h1 a2 h2 a3 h3 a4 h4 a5 h5 a6 h6 x0 x1 x2 x3 hc0 hc1 x5).1 S768x1408.size (by sl_kernel_rfl) y

/-- What a later part of a tile leaves in the first result's buffer. -/
def outC4 (hc0 : ¬k0_cond1 i = 1#1) (hc1 : ¬k0_cond2 i = 1#1) (x5 : Vec F S768x2048 .bf16) : Vec F S768x1408 .bf16 :=
  V4.read (Elt F) (V4.writes (Elt F) V4.junk (runC c i a0 h0 a1 h1 a2 h2 a3 h3 a4 h4 a5 h5 a6 h6 x0 x1 x2 x3 hc0 hc1 x5).1)

end

/-- The results' buffers after each point, in order. -/
def outsAt (c : Dev nD) : (n : ℕ) → n < cfg0.N → Vec F S768x1408 .bf16 × Vec F S768x2048 .bf16 × Vec F S8x2048 .f32
  | 0, hn => ⟨outA4 c (grid0.coords (⟨0, hn⟩ : Fin cfg0.N)) (s0 (⟨0, hn⟩ : Fin cfg0.N)) (w0 (⟨0, hn⟩ : Fin cfg0.N)) (s1 (⟨0, hn⟩ : Fin cfg0.N)) (w1 (⟨0, hn⟩ : Fin cfg0.N)) (s2 (⟨0, hn⟩ : Fin cfg0.N)) (w2 (⟨0, hn⟩ : Fin cfg0.N)) (s3 (⟨0, hn⟩ : Fin cfg0.N)) (w3 (⟨0, hn⟩ : Fin cfg0.N)) (s4 (⟨0, hn⟩ : Fin cfg0.N)) (w4 (⟨0, hn⟩ : Fin cfg0.N)) (s5 (⟨0, hn⟩ : Fin cfg0.N)) (w5 (⟨0, hn⟩ : Fin cfg0.N)) (s6 (⟨0, hn⟩ : Fin cfg0.N)) (w6 (⟨0, hn⟩ : Fin cfg0.N)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) ((first_iff (⟨0, hn⟩ : Fin cfg0.N)).mpr rfl) ((begin_iff (⟨0, hn⟩ : Fin cfg0.N)).mpr (Nat.zero_mod _)), outA5 c (grid0.coords (⟨0, hn⟩ : Fin cfg0.N)) (s0 (⟨0, hn⟩ : Fin cfg0.N)) (w0 (⟨0, hn⟩ : Fin cfg0.N)) (s1 (⟨0, hn⟩ : Fin cfg0.N)) (w1 (⟨0, hn⟩ : Fin cfg0.N)) (s2 (⟨0, hn⟩ : Fin cfg0.N)) (w2 (⟨0, hn⟩ : Fin cfg0.N)) (s3 (⟨0, hn⟩ : Fin cfg0.N)) (w3 (⟨0, hn⟩ : Fin cfg0.N)) (s4 (⟨0, hn⟩ : Fin cfg0.N)) (w4 (⟨0, hn⟩ : Fin cfg0.N)) (s5 (⟨0, hn⟩ : Fin cfg0.N)) (w5 (⟨0, hn⟩ : Fin cfg0.N)) (s6 (⟨0, hn⟩ : Fin cfg0.N)) (w6 (⟨0, hn⟩ : Fin cfg0.N)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) ((first_iff (⟨0, hn⟩ : Fin cfg0.N)).mpr rfl) ((begin_iff (⟨0, hn⟩ : Fin cfg0.N)).mpr (Nat.zero_mod _)), outA6 c (grid0.coords (⟨0, hn⟩ : Fin cfg0.N)) (s0 (⟨0, hn⟩ : Fin cfg0.N)) (w0 (⟨0, hn⟩ : Fin cfg0.N)) (s1 (⟨0, hn⟩ : Fin cfg0.N)) (w1 (⟨0, hn⟩ : Fin cfg0.N)) (s2 (⟨0, hn⟩ : Fin cfg0.N)) (w2 (⟨0, hn⟩ : Fin cfg0.N)) (s3 (⟨0, hn⟩ : Fin cfg0.N)) (w3 (⟨0, hn⟩ : Fin cfg0.N)) (s4 (⟨0, hn⟩ : Fin cfg0.N)) (w4 (⟨0, hn⟩ : Fin cfg0.N)) (s5 (⟨0, hn⟩ : Fin cfg0.N)) (w5 (⟨0, hn⟩ : Fin cfg0.N)) (s6 (⟨0, hn⟩ : Fin cfg0.N)) (w6 (⟨0, hn⟩ : Fin cfg0.N)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) ((first_iff (⟨0, hn⟩ : Fin cfg0.N)).mpr rfl) ((begin_iff (⟨0, hn⟩ : Fin cfg0.N)).mpr (Nat.zero_mod _))⟩
  | n + 1, hn =>
    if h : (n + 1) % 4 = 0 then
      ⟨outB4 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) ((begin_iff (⟨n + 1, hn⟩ : Fin cfg0.N)).mpr h) (outsAt c n (Nat.lt_of_succ_lt hn)).2.2, outB5 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) ((begin_iff (⟨n + 1, hn⟩ : Fin cfg0.N)).mpr h) (outsAt c n (Nat.lt_of_succ_lt hn)).2.2, outB6 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) ((begin_iff (⟨n + 1, hn⟩ : Fin cfg0.N)).mpr h) (outsAt c n (Nat.lt_of_succ_lt hn)).2.2⟩
    else
      ⟨outC4 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) (fun e => h ((begin_iff (⟨n + 1, hn⟩ : Fin cfg0.N)).mp e)) (outsAt c n (Nat.lt_of_succ_lt hn)).2.1, (outsAt c n (Nat.lt_of_succ_lt hn)).2.1, (outsAt c n (Nat.lt_of_succ_lt hn)).2.2⟩

/-- The buffers after the first point. -/
theorem outsAt_A (c : Dev nD) (t : Fin cfg0.N) (h : t.val = 0) (hr : t.val % 4 = 0) :
    outsAt m c t.val t.isLt = ⟨outA4 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) ((first_iff t).mpr h) ((begin_iff t).mpr hr), outA5 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) ((first_iff t).mpr h) ((begin_iff t).mpr hr), outA6 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) ((first_iff t).mpr h) ((begin_iff t).mpr hr)⟩ := by
  obtain ⟨n, hn⟩ := t
  cases n with
  | zero => rfl
  | succ n => exact absurd h (Nat.succ_ne_zero n)

/-- The buffers after the first part of a later tile. -/
theorem outsAt_B (c : Dev nD) (t : Fin cfg0.N) (h : ¬t.val = 0) (hr : t.val % 4 = 0) :
    outsAt m c t.val t.isLt = ⟨outB4 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) ((begin_iff t).mpr hr) (outsAt m c (t.val - 1) (Nat.lt_of_le_of_lt (Nat.sub_le _ _) t.isLt)).2.2, outB5 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) ((begin_iff t).mpr hr) (outsAt m c (t.val - 1) (Nat.lt_of_le_of_lt (Nat.sub_le _ _) t.isLt)).2.2, outB6 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) ((begin_iff t).mpr hr) (outsAt m c (t.val - 1) (Nat.lt_of_le_of_lt (Nat.sub_le _ _) t.isLt)).2.2⟩ := by
  obtain ⟨n, hn⟩ := t
  cases n with
  | zero => exact absurd rfl h
  | succ n => exact (dif_pos hr).trans rfl

/-- The buffers after a later part of a tile. -/
theorem outsAt_C (c : Dev nD) (t : Fin cfg0.N) (h : ¬t.val = 0) (hr : ¬t.val % 4 = 0) :
    outsAt m c t.val t.isLt = ⟨outC4 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) (fun e => hr ((begin_iff t).mp e)) (outsAt m c (t.val - 1) (Nat.lt_of_le_of_lt (Nat.sub_le _ _) t.isLt)).2.1, (outsAt m c (t.val - 1) (Nat.lt_of_le_of_lt (Nat.sub_le _ _) t.isLt)).2⟩ := by
  obtain ⟨n, hn⟩ := t
  cases n with
  | zero => exact absurd rfl h
  | succ n => exact (dif_neg hr).trans rfl

/-- The proof data: the arguments' buffers hold their blocks, the results' what `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- Where a tile does not begin, the second result's buffer keeps its contents. -/
theorem carry5 (c : Dev nD) (t : Fin cfg0.N) (hr : ¬t.val % 4 = 0) :
    (dats m 0 c).after 5 t = (dats m 0 c).after 5 ⟨t.val - 1, Nat.lt_of_le_of_lt (Nat.sub_le _ _) t.isLt⟩ := by
  rw [after5, after5, outsAt_C m c t (fun h => hr (by rw [h])) hr]

/-- So does the third's. -/
theorem carry6 (c : Dev nD) (t : Fin cfg0.N) (hr : ¬t.val % 4 = 0) :
    (dats m 0 c).after 6 t = (dats m 0 c).after 6 ⟨t.val - 1, Nat.lt_of_le_of_lt (Nat.sub_le _ _) t.isLt⟩ := by
  rw [after6, after6, outsAt_C m c t (fun h => hr (by rw [h])) hr]

/-- What a later part of a tile finds in the second result's buffer. -/
theorem before5 (c : Dev nD) (t : Fin cfg0.N) (hr : ¬t.val % 4 = 0) (d) :
    (dats m 0 c).before 5 t d = (outsAt m c (t.val - 1) (Nat.lt_of_le_of_lt (Nat.sub_le _ _) t.isLt)).2.1 := by
  rw [Dat.before_out_traj (dats m 0 c) 5 rfl (fun _ _ => rfl) (fun t _ hi _ => carry5 m c t (by
    have h := (idle5 t).symm.trans hi; exact of_decide_eq_true h)) t.val t rfl d, fresh5 t, if_neg (by rw [decide_eq_false hr]; exact Bool.false_ne_true), after5]

/-- What a point after the first finds in the third result's buffer. -/
theorem before6 (c : Dev nD) (t : Fin cfg0.N) (hz : ¬t.val = 0) (d) :
    (dats m 0 c).before 6 t d = (outsAt m c (t.val - 1) (Nat.lt_of_le_of_lt (Nat.sub_le _ _) t.isLt)).2.2 := by
  rw [Dat.before_out_traj (dats m 0 c) 6 rfl (fun _ _ => rfl) (fun t _ hi _ => carry6 m c t (by
    have h := (idle6 t).symm.trans hi; exact of_decide_eq_true h)) t.val t rfl d, fresh6 t, if_neg (by rw [decide_eq_false hz]; exact Bool.false_ne_true), after6]

/-- A buffer left as it was found is what the proof data says, whether it is written back at the point or not. -/
theorem leaves_found (c : Dev nD) (w : Fin cfg0.W) (t : Fin cfg0.N) (hi : cfg0.idle w (grid0.coords t) = true)
    (hb : ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  rw [show cfg0.idle w (cfg0.grid.coords t) = true from hi]
  cases (cfg0.win w).flush t
  · dsimp only
    iintro H
    iexists ((dats m 0 c).after w t)
    rw [hb]
    iexact H
  · exact .rfl

/-- A buffer stored into is what the proof data says. -/
theorem leaves_stored (c : Dev nD) (w : Fin cfg0.W) (t : Fin cfg0.N) (hi : cfg0.idle w (grid0.coords t) = false) :
    ((dats m 0 c).leavesExact w t : sProp 𝕄) = owns (c : Thread nD τ) ((cfg0.win w).stage (cfg0.slots t w)) fullShare ((dats m 0 c).after w t) := by
  unfold Dat.leavesExact
  rw [show cfg0.idle w (cfg0.grid.coords t) = false from hi]

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d))
    ∗ (∃ d, owns (c : Thread nD τ) (s5 t) fullShare ((dats m 0 c).before 5 t d))
    ∗ (∃ d, owns (c : Thread nD τ) (s6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3]
  rw [show (dats m 0 c).Φ t.succ = (dats m 0 c).Φ t.castSucc from rfl,
    show (dats m 0 c).owesAt () t.succ = (dats m 0 c).owesAt () t.castSucc from rfl,
    leaves_stored m c 0 t rfl, leaves_stored m c 1 t rfl, leaves_stored m c 2 t rfl, leaves_stored m c 3 t rfl, leaves_stored m c 4 t rfl,
    after0, after1, after2, after3, after4]
  by_cases hr : t.val % 4 = 0
  · rw [leaves_stored m c 5 t ((idle5 t).trans (decide_eq_false fun h => h hr)), leaves_stored m c 6 t ((idle6 t).trans (decide_eq_false fun h => h hr)),
      after5, after6]
    by_cases hz : t.val = 0
    · rw [outsAt_A m c t hz hr]
      unfold outA4 outA5 outA6; dsimp only
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ (iblk m c 0 t) (iblk m c 1 t) (iblk m c 2 t) (iblk m c 3 t) ((first_iff t).mpr hz) ((begin_iff t).mpr hr)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverA4 c _ _ _ _ _ _ _ _ _ _ _ _ _ _ _ _ _ _ _ _ _)
      isplitl [H5]
      · unfold owns; iexists _; isplitr
        swap; · iexact H5
        ipureintro; exact View.read_writes_of_cover _ _ _ _ _ (coverA5 c _ _ _ _ _ _ _ _ _ _ _ _ _ _ _ _ _ _ _ _ _)
      unfold owns; iexists _; isplitr
      swap; · iexact H6
      ipureintro; exact View.read_writes_of_cover _ _ _ _ _ (coverA6 c _ _ _ _ _ _ _ _ _ _ _ _ _ _ _ _ _ _ _ _ _)
    · rw [outsAt_B m c t hz hr]
      simp only [before6 m c t hz]
      unfold outB4 outB5 outB6; dsimp only
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ (iblk m c 0 t) (iblk m c 1 t) (iblk m c 2 t) (iblk m c 3 t) (fun h => hz ((first_iff t).mp h)) ((begin_iff t).mpr hr) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB4 c _ _ _ _ _ _ _ _ _ _ _ _ _ _ _ _ _ _ _ _ _ _)
      isplitl [H5]
      · unfold owns; iexists _; isplitr
        swap; · iexact H5
        ipureintro; exact View.read_writes_of_cover _ _ _ _ _ (coverB5 c _ _ _ _ _ _ _ _ _ _ _ _ _ _ _ _ _ _ _ _ _ _)
      unfold owns; iexists _; isplitr
      swap; · iexact H6
      ipureintro; exact View.read_writes_of_cover _ _ _ _ _ (coverB6 c _ _ _ _ _ _ _ _ _ _ _ _ _ _ _ _ _ _ _ _ _ _)
  · have hz : ¬t.val = 0 := fun h => hr (by rw [h])
    have l5 := leaves_found m c 5 t ((idle5 t).trans (decide_eq_true hr)) (fun d => by rw [before5 m c t hr, carry5 m c t hr, after5])
    have l6 := leaves_found m c 6 t ((idle6 t).trans (decide_eq_true hr)) (fun d => by rw [before6 m c t hz, carry6 m c t hr, after6])
    rw [carry5 m c t hr, after5] at l5
    rw [carry6 m c t hr, after6] at l6
    rw [outsAt_C m c t hz hr]
    simp only [before5 m c t hr, before6 m c t hz]
    unfold outC4; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runC c (grid0.coords t) _ _ _ _ _ _ _ _ _ _ _ _ _ _ (iblk m c 0 t) (iblk m c 1 t) (iblk m c 2 t) (iblk m c 3 t) (fun h => hz ((first_iff t).mp h)) (fun h => hr ((begin_iff t).mp h)) _).2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverC4 c _ _ _ _ _ _ _ _ _ _ _ _ _ _ _ _ _ _ _ _ _ _)
    isplitl [H5]
    · iapply l5; iexact H5
    iapply l6; iexact H6

/-- The pipeline calls the body with the buffers above. -/
theorem defs₀_row (t : Fin cfg0.N) : defs₀ (F := F) .tc cfg0.body (cfg0.bodyArgs t (cfg0.slots t)) = bodyAt t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends with the arrays as the proof data says and no semaphore raised. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The program runs to its end and leaves its arguments as they were. -/
theorem unchanged_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

/-- The run with each result named. -/
theorem run : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, (h.1 c).1 6, h.2 c⟩)
    (θ_run_and (run_main m ρ) (frame_of m ρ (dats m) (A_eq m) (run_main m ρ)))

end Cert.DownDgrad

end
-- ==== Proof.DownDgrad.Rounding.lean ====
/- The gradient of the input of the feed-forward part's output product, rounding as the device does. The program has the text of the one over exact
   numbers, so its run is the one of `Run.lean`, stated for any arithmetic. -/
module

public import proofs.«01_k».proof.Proof.DownDgrad.Run
public import proofs.«01_k».proof.Proof.Gen.Kernel15.Frame

@[expose] public section

set_option maxRecDepth 16384

namespace Cert.DownDgrad

open Idealize.ShloMosaic Idealize.ShloMosaic.TcCoe Idealize.SL.Sem Idealize.ShloMosaic.Rounds

variable {F : FTy → Type} [FloatOps F]

/-- The two programs' bodies are the same. -/
theorem same_body : Cert.Kernel15.defs₀ (F := F) = Cert.Kernel15Ideal.defs₀ (F := F) := by
  refine congrArg Defs.onTc (funext fun l => funext fun a => ?_)
  match l, a with
  | 0, (t, s) => rfl
  | ⟨_ + 1, h⟩, _ => exact absurd h (Nat.not_lt.2 (Nat.le_add_left _ _))

/-- So are the tables with the pipelines. -/
theorem same_table : Cert.Kernel15.defs (F := F) = Cert.Kernel15Ideal.defs (F := F) :=
  congrArg (Pipeline.defs Cert.Kernel15Ideal.pcfgs) same_body

/-- The program that rounds runs to its end and leaves its arguments as they were. -/
theorem unchanged_rounding (m : (ℓ : Loc Cert.Kernel15.nD Cert.Kernel15.τ Cert.Kernel15.sig) → Buf (Elt F) ℓ) (ρ : Dev Cert.Kernel15.nD → PrngReg) :
    θ_run (Cert.Kernel15.defs (F := F)) (onTc (τ := Cert.Kernel15.τ) (Cert.Kernel15.main (F := F))) ⟨m, fun _ => 0, ρ⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0) := by
  have h := unchanged_quiescent (F := F) m ρ
  rw [← same_table] at h
  exact h

end Cert.DownDgrad

end
-- ==== Proof.Gate.lean ====
/- A branch of the network enters the residual stream through a gate, of which the context's tokens and the latents' have their own.
   Here is what the gradient of that is: of the branch, and of the two gates. -/
module

public import proofs.«01_k».proof.Proof.Rows
public import proofs.«01_k».proof.Proof.Sums

@[expose] public section

noncomputable section

namespace Cert.Gate

open Idealize.ShloMosaic

/-- The gradient of the branch: the gate, row `r` of the token's modulation, times the gradient of the stream. -/
def carried (r : Fin 6) (X : FVec Ideal (⟨2, ![8448, 2048]⟩ : Shape) .f32) (M : FVec Ideal (⟨3, ![2, 6, 2048]⟩ : Shape) .f32)
    (i : Fin 8448) (n : Fin 2048) : EReal := Rows.pick M r i n * X (ix2 i n)

/-- The gradient of the stream times the branch, for a token of the context; zero for a latent one. -/
def early (X : FVec Ideal (⟨2, ![8448, 2048]⟩ : Shape) .f32) (Y : FVec Ideal (⟨2, ![8448, 2048]⟩ : Shape) .bf16) (n : Fin 2048) (i : Fin 8448) :
    EReal := if i.val < 256 then X (ix2 i n) * Y (ix2 i n) else 0

/-- The same for a latent token; zero for one of the context. -/
def late (X : FVec Ideal (⟨2, ![8448, 2048]⟩ : Shape) .f32) (Y : FVec Ideal (⟨2, ![8448, 2048]⟩ : Shape) .bf16) (n : Fin 2048) (i : Fin 8448) :
    EReal := if i.val < 256 then 0 else X (ix2 i n) * Y (ix2 i n)

/-- Row 0 is `a`, row 1 is `b`, the others are zero. -/
def rows (r : ℕ) (a b : EReal) : EReal := (if r = 0 then a else 0) + (if r = 1 then b else 0)

/-- The gates' gradients: in row 0 the context's, in row 1 the latents', then six rows of zeros. -/
def gates (X : FVec Ideal (⟨2, ![8448, 2048]⟩ : Shape) .f32) (Y : FVec Ideal (⟨2, ![8448, 2048]⟩ : Shape) .bf16) :
    FVec Ideal (⟨2, ![8, 2048]⟩ : Shape) .f32 := fun u => rows (u 0).val (∑ i, early X Y (u 1) i) (∑ i, late X Y (u 1) i)

/-- The kernel's choice of a row by its number. -/
theorem row_mask (r : Fin 8) (k : ℕ) (hk : k < 8) (a b : EReal) :
    Scalar.select (IntOp.cmpi .eq (BitVec.ofNat 32 r.val) (BitVec.ofNat 32 k)) a b = if r.val = k then a else b := by
  have hr := r.isLt
  rw [WordCmp.cmpi_eq_eq]
  by_cases g : r.val = k
  · rw [if_pos g, g, decide_eq_true rfl]; rfl
  · rw [if_neg g, decide_eq_false (fun e => g ((WordCmp.ofNat_eq_ofNat_iff (by omega) (by omega)).mp e))]; rfl

/-- A function of the tokens, zero past the last one. -/
def past (f : Fin 8448 → EReal) (i : ℕ) : EReal := if h : i < 8448 then f ⟨i, h⟩ else 0

/-- Its sum over a tile of 768 tokens. -/
def tile (f : Fin 8448 → EReal) (q : ℕ) : EReal := ∑ j : Fin 768, past f (q * 768 + j.val)

/-- Eleven tiles make the whole. -/
theorem tiles (f : Fin 8448 → EReal) : ∑ q ∈ Finset.range 11, tile f q = ∑ i, f i := by
  rw [Finset.sum_range]
  refine Fin.sum_mul_add_congr fun s k hl => ?_
  exact dif_pos hl

/-- The rows of a sum are the sums of the rows. -/
theorem rows_sum (r : ℕ) (a b : ℕ → EReal) (s : Finset ℕ) : ∑ q ∈ s, rows r (a q) (b q) = rows r (∑ q ∈ s, a q) (∑ q ∈ s, b q) := by
  unfold rows
  rw [Finset.sum_add_distrib]
  refine congrArg₂ (· + ·) ?_ ?_
  · by_cases h : r = 0
    · simp only [if_pos h]
    · simp only [if_neg h, Finset.sum_const_zero]
  · by_cases h : r = 1
    · simp only [if_pos h]
    · simp only [if_neg h, Finset.sum_const_zero]

end Cert.Gate

end
-- ==== Proof.DownDgrad.Kernel.lean ====
/- The gradient of the input of the feed-forward part's output product: what the kernel leaves in its three results. -/
module

public import proofs.«01_k».proof.Proof.DownDgrad.Run
public import proofs.«01_k».proof.Proof.Gate
public import Idealize.ShloMosaic.Lib.Pipeline.ValueKit
public import Idealize.ShloMosaic.Lib.Pipeline.ReadBack

@[expose] public section

set_option maxRecDepth 16384

noncomputable section

namespace Cert.DownDgrad

open Idealize.ShloMosaic Idealize.ShloMosaic.TcCoe Idealize.SL.Sem
open Cert.Kernel15Ideal Cert.Kernel15Ideal.Gen

/-- The first result: the gradient of the product's input, the gradient of the product times the rows of the weight. -/
def input (X : FVec Ideal (⟨2, ![8448, 2048]⟩ : Shape) .f32) (M : FVec Ideal (⟨3, ![2, 6, 2048]⟩ : Shape) .f32)
    (W : FVec Ideal (⟨2, ![5632, 2048]⟩ : Shape) .bf16) : FVec Ideal (⟨2, ![8448, 5632]⟩ : Shape) .bf16 :=
  fun x => ∑ n : Fin 2048, Gate.carried 5 X M (x 0) n * W (ix2 (x 1) n)

/-- The second result: the gradient of the product. -/
def branch (X : FVec Ideal (⟨2, ![8448, 2048]⟩ : Shape) .f32) (M : FVec Ideal (⟨3, ![2, 6, 2048]⟩ : Shape) .f32) :
    FVec Ideal (⟨2, ![8448, 2048]⟩ : Shape) .bf16 := fun x => Gate.carried 5 X M (x 0) (x 1)

variable (m : (ℓ : Loc nD τ sig) → Buf (Elt Ideal) ℓ) (c : Dev nD)

/-- Which block of each array a grid point works on. -/
theorem idx : ∀ t : Fin cfg0.N, win0_0.index t = ![t.val / 4, 0] ∧ win0_1.index t = ![t.val / 4, 0] ∧ win0_2.index t = ![0, 0, 0]
    ∧ win0_3.index t = ![t.val % 4, 0] ∧ win0_4.index t = ![t.val / 4, t.val % 4] ∧ win0_5.index t = ![t.val / 4, 0] ∧ win0_6.index t = ![0, 0] :=
  (by decide +kernel : ∀ t : Fin grid0.N, win0_0.index t = ![t.val / 4, 0] ∧ win0_1.index t = ![t.val / 4, 0] ∧ win0_2.index t = ![0, 0, 0]
    ∧ win0_3.index t = ![t.val % 4, 0] ∧ win0_4.index t = ![t.val / 4, t.val % 4] ∧ win0_5.index t = ![t.val / 4, 0] ∧ win0_6.index t = ![0, 0])

/-- The grid's first coordinate is the tile of tokens. -/
theorem coord : ∀ t : Fin cfg0.N, (grid0.coords t 0).val = t.val / 4 := (by decide +kernel : ∀ t : Fin grid0.N, (grid0.coords t 0).val = t.val / 4)

/-- Which element of the stream's gradient a grid point's block holds. -/
theorem stream_in (t : Fin cfg0.N) (i : Fin 768) (n : Fin 2048) (a : Fin 8448) (ha : a.val = t.val / 4 * 768 + i.val) :
    (show FVec Ideal S768x2048 .f32 from iblk m c 0 t) (ix2 i n) = (m ((c : Thread nD τ).loc main_arg0)) (ix2 a n) := by
  blk_point [iblk, V, idx t]

/-- The same of the product. -/
theorem product_in (t : Fin cfg0.N) (i : Fin 768) (n : Fin 2048) (a : Fin 8448) (ha : a.val = t.val / 4 * 768 + i.val) :
    (show FVec Ideal S768x2048 .bf16 from iblk m c 1 t) (ix2 i n) = (m ((c : Thread nD τ).loc main_arg1)) (ix2 a n) := by
  blk_point [iblk, V, idx t]

/-- The modulation is there whole. -/
theorem gate_in (t : Fin cfg0.N) (s : Fin 2) (r : Fin 6) (n : Fin 2048) :
    (show FVec Ideal S2x6x2048 .f32 from iblk m c 2 t) (ix3 s r n) = (m ((c : Thread nD τ).loc main_arg2)) (ix3 s r n) := by
  blk_point [iblk, V, idx t]

/-- Which element of the weight a grid point's block holds. -/
theorem weight_in (t : Fin cfg0.N) (k : Fin 1408) (n : Fin 2048) (a : Fin 5632) (ha : a.val = t.val % 4 * 1408 + k.val) :
    (show FVec Ideal S1408x2048 .bf16 from iblk m c 3 t) (ix2 k n) = (m ((c : Thread nD τ).loc main_arg3)) (ix2 a n) := by
  blk_point [iblk, V, idx t]

/-- The token a row of a tile is. -/
abbrev token (n : ℕ) (h : n < cfg0.N) (i : Fin 768) : Fin 8448 :=
  ⟨n / 4 * 768 + i.val, by have h1 : n < 44 := Nat.lt_of_lt_of_eq h N_0; have h2 := i.isLt; omega⟩

/-- The stored gradient of the product, entry by entry. -/
theorem fresh_at (t : Fin cfg0.N) (i : Fin 768) (n : Fin 2048) (g : EReal)
    (hg : g = (if (grid0.coords t 0).val * 768 + i.val < 256 then (show FVec Ideal S2x6x2048 .f32 from iblk m c 2 t) (ix3 0 5 n)
        else (show FVec Ideal S2x6x2048 .f32 from iblk m c 2 t) (ix3 1 5 n)) * (show FVec Ideal S768x2048 .f32 from iblk m c 0 t) (ix2 i n)) :
    g = Gate.carried 5 (m ((c : Thread nD τ).loc main_arg0)) (m ((c : Thread nD τ).loc main_arg2)) (token t.val t.isLt i) n := by
  rw [hg, coord t, gate_in m c t 0 5 n, gate_in m c t 1 5 n, stream_in m c t i n (token t.val t.isLt i) rfl]
  rfl

/-- The first point of a tile stores the gradient of the product at the tile. -/
theorem branch_begin (t : Fin cfg0.N) (hr : t.val % 4 = 0) (z : S768x2048.Idx) : ((outsAt m c t.val t.isLt).2.1 z : EReal)
    = Gate.carried 5 (m ((c : Thread nD τ).loc main_arg0)) (m ((c : Thread nD τ).loc main_arg2)) (token t.val t.isLt (z 0)) (z 1) := by
  have hz : (z 0).val < 768 := (z 0).isLt
  have hc : (grid0.coords t 0).val < 11 := (grid0.coords t 0).isLt
  refine fresh_at m c t (z 0) (z 1) _ ?_
  by_cases h : t.val = 0
  · rw [outsAt_A m c t h hr]
    frame_out
    pointwise []
    rw [Rows.mask 768 (grid0.coords t 0).val (z 0).val (by omega)]
  · rw [outsAt_B m c t h hr]
    frame_out
    pointwise []
    rw [Rows.mask 768 (grid0.coords t 0).val (z 0).val (by omega)]

/-- After every point the second result's buffer holds the gradient of the product at the point's tile. -/
theorem branch_at : ∀ (n : ℕ) (h : n < cfg0.N) (z : S768x2048.Idx), ((outsAt m c n h).2.1 z : EReal)
    = Gate.carried 5 (m ((c : Thread nD τ).loc main_arg0)) (m ((c : Thread nD τ).loc main_arg2)) (token n h (z 0)) (z 1) := by
  intro n
  induction n with
  | zero => exact fun h z => branch_begin m c ⟨0, h⟩ (Nat.zero_mod _) z
  | succ n ih =>
    intro h z
    by_cases hr : (n + 1) % 4 = 0
    · exact branch_begin m c ⟨n + 1, h⟩ hr z
    · rw [outsAt_C m c ⟨n + 1, h⟩ (Nat.succ_ne_zero n) hr]
      refine (ih (Nat.lt_of_succ_lt h) z).trans ?_
      refine congrArg (fun a => Gate.carried 5 _ _ a (z 1)) (Fin.ext ?_)
      show n / 4 * 768 + (z 0).val = (n + 1) / 4 * 768 + (z 0).val
      omega

/-- A tile of the first result is the product of a tile and a block of the weight. -/
theorem product_at (v : FVec Ideal S768x2048 .bf16) (w : FVec Ideal S1408x2048 .bf16) (y : S768x1408.Idx) :
    (truncf (F := Ideal) FTy.bf16 (matmul dot_S768x2048_S1408x2048_S768x1408_1_1_0_0_n_n none (shapeCast S768x2048 v shapeCasts_S768x2048_S768x2048) w
        (constant S768x1408 FTy.f32 0x00000000#32)) bitsLt_bf16_f32 y : EReal) = ∑ n : Fin 2048, v (ix2 (y 0) n) * w (ix2 (y 1) n) := by
  pointwise []

/-- At every point the first result's tile is the product of the second's buffer and the weight's block. -/
theorem input_at (t : Fin cfg0.N) (y : S768x1408.Idx) : ((outsAt m c t.val t.isLt).1 y : EReal)
    = ∑ n : Fin 2048, (outsAt m c t.val t.isLt).2.1 (ix2 (y 0) n) * (show FVec Ideal S1408x2048 .bf16 from iblk m c 3 t) (ix2 (y 1) n) := by
  by_cases hr : t.val % 4 = 0
  · by_cases h : t.val = 0
    · rw [outsAt_A m c t h hr]
      frame_out
      exact product_at _ _ y
    · rw [outsAt_B m c t h hr]
      frame_out
      exact product_at _ _ y
  · rw [outsAt_C m c t (fun h => hr (by rw [h])) hr]
    frame_out
    exact product_at _ _ y

/-- What a tile adds to the gates' gradients. -/
theorem share_at (t : Fin cfg0.N) (n : Fin 2048) (i : Fin 768) (a b : EReal)
    (ha : a = if (grid0.coords t 0).val * 768 + i.val < 256 then
        (show FVec Ideal S768x2048 .f32 from iblk m c 0 t) (ix2 i n) * (show FVec Ideal S768x2048 .bf16 from iblk m c 1 t) (ix2 i n) else 0)
    (hb : b = if (grid0.coords t 0).val * 768 + i.val < 256 then 0 else
        (show FVec Ideal S768x2048 .f32 from iblk m c 0 t) (ix2 i n) * (show FVec Ideal S768x2048 .bf16 from iblk m c 1 t) (ix2 i n)) :
    a = Gate.past (Gate.early (m ((c : Thread nD τ).loc main_arg0)) (m ((c : Thread nD τ).loc main_arg1)) n) (t.val / 4 * 768 + i.val)
      ∧ b = Gate.past (Gate.late (m ((c : Thread nD τ).loc main_arg0)) (m ((c : Thread nD τ).loc main_arg1)) n) (t.val / 4 * 768 + i.val) := by
  have hl : t.val / 4 * 768 + i.val < 8448 := (token t.val t.isLt i).isLt
  unfold Gate.past
  rw [dif_pos hl, dif_pos hl, ha, hb, coord t, stream_in m c t i n (token t.val t.isLt i) rfl, product_in m c t i n (token t.val t.isLt i) rfl]
  exact ⟨rfl, rfl⟩

/-- The gates' gradients over the first tiles. -/
def upto (q : ℕ) (u : S8x2048.Idx) : EReal :=
  ∑ s ∈ Finset.range q, Gate.rows (u 0).val (Gate.tile (Gate.early (m ((c : Thread nD τ).loc main_arg0)) (m ((c : Thread nD τ).loc main_arg1)) (u 1)) s)
    (Gate.tile (Gate.late (m ((c : Thread nD τ).loc main_arg0)) (m ((c : Thread nD τ).loc main_arg1)) (u 1)) s)

/-- The first point leaves the first tile's share. -/
theorem gates_first (t : Fin cfg0.N) (h : t.val = 0) (hr : t.val % 4 = 0) (q : ℕ) (hq : t.val / 4 = q) (u : S8x2048.Idx) :
    ((outsAt m c t.val t.isLt).2.2 u : EReal) = Gate.rows (u 0).val
      (Gate.tile (Gate.early (m ((c : Thread nD τ).loc main_arg0)) (m ((c : Thread nD τ).loc main_arg1)) (u 1)) q)
      (Gate.tile (Gate.late (m ((c : Thread nD τ).loc main_arg0)) (m ((c : Thread nD τ).loc main_arg1)) (u 1)) q) := by
  subst hq
  have hc : (grid0.coords t 0).val < 11 := (grid0.coords t 0).isLt
  rw [outsAt_A m c t h hr]
  frame_out
  pointwise []
  refine Eq.trans (congrArg₂ (· + ·) (Gate.row_mask (u 0) 0 (by omega) _ 0) (Gate.row_mask (u 0) 1 (by omega) _ 0)) ?_
  refine congrArg₂ (Gate.rows (u 0).val) (Finset.sum_congr rfl fun i _ => ?_) (Finset.sum_congr rfl fun i _ => ?_)
  · have hi : i.val < 768 := i.isLt
    exact (share_at m c t (u 1) i _ _ (Rows.mask 768 _ i.val (by omega) _ _) rfl).1
  · have hi : i.val < 768 := i.isLt
    exact (share_at m c t (u 1) i _ _ rfl (Rows.mask 768 _ i.val (by omega) _ _)).2

/-- The first point of a later tile adds the tile's share. -/
theorem gates_next (t : Fin cfg0.N) (h : ¬t.val = 0) (hr : t.val % 4 = 0) (q : ℕ) (hq : t.val / 4 = q) (u : S8x2048.Idx) :
    ((outsAt m c t.val t.isLt).2.2 u : EReal) = (outsAt m c (t.val - 1) (Nat.lt_of_le_of_lt (Nat.sub_le _ _) t.isLt)).2.2 u + Gate.rows (u 0).val
      (Gate.tile (Gate.early (m ((c : Thread nD τ).loc main_arg0)) (m ((c : Thread nD τ).loc main_arg1)) (u 1)) q)
      (Gate.tile (Gate.late (m ((c : Thread nD τ).loc main_arg0)) (m ((c : Thread nD τ).loc main_arg1)) (u 1)) q) := by
  subst hq
  have hc : (grid0.coords t 0).val < 11 := (grid0.coords t 0).isLt
  rw [outsAt_B m c t h hr]
  frame_out
  pointwise []
  refine congrArg (_ + ·) ?_
  refine Eq.trans (congrArg₂ (· + ·) (Gate.row_mask (u 0) 0 (by omega) _ 0) (Gate.row_mask (u 0) 1 (by omega) _ 0)) ?_
  refine congrArg₂ (Gate.rows (u 0).val) (Finset.sum_congr rfl fun i _ => ?_) (Finset.sum_congr rfl fun i _ => ?_)
  · have hi : i.val < 768 := i.isLt
    exact (share_at m c t (u 1) i _ _ (Rows.mask 768 _ i.val (by omega) _ _) rfl).1
  · have hi : i.val < 768 := i.isLt
    exact (share_at m c t (u 1) i _ _ rfl (Rows.mask 768 _ i.val (by omega) _ _)).2

/-- After every point the third result's buffer holds the gates' gradients over the tiles begun. -/
theorem gates_at : ∀ (n : ℕ) (h : n < cfg0.N) (u : S8x2048.Idx), ((outsAt m c n h).2.2 u : EReal) = upto m c (n / 4 + 1) u := by
  intro n
  induction n with
  | zero =>
    intro h u
    refine (gates_first m c ⟨0, h⟩ rfl (Nat.zero_mod _) 0 (Nat.zero_div _) u).trans ?_
    unfold upto
    rw [show (0 : ℕ) / 4 + 1 = 1 from rfl, Finset.sum_range_one]
  | succ n ih =>
    intro h u
    by_cases hr : (n + 1) % 4 = 0
    · refine (gates_next m c ⟨n + 1, h⟩ (Nat.succ_ne_zero n) hr (n / 4 + 1) (by show (n + 1) / 4 = n / 4 + 1; omega) u).trans ?_
      refine (congrArg (· + _) (ih (Nat.lt_of_succ_lt h) u)).trans ?_
      rw [show (n + 1) / 4 = n / 4 + 1 from by omega]
      unfold upto
      rw [Finset.sum_range_succ _ (n / 4 + 1)]
    · rw [outsAt_C m c ⟨n + 1, h⟩ (Nat.succ_ne_zero n) hr]
      refine (ih (Nat.lt_of_succ_lt h) u).trans ?_
      rw [show n / 4 = (n + 1) / 4 from by omega]

/-- Where an element of a tile sits in each result. -/
theorem place4 (t : Fin cfg0.N) (y : ((cfg0.win 4).xblock (cfg0.grid.coords t)).Idx) (i : Fin 8448) (n : Fin 5632)
    (hi : i.val = t.val / 4 * 768 + (y 0).val) (hn : n.val = t.val % 4 * 1408 + (y 1).val) (X : FVec Ideal S8448x5632 .bf16) :
    X (((View.whole main_v0_0).slice (win0_4.rect t)).emb y) = X (ix2 i n) := by
  blk_ext [idx t]

theorem place5 (t : Fin cfg0.N) (y : ((cfg0.win 5).xblock (cfg0.grid.coords t)).Idx) (i : Fin 8448) (n : Fin 2048)
    (hi : i.val = t.val / 4 * 768 + (y 0).val) (hn : n.val = (y 1).val) (X : FVec Ideal S8448x2048 .bf16) :
    X (((View.whole main_v0_1).slice (win0_5.rect t)).emb y) = X (ix2 i n) := by
  blk_ext [idx t]

theorem place6 (t : Fin cfg0.N) (y : ((cfg0.win 6).xblock (cfg0.grid.coords t)).Idx) (i : Fin 8) (n : Fin 2048)
    (hi : i.val = (y 0).val) (hn : n.val = (y 1).val) (X : FVec Ideal S8x2048 .f32) :
    X (((View.whole main_v0_2).slice (win0_6.rect t)).emb y) = X (ix2 i n) := by
  blk_ext [idx t]

/-- The first result is the gradient of the product's input. -/
theorem kernel_input : (dats m 0 c).arrAt 4 cfg0.N
    = input (m ((c : Thread nD τ).loc main_arg0)) (m ((c : Thread nD τ).loc main_arg2)) (m ((c : Thread nD τ).loc main_arg3)) := by
  refine (dats m 0 c).arrAt_eq_of_covers 4 _ (by decide +kernel) fun t hf y => ?_
  have ht : t.val < 44 := Nat.lt_of_lt_of_eq t.isLt N_0
  blk_simp
  rw [after4]
  have h1 : (y 0).val < 768 := (y 0).isLt
  have h2 : (y 1).val < 1408 := (y 1).isLt
  have key : (∑ n : Fin 2048, (outsAt m c t.val t.isLt).2.1 (ix2 ⟨(y 0).val, h1⟩ n) * (show FVec Ideal S1408x2048 .bf16 from iblk m c 3 t) (ix2 ⟨(y 1).val, h2⟩ n) : EReal)
      = input (m ((c : Thread nD τ).loc main_arg0)) (m ((c : Thread nD τ).loc main_arg2)) (m ((c : Thread nD τ).loc main_arg3))
        (ix2 (token t.val t.isLt ⟨(y 0).val, h1⟩) ⟨t.val % 4 * 1408 + (y 1).val, by omega⟩) :=
    Finset.sum_congr rfl fun n _ => Ideal.mul_congr (branch_at m c t.val t.isLt _) (weight_in m c t _ n _ rfl)
  exact ((input_at m c t _).trans key).trans (place4 t y _ _ rfl rfl
    (input (m ((c : Thread nD τ).loc main_arg0)) (m ((c : Thread nD τ).loc main_arg2)) (m ((c : Thread nD τ).loc main_arg3)))).symm

/-- The second is the gradient of the product. -/
theorem kernel_branch : (dats m 0 c).arrAt 5 cfg0.N = branch (m ((c : Thread nD τ).loc main_arg0)) (m ((c : Thread nD τ).loc main_arg2)) := by
  refine (dats m 0 c).arrAt_eq_of_covers 5 _ (by decide +kernel) fun t hf y => ?_
  have ht : t.val < 44 := Nat.lt_of_lt_of_eq t.isLt N_0
  blk_simp
  rw [after5]
  have h1 : (y 0).val < 768 := (y 0).isLt
  have h2 : (y 1).val < 2048 := (y 1).isLt
  exact Eq.trans (branch_at m c t.val t.isLt _) (place5 t y (token t.val t.isLt ⟨(y 0).val, h1⟩) ⟨(y 1).val, h2⟩ rfl rfl
    (branch (m ((c : Thread nD τ).loc main_arg0)) (m ((c : Thread nD τ).loc main_arg2)))).symm

/-- The third is the gates' gradients. -/
theorem kernel_gates : (dats m 0 c).arrAt 6 cfg0.N = Gate.gates (m ((c : Thread nD τ).loc main_arg0)) (m ((c : Thread nD τ).loc main_arg1)) := by
  refine (dats m 0 c).arrAt_eq_of_covers 6 _ (by decide +kernel) fun t hf y => ?_
  have ht : t.val < 44 := Nat.lt_of_lt_of_eq t.isLt N_0
  have h3 : t.val % 44 = 43 := (flush0_6 t).mp hf
  blk_simp
  rw [after6]
  have h1 : (y 0).val < 8 := (y 0).isLt
  have h2 : (y 1).val < 2048 := (y 1).isLt
  refine Eq.trans (gates_at m c t.val t.isLt _) (Eq.trans ?_ (place6 t y ⟨(y 0).val, h1⟩ ⟨(y 1).val, h2⟩ rfl rfl
    (Gate.gates (m ((c : Thread nD τ).loc main_arg0)) (m ((c : Thread nD τ).loc main_arg1)))).symm)
  rw [show t.val / 4 + 1 = 11 from by omega]
  unfold upto
  rw [Gate.rows_sum, Gate.tiles, Gate.tiles]
  rfl

end Cert.DownDgrad

end
-- ==== Proof.DownDgrad.Reference.lean ====
/- The gradient of the input of the feed-forward part's output product: what the reference leaves in its three results. -/
module

public import proofs.«01_k».proof.Proof.Gen.Reference15Ideal.Read
public import proofs.«01_k».proof.Proof.Gate

@[expose] public section

set_option maxRecDepth 16384

noncomputable section

namespace Cert.DownDgrad.Ref

open Idealize.ShloMosaic Idealize.ShloMosaic.TcCoe Idealize.SL.Sem
open Cert.Reference15Ideal Cert.Reference15Ideal.Gen Cert.Reference15Ideal.Read

variable (X : FVec Ideal S8448x2048 .f32) (Y : FVec Ideal S8448x2048 .bf16) (M : FVec Ideal S2x6x2048 .f32) (W : FVec Ideal S5632x2048 .bf16)

/-- The gradient of the product: the two gates' parts, each padded to all tokens, added. -/
theorem carried_at (i : Fin 8448) (n : Fin 2048) : (val_main_v34 (F := Ideal) X M (ix2 i n) : EReal) = Gate.carried 5 X M i n := by
  obtain ⟨i, hi⟩ := i
  unfold Gate.carried Rows.pick
  pointwise [val_main_v34, val_main_v33, val_main_v28, val_main_v27, val_main_v24, val_main_v19, val_main_v18, val_main_v17, val_main_v16, val_main_v12,
    val_main_v10, val_main_v9, val_main_v6, val_main_v4, val_main_v3, val_main_v1, val_main_v0, val_main_cst_1, val_main_cst_5]
  by_cases h : i < 256
  · rw [dif_neg (by omega), dif_pos h, if_pos h, zero_add]
  · have e : 256 + (i - 256) = i := by omega
    rw [dif_pos (by omega), dif_neg h, if_neg h, add_zero]
    simp only [e]

/-- The second result is that, rounded. -/
theorem branch_at (x : S8448x2048.Idx) : (val_main_v43 (F := Ideal) X M x : EReal) = Gate.carried 5 X M (x 0) (x 1) := by
  refine Eq.trans ?_ (carried_at X M (x 0) (x 1))
  pointwise [val_main_v43]

/-- The first result: that times the rows of the weight, rounded. -/
theorem input_at (x : S8448x5632.Idx) : (val_main_v42 (F := Ideal) X M W x : EReal) = ∑ n : Fin 2048, Gate.carried 5 X M (x 0) n * W (ix2 (x 1) n) := by
  refine Eq.trans (b := (val_main_v41 (F := Ideal) X M W x : EReal)) (by pointwise [val_main_v42]) ?_
  refine (val_main_v41_apply X M W _).trans (Finset.sum_congr rfl fun s _ => Ideal.mul_congr ?_ ?_)
  · refine Eq.trans (congrArg (val_main_v34 (F := Ideal) X M) ?_) (carried_at X M (x 0) s)
    exact funext fun a => match a with
      | ⟨0, _⟩ => rfl
      | ⟨1, _⟩ => rfl
  · pointwise [val_main_v38]
    exact congrArg W (funext fun a => match a with
      | ⟨0, _⟩ => rfl
      | ⟨1, _⟩ => rfl)

/-- The latents' sum. -/
theorem late_at (n : Fin 2048) : (val_main_v23 (F := Ideal) X Y (ix1 n) : EReal) = ∑ i, Gate.late X Y n i := by
  refine (val_main_v23_apply X Y _).trans ?_
  refine Eq.trans (congrArg₂ (· + ·) (by pointwise [val_main_cst_0] : _ = (0 : EReal)) (Fin.sum_univ_one _)) ?_
  rw [zero_add]
  refine Eq.trans (b := (val_main_v21 (F := Ideal) X Y (ix1 n) : EReal)) (by pointwise [val_main_v22]; rfl) ?_
  refine (val_main_v21_apply X Y _).trans ?_
  refine Eq.trans (congrArg (· + _) (by pointwise [val_main_cst] : _ = (0 : EReal))) ?_
  rw [zero_add]
  refine Eq.trans ?_ (Sums.two 256 8192 rfl (Gate.late X Y n) (fun _ => 0) (fun k => X (ix2 ⟨256 + k.val, by omega⟩ n) * Y (ix2 ⟨256 + k.val, by omega⟩ n))
    (fun k => (if_pos k.isLt).symm) (fun k => (if_neg (by show ¬256 + k.val < 256; omega)).symm))
  rw [Finset.sum_const_zero, zero_add]
  refine Finset.sum_congr rfl fun k _ => ?_
  pointwise [val_main_v20, val_main_v17, val_main_v11, val_main_v2]

/-- The context's sum. -/
theorem early_at (n : Fin 2048) : (val_main_v32 (F := Ideal) X Y (ix1 n) : EReal) = ∑ i, Gate.early X Y n i := by
  refine (val_main_v32_apply X Y _).trans ?_
  refine Eq.trans (congrArg₂ (· + ·) (by pointwise [val_main_cst_4] : _ = (0 : EReal)) (Fin.sum_univ_one _)) ?_
  rw [zero_add]
  refine Eq.trans (b := (val_main_v30 (F := Ideal) X Y (ix1 n) : EReal)) (by pointwise [val_main_v31]; rfl) ?_
  refine (val_main_v30_apply X Y _).trans ?_
  refine Eq.trans (congrArg (· + _) (by pointwise [val_main_cst_3] : _ = (0 : EReal))) ?_
  rw [zero_add]
  refine Eq.trans ?_ (Sums.two 256 8192 rfl (Gate.early X Y n) (fun k => X (ix2 ⟨k.val, by omega⟩ n) * Y (ix2 ⟨k.val, by omega⟩ n)) (fun _ => 0)
    (fun k => (if_pos k.isLt).symm) (fun k => (if_neg (by show ¬256 + k.val < 256; omega)).symm))
  rw [Finset.sum_const_zero, add_zero]
  refine Finset.sum_congr rfl fun k _ => ?_
  pointwise [val_main_v29, val_main_v16, val_main_v5, val_main_v2]

/-- The third result: the gates' gradients. -/
theorem gates_at (r : Fin 8) (n : Fin 2048) : (val_main_v45 (F := Ideal) X Y (ix2 r n) : EReal) = Gate.gates X Y (ix2 r n) := by
  obtain ⟨r, hr⟩ := r
  unfold Gate.gates Gate.rows
  rw [show ∑ i, Gate.early X Y ((ix2 (⟨r, hr⟩ : Fin 8) n) 1) i = _ from (early_at X Y n).symm, show ∑ i, Gate.late X Y ((ix2 (⟨r, hr⟩ : Fin 8) n) 1) i = _ from (late_at X Y n).symm]
  pointwise [val_main_v45, val_main_v44, val_main_v37, val_main_v36, val_main_v35, val_main_v26, val_main_v25, val_main_cst_2, val_main_cst_6, val_main_cst_8]
  by_cases h0 : r = 0
  · subst h0; simp
  · by_cases h1 : r = 1
    · subst h1; simp
    · rw [dif_neg (by omega)]
      exact (add_zero (0 : EReal)).symm.trans (congrArg₂ (· + ·) (if_neg h0).symm (if_neg h1).symm)

end Cert.DownDgrad.Ref

end
-- ==== Proof.DownDgrad.Claims.lean ====
/- The claims about the gradient of the input of the feed-forward part's output product and of its gates. -/
module

public import proofs.«01_k».proof.Defs
public import proofs.«01_k».proof.Proof.DownDgrad.Rounding
public import proofs.«01_k».proof.Proof.DownDgrad.Kernel
public import proofs.«01_k».proof.Proof.DownDgrad.Reference

@[expose] public section

set_option maxRecDepth 16384

noncomputable section

namespace Cert.DownDgrad

open Idealize.ShloMosaic Idealize.SL.Sem

/-- The kernel, rounding as the device does, runs to its end and leaves its arguments as they were. -/
theorem frame_kernel : Cert.quiescent_Kernel15 (hKernel15 := Cert.Kernel15.Gen.facts) := fun m ρ _ => unchanged_rounding m ρ

/-- The same of the kernel over exact numbers. -/
theorem frame_ideal : Cert.quiescent_Kernel15Ideal (hKernel15Ideal := Cert.Kernel15Ideal.Gen.facts) := fun m ρ _ => unchanged_quiescent m ρ

/-- The same of the reference, which is host code and holds no semaphore. -/
theorem frame_reference : Cert.quiescent_Reference15Ideal (hReference15Ideal := Cert.Reference15Ideal.Gen.facts) := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- Over exact numbers the kernel's three results are the reference's: `input`, `branch` and `Gate.gates` of the arguments. -/
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => (dats m 0 c).arrAt 4 Cert.Kernel15Ideal.cfg0.N, fun c => (dats m 0 c).arrAt 5 Cert.Kernel15Ideal.cfg0.N,
    fun c => (dats m 0 c).arrAt 6 Cert.Kernel15Ideal.cfg0.N, run m g, ?_⟩
  refine (θ_run Cert.Reference15Ideal.defs _ _).mono (fun r h c => ?_) (Cert.Reference15Ideal.Value.run (F := Ideal) m' g')
  obtain ⟨h0, h1, h2, hk⟩ := h c
  obtain ⟨a0, a1, a2, a3⟩ := hargs c
  refine ⟨?_, ?_, ?_, hk⟩
  · refine h0.trans ((Cert.Reference15Ideal.Read.val_main_v42_eq _ _ _).trans ?_)
    refine (funext fun x => Ref.input_at _ _ _ x : _ = input _ _ _).trans (Eq.trans ?_ (kernel_input m c).symm)
    exact congr (congr (congrArg input a0) a2) a3
  · refine h1.trans ((Cert.Reference15Ideal.Read.val_main_v43_eq _ _).trans ?_)
    refine (funext fun x => Ref.branch_at _ _ x : _ = branch _ _).trans (Eq.trans ?_ (kernel_branch m c).symm)
    exact congr (congrArg branch a0) a2
  · refine h2.trans ((Cert.Reference15Ideal.Read.val_main_v45_eq _ _).trans ?_)
    refine (funext fun x => (congrArg _ (eq_ix2 x)).trans ((Ref.gates_at _ _ (x 0) (x 1)).trans (congrArg _ (eq_ix2 x).symm)) : _ = Gate.gates _ _).trans
      (Eq.trans ?_ (kernel_gates m c).symm)
    exact congr (congrArg Gate.gates a0) a1

end Cert.DownDgrad

end
-- ==== Proof.MixoutDgrad.Run.lean ====
/- The gradient of the input of a mixer's output product: how the kernel's body runs at a grid point. The grid walks the 8448 tokens in
   eleven tiles of 768, and for every tile the 2048 rows of the weight in 2 parts of 1024. The first part of a tile makes the
   gradient of the product and adds the tile's share of the gates' gradients; the later parts read the gradient of the product back. -/
module

public import proofs.«01_k».proof.Proof.Gen.Kernel16Ideal.Frame
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MixoutDgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel16Ideal Cert.Kernel16Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's very first point. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The points that begin a tile of tokens. -/
theorem begin_iff : ∀ t : Fin cfg0.N, k0_cond2 (grid0.coords t) = 1#1 ↔ t.val % 2 = 0 :=
  (by decide +kernel : ∀ t : Fin grid0.N, k0_cond2 (grid0.coords t) = 1#1 ↔ t.val % 2 = 0)

/-- The gradient of the product is stored at the points that begin a tile only. -/
theorem idle5 : ∀ t : Fin cfg0.N, cfg0.idle 5 (grid0.coords t) = decide (t.val % 2 ≠ 0) :=
  (by decide +kernel : ∀ t : Fin grid0.N, idle0 5 (grid0.coords t) = decide (t.val % 2 ≠ 0))

/-- So are the gates' gradients. -/
theorem idle6 : ∀ t : Fin cfg0.N, cfg0.idle 6 (grid0.coords t) = decide (t.val % 2 ≠ 0) :=
  (by decide +kernel : ∀ t : Fin grid0.N, idle0 6 (grid0.coords t) = decide (t.val % 2 ≠ 0))

/-- The buffer of the gradient of the product holds nothing at the beginning of a tile. -/
theorem fresh5 : ∀ t : Fin cfg0.N, cfg0.fresh 5 t.val = decide (t.val % 2 = 0) :=
  (by decide +kernel : ∀ t : Fin grid0.N, cfg0.fresh 5 t.val = decide (t.val % 2 = 0))

/-- The buffer of the gates' gradients holds nothing at the first point only. -/
theorem fresh6 : ∀ t : Fin cfg0.N, cfg0.fresh 6 t.val = decide (t.val = 0) :=
  (by decide +kernel : ∀ t : Fin grid0.N, cfg0.fresh 6 t.val = decide (t.val = 0))

/-- One buffer of each result, through which its contents are stated. -/
abbrev V4 : View sig .tc .vmem S768x1024 .bf16 := (Memref.whole cc0_stg4_0 : Memref sig .tc .vmem S768x1024 .bf16).view
abbrev V5 : View sig .tc .vmem S768x2048 .bf16 := (Memref.whole cc0_stg5_0 : Memref sig .tc .vmem S768x2048 .bf16).view
abbrev V6 : View sig .tc .vmem S8x2048 .f32 := (Memref.whole cc0_stg6_0 : Memref sig .tc .vmem S8x2048 .f32).view

/-- The buffer of each array at a point. -/
abbrev s0 (t : Fin cfg0.N) : Memref sig .tc .vmem S768x2048 .f32 := win0_0.stage (cfg0.slots t 0)
abbrev s1 (t : Fin cfg0.N) : Memref sig .tc .vmem S768x2048 .bf16 := win0_1.stage (cfg0.slots t 1)
abbrev s2 (t : Fin cfg0.N) : Memref sig .tc .vmem S2x6x2048 .f32 := win0_2.stage (cfg0.slots t 2)
abbrev s3 (t : Fin cfg0.N) : Memref sig .tc .vmem S1024x2048 .bf16 := win0_3.stage (cfg0.slots t 3)
abbrev s4 (t : Fin cfg0.N) : Memref sig .tc .vmem S768x1024 .bf16 := win0_4.stage (cfg0.slots t 4)
abbrev s5 (t : Fin cfg0.N) : Memref sig .tc .vmem S768x2048 .bf16 := win0_5.stage (cfg0.slots t 5)
abbrev s6 (t : Fin cfg0.N) : Memref sig .tc .vmem S8x2048 .f32 := win0_6.stage (cfg0.slots t 6)

/-- Each is a whole buffer. -/
abbrev w0 (t : Fin cfg0.N) : (s0 t).IsWhole := hstage0_0 ((cfg0.slots t 0).cast nbuf0_0)
abbrev w1 (t : Fin cfg0.N) : (s1 t).IsWhole := hstage0_1 ((cfg0.slots t 1).cast nbuf0_1)
abbrev w2 (t : Fin cfg0.N) : (s2 t).IsWhole := hstage0_2 ((cfg0.slots t 2).cast nbuf0_2)
abbrev w3 (t : Fin cfg0.N) : (s3 t).IsWhole := hstage0_3 ((cfg0.slots t 3).cast nbuf0_3)
abbrev w4 (t : Fin cfg0.N) : (s4 t).IsWhole := hstage0_4 ((cfg0.slots t 4).cast nbuf0_4)
abbrev w5 (t : Fin cfg0.N) : (s5 t).IsWhole := hstage0_5 ((cfg0.slots t 5).cast nbuf0_5)
abbrev w6 (t : Fin cfg0.N) : (s6 t).IsWhole := hstage0_6 ((cfg0.slots t 6).cast nbuf0_6)

/-- The kernel's body at a point. -/
abbrev bodyAt (t : Fin cfg0.N) : Prog (TpuEff nD τ sig (Elt F) Λ₀ .tc) PUnit :=
  cc0_mixout_dgrad1 (grid0.coords t) (s0 t) (w0 t) (s1 t) (w1 t) (s2 t) (w2 t) (s3 t) (w3 t) (s4 t) (w4 t) (s5 t) (w5 t) (s6 t) (w6 t)

section
variable (c : Dev nD) (i : grid0.Coords)
  (a0 : Memref sig .tc .vmem S768x2048 .f32) (h0 : a0.IsWhole) (a1 : Memref sig .tc .vmem S768x2048 .bf16) (h1 : a1.IsWhole)
  (a2 : Memref sig .tc .vmem S2x6x2048 .f32) (h2 : a2.IsWhole) (a3 : Memref sig .tc .vmem S1024x2048 .bf16) (h3 : a3.IsWhole)
  (a4 : Memref sig .tc .vmem S768x1024 .bf16) (h4 : a4.IsWhole) (a5 : Memref sig .tc .vmem S768x2048 .bf16) (h5 : a5.IsWhole)
  (a6 : Memref sig .tc .vmem S8x2048 .f32) (h6 : a6.IsWhole)
  (x0 : Vec F S768x2048 .f32) (x1 : Vec F S768x2048 .bf16) (x2 : Vec F S2x6x2048 .f32) (x3 : Vec F S1024x2048 .bf16)

set_option maxHeartbeats 1000000 in
/-- The first point: whatever the results' buffers hold, the body runs, keeps its arguments and stores into all three results. The
    pieces it stores are found by running it. -/
def runA (hc0 : k0_cond1 i = 1#1) (hc1 : k0_cond2 i = 1#1) :
    Σ' (L4 : List (View.Piece (Elt F) S768x1024 .bf16)) (L5 : List (View.Piece (Elt F) S768x2048 .bf16)), { L6 : List (View.Piece (Elt F) S8x2048 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ (∃ d, owns (c : Thread nD τ) a4 fullShare d) ∗ (∃ d, owns (c : Thread nD τ) a5 fullShare d)
            ∗ (∃ d, owns (c : Thread nD τ) a6 fullShare d)
            ∗ (iprop(owns (c : Thread nD τ) a0 fullShare x0 ∗ owns (c : Thread nD τ) a1 fullShare x1 ∗ owns (c : Thread nD τ) a2 fullShare x2
              ∗ owns (c : Thread nD τ) a3 fullShare x3
              ∗ (∃ f, a4.view.loc (c : Thread nD τ) ↦[a4.view.set]{fullShare} a4.view.writes (Elt F) f L4)
              ∗ (∃ f, a5.view.loc (c : Thread nD τ) ↦[a5.view.set]{fullShare} a5.view.writes (Elt F) f L5)
              ∗ (∃ f, a6.view.loc (c : Thread nD τ) ↦[a6.view.set]{fullShare} a6.view.writes (Elt F) f L6)) -∗ K ⟨⟩))
          ⊢ wp frame (wpE (defs₀ (F := F)) Variants.none c none) E (cc0_mixout_dgrad1 i a0 h0 a1 h1 a2 h2 a3 h3 a4 h4 a5 h5 a6 h6) K } := by
  refine ⟨?_, ?_, ?_, fun E K => ?run⟩
  case run =>
    unfold cc0_mixout_dgrad1
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := h0.eq_unread hf0; obtain rfl := h1.eq_unread hf1; obtain rfl := h2.eq_unread hf2; obtain rfl := h3.eq_unread hf3
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexact H6

set_option maxHeartbeats 1000000 in
/-- The first part of a later tile: the same, over what the gates' gradients were. -/
def runB (hc0 : ¬k0_cond1 i = 1#1) (hc1 : k0_cond2 i = 1#1) (x6 : Vec F S8x2048 .f32) :
    Σ' (L4 : List (View.Piece (Elt F) S768x1024 .bf16)) (L5 : List (View.Piece (Elt F) S768x2048 .bf16)), { L6 : List (View.Piece (Elt F) S8x2048 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ (∃ d, owns (c : Thread nD τ) a4 fullShare d) ∗ (∃ d, owns (c : Thread nD τ) a5 fullShare d)
            ∗ owns (c : Thread nD τ) a6 fullShare x6
            ∗ (iprop(owns (c : Thread nD τ) a0 fullShare x0 ∗ owns (c : Thread nD τ) a1 fullShare x1 ∗ owns (c : Thread nD τ) a2 fullShare x2
              ∗ owns (c : Thread nD τ) a3 fullShare x3
              ∗ (∃ f, a4.view.loc (c : Thread nD τ) ↦[a4.view.set]{fullShare} a4.view.writes (Elt F) f L4)
              ∗ (∃ f, a5.view.loc (c : Thread nD τ) ↦[a5.view.set]{fullShare} a5.view.writes (Elt F) f L5)
              ∗ (∃ f, a6.view.loc (c : Thread nD τ) ↦[a6.view.set]{fullShare} a6.view.writes (Elt F) f L6)) -∗ K ⟨⟩))
          ⊢ wp frame (wpE (defs₀ (F := F)) Variants.none c none) E (cc0_mixout_dgrad1 i a0 h0 a1 h1 a2 h2 a3 h3 a4 h4 a5 h5 a6 h6) K } := by
  refine ⟨?_, ?_, ?_, fun E K => ?run⟩
  case run =>
    unfold cc0_mixout_dgrad1
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := h0.eq_unread hf0; obtain rfl := h1.eq_unread hf1; obtain rfl := h2.eq_unread hf2; obtain rfl := h3.eq_unread hf3
    obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexact H6

set_option maxHeartbeats 1000000 in
/-- A later part of a tile: the body reads the gradient of the product, stores into the first result and leaves the others. -/
def runC (hc0 : ¬k0_cond1 i = 1#1) (hc1 : ¬k0_cond2 i = 1#1) (x5 : Vec F S768x2048 .bf16) :
    { L4 : List (View.Piece (Elt F) S768x1024 .bf16) //
      ∀ (x6 : Vec F S8x2048 .f32) (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ (∃ d, owns (c : Thread nD τ) a4 fullShare d) ∗ owns (c : Thread nD τ) a5 fullShare x5
            ∗ owns (c : Thread nD τ) a6 fullShare x6
            ∗ (iprop(owns (c : Thread nD τ) a0 fullShare x0 ∗ owns (c : Thread nD τ) a1 fullShare x1 ∗ owns (c : Thread nD τ) a2 fullShare x2
              ∗ owns (c : Thread nD τ) a3 fullShare x3
              ∗ (∃ f, a4.view.loc (c : Thread nD τ) ↦[a4.view.set]{fullShare} a4.view.writes (Elt F) f L4)
              ∗ owns (c : Thread nD τ) a5 fullShare x5 ∗ owns (c : Thread nD τ) a6 fullShare x6) -∗ K ⟨⟩))
          ⊢ wp frame (wpE (defs₀ (F := F)) Variants.none c none) E (cc0_mixout_dgrad1 i a0 h0 a1 h1 a2 h2 a3 h3 a4 h4 a5 h5 a6 h6) K } := by
  refine ⟨?_, fun x6 E K => ?run⟩
  case run =>
    unfold cc0_mixout_dgrad1
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := h0.eq_unread hf0; obtain rfl := h1.eq_unread hf1; obtain rfl := h2.eq_unread hf2; obtain rfl := h3.eq_unread hf3
    obtain rfl := h5.eq_unread hf5; obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]
    · iexists _; isplitr; · ipureintro; exact h5.read_unread _
      iexact H5
    iexists _; isplitr; · ipureintro; exact h6.read_unread _
    iexact H6

/-! What each case leaves in the results' buffers: the pieces cover the buffer, so they are its contents. -/

theorem coverA4 (hc0 : k0_cond1 i = 1#1) (hc1 : k0_cond2 i = 1#1) (y : S768x1024.Idx) : ∃ pc ∈ (runA c i a0 h0 a1 h1 a2 h2 a3 h3 a4 h4 a5 h5 a6 h6 x0 x1 x2 x3 hc0 hc1).1, y ∈ pc.1.set :=
  View.cover_of_tiledL (runA c i a0 h0 a1 h1 a2 h2 a3 h3 a4 h4 a5 h5 a6 h6 x0 x1 x2 x3 hc0 hc1).1 S768x1024.size (by sl_kernel_rfl) y

/-- What the first point leaves in the first result's buffer. -/
def outA4 (hc0 : k0_cond1 i = 1#1) (hc1 : k0_cond2 i = 1#1) : Vec F S768x1024 .bf16 :=
  V4.read (Elt F) (V4.writes (Elt F) V4.junk (runA c i a0 h0 a1 h1 a2 h2 a3 h3 a4 h4 a5 h5 a6 h6 x0 x1 x2 x3 hc0 hc1).1)

theorem coverA5 (hc0 : k0_cond1 i = 1#1) (hc1 : k0_cond2 i = 1#1) (y : S768x2048.Idx) : ∃ pc ∈ (runA c i a0 h0 a1 h1 a2 h2 a3 h3 a4 h4 a5 h5 a6 h6 x0 x1 x2 x3 hc0 hc1).2.1, y ∈ pc.1.set :=
  View.cover_of_tiledL (runA c i a0 h0 a1 h1 a2 h2 a3 h3 a4 h4 a5 h5 a6 h6 x0 x1 x2 x3 hc0 hc1).2.1 S768x2048.size (by sl_kernel_rfl) y

/-- What the first point leaves in the gradient of the product's buffer. -/
def outA5 (hc0 : k0_cond1 i = 1#1) (hc1 : k0_cond2 i = 1#1) : Vec F S768x2048 .bf16 :=
  V5.read (Elt F) (V5.writes (Elt F) V5.junk (runA c i a0 h0 a1 h1 a2 h2 a3 h3 a4 h4 a5 h5 a6 h6 x0 x1 x2 x3 hc0 hc1).2.1)

theorem coverA6 (hc0 : k0_cond1 i = 1#1) (hc1 : k0_cond2 i = 1#1) (y : S8x2048.Idx) : ∃ pc ∈ (runA c i a0 h0 a1 h1 a2 h2 a3 h3 a4 h4 a5 h5 a6 h6 x0 x1 x2 x3 hc0 hc1).2.2.1, y ∈ pc.1.set :=
  View.cover_of_tiledL (runA c i a0 h0 a1 h1 a2 h2 a3 h3 a4 h4 a5 h5 a6 h6 x0 x1 x2 x3 hc0 hc1).2.2.1 S8x2048.size (by sl_kernel_rfl) y

/-- What the first point leaves in the gates' gradients's buffer. -/
def outA6 (hc0 : k0_cond1 i = 1#1) (hc1 : k0_cond2 i = 1#1) : Vec F S8x2048 .f32 :=
  V6.read (Elt F) (V6.writes (Elt F) V6.junk (runA c i a0 h0 a1 h1 a2 h2 a3 h3 a4 h4 a5 h5 a6 h6 x0 x1 x2 x3 hc0 hc1).2.2.1)

theorem coverB4 (hc0 : ¬k0_cond1 i = 1#1) (hc1 : k0_cond2 i = 1#1) (x6 : Vec F S8x2048 .f32) (y : S768x1024.Idx) : ∃ pc ∈ (runB c i a0 h0 a1 h1 a2 h2 a3 h3 a4 h4 a5 h5 a6 h6 x0 x1 x2 x3 hc0 hc1 x6).1, y ∈ pc.1.set :=
  View.cover_of_tiledL (runB c i a0 h0 a1 h1 a2 h2 a3 h3 a4 h4 a5 h5 a6 h6 x0 x1 x2 x3 hc0 hc1 x6).1 S768x1024.size (by sl_kernel_rfl) y

/-- What the first part of a later tile leaves in the first result's buffer. -/
def outB4 (hc0 : ¬k0_cond1 i = 1#1) (hc1 : k0_cond2 i = 1#1) (x6 : Vec F S8x2048 .f32) : Vec F S768x1024 .bf16 :=
  V4.read (Elt F) (V4.writes (Elt F) V4.junk (runB c i a0 h0 a1 h1 a2 h2 a3 h3 a4 h4 a5 h5 a6 h6 x0 x1 x2 x3 hc0 hc1 x6).1)

theorem coverB5 (hc0 : ¬k0_cond1 i = 1#1) (hc1 : k0_cond2 i = 1#1) (x6 : Vec F S8x2048 .f32) (y : S768x2048.Idx) : ∃ pc ∈ (runB c i a0 h0 a1 h1 a2 h2 a3 h3 a4 h4 a5 h5 a6 h6 x0 x1 x2 x3 hc0 hc1 x6).2.1, y ∈ pc.1.set :=
  View.cover_of_tiledL (runB c i a0 h0 a1 h1 a2 h2 a3 h3 a4 h4 a5 h5 a6 h6 x0 x1 x2 x3 hc0 hc1 x6).2.1 S768x2048.size (by sl_kernel_rfl) y

/-- What the first part of a later tile leaves in the gradient of the product's buffer. -/
def outB5 (hc0 : ¬k0_cond1 i = 1#1) (hc1 : k0_cond2 i = 1#1) (x6 : Vec F S8x2048 .f32) : Vec F S768x2048 .bf16 :=
  V5.read (Elt F) (V5.writes (Elt F) V5.junk (runB c i a0 h0 a1 h1 a2 h2 a3 h3 a4 h4 a5 h5 a6 h6 x0 x1 x2 x3 hc0 hc1 x6).2.1)

theorem coverB6 (hc0 : ¬k0_cond1 i = 1#1) (hc1 : k0_cond2 i = 1#1) (x6 : Vec F S8x2048 .f32) (y : S8x2048.Idx) : ∃ pc ∈ (runB c i a0 h0 a1 h1 a2 h2 a3 h3 a4 h4 a5 h5 a6 h6 x0 x1 x2 x3 hc0 hc1 x6).2.2.1, y ∈ pc.1.set :=
  View.cover_of_tiledL (runB c i a0 h0 a1 h1 a2 h2 a3 h3 a4 h4 a5 h5 a6 h6 x0 x1 x2 x3 hc0 hc1 x6).2.2.1 S8x2048.size (by sl_kernel_rfl) y

/-- What the first part of a later tile leaves in the gates' gradients's buffer. -/
def outB6 (hc0 : ¬k0_cond1 i = 1#1) (hc1 : k0_cond2 i = 1#1) (x6 : Vec F S8x2048 .f32) : Vec F S8x2048 .f32 :=
  V6.read (Elt F) (V6.writes (Elt F) V6.junk (runB c i a0 h0 a1 h1 a2 h2 a3 h3 a4 h4 a5 h5 a6 h6 x0 x1 x2 x3 hc0 hc1 x6).2.2.1)

theorem coverC4 (hc0 : ¬k0_cond1 i = 1#1) (hc1 : ¬k0_cond2 i = 1#1) (x5 : Vec F S768x2048 .bf16) (y : S768x1024.Idx) : ∃ pc ∈ (runC c i a0 h0 a1 h1 a2 h2 a3 h3 a4 h4 a5 h5 a6 h6 x0 x1 x2 x3 hc0 hc1 x5).1, y ∈ pc.1.set :=
  View.cover_of_tiledL (runC c i a0 h0 a1 h1 a2 h2 a3 h3 a4 h4 a5 h5 a6 h6 x0 x1 x2 x3 hc0 hc1 x5).1 S768x1024.size (by sl_kernel_rfl) y

/-- What a later part of a tile leaves in the first result's buffer. -/
def outC4 (hc0 : ¬k0_cond1 i = 1#1) (hc1 : ¬k0_cond2 i = 1#1) (x5 : Vec F S768x2048 .bf16) : Vec F S768x1024 .bf16 :=
  V4.read (Elt F) (V4.writes (Elt F) V4.junk (runC c i a0 h0 a1 h1 a2 h2 a3 h3 a4 h4 a5 h5 a6 h6 x0 x1 x2 x3 hc0 hc1 x5).1)

end

/-- The results' buffers after each point, in order. -/
def outsAt (c : Dev nD) : (n : ℕ) → n < cfg0.N → Vec F S768x1024 .bf16 × Vec F S768x2048 .bf16 × Vec F S8x2048 .f32
  | 0, hn => ⟨outA4 c (grid0.coords (⟨0, hn⟩ : Fin cfg0.N)) (s0 (⟨0, hn⟩ : Fin cfg0.N)) (w0 (⟨0, hn⟩ : Fin cfg0.N)) (s1 (⟨0, hn⟩ : Fin cfg0.N)) (w1 (⟨0, hn⟩ : Fin cfg0.N)) (s2 (⟨0, hn⟩ : Fin cfg0.N)) (w2 (⟨0, hn⟩ : Fin cfg0.N)) (s3 (⟨0, hn⟩ : Fin cfg0.N)) (w3 (⟨0, hn⟩ : Fin cfg0.N)) (s4 (⟨0, hn⟩ : Fin cfg0.N)) (w4 (⟨0, hn⟩ : Fin cfg0.N)) (s5 (⟨0, hn⟩ : Fin cfg0.N)) (w5 (⟨0, hn⟩ : Fin cfg0.N)) (s6 (⟨0, hn⟩ : Fin cfg0.N)) (w6 (⟨0, hn⟩ : Fin cfg0.N)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) ((first_iff (⟨0, hn⟩ : Fin cfg0.N)).mpr rfl) ((begin_iff (⟨0, hn⟩ : Fin cfg0.N)).mpr (Nat.zero_mod _)), outA5 c (grid0.coords (⟨0, hn⟩ : Fin cfg0.N)) (s0 (⟨0, hn⟩ : Fin cfg0.N)) (w0 (⟨0, hn⟩ : Fin cfg0.N)) (s1 (⟨0, hn⟩ : Fin cfg0.N)) (w1 (⟨0, hn⟩ : Fin cfg0.N)) (s2 (⟨0, hn⟩ : Fin cfg0.N)) (w2 (⟨0, hn⟩ : Fin cfg0.N)) (s3 (⟨0, hn⟩ : Fin cfg0.N)) (w3 (⟨0, hn⟩ : Fin cfg0.N)) (s4 (⟨0, hn⟩ : Fin cfg0.N)) (w4 (⟨0, hn⟩ : Fin cfg0.N)) (s5 (⟨0, hn⟩ : Fin cfg0.N)) (w5 (⟨0, hn⟩ : Fin cfg0.N)) (s6 (⟨0, hn⟩ : Fin cfg0.N)) (w6 (⟨0, hn⟩ : Fin cfg0.N)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) ((first_iff (⟨0, hn⟩ : Fin cfg0.N)).mpr rfl) ((begin_iff (⟨0, hn⟩ : Fin cfg0.N)).mpr (Nat.zero_mod _)), outA6 c (grid0.coords (⟨0, hn⟩ : Fin cfg0.N)) (s0 (⟨0, hn⟩ : Fin cfg0.N)) (w0 (⟨0, hn⟩ : Fin cfg0.N)) (s1 (⟨0, hn⟩ : Fin cfg0.N)) (w1 (⟨0, hn⟩ : Fin cfg0.N)) (s2 (⟨0, hn⟩ : Fin cfg0.N)) (w2 (⟨0, hn⟩ : Fin cfg0.N)) (s3 (⟨0, hn⟩ : Fin cfg0.N)) (w3 (⟨0, hn⟩ : Fin cfg0.N)) (s4 (⟨0, hn⟩ : Fin cfg0.N)) (w4 (⟨0, hn⟩ : Fin cfg0.N)) (s5 (⟨0, hn⟩ : Fin cfg0.N)) (w5 (⟨0, hn⟩ : Fin cfg0.N)) (s6 (⟨0, hn⟩ : Fin cfg0.N)) (w6 (⟨0, hn⟩ : Fin cfg0.N)) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) ((first_iff (⟨0, hn⟩ : Fin cfg0.N)).mpr rfl) ((begin_iff (⟨0, hn⟩ : Fin cfg0.N)).mpr (Nat.zero_mod _))⟩
  | n + 1, hn =>
    if h : (n + 1) % 2 = 0 then
      ⟨outB4 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) ((begin_iff (⟨n + 1, hn⟩ : Fin cfg0.N)).mpr h) (outsAt c n (Nat.lt_of_succ_lt hn)).2.2, outB5 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) ((begin_iff (⟨n + 1, hn⟩ : Fin cfg0.N)).mpr h) (outsAt c n (Nat.lt_of_succ_lt hn)).2.2, outB6 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) ((begin_iff (⟨n + 1, hn⟩ : Fin cfg0.N)).mpr h) (outsAt c n (Nat.lt_of_succ_lt hn)).2.2⟩
    else
      ⟨outC4 c (grid0.coords (⟨n + 1, hn⟩ : Fin cfg0.N)) (s0 (⟨n + 1, hn⟩ : Fin cfg0.N)) (w0 (⟨n + 1, hn⟩ : Fin cfg0.N)) (s1 (⟨n + 1, hn⟩ : Fin cfg0.N)) (w1 (⟨n + 1, hn⟩ : Fin cfg0.N)) (s2 (⟨n + 1, hn⟩ : Fin cfg0.N)) (w2 (⟨n + 1, hn⟩ : Fin cfg0.N)) (s3 (⟨n + 1, hn⟩ : Fin cfg0.N)) (w3 (⟨n + 1, hn⟩ : Fin cfg0.N)) (s4 (⟨n + 1, hn⟩ : Fin cfg0.N)) (w4 (⟨n + 1, hn⟩ : Fin cfg0.N)) (s5 (⟨n + 1, hn⟩ : Fin cfg0.N)) (w5 (⟨n + 1, hn⟩ : Fin cfg0.N)) (s6 (⟨n + 1, hn⟩ : Fin cfg0.N)) (w6 (⟨n + 1, hn⟩ : Fin cfg0.N)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (fun e => Nat.succ_ne_zero n ((first_iff (⟨n + 1, hn⟩ : Fin cfg0.N)).mp e)) (fun e => h ((begin_iff (⟨n + 1, hn⟩ : Fin cfg0.N)).mp e)) (outsAt c n (Nat.lt_of_succ_lt hn)).2.1, (outsAt c n (Nat.lt_of_succ_lt hn)).2.1, (outsAt c n (Nat.lt_of_succ_lt hn)).2.2⟩

/-- The buffers after the first point. -/
theorem outsAt_A (c : Dev nD) (t : Fin cfg0.N) (h : t.val = 0) (hr : t.val % 2 = 0) :
    outsAt m c t.val t.isLt = ⟨outA4 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) ((first_iff t).mpr h) ((begin_iff t).mpr hr), outA5 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) ((first_iff t).mpr h) ((begin_iff t).mpr hr), outA6 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) ((first_iff t).mpr h) ((begin_iff t).mpr hr)⟩ := by
  obtain ⟨n, hn⟩ := t
  cases n with
  | zero => rfl
  | succ n => exact absurd h (Nat.succ_ne_zero n)

/-- The buffers after the first part of a later tile. -/
theorem outsAt_B (c : Dev nD) (t : Fin cfg0.N) (h : ¬t.val = 0) (hr : t.val % 2 = 0) :
    outsAt m c t.val t.isLt = ⟨outB4 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) ((begin_iff t).mpr hr) (outsAt m c (t.val - 1) (Nat.lt_of_le_of_lt (Nat.sub_le _ _) t.isLt)).2.2, outB5 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) ((begin_iff t).mpr hr) (outsAt m c (t.val - 1) (Nat.lt_of_le_of_lt (Nat.sub_le _ _) t.isLt)).2.2, outB6 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) ((begin_iff t).mpr hr) (outsAt m c (t.val - 1) (Nat.lt_of_le_of_lt (Nat.sub_le _ _) t.isLt)).2.2⟩ := by
  obtain ⟨n, hn⟩ := t
  cases n with
  | zero => exact absurd rfl h
  | succ n => exact (dif_pos hr).trans rfl

/-- The buffers after a later part of a tile. -/
theorem outsAt_C (c : Dev nD) (t : Fin cfg0.N) (h : ¬t.val = 0) (hr : ¬t.val % 2 = 0) :
    outsAt m c t.val t.isLt = ⟨outC4 c (grid0.coords t) (s0 t) (w0 t) (s1 t) (w1 t) (s2 t) (w2 t) (s3 t) (w3 t) (s4 t) (w4 t) (s5 t) (w5 t) (s6 t) (w6 t) (iblk m c 0 t) (iblk m c 1 t) (iblk m c 2 t) (iblk m c 3 t) (fun e => h ((first_iff t).mp e)) (fun e => hr ((begin_iff t).mp e)) (outsAt m c (t.val - 1) (Nat.lt_of_le_of_lt (Nat.sub_le _ _) t.isLt)).2.1, (outsAt m c (t.val - 1) (Nat.lt_of_le_of_lt (Nat.sub_le _ _) t.isLt)).2⟩ := by
  obtain ⟨n, hn⟩ := t
  cases n with
  | zero => exact absurd rfl h
  | succ n => exact (dif_neg hr).trans rfl

/-- The proof data: the arguments' buffers hold their blocks, the results' what `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- Where a tile does not begin, the second result's buffer keeps its contents. -/
theorem carry5 (c : Dev nD) (t : Fin cfg0.N) (hr : ¬t.val % 2 = 0) :
    (dats m 0 c).after 5 t = (dats m 0 c).after 5 ⟨t.val - 1, Nat.lt_of_le_of_lt (Nat.sub_le _ _) t.isLt⟩ := by
  rw [after5, after5, outsAt_C m c t (fun h => hr (by rw [h])) hr]

/-- So does the third's. -/
theorem carry6 (c : Dev nD) (t : Fin cfg0.N) (hr : ¬t.val % 2 = 0) :
    (dats m 0 c).after 6 t = (dats m 0 c).after 6 ⟨t.val - 1, Nat.lt_of_le_of_lt (Nat.sub_le _ _) t.isLt⟩ := by
  rw [after6, after6, outsAt_C m c t (fun h => hr (by rw [h])) hr]

/-- What a later part of a tile finds in the second result's buffer. -/
theorem before5 (c : Dev nD) (t : Fin cfg0.N) (hr : ¬t.val % 2 = 0) (d) :
    (dats m 0 c).before 5 t d = (outsAt m c (t.val - 1) (Nat.lt_of_le_of_lt (Nat.sub_le _ _) t.isLt)).2.1 := by
  rw [Dat.before_out_traj (dats m 0 c) 5 rfl (fun _ _ => rfl) (fun t _ hi _ => carry5 m c t (by
    have h := (idle5 t).symm.trans hi; exact of_decide_eq_true h)) t.val t rfl d, fresh5 t, if_neg (by rw [decide_eq_false hr]; exact Bool.false_ne_true), after5]

/-- What a point after the first finds in the third result's buffer. -/
theorem before6 (c : Dev nD) (t : Fin cfg0.N) (hz : ¬t.val = 0) (d) :
    (dats m 0 c).before 6 t d = (outsAt m c (t.val - 1) (Nat.lt_of_le_of_lt (Nat.sub_le _ _) t.isLt)).2.2 := by
  rw [Dat.before_out_traj (dats m 0 c) 6 rfl (fun _ _ => rfl) (fun t _ hi _ => carry6 m c t (by
    have h := (idle6 t).symm.trans hi; exact of_decide_eq_true h)) t.val t rfl d, fresh6 t, if_neg (by rw [decide_eq_false hz]; exact Bool.false_ne_true), after6]

/-- A buffer left as it was found is what the proof data says, whether it is written back at the point or not. -/
theorem leaves_found (c : Dev nD) (w : Fin cfg0.W) (t : Fin cfg0.N) (hi : cfg0.idle w (grid0.coords t) = true)
    (hb : ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  rw [show cfg0.idle w (cfg0.grid.coords t) = true from hi]
  cases (cfg0.win w).flush t
  · dsimp only
    iintro H
    iexists ((dats m 0 c).after w t)
    rw [hb]
    iexact H
  · exact .rfl

/-- A buffer stored into is what the proof data says. -/
theorem leaves_stored (c : Dev nD) (w : Fin cfg0.W) (t : Fin cfg0.N) (hi : cfg0.idle w (grid0.coords t) = false) :
    ((dats m 0 c).leavesExact w t : sProp 𝕄) = owns (c : Thread nD τ) ((cfg0.win w).stage (cfg0.slots t w)) fullShare ((dats m 0 c).after w t) := by
  unfold Dat.leavesExact
  rw [show cfg0.idle w (cfg0.grid.coords t) = false from hi]

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d))
    ∗ (∃ d, owns (c : Thread nD τ) (s5 t) fullShare ((dats m 0 c).before 5 t d))
    ∗ (∃ d, owns (c : Thread nD τ) (s6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3]
  rw [show (dats m 0 c).Φ t.succ = (dats m 0 c).Φ t.castSucc from rfl,
    show (dats m 0 c).owesAt () t.succ = (dats m 0 c).owesAt () t.castSucc from rfl,
    leaves_stored m c 0 t rfl, leaves_stored m c 1 t rfl, leaves_stored m c 2 t rfl, leaves_stored m c 3 t rfl, leaves_stored m c 4 t rfl,
    after0, after1, after2, after3, after4]
  by_cases hr : t.val % 2 = 0
  · rw [leaves_stored m c 5 t ((idle5 t).trans (decide_eq_false fun h => h hr)), leaves_stored m c 6 t ((idle6 t).trans (decide_eq_false fun h => h hr)),
      after5, after6]
    by_cases hz : t.val = 0
    · rw [outsAt_A m c t hz hr]
      unfold outA4 outA5 outA6; dsimp only
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ (iblk m c 0 t) (iblk m c 1 t) (iblk m c 2 t) (iblk m c 3 t) ((first_iff t).mpr hz) ((begin_iff t).mpr hr)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverA4 c _ _ _ _ _ _ _ _ _ _ _ _ _ _ _ _ _ _ _ _ _)
      isplitl [H5]
      · unfold owns; iexists _; isplitr
        swap; · iexact H5
        ipureintro; exact View.read_writes_of_cover _ _ _ _ _ (coverA5 c _ _ _ _ _ _ _ _ _ _ _ _ _ _ _ _ _ _ _ _ _)
      unfold owns; iexists _; isplitr
      swap; · iexact H6
      ipureintro; exact View.read_writes_of_cover _ _ _ _ _ (coverA6 c _ _ _ _ _ _ _ _ _ _ _ _ _ _ _ _ _ _ _ _ _)
    · rw [outsAt_B m c t hz hr]
      simp only [before6 m c t hz]
      unfold outB4 outB5 outB6; dsimp only
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ (iblk m c 0 t) (iblk m c 1 t) (iblk m c 2 t) (iblk m c 3 t) (fun h => hz ((first_iff t).mp h)) ((begin_iff t).mpr hr) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB4 c _ _ _ _ _ _ _ _ _ _ _ _ _ _ _ _ _ _ _ _ _ _)
      isplitl [H5]
      · unfold owns; iexists _; isplitr
        swap; · iexact H5
        ipureintro; exact View.read_writes_of_cover _ _ _ _ _ (coverB5 c _ _ _ _ _ _ _ _ _ _ _ _ _ _ _ _ _ _ _ _ _ _)
      unfold owns; iexists _; isplitr
      swap; · iexact H6
      ipureintro; exact View.read_writes_of_cover _ _ _ _ _ (coverB6 c _ _ _ _ _ _ _ _ _ _ _ _ _ _ _ _ _ _ _ _ _ _)
  · have hz : ¬t.val = 0 := fun h => hr (by rw [h])
    have l5 := leaves_found m c 5 t ((idle5 t).trans (decide_eq_true hr)) (fun d => by rw [before5 m c t hr, carry5 m c t hr, after5])
    have l6 := leaves_found m c 6 t ((idle6 t).trans (decide_eq_true hr)) (fun d => by rw [before6 m c t hz, carry6 m c t hr, after6])
    rw [carry5 m c t hr, after5] at l5
    rw [carry6 m c t hr, after6] at l6
    rw [outsAt_C m c t hz hr]
    simp only [before5 m c t hr, before6 m c t hz]
    unfold outC4; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runC c (grid0.coords t) _ _ _ _ _ _ _ _ _ _ _ _ _ _ (iblk m c 0 t) (iblk m c 1 t) (iblk m c 2 t) (iblk m c 3 t) (fun h => hz ((first_iff t).mp h)) (fun h => hr ((begin_iff t).mp h)) _).2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverC4 c _ _ _ _ _ _ _ _ _ _ _ _ _ _ _ _ _ _ _ _ _ _)
    isplitl [H5]
    · iapply l5; iexact H5
    iapply l6; iexact H6

/-- The pipeline calls the body with the buffers above. -/
theorem defs₀_row (t : Fin cfg0.N) : defs₀ (F := F) .tc cfg0.body (cfg0.bodyArgs t (cfg0.slots t)) = bodyAt t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends with the arrays as the proof data says and no semaphore raised. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The program runs to its end and leaves its arguments as they were. -/
theorem unchanged_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

/-- The run with each result named. -/
theorem run : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, (h.1 c).1 6, h.2 c⟩)
    (θ_run_and (run_main m ρ) (frame_of m ρ (dats m) (A_eq m) (run_main m ρ)))

end Cert.MixoutDgrad

end
-- ==== Proof.MixoutDgrad.Rounding.lean ====
/- The gradient of the input of a mixer's output product, rounding as the device does. The program has the text of the one over exact
   numbers, so its run is the one of `Run.lean`, stated for any arithmetic. -/
module

public import proofs.«01_k».proof.Proof.MixoutDgrad.Run
public import proofs.«01_k».proof.Proof.Gen.Kernel16.Frame

@[expose] public section

set_option maxRecDepth 16384

namespace Cert.MixoutDgrad

open Idealize.ShloMosaic Idealize.ShloMosaic.TcCoe Idealize.SL.Sem Idealize.ShloMosaic.Rounds

variable {F : FTy → Type} [FloatOps F]

/-- The two programs' bodies are the same. -/
theorem same_body : Cert.Kernel16.defs₀ (F := F) = Cert.Kernel16Ideal.defs₀ (F := F) := by
  refine congrArg Defs.onTc (funext fun l => funext fun a => ?_)
  match l, a with
  | 0, (t, s) => rfl
  | ⟨_ + 1, h⟩, _ => exact absurd h (Nat.not_lt.2 (Nat.le_add_left _ _))

/-- So are the tables with the pipelines. -/
theorem same_table : Cert.Kernel16.defs (F := F) = Cert.Kernel16Ideal.defs (F := F) :=
  congrArg (Pipeline.defs Cert.Kernel16Ideal.pcfgs) same_body

/-- The program that rounds runs to its end and leaves its arguments as they were. -/
theorem unchanged_rounding (m : (ℓ : Loc Cert.Kernel16.nD Cert.Kernel16.τ Cert.Kernel16.sig) → Buf (Elt F) ℓ) (ρ : Dev Cert.Kernel16.nD → PrngReg) :
    θ_run (Cert.Kernel16.defs (F := F)) (onTc (τ := Cert.Kernel16.τ) (Cert.Kernel16.main (F := F))) ⟨m, fun _ => 0, ρ⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0) := by
  have h := unchanged_quiescent (F := F) m ρ
  rw [← same_table] at h
  exact h

end Cert.MixoutDgrad

end
-- ==== Proof.MixoutDgrad.Kernel.lean ====
/- The gradient of the input of a mixer's output product: what the kernel leaves in its three results. -/
module

public import proofs.«01_k».proof.Proof.MixoutDgrad.Run
public import proofs.«01_k».proof.Proof.Gate
public import Idealize.ShloMosaic.Lib.Pipeline.ValueKit
public import Idealize.ShloMosaic.Lib.Pipeline.ReadBack

@[expose] public section

set_option maxRecDepth 16384

noncomputable section

namespace Cert.MixoutDgrad

open Idealize.ShloMosaic Idealize.ShloMosaic.TcCoe Idealize.SL.Sem
open Cert.Kernel16Ideal Cert.Kernel16Ideal.Gen

/-- The first result: the gradient of the product's input, the gradient of the product times the rows of the weight. -/
def input (X : FVec Ideal (⟨2, ![8448, 2048]⟩ : Shape) .f32) (M : FVec Ideal (⟨3, ![2, 6, 2048]⟩ : Shape) .f32)
    (W : FVec Ideal (⟨2, ![2048, 2048]⟩ : Shape) .bf16) : FVec Ideal (⟨2, ![8448, 2048]⟩ : Shape) .bf16 :=
  fun x => ∑ n : Fin 2048, Gate.carried 2 X M (x 0) n * W (ix2 (x 1) n)

/-- The second result: the gradient of the product. -/
def branch (X : FVec Ideal (⟨2, ![8448, 2048]⟩ : Shape) .f32) (M : FVec Ideal (⟨3, ![2, 6, 2048]⟩ : Shape) .f32) :
    FVec Ideal (⟨2, ![8448, 2048]⟩ : Shape) .bf16 := fun x => Gate.carried 2 X M (x 0) (x 1)

variable (m : (ℓ : Loc nD τ sig) → Buf (Elt Ideal) ℓ) (c : Dev nD)

/-- Which block of each array a grid point works on. -/
theorem idx : ∀ t : Fin cfg0.N, win0_0.index t = ![t.val / 2, 0] ∧ win0_1.index t = ![t.val / 2, 0] ∧ win0_2.index t = ![0, 0, 0]
    ∧ win0_3.index t = ![t.val % 2, 0] ∧ win0_4.index t = ![t.val / 2, t.val % 2] ∧ win0_5.index t = ![t.val / 2, 0] ∧ win0_6.index t = ![0, 0] :=
  (by decide +kernel : ∀ t : Fin grid0.N, win0_0.index t = ![t.val / 2, 0] ∧ win0_1.index t = ![t.val / 2, 0] ∧ win0_2.index t = ![0, 0, 0]
    ∧ win0_3.index t = ![t.val % 2, 0] ∧ win0_4.index t = ![t.val / 2, t.val % 2] ∧ win0_5.index t = ![t.val / 2, 0] ∧ win0_6.index t = ![0, 0])

/-- The grid's first coordinate is the tile of tokens. -/
theorem coord : ∀ t : Fin cfg0.N, (grid0.coords t 0).val = t.val / 2 := (by decide +kernel : ∀ t : Fin grid0.N, (grid0.coords t 0).val = t.val / 2)

/-- Which element of the stream's gradient a grid point's block holds. -/
theorem stream_in (t : Fin cfg0.N) (i : Fin 768) (n : Fin 2048) (a : Fin 8448) (ha : a.val = t.val / 2 * 768 + i.val) :
    (show FVec Ideal S768x2048 .f32 from iblk m c 0 t) (ix2 i n) = (m ((c : Thread nD τ).loc main_arg0)) (ix2 a n) := by
  blk_point [iblk, V, idx t]

/-- The same of the product. -/
theorem product_in (t : Fin cfg0.N) (i : Fin 768) (n : Fin 2048) (a : Fin 8448) (ha : a.val = t.val / 2 * 768 + i.val) :
    (show FVec Ideal S768x2048 .bf16 from iblk m c 1 t) (ix2 i n) = (m ((c : Thread nD τ).loc main_arg1)) (ix2 a n) := by
  blk_point [iblk, V, idx t]

/-- The modulation is there whole. -/
theorem gate_in (t : Fin cfg0.N) (s : Fin 2) (r : Fin 6) (n : Fin 2048) :
    (show FVec Ideal S2x6x2048 .f32 from iblk m c 2 t) (ix3 s r n) = (m ((c : Thread nD τ).loc main_arg2)) (ix3 s r n) := by
  blk_point [iblk, V, idx t]

/-- Which element of the weight a grid point's block holds. -/
theorem weight_in (t : Fin cfg0.N) (k : Fin 1024) (n : Fin 2048) (a : Fin 2048) (ha : a.val = t.val % 2 * 1024 + k.val) :
    (show FVec Ideal S1024x2048 .bf16 from iblk m c 3 t) (ix2 k n) = (m ((c : Thread nD τ).loc main_arg3)) (ix2 a n) := by
  blk_point [iblk, V, idx t]

/-- The token a row of a tile is. -/
abbrev token (n : ℕ) (h : n < cfg0.N) (i : Fin 768) : Fin 8448 :=
  ⟨n / 2 * 768 + i.val, by have h1 : n < 22 := Nat.lt_of_lt_of_eq h N_0; have h2 := i.isLt; omega⟩

/-- The stored gradient of the product, entry by entry. -/
theorem fresh_at (t : Fin cfg0.N) (i : Fin 768) (n : Fin 2048) (g : EReal)
    (hg : g = (if (grid0.coords t 0).val * 768 + i.val < 256 then (show FVec Ideal S2x6x2048 .f32 from iblk m c 2 t) (ix3 0 2 n)
        else (show FVec Ideal S2x6x2048 .f32 from iblk m c 2 t) (ix3 1 2 n)) * (show FVec Ideal S768x2048 .f32 from iblk m c 0 t) (ix2 i n)) :
    g = Gate.carried 2 (m ((c : Thread nD τ).loc main_arg0)) (m ((c : Thread nD τ).loc main_arg2)) (token t.val t.isLt i) n := by
  rw [hg, coord t, gate_in m c t 0 2 n, gate_in m c t 1 2 n, stream_in m c t i n (token t.val t.isLt i) rfl]
  rfl

/-- The first point of a tile stores the gradient of the product at the tile. -/
theorem branch_begin (t : Fin cfg0.N) (hr : t.val % 2 = 0) (z : S768x2048.Idx) : ((outsAt m c t.val t.isLt).2.1 z : EReal)
    = Gate.carried 2 (m ((c : Thread nD τ).loc main_arg0)) (m ((c : Thread nD τ).loc main_arg2)) (token t.val t.isLt (z 0)) (z 1) := by
  have hz : (z 0).val < 768 := (z 0).isLt
  have hc : (grid0.coords t 0).val < 11 := (grid0.coords t 0).isLt
  refine fresh_at m c t (z 0) (z 1) _ ?_
  by_cases h : t.val = 0
  · rw [outsAt_A m c t h hr]
    frame_out
    pointwise []
    rw [Rows.mask 768 (grid0.coords t 0).val (z 0).val (by omega)]
  · rw [outsAt_B m c t h hr]
    frame_out
    pointwise []
    rw [Rows.mask 768 (grid0.coords t 0).val (z 0).val (by omega)]

/-- After every point the second result's buffer holds the gradient of the product at the point's tile. -/
theorem branch_at : ∀ (n : ℕ) (h : n < cfg0.N) (z : S768x2048.Idx), ((outsAt m c n h).2.1 z : EReal)
    = Gate.carried 2 (m ((c : Thread nD τ).loc main_arg0)) (m ((c : Thread nD τ).loc main_arg2)) (token n h (z 0)) (z 1) := by
  intro n
  induction n with
  | zero => exact fun h z => branch_begin m c ⟨0, h⟩ (Nat.zero_mod _) z
  | succ n ih =>
    intro h z
    by_cases hr : (n + 1) % 2 = 0
    · exact branch_begin m c ⟨n + 1, h⟩ hr z
    · rw [outsAt_C m c ⟨n + 1, h⟩ (Nat.succ_ne_zero n) hr]
      refine (ih (Nat.lt_of_succ_lt h) z).trans ?_
      refine congrArg (fun a => Gate.carried 2 _ _ a (z 1)) (Fin.ext ?_)
      show n / 2 * 768 + (z 0).val = (n + 1) / 2 * 768 + (z 0).val
      omega

/-- A tile of the first result is the product of a tile and a block of the weight. -/
theorem product_at (v : FVec Ideal S768x2048 .bf16) (w : FVec Ideal S1024x2048 .bf16) (y : S768x1024.Idx) :
    (truncf (F := Ideal) FTy.bf16 (matmul dot_S768x2048_S1024x2048_S768x1024_1_1_0_0_n_n none (shapeCast S768x2048 v shapeCasts_S768x2048_S768x2048) w
        (constant S768x1024 FTy.f32 0x00000000#32)) bitsLt_bf16_f32 y : EReal) = ∑ n : Fin 2048, v (ix2 (y 0) n) * w (ix2 (y 1) n) := by
  pointwise []

/-- At every point the first result's tile is the product of the second's buffer and the weight's block. -/
theorem input_at (t : Fin cfg0.N) (y : S768x1024.Idx) : ((outsAt m c t.val t.isLt).1 y : EReal)
    = ∑ n : Fin 2048, (outsAt m c t.val t.isLt).2.1 (ix2 (y 0) n) * (show FVec Ideal S1024x2048 .bf16 from iblk m c 3 t) (ix2 (y 1) n) := by
  by_cases hr : t.val % 2 = 0
  · by_cases h : t.val = 0
    · rw [outsAt_A m c t h hr]
      frame_out
      exact product_at _ _ y
    · rw [outsAt_B m c t h hr]
      frame_out
      exact product_at _ _ y
  · rw [outsAt_C m c t (fun h => hr (by rw [h])) hr]
    frame_out
    exact product_at _ _ y

/-- What a tile adds to the gates' gradients. -/
theorem share_at (t : Fin cfg0.N) (n : Fin 2048) (i : Fin 768) (a b : EReal)
    (ha : a = if (grid0.coords t 0).val * 768 + i.val < 256 then
        (show FVec Ideal S768x2048 .f32 from iblk m c 0 t) (ix2 i n) * (show FVec Ideal S768x2048 .bf16 from iblk m c 1 t) (ix2 i n) else 0)
    (hb : b = if (grid0.coords t 0).val * 768 + i.val < 256 then 0 else
        (show FVec Ideal S768x2048 .f32 from iblk m c 0 t) (ix2 i n) * (show FVec Ideal S768x2048 .bf16 from iblk m c 1 t) (ix2 i n)) :
    a = Gate.past (Gate.early (m ((c : Thread nD τ).loc main_arg0)) (m ((c : Thread nD τ).loc main_arg1)) n) (t.val / 2 * 768 + i.val)
      ∧ b = Gate.past (Gate.late (m ((c : Thread nD τ).loc main_arg0)) (m ((c : Thread nD τ).loc main_arg1)) n) (t.val / 2 * 768 + i.val) := by
  have hl : t.val / 2 * 768 + i.val < 8448 := (token t.val t.isLt i).isLt
  unfold Gate.past
  rw [dif_pos hl, dif_pos hl, ha, hb, coord t, stream_in m c t i n (token t.val t.isLt i) rfl, product_in m c t i n (token t.val t.isLt i) rfl]
  exact ⟨rfl, rfl⟩

/-- The gates' gradients over the first tiles. -/
def upto (q : ℕ) (u : S8x2048.Idx) : EReal :=
  ∑ s ∈ Finset.range q, Gate.rows (u 0).val (Gate.tile (Gate.early (m ((c : Thread nD τ).loc main_arg0)) (m ((c : Thread nD τ).loc main_arg1)) (u 1)) s)
    (Gate.tile (Gate.late (m ((c : Thread nD τ).loc main_arg0)) (m ((c : Thread nD τ).loc main_arg1)) (u 1)) s)

/-- The first point leaves the first tile's share. -/
theorem gates_first (t : Fin cfg0.N) (h : t.val = 0) (hr : t.val % 2 = 0) (q : ℕ) (hq : t.val / 2 = q) (u : S8x2048.Idx) :
    ((outsAt m c t.val t.isLt).2.2 u : EReal) = Gate.rows (u 0).val
      (Gate.tile (Gate.early (m ((c : Thread nD τ).loc main_arg0)) (m ((c : Thread nD τ).loc main_arg1)) (u 1)) q)
      (Gate.tile (Gate.late (m ((c : Thread nD τ).loc main_arg0)) (m ((c : Thread nD τ).loc main_arg1)) (u 1)) q) := by
  subst hq
  have hc : (grid0.coords t 0).val < 11 := (grid0.coords t 0).isLt
  rw [outsAt_A m c t h hr]
  frame_out
  pointwise []
  refine Eq.trans (congrArg₂ (· + ·) (Gate.row_mask (u 0) 0 (by omega) _ 0) (Gate.row_mask (u 0) 1 (by omega) _ 0)) ?_
  refine congrArg₂ (Gate.rows (u 0).val) (Finset.sum_congr rfl fun i _ => ?_) (Finset.sum_congr rfl fun i _ => ?_)
  · have hi : i.val < 768 := i.isLt
    exact (share_at m c t (u 1) i _ _ (Rows.mask 768 _ i.val (by omega) _ _) rfl).1
  · have hi : i.val < 768 := i.isLt
    exact (share_at m c t (u 1) i _ _ rfl (Rows.mask 768 _ i.val (by omega) _ _)).2

/-- The first point of a later tile adds the tile's share. -/
theorem gates_next (t : Fin cfg0.N) (h : ¬t.val = 0) (hr : t.val % 2 = 0) (q : ℕ) (hq : t.val / 2 = q) (u : S8x2048.Idx) :
    ((outsAt m c t.val t.isLt).2.2 u : EReal) = (outsAt m c (t.val - 1) (Nat.lt_of_le_of_lt (Nat.sub_le _ _) t.isLt)).2.2 u + Gate.rows (u 0).val
      (Gate.tile (Gate.early (m ((c : Thread nD τ).loc main_arg0)) (m ((c : Thread nD τ).loc main_arg1)) (u 1)) q)
      (Gate.tile (Gate.late (m ((c : Thread nD τ).loc main_arg0)) (m ((c : Thread nD τ).loc main_arg1)) (u 1)) q) := by
  subst hq
  have hc : (grid0.coords t 0).val < 11 := (grid0.coords t 0).isLt
  rw [outsAt_B m c t h hr]
  frame_out
  pointwise []
  refine congrArg (_ + ·) ?_
  refine Eq.trans (congrArg₂ (· + ·) (Gate.row_mask (u 0) 0 (by omega) _ 0) (Gate.row_mask (u 0) 1 (by omega) _ 0)) ?_
  refine congrArg₂ (Gate.rows (u 0).val) (Finset.sum_congr rfl fun i _ => ?_) (Finset.sum_congr rfl fun i _ => ?_)
  · have hi : i.val < 768 := i.isLt
    exact (share_at m c t (u 1) i _ _ (Rows.mask 768 _ i.val (by omega) _ _) rfl).1
  · have hi : i.val < 768 := i.isLt
    exact (share_at m c t (u 1) i _ _ rfl (Rows.mask 768 _ i.val (by omega) _ _)).2

/-- After every point the third result's buffer holds the gates' gradients over the tiles begun. -/
theorem gates_at : ∀ (n : ℕ) (h : n < cfg0.N) (u : S8x2048.Idx), ((outsAt m c n h).2.2 u : EReal) = upto m c (n / 2 + 1) u := by
  intro n
  induction n with
  | zero =>
    intro h u
    refine (gates_first m c ⟨0, h⟩ rfl (Nat.zero_mod _) 0 (Nat.zero_div _) u).trans ?_
    unfold upto
    rw [show (0 : ℕ) / 2 + 1 = 1 from rfl, Finset.sum_range_one]
  | succ n ih =>
    intro h u
    by_cases hr : (n + 1) % 2 = 0
    · refine (gates_next m c ⟨n + 1, h⟩ (Nat.succ_ne_zero n) hr (n / 2 + 1) (by show (n + 1) / 2 = n / 2 + 1; omega) u).trans ?_
      refine (congrArg (· + _) (ih (Nat.lt_of_succ_lt h) u)).trans ?_
      rw [show (n + 1) / 2 = n / 2 + 1 from by omega]
      unfold upto
      rw [Finset.sum_range_succ _ (n / 2 + 1)]
    · rw [outsAt_C m c ⟨n + 1, h⟩ (Nat.succ_ne_zero n) hr]
      refine (ih (Nat.lt_of_succ_lt h) u).trans ?_
      rw [show n / 2 = (n + 1) / 2 from by omega]

/-- Where an element of a tile sits in each result. -/
theorem place4 (t : Fin cfg0.N) (y : ((cfg0.win 4).xblock (cfg0.grid.coords t)).Idx) (i : Fin 8448) (n : Fin 2048)
    (hi : i.val = t.val / 2 * 768 + (y 0).val) (hn : n.val = t.val % 2 * 1024 + (y 1).val) (X : FVec Ideal S8448x2048 .bf16) :
    X (((View.whole main_v0_0).slice (win0_4.rect t)).emb y) = X (ix2 i n) := by
  blk_ext [idx t]

theorem place5 (t : Fin cfg0.N) (y : ((cfg0.win 5).xblock (cfg0.grid.coords t)).Idx) (i : Fin 8448) (n : Fin 2048)
    (hi : i.val = t.val / 2 * 768 + (y 0).val) (hn : n.val = (y 1).val) (X : FVec Ideal S8448x2048 .bf16) :
    X (((View.whole main_v0_1).slice (win0_5.rect t)).emb y) = X (ix2 i n) := by
  blk_ext [idx t]

theorem place6 (t : Fin cfg0.N) (y : ((cfg0.win 6).xblock (cfg0.grid.coords t)).Idx) (i : Fin 8) (n : Fin 2048)
    (hi : i.val = (y 0).val) (hn : n.val = (y 1).val) (X : FVec Ideal S8x2048 .f32) :
    X (((View.whole main_v0_2).slice (win0_6.rect t)).emb y) = X (ix2 i n) := by
  blk_ext [idx t]

/-- The first result is the gradient of the product's input. -/
theorem kernel_input : (dats m 0 c).arrAt 4 cfg0.N
    = input (m ((c : Thread nD τ).loc main_arg0)) (m ((c : Thread nD τ).loc main_arg2)) (m ((c : Thread nD τ).loc main_arg3)) := by
  refine (dats m 0 c).arrAt_eq_of_covers 4 _ (by decide +kernel) fun t hf y => ?_
  have ht : t.val < 22 := Nat.lt_of_lt_of_eq t.isLt N_0
  blk_simp
  rw [after4]
  have h1 : (y 0).val < 768 := (y 0).isLt
  have h2 : (y 1).val < 1024 := (y 1).isLt
  have key : (∑ n : Fin 2048, (outsAt m c t.val t.isLt).2.1 (ix2 ⟨(y 0).val, h1⟩ n) * (show FVec Ideal S1024x2048 .bf16 from iblk m c 3 t) (ix2 ⟨(y 1).val, h2⟩ n) : EReal)
      = input (m ((c : Thread nD τ).loc main_arg0)) (m ((c : Thread nD τ).loc main_arg2)) (m ((c : Thread nD τ).loc main_arg3))
        (ix2 (token t.val t.isLt ⟨(y 0).val, h1⟩) ⟨t.val % 2 * 1024 + (y 1).val, by omega⟩) :=
    Finset.sum_congr rfl fun n _ => Ideal.mul_congr (branch_at m c t.val t.isLt _) (weight_in m c t _ n _ rfl)
  exact ((input_at m c t _).trans key).trans (place4 t y _ _ rfl rfl
    (input (m ((c : Thread nD τ).loc main_arg0)) (m ((c : Thread nD τ).loc main_arg2)) (m ((c : Thread nD τ).loc main_arg3)))).symm

/-- The second is the gradient of the product. -/
theorem kernel_branch : (dats m 0 c).arrAt 5 cfg0.N = branch (m ((c : Thread nD τ).loc main_arg0)) (m ((c : Thread nD τ).loc main_arg2)) := by
  refine (dats m 0 c).arrAt_eq_of_covers 5 _ (by decide +kernel) fun t hf y => ?_
  have ht : t.val < 22 := Nat.lt_of_lt_of_eq t.isLt N_0
  blk_simp
  rw [after5]
  have h1 : (y 0).val < 768 := (y 0).isLt
  have h2 : (y 1).val < 2048 := (y 1).isLt
  exact Eq.trans (branch_at m c t.val t.isLt _) (place5 t y (token t.val t.isLt ⟨(y 0).val, h1⟩) ⟨(y 1).val, h2⟩ rfl rfl
    (branch (m ((c : Thread nD τ).loc main_arg0)) (m ((c : Thread nD τ).loc main_arg2)))).symm

/-- The third is the gates' gradients. -/
theorem kernel_gates : (dats m 0 c).arrAt 6 cfg0.N = Gate.gates (m ((c : Thread nD τ).loc main_arg0)) (m ((c : Thread nD τ).loc main_arg1)) := by
  refine (dats m 0 c).arrAt_eq_of_covers 6 _ (by decide +kernel) fun t hf y => ?_
  have ht : t.val < 22 := Nat.lt_of_lt_of_eq t.isLt N_0
  have h3 : t.val % 22 = 21 := (flush0_6 t).mp hf
  blk_simp
  rw [after6]
  have h1 : (y 0).val < 8 := (y 0).isLt
  have h2 : (y 1).val < 2048 := (y 1).isLt
  refine Eq.trans (gates_at m c t.val t.isLt _) (Eq.trans ?_ (place6 t y ⟨(y 0).val, h1⟩ ⟨(y 1).val, h2⟩ rfl rfl
    (Gate.gates (m ((c : Thread nD τ).loc main_arg0)) (m ((c : Thread nD τ).loc main_arg1)))).symm)
  rw [show t.val / 2 + 1 = 11 from by omega]
  unfold upto
  rw [Gate.rows_sum, Gate.tiles, Gate.tiles]
  rfl

end Cert.MixoutDgrad

end
-- ==== Proof.MixoutDgrad.Reference.lean ====
/- The gradient of the input of a mixer's output product: what the reference leaves in its three results. -/
module

public import proofs.«01_k».proof.Proof.Gen.Reference16Ideal.Read
public import proofs.«01_k».proof.Proof.Gate

@[expose] public section

set_option maxRecDepth 16384

noncomputable section

namespace Cert.MixoutDgrad.Ref

open Idealize.ShloMosaic Idealize.ShloMosaic.TcCoe Idealize.SL.Sem
open Cert.Reference16Ideal Cert.Reference16Ideal.Gen Cert.Reference16Ideal.Read

variable (X : FVec Ideal S8448x2048 .f32) (Y : FVec Ideal S8448x2048 .bf16) (M : FVec Ideal S2x6x2048 .f32) (W : FVec Ideal S2048x2048 .bf16)

/-- The gradient of the product: the two gates' parts, each padded to all tokens, added. -/
theorem carried_at (i : Fin 8448) (n : Fin 2048) : (val_main_v34 (F := Ideal) X M (ix2 i n) : EReal) = Gate.carried 2 X M i n := by
  obtain ⟨i, hi⟩ := i
  unfold Gate.carried Rows.pick
  pointwise [val_main_v34, val_main_v33, val_main_v28, val_main_v27, val_main_v24, val_main_v19, val_main_v18, val_main_v17, val_main_v16, val_main_v12,
    val_main_v10, val_main_v9, val_main_v6, val_main_v4, val_main_v3, val_main_v1, val_main_v0, val_main_cst_1, val_main_cst_5]
  by_cases h : i < 256
  · rw [dif_neg (by omega), dif_pos h, if_pos h, zero_add]
  · have e : 256 + (i - 256) = i := by omega
    rw [dif_pos (by omega), dif_neg h, if_neg h, add_zero]
    simp only [e]

/-- The second result is that, rounded. -/
theorem branch_at (x : S8448x2048.Idx) : (val_main_v43 (F := Ideal) X M x : EReal) = Gate.carried 2 X M (x 0) (x 1) := by
  refine Eq.trans ?_ (carried_at X M (x 0) (x 1))
  pointwise [val_main_v43]

/-- The first result: that times the rows of the weight, rounded. -/
theorem input_at (x : S8448x2048.Idx) : (val_main_v42 (F := Ideal) X M W x : EReal) = ∑ n : Fin 2048, Gate.carried 2 X M (x 0) n * W (ix2 (x 1) n) := by
  refine Eq.trans (b := (val_main_v41 (F := Ideal) X M W x : EReal)) (by pointwise [val_main_v42]) ?_
  refine (val_main_v41_apply X M W _).trans (Finset.sum_congr rfl fun s _ => Ideal.mul_congr ?_ ?_)
  · refine Eq.trans (congrArg (val_main_v34 (F := Ideal) X M) ?_) (carried_at X M (x 0) s)
    exact funext fun a => match a with
      | ⟨0, _⟩ => rfl
      | ⟨1, _⟩ => rfl
  · pointwise [val_main_v38]
    exact congrArg W (funext fun a => match a with
      | ⟨0, _⟩ => rfl
      | ⟨1, _⟩ => rfl)

/-- The latents' sum. -/
theorem late_at (n : Fin 2048) : (val_main_v23 (F := Ideal) X Y (ix1 n) : EReal) = ∑ i, Gate.late X Y n i := by
  refine (val_main_v23_apply X Y _).trans ?_
  refine Eq.trans (congrArg₂ (· + ·) (by pointwise [val_main_cst_0] : _ = (0 : EReal)) (Fin.sum_univ_one _)) ?_
  rw [zero_add]
  refine Eq.trans (b := (val_main_v21 (F := Ideal) X Y (ix1 n) : EReal)) (by pointwise [val_main_v22]; rfl) ?_
  refine (val_main_v21_apply X Y _).trans ?_
  refine Eq.trans (congrArg (· + _) (by pointwise [val_main_cst] : _ = (0 : EReal))) ?_
  rw [zero_add]
  refine Eq.trans ?_ (Sums.two 256 8192 rfl (Gate.late X Y n) (fun _ => 0) (fun k => X (ix2 ⟨256 + k.val, by omega⟩ n) * Y (ix2 ⟨256 + k.val, by omega⟩ n))
    (fun k => (if_pos k.isLt).symm) (fun k => (if_neg (by show ¬256 + k.val < 256; omega)).symm))
  rw [Finset.sum_const_zero, zero_add]
  refine Finset.sum_congr rfl fun k _ => ?_
  pointwise [val_main_v20, val_main_v17, val_main_v11, val_main_v2]

/-- The context's sum. -/
theorem early_at (n : Fin 2048) : (val_main_v32 (F := Ideal) X Y (ix1 n) : EReal) = ∑ i, Gate.early X Y n i := by
  refine (val_main_v32_apply X Y _).trans ?_
  refine Eq.trans (congrArg₂ (· + ·) (by pointwise [val_main_cst_4] : _ = (0 : EReal)) (Fin.sum_univ_one _)) ?_
  rw [zero_add]
  refine Eq.trans (b := (val_main_v30 (F := Ideal) X Y (ix1 n) : EReal)) (by pointwise [val_main_v31]; rfl) ?_
  refine (val_main_v30_apply X Y _).trans ?_
  refine Eq.trans (congrArg (· + _) (by pointwise [val_main_cst_3] : _ = (0 : EReal))) ?_
  rw [zero_add]
  refine Eq.trans ?_ (Sums.two 256 8192 rfl (Gate.early X Y n) (fun k => X (ix2 ⟨k.val, by omega⟩ n) * Y (ix2 ⟨k.val, by omega⟩ n)) (fun _ => 0)
    (fun k => (if_pos k.isLt).symm) (fun k => (if_neg (by show ¬256 + k.val < 256; omega)).symm))
  rw [Finset.sum_const_zero, add_zero]
  refine Finset.sum_congr rfl fun k _ => ?_
  pointwise [val_main_v29, val_main_v16, val_main_v5, val_main_v2]

/-- The third result: the gates' gradients. -/
theorem gates_at (r : Fin 8) (n : Fin 2048) : (val_main_v45 (F := Ideal) X Y (ix2 r n) : EReal) = Gate.gates X Y (ix2 r n) := by
  obtain ⟨r, hr⟩ := r
  unfold Gate.gates Gate.rows
  rw [show ∑ i, Gate.early X Y ((ix2 (⟨r, hr⟩ : Fin 8) n) 1) i = _ from (early_at X Y n).symm, show ∑ i, Gate.late X Y ((ix2 (⟨r, hr⟩ : Fin 8) n) 1) i = _ from (late_at X Y n).symm]
  pointwise [val_main_v45, val_main_v44, val_main_v37, val_main_v36, val_main_v35, val_main_v26, val_main_v25, val_main_cst_2, val_main_cst_6, val_main_cst_8]
  by_cases h0 : r = 0
  · subst h0; simp
  · by_cases h1 : r = 1
    · subst h1; simp
    · rw [dif_neg (by omega)]
      exact (add_zero (0 : EReal)).symm.trans (congrArg₂ (· + ·) (if_neg h0).symm (if_neg h1).symm)

end Cert.MixoutDgrad.Ref

end
-- ==== Proof.MixoutDgrad.Claims.lean ====
/- The claims about the gradient of the input of the mixing part's output product and of its gates. -/
module

public import proofs.«01_k».proof.Defs
public import proofs.«01_k».proof.Proof.MixoutDgrad.Rounding
public import proofs.«01_k».proof.Proof.MixoutDgrad.Kernel
public import proofs.«01_k».proof.Proof.MixoutDgrad.Reference

@[expose] public section

set_option maxRecDepth 16384

noncomputable section

namespace Cert.MixoutDgrad

open Idealize.ShloMosaic Idealize.SL.Sem

/-- The kernel, rounding as the device does, runs to its end and leaves its arguments as they were. -/
theorem frame_kernel : Cert.quiescent_Kernel16 (hKernel16 := Cert.Kernel16.Gen.facts) := fun m ρ _ => unchanged_rounding m ρ

/-- The same of the kernel over exact numbers. -/
theorem frame_ideal : Cert.quiescent_Kernel16Ideal (hKernel16Ideal := Cert.Kernel16Ideal.Gen.facts) := fun m ρ _ => unchanged_quiescent m ρ

/-- The same of the reference, which is host code and holds no semaphore. -/
theorem frame_reference : Cert.quiescent_Reference16Ideal (hReference16Ideal := Cert.Reference16Ideal.Gen.facts) := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- Over exact numbers the kernel's three results are the reference's: `input`, `branch` and `Gate.gates` of the arguments. -/
theorem algebraic : Cert.algebraic_Kernel16Ideal_Reference16Ideal (hKernel16Ideal := Cert.Kernel16Ideal.Gen.facts)
    (hReference16Ideal := Cert.Reference16Ideal.Gen.facts) := by
  intro m g m' g' _ hargs
  refine ⟨fun c => (dats m 0 c).arrAt 4 Cert.Kernel16Ideal.cfg0.N, fun c => (dats m 0 c).arrAt 5 Cert.Kernel16Ideal.cfg0.N,
    fun c => (dats m 0 c).arrAt 6 Cert.Kernel16Ideal.cfg0.N, run m g, ?_⟩
  refine (θ_run Cert.Reference16Ideal.defs _ _).mono (fun r h c => ?_) (Cert.Reference16Ideal.Value.run (F := Ideal) m' g')
  obtain ⟨h0, h1, h2, hk⟩ := h c
  obtain ⟨a0, a1, a2, a3⟩ := hargs c
  refine ⟨?_, ?_, ?_, hk⟩
  · refine h0.trans ((Cert.Reference16Ideal.Read.val_main_v42_eq _ _ _).trans ?_)
    refine (funext fun x => Ref.input_at _ _ _ x : _ = input _ _ _).trans (Eq.trans ?_ (kernel_input m c).symm)
    exact congr (congr (congrArg input a0) a2) a3
  · refine h1.trans ((Cert.Reference16Ideal.Read.val_main_v43_eq _ _).trans ?_)
    refine (funext fun x => Ref.branch_at _ _ x : _ = branch _ _).trans (Eq.trans ?_ (kernel_branch m c).symm)
    exact congr (congrArg branch a0) a2
  · refine h2.trans ((Cert.Reference16Ideal.Read.val_main_v45_eq _ _).trans ?_)
    refine (funext fun x => (congrArg _ (eq_ix2 x)).trans ((Ref.gates_at _ _ (x 0) (x 1)).trans (congrArg _ (eq_ix2 x).symm)) : _ = Gate.gates _ _).trans
      (Eq.trans ?_ (kernel_gates m c).symm)
    exact congr (congrArg Gate.gates a0) a1

end Cert.MixoutDgrad

end
-- ==== Proof.AdaGrad.Reference.lean ====
/- The gradient of the modulation's map: the two gradients, and that the reference leaves them in its results. -/
module

public import proofs.«01_k».proof.Proof.Gen.Reference17Ideal.Read
public import Idealize.ShloMosaic.Lib.Pipeline.ValueKit

@[expose] public section

set_option maxRecDepth 16384

noncomputable section

namespace Cert.AdaGrad

open Idealize.ShloMosaic Idealize.ShloMosaic.TcCoe Idealize.SL.Sem
open Cert.Reference17Ideal Cert.Reference17Ideal.Gen Cert.Reference17Ideal.Read

/-- The activation: `x` times the sigmoid of `x`. -/
def silu (x : EReal) : EReal :=
  x * Ideal.div (Ideal.ofBits FTy.f32 0x3F800000#32) (Ideal.ofBits FTy.f32 0x3F800000#32 + Ideal.exp (-x))

/-- The gradient of each layer's map: activation times the columns' gradient, summed over the sixteen rows. -/
def grad_map (X : FVec Ideal (⟨2, ![16, 2048]⟩ : Shape) .f32) (D : FVec Ideal (⟨3, ![4, 16, 1536]⟩ : Shape) .f32) :
    FVec Ideal (⟨3, ![4, 2048, 1536]⟩ : Shape) .f32 :=
  fun x => ∑ b : Fin 16, silu (X (ix2 b (x 1))) * D (ix3 (x 0) b (x 2))

/-- The gradient of the activation: the columns' gradient through every layer's map, summed over the layers. -/
def grad_act (D : FVec Ideal (⟨3, ![4, 16, 1536]⟩ : Shape) .f32) (W : FVec Ideal (⟨3, ![4, 2048, 1536]⟩ : Shape) .f32) :
    FVec Ideal (⟨2, ![16, 2048]⟩ : Shape) .f32 :=
  fun x => ∑ l : Fin 4, ∑ n : Fin 1536, D (ix3 l (x 0) n) * W (ix3 l (x 1) n)

/-- The reference's activation at an index. -/
theorem Ref.silu_at (X : FVec Ideal S16x2048 .f32) (x : S16x2048.Idx) : (val_main_v0 (F := Ideal) X x : EReal) = silu (X x) := by
  pointwise [val_main_v0, val_main_call0_v5, val_main_call0_v4, val_main_call0_cst_0, val_main_call0_v3, val_main_call0_v2, val_main_call0_cst,
    val_main_call0_v1, val_main_call0_v0, silu]

/-- The reference's first result is the gradient of the map. -/
theorem Ref.grad_map (X : FVec Ideal S16x2048 .f32) (D : FVec Ideal S4x16x1536 .f32) : val_main_v4 (F := Ideal) X D = AdaGrad.grad_map X D := by
  funext x
  refine (val_main_v4_apply (F := Ideal) X D x).trans ((val_main_v3_apply X D _).trans ?_)
  refine Finset.sum_congr rfl fun b _ => ?_
  refine (mul_comm _ _).trans (Ideal.mul_congr ?_ ?_)
  · refine (val_main_v1_apply (F := Ideal) X _).trans ((Ref.silu_at X _).trans (congrArg (fun i => silu (X i)) (funext fun a => match a with
      | ⟨0, _⟩ => rfl
      | ⟨1, _⟩ => rfl)))
  · exact congrArg D (funext fun a => match a with
      | ⟨0, _⟩ => rfl
      | ⟨1, _⟩ => rfl
      | ⟨2, _⟩ => rfl)

/-- The reference's second result is the gradient of the activation. -/
theorem Ref.grad_act (D : FVec Ideal S4x16x1536 .f32) (W : FVec Ideal S4x2048x1536 .f32) : val_main_v6 (F := Ideal) D W = AdaGrad.grad_act D W := by
  funext x
  refine (val_main_v6_apply D W x).trans ?_
  refine Eq.trans ?_ (zero_add _)
  refine Ideal.add_congr ?_ (Finset.sum_congr rfl fun l _ => ?_)
  · pointwise [val_main_cst]
  · refine (val_main_v5_apply D W _).trans (Finset.sum_congr rfl fun n _ => Ideal.mul_congr ?_ ?_)
    · exact congrArg D (funext fun a => match a with
        | ⟨0, _⟩ => rfl
        | ⟨1, _⟩ => rfl
        | ⟨2, _⟩ => rfl)
    · exact congrArg W (funext fun a => match a with
        | ⟨0, _⟩ => rfl
        | ⟨1, _⟩ => rfl
        | ⟨2, _⟩ => rfl)

end Cert.AdaGrad

end
-- ==== Proof.AdaGrad.Kernel.lean ====
/- The gradient of the modulation's map: what the kernel leaves in its two results. The grid walks the four layers and, in each,
   three tiles of 512 columns. Every point writes its own tile of the map's gradient; the activation's gradient is summed over
   all twelve points. -/
module

public import proofs.«01_k».proof.Proof.Gen.Kernel17Ideal.Value
public import proofs.«01_k».proof.Proof.AdaGrad.Reference
public import Idealize.ShloMosaic.Lib.Pipeline.ValueKit
public import Idealize.ShloMosaic.Lib.Pipeline.ReadBack

@[expose] public section

set_option maxRecDepth 16384

noncomputable section

namespace Cert.AdaGrad

open Idealize.ShloMosaic Idealize.ShloMosaic.TcCoe Idealize.SL.Sem
open Cert.Kernel17Ideal Cert.Kernel17Ideal.Gen

variable (m : (ℓ : Loc nD τ sig) → Buf (Elt Ideal) ℓ) (c : Dev nD)

/-- Which block of each array a grid point works on. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] ∧ win0_4.index t = ![0, 0] :=
  (by decide +kernel : ∀ t : Fin grid0.N, win0_0.index t = ![0, 0] ∧ win0_1.index t = ![t.val / 3, 0, t.val % 3]
    ∧ win0_2.index t = ![t.val / 3, 0, t.val % 3] ∧ win0_3.index t = ![t.val / 3, 0, t.val % 3] ∧ win0_4.index t = ![0, 0])

/-- An entry of the activation's argument, of a tile of the columns' gradient, of a tile of the map. -/
theorem cond_at (t : Fin cfg0.N) (b : Fin 16) (i : Fin 2048) :
    (iblk m c 0 t) (ix2 b i) = m ((c : Thread nD τ).loc main_arg0) (ix2 b i) := by
  blk_point [iblk, V, idx t]
theorem cols_at (t : Fin cfg0.N) (b : Fin 16) (k : Fin 512) (l : Fin 4) (n : Fin 1536) (hl : l.val = t.val / 3) (hn : n.val = t.val % 3 * 512 + k.val) :
    (iblk m c 1 t) (ix3 0 b k) = m ((c : Thread nD τ).loc main_arg1) (ix3 l b n) := by
  blk_point [iblk, V, idx t]
theorem map_at (t : Fin cfg0.N) (i : Fin 2048) (k : Fin 512) (l : Fin 4) (n : Fin 1536) (hl : l.val = t.val / 3) (hn : n.val = t.val % 3 * 512 + k.val) :
    (iblk m c 2 t) (ix3 0 i k) = m ((c : Thread nD τ).loc main_arg2) (ix3 l i n) := by
  blk_point [iblk, V, idx t]

/-- The kernel's spelling of the activation. -/
theorem silu_eq (x : EReal) :
    x * Ideal.div (Ideal.ofBits FTy.f32 0x3F800000#32) (Ideal.ofBits FTy.f32 0x3F800000#32 + Ideal.exp (0 - x)) = silu x := by
  rw [zero_sub]; rfl

/-- A tile of the map's gradient. -/
theorem dw_at (X : FVec Ideal S16x2048 .f32) (D : FVec Ideal S1x16x512 .f32) (y : S1x2048x512.Idx) :
    (k0_pay3 (F := Ideal) X D y : EReal) = ∑ b : Fin 16, silu (X (ix2 b (y 1))) * D (ix3 0 b (y 2)) := by
  simp only [← silu_eq]
  pointwise [k0_pay3, k0_pay2]

/-- The activation's gradient starts at zero. -/
theorem zero_at (j) : k0_pay1 (F := Ideal) j = 0 := by pointwise [k0_pay1]

/-- What a grid point adds to the activation's gradient. -/
theorem da_at (D : FVec Ideal S1x16x512 .f32) (A : FVec Ideal S16x2048 .f32) (W : FVec Ideal S1x2048x512 .f32) (j : S16x2048.Idx) :
    (k0_pay4 (F := Ideal) D A W j : EReal) = A j + ∑ k : Fin 512, D (ix3 0 (j 0) k) * W (ix3 0 (j 1) k) := by
  pointwise [k0_pay4, k0_pay2]

/-- Where an element of a tile sits in the first result. -/
theorem place (t : Fin cfg0.N) (y : ((cfg0.win 3).xblock (cfg0.grid.coords t)).Idx) (l : Fin 4) (i : Fin 2048) (n : Fin 1536)
    (hl : l.val = t.val / 3) (hi : i.val = (y 1).val) (hn : n.val = t.val % 3 * 512 + (y 2).val) (X : FVec Ideal S4x2048x1536 .f32) :
    X (((View.whole main_v0_0).slice (win0_3.rect t)).emb y) = X (ix3 l i n) := by
  have h0 : (y 0).val < 1 := (y 0).isLt
  blk_ext [idx t]

/-- Where an element of the one block of the second result sits: at its own place. -/
theorem place_acc (t : Fin cfg0.N) (y : ((cfg0.win 4).xblock (cfg0.grid.coords t)).Idx) (X : FVec Ideal S16x2048 .f32) :
    X ((win0_4.blk t).view.emb y) = X (ix2 (y 0) (y 1)) := by
  blk_ext [idx t]

/-- The first result is the gradient of the map. -/
theorem kernel_grad_map : (dats m 0 c).arrAt 3 cfg0.N
    = grad_map (m ((c : Thread nD τ).loc main_arg0)) (m ((c : Thread nD τ).loc main_arg1)) := by
  refine (dats m 0 c).arrAt_eq_of_covers 3 _ (by decide +kernel) fun t hf y => ?_
  blk_simp
  rw [after0_3]
  have ht : t.val < 12 := Nat.lt_of_lt_of_eq t.isLt N_0
  have h2 : (y 2).val < 512 := (y 2).isLt
  refine Eq.trans ?_ (place t y ⟨t.val / 3, by omega⟩ ⟨(y 1).val, (y 1).isLt⟩ ⟨t.val % 3 * 512 + (y 2).val, by omega⟩ rfl rfl rfl _).symm
  have key : (k0_pay3 (F := Ideal) (iblk m c 0 t) (iblk m c 1 t) y : EReal)
      = grad_map (m ((c : Thread nD τ).loc main_arg0)) (m ((c : Thread nD τ).loc main_arg1))
        (ix3 ⟨t.val / 3, by omega⟩ ⟨(y 1).val, (y 1).isLt⟩ ⟨t.val % 3 * 512 + (y 2).val, by omega⟩) := by
    refine (dw_at _ _ y).trans ?_
    exact Finset.sum_congr rfl fun b _ => Ideal.mul_congr (congrArg silu (cond_at m c t b _)) (cols_at m c t b _ _ _ rfl rfl)
  by_cases h0 : t.val % 12 = 0
  · rw [outsAt0_A m c t h0]
    frame_out
    exact key
  · rw [outsAt0_B m c t h0]
    frame_out
    exact key

/-- What a grid point adds, of its blocks. -/
def part (t : Fin cfg0.N) : FVec Ideal S16x2048 .f32 := fun j =>
  ∑ k : Fin 512, (show FVec Ideal S1x16x512 .f32 from iblk m c 1 t) (ix3 0 (j 0) k) * (show FVec Ideal S1x2048x512 .f32 from iblk m c 2 t) (ix3 0 (j 1) k)

/-- The second result is the gradient of the activation. -/
theorem kernel_grad_act : (dats m 0 c).arrAt 4 cfg0.N
    = grad_act (m ((c : Thread nD τ).loc main_arg1)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 12 (fun _ => 0) (part m c)
    (fun t h j => by
      rw [outsAt0_A m c t h]; frame_out
      rw [da_at, zero_at]; rfl)
    (fun t h j => by
      rw [outsAt0_B m c t h]; frame_out
      rw [da_at]; rfl)
    t ((flush0_4 t).mp hf) _, zero_add]
  have ht : t.val < 12 := Nat.lt_of_lt_of_eq t.isLt N_0
  refine Eq.trans ?_ (place_acc t y _).symm
  unfold grad_act
  rw [Fin.sum_univ_tiles 4 3 rfl]
  refine (Finset.sum_congr rfl fun l _ => ?_ : (∑ l : Fin 4, _ : EReal) = ∑ l : Fin 4, _)
  refine Eq.trans ?_ (Fin.sum_univ_tiles (M := EReal) 3 512 rfl _).symm
  refine (Finset.sum_congr rfl fun j _ => Finset.sum_congr rfl fun k _ => ?_ : (∑ j : Fin 3, ∑ k : Fin 512, _ : EReal) = ∑ j : Fin 3, ∑ k : Fin 512, _)
  have hl := l.isLt
  have hj := j.isLt
  have hf' := (flush0_4 t).mp hf
  refine Ideal.mul_congr ?_ ?_
  · exact cols_at m c ⟨12 * (t.val / 12) + (l.val * 3 + j.val), Nat.lt_of_lt_of_eq (by omega) N_0.symm⟩ _ k l ⟨j.val * 512 + k.val, by omega⟩
      (by show l.val = (12 * (t.val / 12) + (l.val * 3 + j.val)) / 3; omega)
      (by show j.val * 512 + k.val = (12 * (t.val / 12) + (l.val * 3 + j.val)) % 3 * 512 + k.val; omega)
  · exact map_at m c ⟨12 * (t.val / 12) + (l.val * 3 + j.val), Nat.lt_of_lt_of_eq (by omega) N_0.symm⟩ _ k l ⟨j.val * 512 + k.val, by omega⟩
      (by show l.val = (12 * (t.val / 12) + (l.val * 3 + j.val)) / 3; omega)
      (by show j.val * 512 + k.val = (12 * (t.val / 12) + (l.val * 3 + j.val)) % 3 * 512 + k.val; omega)

end Cert.AdaGrad

end
-- ==== Proof.AdaGrad.Claims.lean ====
/- The claims about the gradient of the modulation's map. -/
module

public import proofs.«01_k».proof.Defs
public import proofs.«01_k».proof.Proof.Gen.Kernel17.Frame
public import proofs.«01_k».proof.Proof.AdaGrad.Kernel
public import proofs.«01_k».proof.Proof.AdaGrad.Reference

@[expose] public section

set_option maxRecDepth 16384

noncomputable section

namespace Cert.AdaGrad

open Idealize.ShloMosaic Idealize.SL.Sem

/-- The kernel, rounding as the device does, runs to its end and leaves its arguments as they were. -/
theorem frame_kernel : Cert.quiescent_Kernel17 (hKernel17 := Cert.Kernel17.Gen.facts) := fun m ρ _ => Cert.Kernel17.Gen.frame m ρ

/-- The same of the kernel over exact numbers. -/
theorem frame_ideal : Cert.quiescent_Kernel17Ideal (hKernel17Ideal := Cert.Kernel17Ideal.Gen.facts) :=
  fun m ρ _ => Cert.Kernel17Ideal.Gen.frame m ρ

/-- The same of the reference, which is host code and holds no semaphore. -/
theorem frame_reference : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- Over exact numbers the kernel's results are the reference's: both are the gradients of the map and of the activations. -/
theorem algebraic : Cert.algebraic_Kernel17Ideal_Reference17Ideal (hKernel17Ideal := Cert.Kernel17Ideal.Gen.facts)
    (hReference17Ideal := Cert.Reference17Ideal.Gen.facts) := by
  intro m g m' g' _ hargs
  refine ⟨fun c => (Cert.Kernel17Ideal.Gen.dats m 0 c).arrAt 3 Cert.Kernel17Ideal.cfg0.N,
    fun c => (Cert.Kernel17Ideal.Gen.dats m 0 c).arrAt 4 Cert.Kernel17Ideal.cfg0.N,
    Cert.Kernel17Ideal.Value.run_blocks m g, ?_⟩
  refine (θ_run Cert.Reference17Ideal.defs _ _).mono (fun r h c => ?_) (Cert.Reference17Ideal.Value.run (F := Ideal) m' g')
  obtain ⟨h0, h1, hk⟩ := h c
  obtain ⟨a0, a1, a2⟩ := hargs c
  refine ⟨?_, ?_, hk⟩
  · refine h0.trans ((Cert.Reference17Ideal.Read.val_main_v4_eq _ _).trans ?_)
    refine (Ref.grad_map _ _).trans (Eq.trans ?_ (kernel_grad_map m c).symm)
    exact congr (congrArg grad_map a0) a1
  · refine h1.trans ((Cert.Reference17Ideal.Read.val_main_v6_eq _ _).trans ?_)
    refine (Ref.grad_act _ _).trans (Eq.trans ?_ (kernel_grad_act m c).symm)
    exact congr (congrArg grad_act a1) a2

end Cert.AdaGrad

end
-- ==== Proof.Adam.lean ====
/- AdamW's update of one entry: the two moments and the step. The constants are the printed ones. -/
module

public import Idealize.ShloMosaic.Lib.Pipeline.ValueKit

@[expose] public section

noncomputable section

namespace Cert.Adam

open Idealize.ShloMosaic

/-- The first moment: nine tenths of the old one and a tenth of the gradient. -/
def first (g m : EReal) : EReal := Ideal.ofBits FTy.f32 0x3F666666#32 * m + Ideal.ofBits FTy.f32 0x3DCCCCCD#32 * g

/-- The second moment: the same of the gradient's square, with 0.999 and 0.001. -/
def second (g v : EReal) : EReal := Ideal.ofBits FTy.f32 0x3F7FBE77#32 * v + Ideal.ofBits FTy.f32 0x3A83126F#32 * (g * g)

/-- The step: the corrected first moment over the root of the corrected second, and the weight's decay, times minus the rate. -/
def step (w g m v : EReal) : EReal :=
  Ideal.ofBits FTy.f32 0xBA83126F#32
    * (Ideal.div (Ideal.div (first g m) (Ideal.ofBits FTy.f32 0x3F26BD02#32))
        (Ideal.sqrt (Ideal.div (second g v) (Ideal.ofBits FTy.f32 0x3C231ACC#32)) + Ideal.ofBits FTy.f32 0x322BCC77#32)
      + Ideal.ofBits FTy.f32 0x3C23D70A#32 * w)

end Cert.Adam

end
-- ==== Proof.AdamAda.Kernel.lean ====
/- The update of the modulation's map: what the kernel leaves in its three results. Every grid point updates 256 rows of one layer. -/
module

public import proofs.«01_k».proof.Proof.Gen.Kernel18Ideal.Value
public import proofs.«01_k».proof.Proof.Adam

@[expose] public section

set_option maxRecDepth 16384

noncomputable section

namespace Cert.AdamAda

open Idealize.ShloMosaic Idealize.ShloMosaic.TcCoe Idealize.SL.Sem
open Cert.Kernel18Ideal Cert.Kernel18Ideal.Gen

/-- The shape of the map on one device. -/
abbrev SW : Shape := ⟨3, ![4, 2048, 1536]⟩

/-- The step, entry by entry. -/
def delta (W G M V : FVec Ideal SW .f32) : FVec Ideal SW .f32 := fun x => Adam.step (W x) (G x) (M x) (V x)

/-- The first moment, entry by entry. -/
def first (G M : FVec Ideal SW .f32) : FVec Ideal SW .f32 := fun x => Adam.first (G x) (M x)

/-- The second moment, entry by entry. -/
def second (G V : FVec Ideal SW .f32) : FVec Ideal SW .f32 := fun x => Adam.second (G x) (V x)

variable (m : (ℓ : Loc nD τ sig) → Buf (Elt Ideal) ℓ) (c : Dev nD)

/-- Which block of each array a grid point works on: the same of all seven. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0] :=
  (by decide +kernel : ∀ t : Fin grid0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0])

/-- A tile's first axis has one entry. -/
theorem tile (X : FVec Ideal S1x256x1536 .f32) (y : S1x256x1536.Idx) (i : Fin 256) (n : Fin 1536) (hi : i.val = (y 1).val) (hn : n.val = (y 2).val) :
    X y = X (ix3 0 i n) := congrArg X (funext fun a => match a with
  | ⟨0, _⟩ => Fin.ext (by
      have h : (y 0).val < 1 := (y 0).isLt
      show (y 0).val = 0
      omega)
  | ⟨1, _⟩ => Fin.ext hi.symm
  | ⟨2, _⟩ => Fin.ext hn.symm)

/-- A tile of the first moment. -/
theorem first_at (g a : FVec Ideal S1x256x1536 .f32) (y : S1x256x1536.Idx) :
    (k0_pay2 (F := Ideal) (k0_pay5 g a) y : EReal) = Adam.first (g y) (a y) := by
  pointwise [k0_pay2, k0_pay5, k0_pay4, Adam.first]

/-- A tile of the second moment. -/
theorem second_at (g b : FVec Ideal S1x256x1536 .f32) (y : S1x256x1536.Idx) :
    (k0_pay3 (F := Ideal) (k0_pay6 g b) y : EReal) = Adam.second (g y) (b y) := by
  pointwise [k0_pay3, k0_pay6, k0_pay4, Adam.second]

/-- A tile of the step. -/
theorem step_at (w g a b : FVec Ideal S1x256x1536 .f32) (y : S1x256x1536.Idx) :
    (k0_pay1 (F := Ideal) (k0_pay7 w g a b) y : EReal)
      = Adam.step (w y) (g y) (a y) (b y) := by
  pointwise [k0_pay1, k0_pay7, k0_pay6, k0_pay5, k0_pay4, Adam.step, Adam.first, Adam.second]

/-- Where an element of a tile sits in the first result. -/
theorem place4 (t : Fin cfg0.N) (y : ((cfg0.win 4).xblock (cfg0.grid.coords t)).Idx) (l : Fin 4) (i : Fin 2048) (n : Fin 1536)
    (hl : l.val = t.val / 8) (hi : i.val = t.val % 8 * 256 + (y 1).val) (hn : n.val = (y 2).val) (X : FVec Ideal S4x2048x1536 .f32) :
    X (((View.whole main_v0_0).slice (win0_4.rect t)).emb y) = X (ix3 l i n) := by
  have h0 : (y 0).val < 1 := (y 0).isLt
  blk_ext [idx t]

/-- Where an element of a tile sits in the second result. -/
theorem place5 (t : Fin cfg0.N) (y : ((cfg0.win 5).xblock (cfg0.grid.coords t)).Idx) (l : Fin 4) (i : Fin 2048) (n : Fin 1536)
    (hl : l.val = t.val / 8) (hi : i.val = t.val % 8 * 256 + (y 1).val) (hn : n.val = (y 2).val) (X : FVec Ideal S4x2048x1536 .f32) :
    X (((View.whole main_v0_1).slice (win0_5.rect t)).emb y) = X (ix3 l i n) := by
  have h0 : (y 0).val < 1 := (y 0).isLt
  blk_ext [idx t]

/-- Where an element of a tile sits in the third result. -/
theorem place6 (t : Fin cfg0.N) (y : ((cfg0.win 6).xblock (cfg0.grid.coords t)).Idx) (l : Fin 4) (i : Fin 2048) (n : Fin 1536)
    (hl : l.val = t.val / 8) (hi : i.val = t.val % 8 * 256 + (y 1).val) (hn : n.val = (y 2).val) (X : FVec Ideal S4x2048x1536 .f32) :
    X (((View.whole main_v0_2).slice (win0_6.rect t)).emb y) = X (ix3 l i n) := by
  have h0 : (y 0).val < 1 := (y 0).isLt
  blk_ext [idx t]

/-- Which element of the weight a grid point's block holds. -/
theorem weight (t : Fin cfg0.N) (i : Fin 256) (n : Fin 1536) (l : Fin 4) (a : Fin 2048) (hl : l.val = t.val / 8) (ha : a.val = t.val % 8 * 256 + i.val) :
    (show FVec Ideal S1x256x1536 .f32 from iblk m c 0 t) (ix3 0 i n) = (m ((c : Thread nD τ).loc main_arg0)) (ix3 l a n) := by
  blk_point [iblk, V, idx t]

/-- Which element of the gradient a grid point's block holds. -/
theorem gradient (t : Fin cfg0.N) (i : Fin 256) (n : Fin 1536) (l : Fin 4) (a : Fin 2048) (hl : l.val = t.val / 8) (ha : a.val = t.val % 8 * 256 + i.val) :
    (show FVec Ideal S1x256x1536 .f32 from iblk m c 1 t) (ix3 0 i n) = (m ((c : Thread nD τ).loc main_arg1)) (ix3 l a n) := by
  blk_point [iblk, V, idx t]

/-- Which element of the first moment a grid point's block holds. -/
theorem moment (t : Fin cfg0.N) (i : Fin 256) (n : Fin 1536) (l : Fin 4) (a : Fin 2048) (hl : l.val = t.val / 8) (ha : a.val = t.val % 8 * 256 + i.val) :
    (show FVec Ideal S1x256x1536 .f32 from iblk m c 2 t) (ix3 0 i n) = (m ((c : Thread nD τ).loc main_arg2)) (ix3 l a n) := by
  blk_point [iblk, V, idx t]

/-- Which element of the second moment a grid point's block holds. -/
theorem moment2 (t : Fin cfg0.N) (i : Fin 256) (n : Fin 1536) (l : Fin 4) (a : Fin 2048) (hl : l.val = t.val / 8) (ha : a.val = t.val % 8 * 256 + i.val) :
    (show FVec Ideal S1x256x1536 .f32 from iblk m c 3 t) (ix3 0 i n) = (m ((c : Thread nD τ).loc main_arg3)) (ix3 l a n) := by
  blk_point [iblk, V, idx t]

/-- The first result is the step. -/
theorem kernel_delta : (dats m 0 c).arrAt 4 cfg0.N = delta (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have ht : t.val < 32 := Nat.lt_of_lt_of_eq t.isLt N_0
  have h1 : (y 1).val < 256 := (y 1).isLt
  refine (step_at _ _ _ _ y).trans (Eq.trans ?_ (place4 t y ⟨t.val / 8, by omega⟩ ⟨t.val % 8 * 256 + (y 1).val, by omega⟩ (y 2) rfl rfl rfl _).symm)
  exact congr (congr (congr (congrArg Adam.step ((tile _ y (y 1) (y 2) rfl rfl).trans (weight m c t _ _ _ _ rfl rfl))) ((tile _ y (y 1) (y 2) rfl rfl).trans (gradient m c t _ _ _ _ rfl rfl))) ((tile _ y (y 1) (y 2) rfl rfl).trans (moment m c t _ _ _ _ rfl rfl)))
    ((tile _ y (y 1) (y 2) rfl rfl).trans (moment2 m c t _ _ _ _ rfl rfl))

/-- The second result is the first moment. -/
theorem kernel_first : (dats m 0 c).arrAt 5 cfg0.N = first (m ((c : Thread nD τ).loc main_arg1)) (m ((c : Thread nD τ).loc main_arg2)) := by
  refine (dats m 0 c).arrAt_eq_of_covers 5 _ (by decide +kernel) fun t hf y => ?_
  blk_simp
  rw [after0_5]
  frame_out
  have ht : t.val < 32 := Nat.lt_of_lt_of_eq t.isLt N_0
  have h1 : (y 1).val < 256 := (y 1).isLt
  refine (first_at _ _ y).trans (Eq.trans ?_ (place5 t y ⟨t.val / 8, by omega⟩ ⟨t.val % 8 * 256 + (y 1).val, by omega⟩ (y 2) rfl rfl rfl _).symm)
  exact congr (congrArg Adam.first ((tile _ y (y 1) (y 2) rfl rfl).trans (gradient m c t _ _ _ _ rfl rfl))) ((tile _ y (y 1) (y 2) rfl rfl).trans (moment m c t _ _ _ _ rfl rfl))

/-- The third result is the second moment. -/
theorem kernel_second : (dats m 0 c).arrAt 6 cfg0.N = second (m ((c : Thread nD τ).loc main_arg1)) (m ((c : Thread nD τ).loc main_arg3)) := by
  refine (dats m 0 c).arrAt_eq_of_covers 6 _ (by decide +kernel) fun t hf y => ?_
  blk_simp
  rw [after0_6]
  frame_out
  have ht : t.val < 32 := Nat.lt_of_lt_of_eq t.isLt N_0
  have h1 : (y 1).val < 256 := (y 1).isLt
  refine (second_at _ _ y).trans (Eq.trans ?_ (place6 t y ⟨t.val / 8, by omega⟩ ⟨t.val % 8 * 256 + (y 1).val, by omega⟩ (y 2) rfl rfl rfl _).symm)
  exact congr (congrArg Adam.second ((tile _ y (y 1) (y 2) rfl rfl).trans (gradient m c t _ _ _ _ rfl rfl))) ((tile _ y (y 1) (y 2) rfl rfl).trans (moment2 m c t _ _ _ _ rfl rfl))

end Cert.AdamAda

end
-- ==== Proof.AdamAda.Reference.lean ====
/- The update of the modulation's map: what the reference leaves in its three results. -/
module

public import proofs.«01_k».proof.Proof.Gen.Reference18Ideal.Read
public import proofs.«01_k».proof.Proof.Adam

@[expose] public section

set_option maxRecDepth 16384

noncomputable section

namespace Cert.AdamAda.Ref

open Idealize.ShloMosaic Idealize.ShloMosaic.TcCoe Idealize.SL.Sem
open Cert.Reference18Ideal Cert.Reference18Ideal.Gen Cert.Reference18Ideal.Read

variable (W G M V : FVec Ideal S4x2048x1536 .f32)

/-- The first moment at an index. -/
theorem first_at (x : S4x2048x1536.Idx) : (val_main_v4 (F := Ideal) G M x : EReal) = Adam.first (G x) (M x) := by
  pointwise [val_main_v4, val_main_v3, val_main_v2, val_main_cst_0, val_main_v1, val_main_v0, val_main_cst, Adam.first]

/-- The second moment at an index. -/
theorem second_at (x : S4x2048x1536.Idx) : (val_main_v10 (F := Ideal) G V x : EReal) = Adam.second (G x) (V x) := by
  pointwise [val_main_v10, val_main_v9, val_main_v8, val_main_cst_2, val_main_v7, val_main_v6, val_main_v5, val_main_cst_1, Adam.second]

/-- The step at an index. -/
theorem step_at (x : S4x2048x1536.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end Cert.AdamAda.Ref

end
-- ==== Proof.AdamAda.Claims.lean ====
/- The claims about the update of the modulation's map. -/
module

public import proofs.«01_k».proof.Defs
public import proofs.«01_k».proof.Proof.Gen.Kernel18.Frame
public import proofs.«01_k».proof.Proof.AdamAda.Kernel
public import proofs.«01_k».proof.Proof.AdamAda.Reference

@[expose] public section

set_option maxRecDepth 16384

noncomputable section

namespace Cert.AdamAda

open Idealize.ShloMosaic Idealize.SL.Sem

/-- The kernel, rounding as the device does, runs to its end and leaves its arguments as they were. -/
theorem frame_kernel : Cert.quiescent_Kernel18 (hKernel18 := Cert.Kernel18.Gen.facts) := fun m ρ _ => Cert.Kernel18.Gen.frame m ρ

/-- The same of the kernel over exact numbers. -/
theorem frame_ideal : Cert.quiescent_Kernel18Ideal (hKernel18Ideal := Cert.Kernel18Ideal.Gen.facts) :=
  fun m ρ _ => Cert.Kernel18Ideal.Gen.frame m ρ

/-- The same of the reference, which is host code and holds no semaphore. -/
theorem frame_reference : Cert.quiescent_Reference18Ideal (hReference18Ideal := Cert.Reference18Ideal.Gen.facts) := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- The reference's three results, as the step and the two moments of the arguments. -/
theorem Ref.delta (W G M V : FVec Ideal SW .f32) : Cert.Reference18Ideal.Read.val_main_v23 (F := Ideal) W G M V = AdamAda.delta W G M V :=
  funext fun x => Ref.step_at W G M V x
theorem Ref.first (G M : FVec Ideal SW .f32) : Cert.Reference18Ideal.Read.val_main_v4 (F := Ideal) G M = AdamAda.first G M :=
  funext fun x => Ref.first_at G M x
theorem Ref.second (G V : FVec Ideal SW .f32) : Cert.Reference18Ideal.Read.val_main_v10 (F := Ideal) G V = AdamAda.second G V :=
  funext fun x => Ref.second_at G V x

/-- Over exact numbers the kernel's results are the reference's: both are the step and the two moments of the arguments. -/
theorem algebraic : Cert.algebraic_Kernel18Ideal_Reference18Ideal (hKernel18Ideal := Cert.Kernel18Ideal.Gen.facts)
    (hReference18Ideal := Cert.Reference18Ideal.Gen.facts) := by
  intro m g m' g' _ hargs
  refine ⟨fun c => (Cert.Kernel18Ideal.Gen.dats m 0 c).arrAt 4 Cert.Kernel18Ideal.cfg0.N,
    fun c => (Cert.Kernel18Ideal.Gen.dats m 0 c).arrAt 5 Cert.Kernel18Ideal.cfg0.N,
    fun c => (Cert.Kernel18Ideal.Gen.dats m 0 c).arrAt 6 Cert.Kernel18Ideal.cfg0.N,
    Cert.Kernel18Ideal.Value.run_blocks m g, ?_⟩
  refine (θ_run Cert.Reference18Ideal.defs _ _).mono (fun r h c => ?_) (Cert.Reference18Ideal.Value.run (F := Ideal) m' g')
  obtain ⟨h0, h1, h2, hk⟩ := h c
  obtain ⟨a0, a1, a2, a3⟩ := hargs c
  refine ⟨?_, ?_, ?_, hk⟩
  · refine h0.trans ((Cert.Reference18Ideal.Read.val_main_v23_eq _ _ _ _).trans ?_)
    refine (Ref.delta _ _ _ _).trans (Eq.trans ?_ (kernel_delta m c).symm)
    exact congr (congr (congr (congrArg delta a0) a1) a2) a3
  · refine h1.trans ((Cert.Reference18Ideal.Read.val_main_v4_eq _ _).trans ?_)
    refine (Ref.first _ _).trans (Eq.trans ?_ (kernel_first m c).symm)
    exact congr (congrArg first a1) a2
  · refine h2.trans ((Cert.Reference18Ideal.Read.val_main_v10_eq _ _).trans ?_)
    refine (Ref.second _ _).trans (Eq.trans ?_ (kernel_second m c).symm)
    exact congr (congrArg second a1) a3

end Cert.AdamAda

end
-- ==== Proof.Act.Reference.lean ====
/- The gated short convolution, forward: the convolution row by row, and that the reference computes it. -/
module

public import proofs.«01_k».proof.Proof.ShortConv.Spec
public import proofs.«01_k».proof.Proof.Gen.Reference19Ideal.Read

@[expose] public section

set_option maxRecDepth 16384

noncomputable section

namespace Cert.Act

open Idealize.ShloMosaic Idealize.ShloMosaic.TcCoe Idealize.SL.Sem
open Cert.Reference19Ideal Cert.Reference19Ideal.Gen Cert.Reference19Ideal.Read
open Cert.ShortConv (Rows prev next SU SZ SW colB colC colV gated tapW)

/-- The output gate times the convolution of the gated value, at every row and column. -/
def act (U : FVec Ideal SU .bf16) (W : FVec Ideal SW .f32) : FVec Ideal SZ .bf16 := fun x =>
  colB U (x 1) (x 0) * (tapW W 0 (x 1) * prev (gated U (x 1)) (x 0) + tapW W 1 (x 1) * gated U (x 1) (x 0) + tapW W 2 (x 1) * next (gated U (x 1)) (x 0))

namespace Ref

variable (U : FVec Ideal SU .bf16) (W : FVec Ideal SW .f32)

/-! The context sequence: row `r` is array row `r`. -/

/-- The output gate. -/
theorem cB (r : Fin 256) (l : Fin 2048) (g : Fin 8448) (hg : g.val = 0 + r.val) : val_main_v4 (F := Ideal) U (ix2 r l) = colB U l g := by
  obtain rfl : g = ⟨0 + r.val, Nat.lt_of_lt_of_le (Nat.add_lt_add_left r.isLt 0) (by decide)⟩ := Fin.ext hg
  unfold colB
  pointwise [val_main_v4, val_main_v3, val_main_v0]
  all_goals first | rfl | (refine congrArg U (congrArg₂ ix2 (Fin.ext ?_) rfl); show r.val = 0 + r.val; omega)

/-- The input gate. -/
theorem cC (r : Fin 256) (l : Fin 2048) (g : Fin 8448) (hg : g.val = 0 + r.val) : val_main_v5 (F := Ideal) U (ix2 r l) = colC U l g := by
  obtain rfl : g = ⟨0 + r.val, Nat.lt_of_lt_of_le (Nat.add_lt_add_left r.isLt 0) (by decide)⟩ := Fin.ext hg
  unfold colC
  pointwise [val_main_v5, val_main_v3, val_main_v0]
  all_goals first | rfl | (refine congrArg U (congrArg₂ ix2 (Fin.ext ?_) rfl); show r.val = 0 + r.val; omega)

/-- The value. -/
theorem cV (r : Fin 256) (l : Fin 2048) (g : Fin 8448) (hg : g.val = 0 + r.val) : val_main_v6 (F := Ideal) U (ix2 r l) = colV U l g := by
  obtain rfl : g = ⟨0 + r.val, Nat.lt_of_lt_of_le (Nat.add_lt_add_left r.isLt 0) (by decide)⟩ := Fin.ext hg
  unfold colV
  pointwise [val_main_v6, val_main_v3, val_main_v0]
  all_goals first | rfl | (refine congrArg U (congrArg₂ ix2 (Fin.ext ?_) rfl); show r.val = 0 + r.val; omega)

/-- The gated value. -/
theorem cT (r : Fin 256) (l : Fin 2048) (g : Fin 8448) (hg : g.val = 0 + r.val) : val_main_v7 (F := Ideal) U (ix2 r l) = gated U l g := by
  pointwise [val_main_v7]
  exact Ideal.mul_congr (cC U r l g hg) (cV U r l g hg)

/-- The gated value a row earlier, as the padded sequence gives it. -/
theorem cT0 (r : Fin 256) (l : Fin 2048) (g : Fin 8448) (hg : g.val = 0 + r.val) : val_main_v10 (F := Ideal) U (ix2 r l) = prev (gated U l) g := by
  pointwise [val_main_v10, val_main_v9, val_main_v8, val_main_cst]
  unfold prev
  by_cases h : r.val < 1
  · rw [dif_pos h, dif_pos (by omega)]
  · rw [dif_neg h, dif_pos (by omega), dif_neg (by omega)]
    exact cT U _ l _ (by show g.val - 1 = 0 + (r.val - 1); omega)

/-- The gated value at the row itself. -/
theorem cT1 (r : Fin 256) (l : Fin 2048) (g : Fin 8448) (hg : g.val = 0 + r.val) : val_main_v16 (F := Ideal) U (ix2 r l) = gated U l g := by
  pointwise [val_main_v16, val_main_v9, val_main_v8, val_main_cst]
  exact cT U _ l _ hg

/-- The gated value a row later. -/
theorem cT2 (r : Fin 256) (l : Fin 2048) (g : Fin 8448) (hg : g.val = 0 + r.val) : val_main_v23 (F := Ideal) U (ix2 r l) = next (gated U l) g := by
  pointwise [val_main_v23, val_main_v9, val_main_v8, val_main_cst]
  unfold next
  rw [dif_neg (by omega)]
  by_cases h : r.val = 255
  · rw [dif_neg (by omega), dif_pos (by omega)]
  · rw [dif_pos (by omega), dif_neg (by omega)]
    exact cT U _ l _ (by show g.val + 1 = 0 + (2 + r.val - 1); omega)

/-- The sequence's result. -/
theorem cact (r : Fin 256) (l : Fin 2048) (g : Fin 8448) (hg : g.val = 0 + r.val) : val_main_v30 (F := Ideal) U W (ix2 r l) = act U W (ix2 g l) := by
  pointwise [val_main_v30, val_main_v29, val_main_v22, val_main_v15, val_main_v21, val_main_v28, val_main_v14, val_main_v13, val_main_v12, val_main_v11, val_main_v20, val_main_v19, val_main_v18, val_main_v17, val_main_v27, val_main_v26, val_main_v25, val_main_v24, val_main_v2, val_main_v1]
  rw [cB U r l g hg, cT0 U r l g hg, cT1 U r l g hg, cT2 U r l g hg]
  rw [mul_comm (prev (gated U l) g), mul_comm (gated U l g), mul_comm (next (gated U l) g)]
  rfl

/-! The latent sequence: row `r` is array row `256 + r`. -/

/-- The output gate. -/
theorem lB (r : Fin 8192) (l : Fin 2048) (g : Fin 8448) (hg : g.val = 256 + r.val) : val_main_v32 (F := Ideal) U (ix2 r l) = colB U l g := by
  obtain rfl : g = ⟨256 + r.val, Nat.lt_of_lt_of_le (Nat.add_lt_add_left r.isLt 256) (by decide)⟩ := Fin.ext hg
  unfold colB
  pointwise [val_main_v32, val_main_v31, val_main_v0]
  all_goals first | rfl | (refine congrArg U (congrArg₂ ix2 (Fin.ext ?_) rfl); show r.val = 256 + r.val; omega)

/-- The input gate. -/
theorem lC (r : Fin 8192) (l : Fin 2048) (g : Fin 8448) (hg : g.val = 256 + r.val) : val_main_v33 (F := Ideal) U (ix2 r l) = colC U l g := by
  obtain rfl : g = ⟨256 + r.val, Nat.lt_of_lt_of_le (Nat.add_lt_add_left r.isLt 256) (by decide)⟩ := Fin.ext hg
  unfold colC
  pointwise [val_main_v33, val_main_v31, val_main_v0]
  all_goals first | rfl | (refine congrArg U (congrArg₂ ix2 (Fin.ext ?_) rfl); show r.val = 256 + r.val; omega)

/-- The value. -/
theorem lV (r : Fin 8192) (l : Fin 2048) (g : Fin 8448) (hg : g.val = 256 + r.val) : val_main_v34 (F := Ideal) U (ix2 r l) = colV U l g := by
  obtain rfl : g = ⟨256 + r.val, Nat.lt_of_lt_of_le (Nat.add_lt_add_left r.isLt 256) (by decide)⟩ := Fin.ext hg
  unfold colV
  pointwise [val_main_v34, val_main_v31, val_main_v0]
  all_goals first | rfl | (refine congrArg U (congrArg₂ ix2 (Fin.ext ?_) rfl); show r.val = 256 + r.val; omega)

/-- The gated value. -/
theorem lT (r : Fin 8192) (l : Fin 2048) (g : Fin 8448) (hg : g.val = 256 + r.val) : val_main_v35 (F := Ideal) U (ix2 r l) = gated U l g := by
  pointwise [val_main_v35]
  exact Ideal.mul_congr (lC U r l g hg) (lV U r l g hg)

/-- The gated value a row earlier, as the padded sequence gives it. -/
theorem lT0 (r : Fin 8192) (l : Fin 2048) (g : Fin 8448) (hg : g.val = 256 + r.val) : val_main_v38 (F := Ideal) U (ix2 r l) = prev (gated U l) g := by
  pointwise [val_main_v38, val_main_v37, val_main_v36, val_main_cst_0]
  unfold prev
  by_cases h : r.val < 1
  · rw [dif_pos h, dif_pos (by omega)]
  · rw [dif_neg h, dif_pos (by omega), dif_neg (by omega)]
    exact lT U _ l _ (by show g.val - 1 = 256 + (r.val - 1); omega)

/-- The gated value at the row itself. -/
theorem lT1 (r : Fin 8192) (l : Fin 2048) (g : Fin 8448) (hg : g.val = 256 + r.val) : val_main_v44 (F := Ideal) U (ix2 r l) = gated U l g := by
  pointwise [val_main_v44, val_main_v37, val_main_v36, val_main_cst_0]
  exact lT U _ l _ hg

/-- The gated value a row later. -/
theorem lT2 (r : Fin 8192) (l : Fin 2048) (g : Fin 8448) (hg : g.val = 256 + r.val) : val_main_v51 (F := Ideal) U (ix2 r l) = next (gated U l) g := by
  pointwise [val_main_v51, val_main_v37, val_main_v36, val_main_cst_0]
  unfold next
  rw [dif_neg (by omega)]
  by_cases h : r.val = 8191
  · rw [dif_neg (by omega), dif_pos (by omega)]
  · rw [dif_pos (by omega), dif_neg (by omega)]
    exact lT U _ l _ (by show g.val + 1 = 256 + (2 + r.val - 1); omega)

/-- The sequence's result. -/
theorem lact (r : Fin 8192) (l : Fin 2048) (g : Fin 8448) (hg : g.val = 256 + r.val) : val_main_v58 (F := Ideal) U W (ix2 r l) = act U W (ix2 g l) := by
  pointwise [val_main_v58, val_main_v57, val_main_v50, val_main_v43, val_main_v49, val_main_v56, val_main_v42, val_main_v41, val_main_v40, val_main_v39, val_main_v48, val_main_v47, val_main_v46, val_main_v45, val_main_v55, val_main_v54, val_main_v53, val_main_v52, val_main_v2, val_main_v1]
  rw [lB U r l g hg, lT0 U r l g hg, lT1 U r l g hg, lT2 U r l g hg]
  rw [mul_comm (prev (gated U l) g), mul_comm (gated U l g), mul_comm (next (gated U l) g)]
  rfl

end Ref

/-- The reference's result. -/
theorem Ref.act (U : FVec Ideal SU .bf16) (W : FVec Ideal SW .f32) : val_main_v60 (F := Ideal) U W = Act.act U W := by
  funext i
  obtain ⟨g, l, rfl⟩ : ∃ (g : Fin 8448) (l : Fin 2048), i = ix2 g l := ⟨i 0, i 1, funext fun d => by match d with | 0 => rfl | 1 => rfl⟩
  pointwise [val_main_v60, val_main_v59]
  by_cases hg : g.val < 256
  · rw [dif_pos hg]
    exact Ref.cact U W _ l g (by show g.val = 0 + g.val; omega)
  · rw [dif_neg hg]
    exact Ref.lact U W _ l g (by show g.val = 256 + (g.val - 256); omega)

end Cert.Act

end
-- ==== Proof.Act.Kernel.lean ====
/- The gated short convolution, forward: what the kernel leaves in its result. Every grid point takes 384 rows of 1024 columns with
   the 16 rows before and after them; only tiles that touch an end of a sequence mask the rows across it. -/
module

public import proofs.«01_k».proof.Proof.Act.Reference
public import proofs.«01_k».proof.Proof.Gen.Kernel19Ideal.Value

@[expose] public section

set_option maxRecDepth 16384

noncomputable section

namespace Cert.Act

open Idealize.ShloMosaic Idealize.ShloMosaic.TcCoe Idealize.SL.Sem
open Cert.Kernel19Ideal Cert.Kernel19Ideal.Gen
open Cert.ShortConv (Rows prev next SU SZ SW colB colC colV gated tapW)

variable (m : (ℓ : Loc nD τ sig) → Buf (Elt Ideal) ℓ) (c : Dev nD)

/-- The grid's second coordinate is the tile of rows. -/
theorem coord : ∀ t : Fin cfg0.N, (grid0.coords t 1).val = t.val % 22 := (by decide +kernel : ∀ t : Fin grid0.N, _)

/-- Which block of each array a grid point works on: the tile, 16 rows before it, 16 rows after it, held inside the array. -/
theorem idx : ∀ t : Fin cfg0.N, win0_0.index t = ![t.val % 22, t.val / 22]
    ∧ win0_1.index t = ![24 * (t.val % 22) - 1, t.val / 22 + 2] ∧ win0_2.index t = ![t.val % 22, t.val / 22 + 2] ∧ win0_3.index t = ![min (24 * (t.val % 22) + 24) 527, t.val / 22 + 2]
    ∧ win0_4.index t = ![24 * (t.val % 22) - 1, t.val / 22 + 4] ∧ win0_5.index t = ![t.val % 22, t.val / 22 + 4] ∧ win0_6.index t = ![min (24 * (t.val % 22) + 24) 527, t.val / 22 + 4]
    ∧ win0_7.index t = ![0, 0, t.val / 22] ∧ win0_8.index t = ![t.val % 22, t.val / 22] :=
  (by decide +kernel : ∀ t : Fin grid0.N, _)

/-- The output gate's row. -/
theorem gate_at (t : Fin cfg0.N) (r : Fin 384) (q : Fin 1024) (l : Fin 2048) (g : Fin 8448) (hl : l.val = t.val / 22 * 1024 + q.val)
    (hg : g.val = 384 * (t.val % 22) + r.val) : (iblk m c 0 t) (ix2 r q) = colB (m ((c : Thread nD τ).loc main_arg0)) l g := by
  unfold colB
  blk_point [iblk, V, idx t]

/-- Row `r` of the tile with its neighbours is array row `g`: the gated value. -/
theorem gated_at (t : Fin cfg0.N) (r : Fin 416) (q : Fin 1024) (l : Fin 2048) (g : Fin 8448) (hl : l.val = t.val / 22 * 1024 + q.val)
    (hg : g.val + 16 = 384 * (t.val % 22) + r.val) :
    (k0_pay4 (F := Ideal) (iblk m c 1 t) (iblk m c 2 t) (iblk m c 3 t) (iblk m c 4 t) (iblk m c 5 t) (iblk m c 6 t) (ix2 r q) : EReal) = gated (m ((c : Thread nD τ).loc main_arg0)) l g := by
  have ht : t.val < 44 := Nat.lt_of_lt_of_eq t.isLt N_0
  have hg' := g.isLt
  have hr := r.isLt
  unfold gated colC colV
  pointwise [k0_pay4]
  refine Ideal.mul_congr ?_ ?_
  · split
    · blk_ext [iblk, V, idx t]
    · split
      · blk_ext [iblk, V, idx t]
      · blk_ext [iblk, V, idx t]
  · split
    · blk_ext [iblk, V, idx t]
    · split
      · blk_ext [iblk, V, idx t]
      · blk_ext [iblk, V, idx t]

/-- The row number the kernel computes for row `r` of tile `i`, compared with a row `n`. -/
theorem row_ne (i : ℕ) (hi : i < 22) (r : Fin 416) (n : ℕ) (hn : n < 10000) :
    IntOp.cmpi .ne (IntOp.addi (Scalar.subi (Scalar.muli (BitVec.ofNat 32 i) 384#32) 16#32) (BitVec.ofNat 32 r.val)) (BitVec.ofNat 32 n)
      = BitVec.ofBool (decide (384 * i + r.val ≠ n + 16)) := by
  have hr := r.isLt
  have hw : (IntOp.addi (Scalar.subi (Scalar.muli (BitVec.ofNat 32 i) 384#32) 16#32) (BitVec.ofNat 32 r.val)).toNat
      = (384 * i + r.val + 4294967280) % 4294967296 := by
    show (BitVec.ofNat 32 i * 384#32 - 16#32 + BitVec.ofNat 32 r.val).toNat = _
    simp only [BitVec.toNat_add, BitVec.toNat_sub, BitVec.toNat_mul, BitVec.toNat_ofNat]
    omega
  generalize IntOp.addi (Scalar.subi (Scalar.muli (BitVec.ofNat 32 i) 384#32) 16#32) (BitVec.ofNat 32 r.val) = w at hw ⊢
  show BitVec.ofBool (w != BitVec.ofNat 32 n) = _
  congr 1
  have : w = BitVec.ofNat 32 n ↔ 384 * i + r.val = n + 16 := by
    rw [← BitVec.toNat_inj, hw, BitVec.toNat_ofNat]; omega
  by_cases h : 384 * i + r.val = n + 16
  · simp [h, this.mpr h]
  · simp [h, mt this.mp h]

/-- Two masks together. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Two comparisons of the row number: neither of two rows. -/
theorem mask (i : ℕ) (hi : i < 22) (r : Fin 416) (a b : ℕ) (ha : a < 10000) (hb : b < 10000) :
    IntOp.andi (IntOp.cmpi .ne (IntOp.addi (Scalar.subi (Scalar.muli (BitVec.ofNat 32 i) 384#32) 16#32) (BitVec.ofNat 32 r.val)) (BitVec.ofNat 32 a))
      (IntOp.cmpi .ne (IntOp.addi (Scalar.subi (Scalar.muli (BitVec.ofNat 32 i) 384#32) 16#32) (BitVec.ofNat 32 r.val)) (BitVec.ofNat 32 b))
      = BitVec.ofBool (decide (384 * i + r.val ≠ a + 16 ∧ 384 * i + r.val ≠ b + 16)) := by
  rw [row_ne i hi r a ha, row_ne i hi r b hb, and_bits]

/-- A masked read of the row before, given what the unmasked read finds where the mask is on. -/
theorem sel_prev (i : ℕ) (r : Fin 416) (g : Fin 8448) (hg : g.val + 16 = 384 * i + r.val) (M : BitVec 1)
    (hM : M = BitVec.ofBool (decide (384 * i + r.val ≠ 0 + 16 ∧ 384 * i + r.val ≠ 256 + 16))) (w A : EReal) (X : Rows)
    (hA : ∀ g' : Fin 8448, g'.val + 1 = g.val → A = X g') : Scalar.select M (w * A) 0 = w * prev X g := by
  rw [hM, Scalar.select_decide]
  unfold prev
  by_cases h : g.val = 0 ∨ g.val = 256
  · rw [if_neg (by omega), dif_pos h, mul_zero]
  · rw [if_pos (by omega), dif_neg h, hA ⟨g.val - 1, by omega⟩ (by show g.val - 1 + 1 = g.val; omega)]

/-- A masked read of the row after. -/
theorem sel_next (i : ℕ) (r : Fin 416) (g : Fin 8448) (hg : g.val + 16 = 384 * i + r.val) (M : BitVec 1)
    (hM : M = BitVec.ofBool (decide (384 * i + r.val ≠ 255 + 16 ∧ 384 * i + r.val ≠ 8447 + 16))) (w A : EReal) (X : Rows)
    (hA : ∀ g' : Fin 8448, g'.val = g.val + 1 → A = X g') : Scalar.select M (w * A) 0 = w * next X g := by
  rw [hM, Scalar.select_decide]
  unfold next
  by_cases h : g.val = 255 ∨ g.val = 8447
  · rw [if_neg (by omega), dif_pos h, mul_zero]
  · rw [if_pos (by omega), dif_neg h, hA ⟨g.val + 1, by omega⟩ rfl]

/-- Inside a sequence the row before, and the row after, needs no mask. -/
theorem in_prev (g : Fin 8448) (h0 : g.val ≠ 0) (h1 : g.val ≠ 256) (A : EReal) (X : Rows)
    (hA : ∀ g' : Fin 8448, g'.val + 1 = g.val → A = X g') : A = prev X g := by
  unfold prev
  rw [dif_neg (by omega), hA ⟨g.val - 1, by omega⟩ (by show g.val - 1 + 1 = g.val; omega)]
theorem in_next (g : Fin 8448) (h0 : g.val ≠ 255) (h1 : g.val ≠ 8447) (A : EReal) (X : Rows)
    (hA : ∀ g' : Fin 8448, g'.val = g.val + 1 → A = X g') : A = next X g := by
  unfold next
  rw [dif_neg (by omega), hA ⟨g.val + 1, by omega⟩ rfl]

/-- The taps as the kernel loads them. -/
theorem tap_ld (t : Fin cfg0.N) (q : Fin 1024) (l : Fin 2048) (hl : l.val = t.val / 22 * 1024 + q.val) :
    View.ld (iblk m c 7 t) (Rect.unit ![0, 0, 0] ![1, 1, 1024] inb_S1x3x1024_S1x1x1024_0_0_0) (ix3 0 0 q) = tapW (m ((c : Thread nD τ).loc main_arg1)) 0 l
    ∧ View.ld (iblk m c 7 t) (Rect.unit ![0, 1, 0] ![1, 1, 1024] inb_S1x3x1024_S1x1x1024_0_1_0) (ix3 0 0 q) = tapW (m ((c : Thread nD τ).loc main_arg1)) 1 l
    ∧ View.ld (iblk m c 7 t) (Rect.unit ![0, 2, 0] ![1, 1, 1024] inb_S1x3x1024_S1x1x1024_0_2_0) (ix3 0 0 q) = tapW (m ((c : Thread nD τ).loc main_arg1)) 2 l := by
  unfold tapW
  refine ⟨?_, ?_, ?_⟩
  · rw [View.ld_apply]; blk_ext [iblk, V, idx t] <;> simp [Rect.idx_unit_val] <;> omega
  · rw [View.ld_apply]; blk_ext [iblk, V, idx t] <;> simp [Rect.idx_unit_val] <;> omega
  · rw [View.ld_apply]; blk_ext [iblk, V, idx t] <;> simp [Rect.idx_unit_val] <;> omega

/-- What a tile at an end of a sequence computes. -/
theorem edge (t : Fin cfg0.N) (r : Fin 384) (q : Fin 1024) (l : Fin 2048) (g : Fin 8448) (hl : l.val = t.val / 22 * 1024 + q.val)
    (hg : g.val = 384 * (t.val % 22) + r.val) (w0 w1 w2 : Vec Ideal S1x1x1024 .f32) :
    (k0_pay1 (F := Ideal) (k0_pay3 (BitVec.ofNat 32 (t.val % 22))) (k0_pay4 (iblk m c 1 t) (iblk m c 2 t) (iblk m c 3 t) (iblk m c 4 t) (iblk m c 5 t) (iblk m c 6 t))
      (k0_pay5 (BitVec.ofNat 32 (t.val % 22)) (iblk m c 1 t) (iblk m c 2 t) (iblk m c 3 t) (iblk m c 4 t) (iblk m c 5 t) (iblk m c 6 t) w0) w1 w2 (iblk m c 0 t) (ix2 r q) : EReal)
      = colB (m ((c : Thread nD τ).loc main_arg0)) l g * (w0 (ix3 0 0 q) * prev (gated (m ((c : Thread nD τ).loc main_arg0)) l) g
        + w1 (ix3 0 0 q) * gated (m ((c : Thread nD τ).loc main_arg0)) l g + w2 (ix3 0 0 q) * next (gated (m ((c : Thread nD τ).loc main_arg0)) l) g) := by
  have ht : t.val % 22 < 22 := Nat.mod_lt _ (by decide)
  have hr := r.isLt
  pointwise [k0_pay1, k0_pay3, k0_pay5, k0_pay2]
  refine Ideal.mul_congr (gate_at m c t r q l g hl hg) ?_
  refine Ideal.add_congr (Ideal.add_congr ?_ (Ideal.mul_congr rfl ?_)) ?_
  · exact sel_prev (t.val % 22) ⟨16 + r.val, by omega⟩ g (by show _ = 384 * (t.val % 22) + (16 + r.val); omega) _
      (mask _ ht ⟨16 + r.val, by omega⟩ 0 256 (by decide) (by decide)) _ _ _
      fun g' h => gated_at m c t _ q l g' hl (by show _ = 384 * (t.val % 22) + (16 + r.val + 416 - 1) % 416; omega)
  · exact gated_at m c t _ q l g hl (by show _ = 384 * (t.val % 22) + (16 + r.val); omega)
  · exact sel_next (t.val % 22) ⟨16 + r.val, by omega⟩ g (by show _ = 384 * (t.val % 22) + (16 + r.val); omega) _
      (mask _ ht ⟨16 + r.val, by omega⟩ 255 8447 (by decide) (by decide)) _ _ _
      fun g' h => gated_at m c t _ q l g' hl (by show _ = 384 * (t.val % 22) + (16 + r.val + 416 - 415) % 416; omega)

/-- What a tile inside a sequence computes. -/
theorem inner (t : Fin cfg0.N) (hi : 1 ≤ t.val % 22 ∧ t.val % 22 ≤ 20) (r : Fin 384) (q : Fin 1024) (l : Fin 2048) (g : Fin 8448)
    (hl : l.val = t.val / 22 * 1024 + q.val) (hg : g.val = 384 * (t.val % 22) + r.val) (w0 w1 w2 : Vec Ideal S1x1x1024 .f32) :
    (k0_pay6 (F := Ideal) (iblk m c 1 t) (iblk m c 2 t) (iblk m c 3 t) (iblk m c 4 t) (iblk m c 5 t) (iblk m c 6 t) w0 w1 w2 (iblk m c 0 t) (ix2 r q) : EReal)
      = colB (m ((c : Thread nD τ).loc main_arg0)) l g * (w0 (ix3 0 0 q) * prev (gated (m ((c : Thread nD τ).loc main_arg0)) l) g
        + w1 (ix3 0 0 q) * gated (m ((c : Thread nD τ).loc main_arg0)) l g + w2 (ix3 0 0 q) * next (gated (m ((c : Thread nD τ).loc main_arg0)) l) g) := by
  have hr := r.isLt
  have e : k0_pay6 (F := Ideal) (iblk m c 1 t) (iblk m c 2 t) (iblk m c 3 t) (iblk m c 4 t) (iblk m c 5 t) (iblk m c 6 t) w0 w1 w2 (iblk m c 0 t) (ix2 r q)
      = (show FVec Ideal S384x1024 .bf16 from iblk m c 0 t) (ix2 r q) * (w0 (ix3 0 0 q) * k0_pay4 (F := Ideal) (iblk m c 1 t) (iblk m c 2 t) (iblk m c 3 t) (iblk m c 4 t) (iblk m c 5 t) (iblk m c 6 t) (ix2 ⟨(16 + r.val + 416 - 1) % 416, Nat.mod_lt _ (by decide)⟩ q)
        + w1 (ix3 0 0 q) * k0_pay4 (F := Ideal) (iblk m c 1 t) (iblk m c 2 t) (iblk m c 3 t) (iblk m c 4 t) (iblk m c 5 t) (iblk m c 6 t) (ix2 ⟨16 + r.val, by omega⟩ q)
        + w2 (ix3 0 0 q) * k0_pay4 (F := Ideal) (iblk m c 1 t) (iblk m c 2 t) (iblk m c 3 t) (iblk m c 4 t) (iblk m c 5 t) (iblk m c 6 t) (ix2 ⟨(16 + r.val + 416 - 415) % 416, Nat.mod_lt _ (by decide)⟩ q)) := by
    pointwise [k0_pay6, k0_pay4]
  refine e.trans ?_
  refine Ideal.mul_congr (gate_at m c t r q l g hl hg) ?_
  refine Ideal.add_congr (Ideal.add_congr (Ideal.mul_congr rfl ?_) (Ideal.mul_congr rfl ?_)) (Ideal.mul_congr rfl ?_)
  · exact in_prev g (by omega) (by omega) _ _
      fun g' h => gated_at m c t _ q l g' hl (by show _ = 384 * (t.val % 22) + (16 + r.val + 416 - 1) % 416; omega)
  · exact gated_at m c t _ q l g hl (by show _ = 384 * (t.val % 22) + (16 + r.val); omega)
  · exact in_next g (by omega) (by omega) _ _
      fun g' h => gated_at m c t _ q l g' hl (by show _ = 384 * (t.val % 22) + (16 + r.val + 416 - 415) % 416; omega)

/-- Where an element of a tile sits in the result. -/
theorem place (t : Fin cfg0.N) (y : ((cfg0.win 8).xblock (cfg0.grid.coords t)).Idx) (g : Fin 8448) (l : Fin 2048)
    (hg : g.val = 384 * (t.val % 22) + (y 0).val) (hl : l.val = t.val / 22 * 1024 + (y 1).val) (X : FVec Ideal SZ .bf16) :
    X (((View.whole main_v0).slice (win0_8.rect t)).emb y) = X (ix2 g l) := by
  blk_ext [idx t]

/-- A pair of coordinates, split. -/
theorem cases2 {a b : ℕ} (x : Shape.Idx (⟨2, ![a, b]⟩ : Shape)) : ∃ (r : Fin a) (l : Fin b), x = ix2 r l := ⟨x 0, x 1, funext fun d => by match d with | 0 => rfl | 1 => rfl⟩

/-- The result is the gated convolution. -/
theorem kernel_act : (dats m 0 c).arrAt 8 cfg0.N = act (m ((c : Thread nD τ).loc main_arg0)) (m ((c : Thread nD τ).loc main_arg1)) := by
  refine (dats m 0 c).arrAt_eq_of_covers 8 _ (by decide +kernel) fun t hf y => ?_
  blk_simp
  rw [after0_8]
  have ht : t.val < 44 := Nat.lt_of_lt_of_eq t.isLt N_0
  have ec := coord t
  obtain ⟨r, q, rfl⟩ := cases2 y
  refine Eq.trans ?_ (place t (ix2 r q) ⟨384 * (t.val % 22) + r.val, by omega⟩ ⟨t.val / 22 * 1024 + q.val, by omega⟩ rfl rfl _).symm
  have tp := tap_ld m c t q ⟨t.val / 22 * 1024 + q.val, by omega⟩ rfl
  by_cases h1 : 1 ≤ t.val % 22 ∧ t.val % 22 ≤ 20
  · rw [outsAt0_B m c t (not_not.mpr h1) h1]
    frame_out
    refine (inner m c t h1 r q ⟨t.val / 22 * 1024 + q.val, by omega⟩ ⟨384 * (t.val % 22) + r.val, by omega⟩ rfl rfl _ _ _).trans ?_
    rw [tp.1, tp.2.1, tp.2.2]
    rfl
  · rw [outsAt0_A m c t h1 h1]
    frame_out
    rw [ec]
    refine (edge m c t r q ⟨t.val / 22 * 1024 + q.val, by omega⟩ ⟨384 * (t.val % 22) + r.val, by omega⟩ rfl rfl _ _ _).trans ?_
    rw [tp.1, tp.2.1, tp.2.2]
    rfl

end Cert.Act

end
-- ==== Proof.Act.Claims.lean ====
/- The claims about the gated short convolution. -/
module

public import proofs.«01_k».proof.Defs
public import proofs.«01_k».proof.Proof.Gen.Kernel19.Frame
public import proofs.«01_k».proof.Proof.Act.Kernel
public import proofs.«01_k».proof.Proof.Act.Reference

@[expose] public section

set_option maxRecDepth 16384

noncomputable section

namespace Cert.Act

open Idealize.ShloMosaic Idealize.SL.Sem

/-- The kernel, rounding as the device does, runs to its end and leaves its arguments as they were. -/
theorem frame_kernel : Cert.quiescent_Kernel19 (hKernel19 := Cert.Kernel19.Gen.facts) := fun m ρ _ => Cert.Kernel19.Gen.frame m ρ

/-- The same of the kernel over exact numbers. -/
theorem frame_ideal : Cert.quiescent_Kernel19Ideal (hKernel19Ideal := Cert.Kernel19Ideal.Gen.facts) :=
  fun m ρ _ => Cert.Kernel19Ideal.Gen.frame m ρ

/-- The same of the reference, which is host code and holds no semaphore. -/
theorem frame_reference : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

/-- Over exact numbers the kernel's results are the reference's: both are `act` of the arguments. -/
theorem algebraic : Cert.algebraic_Kernel19Ideal_Reference19Ideal (hKernel19Ideal := Cert.Kernel19Ideal.Gen.facts)
    (hReference19Ideal := Cert.Reference19Ideal.Gen.facts) := by
  intro m g m' g' _ hargs
  refine ⟨fun c => (Cert.Kernel19Ideal.Gen.dats m 0 c).arrAt 8 Cert.Kernel19Ideal.cfg0.N,
    Cert.Kernel19Ideal.Value.run_blocks m g, ?_⟩
  refine (θ_run Cert.Reference19Ideal.defs _ _).mono (fun r h c => ?_) (Cert.Reference19Ideal.Value.run (F := Ideal) m' g')
  obtain ⟨h0, hk⟩ := h c
  obtain ⟨a0, a1⟩ := hargs c
  refine ⟨?_, hk⟩
  · refine h0.trans ((Cert.Reference19Ideal.Read.val_main_v60_eq m' c).trans ?_)
    refine (Ref.act _ _).trans (Eq.trans ?_ (kernel_act m c).symm)
    exact congr (congrArg act a0) a1

end Cert.Act

end
-- ==== Proof.AdaBias.Reference.lean ====
/- The gradient of the modulation's bias: what the reference leaves in its result. -/
module

public import proofs.«01_k».proof.Proof.Gen.Reference20Ideal.Read
public import Idealize.ShloMosaic.Lib.Pipeline.ValueKit

@[expose] public section

set_option maxRecDepth 16384

noncomputable section

namespace Cert.AdaBias

open Idealize.ShloMosaic Idealize.ShloMosaic.TcCoe Idealize.SL.Sem
open Cert.Reference20Ideal Cert.Reference20Ideal.Gen Cert.Reference20Ideal.Read

/-- Each column's total over the sixteen rows of its layer. -/
def total (X : FVec Ideal (⟨3, ![4, 16, 12288]⟩ : Shape) .f32) : FVec Ideal (⟨3, ![4, 1, 12288]⟩ : Shape) .f32 :=
  fun x => ∑ b : Fin 16, X (ix3 (x 0) b (x 2))

/-- The reference's result is the total. -/
theorem Ref.total (X : FVec Ideal S4x16x12288 .f32) : val_main_v3 (F := Ideal) X = AdaBias.total X := by
  funext x
  refine (val_main_v3_apply (F := Ideal) X x).trans ((val_main_v2_apply X _).trans ?_)
  refine Eq.trans ?_ (zero_add _)
  refine Ideal.add_congr ?_ (Finset.sum_congr rfl fun b _ => ?_)
  · pointwise [val_main_cst_0]
  · exact congrArg X (funext fun a => match a with
      | ⟨0, _⟩ => rfl
      | ⟨1, _⟩ => rfl
      | ⟨2, _⟩ => rfl)

end Cert.AdaBias

end
-- ==== Proof.AdaBias.Kernel.lean ====
/- The gradient of the modulation's bias: what the kernel leaves in its result. Every grid point totals one layer. -/
module

public import proofs.«01_k».proof.Proof.Gen.Kernel20Ideal.Value
public import proofs.«01_k».proof.Proof.AdaBias.Reference

@[expose] public section

set_option maxRecDepth 16384

noncomputable section

namespace Cert.AdaBias

open Idealize.ShloMosaic Idealize.ShloMosaic.TcCoe Idealize.SL.Sem
open Cert.Kernel20Ideal Cert.Kernel20Ideal.Gen

variable (m : (ℓ : Loc nD τ sig) → Buf (Elt Ideal) ℓ) (c : Dev nD)

/-- Which block of each array a grid point works on. -/
theorem idx : ∀ t : Fin cfg0.N, win0_0.index t = ![t.val, 0, 0] ∧ win0_1.index t = ![t.val, 0, 0] :=
  (by decide +kernel : ∀ t : Fin grid0.N, win0_0.index t = ![t.val, 0, 0] ∧ win0_1.index t = ![t.val, 0, 0])

/-- A tile of the total: the sum of the block's rows. -/
theorem tile_at (X : FVec Ideal S1x16x12288 .f32) (y : S1x1x12288.Idx) :
    (k0_pay1 (F := Ideal) X y : EReal) = ∑ b : Fin 16, X (ix3 0 b (y 2)) := by
  pointwise [k0_pay1]

/-- An entry of a block of the argument. -/
theorem rows (t : Fin cfg0.N) (b : Fin 16) (n : Fin 12288) (l : Fin 4) (hl : l.val = t.val) :
    (iblk m c 0 t) (ix3 0 b n) = m ((c : Thread nD τ).loc main_arg0) (ix3 l b n) := by
  blk_point [iblk, V, idx t]

/-- Where an element of a block sits in the result. -/
theorem place (t : Fin cfg0.N) (y : ((cfg0.win 1).xblock (cfg0.grid.coords t)).Idx) (l : Fin 4) (n : Fin 12288)
    (hl : l.val = t.val) (hn : n.val = (y 2).val) (X : FVec Ideal S4x1x12288 .f32) :
    X (((View.whole main_v0).slice (win0_1.rect t)).emb y) = X (ix3 l 0 n) := by
  have h0 : (y 0).val < 1 := (y 0).isLt
  have h1 : (y 1).val < 1 := (y 1).isLt
  blk_ext [idx t]

/-- The result is the total of the argument. -/
theorem kernel_total : (dats m 0 c).arrAt 1 cfg0.N = total (m ((c : Thread nD τ).loc main_arg0)) := by
  refine (dats m 0 c).arrAt_eq_of_covers 1 _ (by decide +kernel) fun t hf y => ?_
  blk_simp
  rw [after0_1]
  have ht : t.val < 4 := Nat.lt_of_lt_of_eq t.isLt N_0
  refine Eq.trans ?_ (place t y ⟨t.val, ht⟩ ⟨(y 2).val, (y 2).isLt⟩ rfl rfl _).symm
  frame_out
  refine (tile_at _ y).trans ?_
  unfold total
  exact Finset.sum_congr rfl fun b _ => rows m c t _ _ _ rfl

end Cert.AdaBias

end
-- ==== Proof.AdaBias.Claims.lean ====
/- The claims about the gradient of the modulation's bias. -/
module

public import proofs.«01_k».proof.Defs
public import proofs.«01_k».proof.Proof.Gen.Kernel20.Frame
public import proofs.«01_k».proof.Proof.AdaBias.Kernel
public import proofs.«01_k».proof.Proof.AdaBias.Reference

@[expose] public section

set_option maxRecDepth 16384

noncomputable section

namespace Cert.AdaBias

open Idealize.ShloMosaic Idealize.SL.Sem

/-- The kernel, rounding as the device does, runs to its end and leaves its arguments as they were. -/
theorem frame_kernel : Cert.quiescent_Kernel20 (hKernel20 := Cert.Kernel20.Gen.facts) := fun m ρ _ => Cert.Kernel20.Gen.frame m ρ

/-- The same of the kernel over exact numbers. -/
theorem frame_ideal : Cert.quiescent_Kernel20Ideal (hKernel20Ideal := Cert.Kernel20Ideal.Gen.facts) :=
  fun m ρ _ => Cert.Kernel20Ideal.Gen.frame m ρ

/-- The same of the reference, which is host code and holds no semaphore. -/
theorem frame_reference : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

/-- Over exact numbers the kernel's results are the reference's: both are `total` of the argument. -/
theorem algebraic : Cert.algebraic_Kernel20Ideal_Reference20Ideal (hKernel20Ideal := Cert.Kernel20Ideal.Gen.facts)
    (hReference20Ideal := Cert.Reference20Ideal.Gen.facts) := by
  intro m g m' g' _ hargs
  refine ⟨fun c => (Cert.Kernel20Ideal.Gen.dats m 0 c).arrAt 1 Cert.Kernel20Ideal.cfg0.N,
    Cert.Kernel20Ideal.Value.run_blocks m g, ?_⟩
  refine (θ_run Cert.Reference20Ideal.defs _ _).mono (fun r h c => ?_) (Cert.Reference20Ideal.Value.run (F := Ideal) m' g')
  obtain ⟨h0, hk⟩ := h c
  have a0 := hargs c
  refine ⟨?_, hk⟩
  · refine h0.trans ((Cert.Reference20Ideal.Read.val_main_v3_eq _).trans ?_)
    refine (Ref.total _).trans (Eq.trans ?_ (kernel_total m c).symm)
    exact congrArg total a0

end Cert.AdaBias

end
-- ==== Proof.AdamBias.Claims.lean ====
/- The update of the modulation's bias: the kernel's three results and the reference's are the step and the two moments, entry by entry. -/
module

public import proofs.«01_k».proof.Defs
public import proofs.«01_k».proof.Proof.Gen.Kernel21.Frame
public import proofs.«01_k».proof.Proof.Gen.Kernel21Ideal.Value
public import proofs.«01_k».proof.Proof.Gen.Reference21Ideal.Read
public import proofs.«01_k».proof.Proof.Adam

@[expose] public section

set_option maxRecDepth 16384

noncomputable section

namespace Cert.AdamBias

open Idealize.ShloMosaic Idealize.ShloMosaic.TcCoe Idealize.SL.Sem

/-- The shape of the arrays. -/
abbrev SW : Shape := ⟨2, ![4, 12288]⟩

section
open Cert.Reference21Ideal Cert.Reference21Ideal.Gen Cert.Reference21Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel21Ideal Cert.Kernel21Ideal.Gen Cert.Kernel21Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel21 (hKernel21 := Cert.Kernel21.Gen.facts) := fun m ρ _ => Cert.Kernel21.Gen.frame m ρ

/-- The same of the kernel over exact numbers. -/
theorem frame_ideal : Cert.quiescent_Kernel21Ideal (hKernel21Ideal := Cert.Kernel21Ideal.Gen.facts) :=
  fun m ρ _ => Cert.Kernel21Ideal.Gen.frame m ρ

/-- The same of the reference, which is host code and holds no semaphore. -/
theorem frame_reference : Cert.quiescent_Reference21Ideal (hReference21Ideal := Cert.Reference21Ideal.Gen.facts) := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- Over exact numbers the kernel's results are the reference's: both are the step and the two moments of the arguments. -/
theorem algebraic : Cert.algebraic_Kernel21Ideal_Reference21Ideal (hKernel21Ideal := Cert.Kernel21Ideal.Gen.facts)
    (hReference21Ideal := Cert.Reference21Ideal.Gen.facts) := by
  intro m g m' g' _ hargs
  refine ⟨_, _, _, Cert.Kernel21Ideal.Value.run m g, ?_⟩
  refine (θ_run Cert.Reference21Ideal.defs _ _).mono (fun r h c => ?_) (Cert.Reference21Ideal.Value.run (F := Ideal) m' g')
  obtain ⟨h0, h1, h2, hk⟩ := h c
  obtain ⟨a0, a1, a2, a3⟩ := hargs c
  refine ⟨?_, ?_, ?_, hk⟩
  · refine h0.trans ((Cert.Reference21Ideal.Read.val_main_v23_eq _ _ _ _).trans ?_)
    rw [a0, a1, a2, a3]
    exact funext fun x => (step_at _ _ _ _ x).trans (kernel_step _ _ _ _ x).symm
  · refine h1.trans ((Cert.Reference21Ideal.Read.val_main_v4_eq _ _).trans ?_)
    rw [a1, a2]
    exact funext fun x => (first_at _ _ x).trans (kernel_first _ _ x).symm
  · refine h2.trans ((Cert.Reference21Ideal.Read.val_main_v10_eq _ _).trans ?_)
    rw [a1, a3]
    exact funext fun x => (second_at _ _ x).trans (kernel_second _ _ x).symm

end Cert.AdamBias

end
-- ==== Proof.AdamCtx.Claims.lean ====
/- The update of the context's condition: the kernel's three results and the reference's are the step and the two moments, entry by entry. -/
module

public import proofs.«01_k».proof.Defs
public import proofs.«01_k».proof.Proof.Gen.Kernel22.Frame
public import proofs.«01_k».proof.Proof.Gen.Kernel22Ideal.Value
public import proofs.«01_k».proof.Proof.Gen.Reference22Ideal.Read
public import proofs.«01_k».proof.Proof.Adam

@[expose] public section

set_option maxRecDepth 16384

noncomputable section

namespace Cert.AdamCtx

open Idealize.ShloMosaic Idealize.ShloMosaic.TcCoe Idealize.SL.Sem

/-- The shape of the arrays. -/
abbrev SW : Shape := ⟨2, ![1, 2048]⟩

section
open Cert.Reference22Ideal Cert.Reference22Ideal.Gen Cert.Reference22Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel22Ideal Cert.Kernel22Ideal.Gen Cert.Kernel22Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel22 (hKernel22 := Cert.Kernel22.Gen.facts) := fun m ρ _ => Cert.Kernel22.Gen.frame m ρ

/-- The same of the kernel over exact numbers. -/
theorem frame_ideal : Cert.quiescent_Kernel22Ideal (hKernel22Ideal := Cert.Kernel22Ideal.Gen.facts) :=
  fun m ρ _ => Cert.Kernel22Ideal.Gen.frame m ρ

/-- The same of the reference, which is host code and holds no semaphore. -/
theorem frame_reference : Cert.quiescent_Reference22Ideal (hReference22Ideal := Cert.Reference22Ideal.Gen.facts) := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- Over exact numbers the kernel's results are the reference's: both are the step and the two moments of the arguments. -/
theorem algebraic : Cert.algebraic_Kernel22Ideal_Reference22Ideal (hKernel22Ideal := Cert.Kernel22Ideal.Gen.facts)
    (hReference22Ideal := Cert.Reference22Ideal.Gen.facts) := by
  intro m g m' g' _ hargs
  refine ⟨_, _, _, Cert.Kernel22Ideal.Value.run m g, ?_⟩
  refine (θ_run Cert.Reference22Ideal.defs _ _).mono (fun r h c => ?_) (Cert.Reference22Ideal.Value.run (F := Ideal) m' g')
  obtain ⟨h0, h1, h2, hk⟩ := h c
  obtain ⟨a0, a1, a2, a3⟩ := hargs c
  refine ⟨?_, ?_, ?_, hk⟩
  · refine h0.trans ((Cert.Reference22Ideal.Read.val_main_v23_eq _ _ _ _).trans ?_)
    rw [a0, a1, a2, a3]
    exact funext fun x => (step_at _ _ _ _ x).trans (kernel_step _ _ _ _ x).symm
  · refine h1.trans ((Cert.Reference22Ideal.Read.val_main_v4_eq _ _).trans ?_)
    rw [a1, a2]
    exact funext fun x => (first_at _ _ x).trans (kernel_first _ _ x).symm
  · refine h2.trans ((Cert.Reference22Ideal.Read.val_main_v10_eq _ _).trans ?_)
    rw [a1, a3]
    exact funext fun x => (second_at _ _ x).trans (kernel_second _ _ x).symm

end Cert.AdamCtx

end
-- ==== Proof.AdamGain.Claims.lean ====
/- The update of a query or key gain: the kernel's three results and the reference's are the step and the two moments, entry by entry. -/
module

public import proofs.«01_k».proof.Defs
public import proofs.«01_k».proof.Proof.Gen.Kernel23.Frame
public import proofs.«01_k».proof.Proof.Gen.Kernel23Ideal.Value
public import proofs.«01_k».proof.Proof.Gen.Reference23Ideal.Read
public import proofs.«01_k».proof.Proof.Adam

@[expose] public section

set_option maxRecDepth 16384

noncomputable section

namespace Cert.AdamGain

open Idealize.ShloMosaic Idealize.ShloMosaic.TcCoe Idealize.SL.Sem

/-- The shape of the arrays. -/
abbrev SW : Shape := ⟨2, ![2, 128]⟩

section
open Cert.Reference23Ideal Cert.Reference23Ideal.Gen Cert.Reference23Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel23Ideal Cert.Kernel23Ideal.Gen Cert.Kernel23Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel23 (hKernel23 := Cert.Kernel23.Gen.facts) := fun m ρ _ => Cert.Kernel23.Gen.frame m ρ

/-- The same of the kernel over exact numbers. -/
theorem frame_ideal : Cert.quiescent_Kernel23Ideal (hKernel23Ideal := Cert.Kernel23Ideal.Gen.facts) :=
  fun m ρ _ => Cert.Kernel23Ideal.Gen.frame m ρ

/-- The same of the reference, which is host code and holds no semaphore. -/
theorem frame_reference : Cert.quiescent_Reference23Ideal (hReference23Ideal := Cert.Reference23Ideal.Gen.facts) := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- Over exact numbers the kernel's results are the reference's: both are the step and the two moments of the arguments. -/
theorem algebraic : Cert.algebraic_Kernel23Ideal_Reference23Ideal (hKernel23Ideal := Cert.Kernel23Ideal.Gen.facts)
    (hReference23Ideal := Cert.Reference23Ideal.Gen.facts) := by
  intro m g m' g' _ hargs
  refine ⟨_, _, _, Cert.Kernel23Ideal.Value.run m g, ?_⟩
  refine (θ_run Cert.Reference23Ideal.defs _ _).mono (fun r h c => ?_) (Cert.Reference23Ideal.Value.run (F := Ideal) m' g')
  obtain ⟨h0, h1, h2, hk⟩ := h c
  obtain ⟨a0, a1, a2, a3⟩ := hargs c
  refine ⟨?_, ?_, ?_, hk⟩
  · refine h0.trans ((Cert.Reference23Ideal.Read.val_main_v23_eq _ _ _ _).trans ?_)
    rw [a0, a1, a2, a3]
    exact funext fun x => (step_at _ _ _ _ x).trans (kernel_step _ _ _ _ x).symm
  · refine h1.trans ((Cert.Reference23Ideal.Read.val_main_v4_eq _ _).trans ?_)
    rw [a1, a2]
    exact funext fun x => (first_at _ _ x).trans (kernel_first _ _ x).symm
  · refine h2.trans ((Cert.Reference23Ideal.Read.val_main_v10_eq _ _).trans ?_)
    rw [a1, a3]
    exact funext fun x => (second_at _ _ x).trans (kernel_second _ _ x).symm

end Cert.AdamGain

end
-- ==== Proof.AdamSink.Claims.lean ====
/- The update of the sinks: the kernel's three results and the reference's are the step and the two moments, entry by entry. -/
module

public import proofs.«01_k».proof.Defs
public import proofs.«01_k».proof.Proof.Gen.Kernel24.Frame
public import proofs.«01_k».proof.Proof.Gen.Kernel24Ideal.Value
public import proofs.«01_k».proof.Proof.Gen.Reference24Ideal.Read
public import proofs.«01_k».proof.Proof.Adam

@[expose] public section

set_option maxRecDepth 16384

noncomputable section

namespace Cert.AdamSink

open Idealize.ShloMosaic Idealize.ShloMosaic.TcCoe Idealize.SL.Sem

/-- The shape of the arrays. -/
abbrev SW : Shape := ⟨2, ![2, 16]⟩

section
open Cert.Reference24Ideal Cert.Reference24Ideal.Gen Cert.Reference24Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel24Ideal Cert.Kernel24Ideal.Gen Cert.Kernel24Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel24 (hKernel24 := Cert.Kernel24.Gen.facts) := fun m ρ _ => Cert.Kernel24.Gen.frame m ρ

/-- The same of the kernel over exact numbers. -/
theorem frame_ideal : Cert.quiescent_Kernel24Ideal (hKernel24Ideal := Cert.Kernel24Ideal.Gen.facts) :=
  fun m ρ _ => Cert.Kernel24Ideal.Gen.frame m ρ

/-- The same of the reference, which is host code and holds no semaphore. -/
theorem frame_reference : Cert.quiescent_Reference24Ideal (hReference24Ideal := Cert.Reference24Ideal.Gen.facts) := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- Over exact numbers the kernel's results are the reference's: both are the step and the two moments of the arguments. -/
theorem algebraic : Cert.algebraic_Kernel24Ideal_Reference24Ideal (hKernel24Ideal := Cert.Kernel24Ideal.Gen.facts)
    (hReference24Ideal := Cert.Reference24Ideal.Gen.facts) := by
  intro m g m' g' _ hargs
  refine ⟨_, _, _, Cert.Kernel24Ideal.Value.run m g, ?_⟩
  refine (θ_run Cert.Reference24Ideal.defs _ _).mono (fun r h c => ?_) (Cert.Reference24Ideal.Value.run (F := Ideal) m' g')
  obtain ⟨h0, h1, h2, hk⟩ := h c
  obtain ⟨a0, a1, a2, a3⟩ := hargs c
  refine ⟨?_, ?_, ?_, hk⟩
  · refine h0.trans ((Cert.Reference24Ideal.Read.val_main_v23_eq _ _ _ _).trans ?_)
    rw [a0, a1, a2, a3]
    exact funext fun x => (step_at _ _ _ _ x).trans (kernel_step _ _ _ _ x).symm
  · refine h1.trans ((Cert.Reference24Ideal.Read.val_main_v4_eq _ _).trans ?_)
    rw [a1, a2]
    exact funext fun x => (first_at _ _ x).trans (kernel_first _ _ x).symm
  · refine h2.trans ((Cert.Reference24Ideal.Read.val_main_v10_eq _ _).trans ?_)
    rw [a1, a3]
    exact funext fun x => (second_at _ _ x).trans (kernel_second _ _ x).symm

end Cert.AdamSink

end
-- ==== Proof.AdamSc.Claims.lean ====
/- The update of the short convolution's weights: the kernel's three results and the reference's are the step and the two moments, entry by entry. -/
module

public import proofs.«01_k».proof.Defs
public import proofs.«01_k».proof.Proof.Gen.Kernel25.Frame
public import proofs.«01_k».proof.Proof.Gen.Kernel25Ideal.Value
public import proofs.«01_k».proof.Proof.Gen.Reference25Ideal.Read
public import proofs.«01_k».proof.Proof.Adam

@[expose] public section

set_option maxRecDepth 16384

noncomputable section

namespace Cert.AdamSc

open Idealize.ShloMosaic Idealize.ShloMosaic.TcCoe Idealize.SL.Sem

/-- The shape of the arrays. -/
abbrev SW : Shape := ⟨2, ![6, 256]⟩

section
open Cert.Reference25Ideal Cert.Reference25Ideal.Gen Cert.Reference25Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel25Ideal Cert.Kernel25Ideal.Gen Cert.Kernel25Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel25 (hKernel25 := Cert.Kernel25.Gen.facts) := fun m ρ _ => Cert.Kernel25.Gen.frame m ρ

/-- The same of the kernel over exact numbers. -/
theorem frame_ideal : Cert.quiescent_Kernel25Ideal (hKernel25Ideal := Cert.Kernel25Ideal.Gen.facts) :=
  fun m ρ _ => Cert.Kernel25Ideal.Gen.frame m ρ

/-- The same of the reference, which is host code and holds no semaphore. -/
theorem frame_reference : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- Over exact numbers the kernel's results are the reference's: both are the step and the two moments of the arguments. -/
theorem algebraic : Cert.algebraic_Kernel25Ideal_Reference25Ideal (hKernel25Ideal := Cert.Kernel25Ideal.Gen.facts)
    (hReference25Ideal := Cert.Reference25Ideal.Gen.facts) := by
  intro m g m' g' _ hargs
  refine ⟨_, _, _, Cert.Kernel25Ideal.Value.run m g, ?_⟩
  refine (θ_run Cert.Reference25Ideal.defs _ _).mono (fun r h c => ?_) (Cert.Reference25Ideal.Value.run (F := Ideal) m' g')
  obtain ⟨h0, h1, h2, hk⟩ := h c
  obtain ⟨a0, a1, a2, a3⟩ := hargs c
  refine ⟨?_, ?_, ?_, hk⟩
  · refine h0.trans ((Cert.Reference25Ideal.Read.val_main_v23_eq _ _ _ _).trans ?_)
    rw [a0, a1, a2, a3]
    exact funext fun x => (step_at _ _ _ _ x).trans (kernel_step _ _ _ _ x).symm
  · refine h1.trans ((Cert.Reference25Ideal.Read.val_main_v4_eq _ _).trans ?_)
    rw [a1, a2]
    exact funext fun x => (first_at _ _ x).trans (kernel_first _ _ x).symm
  · refine h2.trans ((Cert.Reference25Ideal.Read.val_main_v10_eq _ _).trans ?_)
    rw [a1, a3]
    exact funext fun x => (second_at _ _ x).trans (kernel_second _ _ x).symm

end Cert.AdamSc

end
-- ==== Proof.AdamConv.Claims.lean ====
/- The update of the feed-forward convolution's weights: the kernel's three results and the reference's are the step and the two moments, entry by entry. -/
module

public import proofs.«01_k».proof.Defs
public import proofs.«01_k».proof.Proof.Gen.Kernel26.Frame
public import proofs.«01_k».proof.Proof.Gen.Kernel26Ideal.Value
public import proofs.«01_k».proof.Proof.Gen.Reference26Ideal.Read
public import proofs.«01_k».proof.Proof.Adam

@[expose] public section

set_option maxRecDepth 16384

noncomputable section

namespace Cert.AdamConv

open Idealize.ShloMosaic Idealize.ShloMosaic.TcCoe Idealize.SL.Sem

/-- The shape of the arrays. -/
abbrev SW : Shape := ⟨2, ![12, 704]⟩

section
open Cert.Reference26Ideal Cert.Reference26Ideal.Gen Cert.Reference26Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel26Ideal Cert.Kernel26Ideal.Gen Cert.Kernel26Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel26 (hKernel26 := Cert.Kernel26.Gen.facts) := fun m ρ _ => Cert.Kernel26.Gen.frame m ρ

/-- The same of the kernel over exact numbers. -/
theorem frame_ideal : Cert.quiescent_Kernel26Ideal (hKernel26Ideal := Cert.Kernel26Ideal.Gen.facts) :=
  fun m ρ _ => Cert.Kernel26Ideal.Gen.frame m ρ

/-- The same of the reference, which is host code and holds no semaphore. -/
theorem frame_reference : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- Over exact numbers the kernel's results are the reference's: both are the step and the two moments of the arguments. -/
theorem algebraic : Cert.algebraic_Kernel26Ideal_Reference26Ideal (hKernel26Ideal := Cert.Kernel26Ideal.Gen.facts)
    (hReference26Ideal := Cert.Reference26Ideal.Gen.facts) := by
  intro m g m' g' _ hargs
  refine ⟨_, _, _, Cert.Kernel26Ideal.Value.run m g, ?_⟩
  refine (θ_run Cert.Reference26Ideal.defs _ _).mono (fun r h c => ?_) (Cert.Reference26Ideal.Value.run (F := Ideal) m' g')
  obtain ⟨h0, h1, h2, hk⟩ := h c
  obtain ⟨a0, a1, a2, a3⟩ := hargs c
  refine ⟨?_, ?_, ?_, hk⟩
  · refine h0.trans ((Cert.Reference26Ideal.Read.val_main_v23_eq _ _ _ _).trans ?_)
    rw [a0, a1, a2, a3]
    exact funext fun x => (step_at _ _ _ _ x).trans (kernel_step _ _ _ _ x).symm
  · refine h1.trans ((Cert.Reference26Ideal.Read.val_main_v4_eq _ _).trans ?_)
    rw [a1, a2]
    exact funext fun x => (first_at _ _ x).trans (kernel_first _ _ x).symm
  · refine h2.trans ((Cert.Reference26Ideal.Read.val_main_v10_eq _ _).trans ?_)
    rw [a1, a3]
    exact funext fun x => (second_at _ _ x).trans (kernel_second _ _ x).symm

end Cert.AdamConv

end
-- ==== Proof.AdamConvB.Claims.lean ====
/- The update of the feed-forward convolution's bias: the kernel's three results and the reference's are the step and the two moments, entry by entry. -/
module

public import proofs.«01_k».proof.Defs
public import proofs.«01_k».proof.Proof.Gen.Kernel27.Frame
public import proofs.«01_k».proof.Proof.Gen.Kernel27Ideal.Value
public import proofs.«01_k».proof.Proof.Gen.Reference27Ideal.Read
public import proofs.«01_k».proof.Proof.Adam

@[expose] public section

set_option maxRecDepth 16384

noncomputable section

namespace Cert.AdamConvB

open Idealize.ShloMosaic Idealize.ShloMosaic.TcCoe Idealize.SL.Sem

/-- The shape of the arrays. -/
abbrev SW : Shape := ⟨2, ![4, 5632]⟩

section
open Cert.Reference27Ideal Cert.Reference27Ideal.Gen Cert.Reference27Ideal.Read
variable (W G M V : FVec Ideal SW .f32)

/-- The reference's first moment at an index. -/
theorem first_at (x : SW.Idx) : (val_main_v4 (F := Ideal) G M x : EReal) = Adam.first (G x) (M x) := by
  pointwise [val_main_v4, val_main_v3, val_main_v2, val_main_cst_0, val_main_v1, val_main_v0, val_main_cst, Adam.first]

/-- The reference's second moment at an index. -/
theorem second_at (x : SW.Idx) : (val_main_v10 (F := Ideal) G V x : EReal) = Adam.second (G x) (V x) := by
  pointwise [val_main_v10, val_main_v9, val_main_v8, val_main_cst_2, val_main_v7, val_main_v6, val_main_v5, val_main_cst_1, Adam.second]

/-- The reference's step at an index. -/
theorem step_at (x : SW.Idx) : (val_main_v23 (F := Ideal) W G M V x : EReal) = Adam.step (W x) (G x) (M x) (V x) := by
  unfold Adam.step
  rw [← first_at, ← second_at]
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3]

end

section
open Cert.Kernel27Ideal Cert.Kernel27Ideal.Gen Cert.Kernel27Ideal.Value

/-- The kernel's step at an index. -/
theorem kernel_step (W G M V : FVec Ideal SW .f32) (x : SW.Idx) : (G4 (F := Ideal) W G M V x : EReal) = Adam.step (W x) (G x) (M x) (V x) := rfl

/-- The kernel's first moment at an index. -/
theorem kernel_first (G M : FVec Ideal SW .f32) (x : SW.Idx) : (G5 (F := Ideal) G M x : EReal) = Adam.first (G x) (M x) := rfl

/-- The kernel's second moment at an index. -/
theorem kernel_second (G V : FVec Ideal SW .f32) (x : SW.Idx) : (G6 (F := Ideal) G V x : EReal) = Adam.second (G x) (V x) := rfl

end

/-- The kernel, rounding as the device does, runs to its end and leaves its arguments as they were. -/
theorem frame_kernel : Cert.quiescent_Kernel27 (hKernel27 := Cert.Kernel27.Gen.facts) := fun m ρ _ => Cert.Kernel27.Gen.frame m ρ

/-- The same of the kernel over exact numbers. -/
theorem frame_ideal : Cert.quiescent_Kernel27Ideal (hKernel27Ideal := Cert.Kernel27Ideal.Gen.facts) :=
  fun m ρ _ => Cert.Kernel27Ideal.Gen.frame m ρ

/-- The same of the reference, which is host code and holds no semaphore. -/
theorem frame_reference : Cert.quiescent_Reference27Ideal (hReference27Ideal := Cert.Reference27Ideal.Gen.facts) := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- Over exact numbers the kernel's results are the reference's: both are the step and the two moments of the arguments. -/
theorem algebraic : Cert.algebraic_Kernel27Ideal_Reference27Ideal (hKernel27Ideal := Cert.Kernel27Ideal.Gen.facts)
    (hReference27Ideal := Cert.Reference27Ideal.Gen.facts) := by
  intro m g m' g' _ hargs
  refine ⟨_, _, _, Cert.Kernel27Ideal.Value.run m g, ?_⟩
  refine (θ_run Cert.Reference27Ideal.defs _ _).mono (fun r h c => ?_) (Cert.Reference27Ideal.Value.run (F := Ideal) m' g')
  obtain ⟨h0, h1, h2, hk⟩ := h c
  obtain ⟨a0, a1, a2, a3⟩ := hargs c
  refine ⟨?_, ?_, ?_, hk⟩
  · refine h0.trans ((Cert.Reference27Ideal.Read.val_main_v23_eq _ _ _ _).trans ?_)
    rw [a0, a1, a2, a3]
    exact funext fun x => (step_at _ _ _ _ x).trans (kernel_step _ _ _ _ x).symm
  · refine h1.trans ((Cert.Reference27Ideal.Read.val_main_v4_eq _ _).trans ?_)
    rw [a1, a2]
    exact funext fun x => (first_at _ _ x).trans (kernel_first _ _ x).symm
  · refine h2.trans ((Cert.Reference27Ideal.Read.val_main_v10_eq _ _).trans ?_)
    rw [a1, a3]
    exact funext fun x => (second_at _ _ x).trans (kernel_second _ _ x).symm

end Cert.AdamConvB

end
-- ==== Proof.SumSmall.Claims.lean ====
/- The sum of the eight devices' small gradients: the kernel's result and the reference's are the same eight terms, block by block. -/
module

public import proofs.«01_k».proof.Defs
public import proofs.«01_k».proof.Proof.Gen.Kernel28.Frame
public import proofs.«01_k».proof.Proof.Gen.Kernel28Ideal.Value
public import proofs.«01_k».proof.Proof.Gen.Reference28Ideal.Read
public import Idealize.ShloMosaic.Lib.Pipeline.ValueKit

@[expose] public section

set_option maxRecDepth 16384

noncomputable section

namespace Cert.SumSmall

open Idealize.ShloMosaic Idealize.ShloMosaic.TcCoe Idealize.SL.Sem

/-- Row `i` of the `k`-th device's block. -/
abbrev row (k : Fin 8) (i : Fin 1584) : Fin 12672 := ⟨k.val * 1584 + i.val, by omega⟩

/-- The sum of the eight blocks at a row and lane. -/
def total (X : FVec Ideal (⟨2, ![12672, 128]⟩ : Shape) .f32) (i : Fin 1584) (n : Fin 128) : EReal := ∑ k : Fin 8, X (ix2 (row k i) n)

section
open Cert.Reference28Ideal Cert.Reference28Ideal.Gen Cert.Reference28Ideal.Read

/-- The reference's result at an index. -/
theorem reference_at (X : FVec Ideal S12672x128 .f32) (x : S1584x128.Idx) : (val_main_v1 (F := Ideal) X x : EReal) = total X (x 0) (x 1) := by
  rw [val_main_v1_apply]
  refine (congrArg₂ (fun a b : EReal => a + b) (show (val_main_cst (F := Ideal) (Shape.Idx.first h_S_) : EReal) = 0 by pointwise [val_main_cst])
    (Finset.sum_congr rfl fun k _ => ?_)).trans (zero_add _)
  rw [val_main_v0_apply]
  have hk : k.val < 8 := k.isLt
  have h0 : (x 0).val < 1584 := (x 0).isLt
  have h1 : (x 1).val < 128 := (x 1).isLt
  refine congrArg X (funext fun a => match a with
    | ⟨0, _⟩ => Fin.ext ?_
    | ⟨1, _⟩ => Fin.ext ?_)
  · show ((k.val * 1584 + (x 0).val) * 128 + (x 1).val) / 128 = k.val * 1584 + (x 0).val
    omega
  · show ((k.val * 1584 + (x 0).val) * 128 + (x 1).val) % 128 = (x 1).val
    omega

end

section
open Cert.Kernel28Ideal Cert.Kernel28Ideal.Gen Cert.Kernel28Ideal.Value

/-- One device's block, read at an index. -/
theorem block_at (X : FVec Ideal S12672x128 .f32) (k : Fin 8) (h) (x : S1584x128.Idx) :
    (show Vec Ideal S1584x128 .f32 from View.ld (Val := Elt Ideal) (e' := .f32) X (Rect.unit (s := S12672x128) ![k.val * 1584, 0] ![1584, 128] h)) x
      = X (ix2 (row k (x 0)) (x 1)) := by
  refine congrArg X (funext fun a => match a with
    | ⟨0, _⟩ => Fin.ext ?_
    | ⟨1, _⟩ => Fin.ext ?_) <;> simp [Rect.emb, Rect.unit, ix2]

/-- The kernel's eight terms, one after the other. -/
theorem sum_at (z0 z1 z2 z3 z4 z5 z6 z7 : Vec Ideal S1584x128 .f32) (x : S1584x128.Idx) :
    (k0_pay1 (F := Ideal) z0 z1 z2 z3 z4 z5 z6 z7 x : EReal) = (z0 x : EReal) + z1 x + z2 x + z3 x + z4 x + z5 x + z6 x + z7 x := by
  pointwise [k0_pay1]

/-- The kernel's result at an index. -/
theorem kernel_at (X : FVec Ideal S12672x128 .f32) (x : S1584x128.Idx) : (G1 (F := Ideal) X x : EReal) = total X (x 0) (x 1) := by
  refine (sum_at _ _ _ _ _ _ _ _ x).trans ?_
  unfold total
  rw [Fin.sum_univ_eight]
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
      (congrArg₂ (fun x y : EReal => x + y) (block_at X 0 _ x) (block_at X 1 _ x)) (block_at X 2 _ x)) (block_at X 3 _ x))
      (block_at X 4 _ x)) (block_at X 5 _ x)) (block_at X 6 _ x)) (block_at X 7 _ x)

end

/-- The kernel, rounding as the device does, runs to its end and leaves its argument as it was. -/
theorem frame_kernel : Cert.quiescent_Kernel28 (hKernel28 := Cert.Kernel28.Gen.facts) := fun m ρ _ => Cert.Kernel28.Gen.frame m ρ

/-- The same of the kernel over exact numbers. -/
theorem frame_ideal : Cert.quiescent_Kernel28Ideal (hKernel28Ideal := Cert.Kernel28Ideal.Gen.facts) :=
  fun m ρ _ => Cert.Kernel28Ideal.Gen.frame m ρ

/-- The same of the reference, which is host code and holds no semaphore. -/
theorem frame_reference : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)

/-- Over exact numbers the kernel's result is the reference's: the sum of the eight blocks. -/
theorem algebraic : Cert.algebraic_Kernel28Ideal_Reference28Ideal (hKernel28Ideal := Cert.Kernel28Ideal.Gen.facts)
    (hReference28Ideal := Cert.Reference28Ideal.Gen.facts) := by
  intro m g m' g' _ hargs
  refine ⟨_, Cert.Kernel28Ideal.Value.run m g, ?_⟩
  refine (θ_run Cert.Reference28Ideal.defs _ _).mono (fun r h c => ⟨?_, (h c).2⟩) (Cert.Reference28Ideal.Value.run (F := Ideal) m' g')
  refine (h c).1.trans ((Cert.Reference28Ideal.Read.val_main_v1_eq _).trans ?_)
  rw [hargs c]
  exact funext fun x => (reference_at _ x).trans (kernel_at _ x).symm

end Cert.SumSmall

end
-- ==== Proof.Reduced.lean ====
/- A weight's update out of the gradient's shares, in the first of its layers: what the four results hold. -/
module

public import proofs.«01_k».proof.Proof.Adam
public import proofs.«01_k».proof.Proof.Sums

@[expose] public section

noncomputable section

namespace Cert.Reduced

open Idealize.ShloMosaic Idealize.ShloMosaic.TcCoe

/-- The shape of `k` matrices. -/
abbrev Cube (k a b : ℕ) : Shape := ⟨3, ![k, a, b]⟩

variable {L A N : ℕ} (O : FVec Ideal (Cube 8 A N) .bf16) (Z : FVec Ideal (Cube 7 A N) .bf16) (W M V B : FVec Ideal (Cube (L + 1) A N) .f32)

/-- The gradient of the first layer's weight: the device's own share and the seven received. -/
def grad (i : Fin A) (n : Fin N) : EReal := (O (ix3 0 i n) : EReal) + ∑ k : Fin 7, (Z (ix3 k i n) : EReal)

/-- An array whose first layer is replaced. -/
def place (X : Fin A → Fin N → EReal) : FVec Ideal (Cube (L + 1) A N) .f32 := fun x => if (x 0).val = 0 then X (x 1) (x 2) else B x

/-- The first result: the gradient in the first layer. -/
def total : FVec Ideal (Cube (L + 1) A N) .f32 := place B (grad O Z)

/-- The second result: the step in the first layer. -/
def delta : FVec Ideal (Cube (L + 1) A N) .f32 :=
  place B fun i n => Adam.step (W (ix3 0 i n)) (grad O Z i n) (M (ix3 0 i n)) (V (ix3 0 i n))

/-- The third result: the first moment in the first layer. -/
def first : FVec Ideal (Cube (L + 1) A N) .f32 := place B fun i n => Adam.first (grad O Z i n) (M (ix3 0 i n))

/-- The fourth result: the second moment in the first layer. -/
def second : FVec Ideal (Cube (L + 1) A N) .f32 := place B fun i n => Adam.second (grad O Z i n) (V (ix3 0 i n))

/-- Seven terms after a first, one after the other, are the first and the sum of the seven. -/
theorem eight (a : EReal) (f : Fin 7 → EReal) : a + f 0 + f 1 + f 2 + f 3 + f 4 + f 5 + f 6 = a + ∑ k : Fin 7, f k := by
  rw [Fin.sum_univ_seven]
  simp only [add_assoc]

/-- The first layer from one array and the rest from another, read at an index. -/
theorem layer (k : Fin (L + 1)) (i : Fin A) (n : Fin N) (X : FVec Ideal (⟨2, ![A, N]⟩ : Shape) .f32) (p : ¬k.val < 1 → 1 + (k.val - 1) < L + 1) :
    (if h : k.val < 1 then (X (ix2 i n) : EReal) else B (ix3 ⟨1 + (k.val - 1), p h⟩ i n)) = place B (fun i n => X (ix2 i n)) (ix3 k i n) := by
  by_cases h : k.val < 1
  · rw [dif_pos h]
    exact (if_pos (show k.val = 0 by omega)).symm
  · rw [dif_neg h]
    refine Eq.trans ?_ (if_neg (show ¬k.val = 0 by omega)).symm
    exact congrArg (fun l => B (ix3 l i n)) (Fin.ext (show 1 + (k.val - 1) = k.val by omega))

end Cert.Reduced

end
-- ==== Proof.ReduceQkv.Kernel.lean ====
/- The reduced update of the attention's input weights: what the kernel leaves in its four results. Every grid point updates 256 rows of the first layer. -/
module

public import proofs.«01_k».proof.Proof.Gen.Kernel29Ideal.Frame
public import proofs.«01_k».proof.Proof.Reduced

@[expose] public section

set_option maxRecDepth 16384

noncomputable section

namespace Cert.ReduceQkv

open Idealize.ShloMosaic Idealize.ShloMosaic.TcCoe Idealize.SL.Sem Cert.Reduced
open Cert.Kernel29Ideal Cert.Kernel29Ideal.Gen

/-- The table of the device's number when the number is zero. -/
def zeros {F : FTy → Type} : pre0.Contents (Elt F) := fun | ⟨0, _⟩ => fun _ => 0#32 | ⟨_ + 1, h⟩ => absurd h (by simp)

section
variable {F : FTy → Type} [FloatOps F] (m : (ℓ : Loc nD τ sig) → Buf (Elt F) ℓ)

/-- The kernel finds that table. -/
theorem table : tbl m = zeros := by
  funext j
  match j with
  | ⟨0, _⟩ =>
    funext x
    show StableHlo.after hostOps0 (fun b => m ((0 : Dev nD), b)) main_v0 x = 0#32
    simp only [hostOps0]
    after_results
    rfl

/-- Every block lies in its array. -/
theorem ok : Ok m := by
  unfold Ok
  rw [table]
  exact (by decide +kernel : ok0 (F := Bits) zeros)

end

/-- The zero table as admitted contents. -/
def zero : (pcfg0 (F := Ideal)).Adm := ⟨zeros, by decide +kernel⟩

variable (m : (ℓ : Loc nD τ sig) → Buf (Elt Ideal) ℓ) (hO : Ok m) (c : Dev nD)

/-- The contents the kernel runs at are the zero table. -/
theorem at_zero : adm m hO = zero := Subtype.ext (table m)

/-- Which block of each array a grid point works on: the same of all nine. -/
def Maps (a : (pcfg0 (F := Ideal)).Adm) : Prop := ∀ t : Fin (cfg0 a).N, ((cfg0 a).win 0).index t = ![0, t.val, 0]
  ∧ ((cfg0 a).win 1).index t = ![0, t.val, 0] ∧ ((cfg0 a).win 2).index t = ![0, t.val, 0] ∧ ((cfg0 a).win 3).index t = ![0, t.val, 0]
  ∧ ((cfg0 a).win 4).index t = ![0, t.val, 0] ∧ ((cfg0 a).win 5).index t = ![0, t.val, 0] ∧ ((cfg0 a).win 6).index t = ![0, t.val, 0]
  ∧ ((cfg0 a).win 7).index t = ![0, t.val, 0] ∧ ((cfg0 a).win 8).index t = ![0, t.val, 0]

/-- It is so at the zero table, hence of the kernel's run. -/
theorem idx : Maps (adm m hO) := by
  rw [at_zero]
  unfold Maps
  decide +kernel

/-- The blocks written back fill the first layer, whichever of the four results. -/
def Fills (a : (pcfg0 (F := Ideal)).Adm) : Prop := ((cfg0 a).win 5).CoversWhere (fun β : Fin 3 → ℕ => β 0 = 0)
  ∧ ((cfg0 a).win 6).CoversWhere (fun β : Fin 3 → ℕ => β 0 = 0) ∧ ((cfg0 a).win 7).CoversWhere (fun β : Fin 3 → ℕ => β 0 = 0)
  ∧ ((cfg0 a).win 8).CoversWhere (fun β : Fin 3 → ℕ => β 0 = 0)

/-- It is so at the zero table, hence of the kernel's run. -/
theorem fills : Fills (adm m hO) := by
  rw [at_zero]
  unfold Fills
  decide +kernel

/-- The nine arguments: the device's own shares and the received, the weight, its two moments, and what the four results start as. -/
abbrev own : FVec Ideal (Cube 8 2048 384) .bf16 := m ((c : Thread nD τ).loc main_arg0)
abbrev got : FVec Ideal (Cube 7 2048 384) .bf16 := m ((c : Thread nD τ).loc main_arg1)
abbrev weight : FVec Ideal (Cube 2 2048 384) .f32 := m ((c : Thread nD τ).loc main_arg2)
abbrev mean : FVec Ideal (Cube 2 2048 384) .f32 := m ((c : Thread nD τ).loc main_arg3)
abbrev square : FVec Ideal (Cube 2 2048 384) .f32 := m ((c : Thread nD τ).loc main_arg4)
abbrev old5 : FVec Ideal (Cube 2 2048 384) .f32 := m ((c : Thread nD τ).loc main_arg5)
abbrev old6 : FVec Ideal (Cube 2 2048 384) .f32 := m ((c : Thread nD τ).loc main_arg6)
abbrev old7 : FVec Ideal (Cube 2 2048 384) .f32 := m ((c : Thread nD τ).loc main_arg7)
abbrev old8 : FVec Ideal (Cube 2 2048 384) .f32 := m ((c : Thread nD τ).loc main_arg8)

/-- The row of the array an entry of a grid point's tile is in. -/
abbrev row (t : Fin (cfgM m hO).N) (y : S1x256x384.Idx) : Fin 2048 := ⟨t.val * 256 + (y 1).val, by
  have ht : t.val < 8 := t.isLt
  have h1 : (y 1).val < 256 := (y 1).isLt
  omega⟩

/-- A tile's first axis has one entry. -/
theorem tile {e : EltTy} (X : Vec Ideal S1x256x384 e) (y : S1x256x384.Idx) : X y = X (ix3 0 (y 1) (y 2)) := congrArg X (funext fun a => match a with
  | ⟨0, _⟩ => Fin.ext (by
      have h : (y 0).val < 1 := (y 0).isLt
      show (y 0).val = 0
      omega)
  | ⟨1, _⟩ => rfl
  | ⟨2, _⟩ => rfl)

variable (t : Fin (cfgM m hO).N) (y : S1x256x384.Idx)

/-- Which element of its own shares a grid point's block holds. -/
theorem own_at : (show FVec Ideal S1x256x384 .bf16 from iblk m hO c 0 t) (ix3 0 (y 1) (y 2)) = own m c (ix3 0 (row m hO t y) (y 2)) := by
  refine Eq.trans ?_ (congrFun (V_main_arg0 m c) _)
  blk_point [iblk, idx m hO t]

/-- Which element of the received shares a grid point's block holds. -/
theorem got_at (k : Fin 7) : (show FVec Ideal S7x256x384 .bf16 from iblk m hO c 1 t) (ix3 k (y 1) (y 2)) = got m c (ix3 k (row m hO t y) (y 2)) := by
  refine Eq.trans ?_ (congrFun (V_main_arg1 m c) _)
  blk_point [iblk, idx m hO t]

/-- Which element of the weight a grid point's block holds. -/
theorem weight_at : (show FVec Ideal S1x256x384 .f32 from iblk m hO c 2 t) y = weight m c (ix3 0 (row m hO t y) (y 2)) := by
  refine (tile _ y).trans (Eq.trans ?_ (congrFun (V_main_arg2 m c) _))
  blk_point [iblk, idx m hO t]

/-- Which element of the first moment a grid point's block holds. -/
theorem mean_at : (show FVec Ideal S1x256x384 .f32 from iblk m hO c 3 t) y = mean m c (ix3 0 (row m hO t y) (y 2)) := by
  refine (tile _ y).trans (Eq.trans ?_ (congrFun (V_main_arg3 m c) _))
  blk_point [iblk, idx m hO t]

/-- Which element of the second moment a grid point's block holds. -/
theorem square_at : (show FVec Ideal S1x256x384 .f32 from iblk m hO c 4 t) y = square m c (ix3 0 (row m hO t y) (y 2)) := by
  refine (tile _ y).trans (Eq.trans ?_ (congrFun (V_main_arg4 m c) _))
  blk_point [iblk, idx m hO t]

/-- Each result starts as the array it is given. -/
theorem entry : V m c main_v1_0 = old5 m c ∧ V m c main_v1_1 = old6 m c ∧ V m c main_v1_2 = old7 m c ∧ V m c main_v1_3 = old8 m c := by
  refine ⟨?_, ?_, ?_, ?_⟩
  all_goals
    show StableHlo.after hostOps0 (fun b => m (c, b)) _ = _
    simp only [hostOps0]
    after_results
    rfl

/-- The body's sum of the eight shares. -/
theorem sum_at (o z0 z1 z2 z3 z4 z5 z6 : Vec Ideal S1x256x384 .bf16) (i : Fin 256) (n : Fin 384) :
    (k0_pay3 (F := Ideal) o z0 z1 z2 z3 z4 z5 z6 (ix2 i n) : EReal)
      = (o (ix3 0 i n) : EReal) + z0 (ix3 0 i n) + z1 (ix3 0 i n) + z2 (ix3 0 i n) + z3 (ix3 0 i n) + z4 (ix3 0 i n) + z5 (ix3 0 i n) + z6 (ix3 0 i n) := by
  pointwise [k0_pay3]

/-- A tile of the gradient. -/
theorem total_at (v : FVec Ideal S256x384 .f32) : (k0_pay6 (F := Ideal) v y : EReal) = v (ix2 (y 1) (y 2)) := by
  pointwise [k0_pay6]

/-- A tile of the first moment. -/
theorem first_at (v : FVec Ideal S256x384 .f32) (a : FVec Ideal S1x256x384 .f32) :
    (k0_pay1 (F := Ideal) (k0_pay4 v a) y : EReal) = Adam.first (v (ix2 (y 1) (y 2))) (a y) := by
  pointwise [k0_pay1, k0_pay4, Adam.first]

/-- A tile of the second moment. -/
theorem second_at (v : FVec Ideal S256x384 .f32) (b : FVec Ideal S1x256x384 .f32) :
    (k0_pay2 (F := Ideal) (k0_pay5 v b) y : EReal) = Adam.second (v (ix2 (y 1) (y 2))) (b y) := by
  pointwise [k0_pay2, k0_pay5, Adam.second]

/-- A tile of the step. -/
theorem step_at (v : FVec Ideal S256x384 .f32) (w a b : FVec Ideal S1x256x384 .f32) :
    (k0_pay7 (F := Ideal) v w a b y : EReal) = Adam.step (w y) (v (ix2 (y 1) (y 2))) (a y) (b y) := by
  pointwise [k0_pay7, k0_pay4, k0_pay5, Adam.step, Adam.first, Adam.second]

/-- One share's tile out of the seven. -/
abbrev cut (X : FVec Ideal S7x256x384 .bf16) (k : ℕ) (h) :=
  (show Vec Ideal S1x256x384 .bf16 from View.ld (Val := Elt Ideal) (e' := .bf16) X (Rect.unit (s := S7x256x384) ![k, 0, 0] ![1, 256, 384] h))

/-- What that tile holds. -/
theorem cut_at (X : FVec Ideal S7x256x384 .bf16) (k : ℕ) (hk : k < 7) (h) (i : Fin 256) (n : Fin 384) : cut X k h (ix3 0 i n) = X (ix3 ⟨k, hk⟩ i n) := by
  refine congrArg X (funext fun a => match a with
    | ⟨0, _⟩ => Fin.ext ?_
    | ⟨1, _⟩ => Fin.ext ?_
    | ⟨2, _⟩ => Fin.ext ?_) <;> simp [Rect.emb, Rect.unit, ix3]

/-- The gradient's tile of a grid point. -/
theorem gradient (x0 : FVec Ideal S1x256x384 .bf16) (x1 : FVec Ideal S7x256x384 .bf16)
    (e0 : x0 = iblk m hO c 0 t) (e1 : x1 = iblk m hO c 1 t) (h0 h1 h2 h3 h4 h5 h6) :
    (k0_pay3 (F := Ideal) x0 (cut x1 0 h0) (cut x1 1 h1) (cut x1 2 h2) (cut x1 3 h3) (cut x1 4 h4) (cut x1 5 h5) (cut x1 6 h6) (ix2 (y 1) (y 2)) : EReal)
      = grad (own m c) (got m c) (row m hO t y) (y 2) := by
  subst e0 e1
  have e (k : ℕ) (hk : k < 7) (h) := (cut_at (iblk m hO c 1 t) k hk h (y 1) (y 2)).trans (got_at m hO c t y ⟨k, hk⟩)
  refine (sum_at _ _ _ _ _ _ _ _ (y 1) (y 2)).trans ?_
  refine Eq.trans ?_ (eight _ fun k => got m c (ix3 k (row m hO t y) (y 2)))
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
      (congrArg₂ (fun x y : EReal => x + y) (own_at m hO c t y) (e 0 (by omega) _)) (e 1 (by omega) _)) (e 2 (by omega) _)) (e 3 (by omega) _))
      (e 4 (by omega) _)) (e 5 (by omega) _)) (e 6 (by omega) _)

variable (X : Fin 2048 → Fin 384 → EReal) (B : FVec Ideal (Cube 2 2048 384) .f32)

/-- Where an element of a tile sits in the first result. -/
theorem place5 : place B X ((((spec0 5).arr.view.slice ((pcfg0.win (adm m hO) 5).rect t))).emb y) = X (row m hO t y) (y 2) := by
  have h0 : (y 0).val < 1 := (y 0).isLt
  refine Eq.trans (b := place B X (ix3 0 (row m hO t y) (y 2))) ?_ (if_pos rfl)
  have e : (pcfg0.win (adm m hO) 5).index t = ![0, t.val, 0] := (idx m hO t).2.2.2.2.2.1
  blk_ext [e]

/-- Where an element of a tile sits in the second result. -/
theorem place6 : place B X ((((spec0 6).arr.view.slice ((pcfg0.win (adm m hO) 6).rect t))).emb y) = X (row m hO t y) (y 2) := by
  have h0 : (y 0).val < 1 := (y 0).isLt
  refine Eq.trans (b := place B X (ix3 0 (row m hO t y) (y 2))) ?_ (if_pos rfl)
  have e : (pcfg0.win (adm m hO) 6).index t = ![0, t.val, 0] := (idx m hO t).2.2.2.2.2.2.1
  blk_ext [e]

/-- Where an element of a tile sits in the third result. -/
theorem place7 : place B X ((((spec0 7).arr.view.slice ((pcfg0.win (adm m hO) 7).rect t))).emb y) = X (row m hO t y) (y 2) := by
  have h0 : (y 0).val < 1 := (y 0).isLt
  refine Eq.trans (b := place B X (ix3 0 (row m hO t y) (y 2))) ?_ (if_pos rfl)
  have e : (pcfg0.win (adm m hO) 7).index t = ![0, t.val, 0] := (idx m hO t).2.2.2.2.2.2.2.1
  blk_ext [e]

/-- Where an element of a tile sits in the fourth result. -/
theorem place8 : place B X ((((spec0 8).arr.view.slice ((pcfg0.win (adm m hO) 8).rect t))).emb y) = X (row m hO t y) (y 2) := by
  have h0 : (y 0).val < 1 := (y 0).isLt
  refine Eq.trans (b := place B X (ix3 0 (row m hO t y) (y 2))) ?_ (if_pos rfl)
  have e : (pcfg0.win (adm m hO) 8).index t = ![0, t.val, 0] := (idx m hO t).2.2.2.2.2.2.2.2
  blk_ext [e]

/-- The first result is the gradient in the first layer. -/
theorem kernel_total : (dats m hO 0 c).arrAt 5 (cfgM m hO).N = total (own m c) (got m c) (old5 m c) := by
  refine (dats m hO 0 c).arrAt_eq_of_coversWhere_of_agree 5 _ (fun β : Fin 3 → ℕ => β 0 = 0) (fills m hO).1 (fun t hf (y : S1x256x384.Idx) => ?_)
    fun j hj => (congrFun (entry m c).1 _).trans (if_neg fun h => hj ((Nat.div_one _).trans h)).symm
  blk_simp
  rw [after0_5]
  unfold outsAt0
  frame_out
  refine (total_at y _).trans (Eq.trans ?_ (place5 m hO t y _ _).symm)
  exact gradient m hO c t y _ _ ((hs0_0 m hO t).read_unread _) ((hs0_1 m hO t).read_unread _) _ _ _ _ _ _ _

/-- The second result is the step in the first layer. -/
theorem kernel_delta : (dats m hO 0 c).arrAt 6 (cfgM m hO).N = delta (own m c) (got m c) (weight m c) (mean m c) (square m c) (old6 m c) := by
  refine (dats m hO 0 c).arrAt_eq_of_coversWhere_of_agree 6 _ (fun β : Fin 3 → ℕ => β 0 = 0) (fills m hO).2.1 (fun t hf (y : S1x256x384.Idx) => ?_)
    fun j hj => (congrFun (entry m c).2.1 _).trans (if_neg fun h => hj ((Nat.div_one _).trans h)).symm
  blk_simp
  rw [after0_6]
  unfold outsAt0
  frame_out
  refine (step_at y _ _ _ _).trans (Eq.trans ?_ (place6 m hO t y _ _).symm)
  exact congr (congr (congr (congrArg Adam.step ((congrFun ((hs0_2 m hO t).read_unread _) _).trans (weight_at m hO c t y)))
    (gradient m hO c t y _ _ ((hs0_0 m hO t).read_unread _) ((hs0_1 m hO t).read_unread _) _ _ _ _ _ _ _))
    ((congrFun ((hs0_3 m hO t).read_unread _) _).trans (mean_at m hO c t y))) ((congrFun ((hs0_4 m hO t).read_unread _) _).trans (square_at m hO c t y))

/-- The third result is the first moment in the first layer. -/
theorem kernel_first : (dats m hO 0 c).arrAt 7 (cfgM m hO).N = first (own m c) (got m c) (mean m c) (old7 m c) := by
  refine (dats m hO 0 c).arrAt_eq_of_coversWhere_of_agree 7 _ (fun β : Fin 3 → ℕ => β 0 = 0) (fills m hO).2.2.1 (fun t hf (y : S1x256x384.Idx) => ?_)
    fun j hj => (congrFun (entry m c).2.2.1 _).trans (if_neg fun h => hj ((Nat.div_one _).trans h)).symm
  blk_simp
  rw [after0_7]
  unfold outsAt0
  frame_out
  refine (first_at y _ _).trans (Eq.trans ?_ (place7 m hO t y _ _).symm)
  exact congr (congrArg Adam.first (gradient m hO c t y _ _ ((hs0_0 m hO t).read_unread _) ((hs0_1 m hO t).read_unread _) _ _ _ _ _ _ _))
    ((congrFun ((hs0_3 m hO t).read_unread _) _).trans (mean_at m hO c t y))

/-- The fourth result is the second moment in the first layer. -/
theorem kernel_second : (dats m hO 0 c).arrAt 8 (cfgM m hO).N = second (own m c) (got m c) (square m c) (old8 m c) := by
  refine (dats m hO 0 c).arrAt_eq_of_coversWhere_of_agree 8 _ (fun β : Fin 3 → ℕ => β 0 = 0) (fills m hO).2.2.2 (fun t hf (y : S1x256x384.Idx) => ?_)
    fun j hj => (congrFun (entry m c).2.2.2 _).trans (if_neg fun h => hj ((Nat.div_one _).trans h)).symm
  blk_simp
  rw [after0_8]
  unfold outsAt0
  frame_out
  refine (second_at y _ _).trans (Eq.trans ?_ (place8 m hO t y _ _).symm)
  exact congr (congrArg Adam.second (gradient m hO c t y _ _ ((hs0_0 m hO t).read_unread _) ((hs0_1 m hO t).read_unread _) _ _ _ _ _ _ _))
    ((congrFun ((hs0_4 m hO t).read_unread _) _).trans (square_at m hO c t y))

end Cert.ReduceQkv

end
-- ==== Proof.ReduceQkv.Reference.lean ====
/- The reduced update of the attention's input weights: what the reference leaves in its four results. -/
module

public import proofs.«01_k».proof.Proof.Gen.Reference29Ideal.Read
public import proofs.«01_k».proof.Proof.Reduced

@[expose] public section

set_option maxRecDepth 16384

noncomputable section

namespace Cert.ReduceQkv.Ref

open Idealize.ShloMosaic Idealize.ShloMosaic.TcCoe Idealize.SL.Sem Cert.Reduced
open Cert.Reference29Ideal Cert.Reference29Ideal.Gen Cert.Reference29Ideal.Read

variable (O : FVec Ideal S8x2048x384 .bf16) (Z : FVec Ideal S7x2048x384 .bf16) (W M V B : FVec Ideal S2x2048x384 .f32)

/-- The gradient at an index. -/
theorem grad_at (x : S2048x384.Idx) : (val_main_v5 (F := Ideal) O Z x : EReal) = grad O Z (x 0) (x 1) := by
  rw [val_main_v5_apply]
  refine congrArg₂ (fun a b : EReal => a + b) ?_ ?_
  · pointwise [val_main_v2, val_main_v1, val_main_v0]
  · refine (val_main_v4_apply Z x).trans ?_
    refine (congrArg₂ (fun a b : EReal => a + b) (show (val_main_cst (F := Ideal) (Shape.Idx.first h_S_) : EReal) = 0 by pointwise [val_main_cst])
      (Finset.sum_congr rfl fun k _ => show (val_main_v3 (F := Ideal) Z (idx_main_v4 x k) : EReal) = Z (ix3 k (x 0) (x 1)) by
        pointwise [val_main_v3]
        exact congrArg Z (funext fun a => match a with
          | ⟨0, _⟩ => rfl
          | ⟨1, _⟩ => rfl
          | ⟨2, _⟩ => rfl))).trans (zero_add _)

/-- The first moment at an index. -/
theorem first_at (x : S2048x384.Idx) : (val_main_v16 (F := Ideal) O Z M x : EReal) = Adam.first (grad O Z (x 0) (x 1)) (M (ix3 0 (x 0) (x 1))) := by
  rw [← grad_at]
  pointwise [val_main_v16, val_main_v15, val_main_v14, val_main_cst_1, val_main_v13, val_main_v12, val_main_cst_0, val_main_v9, val_main_v8, Adam.first]

/-- The second moment at an index. -/
theorem second_at (x : S2048x384.Idx) : (val_main_v22 (F := Ideal) O Z V x : EReal) = Adam.second (grad O Z (x 0) (x 1)) (V (ix3 0 (x 0) (x 1))) := by
  rw [← grad_at]
  pointwise [val_main_v22, val_main_v21, val_main_v20, val_main_cst_3, val_main_v19, val_main_v18, val_main_v17, val_main_cst_2, val_main_v11, val_main_v10, Adam.second]

/-- The step at an index. -/
theorem step_at (x : S2048x384.Idx) : (val_main_v35 (F := Ideal) O Z W M V x : EReal)
    = Adam.step (W (ix3 0 (x 0) (x 1))) (grad O Z (x 0) (x 1)) (M (ix3 0 (x 0) (x 1))) (V (ix3 0 (x 0) (x 1))) := by
  unfold Adam.step
  rw [← first_at, ← second_at]
  pointwise [val_main_v35, val_main_v34, val_main_cst_8, val_main_v33, val_main_v32, val_main_v31, val_main_cst_7, val_main_v30, val_main_v29, val_main_v28,
    val_main_cst_6, val_main_v27, val_main_v26, val_main_v25, val_main_cst_5, val_main_v24, val_main_v23, val_main_cst_4, val_main_v7, val_main_v6]

/-- An index is its three entries. -/
theorem entries (x : S2x2048x384.Idx) : ix3 (x 0) (x 1) (x 2) = x := funext fun a => match a with
  | ⟨0, _⟩ => rfl
  | ⟨1, _⟩ => rfl
  | ⟨2, _⟩ => rfl

/-- The first result. -/
theorem total : val_main_v38 (F := Ideal) O Z B = Reduced.total O Z B := funext fun x => by
  have hx : (x 0).val < 2 := (x 0).isLt
  refine Eq.trans (b := if h : (x 0).val < 1 then (val_main_v5 (F := Ideal) O Z (ix2 (x 1) (x 2)) : EReal)
    else B (ix3 ⟨1 + ((x 0).val - 1), by omega⟩ (x 1) (x 2))) (by pointwise [val_main_v38, val_main_v36, val_main_v37]) ?_
  refine ((layer B (x 0) (x 1) (x 2) _ _).trans (congrArg _ (entries x))).trans ?_
  exact congrFun (congrArg (fun X => place B X) (funext fun i => funext fun n => grad_at O Z (ix2 i n))) x

/-- The second result. -/
theorem delta : val_main_v41 (F := Ideal) O Z W M V B = Reduced.delta O Z W M V B := funext fun x => by
  have hx : (x 0).val < 2 := (x 0).isLt
  refine Eq.trans (b := if h : (x 0).val < 1 then (val_main_v35 (F := Ideal) O Z W M V (ix2 (x 1) (x 2)) : EReal)
    else B (ix3 ⟨1 + ((x 0).val - 1), by omega⟩ (x 1) (x 2))) (by pointwise [val_main_v41, val_main_v39, val_main_v40]) ?_
  refine ((layer B (x 0) (x 1) (x 2) _ _).trans (congrArg _ (entries x))).trans ?_
  exact congrFun (congrArg (fun X => place B X) (funext fun i => funext fun n => step_at O Z W M V (ix2 i n))) x

/-- The third result. -/
theorem first : val_main_v44 (F := Ideal) O Z M B = Reduced.first O Z M B := funext fun x => by
  have hx : (x 0).val < 2 := (x 0).isLt
  refine Eq.trans (b := if h : (x 0).val < 1 then (val_main_v16 (F := Ideal) O Z M (ix2 (x 1) (x 2)) : EReal)
    else B (ix3 ⟨1 + ((x 0).val - 1), by omega⟩ (x 1) (x 2))) (by pointwise [val_main_v44, val_main_v42, val_main_v43]) ?_
  refine ((layer B (x 0) (x 1) (x 2) _ _).trans (congrArg _ (entries x))).trans ?_
  exact congrFun (congrArg (fun X => place B X) (funext fun i => funext fun n => first_at O Z M (ix2 i n))) x

/-- The fourth result. -/
theorem second : val_main_v47 (F := Ideal) O Z V B = Reduced.second O Z V B := funext fun x => by
  have hx : (x 0).val < 2 := (x 0).isLt
  refine Eq.trans (b := if h : (x 0).val < 1 then (val_main_v22 (F := Ideal) O Z V (ix2 (x 1) (x 2)) : EReal)
    else B (ix3 ⟨1 + ((x 0).val - 1), by omega⟩ (x 1) (x 2))) (by pointwise [val_main_v47, val_main_v45, val_main_v46]) ?_
  refine ((layer B (x 0) (x 1) (x 2) _ _).trans (congrArg _ (entries x))).trans ?_
  exact congrFun (congrArg (fun X => place B X) (funext fun i => funext fun n => second_at O Z V (ix2 i n))) x

end Cert.ReduceQkv.Ref

end
-- ==== Proof.ReduceQkv.Claims.lean ====
/- The claims about the reduced update of the attention's input weights. -/
module

public import proofs.«01_k».proof.Defs
public import proofs.«01_k».proof.Proof.Gen.Kernel29.Frame
public import proofs.«01_k».proof.Proof.ReduceQkv.Kernel
public import proofs.«01_k».proof.Proof.ReduceQkv.Reference

@[expose] public section

set_option maxRecDepth 16384

noncomputable section

namespace Cert.ReduceQkv

open Idealize.ShloMosaic Idealize.ShloMosaic.TcCoe Idealize.SL.Sem Cert.Reduced

section
open Cert.Kernel29 Cert.Kernel29.Gen
variable {F : FTy → Type} [FloatOps F] (m : (ℓ : Loc nD τ sig) → Buf (Elt F) ℓ)

/-- The zero table of the kernel that rounds as the device does. -/
def device : pre0.Contents (Elt F) := fun | ⟨0, _⟩ => fun _ => 0#32 | ⟨_ + 1, h⟩ => absurd h (by simp)

/-- That kernel finds the zero table too. -/
theorem device_table : tbl m = device := by
  funext j
  match j with
  | ⟨0, _⟩ =>
    funext x
    show StableHlo.after hostOps0 (fun b => m ((0 : Dev nD), b)) main_v0 x = 0#32
    simp only [hostOps0]
    after_results
    rfl

/-- And its blocks lie in their arrays. -/
theorem device_ok : Ok m := by
  unfold Ok
  rw [device_table]
  exact (by decide +kernel : ok0 (F := Bits) device)

end

/-- The kernel, rounding as the device does, runs to its end and leaves its arguments as they were. -/
theorem frame_kernel : Cert.quiescent_Kernel29 (hKernel29 := Cert.Kernel29.Gen.facts) := fun m ρ _ =>
  Cert.Kernel29.Gen.frame m ρ (device_ok m)

/-- The same of the kernel over exact numbers. -/
theorem frame_ideal : Cert.quiescent_Kernel29Ideal (hKernel29Ideal := Cert.Kernel29Ideal.Gen.facts) :=
  fun m ρ _ => Cert.Kernel29Ideal.Gen.frame m ρ (ok m)

/-- The same of the reference, which is host code and holds no semaphore. -/
theorem frame_reference : Cert.quiescent_Reference29Ideal (hReference29Ideal := Cert.Reference29Ideal.Gen.facts) := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

/-- Over exact numbers the kernel's results are the reference's: in the first layer the gradient, the step and the two moments, in the
others what was there. -/
theorem algebraic : Cert.algebraic_Kernel29Ideal_Reference29Ideal (hKernel29Ideal := Cert.Kernel29Ideal.Gen.facts)
    (hReference29Ideal := Cert.Reference29Ideal.Gen.facts) := by
  intro m g m' g' _ hargs
  refine ⟨fun c => (Cert.Kernel29Ideal.Gen.dats m (ok m) 0 c).arrAt 5 (Cert.Kernel29Ideal.Gen.cfgM m (ok m)).N,
    fun c => (Cert.Kernel29Ideal.Gen.dats m (ok m) 0 c).arrAt 6 (Cert.Kernel29Ideal.Gen.cfgM m (ok m)).N,
    fun c => (Cert.Kernel29Ideal.Gen.dats m (ok m) 0 c).arrAt 7 (Cert.Kernel29Ideal.Gen.cfgM m (ok m)).N,
    fun c => (Cert.Kernel29Ideal.Gen.dats m (ok m) 0 c).arrAt 8 (Cert.Kernel29Ideal.Gen.cfgM m (ok m)).N, ?_, ?_⟩
  · exact (θ_run Cert.Kernel29Ideal.defs _ _).mono (fun r h c => ⟨(h.1 c).1 5, (h.1 c).1 6, (h.1 c).1 7, (h.1 c).1 8, h.2 c⟩)
      (θ_run_and (Cert.Kernel29Ideal.Gen.run_main m g (ok m)) (Cert.Kernel29Ideal.Gen.unchanged m g (ok m)))
  refine (θ_run Cert.Reference29Ideal.defs _ _).mono (fun r h c => ?_) (Cert.Reference29Ideal.Value.run (F := Ideal) m' g')
  obtain ⟨h0, h1, h2, h3, hk⟩ := h c
  obtain ⟨a0, a1, a2, a3, a4, a5, a6, a7, a8⟩ := hargs c
  refine ⟨?_, ?_, ?_, ?_, hk⟩
  · refine h0.trans ((Cert.Reference29Ideal.Read.val_main_v38_eq _ _ _).trans ?_)
    refine (Ref.total _ _ _).trans (Eq.trans ?_ (kernel_total m (ok m) c).symm)
    exact congr (congr (congrArg total a0) a1) a5
  · refine h1.trans ((Cert.Reference29Ideal.Read.val_main_v41_eq _ _ _ _ _ _).trans ?_)
    refine (Ref.delta _ _ _ _ _ _).trans (Eq.trans ?_ (kernel_delta m (ok m) c).symm)
    exact congr (congr (congr (congr (congr (congrArg delta a0) a1) a2) a3) a4) a6
  · refine h2.trans ((Cert.Reference29Ideal.Read.val_main_v44_eq _ _ _ _).trans ?_)
    refine (Ref.first _ _ _ _).trans (Eq.trans ?_ (kernel_first m (ok m) c).symm)
    exact congr (congr (congr (congrArg first a0) a1) a3) a7
  · refine h3.trans ((Cert.Reference29Ideal.Read.val_main_v47_eq _ _ _ _).trans ?_)
    refine (Ref.second _ _ _ _).trans (Eq.trans ?_ (kernel_second m (ok m) c).symm)
    exact congr (congr (congr (congrArg second a0) a1) a4) a8

end Cert.ReduceQkv

end
-- ==== Proof.ReduceOut.Kernel.lean ====
/- The reduced update of an output weight: what the kernel leaves in its four results. Every grid point updates 256 rows of the first layer. -/
module

public import proofs.«01_k».proof.Proof.Gen.Kernel30Ideal.Frame
public import proofs.«01_k».proof.Proof.Reduced

@[expose] public section

set_option maxRecDepth 16384

noncomputable section

namespace Cert.ReduceOut

open Idealize.ShloMosaic Idealize.ShloMosaic.TcCoe Idealize.SL.Sem Cert.Reduced
open Cert.Kernel30Ideal Cert.Kernel30Ideal.Gen

/-- The table of the device's number when the number is zero. -/
def zeros {F : FTy → Type} : pre0.Contents (Elt F) := fun | ⟨0, _⟩ => fun _ => 0#32 | ⟨_ + 1, h⟩ => absurd h (by simp)

section
variable {F : FTy → Type} [FloatOps F] (m : (ℓ : Loc nD τ sig) → Buf (Elt F) ℓ)

/-- The kernel finds that table. -/
theorem table : tbl m = zeros := by
  funext j
  match j with
  | ⟨0, _⟩ =>
    funext x
    show StableHlo.after hostOps0 (fun b => m ((0 : Dev nD), b)) main_v0 x = 0#32
    simp only [hostOps0]
    after_results
    rfl

/-- Every block lies in its array. -/
theorem ok : Ok m := by
  unfold Ok
  rw [table]
  exact (by decide +kernel : ok0 (F := Bits) zeros)

end

/-- The zero table as admitted contents. -/
def zero : (pcfg0 (F := Ideal)).Adm := ⟨zeros, by decide +kernel⟩

variable (m : (ℓ : Loc nD τ sig) → Buf (Elt Ideal) ℓ) (hO : Ok m) (c : Dev nD)

/-- The contents the kernel runs at are the zero table. -/
theorem at_zero : adm m hO = zero := Subtype.ext (table m)

/-- Which block of each array a grid point works on: the same of all nine. -/
def Maps (a : (pcfg0 (F := Ideal)).Adm) : Prop := ∀ t : Fin (cfg0 a).N, ((cfg0 a).win 0).index t = ![0, t.val, 0]
  ∧ ((cfg0 a).win 1).index t = ![0, t.val, 0] ∧ ((cfg0 a).win 2).index t = ![0, t.val, 0] ∧ ((cfg0 a).win 3).index t = ![0, t.val, 0]
  ∧ ((cfg0 a).win 4).index t = ![0, t.val, 0] ∧ ((cfg0 a).win 5).index t = ![0, t.val, 0] ∧ ((cfg0 a).win 6).index t = ![0, t.val, 0]
  ∧ ((cfg0 a).win 7).index t = ![0, t.val, 0] ∧ ((cfg0 a).win 8).index t = ![0, t.val, 0]

/-- It is so at the zero table, hence of the kernel's run. -/
theorem idx : Maps (adm m hO) := by
  rw [at_zero]
  unfold Maps
  decide +kernel

/-- The blocks written back fill the first layer, whichever of the four results. -/
def Fills (a : (pcfg0 (F := Ideal)).Adm) : Prop := ((cfg0 a).win 5).CoversWhere (fun β : Fin 3 → ℕ => β 0 = 0)
  ∧ ((cfg0 a).win 6).CoversWhere (fun β : Fin 3 → ℕ => β 0 = 0) ∧ ((cfg0 a).win 7).CoversWhere (fun β : Fin 3 → ℕ => β 0 = 0)
  ∧ ((cfg0 a).win 8).CoversWhere (fun β : Fin 3 → ℕ => β 0 = 0)

/-- It is so at the zero table, hence of the kernel's run. -/
theorem fills : Fills (adm m hO) := by
  rw [at_zero]
  unfold Fills
  decide +kernel

/-- The nine arguments: the device's own shares and the received, the weight, its two moments, and what the four results start as. -/
abbrev own : FVec Ideal (Cube 8 256 2048) .bf16 := m ((c : Thread nD τ).loc main_arg0)
abbrev got : FVec Ideal (Cube 7 256 2048) .bf16 := m ((c : Thread nD τ).loc main_arg1)
abbrev weight : FVec Ideal (Cube 2 256 2048) .f32 := m ((c : Thread nD τ).loc main_arg2)
abbrev mean : FVec Ideal (Cube 2 256 2048) .f32 := m ((c : Thread nD τ).loc main_arg3)
abbrev square : FVec Ideal (Cube 2 256 2048) .f32 := m ((c : Thread nD τ).loc main_arg4)
abbrev old5 : FVec Ideal (Cube 2 256 2048) .f32 := m ((c : Thread nD τ).loc main_arg5)
abbrev old6 : FVec Ideal (Cube 2 256 2048) .f32 := m ((c : Thread nD τ).loc main_arg6)
abbrev old7 : FVec Ideal (Cube 2 256 2048) .f32 := m ((c : Thread nD τ).loc main_arg7)
abbrev old8 : FVec Ideal (Cube 2 256 2048) .f32 := m ((c : Thread nD τ).loc main_arg8)

/-- The row of the array an entry of a grid point's tile is in. -/
abbrev row (t : Fin (cfgM m hO).N) (y : S1x256x2048.Idx) : Fin 256 := ⟨t.val * 256 + (y 1).val, by
  have ht : t.val < 1 := t.isLt
  have h1 : (y 1).val < 256 := (y 1).isLt
  omega⟩

/-- A tile's first axis has one entry. -/
theorem tile {e : EltTy} (X : Vec Ideal S1x256x2048 e) (y : S1x256x2048.Idx) : X y = X (ix3 0 (y 1) (y 2)) := congrArg X (funext fun a => match a with
  | ⟨0, _⟩ => Fin.ext (by
      have h : (y 0).val < 1 := (y 0).isLt
      show (y 0).val = 0
      omega)
  | ⟨1, _⟩ => rfl
  | ⟨2, _⟩ => rfl)

variable (t : Fin (cfgM m hO).N) (y : S1x256x2048.Idx)

/-- Which element of its own shares a grid point's block holds. -/
theorem own_at : (show FVec Ideal S1x256x2048 .bf16 from iblk m hO c 0 t) (ix3 0 (y 1) (y 2)) = own m c (ix3 0 (row m hO t y) (y 2)) := by
  refine Eq.trans ?_ (congrFun (V_main_arg0 m c) _)
  blk_point [iblk, idx m hO t]

/-- Which element of the received shares a grid point's block holds. -/
theorem got_at (k : Fin 7) : (show FVec Ideal S7x256x2048 .bf16 from iblk m hO c 1 t) (ix3 k (y 1) (y 2)) = got m c (ix3 k (row m hO t y) (y 2)) := by
  refine Eq.trans ?_ (congrFun (V_main_arg1 m c) _)
  blk_point [iblk, idx m hO t]

/-- Which element of the weight a grid point's block holds. -/
theorem weight_at : (show FVec Ideal S1x256x2048 .f32 from iblk m hO c 2 t) y = weight m c (ix3 0 (row m hO t y) (y 2)) := by
  refine (tile _ y).trans (Eq.trans ?_ (congrFun (V_main_arg2 m c) _))
  blk_point [iblk, idx m hO t]

/-- Which element of the first moment a grid point's block holds. -/
theorem mean_at : (show FVec Ideal S1x256x2048 .f32 from iblk m hO c 3 t) y = mean m c (ix3 0 (row m hO t y) (y 2)) := by
  refine (tile _ y).trans (Eq.trans ?_ (congrFun (V_main_arg3 m c) _))
  blk_point [iblk, idx m hO t]

/-- Which element of the second moment a grid point's block holds. -/
theorem square_at : (show FVec Ideal S1x256x2048 .f32 from iblk m hO c 4 t) y = square m c (ix3 0 (row m hO t y) (y 2)) := by
  refine (tile _ y).trans (Eq.trans ?_ (congrFun (V_main_arg4 m c) _))
  blk_point [iblk, idx m hO t]

/-- Each result starts as the array it is given. -/
theorem entry : V m c main_v1_0 = old5 m c ∧ V m c main_v1_1 = old6 m c ∧ V m c main_v1_2 = old7 m c ∧ V m c main_v1_3 = old8 m c := by
  refine ⟨?_, ?_, ?_, ?_⟩
  all_goals
    show StableHlo.after hostOps0 (fun b => m (c, b)) _ = _
    simp only [hostOps0]
    after_results
    rfl

/-- The body's sum of the eight shares. -/
theorem sum_at (o z0 z1 z2 z3 z4 z5 z6 : Vec Ideal S1x256x2048 .bf16) (i : Fin 256) (n : Fin 2048) :
    (k0_pay3 (F := Ideal) o z0 z1 z2 z3 z4 z5 z6 (ix2 i n) : EReal)
      = (o (ix3 0 i n) : EReal) + z0 (ix3 0 i n) + z1 (ix3 0 i n) + z2 (ix3 0 i n) + z3 (ix3 0 i n) + z4 (ix3 0 i n) + z5 (ix3 0 i n) + z6 (ix3 0 i n) := by
  pointwise [k0_pay3]

/-- A tile of the gradient. -/
theorem total_at (v : FVec Ideal S256x2048 .f32) : (k0_pay6 (F := Ideal) v y : EReal) = v (ix2 (y 1) (y 2)) := by
  pointwise [k0_pay6]

/-- A tile of the first moment. -/
theorem first_at (v : FVec Ideal S256x2048 .f32) (a : FVec Ideal S1x256x2048 .f32) :
    (k0_pay1 (F := Ideal) (k0_pay4 v a) y : EReal) = Adam.first (v (ix2 (y 1) (y 2))) (a y) := by
  pointwise [k0_pay1, k0_pay4, Adam.first]

/-- A tile of the second moment. -/
theorem second_at (v : FVec Ideal S256x2048 .f32) (b : FVec Ideal S1x256x2048 .f32) :
    (k0_pay2 (F := Ideal) (k0_pay5 v b) y : EReal) = Adam.second (v (ix2 (y 1) (y 2))) (b y) := by
  pointwise [k0_pay2, k0_pay5, Adam.second]

/-- A tile of the step. -/
theorem step_at (v : FVec Ideal S256x2048 .f32) (w a b : FVec Ideal S1x256x2048 .f32) :
    (k0_pay7 (F := Ideal) v w a b y : EReal) = Adam.step (w y) (v (ix2 (y 1) (y 2))) (a y) (b y) := by
  pointwise [k0_pay7, k0_pay4, k0_pay5, Adam.step, Adam.first, Adam.second]

/-- One share's tile out of the seven. -/
abbrev cut (X : FVec Ideal S7x256x2048 .bf16) (k : ℕ) (h) :=
  (show Vec Ideal S1x256x2048 .bf16 from View.ld (Val := Elt Ideal) (e' := .bf16) X (Rect.unit (s := S7x256x2048) ![k, 0, 0] ![1, 256, 2048] h))

/-- What that tile holds. -/
theorem cut_at (X : FVec Ideal S7x256x2048 .bf16) (k : ℕ) (hk : k < 7) (h) (i : Fin 256) (n : Fin 2048) : cut X k h (ix3 0 i n) = X (ix3 ⟨k, hk⟩ i n) := by
  refine congrArg X (funext fun a => match a with
    | ⟨0, _⟩ => Fin.ext ?_
    | ⟨1, _⟩ => Fin.ext ?_
    | ⟨2, _⟩ => Fin.ext ?_) <;> simp [Rect.emb, Rect.unit, ix3]

/-- The gradient's tile of a grid point. -/
theorem gradient (x0 : FVec Ideal S1x256x2048 .bf16) (x1 : FVec Ideal S7x256x2048 .bf16)
    (e0 : x0 = iblk m hO c 0 t) (e1 : x1 = iblk m hO c 1 t) (h0 h1 h2 h3 h4 h5 h6) :
    (k0_pay3 (F := Ideal) x0 (cut x1 0 h0) (cut x1 1 h1) (cut x1 2 h2) (cut x1 3 h3) (cut x1 4 h4) (cut x1 5 h5) (cut x1 6 h6) (ix2 (y 1) (y 2)) : EReal)
      = grad (own m c) (got m c) (row m hO t y) (y 2) := by
  subst e0 e1
  have e (k : ℕ) (hk : k < 7) (h) := (cut_at (iblk m hO c 1 t) k hk h (y 1) (y 2)).trans (got_at m hO c t y ⟨k, hk⟩)
  refine (sum_at _ _ _ _ _ _ _ _ (y 1) (y 2)).trans ?_
  refine Eq.trans ?_ (eight _ fun k => got m c (ix3 k (row m hO t y) (y 2)))
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
      (congrArg₂ (fun x y : EReal => x + y) (own_at m hO c t y) (e 0 (by omega) _)) (e 1 (by omega) _)) (e 2 (by omega) _)) (e 3 (by omega) _))
      (e 4 (by omega) _)) (e 5 (by omega) _)) (e 6 (by omega) _)

variable (X : Fin 256 → Fin 2048 → EReal) (B : FVec Ideal (Cube 2 256 2048) .f32)

/-- Where an element of a tile sits in the first result. -/
theorem place5 : place B X ((((spec0 5).arr.view.slice ((pcfg0.win (adm m hO) 5).rect t))).emb y) = X (row m hO t y) (y 2) := by
  have h0 : (y 0).val < 1 := (y 0).isLt
  refine Eq.trans (b := place B X (ix3 0 (row m hO t y) (y 2))) ?_ (if_pos rfl)
  have e : (pcfg0.win (adm m hO) 5).index t = ![0, t.val, 0] := (idx m hO t).2.2.2.2.2.1
  blk_ext [e]

/-- Where an element of a tile sits in the second result. -/
theorem place6 : place B X ((((spec0 6).arr.view.slice ((pcfg0.win (adm m hO) 6).rect t))).emb y) = X (row m hO t y) (y 2) := by
  have h0 : (y 0).val < 1 := (y 0).isLt
  refine Eq.trans (b := place B X (ix3 0 (row m hO t y) (y 2))) ?_ (if_pos rfl)
  have e : (pcfg0.win (adm m hO) 6).index t = ![0, t.val, 0] := (idx m hO t).2.2.2.2.2.2.1
  blk_ext [e]

/-- Where an element of a tile sits in the third result. -/
theorem place7 : place B X ((((spec0 7).arr.view.slice ((pcfg0.win (adm m hO) 7).rect t))).emb y) = X (row m hO t y) (y 2) := by
  have h0 : (y 0).val < 1 := (y 0).isLt
  refine Eq.trans (b := place B X (ix3 0 (row m hO t y) (y 2))) ?_ (if_pos rfl)
  have e : (pcfg0.win (adm m hO) 7).index t = ![0, t.val, 0] := (idx m hO t).2.2.2.2.2.2.2.1
  blk_ext [e]

/-- Where an element of a tile sits in the fourth result. -/
theorem place8 : place B X ((((spec0 8).arr.view.slice ((pcfg0.win (adm m hO) 8).rect t))).emb y) = X (row m hO t y) (y 2) := by
  have h0 : (y 0).val < 1 := (y 0).isLt
  refine Eq.trans (b := place B X (ix3 0 (row m hO t y) (y 2))) ?_ (if_pos rfl)
  have e : (pcfg0.win (adm m hO) 8).index t = ![0, t.val, 0] := (idx m hO t).2.2.2.2.2.2.2.2
  blk_ext [e]

/-- The first result is the gradient in the first layer. -/
theorem kernel_total : (dats m hO 0 c).arrAt 5 (cfgM m hO).N = total (own m c) (got m c) (old5 m c) := by
  refine (dats m hO 0 c).arrAt_eq_of_coversWhere_of_agree 5 _ (fun β : Fin 3 → ℕ => β 0 = 0) (fills m hO).1 (fun t hf (y : S1x256x2048.Idx) => ?_)
    fun j hj => (congrFun (entry m c).1 _).trans (if_neg fun h => hj ((Nat.div_one _).trans h)).symm
  blk_simp
  rw [after0_5]
  unfold outsAt0
  frame_out
  refine (total_at y _).trans (Eq.trans ?_ (place5 m hO t y _ _).symm)
  exact gradient m hO c t y _ _ ((hs0_0 m hO t).read_unread _) ((hs0_1 m hO t).read_unread _) _ _ _ _ _ _ _

/-- The second result is the step in the first layer. -/
theorem kernel_delta : (dats m hO 0 c).arrAt 6 (cfgM m hO).N = delta (own m c) (got m c) (weight m c) (mean m c) (square m c) (old6 m c) := by
  refine (dats m hO 0 c).arrAt_eq_of_coversWhere_of_agree 6 _ (fun β : Fin 3 → ℕ => β 0 = 0) (fills m hO).2.1 (fun t hf (y : S1x256x2048.Idx) => ?_)
    fun j hj => (congrFun (entry m c).2.1 _).trans (if_neg fun h => hj ((Nat.div_one _).trans h)).symm
  blk_simp
  rw [after0_6]
  unfold outsAt0
  frame_out
  refine (step_at y _ _ _ _).trans (Eq.trans ?_ (place6 m hO t y _ _).symm)
  exact congr (congr (congr (congrArg Adam.step ((congrFun ((hs0_2 m hO t).read_unread _) _).trans (weight_at m hO c t y)))
    (gradient m hO c t y _ _ ((hs0_0 m hO t).read_unread _) ((hs0_1 m hO t).read_unread _) _ _ _ _ _ _ _))
    ((congrFun ((hs0_3 m hO t).read_unread _) _).trans (mean_at m hO c t y))) ((congrFun ((hs0_4 m hO t).read_unread _) _).trans (square_at m hO c t y))

/-- The third result is the first moment in the first layer. -/
theorem kernel_first : (dats m hO 0 c).arrAt 7 (cfgM m hO).N = first (own m c) (got m c) (mean m c) (old7 m c) := by
  refine (dats m hO 0 c).arrAt_eq_of_coversWhere_of_agree 7 _ (fun β : Fin 3 → ℕ => β 0 = 0) (fills m hO).2.2.1 (fun t hf (y : S1x256x2048.Idx) => ?_)
    fun j hj => (congrFun (entry m c).2.2.1 _).trans (if_neg fun h => hj ((Nat.div_one _).trans h)).symm
  blk_simp
  rw [after0_7]
  unfold outsAt0
  frame_out
  refine (first_at y _ _).trans (Eq.trans ?_ (place7 m hO t y _ _).symm)
  exact congr (congrArg Adam.first (gradient m hO c t y _ _ ((hs0_0 m hO t).read_unread _) ((hs0_1 m hO t).read_unread _) _ _ _ _ _ _ _))
    ((congrFun ((hs0_3 m hO t).read_unread _) _).trans (mean_at m hO c t y))

/-- The fourth result is the second moment in the first layer. -/
theorem kernel_second : (dats m hO 0 c).arrAt 8 (cfgM m hO).N = second (own m c) (got m c) (square m c) (old8 m c) := by
  refine (dats m hO 0 c).arrAt_eq_of_coversWhere_of_agree 8 _ (fun β : Fin 3 → ℕ => β 0 = 0) (fills m hO).2.2.2 (fun t hf (y : S1x256x2048.Idx) => ?_)
    fun j hj => (congrFun (entry m c).2.2.2 _).trans (if_neg fun h => hj ((Nat.div_one _).trans h)).symm
  blk_simp
  rw [after0_8]
  unfold outsAt0
  frame_out
  refine (second_at y _ _).trans (Eq.trans ?_ (place8 m hO t y _ _).symm)
  exact congr (congrArg Adam.second (gradient m hO c t y _ _ ((hs0_0 m hO t).read_unread _) ((hs0_1 m hO t).read_unread _) _ _ _ _ _ _ _))
    ((congrFun ((hs0_4 m hO t).read_unread _) _).trans (square_at m hO c t y))

end Cert.ReduceOut

end
-- ==== Proof.ReduceOut.Reference.lean ====
/- The reduced update of an output weight: what the reference leaves in its four results. -/
module

public import proofs.«01_k».proof.Proof.Gen.Reference30Ideal.Read
public import proofs.«01_k».proof.Proof.Reduced

@[expose] public section

set_option maxRecDepth 16384

noncomputable section

namespace Cert.ReduceOut.Ref

open Idealize.ShloMosaic Idealize.ShloMosaic.TcCoe Idealize.SL.Sem Cert.Reduced
open Cert.Reference30Ideal Cert.Reference30Ideal.Gen Cert.Reference30Ideal.Read

variable (O : FVec Ideal S8x256x2048 .bf16) (Z : FVec Ideal S7x256x2048 .bf16) (W M V B : FVec Ideal S2x256x2048 .f32)

/-- The gradient at an index. -/
theorem grad_at (x : S256x2048.Idx) : (val_main_v5 (F := Ideal) O Z x : EReal) = grad O Z (x 0) (x 1) := by
  rw [val_main_v5_apply]
  refine congrArg₂ (fun a b : EReal => a + b) ?_ ?_
  · pointwise [val_main_v2, val_main_v1, val_main_v0]
  · refine (val_main_v4_apply Z x).trans ?_
    refine (congrArg₂ (fun a b : EReal => a + b) (show (val_main_cst (F := Ideal) (Shape.Idx.first h_S_) : EReal) = 0 by pointwise [val_main_cst])
      (Finset.sum_congr rfl fun k _ => show (val_main_v3 (F := Ideal) Z (idx_main_v4 x k) : EReal) = Z (ix3 k (x 0) (x 1)) by
        pointwise [val_main_v3]
        exact congrArg Z (funext fun a => match a with
          | ⟨0, _⟩ => rfl
          | ⟨1, _⟩ => rfl
          | ⟨2, _⟩ => rfl))).trans (zero_add _)

/-- The first moment at an index. -/
theorem first_at (x : S256x2048.Idx) : (val_main_v16 (F := Ideal) O Z M x : EReal) = Adam.first (grad O Z (x 0) (x 1)) (M (ix3 0 (x 0) (x 1))) := by
  rw [← grad_at]
  pointwise [val_main_v16, val_main_v15, val_main_v14, val_main_cst_1, val_main_v13, val_main_v12, val_main_cst_0, val_main_v9, val_main_v8, Adam.first]

/-- The second moment at an index. -/
theorem second_at (x : S256x2048.Idx) : (val_main_v22 (F := Ideal) O Z V x : EReal) = Adam.second (grad O Z (x 0) (x 1)) (V (ix3 0 (x 0) (x 1))) := by
  rw [← grad_at]
  pointwise [val_main_v22, val_main_v21, val_main_v20, val_main_cst_3, val_main_v19, val_main_v18, val_main_v17, val_main_cst_2, val_main_v11, val_main_v10, Adam.second]

/-- The step at an index. -/
theorem step_at (x : S256x2048.Idx) : (val_main_v35 (F := Ideal) O Z W M V x : EReal)
    = Adam.step (W (ix3 0 (x 0) (x 1))) (grad O Z (x 0) (x 1)) (M (ix3 0 (x 0) (x 1))) (V (ix3 0 (x 0) (x 1))) := by
  unfold Adam.step
  rw [← first_at, ← second_at]
  pointwise [val_main_v35, val_main_v34, val_main_cst_8, val_main_v33, val_main_v32, val_main_v31, val_main_cst_7, val_main_v30, val_main_v29, val_main_v28,
    val_main_cst_6, val_main_v27, val_main_v26, val_main_v25, val_main_cst_5, val_main_v24, val_main_v23, val_main_cst_4, val_main_v7, val_main_v6]

/-- An index is its three entries. -/
theorem entries (x : S2x256x2048.Idx) : ix3 (x 0) (x 1) (x 2) = x := funext fun a => match a with
  | ⟨0, _⟩ => rfl
  | ⟨1, _⟩ => rfl
  | ⟨2, _⟩ => rfl

/-- The first result. -/
theorem total : val_main_v38 (F := Ideal) O Z B = Reduced.total O Z B := funext fun x => by
  have hx : (x 0).val < 2 := (x 0).isLt
  refine Eq.trans (b := if h : (x 0).val < 1 then (val_main_v5 (F := Ideal) O Z (ix2 (x 1) (x 2)) : EReal)
    else B (ix3 ⟨1 + ((x 0).val - 1), by omega⟩ (x 1) (x 2))) (by pointwise [val_main_v38, val_main_v36, val_main_v37]) ?_
  refine ((layer B (x 0) (x 1) (x 2) _ _).trans (congrArg _ (entries x))).trans ?_
  exact congrFun (congrArg (fun X => place B X) (funext fun i => funext fun n => grad_at O Z (ix2 i n))) x

/-- The second result. -/
theorem delta : val_main_v41 (F := Ideal) O Z W M V B = Reduced.delta O Z W M V B := funext fun x => by
  have hx : (x 0).val < 2 := (x 0).isLt
  refine Eq.trans (b := if h : (x 0).val < 1 then (val_main_v35 (F := Ideal) O Z W M V (ix2 (x 1) (x 2)) : EReal)
    else B (ix3 ⟨1 + ((x 0).val - 1), by omega⟩ (x 1) (x 2))) (by pointwise [val_main_v41, val_main_v39, val_main_v40]) ?_
  refine ((layer B (x 0) (x 1) (x 2) _ _).trans (congrArg _ (entries x))).trans ?_
  exact congrFun (congrArg (fun X => place B X) (funext fun i => funext fun n => step_at O Z W M V (ix2 i n))) x

/-- The third result. -/
theorem first : val_main_v44 (F := Ideal) O Z M B = Reduced.first O Z M B := funext fun x => by
  have hx : (x 0).val < 2 := (x 0).isLt
  refine Eq.trans (b := if h : (x 0).val < 1 then (val_main_v16 (F := Ideal) O Z M (ix2 (x 1) (x 2)) : EReal)
    else B (ix3 ⟨1 + ((x 0).val - 1), by omega⟩ (x 1) (x 2))) (by pointwise [val_main_v44, val_main_v42, val_main_v43]) ?_
  refine ((layer B (x 0) (x 1) (x 2) _ _).trans (congrArg _ (entries x))).trans ?_
  exact congrFun (congrArg (fun X => place B X) (funext fun i => funext fun n => first_at O Z M (ix2 i n))) x

/-- The fourth result. -/
theorem second : val_main_v47 (F := Ideal) O Z V B = Reduced.second O Z V B := funext fun x => by
  have hx : (x 0).val < 2 := (x 0).isLt
  refine Eq.trans (b := if h : (x 0).val < 1 then (val_main_v22 (F := Ideal) O Z V (ix2 (x 1) (x 2)) : EReal)
    else B (ix3 ⟨1 + ((x 0).val - 1), by omega⟩ (x 1) (x 2))) (by pointwise [val_main_v47, val_main_v45, val_main_v46]) ?_
  refine ((layer B (x 0) (x 1) (x 2) _ _).trans (congrArg _ (entries x))).trans ?_
  exact congrFun (congrArg (fun X => place B X) (funext fun i => funext fun n => second_at O Z V (ix2 i n))) x

end Cert.ReduceOut.Ref

end
-- ==== Proof.ReduceOut.Claims.lean ====
/- The claims about the reduced update of an output weight. -/
module

public import proofs.«01_k».proof.Defs
public import proofs.«01_k».proof.Proof.Gen.Kernel30.Frame
public import proofs.«01_k».proof.Proof.ReduceOut.Kernel
public import proofs.«01_k».proof.Proof.ReduceOut.Reference

@[expose] public section

set_option maxRecDepth 16384

noncomputable section

namespace Cert.ReduceOut

open Idealize.ShloMosaic Idealize.ShloMosaic.TcCoe Idealize.SL.Sem Cert.Reduced

section
open Cert.Kernel30 Cert.Kernel30.Gen
variable {F : FTy → Type} [FloatOps F] (m : (ℓ : Loc nD τ sig) → Buf (Elt F) ℓ)

/-- The zero table of the kernel that rounds as the device does. -/
def device : pre0.Contents (Elt F) := fun | ⟨0, _⟩ => fun _ => 0#32 | ⟨_ + 1, h⟩ => absurd h (by simp)

/-- That kernel finds the zero table too. -/
theorem device_table : tbl m = device := by
  funext j
  match j with
  | ⟨0, _⟩ =>
    funext x
    show StableHlo.after hostOps0 (fun b => m ((0 : Dev nD), b)) main_v0 x = 0#32
    simp only [hostOps0]
    after_results
    rfl

/-- And its blocks lie in their arrays. -/
theorem device_ok : Ok m := by
  unfold Ok
  rw [device_table]
  exact (by decide +kernel : ok0 (F := Bits) device)

end

/-- The kernel, rounding as the device does, runs to its end and leaves its arguments as they were. -/
theorem frame_kernel : Cert.quiescent_Kernel30 (hKernel30 := Cert.Kernel30.Gen.facts) := fun m ρ _ =>
  Cert.Kernel30.Gen.frame m ρ (device_ok m)

/-- The same of the kernel over exact numbers. -/
theorem frame_ideal : Cert.quiescent_Kernel30Ideal (hKernel30Ideal := Cert.Kernel30Ideal.Gen.facts) :=
  fun m ρ _ => Cert.Kernel30Ideal.Gen.frame m ρ (ok m)

/-- The same of the reference, which is host code and holds no semaphore. -/
theorem frame_reference : Cert.quiescent_Reference30Ideal (hReference30Ideal := Cert.Reference30Ideal.Gen.facts) := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

/-- Over exact numbers the kernel's results are the reference's: in the first layer the gradient, the step and the two moments, in the
others what was there. -/
theorem algebraic : Cert.algebraic_Kernel30Ideal_Reference30Ideal (hKernel30Ideal := Cert.Kernel30Ideal.Gen.facts)
    (hReference30Ideal := Cert.Reference30Ideal.Gen.facts) := by
  intro m g m' g' _ hargs
  refine ⟨fun c => (Cert.Kernel30Ideal.Gen.dats m (ok m) 0 c).arrAt 5 (Cert.Kernel30Ideal.Gen.cfgM m (ok m)).N,
    fun c => (Cert.Kernel30Ideal.Gen.dats m (ok m) 0 c).arrAt 6 (Cert.Kernel30Ideal.Gen.cfgM m (ok m)).N,
    fun c => (Cert.Kernel30Ideal.Gen.dats m (ok m) 0 c).arrAt 7 (Cert.Kernel30Ideal.Gen.cfgM m (ok m)).N,
    fun c => (Cert.Kernel30Ideal.Gen.dats m (ok m) 0 c).arrAt 8 (Cert.Kernel30Ideal.Gen.cfgM m (ok m)).N, ?_, ?_⟩
  · exact (θ_run Cert.Kernel30Ideal.defs _ _).mono (fun r h c => ⟨(h.1 c).1 5, (h.1 c).1 6, (h.1 c).1 7, (h.1 c).1 8, h.2 c⟩)
      (θ_run_and (Cert.Kernel30Ideal.Gen.run_main m g (ok m)) (Cert.Kernel30Ideal.Gen.unchanged m g (ok m)))
  refine (θ_run Cert.Reference30Ideal.defs _ _).mono (fun r h c => ?_) (Cert.Reference30Ideal.Value.run (F := Ideal) m' g')
  obtain ⟨h0, h1, h2, h3, hk⟩ := h c
  obtain ⟨a0, a1, a2, a3, a4, a5, a6, a7, a8⟩ := hargs c
  refine ⟨?_, ?_, ?_, ?_, hk⟩
  · refine h0.trans ((Cert.Reference30Ideal.Read.val_main_v38_eq _ _ _).trans ?_)
    refine (Ref.total _ _ _).trans (Eq.trans ?_ (kernel_total m (ok m) c).symm)
    exact congr (congr (congrArg total a0) a1) a5
  · refine h1.trans ((Cert.Reference30Ideal.Read.val_main_v41_eq _ _ _ _ _ _).trans ?_)
    refine (Ref.delta _ _ _ _ _ _).trans (Eq.trans ?_ (kernel_delta m (ok m) c).symm)
    exact congr (congr (congr (congr (congr (congrArg delta a0) a1) a2) a3) a4) a6
  · refine h2.trans ((Cert.Reference30Ideal.Read.val_main_v44_eq _ _ _ _).trans ?_)
    refine (Ref.first _ _ _ _).trans (Eq.trans ?_ (kernel_first m (ok m) c).symm)
    exact congr (congr (congr (congrArg first a0) a1) a3) a7
  · refine h3.trans ((Cert.Reference30Ideal.Read.val_main_v47_eq _ _ _ _).trans ?_)
    refine (Ref.second _ _ _ _).trans (Eq.trans ?_ (kernel_second m (ok m) c).symm)
    exact congr (congr (congr (congrArg second a0) a1) a4) a8

end Cert.ReduceOut

end
-- ==== Proof.ReduceScin.Kernel.lean ====
/- The reduced update of the short convolution's input weights: what the kernel leaves in its four results. Every grid point updates 256 rows of the first layer. -/
module

public import proofs.«01_k».proof.Proof.Gen.Kernel31Ideal.Frame
public import proofs.«01_k».proof.Proof.Reduced

@[expose] public section

set_option maxRecDepth 16384

noncomputable section

namespace Cert.ReduceScin

open Idealize.ShloMosaic Idealize.ShloMosaic.TcCoe Idealize.SL.Sem Cert.Reduced
open Cert.Kernel31Ideal Cert.Kernel31Ideal.Gen

/-- The table of the device's number when the number is zero. -/
def zeros {F : FTy → Type} : pre0.Contents (Elt F) := fun | ⟨0, _⟩ => fun _ => 0#32 | ⟨_ + 1, h⟩ => absurd h (by simp)

section
variable {F : FTy → Type} [FloatOps F] (m : (ℓ : Loc nD τ sig) → Buf (Elt F) ℓ)

/-- The kernel finds that table. -/
theorem table : tbl m = zeros := by
  funext j
  match j with
  | ⟨0, _⟩ =>
    funext x
    show StableHlo.after hostOps0 (fun b => m ((0 : Dev nD), b)) main_v0 x = 0#32
    simp only [hostOps0]
    after_results
    rfl

/-- Every block lies in its array. -/
theorem ok : Ok m := by
  unfold Ok
  rw [table]
  exact (by decide +kernel : ok0 (F := Bits) zeros)

end

/-- The zero table as admitted contents. -/
def zero : (pcfg0 (F := Ideal)).Adm := ⟨zeros, by decide +kernel⟩

variable (m : (ℓ : Loc nD τ sig) → Buf (Elt Ideal) ℓ) (hO : Ok m) (c : Dev nD)

/-- The contents the kernel runs at are the zero table. -/
theorem at_zero : adm m hO = zero := Subtype.ext (table m)

/-- Which block of each array a grid point works on: the same of all nine. -/
def Maps (a : (pcfg0 (F := Ideal)).Adm) : Prop := ∀ t : Fin (cfg0 a).N, ((cfg0 a).win 0).index t = ![0, t.val, 0]
  ∧ ((cfg0 a).win 1).index t = ![0, t.val, 0] ∧ ((cfg0 a).win 2).index t = ![0, t.val, 0] ∧ ((cfg0 a).win 3).index t = ![0, t.val, 0]
  ∧ ((cfg0 a).win 4).index t = ![0, t.val, 0] ∧ ((cfg0 a).win 5).index t = ![0, t.val, 0] ∧ ((cfg0 a).win 6).index t = ![0, t.val, 0]
  ∧ ((cfg0 a).win 7).index t = ![0, t.val, 0] ∧ ((cfg0 a).win 8).index t = ![0, t.val, 0]

/-- It is so at the zero table, hence of the kernel's run. -/
theorem idx : Maps (adm m hO) := by
  rw [at_zero]
  unfold Maps
  decide +kernel

/-- The blocks written back fill the first layer, whichever of the four results. -/
def Fills (a : (pcfg0 (F := Ideal)).Adm) : Prop := ((cfg0 a).win 5).CoversWhere (fun β : Fin 3 → ℕ => β 0 = 0)
  ∧ ((cfg0 a).win 6).CoversWhere (fun β : Fin 3 → ℕ => β 0 = 0) ∧ ((cfg0 a).win 7).CoversWhere (fun β : Fin 3 → ℕ => β 0 = 0)
  ∧ ((cfg0 a).win 8).CoversWhere (fun β : Fin 3 → ℕ => β 0 = 0)

/-- It is so at the zero table, hence of the kernel's run. -/
theorem fills : Fills (adm m hO) := by
  rw [at_zero]
  unfold Fills
  decide +kernel

/-- The nine arguments: the device's own shares and the received, the weight, its two moments, and what the four results start as. -/
abbrev own : FVec Ideal (Cube 8 2048 768) .bf16 := m ((c : Thread nD τ).loc main_arg0)
abbrev got : FVec Ideal (Cube 7 2048 768) .bf16 := m ((c : Thread nD τ).loc main_arg1)
abbrev weight : FVec Ideal (Cube 2 2048 768) .f32 := m ((c : Thread nD τ).loc main_arg2)
abbrev mean : FVec Ideal (Cube 2 2048 768) .f32 := m ((c : Thread nD τ).loc main_arg3)
abbrev square : FVec Ideal (Cube 2 2048 768) .f32 := m ((c : Thread nD τ).loc main_arg4)
abbrev old5 : FVec Ideal (Cube 2 2048 768) .f32 := m ((c : Thread nD τ).loc main_arg5)
abbrev old6 : FVec Ideal (Cube 2 2048 768) .f32 := m ((c : Thread nD τ).loc main_arg6)
abbrev old7 : FVec Ideal (Cube 2 2048 768) .f32 := m ((c : Thread nD τ).loc main_arg7)
abbrev old8 : FVec Ideal (Cube 2 2048 768) .f32 := m ((c : Thread nD τ).loc main_arg8)

/-- The row of the array an entry of a grid point's tile is in. -/
abbrev row (t : Fin (cfgM m hO).N) (y : S1x256x768.Idx) : Fin 2048 := ⟨t.val * 256 + (y 1).val, by
  have ht : t.val < 8 := t.isLt
  have h1 : (y 1).val < 256 := (y 1).isLt
  omega⟩

/-- A tile's first axis has one entry. -/
theorem tile {e : EltTy} (X : Vec Ideal S1x256x768 e) (y : S1x256x768.Idx) : X y = X (ix3 0 (y 1) (y 2)) := congrArg X (funext fun a => match a with
  | ⟨0, _⟩ => Fin.ext (by
      have h : (y 0).val < 1 := (y 0).isLt
      show (y 0).val = 0
      omega)
  | ⟨1, _⟩ => rfl
  | ⟨2, _⟩ => rfl)

variable (t : Fin (cfgM m hO).N) (y : S1x256x768.Idx)

/-- Which element of its own shares a grid point's block holds. -/
theorem own_at : (show FVec Ideal S1x256x768 .bf16 from iblk m hO c 0 t) (ix3 0 (y 1) (y 2)) = own m c (ix3 0 (row m hO t y) (y 2)) := by
  refine Eq.trans ?_ (congrFun (V_main_arg0 m c) _)
  blk_point [iblk, idx m hO t]

/-- Which element of the received shares a grid point's block holds. -/
theorem got_at (k : Fin 7) : (show FVec Ideal S7x256x768 .bf16 from iblk m hO c 1 t) (ix3 k (y 1) (y 2)) = got m c (ix3 k (row m hO t y) (y 2)) := by
  refine Eq.trans ?_ (congrFun (V_main_arg1 m c) _)
  blk_point [iblk, idx m hO t]

/-- Which element of the weight a grid point's block holds. -/
theorem weight_at : (show FVec Ideal S1x256x768 .f32 from iblk m hO c 2 t) y = weight m c (ix3 0 (row m hO t y) (y 2)) := by
  refine (tile _ y).trans (Eq.trans ?_ (congrFun (V_main_arg2 m c) _))
  blk_point [iblk, idx m hO t]

/-- Which element of the first moment a grid point's block holds. -/
theorem mean_at : (show FVec Ideal S1x256x768 .f32 from iblk m hO c 3 t) y = mean m c (ix3 0 (row m hO t y) (y 2)) := by
  refine (tile _ y).trans (Eq.trans ?_ (congrFun (V_main_arg3 m c) _))
  blk_point [iblk, idx m hO t]

/-- Which element of the second moment a grid point's block holds. -/
theorem square_at : (show FVec Ideal S1x256x768 .f32 from iblk m hO c 4 t) y = square m c (ix3 0 (row m hO t y) (y 2)) := by
  refine (tile _ y).trans (Eq.trans ?_ (congrFun (V_main_arg4 m c) _))
  blk_point [iblk, idx m hO t]

/-- Each result starts as the array it is given. -/
theorem entry : V m c main_v1_0 = old5 m c ∧ V m c main_v1_1 = old6 m c ∧ V m c main_v1_2 = old7 m c ∧ V m c main_v1_3 = old8 m c := by
  refine ⟨?_, ?_, ?_, ?_⟩
  all_goals
    show StableHlo.after hostOps0 (fun b => m (c, b)) _ = _
    simp only [hostOps0]
    after_results
    rfl

/-- The body's sum of the eight shares. -/
theorem sum_at (o z0 z1 z2 z3 z4 z5 z6 : Vec Ideal S1x256x768 .bf16) (i : Fin 256) (n : Fin 768) :
    (k0_pay3 (F := Ideal) o z0 z1 z2 z3 z4 z5 z6 (ix2 i n) : EReal)
      = (o (ix3 0 i n) : EReal) + z0 (ix3 0 i n) + z1 (ix3 0 i n) + z2 (ix3 0 i n) + z3 (ix3 0 i n) + z4 (ix3 0 i n) + z5 (ix3 0 i n) + z6 (ix3 0 i n) := by
  pointwise [k0_pay3]

/-- A tile of the gradient. -/
theorem total_at (v : FVec Ideal S256x768 .f32) : (k0_pay6 (F := Ideal) v y : EReal) = v (ix2 (y 1) (y 2)) := by
  pointwise [k0_pay6]

/-- A tile of the first moment. -/
theorem first_at (v : FVec Ideal S256x768 .f32) (a : FVec Ideal S1x256x768 .f32) :
    (k0_pay1 (F := Ideal) (k0_pay4 v a) y : EReal) = Adam.first (v (ix2 (y 1) (y 2))) (a y) := by
  pointwise [k0_pay1, k0_pay4, Adam.first]

/-- A tile of the second moment. -/
theorem second_at (v : FVec Ideal S256x768 .f32) (b : FVec Ideal S1x256x768 .f32) :
    (k0_pay2 (F := Ideal) (k0_pay5 v b) y : EReal) = Adam.second (v (ix2 (y 1) (y 2))) (b y) := by
  pointwise [k0_pay2, k0_pay5, Adam.second]

/-- A tile of the step. -/
theorem step_at (v : FVec Ideal S256x768 .f32) (w a b : FVec Ideal S1x256x768 .f32) :
    (k0_pay7 (F := Ideal) v w a b y : EReal) = Adam.step (w y) (v (ix2 (y 1) (y 2))) (a y) (b y) := by
  pointwise [k0_pay7, k0_pay4, k0_pay5, Adam.step, Adam.first, Adam.second]

/-- One share's tile out of the seven. -/
abbrev cut (X : FVec Ideal S7x256x768 .bf16) (k : ℕ) (h) :=
  (show Vec Ideal S1x256x768 .bf16 from View.ld (Val := Elt Ideal) (e' := .bf16) X (Rect.unit (s := S7x256x768) ![k, 0, 0] ![1, 256, 768] h))

/-- What that tile holds. -/
theorem cut_at (X : FVec Ideal S7x256x768 .bf16) (k : ℕ) (hk : k < 7) (h) (i : Fin 256) (n : Fin 768) : cut X k h (ix3 0 i n) = X (ix3 ⟨k, hk⟩ i n) := by
  refine congrArg X (funext fun a => match a with
    | ⟨0, _⟩ => Fin.ext ?_
    | ⟨1, _⟩ => Fin.ext ?_
    | ⟨2, _⟩ => Fin.ext ?_) <;> simp [Rect.emb, Rect.unit, ix3]

/-- The gradient's tile of a grid point. -/
theorem gradient (x0 : FVec Ideal S1x256x768 .bf16) (x1 : FVec Ideal S7x256x768 .bf16)
    (e0 : x0 = iblk m hO c 0 t) (e1 : x1 = iblk m hO c 1 t) (h0 h1 h2 h3 h4 h5 h6) :
    (k0_pay3 (F := Ideal) x0 (cut x1 0 h0) (cut x1 1 h1) (cut x1 2 h2) (cut x1 3 h3) (cut x1 4 h4) (cut x1 5 h5) (cut x1 6 h6) (ix2 (y 1) (y 2)) : EReal)
      = grad (own m c) (got m c) (row m hO t y) (y 2) := by
  subst e0 e1
  have e (k : ℕ) (hk : k < 7) (h) := (cut_at (iblk m hO c 1 t) k hk h (y 1) (y 2)).trans (got_at m hO c t y ⟨k, hk⟩)
  refine (sum_at _ _ _ _ _ _ _ _ (y 1) (y 2)).trans ?_
  refine Eq.trans ?_ (eight _ fun k => got m c (ix3 k (row m hO t y) (y 2)))
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
      (congrArg₂ (fun x y : EReal => x + y) (own_at m hO c t y) (e 0 (by omega) _)) (e 1 (by omega) _)) (e 2 (by omega) _)) (e 3 (by omega) _))
      (e 4 (by omega) _)) (e 5 (by omega) _)) (e 6 (by omega) _)

variable (X : Fin 2048 → Fin 768 → EReal) (B : FVec Ideal (Cube 2 2048 768) .f32)

/-- Where an element of a tile sits in the first result. -/
theorem place5 : place B X ((((spec0 5).arr.view.slice ((pcfg0.win (adm m hO) 5).rect t))).emb y) = X (row m hO t y) (y 2) := by
  have h0 : (y 0).val < 1 := (y 0).isLt
  refine Eq.trans (b := place B X (ix3 0 (row m hO t y) (y 2))) ?_ (if_pos rfl)
  have e : (pcfg0.win (adm m hO) 5).index t = ![0, t.val, 0] := (idx m hO t).2.2.2.2.2.1
  blk_ext [e]

/-- Where an element of a tile sits in the second result. -/
theorem place6 : place B X ((((spec0 6).arr.view.slice ((pcfg0.win (adm m hO) 6).rect t))).emb y) = X (row m hO t y) (y 2) := by
  have h0 : (y 0).val < 1 := (y 0).isLt
  refine Eq.trans (b := place B X (ix3 0 (row m hO t y) (y 2))) ?_ (if_pos rfl)
  have e : (pcfg0.win (adm m hO) 6).index t = ![0, t.val, 0] := (idx m hO t).2.2.2.2.2.2.1
  blk_ext [e]

/-- Where an element of a tile sits in the third result. -/
theorem place7 : place B X ((((spec0 7).arr.view.slice ((pcfg0.win (adm m hO) 7).rect t))).emb y) = X (row m hO t y) (y 2) := by
  have h0 : (y 0).val < 1 := (y 0).isLt
  refine Eq.trans (b := place B X (ix3 0 (row m hO t y) (y 2))) ?_ (if_pos rfl)
  have e : (pcfg0.win (adm m hO) 7).index t = ![0, t.val, 0] := (idx m hO t).2.2.2.2.2.2.2.1
  blk_ext [e]

/-- Where an element of a tile sits in the fourth result. -/
theorem place8 : place B X ((((spec0 8).arr.view.slice ((pcfg0.win (adm m hO) 8).rect t))).emb y) = X (row m hO t y) (y 2) := by
  have h0 : (y 0).val < 1 := (y 0).isLt
  refine Eq.trans (b := place B X (ix3 0 (row m hO t y) (y 2))) ?_ (if_pos rfl)
  have e : (pcfg0.win (adm m hO) 8).index t = ![0, t.val, 0] := (idx m hO t).2.2.2.2.2.2.2.2
  blk_ext [e]

/-- The first result is the gradient in the first layer. -/
theorem kernel_total : (dats m hO 0 c).arrAt 5 (cfgM m hO).N = total (own m c) (got m c) (old5 m c) := by
  refine (dats m hO 0 c).arrAt_eq_of_coversWhere_of_agree 5 _ (fun β : Fin 3 → ℕ => β 0 = 0) (fills m hO).1 (fun t hf (y : S1x256x768.Idx) => ?_)
    fun j hj => (congrFun (entry m c).1 _).trans (if_neg fun h => hj ((Nat.div_one _).trans h)).symm
  blk_simp
  rw [after0_5]
  unfold outsAt0
  frame_out
  refine (total_at y _).trans (Eq.trans ?_ (place5 m hO t y _ _).symm)
  exact gradient m hO c t y _ _ ((hs0_0 m hO t).read_unread _) ((hs0_1 m hO t).read_unread _) _ _ _ _ _ _ _

/-- The second result is the step in the first layer. -/
theorem kernel_delta : (dats m hO 0 c).arrAt 6 (cfgM m hO).N = delta (own m c) (got m c) (weight m c) (mean m c) (square m c) (old6 m c) := by
  refine (dats m hO 0 c).arrAt_eq_of_coversWhere_of_agree 6 _ (fun β : Fin 3 → ℕ => β 0 = 0) (fills m hO).2.1 (fun t hf (y : S1x256x768.Idx) => ?_)
    fun j hj => (congrFun (entry m c).2.1 _).trans (if_neg fun h => hj ((Nat.div_one _).trans h)).symm
  blk_simp
  rw [after0_6]
  unfold outsAt0
  frame_out
  refine (step_at y _ _ _ _).trans (Eq.trans ?_ (place6 m hO t y _ _).symm)
  exact congr (congr (congr (congrArg Adam.step ((congrFun ((hs0_2 m hO t).read_unread _) _).trans (weight_at m hO c t y)))
    (gradient m hO c t y _ _ ((hs0_0 m hO t).read_unread _) ((hs0_1 m hO t).read_unread _) _ _ _ _ _ _ _))
    ((congrFun ((hs0_3 m hO t).read_unread _) _).trans (mean_at m hO c t y))) ((congrFun ((hs0_4 m hO t).read_unread _) _).trans (square_at m hO c t y))

/-- The third result is the first moment in the first layer. -/
theorem kernel_first : (dats m hO 0 c).arrAt 7 (cfgM m hO).N = first (own m c) (got m c) (mean m c) (old7 m c) := by
  refine (dats m hO 0 c).arrAt_eq_of_coversWhere_of_agree 7 _ (fun β : Fin 3 → ℕ => β 0 = 0) (fills m hO).2.2.1 (fun t hf (y : S1x256x768.Idx) => ?_)
    fun j hj => (congrFun (entry m c).2.2.1 _).trans (if_neg fun h => hj ((Nat.div_one _).trans h)).symm
  blk_simp
  rw [after0_7]
  unfold outsAt0
  frame_out
  refine (first_at y _ _).trans (Eq.trans ?_ (place7 m hO t y _ _).symm)
  exact congr (congrArg Adam.first (gradient m hO c t y _ _ ((hs0_0 m hO t).read_unread _) ((hs0_1 m hO t).read_unread _) _ _ _ _ _ _ _))
    ((congrFun ((hs0_3 m hO t).read_unread _) _).trans (mean_at m hO c t y))

/-- The fourth result is the second moment in the first layer. -/
theorem kernel_second : (dats m hO 0 c).arrAt 8 (cfgM m hO).N = second (own m c) (got m c) (square m c) (old8 m c) := by
  refine (dats m hO 0 c).arrAt_eq_of_coversWhere_of_agree 8 _ (fun β : Fin 3 → ℕ => β 0 = 0) (fills m hO).2.2.2 (fun t hf (y : S1x256x768.Idx) => ?_)
    fun j hj => (congrFun (entry m c).2.2.2 _).trans (if_neg fun h => hj ((Nat.div_one _).trans h)).symm
  blk_simp
  rw [after0_8]
  unfold outsAt0
  frame_out
  refine (second_at y _ _).trans (Eq.trans ?_ (place8 m hO t y _ _).symm)
  exact congr (congrArg Adam.second (gradient m hO c t y _ _ ((hs0_0 m hO t).read_unread _) ((hs0_1 m hO t).read_unread _) _ _ _ _ _ _ _))
    ((congrFun ((hs0_4 m hO t).read_unread _) _).trans (square_at m hO c t y))

end Cert.ReduceScin

end
-- ==== Proof.ReduceScin.Reference.lean ====
/- The reduced update of the short convolution's input weights: what the reference leaves in its four results. -/
module

public import proofs.«01_k».proof.Proof.Gen.Reference31Ideal.Read
public import proofs.«01_k».proof.Proof.Reduced

@[expose] public section

set_option maxRecDepth 16384

noncomputable section

namespace Cert.ReduceScin.Ref

open Idealize.ShloMosaic Idealize.ShloMosaic.TcCoe Idealize.SL.Sem Cert.Reduced
open Cert.Reference31Ideal Cert.Reference31Ideal.Gen Cert.Reference31Ideal.Read

variable (O : FVec Ideal S8x2048x768 .bf16) (Z : FVec Ideal S7x2048x768 .bf16) (W M V B : FVec Ideal S2x2048x768 .f32)

/-- The gradient at an index. -/
theorem grad_at (x : S2048x768.Idx) : (val_main_v5 (F := Ideal) O Z x : EReal) = grad O Z (x 0) (x 1) := by
  rw [val_main_v5_apply]
  refine congrArg₂ (fun a b : EReal => a + b) ?_ ?_
  · pointwise [val_main_v2, val_main_v1, val_main_v0]
  · refine (val_main_v4_apply Z x).trans ?_
    refine (congrArg₂ (fun a b : EReal => a + b) (show (val_main_cst (F := Ideal) (Shape.Idx.first h_S_) : EReal) = 0 by pointwise [val_main_cst])
      (Finset.sum_congr rfl fun k _ => show (val_main_v3 (F := Ideal) Z (idx_main_v4 x k) : EReal) = Z (ix3 k (x 0) (x 1)) by
        pointwise [val_main_v3]
        exact congrArg Z (funext fun a => match a with
          | ⟨0, _⟩ => rfl
          | ⟨1, _⟩ => rfl
          | ⟨2, _⟩ => rfl))).trans (zero_add _)

/-- The first moment at an index. -/
theorem first_at (x : S2048x768.Idx) : (val_main_v16 (F := Ideal) O Z M x : EReal) = Adam.first (grad O Z (x 0) (x 1)) (M (ix3 0 (x 0) (x 1))) := by
  rw [← grad_at]
  pointwise [val_main_v16, val_main_v15, val_main_v14, val_main_cst_1, val_main_v13, val_main_v12, val_main_cst_0, val_main_v9, val_main_v8, Adam.first]

/-- The second moment at an index. -/
theorem second_at (x : S2048x768.Idx) : (val_main_v22 (F := Ideal) O Z V x : EReal) = Adam.second (grad O Z (x 0) (x 1)) (V (ix3 0 (x 0) (x 1))) := by
  rw [← grad_at]
  pointwise [val_main_v22, val_main_v21, val_main_v20, val_main_cst_3, val_main_v19, val_main_v18, val_main_v17, val_main_cst_2, val_main_v11, val_main_v10, Adam.second]

/-- The step at an index. -/
theorem step_at (x : S2048x768.Idx) : (val_main_v35 (F := Ideal) O Z W M V x : EReal)
    = Adam.step (W (ix3 0 (x 0) (x 1))) (grad O Z (x 0) (x 1)) (M (ix3 0 (x 0) (x 1))) (V (ix3 0 (x 0) (x 1))) := by
  unfold Adam.step
  rw [← first_at, ← second_at]
  pointwise [val_main_v35, val_main_v34, val_main_cst_8, val_main_v33, val_main_v32, val_main_v31, val_main_cst_7, val_main_v30, val_main_v29, val_main_v28,
    val_main_cst_6, val_main_v27, val_main_v26, val_main_v25, val_main_cst_5, val_main_v24, val_main_v23, val_main_cst_4, val_main_v7, val_main_v6]

/-- An index is its three entries. -/
theorem entries (x : S2x2048x768.Idx) : ix3 (x 0) (x 1) (x 2) = x := funext fun a => match a with
  | ⟨0, _⟩ => rfl
  | ⟨1, _⟩ => rfl
  | ⟨2, _⟩ => rfl

/-- The first result. -/
theorem total : val_main_v38 (F := Ideal) O Z B = Reduced.total O Z B := funext fun x => by
  have hx : (x 0).val < 2 := (x 0).isLt
  refine Eq.trans (b := if h : (x 0).val < 1 then (val_main_v5 (F := Ideal) O Z (ix2 (x 1) (x 2)) : EReal)
    else B (ix3 ⟨1 + ((x 0).val - 1), by omega⟩ (x 1) (x 2))) (by pointwise [val_main_v38, val_main_v36, val_main_v37]) ?_
  refine ((layer B (x 0) (x 1) (x 2) _ _).trans (congrArg _ (entries x))).trans ?_
  exact congrFun (congrArg (fun X => place B X) (funext fun i => funext fun n => grad_at O Z (ix2 i n))) x

/-- The second result. -/
theorem delta : val_main_v41 (F := Ideal) O Z W M V B = Reduced.delta O Z W M V B := funext fun x => by
  have hx : (x 0).val < 2 := (x 0).isLt
  refine Eq.trans (b := if h : (x 0).val < 1 then (val_main_v35 (F := Ideal) O Z W M V (ix2 (x 1) (x 2)) : EReal)
    else B (ix3 ⟨1 + ((x 0).val - 1), by omega⟩ (x 1) (x 2))) (by pointwise [val_main_v41, val_main_v39, val_main_v40]) ?_
  refine ((layer B (x 0) (x 1) (x 2) _ _).trans (congrArg _ (entries x))).trans ?_
  exact congrFun (congrArg (fun X => place B X) (funext fun i => funext fun n => step_at O Z W M V (ix2 i n))) x

/-- The third result. -/
theorem first : val_main_v44 (F := Ideal) O Z M B = Reduced.first O Z M B := funext fun x => by
  have hx : (x 0).val < 2 := (x 0).isLt
  refine Eq.trans (b := if h : (x 0).val < 1 then (val_main_v16 (F := Ideal) O Z M (ix2 (x 1) (x 2)) : EReal)
    else B (ix3 ⟨1 + ((x 0).val - 1), by omega⟩ (x 1) (x 2))) (by pointwise [val_main_v44, val_main_v42, val_main_v43]) ?_
  refine ((layer B (x 0) (x 1) (x 2) _ _).trans (congrArg _ (entries x))).trans ?_
  exact congrFun (congrArg (fun X => place B X) (funext fun i => funext fun n => first_at O Z M (ix2 i n))) x

/-- The fourth result. -/
theorem second : val_main_v47 (F := Ideal) O Z V B = Reduced.second O Z V B := funext fun x => by
  have hx : (x 0).val < 2 := (x 0).isLt
  refine Eq.trans (b := if h : (x 0).val < 1 then (val_main_v22 (F := Ideal) O Z V (ix2 (x 1) (x 2)) : EReal)
    else B (ix3 ⟨1 + ((x 0).val - 1), by omega⟩ (x 1) (x 2))) (by pointwise [val_main_v47, val_main_v45, val_main_v46]) ?_
  refine ((layer B (x 0) (x 1) (x 2) _ _).trans (congrArg _ (entries x))).trans ?_
  exact congrFun (congrArg (fun X => place B X) (funext fun i => funext fun n => second_at O Z V (ix2 i n))) x

end Cert.ReduceScin.Ref

end
-- ==== Proof.ReduceScin.Claims.lean ====
/- The claims about the reduced update of the short convolution's input weights. -/
module

public import proofs.«01_k».proof.Defs
public import proofs.«01_k».proof.Proof.Gen.Kernel31.Frame
public import proofs.«01_k».proof.Proof.ReduceScin.Kernel
public import proofs.«01_k».proof.Proof.ReduceScin.Reference

@[expose] public section

set_option maxRecDepth 16384

noncomputable section

namespace Cert.ReduceScin

open Idealize.ShloMosaic Idealize.ShloMosaic.TcCoe Idealize.SL.Sem Cert.Reduced

section
open Cert.Kernel31 Cert.Kernel31.Gen
variable {F : FTy → Type} [FloatOps F] (m : (ℓ : Loc nD τ sig) → Buf (Elt F) ℓ)

/-- The zero table of the kernel that rounds as the device does. -/
def device : pre0.Contents (Elt F) := fun | ⟨0, _⟩ => fun _ => 0#32 | ⟨_ + 1, h⟩ => absurd h (by simp)

/-- That kernel finds the zero table too. -/
theorem device_table : tbl m = device := by
  funext j
  match j with
  | ⟨0, _⟩ =>
    funext x
    show StableHlo.after hostOps0 (fun b => m ((0 : Dev nD), b)) main_v0 x = 0#32
    simp only [hostOps0]
    after_results
    rfl

/-- And its blocks lie in their arrays. -/
theorem device_ok : Ok m := by
  unfold Ok
  rw [device_table]
  exact (by decide +kernel : ok0 (F := Bits) device)

end

/-- The kernel, rounding as the device does, runs to its end and leaves its arguments as they were. -/
theorem frame_kernel : Cert.quiescent_Kernel31 (hKernel31 := Cert.Kernel31.Gen.facts) := fun m ρ _ =>
  Cert.Kernel31.Gen.frame m ρ (device_ok m)

/-- The same of the kernel over exact numbers. -/
theorem frame_ideal : Cert.quiescent_Kernel31Ideal (hKernel31Ideal := Cert.Kernel31Ideal.Gen.facts) :=
  fun m ρ _ => Cert.Kernel31Ideal.Gen.frame m ρ (ok m)

/-- The same of the reference, which is host code and holds no semaphore. -/
theorem frame_reference : Cert.quiescent_Reference31Ideal (hReference31Ideal := Cert.Reference31Ideal.Gen.facts) := fun m ρ _ =>
  (θ_run Cert.Reference31Ideal.defs _ _).mono (fun r h => ⟨fun c => (h c).2.2.2.2, sem_eq_zero_of_no_sems (by decide) r.2⟩)
    (Cert.Reference31Ideal.Value.run (F := Ideal) m ρ)

/-- Over exact numbers the kernel's results are the reference's: in the first layer the gradient, the step and the two moments, in the
others what was there. -/
theorem algebraic : Cert.algebraic_Kernel31Ideal_Reference31Ideal (hKernel31Ideal := Cert.Kernel31Ideal.Gen.facts)
    (hReference31Ideal := Cert.Reference31Ideal.Gen.facts) := by
  intro m g m' g' _ hargs
  refine ⟨fun c => (Cert.Kernel31Ideal.Gen.dats m (ok m) 0 c).arrAt 5 (Cert.Kernel31Ideal.Gen.cfgM m (ok m)).N,
    fun c => (Cert.Kernel31Ideal.Gen.dats m (ok m) 0 c).arrAt 6 (Cert.Kernel31Ideal.Gen.cfgM m (ok m)).N,
    fun c => (Cert.Kernel31Ideal.Gen.dats m (ok m) 0 c).arrAt 7 (Cert.Kernel31Ideal.Gen.cfgM m (ok m)).N,
    fun c => (Cert.Kernel31Ideal.Gen.dats m (ok m) 0 c).arrAt 8 (Cert.Kernel31Ideal.Gen.cfgM m (ok m)).N, ?_, ?_⟩
  · exact (θ_run Cert.Kernel31Ideal.defs _ _).mono (fun r h c => ⟨(h.1 c).1 5, (h.1 c).1 6, (h.1 c).1 7, (h.1 c).1 8, h.2 c⟩)
      (θ_run_and (Cert.Kernel31Ideal.Gen.run_main m g (ok m)) (Cert.Kernel31Ideal.Gen.unchanged m g (ok m)))
  refine (θ_run Cert.Reference31Ideal.defs _ _).mono (fun r h c => ?_) (Cert.Reference31Ideal.Value.run (F := Ideal) m' g')
  obtain ⟨h0, h1, h2, h3, hk⟩ := h c
  obtain ⟨a0, a1, a2, a3, a4, a5, a6, a7, a8⟩ := hargs c
  refine ⟨?_, ?_, ?_, ?_, hk⟩
  · refine h0.trans ((Cert.Reference31Ideal.Read.val_main_v38_eq _ _ _).trans ?_)
    refine (Ref.total _ _ _).trans (Eq.trans ?_ (kernel_total m (ok m) c).symm)
    exact congr (congr (congrArg total a0) a1) a5
  · refine h1.trans ((Cert.Reference31Ideal.Read.val_main_v41_eq _ _ _ _ _ _).trans ?_)
    refine (Ref.delta _ _ _ _ _ _).trans (Eq.trans ?_ (kernel_delta m (ok m) c).symm)
    exact congr (congr (congr (congr (congr (congrArg delta a0) a1) a2) a3) a4) a6
  · refine h2.trans ((Cert.Reference31Ideal.Read.val_main_v44_eq _ _ _ _).trans ?_)
    refine (Ref.first _ _ _ _).trans (Eq.trans ?_ (kernel_first m (ok m) c).symm)
    exact congr (congr (congr (congrArg first a0) a1) a3) a7
  · refine h3.trans ((Cert.Reference31Ideal.Read.val_main_v47_eq _ _ _ _).trans ?_)
    refine (Ref.second _ _ _ _).trans (Eq.trans ?_ (kernel_second m (ok m) c).symm)
    exact congr (congr (congr (congrArg second a0) a1) a4) a8

end Cert.ReduceScin

end
-- ==== Proof.ReduceUp.Kernel.lean ====
/- The reduced update of the feed-forward's upward weights: what the kernel leaves in its four results. Every grid point updates 256 rows of the first layer. -/
module

public import proofs.«01_k».proof.Proof.Gen.Kernel32Ideal.Frame
public import proofs.«01_k».proof.Proof.Reduced

@[expose] public section

set_option maxRecDepth 16384

noncomputable section

namespace Cert.ReduceUp

open Idealize.ShloMosaic Idealize.ShloMosaic.TcCoe Idealize.SL.Sem Cert.Reduced
open Cert.Kernel32Ideal Cert.Kernel32Ideal.Gen

/-- The table of the device's number when the number is zero. -/
def zeros {F : FTy → Type} : pre0.Contents (Elt F) := fun | ⟨0, _⟩ => fun _ => 0#32 | ⟨_ + 1, h⟩ => absurd h (by simp)

section
variable {F : FTy → Type} [FloatOps F] (m : (ℓ : Loc nD τ sig) → Buf (Elt F) ℓ)

/-- The kernel finds that table. -/
theorem table : tbl m = zeros := by
  funext j
  match j with
  | ⟨0, _⟩ =>
    funext x
    show StableHlo.after hostOps0 (fun b => m ((0 : Dev nD), b)) main_v0 x = 0#32
    simp only [hostOps0]
    after_results
    rfl

/-- Every block lies in its array. -/
theorem ok : Ok m := by
  unfold Ok
  rw [table]
  exact (by decide +kernel : ok0 (F := Bits) zeros)

end

/-- The zero table as admitted contents. -/
def zero : (pcfg0 (F := Ideal)).Adm := ⟨zeros, by decide +kernel⟩

variable (m : (ℓ : Loc nD τ sig) → Buf (Elt Ideal) ℓ) (hO : Ok m) (c : Dev nD)

/-- The contents the kernel runs at are the zero table. -/
theorem at_zero : adm m hO = zero := Subtype.ext (table m)

/-- Which block of each array a grid point works on: the same of all nine. -/
def Maps (a : (pcfg0 (F := Ideal)).Adm) : Prop := ∀ t : Fin (cfg0 a).N, ((cfg0 a).win 0).index t = ![0, t.val, 0]
  ∧ ((cfg0 a).win 1).index t = ![0, t.val, 0] ∧ ((cfg0 a).win 2).index t = ![0, t.val, 0] ∧ ((cfg0 a).win 3).index t = ![0, t.val, 0]
  ∧ ((cfg0 a).win 4).index t = ![0, t.val, 0] ∧ ((cfg0 a).win 5).index t = ![0, t.val, 0] ∧ ((cfg0 a).win 6).index t = ![0, t.val, 0]
  ∧ ((cfg0 a).win 7).index t = ![0, t.val, 0] ∧ ((cfg0 a).win 8).index t = ![0, t.val, 0]

/-- It is so at the zero table, hence of the kernel's run. -/
theorem idx : Maps (adm m hO) := by
  rw [at_zero]
  unfold Maps
  decide +kernel

/-- The blocks written back fill the first layer, whichever of the four results. -/
def Fills (a : (pcfg0 (F := Ideal)).Adm) : Prop := ((cfg0 a).win 5).CoversWhere (fun β : Fin 3 → ℕ => β 0 = 0)
  ∧ ((cfg0 a).win 6).CoversWhere (fun β : Fin 3 → ℕ => β 0 = 0) ∧ ((cfg0 a).win 7).CoversWhere (fun β : Fin 3 → ℕ => β 0 = 0)
  ∧ ((cfg0 a).win 8).CoversWhere (fun β : Fin 3 → ℕ => β 0 = 0)

/-- It is so at the zero table, hence of the kernel's run. -/
theorem fills : Fills (adm m hO) := by
  rw [at_zero]
  unfold Fills
  decide +kernel

/-- The nine arguments: the device's own shares and the received, the weight, its two moments, and what the four results start as. -/
abbrev own : FVec Ideal (Cube 8 2048 1408) .bf16 := m ((c : Thread nD τ).loc main_arg0)
abbrev got : FVec Ideal (Cube 7 2048 1408) .bf16 := m ((c : Thread nD τ).loc main_arg1)
abbrev weight : FVec Ideal (Cube 4 2048 1408) .f32 := m ((c : Thread nD τ).loc main_arg2)
abbrev mean : FVec Ideal (Cube 4 2048 1408) .f32 := m ((c : Thread nD τ).loc main_arg3)
abbrev square : FVec Ideal (Cube 4 2048 1408) .f32 := m ((c : Thread nD τ).loc main_arg4)
abbrev old5 : FVec Ideal (Cube 4 2048 1408) .f32 := m ((c : Thread nD τ).loc main_arg5)
abbrev old6 : FVec Ideal (Cube 4 2048 1408) .f32 := m ((c : Thread nD τ).loc main_arg6)
abbrev old7 : FVec Ideal (Cube 4 2048 1408) .f32 := m ((c : Thread nD τ).loc main_arg7)
abbrev old8 : FVec Ideal (Cube 4 2048 1408) .f32 := m ((c : Thread nD τ).loc main_arg8)

/-- The row of the array an entry of a grid point's tile is in. -/
abbrev row (t : Fin (cfgM m hO).N) (y : S1x256x1408.Idx) : Fin 2048 := ⟨t.val * 256 + (y 1).val, by
  have ht : t.val < 8 := t.isLt
  have h1 : (y 1).val < 256 := (y 1).isLt
  omega⟩

/-- A tile's first axis has one entry. -/
theorem tile {e : EltTy} (X : Vec Ideal S1x256x1408 e) (y : S1x256x1408.Idx) : X y = X (ix3 0 (y 1) (y 2)) := congrArg X (funext fun a => match a with
  | ⟨0, _⟩ => Fin.ext (by
      have h : (y 0).val < 1 := (y 0).isLt
      show (y 0).val = 0
      omega)
  | ⟨1, _⟩ => rfl
  | ⟨2, _⟩ => rfl)

variable (t : Fin (cfgM m hO).N) (y : S1x256x1408.Idx)

/-- Which element of its own shares a grid point's block holds. -/
theorem own_at : (show FVec Ideal S1x256x1408 .bf16 from iblk m hO c 0 t) (ix3 0 (y 1) (y 2)) = own m c (ix3 0 (row m hO t y) (y 2)) := by
  refine Eq.trans ?_ (congrFun (V_main_arg0 m c) _)
  blk_point [iblk, idx m hO t]

/-- Which element of the received shares a grid point's block holds. -/
theorem got_at (k : Fin 7) : (show FVec Ideal S7x256x1408 .bf16 from iblk m hO c 1 t) (ix3 k (y 1) (y 2)) = got m c (ix3 k (row m hO t y) (y 2)) := by
  refine Eq.trans ?_ (congrFun (V_main_arg1 m c) _)
  blk_point [iblk, idx m hO t]

/-- Which element of the weight a grid point's block holds. -/
theorem weight_at : (show FVec Ideal S1x256x1408 .f32 from iblk m hO c 2 t) y = weight m c (ix3 0 (row m hO t y) (y 2)) := by
  refine (tile _ y).trans (Eq.trans ?_ (congrFun (V_main_arg2 m c) _))
  blk_point [iblk, idx m hO t]

/-- Which element of the first moment a grid point's block holds. -/
theorem mean_at : (show FVec Ideal S1x256x1408 .f32 from iblk m hO c 3 t) y = mean m c (ix3 0 (row m hO t y) (y 2)) := by
  refine (tile _ y).trans (Eq.trans ?_ (congrFun (V_main_arg3 m c) _))
  blk_point [iblk, idx m hO t]

/-- Which element of the second moment a grid point's block holds. -/
theorem square_at : (show FVec Ideal S1x256x1408 .f32 from iblk m hO c 4 t) y = square m c (ix3 0 (row m hO t y) (y 2)) := by
  refine (tile _ y).trans (Eq.trans ?_ (congrFun (V_main_arg4 m c) _))
  blk_point [iblk, idx m hO t]

/-- Each result starts as the array it is given. -/
theorem entry : V m c main_v1_0 = old5 m c ∧ V m c main_v1_1 = old6 m c ∧ V m c main_v1_2 = old7 m c ∧ V m c main_v1_3 = old8 m c := by
  refine ⟨?_, ?_, ?_, ?_⟩
  all_goals
    show StableHlo.after hostOps0 (fun b => m (c, b)) _ = _
    simp only [hostOps0]
    after_results
    rfl

/-- The body's sum of the eight shares. -/
theorem sum_at (o z0 z1 z2 z3 z4 z5 z6 : Vec Ideal S1x256x1408 .bf16) (i : Fin 256) (n : Fin 1408) :
    (k0_pay3 (F := Ideal) o z0 z1 z2 z3 z4 z5 z6 (ix2 i n) : EReal)
      = (o (ix3 0 i n) : EReal) + z0 (ix3 0 i n) + z1 (ix3 0 i n) + z2 (ix3 0 i n) + z3 (ix3 0 i n) + z4 (ix3 0 i n) + z5 (ix3 0 i n) + z6 (ix3 0 i n) := by
  pointwise [k0_pay3]

/-- A tile of the gradient. -/
theorem total_at (v : FVec Ideal S256x1408 .f32) : (k0_pay6 (F := Ideal) v y : EReal) = v (ix2 (y 1) (y 2)) := by
  pointwise [k0_pay6]

/-- A tile of the first moment. -/
theorem first_at (v : FVec Ideal S256x1408 .f32) (a : FVec Ideal S1x256x1408 .f32) :
    (k0_pay1 (F := Ideal) (k0_pay4 v a) y : EReal) = Adam.first (v (ix2 (y 1) (y 2))) (a y) := by
  pointwise [k0_pay1, k0_pay4, Adam.first]

/-- A tile of the second moment. -/
theorem second_at (v : FVec Ideal S256x1408 .f32) (b : FVec Ideal S1x256x1408 .f32) :
    (k0_pay2 (F := Ideal) (k0_pay5 v b) y : EReal) = Adam.second (v (ix2 (y 1) (y 2))) (b y) := by
  pointwise [k0_pay2, k0_pay5, Adam.second]

/-- A tile of the step. -/
theorem step_at (v : FVec Ideal S256x1408 .f32) (w a b : FVec Ideal S1x256x1408 .f32) :
    (k0_pay7 (F := Ideal) v w a b y : EReal) = Adam.step (w y) (v (ix2 (y 1) (y 2))) (a y) (b y) := by
  pointwise [k0_pay7, k0_pay4, k0_pay5, Adam.step, Adam.first, Adam.second]

/-- One share's tile out of the seven. -/
abbrev cut (X : FVec Ideal S7x256x1408 .bf16) (k : ℕ) (h) :=
  (show Vec Ideal S1x256x1408 .bf16 from View.ld (Val := Elt Ideal) (e' := .bf16) X (Rect.unit (s := S7x256x1408) ![k, 0, 0] ![1, 256, 1408] h))

/-- What that tile holds. -/
theorem cut_at (X : FVec Ideal S7x256x1408 .bf16) (k : ℕ) (hk : k < 7) (h) (i : Fin 256) (n : Fin 1408) : cut X k h (ix3 0 i n) = X (ix3 ⟨k, hk⟩ i n) := by
  refine congrArg X (funext fun a => match a with
    | ⟨0, _⟩ => Fin.ext ?_
    | ⟨1, _⟩ => Fin.ext ?_
    | ⟨2, _⟩ => Fin.ext ?_) <;> simp [Rect.emb, Rect.unit, ix3]

/-- The gradient's tile of a grid point. -/
theorem gradient (x0 : FVec Ideal S1x256x1408 .bf16) (x1 : FVec Ideal S7x256x1408 .bf16)
    (e0 : x0 = iblk m hO c 0 t) (e1 : x1 = iblk m hO c 1 t) (h0 h1 h2 h3 h4 h5 h6) :
    (k0_pay3 (F := Ideal) x0 (cut x1 0 h0) (cut x1 1 h1) (cut x1 2 h2) (cut x1 3 h3) (cut x1 4 h4) (cut x1 5 h5) (cut x1 6 h6) (ix2 (y 1) (y 2)) : EReal)
      = grad (own m c) (got m c) (row m hO t y) (y 2) := by
  subst e0 e1
  have e (k : ℕ) (hk : k < 7) (h) := (cut_at (iblk m hO c 1 t) k hk h (y 1) (y 2)).trans (got_at m hO c t y ⟨k, hk⟩)
  refine (sum_at _ _ _ _ _ _ _ _ (y 1) (y 2)).trans ?_
  refine Eq.trans ?_ (eight _ fun k => got m c (ix3 k (row m hO t y) (y 2)))
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
      (congrArg₂ (fun x y : EReal => x + y) (own_at m hO c t y) (e 0 (by omega) _)) (e 1 (by omega) _)) (e 2 (by omega) _)) (e 3 (by omega) _))
      (e 4 (by omega) _)) (e 5 (by omega) _)) (e 6 (by omega) _)

variable (X : Fin 2048 → Fin 1408 → EReal) (B : FVec Ideal (Cube 4 2048 1408) .f32)

/-- Where an element of a tile sits in the first result. -/
theorem place5 : place B X ((((spec0 5).arr.view.slice ((pcfg0.win (adm m hO) 5).rect t))).emb y) = X (row m hO t y) (y 2) := by
  have h0 : (y 0).val < 1 := (y 0).isLt
  refine Eq.trans (b := place B X (ix3 0 (row m hO t y) (y 2))) ?_ (if_pos rfl)
  have e : (pcfg0.win (adm m hO) 5).index t = ![0, t.val, 0] := (idx m hO t).2.2.2.2.2.1
  blk_ext [e]

/-- Where an element of a tile sits in the second result. -/
theorem place6 : place B X ((((spec0 6).arr.view.slice ((pcfg0.win (adm m hO) 6).rect t))).emb y) = X (row m hO t y) (y 2) := by
  have h0 : (y 0).val < 1 := (y 0).isLt
  refine Eq.trans (b := place B X (ix3 0 (row m hO t y) (y 2))) ?_ (if_pos rfl)
  have e : (pcfg0.win (adm m hO) 6).index t = ![0, t.val, 0] := (idx m hO t).2.2.2.2.2.2.1
  blk_ext [e]

/-- Where an element of a tile sits in the third result. -/
theorem place7 : place B X ((((spec0 7).arr.view.slice ((pcfg0.win (adm m hO) 7).rect t))).emb y) = X (row m hO t y) (y 2) := by
  have h0 : (y 0).val < 1 := (y 0).isLt
  refine Eq.trans (b := place B X (ix3 0 (row m hO t y) (y 2))) ?_ (if_pos rfl)
  have e : (pcfg0.win (adm m hO) 7).index t = ![0, t.val, 0] := (idx m hO t).2.2.2.2.2.2.2.1
  blk_ext [e]

/-- Where an element of a tile sits in the fourth result. -/
theorem place8 : place B X ((((spec0 8).arr.view.slice ((pcfg0.win (adm m hO) 8).rect t))).emb y) = X (row m hO t y) (y 2) := by
  have h0 : (y 0).val < 1 := (y 0).isLt
  refine Eq.trans (b := place B X (ix3 0 (row m hO t y) (y 2))) ?_ (if_pos rfl)
  have e : (pcfg0.win (adm m hO) 8).index t = ![0, t.val, 0] := (idx m hO t).2.2.2.2.2.2.2.2
  blk_ext [e]

/-- The first result is the gradient in the first layer. -/
theorem kernel_total : (dats m hO 0 c).arrAt 5 (cfgM m hO).N = total (own m c) (got m c) (old5 m c) := by
  refine (dats m hO 0 c).arrAt_eq_of_coversWhere_of_agree 5 _ (fun β : Fin 3 → ℕ => β 0 = 0) (fills m hO).1 (fun t hf (y : S1x256x1408.Idx) => ?_)
    fun j hj => (congrFun (entry m c).1 _).trans (if_neg fun h => hj ((Nat.div_one _).trans h)).symm
  blk_simp
  rw [after0_5]
  unfold outsAt0
  frame_out
  refine (total_at y _).trans (Eq.trans ?_ (place5 m hO t y _ _).symm)
  exact gradient m hO c t y _ _ ((hs0_0 m hO t).read_unread _) ((hs0_1 m hO t).read_unread _) _ _ _ _ _ _ _

/-- The second result is the step in the first layer. -/
theorem kernel_delta : (dats m hO 0 c).arrAt 6 (cfgM m hO).N = delta (own m c) (got m c) (weight m c) (mean m c) (square m c) (old6 m c) := by
  refine (dats m hO 0 c).arrAt_eq_of_coversWhere_of_agree 6 _ (fun β : Fin 3 → ℕ => β 0 = 0) (fills m hO).2.1 (fun t hf (y : S1x256x1408.Idx) => ?_)
    fun j hj => (congrFun (entry m c).2.1 _).trans (if_neg fun h => hj ((Nat.div_one _).trans h)).symm
  blk_simp
  rw [after0_6]
  unfold outsAt0
  frame_out
  refine (step_at y _ _ _ _).trans (Eq.trans ?_ (place6 m hO t y _ _).symm)
  exact congr (congr (congr (congrArg Adam.step ((congrFun ((hs0_2 m hO t).read_unread _) _).trans (weight_at m hO c t y)))
    (gradient m hO c t y _ _ ((hs0_0 m hO t).read_unread _) ((hs0_1 m hO t).read_unread _) _ _ _ _ _ _ _))
    ((congrFun ((hs0_3 m hO t).read_unread _) _).trans (mean_at m hO c t y))) ((congrFun ((hs0_4 m hO t).read_unread _) _).trans (square_at m hO c t y))

/-- The third result is the first moment in the first layer. -/
theorem kernel_first : (dats m hO 0 c).arrAt 7 (cfgM m hO).N = first (own m c) (got m c) (mean m c) (old7 m c) := by
  refine (dats m hO 0 c).arrAt_eq_of_coversWhere_of_agree 7 _ (fun β : Fin 3 → ℕ => β 0 = 0) (fills m hO).2.2.1 (fun t hf (y : S1x256x1408.Idx) => ?_)
    fun j hj => (congrFun (entry m c).2.2.1 _).trans (if_neg fun h => hj ((Nat.div_one _).trans h)).symm
  blk_simp
  rw [after0_7]
  unfold outsAt0
  frame_out
  refine (first_at y _ _).trans (Eq.trans ?_ (place7 m hO t y _ _).symm)
  exact congr (congrArg Adam.first (gradient m hO c t y _ _ ((hs0_0 m hO t).read_unread _) ((hs0_1 m hO t).read_unread _) _ _ _ _ _ _ _))
    ((congrFun ((hs0_3 m hO t).read_unread _) _).trans (mean_at m hO c t y))

/-- The fourth result is the second moment in the first layer. -/
theorem kernel_second : (dats m hO 0 c).arrAt 8 (cfgM m hO).N = second (own m c) (got m c) (square m c) (old8 m c) := by
  refine (dats m hO 0 c).arrAt_eq_of_coversWhere_of_agree 8 _ (fun β : Fin 3 → ℕ => β 0 = 0) (fills m hO).2.2.2 (fun t hf (y : S1x256x1408.Idx) => ?_)
    fun j hj => (congrFun (entry m c).2.2.2 _).trans (if_neg fun h => hj ((Nat.div_one _).trans h)).symm
  blk_simp
  rw [after0_8]
  unfold outsAt0
  frame_out
  refine (second_at y _ _).trans (Eq.trans ?_ (place8 m hO t y _ _).symm)
  exact congr (congrArg Adam.second (gradient m hO c t y _ _ ((hs0_0 m hO t).read_unread _) ((hs0_1 m hO t).read_unread _) _ _ _ _ _ _ _))
    ((congrFun ((hs0_4 m hO t).read_unread _) _).trans (square_at m hO c t y))

end Cert.ReduceUp

end
-- ==== Proof.ReduceUp.Reference.lean ====
/- The reduced update of the feed-forward's upward weights: what the reference leaves in its four results. -/
module

public import proofs.«01_k».proof.Proof.Gen.Reference32Ideal.Read
public import proofs.«01_k».proof.Proof.Reduced

@[expose] public section

set_option maxRecDepth 16384

noncomputable section

namespace Cert.ReduceUp.Ref

open Idealize.ShloMosaic Idealize.ShloMosaic.TcCoe Idealize.SL.Sem Cert.Reduced
open Cert.Reference32Ideal Cert.Reference32Ideal.Gen Cert.Reference32Ideal.Read

variable (O : FVec Ideal S8x2048x1408 .bf16) (Z : FVec Ideal S7x2048x1408 .bf16) (W M V B : FVec Ideal S4x2048x1408 .f32)

/-- The gradient at an index. -/
theorem grad_at (x : S2048x1408.Idx) : (val_main_v5 (F := Ideal) O Z x : EReal) = grad O Z (x 0) (x 1) := by
  rw [val_main_v5_apply]
  refine congrArg₂ (fun a b : EReal => a + b) ?_ ?_
  · pointwise [val_main_v2, val_main_v1, val_main_v0]
  · refine (val_main_v4_apply Z x).trans ?_
    refine (congrArg₂ (fun a b : EReal => a + b) (show (val_main_cst (F := Ideal) (Shape.Idx.first h_S_) : EReal) = 0 by pointwise [val_main_cst])
      (Finset.sum_congr rfl fun k _ => show (val_main_v3 (F := Ideal) Z (idx_main_v4 x k) : EReal) = Z (ix3 k (x 0) (x 1)) by
        pointwise [val_main_v3]
        exact congrArg Z (funext fun a => match a with
          | ⟨0, _⟩ => rfl
          | ⟨1, _⟩ => rfl
          | ⟨2, _⟩ => rfl))).trans (zero_add _)

/-- The first moment at an index. -/
theorem first_at (x : S2048x1408.Idx) : (val_main_v16 (F := Ideal) O Z M x : EReal) = Adam.first (grad O Z (x 0) (x 1)) (M (ix3 0 (x 0) (x 1))) := by
  rw [← grad_at]
  pointwise [val_main_v16, val_main_v15, val_main_v14, val_main_cst_1, val_main_v13, val_main_v12, val_main_cst_0, val_main_v9, val_main_v8, Adam.first]

/-- The second moment at an index. -/
theorem second_at (x : S2048x1408.Idx) : (val_main_v22 (F := Ideal) O Z V x : EReal) = Adam.second (grad O Z (x 0) (x 1)) (V (ix3 0 (x 0) (x 1))) := by
  rw [← grad_at]
  pointwise [val_main_v22, val_main_v21, val_main_v20, val_main_cst_3, val_main_v19, val_main_v18, val_main_v17, val_main_cst_2, val_main_v11, val_main_v10, Adam.second]

/-- The step at an index. -/
theorem step_at (x : S2048x1408.Idx) : (val_main_v35 (F := Ideal) O Z W M V x : EReal)
    = Adam.step (W (ix3 0 (x 0) (x 1))) (grad O Z (x 0) (x 1)) (M (ix3 0 (x 0) (x 1))) (V (ix3 0 (x 0) (x 1))) := by
  unfold Adam.step
  rw [← first_at, ← second_at]
  pointwise [val_main_v35, val_main_v34, val_main_cst_8, val_main_v33, val_main_v32, val_main_v31, val_main_cst_7, val_main_v30, val_main_v29, val_main_v28,
    val_main_cst_6, val_main_v27, val_main_v26, val_main_v25, val_main_cst_5, val_main_v24, val_main_v23, val_main_cst_4, val_main_v7, val_main_v6]

/-- An index is its three entries. -/
theorem entries (x : S4x2048x1408.Idx) : ix3 (x 0) (x 1) (x 2) = x := funext fun a => match a with
  | ⟨0, _⟩ => rfl
  | ⟨1, _⟩ => rfl
  | ⟨2, _⟩ => rfl

/-- The first result. -/
theorem total : val_main_v38 (F := Ideal) O Z B = Reduced.total O Z B := funext fun x => by
  have hx : (x 0).val < 4 := (x 0).isLt
  refine Eq.trans (b := if h : (x 0).val < 1 then (val_main_v5 (F := Ideal) O Z (ix2 (x 1) (x 2)) : EReal)
    else B (ix3 ⟨1 + ((x 0).val - 1), by omega⟩ (x 1) (x 2))) (by pointwise [val_main_v38, val_main_v36, val_main_v37]) ?_
  refine ((layer B (x 0) (x 1) (x 2) _ _).trans (congrArg _ (entries x))).trans ?_
  exact congrFun (congrArg (fun X => place B X) (funext fun i => funext fun n => grad_at O Z (ix2 i n))) x

/-- The second result. -/
theorem delta : val_main_v41 (F := Ideal) O Z W M V B = Reduced.delta O Z W M V B := funext fun x => by
  have hx : (x 0).val < 4 := (x 0).isLt
  refine Eq.trans (b := if h : (x 0).val < 1 then (val_main_v35 (F := Ideal) O Z W M V (ix2 (x 1) (x 2)) : EReal)
    else B (ix3 ⟨1 + ((x 0).val - 1), by omega⟩ (x 1) (x 2))) (by pointwise [val_main_v41, val_main_v39, val_main_v40]) ?_
  refine ((layer B (x 0) (x 1) (x 2) _ _).trans (congrArg _ (entries x))).trans ?_
  exact congrFun (congrArg (fun X => place B X) (funext fun i => funext fun n => step_at O Z W M V (ix2 i n))) x

/-- The third result. -/
theorem first : val_main_v44 (F := Ideal) O Z M B = Reduced.first O Z M B := funext fun x => by
  have hx : (x 0).val < 4 := (x 0).isLt
  refine Eq.trans (b := if h : (x 0).val < 1 then (val_main_v16 (F := Ideal) O Z M (ix2 (x 1) (x 2)) : EReal)
    else B (ix3 ⟨1 + ((x 0).val - 1), by omega⟩ (x 1) (x 2))) (by pointwise [val_main_v44, val_main_v42, val_main_v43]) ?_
  refine ((layer B (x 0) (x 1) (x 2) _ _).trans (congrArg _ (entries x))).trans ?_
  exact congrFun (congrArg (fun X => place B X) (funext fun i => funext fun n => first_at O Z M (ix2 i n))) x

/-- The fourth result. -/
theorem second : val_main_v47 (F := Ideal) O Z V B = Reduced.second O Z V B := funext fun x => by
  have hx : (x 0).val < 4 := (x 0).isLt
  refine Eq.trans (b := if h : (x 0).val < 1 then (val_main_v22 (F := Ideal) O Z V (ix2 (x 1) (x 2)) : EReal)
    else B (ix3 ⟨1 + ((x 0).val - 1), by omega⟩ (x 1) (x 2))) (by pointwise [val_main_v47, val_main_v45, val_main_v46]) ?_
  refine ((layer B (x 0) (x 1) (x 2) _ _).trans (congrArg _ (entries x))).trans ?_
  exact congrFun (congrArg (fun X => place B X) (funext fun i => funext fun n => second_at O Z V (ix2 i n))) x

end Cert.ReduceUp.Ref

end
-- ==== Proof.ReduceUp.Claims.lean ====
/- The claims about the reduced update of the feed-forward's upward weights. -/
module

public import proofs.«01_k».proof.Defs
public import proofs.«01_k».proof.Proof.Gen.Kernel32.Frame
public import proofs.«01_k».proof.Proof.ReduceUp.Kernel
public import proofs.«01_k».proof.Proof.ReduceUp.Reference

@[expose] public section

set_option maxRecDepth 16384

noncomputable section

namespace Cert.ReduceUp

open Idealize.ShloMosaic Idealize.ShloMosaic.TcCoe Idealize.SL.Sem Cert.Reduced

section
open Cert.Kernel32 Cert.Kernel32.Gen
variable {F : FTy → Type} [FloatOps F] (m : (ℓ : Loc nD τ sig) → Buf (Elt F) ℓ)

/-- The zero table of the kernel that rounds as the device does. -/
def device : pre0.Contents (Elt F) := fun | ⟨0, _⟩ => fun _ => 0#32 | ⟨_ + 1, h⟩ => absurd h (by simp)

/-- That kernel finds the zero table too. -/
theorem device_table : tbl m = device := by
  funext j
  match j with
  | ⟨0, _⟩ =>
    funext x
    show StableHlo.after hostOps0 (fun b => m ((0 : Dev nD), b)) main_v0 x = 0#32
    simp only [hostOps0]
    after_results
    rfl

/-- And its blocks lie in their arrays. -/
theorem device_ok : Ok m := by
  unfold Ok
  rw [device_table]
  exact (by decide +kernel : ok0 (F := Bits) device)

end

/-- The kernel, rounding as the device does, runs to its end and leaves its arguments as they were. -/
theorem frame_kernel : Cert.quiescent_Kernel32 (hKernel32 := Cert.Kernel32.Gen.facts) := fun m ρ _ =>
  Cert.Kernel32.Gen.frame m ρ (device_ok m)

/-- The same of the kernel over exact numbers. -/
theorem frame_ideal : Cert.quiescent_Kernel32Ideal (hKernel32Ideal := Cert.Kernel32Ideal.Gen.facts) :=
  fun m ρ _ => Cert.Kernel32Ideal.Gen.frame m ρ (ok m)

/-- The same of the reference, which is host code and holds no semaphore. -/
theorem frame_reference : Cert.quiescent_Reference32Ideal (hReference32Ideal := Cert.Reference32Ideal.Gen.facts) := fun m ρ _ =>
  (θ_run Cert.Reference32Ideal.defs _ _).mono (fun r h => ⟨fun c => (h c).2.2.2.2, sem_eq_zero_of_no_sems (by decide) r.2⟩)
    (Cert.Reference32Ideal.Value.run (F := Ideal) m ρ)

/-- Over exact numbers the kernel's results are the reference's: in the first layer the gradient, the step and the two moments, in the
others what was there. -/
theorem algebraic : Cert.algebraic_Kernel32Ideal_Reference32Ideal (hKernel32Ideal := Cert.Kernel32Ideal.Gen.facts)
    (hReference32Ideal := Cert.Reference32Ideal.Gen.facts) := by
  intro m g m' g' _ hargs
  refine ⟨fun c => (Cert.Kernel32Ideal.Gen.dats m (ok m) 0 c).arrAt 5 (Cert.Kernel32Ideal.Gen.cfgM m (ok m)).N,
    fun c => (Cert.Kernel32Ideal.Gen.dats m (ok m) 0 c).arrAt 6 (Cert.Kernel32Ideal.Gen.cfgM m (ok m)).N,
    fun c => (Cert.Kernel32Ideal.Gen.dats m (ok m) 0 c).arrAt 7 (Cert.Kernel32Ideal.Gen.cfgM m (ok m)).N,
    fun c => (Cert.Kernel32Ideal.Gen.dats m (ok m) 0 c).arrAt 8 (Cert.Kernel32Ideal.Gen.cfgM m (ok m)).N, ?_, ?_⟩
  · exact (θ_run Cert.Kernel32Ideal.defs _ _).mono (fun r h c => ⟨(h.1 c).1 5, (h.1 c).1 6, (h.1 c).1 7, (h.1 c).1 8, h.2 c⟩)
      (θ_run_and (Cert.Kernel32Ideal.Gen.run_main m g (ok m)) (Cert.Kernel32Ideal.Gen.unchanged m g (ok m)))
  refine (θ_run Cert.Reference32Ideal.defs _ _).mono (fun r h c => ?_) (Cert.Reference32Ideal.Value.run (F := Ideal) m' g')
  obtain ⟨h0, h1, h2, h3, hk⟩ := h c
  obtain ⟨a0, a1, a2, a3, a4, a5, a6, a7, a8⟩ := hargs c
  refine ⟨?_, ?_, ?_, ?_, hk⟩
  · refine h0.trans ((Cert.Reference32Ideal.Read.val_main_v38_eq _ _ _).trans ?_)
    refine (Ref.total _ _ _).trans (Eq.trans ?_ (kernel_total m (ok m) c).symm)
    exact congr (congr (congrArg total a0) a1) a5
  · refine h1.trans ((Cert.Reference32Ideal.Read.val_main_v41_eq _ _ _ _ _ _).trans ?_)
    refine (Ref.delta _ _ _ _ _ _).trans (Eq.trans ?_ (kernel_delta m (ok m) c).symm)
    exact congr (congr (congr (congr (congr (congrArg delta a0) a1) a2) a3) a4) a6
  · refine h2.trans ((Cert.Reference32Ideal.Read.val_main_v44_eq _ _ _ _).trans ?_)
    refine (Ref.first _ _ _ _).trans (Eq.trans ?_ (kernel_first m (ok m) c).symm)
    exact congr (congr (congr (congrArg first a0) a1) a3) a7
  · refine h3.trans ((Cert.Reference32Ideal.Read.val_main_v47_eq _ _ _ _).trans ?_)
    refine (Ref.second _ _ _ _).trans (Eq.trans ?_ (kernel_second m (ok m) c).symm)
    exact congr (congr (congr (congrArg second a0) a1) a4) a8

end Cert.ReduceUp

end
-- ==== Proof.ReduceDown.Kernel.lean ====
/- The reduced update of the feed-forward's downward weights: what the kernel leaves in its four results. Every grid point updates 64 rows of the first layer. -/
module

public import proofs.«01_k».proof.Proof.Gen.Kernel33Ideal.Frame
public import proofs.«01_k».proof.Proof.Reduced

@[expose] public section

set_option maxRecDepth 16384

noncomputable section

namespace Cert.ReduceDown

open Idealize.ShloMosaic Idealize.ShloMosaic.TcCoe Idealize.SL.Sem Cert.Reduced
open Cert.Kernel33Ideal Cert.Kernel33Ideal.Gen

/-- The table of the device's number when the number is zero. -/
def zeros {F : FTy → Type} : pre0.Contents (Elt F) := fun | ⟨0, _⟩ => fun _ => 0#32 | ⟨_ + 1, h⟩ => absurd h (by simp)

section
variable {F : FTy → Type} [FloatOps F] (m : (ℓ : Loc nD τ sig) → Buf (Elt F) ℓ)

/-- The kernel finds that table. -/
theorem table : tbl m = zeros := by
  funext j
  match j with
  | ⟨0, _⟩ =>
    funext x
    show StableHlo.after hostOps0 (fun b => m ((0 : Dev nD), b)) main_v0 x = 0#32
    simp only [hostOps0]
    after_results
    rfl

/-- Every block lies in its array. -/
theorem ok : Ok m := by
  unfold Ok
  rw [table]
  exact (by decide +kernel : ok0 (F := Bits) zeros)

end

/-- The zero table as admitted contents. -/
def zero : (pcfg0 (F := Ideal)).Adm := ⟨zeros, by decide +kernel⟩

variable (m : (ℓ : Loc nD τ sig) → Buf (Elt Ideal) ℓ) (hO : Ok m) (c : Dev nD)

/-- The contents the kernel runs at are the zero table. -/
theorem at_zero : adm m hO = zero := Subtype.ext (table m)

/-- Which block of each array a grid point works on: the same of all nine. -/
def Maps (a : (pcfg0 (F := Ideal)).Adm) : Prop := ∀ t : Fin (cfg0 a).N, ((cfg0 a).win 0).index t = ![0, t.val, 0]
  ∧ ((cfg0 a).win 1).index t = ![0, t.val, 0] ∧ ((cfg0 a).win 2).index t = ![0, t.val, 0] ∧ ((cfg0 a).win 3).index t = ![0, t.val, 0]
  ∧ ((cfg0 a).win 4).index t = ![0, t.val, 0] ∧ ((cfg0 a).win 5).index t = ![0, t.val, 0] ∧ ((cfg0 a).win 6).index t = ![0, t.val, 0]
  ∧ ((cfg0 a).win 7).index t = ![0, t.val, 0] ∧ ((cfg0 a).win 8).index t = ![0, t.val, 0]

/-- It is so at the zero table, hence of the kernel's run. -/
theorem idx : Maps (adm m hO) := by
  rw [at_zero]
  unfold Maps
  decide +kernel

/-- The blocks written back fill the first layer, whichever of the four results. -/
def Fills (a : (pcfg0 (F := Ideal)).Adm) : Prop := ((cfg0 a).win 5).CoversWhere (fun β : Fin 3 → ℕ => β 0 = 0)
  ∧ ((cfg0 a).win 6).CoversWhere (fun β : Fin 3 → ℕ => β 0 = 0) ∧ ((cfg0 a).win 7).CoversWhere (fun β : Fin 3 → ℕ => β 0 = 0)
  ∧ ((cfg0 a).win 8).CoversWhere (fun β : Fin 3 → ℕ => β 0 = 0)

/-- It is so at the zero table, hence of the kernel's run. -/
theorem fills : Fills (adm m hO) := by
  rw [at_zero]
  unfold Fills
  decide +kernel

/-- The nine arguments: the device's own shares and the received, the weight, its two moments, and what the four results start as. -/
abbrev own : FVec Ideal (Cube 8 704 2048) .bf16 := m ((c : Thread nD τ).loc main_arg0)
abbrev got : FVec Ideal (Cube 7 704 2048) .bf16 := m ((c : Thread nD τ).loc main_arg1)
abbrev weight : FVec Ideal (Cube 4 704 2048) .f32 := m ((c : Thread nD τ).loc main_arg2)
abbrev mean : FVec Ideal (Cube 4 704 2048) .f32 := m ((c : Thread nD τ).loc main_arg3)
abbrev square : FVec Ideal (Cube 4 704 2048) .f32 := m ((c : Thread nD τ).loc main_arg4)
abbrev old5 : FVec Ideal (Cube 4 704 2048) .f32 := m ((c : Thread nD τ).loc main_arg5)
abbrev old6 : FVec Ideal (Cube 4 704 2048) .f32 := m ((c : Thread nD τ).loc main_arg6)
abbrev old7 : FVec Ideal (Cube 4 704 2048) .f32 := m ((c : Thread nD τ).loc main_arg7)
abbrev old8 : FVec Ideal (Cube 4 704 2048) .f32 := m ((c : Thread nD τ).loc main_arg8)

/-- The row of the array an entry of a grid point's tile is in. -/
abbrev row (t : Fin (cfgM m hO).N) (y : S1x64x2048.Idx) : Fin 704 := ⟨t.val * 64 + (y 1).val, by
  have ht : t.val < 11 := t.isLt
  have h1 : (y 1).val < 64 := (y 1).isLt
  omega⟩

/-- A tile's first axis has one entry. -/
theorem tile {e : EltTy} (X : Vec Ideal S1x64x2048 e) (y : S1x64x2048.Idx) : X y = X (ix3 0 (y 1) (y 2)) := congrArg X (funext fun a => match a with
  | ⟨0, _⟩ => Fin.ext (by
      have h : (y 0).val < 1 := (y 0).isLt
      show (y 0).val = 0
      omega)
  | ⟨1, _⟩ => rfl
  | ⟨2, _⟩ => rfl)

variable (t : Fin (cfgM m hO).N) (y : S1x64x2048.Idx)

/-- Which element of its own shares a grid point's block holds. -/
theorem own_at : (show FVec Ideal S1x64x2048 .bf16 from iblk m hO c 0 t) (ix3 0 (y 1) (y 2)) = own m c (ix3 0 (row m hO t y) (y 2)) := by
  refine Eq.trans ?_ (congrFun (V_main_arg0 m c) _)
  blk_point [iblk, idx m hO t]

/-- Which element of the received shares a grid point's block holds. -/
theorem got_at (k : Fin 7) : (show FVec Ideal S7x64x2048 .bf16 from iblk m hO c 1 t) (ix3 k (y 1) (y 2)) = got m c (ix3 k (row m hO t y) (y 2)) := by
  refine Eq.trans ?_ (congrFun (V_main_arg1 m c) _)
  blk_point [iblk, idx m hO t]

/-- Which element of the weight a grid point's block holds. -/
theorem weight_at : (show FVec Ideal S1x64x2048 .f32 from iblk m hO c 2 t) y = weight m c (ix3 0 (row m hO t y) (y 2)) := by
  refine (tile _ y).trans (Eq.trans ?_ (congrFun (V_main_arg2 m c) _))
  blk_point [iblk, idx m hO t]

/-- Which element of the first moment a grid point's block holds. -/
theorem mean_at : (show FVec Ideal S1x64x2048 .f32 from iblk m hO c 3 t) y = mean m c (ix3 0 (row m hO t y) (y 2)) := by
  refine (tile _ y).trans (Eq.trans ?_ (congrFun (V_main_arg3 m c) _))
  blk_point [iblk, idx m hO t]

/-- Which element of the second moment a grid point's block holds. -/
theorem square_at : (show FVec Ideal S1x64x2048 .f32 from iblk m hO c 4 t) y = square m c (ix3 0 (row m hO t y) (y 2)) := by
  refine (tile _ y).trans (Eq.trans ?_ (congrFun (V_main_arg4 m c) _))
  blk_point [iblk, idx m hO t]

/-- Each result starts as the array it is given. -/
theorem entry : V m c main_v1_0 = old5 m c ∧ V m c main_v1_1 = old6 m c ∧ V m c main_v1_2 = old7 m c ∧ V m c main_v1_3 = old8 m c := by
  refine ⟨?_, ?_, ?_, ?_⟩
  all_goals
    show StableHlo.after hostOps0 (fun b => m (c, b)) _ = _
    simp only [hostOps0]
    after_results
    rfl

/-- The body's sum of the eight shares. -/
theorem sum_at (o z0 z1 z2 z3 z4 z5 z6 : Vec Ideal S1x64x2048 .bf16) (i : Fin 64) (n : Fin 2048) :
    (k0_pay3 (F := Ideal) o z0 z1 z2 z3 z4 z5 z6 (ix2 i n) : EReal)
      = (o (ix3 0 i n) : EReal) + z0 (ix3 0 i n) + z1 (ix3 0 i n) + z2 (ix3 0 i n) + z3 (ix3 0 i n) + z4 (ix3 0 i n) + z5 (ix3 0 i n) + z6 (ix3 0 i n) := by
  pointwise [k0_pay3]

/-- A tile of the gradient. -/
theorem total_at (v : FVec Ideal S64x2048 .f32) : (k0_pay6 (F := Ideal) v y : EReal) = v (ix2 (y 1) (y 2)) := by
  pointwise [k0_pay6]

/-- A tile of the first moment. -/
theorem first_at (v : FVec Ideal S64x2048 .f32) (a : FVec Ideal S1x64x2048 .f32) :
    (k0_pay1 (F := Ideal) (k0_pay4 v a) y : EReal) = Adam.first (v (ix2 (y 1) (y 2))) (a y) := by
  pointwise [k0_pay1, k0_pay4, Adam.first]

/-- A tile of the second moment. -/
theorem second_at (v : FVec Ideal S64x2048 .f32) (b : FVec Ideal S1x64x2048 .f32) :
    (k0_pay2 (F := Ideal) (k0_pay5 v b) y : EReal) = Adam.second (v (ix2 (y 1) (y 2))) (b y) := by
  pointwise [k0_pay2, k0_pay5, Adam.second]

/-- A tile of the step. -/
theorem step_at (v : FVec Ideal S64x2048 .f32) (w a b : FVec Ideal S1x64x2048 .f32) :
    (k0_pay7 (F := Ideal) v w a b y : EReal) = Adam.step (w y) (v (ix2 (y 1) (y 2))) (a y) (b y) := by
  pointwise [k0_pay7, k0_pay4, k0_pay5, Adam.step, Adam.first, Adam.second]

/-- One share's tile out of the seven. -/
abbrev cut (X : FVec Ideal S7x64x2048 .bf16) (k : ℕ) (h) :=
  (show Vec Ideal S1x64x2048 .bf16 from View.ld (Val := Elt Ideal) (e' := .bf16) X (Rect.unit (s := S7x64x2048) ![k, 0, 0] ![1, 64, 2048] h))

/-- What that tile holds. -/
theorem cut_at (X : FVec Ideal S7x64x2048 .bf16) (k : ℕ) (hk : k < 7) (h) (i : Fin 64) (n : Fin 2048) : cut X k h (ix3 0 i n) = X (ix3 ⟨k, hk⟩ i n) := by
  refine congrArg X (funext fun a => match a with
    | ⟨0, _⟩ => Fin.ext ?_
    | ⟨1, _⟩ => Fin.ext ?_
    | ⟨2, _⟩ => Fin.ext ?_) <;> simp [Rect.emb, Rect.unit, ix3]

/-- The gradient's tile of a grid point. -/
theorem gradient (x0 : FVec Ideal S1x64x2048 .bf16) (x1 : FVec Ideal S7x64x2048 .bf16)
    (e0 : x0 = iblk m hO c 0 t) (e1 : x1 = iblk m hO c 1 t) (h0 h1 h2 h3 h4 h5 h6) :
    (k0_pay3 (F := Ideal) x0 (cut x1 0 h0) (cut x1 1 h1) (cut x1 2 h2) (cut x1 3 h3) (cut x1 4 h4) (cut x1 5 h5) (cut x1 6 h6) (ix2 (y 1) (y 2)) : EReal)
      = grad (own m c) (got m c) (row m hO t y) (y 2) := by
  subst e0 e1
  have e (k : ℕ) (hk : k < 7) (h) := (cut_at (iblk m hO c 1 t) k hk h (y 1) (y 2)).trans (got_at m hO c t y ⟨k, hk⟩)
  refine (sum_at _ _ _ _ _ _ _ _ (y 1) (y 2)).trans ?_
  refine Eq.trans ?_ (eight _ fun k => got m c (ix3 k (row m hO t y) (y 2)))
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
      (congrArg₂ (fun x y : EReal => x + y) (own_at m hO c t y) (e 0 (by omega) _)) (e 1 (by omega) _)) (e 2 (by omega) _)) (e 3 (by omega) _))
      (e 4 (by omega) _)) (e 5 (by omega) _)) (e 6 (by omega) _)

variable (X : Fin 704 → Fin 2048 → EReal) (B : FVec Ideal (Cube 4 704 2048) .f32)

/-- Where an element of a tile sits in the first result. -/
theorem place5 : place B X ((((spec0 5).arr.view.slice ((pcfg0.win (adm m hO) 5).rect t))).emb y) = X (row m hO t y) (y 2) := by
  have h0 : (y 0).val < 1 := (y 0).isLt
  refine Eq.trans (b := place B X (ix3 0 (row m hO t y) (y 2))) ?_ (if_pos rfl)
  have e : (pcfg0.win (adm m hO) 5).index t = ![0, t.val, 0] := (idx m hO t).2.2.2.2.2.1
  blk_ext [e]

/-- Where an element of a tile sits in the second result. -/
theorem place6 : place B X ((((spec0 6).arr.view.slice ((pcfg0.win (adm m hO) 6).rect t))).emb y) = X (row m hO t y) (y 2) := by
  have h0 : (y 0).val < 1 := (y 0).isLt
  refine Eq.trans (b := place B X (ix3 0 (row m hO t y) (y 2))) ?_ (if_pos rfl)
  have e : (pcfg0.win (adm m hO) 6).index t = ![0, t.val, 0] := (idx m hO t).2.2.2.2.2.2.1
  blk_ext [e]

/-- Where an element of a tile sits in the third result. -/
theorem place7 : place B X ((((spec0 7).arr.view.slice ((pcfg0.win (adm m hO) 7).rect t))).emb y) = X (row m hO t y) (y 2) := by
  have h0 : (y 0).val < 1 := (y 0).isLt
  refine Eq.trans (b := place B X (ix3 0 (row m hO t y) (y 2))) ?_ (if_pos rfl)
  have e : (pcfg0.win (adm m hO) 7).index t = ![0, t.val, 0] := (idx m hO t).2.2.2.2.2.2.2.1
  blk_ext [e]

/-- Where an element of a tile sits in the fourth result. -/
theorem place8 : place B X ((((spec0 8).arr.view.slice ((pcfg0.win (adm m hO) 8).rect t))).emb y) = X (row m hO t y) (y 2) := by
  have h0 : (y 0).val < 1 := (y 0).isLt
  refine Eq.trans (b := place B X (ix3 0 (row m hO t y) (y 2))) ?_ (if_pos rfl)
  have e : (pcfg0.win (adm m hO) 8).index t = ![0, t.val, 0] := (idx m hO t).2.2.2.2.2.2.2.2
  blk_ext [e]

/-- The first result is the gradient in the first layer. -/
theorem kernel_total : (dats m hO 0 c).arrAt 5 (cfgM m hO).N = total (own m c) (got m c) (old5 m c) := by
  refine (dats m hO 0 c).arrAt_eq_of_coversWhere_of_agree 5 _ (fun β : Fin 3 → ℕ => β 0 = 0) (fills m hO).1 (fun t hf (y : S1x64x2048.Idx) => ?_)
    fun j hj => (congrFun (entry m c).1 _).trans (if_neg fun h => hj ((Nat.div_one _).trans h)).symm
  blk_simp
  rw [after0_5]
  unfold outsAt0
  frame_out
  refine (total_at y _).trans (Eq.trans ?_ (place5 m hO t y _ _).symm)
  exact gradient m hO c t y _ _ ((hs0_0 m hO t).read_unread _) ((hs0_1 m hO t).read_unread _) _ _ _ _ _ _ _

/-- The second result is the step in the first layer. -/
theorem kernel_delta : (dats m hO 0 c).arrAt 6 (cfgM m hO).N = delta (own m c) (got m c) (weight m c) (mean m c) (square m c) (old6 m c) := by
  refine (dats m hO 0 c).arrAt_eq_of_coversWhere_of_agree 6 _ (fun β : Fin 3 → ℕ => β 0 = 0) (fills m hO).2.1 (fun t hf (y : S1x64x2048.Idx) => ?_)
    fun j hj => (congrFun (entry m c).2.1 _).trans (if_neg fun h => hj ((Nat.div_one _).trans h)).symm
  blk_simp
  rw [after0_6]
  unfold outsAt0
  frame_out
  refine (step_at y _ _ _ _).trans (Eq.trans ?_ (place6 m hO t y _ _).symm)
  exact congr (congr (congr (congrArg Adam.step ((congrFun ((hs0_2 m hO t).read_unread _) _).trans (weight_at m hO c t y)))
    (gradient m hO c t y _ _ ((hs0_0 m hO t).read_unread _) ((hs0_1 m hO t).read_unread _) _ _ _ _ _ _ _))
    ((congrFun ((hs0_3 m hO t).read_unread _) _).trans (mean_at m hO c t y))) ((congrFun ((hs0_4 m hO t).read_unread _) _).trans (square_at m hO c t y))

/-- The third result is the first moment in the first layer. -/
theorem kernel_first : (dats m hO 0 c).arrAt 7 (cfgM m hO).N = first (own m c) (got m c) (mean m c) (old7 m c) := by
  refine (dats m hO 0 c).arrAt_eq_of_coversWhere_of_agree 7 _ (fun β : Fin 3 → ℕ => β 0 = 0) (fills m hO).2.2.1 (fun t hf (y : S1x64x2048.Idx) => ?_)
    fun j hj => (congrFun (entry m c).2.2.1 _).trans (if_neg fun h => hj ((Nat.div_one _).trans h)).symm
  blk_simp
  rw [after0_7]
  unfold outsAt0
  frame_out
  refine (first_at y _ _).trans (Eq.trans ?_ (place7 m hO t y _ _).symm)
  exact congr (congrArg Adam.first (gradient m hO c t y _ _ ((hs0_0 m hO t).read_unread _) ((hs0_1 m hO t).read_unread _) _ _ _ _ _ _ _))
    ((congrFun ((hs0_3 m hO t).read_unread _) _).trans (mean_at m hO c t y))

/-- The fourth result is the second moment in the first layer. -/
theorem kernel_second : (dats m hO 0 c).arrAt 8 (cfgM m hO).N = second (own m c) (got m c) (square m c) (old8 m c) := by
  refine (dats m hO 0 c).arrAt_eq_of_coversWhere_of_agree 8 _ (fun β : Fin 3 → ℕ => β 0 = 0) (fills m hO).2.2.2 (fun t hf (y : S1x64x2048.Idx) => ?_)
    fun j hj => (congrFun (entry m c).2.2.2 _).trans (if_neg fun h => hj ((Nat.div_one _).trans h)).symm
  blk_simp
  rw [after0_8]
  unfold outsAt0
  frame_out
  refine (second_at y _ _).trans (Eq.trans ?_ (place8 m hO t y _ _).symm)
  exact congr (congrArg Adam.second (gradient m hO c t y _ _ ((hs0_0 m hO t).read_unread _) ((hs0_1 m hO t).read_unread _) _ _ _ _ _ _ _))
    ((congrFun ((hs0_4 m hO t).read_unread _) _).trans (square_at m hO c t y))

end Cert.ReduceDown

end
-- ==== Proof.ReduceDown.Reference.lean ====
/- The reduced update of the feed-forward's downward weights: what the reference leaves in its four results. -/
module

public import proofs.«01_k».proof.Proof.Gen.Reference33Ideal.Read
public import proofs.«01_k».proof.Proof.Reduced

@[expose] public section

set_option maxRecDepth 16384

noncomputable section

namespace Cert.ReduceDown.Ref

open Idealize.ShloMosaic Idealize.ShloMosaic.TcCoe Idealize.SL.Sem Cert.Reduced
open Cert.Reference33Ideal Cert.Reference33Ideal.Gen Cert.Reference33Ideal.Read

variable (O : FVec Ideal S8x704x2048 .bf16) (Z : FVec Ideal S7x704x2048 .bf16) (W M V B : FVec Ideal S4x704x2048 .f32)

/-- The gradient at an index. -/
theorem grad_at (x : S704x2048.Idx) : (val_main_v5 (F := Ideal) O Z x : EReal) = grad O Z (x 0) (x 1) := by
  rw [val_main_v5_apply]
  refine congrArg₂ (fun a b : EReal => a + b) ?_ ?_
  · pointwise [val_main_v2, val_main_v1, val_main_v0]
  · refine (val_main_v4_apply Z x).trans ?_
    refine (congrArg₂ (fun a b : EReal => a + b) (show (val_main_cst (F := Ideal) (Shape.Idx.first h_S_) : EReal) = 0 by pointwise [val_main_cst])
      (Finset.sum_congr rfl fun k _ => show (val_main_v3 (F := Ideal) Z (idx_main_v4 x k) : EReal) = Z (ix3 k (x 0) (x 1)) by
        pointwise [val_main_v3]
        exact congrArg Z (funext fun a => match a with
          | ⟨0, _⟩ => rfl
          | ⟨1, _⟩ => rfl
          | ⟨2, _⟩ => rfl))).trans (zero_add _)

/-- The first moment at an index. -/
theorem first_at (x : S704x2048.Idx) : (val_main_v16 (F := Ideal) O Z M x : EReal) = Adam.first (grad O Z (x 0) (x 1)) (M (ix3 0 (x 0) (x 1))) := by
  rw [← grad_at]
  pointwise [val_main_v16, val_main_v15, val_main_v14, val_main_cst_1, val_main_v13, val_main_v12, val_main_cst_0, val_main_v9, val_main_v8, Adam.first]

/-- The second moment at an index. -/
theorem second_at (x : S704x2048.Idx) : (val_main_v22 (F := Ideal) O Z V x : EReal) = Adam.second (grad O Z (x 0) (x 1)) (V (ix3 0 (x 0) (x 1))) := by
  rw [← grad_at]
  pointwise [val_main_v22, val_main_v21, val_main_v20, val_main_cst_3, val_main_v19, val_main_v18, val_main_v17, val_main_cst_2, val_main_v11, val_main_v10, Adam.second]

/-- The step at an index. -/
theorem step_at (x : S704x2048.Idx) : (val_main_v35 (F := Ideal) O Z W M V x : EReal)
    = Adam.step (W (ix3 0 (x 0) (x 1))) (grad O Z (x 0) (x 1)) (M (ix3 0 (x 0) (x 1))) (V (ix3 0 (x 0) (x 1))) := by
  unfold Adam.step
  rw [← first_at, ← second_at]
  pointwise [val_main_v35, val_main_v34, val_main_cst_8, val_main_v33, val_main_v32, val_main_v31, val_main_cst_7, val_main_v30, val_main_v29, val_main_v28,
    val_main_cst_6, val_main_v27, val_main_v26, val_main_v25, val_main_cst_5, val_main_v24, val_main_v23, val_main_cst_4, val_main_v7, val_main_v6]

/-- An index is its three entries. -/
theorem entries (x : S4x704x2048.Idx) : ix3 (x 0) (x 1) (x 2) = x := funext fun a => match a with
  | ⟨0, _⟩ => rfl
  | ⟨1, _⟩ => rfl
  | ⟨2, _⟩ => rfl

/-- The first result. -/
theorem total : val_main_v38 (F := Ideal) O Z B = Reduced.total O Z B := funext fun x => by
  have hx : (x 0).val < 4 := (x 0).isLt
  refine Eq.trans (b := if h : (x 0).val < 1 then (val_main_v5 (F := Ideal) O Z (ix2 (x 1) (x 2)) : EReal)
    else B (ix3 ⟨1 + ((x 0).val - 1), by omega⟩ (x 1) (x 2))) (by pointwise [val_main_v38, val_main_v36, val_main_v37]) ?_
  refine ((layer B (x 0) (x 1) (x 2) _ _).trans (congrArg _ (entries x))).trans ?_
  exact congrFun (congrArg (fun X => place B X) (funext fun i => funext fun n => grad_at O Z (ix2 i n))) x

/-- The second result. -/
theorem delta : val_main_v41 (F := Ideal) O Z W M V B = Reduced.delta O Z W M V B := funext fun x => by
  have hx : (x 0).val < 4 := (x 0).isLt
  refine Eq.trans (b := if h : (x 0).val < 1 then (val_main_v35 (F := Ideal) O Z W M V (ix2 (x 1) (x 2)) : EReal)
    else B (ix3 ⟨1 + ((x 0).val - 1), by omega⟩ (x 1) (x 2))) (by pointwise [val_main_v41, val_main_v39, val_main_v40]) ?_
  refine ((layer B (x 0) (x 1) (x 2) _ _).trans (congrArg _ (entries x))).trans ?_
  exact congrFun (congrArg (fun X => place B X) (funext fun i => funext fun n => step_at O Z W M V (ix2 i n))) x

/-- The third result. -/
theorem first : val_main_v44 (F := Ideal) O Z M B = Reduced.first O Z M B := funext fun x => by
  have hx : (x 0).val < 4 := (x 0).isLt
  refine Eq.trans (b := if h : (x 0).val < 1 then (val_main_v16 (F := Ideal) O Z M (ix2 (x 1) (x 2)) : EReal)
    else B (ix3 ⟨1 + ((x 0).val - 1), by omega⟩ (x 1) (x 2))) (by pointwise [val_main_v44, val_main_v42, val_main_v43]) ?_
  refine ((layer B (x 0) (x 1) (x 2) _ _).trans (congrArg _ (entries x))).trans ?_
  exact congrFun (congrArg (fun X => place B X) (funext fun i => funext fun n => first_at O Z M (ix2 i n))) x

/-- The fourth result. -/
theorem second : val_main_v47 (F := Ideal) O Z V B = Reduced.second O Z V B := funext fun x => by
  have hx : (x 0).val < 4 := (x 0).isLt
  refine Eq.trans (b := if h : (x 0).val < 1 then (val_main_v22 (F := Ideal) O Z V (ix2 (x 1) (x 2)) : EReal)
    else B (ix3 ⟨1 + ((x 0).val - 1), by omega⟩ (x 1) (x 2))) (by pointwise [val_main_v47, val_main_v45, val_main_v46]) ?_
  refine ((layer B (x 0) (x 1) (x 2) _ _).trans (congrArg _ (entries x))).trans ?_
  exact congrFun (congrArg (fun X => place B X) (funext fun i => funext fun n => second_at O Z V (ix2 i n))) x

end Cert.ReduceDown.Ref

end
-- ==== Proof.ReduceDown.Claims.lean ====
/- The claims about the reduced update of the feed-forward's downward weights. -/
module

public import proofs.«01_k».proof.Defs
public import proofs.«01_k».proof.Proof.Gen.Kernel33.Frame
public import proofs.«01_k».proof.Proof.ReduceDown.Kernel
public import proofs.«01_k».proof.Proof.ReduceDown.Reference

@[expose] public section

set_option maxRecDepth 16384

noncomputable section

namespace Cert.ReduceDown

open Idealize.ShloMosaic Idealize.ShloMosaic.TcCoe Idealize.SL.Sem Cert.Reduced

section
open Cert.Kernel33 Cert.Kernel33.Gen
variable {F : FTy → Type} [FloatOps F] (m : (ℓ : Loc nD τ sig) → Buf (Elt F) ℓ)

/-- The zero table of the kernel that rounds as the device does. -/
def device : pre0.Contents (Elt F) := fun | ⟨0, _⟩ => fun _ => 0#32 | ⟨_ + 1, h⟩ => absurd h (by simp)

/-- That kernel finds the zero table too. -/
theorem device_table : tbl m = device := by
  funext j
  match j with
  | ⟨0, _⟩ =>
    funext x
    show StableHlo.after hostOps0 (fun b => m ((0 : Dev nD), b)) main_v0 x = 0#32
    simp only [hostOps0]
    after_results
    rfl

/-- And its blocks lie in their arrays. -/
theorem device_ok : Ok m := by
  unfold Ok
  rw [device_table]
  exact (by decide +kernel : ok0 (F := Bits) device)

end

/-- The kernel, rounding as the device does, runs to its end and leaves its arguments as they were. -/
theorem frame_kernel : Cert.quiescent_Kernel33 (hKernel33 := Cert.Kernel33.Gen.facts) := fun m ρ _ =>
  Cert.Kernel33.Gen.frame m ρ (device_ok m)

/-- The same of the kernel over exact numbers. -/
theorem frame_ideal : Cert.quiescent_Kernel33Ideal (hKernel33Ideal := Cert.Kernel33Ideal.Gen.facts) :=
  fun m ρ _ => Cert.Kernel33Ideal.Gen.frame m ρ (ok m)

/-- The same of the reference, which is host code and holds no semaphore. -/
theorem frame_reference : Cert.quiescent_Reference33Ideal (hReference33Ideal := Cert.Reference33Ideal.Gen.facts) := fun m ρ _ =>
  (θ_run Cert.Reference33Ideal.defs _ _).mono (fun r h => ⟨fun c => (h c).2.2.2.2, sem_eq_zero_of_no_sems (by decide) r.2⟩)
    (Cert.Reference33Ideal.Value.run (F := Ideal) m ρ)

/-- Over exact numbers the kernel's results are the reference's: in the first layer the gradient, the step and the two moments, in the
others what was there. -/
theorem algebraic : Cert.algebraic_Kernel33Ideal_Reference33Ideal (hKernel33Ideal := Cert.Kernel33Ideal.Gen.facts)
    (hReference33Ideal := Cert.Reference33Ideal.Gen.facts) := by
  intro m g m' g' _ hargs
  refine ⟨fun c => (Cert.Kernel33Ideal.Gen.dats m (ok m) 0 c).arrAt 5 (Cert.Kernel33Ideal.Gen.cfgM m (ok m)).N,
    fun c => (Cert.Kernel33Ideal.Gen.dats m (ok m) 0 c).arrAt 6 (Cert.Kernel33Ideal.Gen.cfgM m (ok m)).N,
    fun c => (Cert.Kernel33Ideal.Gen.dats m (ok m) 0 c).arrAt 7 (Cert.Kernel33Ideal.Gen.cfgM m (ok m)).N,
    fun c => (Cert.Kernel33Ideal.Gen.dats m (ok m) 0 c).arrAt 8 (Cert.Kernel33Ideal.Gen.cfgM m (ok m)).N, ?_, ?_⟩
  · exact (θ_run Cert.Kernel33Ideal.defs _ _).mono (fun r h c => ⟨(h.1 c).1 5, (h.1 c).1 6, (h.1 c).1 7, (h.1 c).1 8, h.2 c⟩)
      (θ_run_and (Cert.Kernel33Ideal.Gen.run_main m g (ok m)) (Cert.Kernel33Ideal.Gen.unchanged m g (ok m)))
  refine (θ_run Cert.Reference33Ideal.defs _ _).mono (fun r h c => ?_) (Cert.Reference33Ideal.Value.run (F := Ideal) m' g')
  obtain ⟨h0, h1, h2, h3, hk⟩ := h c
  obtain ⟨a0, a1, a2, a3, a4, a5, a6, a7, a8⟩ := hargs c
  refine ⟨?_, ?_, ?_, ?_, hk⟩
  · refine h0.trans ((Cert.Reference33Ideal.Read.val_main_v38_eq _ _ _).trans ?_)
    refine (Ref.total _ _ _).trans (Eq.trans ?_ (kernel_total m (ok m) c).symm)
    exact congr (congr (congrArg total a0) a1) a5
  · refine h1.trans ((Cert.Reference33Ideal.Read.val_main_v41_eq _ _ _ _ _ _).trans ?_)
    refine (Ref.delta _ _ _ _ _ _).trans (Eq.trans ?_ (kernel_delta m (ok m) c).symm)
    exact congr (congr (congr (congr (congr (congrArg delta a0) a1) a2) a3) a4) a6
  · refine h2.trans ((Cert.Reference33Ideal.Read.val_main_v44_eq _ _ _ _).trans ?_)
    refine (Ref.first _ _ _ _).trans (Eq.trans ?_ (kernel_first m (ok m) c).symm)
    exact congr (congr (congr (congrArg first a0) a1) a3) a7
  · refine h3.trans ((Cert.Reference33Ideal.Read.val_main_v47_eq _ _ _ _).trans ?_)
    refine (Ref.second _ _ _ _).trans (Eq.trans ?_ (kernel_second m (ok m) c).symm)
    exact congr (congr (congr (congrArg second a0) a1) a4) a8

end Cert.ReduceDown

end
-- ==== Proof.lean ====
/- The certificate's claims together; each is proved in its own module. -/
module

public import proofs.«01_k».proof.Defs
public import proofs.«01_k».proof.Proof.ShortConv.Claims
public import proofs.«01_k».proof.Proof.UpDgrad.Claims
public import proofs.«01_k».proof.Proof.UpWgrad.Claims
public import proofs.«01_k».proof.Proof.DownWgrad.Claims
public import proofs.«01_k».proof.Proof.ScinDgrad.Claims
public import proofs.«01_k».proof.Proof.ScinWgrad.Claims
public import proofs.«01_k».proof.Proof.QkvDgrad.Claims
public import proofs.«01_k».proof.Proof.QkvWgrad.Claims
public import proofs.«01_k».proof.Proof.MixoutWgrad.Claims
public import proofs.«01_k».proof.Proof.Up.Claims
public import proofs.«01_k».proof.Proof.Scin.Claims
public import proofs.«01_k».proof.Proof.Qkv.Claims
public import proofs.«01_k».proof.Proof.Down.Claims
public import proofs.«01_k».proof.Proof.Mixout.Claims
public import proofs.«01_k».proof.Proof.DownDgrad.Claims
public import proofs.«01_k».proof.Proof.MixoutDgrad.Claims
public import proofs.«01_k».proof.Proof.AdaGrad.Claims
public import proofs.«01_k».proof.Proof.AdamAda.Claims
public import proofs.«01_k».proof.Proof.Act.Claims
public import proofs.«01_k».proof.Proof.AdaBias.Claims
public import proofs.«01_k».proof.Proof.AdamBias.Claims
public import proofs.«01_k».proof.Proof.AdamCtx.Claims
public import proofs.«01_k».proof.Proof.AdamGain.Claims
public import proofs.«01_k».proof.Proof.AdamSink.Claims
public import proofs.«01_k».proof.Proof.AdamSc.Claims
public import proofs.«01_k».proof.Proof.AdamConv.Claims
public import proofs.«01_k».proof.Proof.AdamConvB.Claims
public import proofs.«01_k».proof.Proof.SumSmall.Claims
public import proofs.«01_k».proof.Proof.ReduceQkv.Claims
public import proofs.«01_k».proof.Proof.ReduceOut.Claims
public import proofs.«01_k».proof.Proof.ReduceScin.Claims
public import proofs.«01_k».proof.Proof.ReduceUp.Claims
public import proofs.«01_k».proof.Proof.ReduceDown.Claims
public import Idealize.ShloMosaic.Adequacy
public import Idealize.ShloMosaic.Init

@[expose] public section

noncomputable section

namespace Cert.Proof

/-- Every claim of the certificate: what the generated modules establish of each program, then each program's frame, then
    each kernel's agreement with its reference. -/
theorem claim : Cert.Claim := ⟨Cert.Kernel.Gen.facts,
  Cert.KernelIdeal.Gen.facts,
  Cert.ReferenceIdeal.Gen.facts, Cert.Kernel2.Gen.facts,
  Cert.Kernel2Ideal.Gen.facts,
  Cert.Reference2Ideal.Gen.facts, Cert.Kernel3.Gen.facts,
  Cert.Kernel3Ideal.Gen.facts,
  Cert.Reference3Ideal.Gen.facts, Cert.Kernel4.Gen.facts,
  Cert.Kernel4Ideal.Gen.facts,
  Cert.Reference4Ideal.Gen.facts, Cert.Kernel5.Gen.facts,
  Cert.Kernel5Ideal.Gen.facts,
  Cert.Reference5Ideal.Gen.facts, Cert.Kernel6.Gen.facts,
  Cert.Kernel6Ideal.Gen.facts,
  Cert.Reference6Ideal.Gen.facts, Cert.Kernel7.Gen.facts,
  Cert.Kernel7Ideal.Gen.facts,
  Cert.Reference7Ideal.Gen.facts, Cert.Kernel8.Gen.facts,
  Cert.Kernel8Ideal.Gen.facts,
  Cert.Reference8Ideal.Gen.facts, Cert.Kernel9.Gen.facts,
  Cert.Kernel9Ideal.Gen.facts,
  Cert.Reference9Ideal.Gen.facts, Cert.Kernel10.Gen.facts,
  Cert.Kernel10Ideal.Gen.facts,
  Cert.Reference10Ideal.Gen.facts, Cert.Kernel11.Gen.facts,
  Cert.Kernel11Ideal.Gen.facts,
  Cert.Reference11Ideal.Gen.facts, Cert.Kernel12.Gen.facts,
  Cert.Kernel12Ideal.Gen.facts,
  Cert.Reference12Ideal.Gen.facts, Cert.Kernel13.Gen.facts,
  Cert.Kernel13Ideal.Gen.facts,
  Cert.Reference13Ideal.Gen.facts, Cert.Kernel14.Gen.facts,
  Cert.Kernel14Ideal.Gen.facts,
  Cert.Reference14Ideal.Gen.facts, Cert.Kernel15.Gen.facts,
  Cert.Kernel15Ideal.Gen.facts,
  Cert.Reference15Ideal.Gen.facts, Cert.Kernel16.Gen.facts,
  Cert.Kernel16Ideal.Gen.facts,
  Cert.Reference16Ideal.Gen.facts, Cert.Kernel17.Gen.facts,
  Cert.Kernel17Ideal.Gen.facts,
  Cert.Reference17Ideal.Gen.facts, Cert.Kernel18.Gen.facts,
  Cert.Kernel18Ideal.Gen.facts,
  Cert.Reference18Ideal.Gen.facts, Cert.Kernel19.Gen.facts,
  Cert.Kernel19Ideal.Gen.facts,
  Cert.Reference19Ideal.Gen.facts, Cert.Kernel20.Gen.facts,
  Cert.Kernel20Ideal.Gen.facts,
  Cert.Reference20Ideal.Gen.facts, Cert.Kernel21.Gen.facts,
  Cert.Kernel21Ideal.Gen.facts,
  Cert.Reference21Ideal.Gen.facts, Cert.Kernel22.Gen.facts,
  Cert.Kernel22Ideal.Gen.facts,
  Cert.Reference22Ideal.Gen.facts, Cert.Kernel23.Gen.facts,
  Cert.Kernel23Ideal.Gen.facts,
  Cert.Reference23Ideal.Gen.facts, Cert.Kernel24.Gen.facts,
  Cert.Kernel24Ideal.Gen.facts,
  Cert.Reference24Ideal.Gen.facts, Cert.Kernel25.Gen.facts,
  Cert.Kernel25Ideal.Gen.facts,
  Cert.Reference25Ideal.Gen.facts, Cert.Kernel26.Gen.facts,
  Cert.Kernel26Ideal.Gen.facts,
  Cert.Reference26Ideal.Gen.facts, Cert.Kernel27.Gen.facts,
  Cert.Kernel27Ideal.Gen.facts,
  Cert.Reference27Ideal.Gen.facts, Cert.Kernel28.Gen.facts,
  Cert.Kernel28Ideal.Gen.facts,
  Cert.Reference28Ideal.Gen.facts, Cert.Kernel29.Gen.facts,
  Cert.Kernel29Ideal.Gen.facts,
  Cert.Reference29Ideal.Gen.facts, Cert.Kernel30.Gen.facts,
  Cert.Kernel30Ideal.Gen.facts,
  Cert.Reference30Ideal.Gen.facts, Cert.Kernel31.Gen.facts,
  Cert.Kernel31Ideal.Gen.facts,
  Cert.Reference31Ideal.Gen.facts, Cert.Kernel32.Gen.facts,
  Cert.Kernel32Ideal.Gen.facts,
  Cert.Reference32Ideal.Gen.facts, Cert.Kernel33.Gen.facts,
  Cert.Kernel33Ideal.Gen.facts,
  Cert.Reference33Ideal.Gen.facts,
  Cert.ShortConv.frame_kernel, Cert.ShortConv.frame_ideal, Cert.ShortConv.frame_reference,
  Cert.UpDgrad.frame_kernel, Cert.UpDgrad.frame_ideal, Cert.UpDgrad.frame_reference,
  Cert.UpWgrad.frame_kernel, Cert.UpWgrad.frame_ideal, Cert.UpWgrad.frame_reference,
  Cert.DownWgrad.frame_kernel, Cert.DownWgrad.frame_ideal, Cert.DownWgrad.frame_reference,
  Cert.ScinDgrad.frame_kernel, Cert.ScinDgrad.frame_ideal, Cert.ScinDgrad.frame_reference,
  Cert.ScinWgrad.frame_kernel, Cert.ScinWgrad.frame_ideal, Cert.ScinWgrad.frame_reference,
  Cert.QkvDgrad.frame_kernel, Cert.QkvDgrad.frame_ideal, Cert.QkvDgrad.frame_reference,
  Cert.QkvWgrad.frame_kernel, Cert.QkvWgrad.frame_ideal, Cert.QkvWgrad.frame_reference,
  Cert.MixoutWgrad.frame_kernel, Cert.MixoutWgrad.frame_ideal, Cert.MixoutWgrad.frame_reference,
  Cert.Up.frame_kernel, Cert.Up.frame_ideal, Cert.Up.frame_reference,
  Cert.Scin.frame_kernel, Cert.Scin.frame_ideal, Cert.Scin.frame_reference,
  Cert.Qkv.frame_kernel, Cert.Qkv.frame_ideal, Cert.Qkv.frame_reference,
  Cert.Down.frame_kernel, Cert.Down.frame_ideal, Cert.Down.frame_reference,
  Cert.Mixout.frame_kernel, Cert.Mixout.frame_ideal, Cert.Mixout.frame_reference,
  Cert.DownDgrad.frame_kernel, Cert.DownDgrad.frame_ideal, Cert.DownDgrad.frame_reference,
  Cert.MixoutDgrad.frame_kernel, Cert.MixoutDgrad.frame_ideal, Cert.MixoutDgrad.frame_reference,
  Cert.AdaGrad.frame_kernel, Cert.AdaGrad.frame_ideal, Cert.AdaGrad.frame_reference,
  Cert.AdamAda.frame_kernel, Cert.AdamAda.frame_ideal, Cert.AdamAda.frame_reference,
  Cert.Act.frame_kernel, Cert.Act.frame_ideal, Cert.Act.frame_reference,
  Cert.AdaBias.frame_kernel, Cert.AdaBias.frame_ideal, Cert.AdaBias.frame_reference,
  Cert.AdamBias.frame_kernel, Cert.AdamBias.frame_ideal, Cert.AdamBias.frame_reference,
  Cert.AdamCtx.frame_kernel, Cert.AdamCtx.frame_ideal, Cert.AdamCtx.frame_reference,
  Cert.AdamGain.frame_kernel, Cert.AdamGain.frame_ideal, Cert.AdamGain.frame_reference,
  Cert.AdamSink.frame_kernel, Cert.AdamSink.frame_ideal, Cert.AdamSink.frame_reference,
  Cert.AdamSc.frame_kernel, Cert.AdamSc.frame_ideal, Cert.AdamSc.frame_reference,
  Cert.AdamConv.frame_kernel, Cert.AdamConv.frame_ideal, Cert.AdamConv.frame_reference,
  Cert.AdamConvB.frame_kernel, Cert.AdamConvB.frame_ideal, Cert.AdamConvB.frame_reference,
  Cert.SumSmall.frame_kernel, Cert.SumSmall.frame_ideal, Cert.SumSmall.frame_reference,
  Cert.ReduceQkv.frame_kernel, Cert.ReduceQkv.frame_ideal, Cert.ReduceQkv.frame_reference,
  Cert.ReduceOut.frame_kernel, Cert.ReduceOut.frame_ideal, Cert.ReduceOut.frame_reference,
  Cert.ReduceScin.frame_kernel, Cert.ReduceScin.frame_ideal, Cert.ReduceScin.frame_reference,
  Cert.ReduceUp.frame_kernel, Cert.ReduceUp.frame_ideal, Cert.ReduceUp.frame_reference,
  Cert.ReduceDown.frame_kernel, Cert.ReduceDown.frame_ideal, Cert.ReduceDown.frame_reference,
  trivial, Cert.ShortConv.algebraic,
  trivial, Cert.UpDgrad.algebraic,
  trivial, Cert.UpWgrad.algebraic,
  trivial, Cert.DownWgrad.algebraic,
  trivial, Cert.ScinDgrad.algebraic,
  trivial, Cert.ScinWgrad.algebraic,
  trivial, Cert.QkvDgrad.algebraic,
  trivial, Cert.QkvWgrad.algebraic,
  trivial, Cert.MixoutWgrad.algebraic,
  trivial, Cert.Up.algebraic,
  trivial, Cert.Scin.algebraic,
  trivial, Cert.Qkv.algebraic,
  trivial, Cert.Down.algebraic,
  trivial, Cert.Mixout.algebraic,
  trivial, Cert.DownDgrad.algebraic,
  trivial, Cert.MixoutDgrad.algebraic,
  trivial, Cert.AdaGrad.algebraic,
  trivial, Cert.AdamAda.algebraic,
  trivial, Cert.Act.algebraic,
  trivial, Cert.AdaBias.algebraic,
  trivial, Cert.AdamBias.algebraic,
  trivial, Cert.AdamCtx.algebraic,
  trivial, Cert.AdamGain.algebraic,
  trivial, Cert.AdamSink.algebraic,
  trivial, Cert.AdamSc.algebraic,
  trivial, Cert.AdamConv.algebraic,
  trivial, Cert.AdamConvB.algebraic,
  trivial, Cert.SumSmall.algebraic,
  trivial, Cert.ReduceQkv.algebraic,
  trivial, Cert.ReduceOut.algebraic,
  trivial, Cert.ReduceScin.algebraic,
  trivial, Cert.ReduceUp.algebraic,
  trivial, Cert.ReduceDown.algebraic⟩

end Cert.Proof

end
